-- ==== Defs.lean ====
def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInIdeal_finite_in [hPre_finite_in : Cert.Pre_finite_in.Facts] (m : (ℓ : Loc Cert.MixInIdeal.nD Cert.MixInIdeal.τ Cert.MixInIdeal.sig) → Buf (Elt Ideal) ℓ) : Prop :=
  ∀ c : Dev Cert.MixInIdeal.nD,
    (Cert.Pre_finite_in.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4))) = (fun _ => 1#1)

def Pre_MixInRefIdeal (m : (ℓ : Loc Cert.MixInRefIdeal.nD Cert.MixInRefIdeal.τ Cert.MixInRefIdeal.sig) → Buf (Elt Ideal) ℓ) : Prop :=
  True

def Pre_MixInRefIdeal_finite_in [hPre_finite_in : Cert.Pre_finite_in.Facts] (m : (ℓ : Loc Cert.MixInRefIdeal.nD Cert.MixInRefIdeal.τ Cert.MixInRefIdeal.sig) → Buf (Elt Ideal) ℓ) : Prop :=
  ∀ c : Dev Cert.MixInRefIdeal.nD,
    (Cert.Pre_finite_in.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_finite_qkv [hPre_finite_qkv : Cert.Pre_finite_qkv.Facts] (m : (ℓ : Loc Cert.QkvIdeal.nD Cert.QkvIdeal.τ Cert.QkvIdeal.sig) → Buf (Elt Ideal) ℓ) : Prop :=
  ∀ c : Dev Cert.QkvIdeal.nD,
    (Cert.Pre_finite_qkv.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4))) = (fun _ => 1#1)

def Pre_QkvRefIdeal (m : (ℓ : Loc Cert.QkvRefIdeal.nD Cert.QkvRefIdeal.τ Cert.QkvRefIdeal.sig) → Buf (Elt Ideal) ℓ) : Prop :=
  True

def Pre_QkvRefIdeal_finite_qkv [hPre_finite_qkv : Cert.Pre_finite_qkv.Facts] (m : (ℓ : Loc Cert.QkvRefIdeal.nD Cert.QkvRefIdeal.τ Cert.QkvRefIdeal.sig) → Buf (Elt Ideal) ℓ) : Prop :=
  ∀ c : Dev Cert.QkvRefIdeal.nD,
    (Cert.Pre_finite_qkv.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4))) = (fun _ => 1#1)

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsIdeal_finite_rows [hPre_finite_rows : Cert.Pre_finite_rows.Facts] (m : (ℓ : Loc Cert.RowsIdeal.nD Cert.RowsIdeal.τ Cert.RowsIdeal.sig) → Buf (Elt Ideal) ℓ) : Prop :=
  ∀ c : Dev Cert.RowsIdeal.nD,
    (Cert.Pre_finite_rows.fn (F := Ideal) (m ((c.tc : Thread Cert.RowsIdeal.nD Cert.RowsIdeal.τ).loc Cert.RowsIdeal.main_arg0)) (m ((c.tc : Thread Cert.RowsIdeal.nD Cert.RowsIdeal.τ).loc Cert.RowsIdeal.main_arg1)) (m ((c.tc : Thread Cert.RowsIdeal.nD Cert.RowsIdeal.τ).loc Cert.RowsIdeal.main_arg2)) (m ((c.tc : Thread Cert.RowsIdeal.nD Cert.RowsIdeal.τ).loc Cert.RowsIdeal.main_arg3)) (m ((c.tc : Thread Cert.RowsIdeal.nD Cert.RowsIdeal.τ).loc Cert.RowsIdeal.main_arg4)) (m ((c.tc : Thread Cert.RowsIdeal.nD Cert.RowsIdeal.τ).loc Cert.RowsIdeal.main_arg5)) (m ((c.tc : Thread Cert.RowsIdeal.nD Cert.RowsIdeal.τ).loc Cert.RowsIdeal.main_arg6)) (m ((c.tc : Thread Cert.RowsIdeal.nD Cert.RowsIdeal.τ).loc Cert.RowsIdeal.main_arg7)) (m ((c.tc : Thread Cert.RowsIdeal.nD Cert.RowsIdeal.τ).loc Cert.RowsIdeal.main_arg8)) (m ((c.tc : Thread Cert.RowsIdeal.nD Cert.RowsIdeal.τ).loc Cert.RowsIdeal.main_arg9))) = (fun _ => 1#1)

def Pre_RowsRefIdeal (m : (ℓ : Loc Cert.RowsRefIdeal.nD Cert.RowsRefIdeal.τ Cert.RowsRefIdeal.sig) → Buf (Elt Ideal) ℓ) : Prop :=
  True

def Pre_RowsRefIdeal_finite_rows [hPre_finite_rows : Cert.Pre_finite_rows.Facts] (m : (ℓ : Loc Cert.RowsRefIdeal.nD Cert.RowsRefIdeal.τ Cert.RowsRefIdeal.sig) → Buf (Elt Ideal) ℓ) : Prop :=
  ∀ c : Dev Cert.RowsRefIdeal.nD,
    (Cert.Pre_finite_rows.fn (F := Ideal) (m ((c.tc : Thread Cert.RowsRefIdeal.nD Cert.RowsRefIdeal.τ).loc Cert.RowsRefIdeal.main_arg0)) (m ((c.tc : Thread Cert.RowsRefIdeal.nD Cert.RowsRefIdeal.τ).loc Cert.RowsRefIdeal.main_arg1)) (m ((c.tc : Thread Cert.RowsRefIdeal.nD Cert.RowsRefIdeal.τ).loc Cert.RowsRefIdeal.main_arg2)) (m ((c.tc : Thread Cert.RowsRefIdeal.nD Cert.RowsRefIdeal.τ).loc Cert.RowsRefIdeal.main_arg3)) (m ((c.tc : Thread Cert.RowsRefIdeal.nD Cert.RowsRefIdeal.τ).loc Cert.RowsRefIdeal.main_arg4)) (m ((c.tc : Thread Cert.RowsRefIdeal.nD Cert.RowsRefIdeal.τ).loc Cert.RowsRefIdeal.main_arg5)) (m ((c.tc : Thread Cert.RowsRefIdeal.nD Cert.RowsRefIdeal.τ).loc Cert.RowsRefIdeal.main_arg6)) (m ((c.tc : Thread Cert.RowsRefIdeal.nD Cert.RowsRefIdeal.τ).loc Cert.RowsRefIdeal.main_arg7)) (m ((c.tc : Thread Cert.RowsRefIdeal.nD Cert.RowsRefIdeal.τ).loc Cert.RowsRefIdeal.main_arg8)) (m ((c.tc : Thread Cert.RowsRefIdeal.nD Cert.RowsRefIdeal.τ).loc Cert.RowsRefIdeal.main_arg9))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7)) (m ((c.tc : Thread Cert.LossIdeal.nD Cert.LossIdeal.τ).loc Cert.LossIdeal.main_arg8))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdRefIdeal (m : (ℓ : Loc Cert.ProjFwdRefIdeal.nD Cert.ProjFwdRefIdeal.τ Cert.ProjFwdRefIdeal.sig) → Buf (Elt Ideal) ℓ) : Prop :=
  True

def Pre_NormProj (m : (ℓ : Loc Cert.NormProj.nD Cert.NormProj.τ Cert.NormProj.sig) → Buf (Elt Bits) ℓ) : Prop :=
  True

def Pre_NormProjIdeal (m : (ℓ : Loc Cert.NormProjIdeal.nD Cert.NormProjIdeal.τ Cert.NormProjIdeal.sig) → Buf (Elt Ideal) ℓ) : Prop :=
  True

def Pre_NormProjRefIdeal (m : (ℓ : Loc Cert.NormProjRefIdeal.nD Cert.NormProjRefIdeal.τ Cert.NormProjRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_MmTn (m : (ℓ : Loc Cert.MmTn.nD Cert.MmTn.τ Cert.MmTn.sig) → Buf (Elt Bits) ℓ) : Prop :=
  True

def Pre_MmTnIdeal (m : (ℓ : Loc Cert.MmTnIdeal.nD Cert.MmTnIdeal.τ Cert.MmTnIdeal.sig) → Buf (Elt Ideal) ℓ) : Prop :=
  True

def Pre_MmTnRefIdeal (m : (ℓ : Loc Cert.MmTnRefIdeal.nD Cert.MmTnRefIdeal.τ Cert.MmTnRefIdeal.sig) → Buf (Elt Ideal) ℓ) : Prop :=
  True

def Pre_MmNt (m : (ℓ : Loc Cert.MmNt.nD Cert.MmNt.τ Cert.MmNt.sig) → Buf (Elt Bits) ℓ) : Prop :=
  True

def Pre_MmNtIdeal (m : (ℓ : Loc Cert.MmNtIdeal.nD Cert.MmNtIdeal.τ Cert.MmNtIdeal.sig) → Buf (Elt Ideal) ℓ) : Prop :=
  True

def Pre_MmNtRefIdeal (m : (ℓ : Loc Cert.MmNtRefIdeal.nD Cert.MmNtRefIdeal.τ Cert.MmNtRefIdeal.sig) → Buf (Elt Ideal) ℓ) : Prop :=
  True

def Pre_Parts (m : (ℓ : Loc Cert.Parts.nD Cert.Parts.τ Cert.Parts.sig) → Buf (Elt Bits) ℓ) : Prop :=
  True

def Pre_PartsIdeal (m : (ℓ : Loc Cert.PartsIdeal.nD Cert.PartsIdeal.τ Cert.PartsIdeal.sig) → Buf (Elt Ideal) ℓ) : Prop :=
  True

def Pre_PartsRefIdeal (m : (ℓ : Loc Cert.PartsRefIdeal.nD Cert.PartsRefIdeal.τ Cert.PartsRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ r.2.sem = fun _ => 0)

def quiescent_MixInIdeal_pre_finite_in [hMixInIdeal : Cert.MixInIdeal.Facts] [hPre_finite_in : Cert.Pre_finite_in.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal_finite_in m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4))
      ∧ r.2.sem = fun _ => 0)

def quiescent_MixInRefIdeal_pre_finite_in [hMixInRefIdeal : Cert.MixInRefIdeal.Facts] [hPre_finite_in : Cert.Pre_finite_in.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal_finite_in m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvIdeal_pre_finite_qkv [hQkvIdeal : Cert.QkvIdeal.Facts] [hPre_finite_qkv : Cert.Pre_finite_qkv.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_finite_qkv m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_QkvRefIdeal_pre_finite_qkv [hQkvRefIdeal : Cert.QkvRefIdeal.Facts] [hPre_finite_qkv : Cert.Pre_finite_qkv.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal_finite_qkv m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1)
      ∧ r.2.mem ((c.tc : Thread Cert.Rows.nD Cert.Rows.τ).loc Cert.Rows.main_arg2) = m ((c.tc : Thread Cert.Rows.nD Cert.Rows.τ).loc Cert.Rows.main_arg2)
      ∧ r.2.mem ((c.tc : Thread Cert.Rows.nD Cert.Rows.τ).loc Cert.Rows.main_arg3) = m ((c.tc : Thread Cert.Rows.nD Cert.Rows.τ).loc Cert.Rows.main_arg3)
      ∧ r.2.mem ((c.tc : Thread Cert.Rows.nD Cert.Rows.τ).loc Cert.Rows.main_arg4) = m ((c.tc : Thread Cert.Rows.nD Cert.Rows.τ).loc Cert.Rows.main_arg4)
      ∧ r.2.mem ((c.tc : Thread Cert.Rows.nD Cert.Rows.τ).loc Cert.Rows.main_arg5) = m ((c.tc : Thread Cert.Rows.nD Cert.Rows.τ).loc Cert.Rows.main_arg5)
      ∧ r.2.mem ((c.tc : Thread Cert.Rows.nD Cert.Rows.τ).loc Cert.Rows.main_arg6) = m ((c.tc : Thread Cert.Rows.nD Cert.Rows.τ).loc Cert.Rows.main_arg6)
      ∧ r.2.mem ((c.tc : Thread Cert.Rows.nD Cert.Rows.τ).loc Cert.Rows.main_arg7) = m ((c.tc : Thread Cert.Rows.nD Cert.Rows.τ).loc Cert.Rows.main_arg7)
      ∧ r.2.mem ((c.tc : Thread Cert.Rows.nD Cert.Rows.τ).loc Cert.Rows.main_arg8) = m ((c.tc : Thread Cert.Rows.nD Cert.Rows.τ).loc Cert.Rows.main_arg8)
      ∧ r.2.mem ((c.tc : Thread Cert.Rows.nD Cert.Rows.τ).loc Cert.Rows.main_arg9) = m ((c.tc : Thread Cert.Rows.nD Cert.Rows.τ).loc Cert.Rows.main_arg9))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
      ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
      ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3)
      ∧ r.2.mem ((c.tc : Thread Cert.RowsIdeal.nD Cert.RowsIdeal.τ).loc Cert.RowsIdeal.main_arg4) = m ((c.tc : Thread Cert.RowsIdeal.nD Cert.RowsIdeal.τ).loc Cert.RowsIdeal.main_arg4)
      ∧ r.2.mem ((c.tc : Thread Cert.RowsIdeal.nD Cert.RowsIdeal.τ).loc Cert.RowsIdeal.main_arg5) = m ((c.tc : Thread Cert.RowsIdeal.nD Cert.RowsIdeal.τ).loc Cert.RowsIdeal.main_arg5)
      ∧ r.2.mem ((c.tc : Thread Cert.RowsIdeal.nD Cert.RowsIdeal.τ).loc Cert.RowsIdeal.main_arg6) = m ((c.tc : Thread Cert.RowsIdeal.nD Cert.RowsIdeal.τ).loc Cert.RowsIdeal.main_arg6)
      ∧ r.2.mem ((c.tc : Thread Cert.RowsIdeal.nD Cert.RowsIdeal.τ).loc Cert.RowsIdeal.main_arg7) = m ((c.tc : Thread Cert.RowsIdeal.nD Cert.RowsIdeal.τ).loc Cert.RowsIdeal.main_arg7)
      ∧ r.2.mem ((c.tc : Thread Cert.RowsIdeal.nD Cert.RowsIdeal.τ).loc Cert.RowsIdeal.main_arg8) = m ((c.tc : Thread Cert.RowsIdeal.nD Cert.RowsIdeal.τ).loc Cert.RowsIdeal.main_arg8)
      ∧ r.2.mem ((c.tc : Thread Cert.RowsIdeal.nD Cert.RowsIdeal.τ).loc Cert.RowsIdeal.main_arg9) = m ((c.tc : Thread Cert.RowsIdeal.nD Cert.RowsIdeal.τ).loc Cert.RowsIdeal.main_arg9))
      ∧ r.2.sem = fun _ => 0)

def quiescent_RowsIdeal_pre_finite_rows [hRowsIdeal : Cert.RowsIdeal.Facts] [hPre_finite_rows : Cert.Pre_finite_rows.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal_finite_rows m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
      ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
      ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3)
      ∧ r.2.mem ((c.tc : Thread Cert.RowsIdeal.nD Cert.RowsIdeal.τ).loc Cert.RowsIdeal.main_arg4) = m ((c.tc : Thread Cert.RowsIdeal.nD Cert.RowsIdeal.τ).loc Cert.RowsIdeal.main_arg4)
      ∧ r.2.mem ((c.tc : Thread Cert.RowsIdeal.nD Cert.RowsIdeal.τ).loc Cert.RowsIdeal.main_arg5) = m ((c.tc : Thread Cert.RowsIdeal.nD Cert.RowsIdeal.τ).loc Cert.RowsIdeal.main_arg5)
      ∧ r.2.mem ((c.tc : Thread Cert.RowsIdeal.nD Cert.RowsIdeal.τ).loc Cert.RowsIdeal.main_arg6) = m ((c.tc : Thread Cert.RowsIdeal.nD Cert.RowsIdeal.τ).loc Cert.RowsIdeal.main_arg6)
      ∧ r.2.mem ((c.tc : Thread Cert.RowsIdeal.nD Cert.RowsIdeal.τ).loc Cert.RowsIdeal.main_arg7) = m ((c.tc : Thread Cert.RowsIdeal.nD Cert.RowsIdeal.τ).loc Cert.RowsIdeal.main_arg7)
      ∧ r.2.mem ((c.tc : Thread Cert.RowsIdeal.nD Cert.RowsIdeal.τ).loc Cert.RowsIdeal.main_arg8) = m ((c.tc : Thread Cert.RowsIdeal.nD Cert.RowsIdeal.τ).loc Cert.RowsIdeal.main_arg8)
      ∧ r.2.mem ((c.tc : Thread Cert.RowsIdeal.nD Cert.RowsIdeal.τ).loc Cert.RowsIdeal.main_arg9) = m ((c.tc : Thread Cert.RowsIdeal.nD Cert.RowsIdeal.τ).loc Cert.RowsIdeal.main_arg9))
      ∧ r.2.sem = fun _ => 0)

def quiescent_RowsRefIdeal [hRowsRefIdeal : Cert.RowsRefIdeal.Facts] : Prop :=
  ∀ (m : (ℓ : Loc Cert.RowsRefIdeal.nD Cert.RowsRefIdeal.τ Cert.RowsRefIdeal.sig) → Buf (Elt Ideal) ℓ) (g : Dev Cert.RowsRefIdeal.nD → PrngReg), Pre_RowsRefIdeal m →
    θ_run (Cert.RowsRefIdeal.defs (F := Ideal)) (onTc (τ := Cert.RowsRefIdeal.τ) (Cert.RowsRefIdeal.main (F := Ideal))) ⟨m, fun _ => 0, g⟩ (fun r => (∀ c : Dev Cert.RowsRefIdeal.nD,
      r.2.mem ((c.tc : Thread Cert.RowsRefIdeal.nD Cert.RowsRefIdeal.τ).loc Cert.RowsRefIdeal.main_arg0) = m ((c.tc : Thread Cert.RowsRefIdeal.nD Cert.RowsRefIdeal.τ).loc Cert.RowsRefIdeal.main_arg0)
      ∧ r.2.mem ((c.tc : Thread Cert.RowsRefIdeal.nD Cert.RowsRefIdeal.τ).loc Cert.RowsRefIdeal.main_arg1) = m ((c.tc : Thread Cert.RowsRefIdeal.nD Cert.RowsRefIdeal.τ).loc Cert.RowsRefIdeal.main_arg1)
      ∧ r.2.mem ((c.tc : Thread Cert.RowsRefIdeal.nD Cert.RowsRefIdeal.τ).loc Cert.RowsRefIdeal.main_arg2) = m ((c.tc : Thread Cert.RowsRefIdeal.nD Cert.RowsRefIdeal.τ).loc Cert.RowsRefIdeal.main_arg2)
      ∧ r.2.mem ((c.tc : Thread Cert.RowsRefIdeal.nD Cert.RowsRefIdeal.τ).loc Cert.RowsRefIdeal.main_arg3) = m ((c.tc : Thread Cert.RowsRefIdeal.nD Cert.RowsRefIdeal.τ).loc Cert.RowsRefIdeal.main_arg3)
      ∧ r.2.mem ((c.tc : Thread Cert.RowsRefIdeal.nD Cert.RowsRefIdeal.τ).loc Cert.RowsRefIdeal.main_arg4) = m ((c.tc : Thread Cert.RowsRefIdeal.nD Cert.RowsRefIdeal.τ).loc Cert.RowsRefIdeal.main_arg4)
      ∧ r.2.mem ((c.tc : Thread Cert.RowsRefIdeal.nD Cert.RowsRefIdeal.τ).loc Cert.RowsRefIdeal.main_arg5) = m ((c.tc : Thread Cert.RowsRefIdeal.nD Cert.RowsRefIdeal.τ).loc Cert.RowsRefIdeal.main_arg5)
      ∧ r.2.mem ((c.tc : Thread Cert.RowsRefIdeal.nD Cert.RowsRefIdeal.τ).loc Cert.RowsRefIdeal.main_arg6) = m ((c.tc : Thread Cert.RowsRefIdeal.nD Cert.RowsRefIdeal.τ).loc Cert.RowsRefIdeal.main_arg6)
      ∧ r.2.mem ((c.tc : Thread Cert.RowsRefIdeal.nD Cert.RowsRefIdeal.τ).loc Cert.RowsRefIdeal.main_arg7) = m ((c.tc : Thread Cert.RowsRefIdeal.nD Cert.RowsRefIdeal.τ).loc Cert.RowsRefIdeal.main_arg7)
      ∧ r.2.mem ((c.tc : Thread Cert.RowsRefIdeal.nD Cert.RowsRefIdeal.τ).loc Cert.RowsRefIdeal.main_arg8) = m ((c.tc : Thread Cert.RowsRefIdeal.nD Cert.RowsRefIdeal.τ).loc Cert.RowsRefIdeal.main_arg8)
      ∧ r.2.mem ((c.tc : Thread Cert.RowsRefIdeal.nD Cert.RowsRefIdeal.τ).loc Cert.RowsRefIdeal.main_arg9) = m ((c.tc : Thread Cert.RowsRefIdeal.nD Cert.RowsRefIdeal.τ).loc Cert.RowsRefIdeal.main_arg9))
      ∧ r.2.sem = fun _ => 0)

def quiescent_RowsRefIdeal_pre_finite_rows [hRowsRefIdeal : Cert.RowsRefIdeal.Facts] [hPre_finite_rows : Cert.Pre_finite_rows.Facts] : Prop :=
  ∀ (m : (ℓ : Loc Cert.RowsRefIdeal.nD Cert.RowsRefIdeal.τ Cert.RowsRefIdeal.sig) → Buf (Elt Ideal) ℓ) (g : Dev Cert.RowsRefIdeal.nD → PrngReg), Pre_RowsRefIdeal_finite_rows m →
    θ_run (Cert.RowsRefIdeal.defs (F := Ideal)) (onTc (τ := Cert.RowsRefIdeal.τ) (Cert.RowsRefIdeal.main (F := Ideal))) ⟨m, fun _ => 0, g⟩ (fun r => (∀ c : Dev Cert.RowsRefIdeal.nD,
      r.2.mem ((c.tc : Thread Cert.RowsRefIdeal.nD Cert.RowsRefIdeal.τ).loc Cert.RowsRefIdeal.main_arg0) = m ((c.tc : Thread Cert.RowsRefIdeal.nD Cert.RowsRefIdeal.τ).loc Cert.RowsRefIdeal.main_arg0)
      ∧ r.2.mem ((c.tc : Thread Cert.RowsRefIdeal.nD Cert.RowsRefIdeal.τ).loc Cert.RowsRefIdeal.main_arg1) = m ((c.tc : Thread Cert.RowsRefIdeal.nD Cert.RowsRefIdeal.τ).loc Cert.RowsRefIdeal.main_arg1)
      ∧ r.2.mem ((c.tc : Thread Cert.RowsRefIdeal.nD Cert.RowsRefIdeal.τ).loc Cert.RowsRefIdeal.main_arg2) = m ((c.tc : Thread Cert.RowsRefIdeal.nD Cert.RowsRefIdeal.τ).loc Cert.RowsRefIdeal.main_arg2)
      ∧ r.2.mem ((c.tc : Thread Cert.RowsRefIdeal.nD Cert.RowsRefIdeal.τ).loc Cert.RowsRefIdeal.main_arg3) = m ((c.tc : Thread Cert.RowsRefIdeal.nD Cert.RowsRefIdeal.τ).loc Cert.RowsRefIdeal.main_arg3)
      ∧ r.2.mem ((c.tc : Thread Cert.RowsRefIdeal.nD Cert.RowsRefIdeal.τ).loc Cert.RowsRefIdeal.main_arg4) = m ((c.tc : Thread Cert.RowsRefIdeal.nD Cert.RowsRefIdeal.τ).loc Cert.RowsRefIdeal.main_arg4)
      ∧ r.2.mem ((c.tc : Thread Cert.RowsRefIdeal.nD Cert.RowsRefIdeal.τ).loc Cert.RowsRefIdeal.main_arg5) = m ((c.tc : Thread Cert.RowsRefIdeal.nD Cert.RowsRefIdeal.τ).loc Cert.RowsRefIdeal.main_arg5)
      ∧ r.2.mem ((c.tc : Thread Cert.RowsRefIdeal.nD Cert.RowsRefIdeal.τ).loc Cert.RowsRefIdeal.main_arg6) = m ((c.tc : Thread Cert.RowsRefIdeal.nD Cert.RowsRefIdeal.τ).loc Cert.RowsRefIdeal.main_arg6)
      ∧ r.2.mem ((c.tc : Thread Cert.RowsRefIdeal.nD Cert.RowsRefIdeal.τ).loc Cert.RowsRefIdeal.main_arg7) = m ((c.tc : Thread Cert.RowsRefIdeal.nD Cert.RowsRefIdeal.τ).loc Cert.RowsRefIdeal.main_arg7)
      ∧ r.2.mem ((c.tc : Thread Cert.RowsRefIdeal.nD Cert.RowsRefIdeal.τ).loc Cert.RowsRefIdeal.main_arg8) = m ((c.tc : Thread Cert.RowsRefIdeal.nD Cert.RowsRefIdeal.τ).loc Cert.RowsRefIdeal.main_arg8)
      ∧ r.2.mem ((c.tc : Thread Cert.RowsRefIdeal.nD Cert.RowsRefIdeal.τ).loc Cert.RowsRefIdeal.main_arg9) = m ((c.tc : Thread Cert.RowsRefIdeal.nD Cert.RowsRefIdeal.τ).loc Cert.RowsRefIdeal.main_arg9))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7)
      ∧ r.2.mem ((c.tc : Thread Cert.Loss.nD Cert.Loss.τ).loc Cert.Loss.main_arg8) = m ((c.tc : Thread Cert.Loss.nD Cert.Loss.τ).loc Cert.Loss.main_arg8))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
      ∧ r.2.mem ((c.tc : Thread Cert.LossIdeal.nD Cert.LossIdeal.τ).loc Cert.LossIdeal.main_arg8) = m ((c.tc : Thread Cert.LossIdeal.nD Cert.LossIdeal.τ).loc Cert.LossIdeal.main_arg8))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
      ∧ r.2.mem ((c.tc : Thread Cert.LossIdeal.nD Cert.LossIdeal.τ).loc Cert.LossIdeal.main_arg8) = m ((c.tc : Thread Cert.LossIdeal.nD Cert.LossIdeal.τ).loc Cert.LossIdeal.main_arg8))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7)
      ∧ r.2.mem ((c.tc : Thread Cert.LossRefIdeal.nD Cert.LossRefIdeal.τ).loc Cert.LossRefIdeal.main_arg8) = m ((c.tc : Thread Cert.LossRefIdeal.nD Cert.LossRefIdeal.τ).loc Cert.LossRefIdeal.main_arg8))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7)
      ∧ r.2.mem ((c.tc : Thread Cert.LossRefIdeal.nD Cert.LossRefIdeal.τ).loc Cert.LossRefIdeal.main_arg8) = m ((c.tc : Thread Cert.LossRefIdeal.nD Cert.LossRefIdeal.τ).loc Cert.LossRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1)
      ∧ r.2.mem ((c.tc : Thread Cert.ProjFwd.nD Cert.ProjFwd.τ).loc Cert.ProjFwd.main_arg2) = m ((c.tc : Thread Cert.ProjFwd.nD Cert.ProjFwd.τ).loc Cert.ProjFwd.main_arg2)
      ∧ r.2.mem ((c.tc : Thread Cert.ProjFwd.nD Cert.ProjFwd.τ).loc Cert.ProjFwd.main_arg3) = m ((c.tc : Thread Cert.ProjFwd.nD Cert.ProjFwd.τ).loc Cert.ProjFwd.main_arg3)
      ∧ r.2.mem ((c.tc : Thread Cert.ProjFwd.nD Cert.ProjFwd.τ).loc Cert.ProjFwd.main_arg4) = m ((c.tc : Thread Cert.ProjFwd.nD Cert.ProjFwd.τ).loc Cert.ProjFwd.main_arg4)
      ∧ r.2.mem ((c.tc : Thread Cert.ProjFwd.nD Cert.ProjFwd.τ).loc Cert.ProjFwd.main_arg5) = m ((c.tc : Thread Cert.ProjFwd.nD Cert.ProjFwd.τ).loc Cert.ProjFwd.main_arg5)
      ∧ r.2.mem ((c.tc : Thread Cert.ProjFwd.nD Cert.ProjFwd.τ).loc Cert.ProjFwd.main_arg6) = m ((c.tc : Thread Cert.ProjFwd.nD Cert.ProjFwd.τ).loc Cert.ProjFwd.main_arg6))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
      ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
      ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3)
      ∧ r.2.mem ((c.tc : Thread Cert.ProjFwdIdeal.nD Cert.ProjFwdIdeal.τ).loc Cert.ProjFwdIdeal.main_arg4) = m ((c.tc : Thread Cert.ProjFwdIdeal.nD Cert.ProjFwdIdeal.τ).loc Cert.ProjFwdIdeal.main_arg4)
      ∧ r.2.mem ((c.tc : Thread Cert.ProjFwdIdeal.nD Cert.ProjFwdIdeal.τ).loc Cert.ProjFwdIdeal.main_arg5) = m ((c.tc : Thread Cert.ProjFwdIdeal.nD Cert.ProjFwdIdeal.τ).loc Cert.ProjFwdIdeal.main_arg5)
      ∧ r.2.mem ((c.tc : Thread Cert.ProjFwdIdeal.nD Cert.ProjFwdIdeal.τ).loc Cert.ProjFwdIdeal.main_arg6) = m ((c.tc : Thread Cert.ProjFwdIdeal.nD Cert.ProjFwdIdeal.τ).loc Cert.ProjFwdIdeal.main_arg6))
      ∧ r.2.sem = fun _ => 0)

def quiescent_ProjFwdRefIdeal [hProjFwdRefIdeal : Cert.ProjFwdRefIdeal.Facts] : Prop :=
  ∀ (m : (ℓ : Loc Cert.ProjFwdRefIdeal.nD Cert.ProjFwdRefIdeal.τ Cert.ProjFwdRefIdeal.sig) → Buf (Elt Ideal) ℓ) (g : Dev Cert.ProjFwdRefIdeal.nD → PrngReg), Pre_ProjFwdRefIdeal m →
    θ_run (Cert.ProjFwdRefIdeal.defs (F := Ideal)) (onTc (τ := Cert.ProjFwdRefIdeal.τ) (Cert.ProjFwdRefIdeal.main (F := Ideal))) ⟨m, fun _ => 0, g⟩ (fun r => (∀ c : Dev Cert.ProjFwdRefIdeal.nD,
      r.2.mem ((c.tc : Thread Cert.ProjFwdRefIdeal.nD Cert.ProjFwdRefIdeal.τ).loc Cert.ProjFwdRefIdeal.main_arg0) = m ((c.tc : Thread Cert.ProjFwdRefIdeal.nD Cert.ProjFwdRefIdeal.τ).loc Cert.ProjFwdRefIdeal.main_arg0)
      ∧ r.2.mem ((c.tc : Thread Cert.ProjFwdRefIdeal.nD Cert.ProjFwdRefIdeal.τ).loc Cert.ProjFwdRefIdeal.main_arg1) = m ((c.tc : Thread Cert.ProjFwdRefIdeal.nD Cert.ProjFwdRefIdeal.τ).loc Cert.ProjFwdRefIdeal.main_arg1)
      ∧ r.2.mem ((c.tc : Thread Cert.ProjFwdRefIdeal.nD Cert.ProjFwdRefIdeal.τ).loc Cert.ProjFwdRefIdeal.main_arg2) = m ((c.tc : Thread Cert.ProjFwdRefIdeal.nD Cert.ProjFwdRefIdeal.τ).loc Cert.ProjFwdRefIdeal.main_arg2)
      ∧ r.2.mem ((c.tc : Thread Cert.ProjFwdRefIdeal.nD Cert.ProjFwdRefIdeal.τ).loc Cert.ProjFwdRefIdeal.main_arg3) = m ((c.tc : Thread Cert.ProjFwdRefIdeal.nD Cert.ProjFwdRefIdeal.τ).loc Cert.ProjFwdRefIdeal.main_arg3)
      ∧ r.2.mem ((c.tc : Thread Cert.ProjFwdRefIdeal.nD Cert.ProjFwdRefIdeal.τ).loc Cert.ProjFwdRefIdeal.main_arg4) = m ((c.tc : Thread Cert.ProjFwdRefIdeal.nD Cert.ProjFwdRefIdeal.τ).loc Cert.ProjFwdRefIdeal.main_arg4)
      ∧ r.2.mem ((c.tc : Thread Cert.ProjFwdRefIdeal.nD Cert.ProjFwdRefIdeal.τ).loc Cert.ProjFwdRefIdeal.main_arg5) = m ((c.tc : Thread Cert.ProjFwdRefIdeal.nD Cert.ProjFwdRefIdeal.τ).loc Cert.ProjFwdRefIdeal.main_arg5)
      ∧ r.2.mem ((c.tc : Thread Cert.ProjFwdRefIdeal.nD Cert.ProjFwdRefIdeal.τ).loc Cert.ProjFwdRefIdeal.main_arg6) = m ((c.tc : Thread Cert.ProjFwdRefIdeal.nD Cert.ProjFwdRefIdeal.τ).loc Cert.ProjFwdRefIdeal.main_arg6))
      ∧ r.2.sem = fun _ => 0)

def quiescent_NormProj [hNormProj : Cert.NormProj.Facts] : Prop :=
  ∀ (m : (ℓ : Loc Cert.NormProj.nD Cert.NormProj.τ Cert.NormProj.sig) → Buf (Elt Bits) ℓ) (g : Dev Cert.NormProj.nD → PrngReg), Pre_NormProj m →
    θ_run (Cert.NormProj.defs (F := Bits)) (onTc (τ := Cert.NormProj.τ) (Cert.NormProj.main (F := Bits))) ⟨m, fun _ => 0, g⟩ (fun r => (∀ c : Dev Cert.NormProj.nD,
      r.2.mem ((c.tc : Thread Cert.NormProj.nD Cert.NormProj.τ).loc Cert.NormProj.main_arg0) = m ((c.tc : Thread Cert.NormProj.nD Cert.NormProj.τ).loc Cert.NormProj.main_arg0)
      ∧ r.2.mem ((c.tc : Thread Cert.NormProj.nD Cert.NormProj.τ).loc Cert.NormProj.main_arg1) = m ((c.tc : Thread Cert.NormProj.nD Cert.NormProj.τ).loc Cert.NormProj.main_arg1)
      ∧ r.2.mem ((c.tc : Thread Cert.NormProj.nD Cert.NormProj.τ).loc Cert.NormProj.main_arg2) = m ((c.tc : Thread Cert.NormProj.nD Cert.NormProj.τ).loc Cert.NormProj.main_arg2))
      ∧ r.2.sem = fun _ => 0)

def quiescent_NormProjIdeal [hNormProjIdeal : Cert.NormProjIdeal.Facts] : Prop :=
  ∀ (m : (ℓ : Loc Cert.NormProjIdeal.nD Cert.NormProjIdeal.τ Cert.NormProjIdeal.sig) → Buf (Elt Ideal) ℓ) (g : Dev Cert.NormProjIdeal.nD → PrngReg), Pre_NormProjIdeal m →
    θ_run (Cert.NormProjIdeal.defs (F := Ideal)) (onTc (τ := Cert.NormProjIdeal.τ) (Cert.NormProjIdeal.main (F := Ideal))) ⟨m, fun _ => 0, g⟩ (fun r => (∀ c : Dev Cert.NormProjIdeal.nD,
      r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
      ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
      ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2))
      ∧ r.2.sem = fun _ => 0)

def quiescent_NormProjRefIdeal [hNormProjRefIdeal : Cert.NormProjRefIdeal.Facts] : Prop :=
  ∀ (m : (ℓ : Loc Cert.NormProjRefIdeal.nD Cert.NormProjRefIdeal.τ Cert.NormProjRefIdeal.sig) → Buf (Elt Ideal) ℓ) (g : Dev Cert.NormProjRefIdeal.nD → PrngReg), Pre_NormProjRefIdeal m →
    θ_run (Cert.NormProjRefIdeal.defs (F := Ideal)) (onTc (τ := Cert.NormProjRefIdeal.τ) (Cert.NormProjRefIdeal.main (F := Ideal))) ⟨m, fun _ => 0, g⟩ (fun r => (∀ c : Dev Cert.NormProjRefIdeal.nD,
      r.2.mem ((c.tc : Thread Cert.NormProjRefIdeal.nD Cert.NormProjRefIdeal.τ).loc Cert.NormProjRefIdeal.main_arg0) = m ((c.tc : Thread Cert.NormProjRefIdeal.nD Cert.NormProjRefIdeal.τ).loc Cert.NormProjRefIdeal.main_arg0)
      ∧ r.2.mem ((c.tc : Thread Cert.NormProjRefIdeal.nD Cert.NormProjRefIdeal.τ).loc Cert.NormProjRefIdeal.main_arg1) = m ((c.tc : Thread Cert.NormProjRefIdeal.nD Cert.NormProjRefIdeal.τ).loc Cert.NormProjRefIdeal.main_arg1)
      ∧ r.2.mem ((c.tc : Thread Cert.NormProjRefIdeal.nD Cert.NormProjRefIdeal.τ).loc Cert.NormProjRefIdeal.main_arg2) = m ((c.tc : Thread Cert.NormProjRefIdeal.nD Cert.NormProjRefIdeal.τ).loc Cert.NormProjRefIdeal.main_arg2))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_MmTn [hMmTn : Cert.MmTn.Facts] : Prop :=
  ∀ (m : (ℓ : Loc Cert.MmTn.nD Cert.MmTn.τ Cert.MmTn.sig) → Buf (Elt Bits) ℓ) (g : Dev Cert.MmTn.nD → PrngReg), Pre_MmTn m →
    θ_run (Cert.MmTn.defs (F := Bits)) (onTc (τ := Cert.MmTn.τ) (Cert.MmTn.main (F := Bits))) ⟨m, fun _ => 0, g⟩ (fun r => (∀ c : Dev Cert.MmTn.nD,
      r.2.mem ((c.tc : Thread Cert.MmTn.nD Cert.MmTn.τ).loc Cert.MmTn.main_arg0) = m ((c.tc : Thread Cert.MmTn.nD Cert.MmTn.τ).loc Cert.MmTn.main_arg0)
      ∧ r.2.mem ((c.tc : Thread Cert.MmTn.nD Cert.MmTn.τ).loc Cert.MmTn.main_arg1) = m ((c.tc : Thread Cert.MmTn.nD Cert.MmTn.τ).loc Cert.MmTn.main_arg1))
      ∧ r.2.sem = fun _ => 0)

def quiescent_MmTnIdeal [hMmTnIdeal : Cert.MmTnIdeal.Facts] : Prop :=
  ∀ (m : (ℓ : Loc Cert.MmTnIdeal.nD Cert.MmTnIdeal.τ Cert.MmTnIdeal.sig) → Buf (Elt Ideal) ℓ) (g : Dev Cert.MmTnIdeal.nD → PrngReg), Pre_MmTnIdeal m →
    θ_run (Cert.MmTnIdeal.defs (F := Ideal)) (onTc (τ := Cert.MmTnIdeal.τ) (Cert.MmTnIdeal.main (F := Ideal))) ⟨m, fun _ => 0, g⟩ (fun r => (∀ c : Dev Cert.MmTnIdeal.nD,
      r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
      ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ r.2.sem = fun _ => 0)

def quiescent_MmTnRefIdeal [hMmTnRefIdeal : Cert.MmTnRefIdeal.Facts] : Prop :=
  ∀ (m : (ℓ : Loc Cert.MmTnRefIdeal.nD Cert.MmTnRefIdeal.τ Cert.MmTnRefIdeal.sig) → Buf (Elt Ideal) ℓ) (g : Dev Cert.MmTnRefIdeal.nD → PrngReg), Pre_MmTnRefIdeal m →
    θ_run (Cert.MmTnRefIdeal.defs (F := Ideal)) (onTc (τ := Cert.MmTnRefIdeal.τ) (Cert.MmTnRefIdeal.main (F := Ideal))) ⟨m, fun _ => 0, g⟩ (fun r => (∀ c : Dev Cert.MmTnRefIdeal.nD,
      r.2.mem ((c.tc : Thread Cert.MmTnRefIdeal.nD Cert.MmTnRefIdeal.τ).loc Cert.MmTnRefIdeal.main_arg0) = m ((c.tc : Thread Cert.MmTnRefIdeal.nD Cert.MmTnRefIdeal.τ).loc Cert.MmTnRefIdeal.main_arg0)
      ∧ r.2.mem ((c.tc : Thread Cert.MmTnRefIdeal.nD Cert.MmTnRefIdeal.τ).loc Cert.MmTnRefIdeal.main_arg1) = m ((c.tc : Thread Cert.MmTnRefIdeal.nD Cert.MmTnRefIdeal.τ).loc Cert.MmTnRefIdeal.main_arg1))
      ∧ r.2.sem = fun _ => 0)

def quiescent_MmNt [hMmNt : Cert.MmNt.Facts] : Prop :=
  ∀ (m : (ℓ : Loc Cert.MmNt.nD Cert.MmNt.τ Cert.MmNt.sig) → Buf (Elt Bits) ℓ) (g : Dev Cert.MmNt.nD → PrngReg), Pre_MmNt m →
    θ_run (Cert.MmNt.defs (F := Bits)) (onTc (τ := Cert.MmNt.τ) (Cert.MmNt.main (F := Bits))) ⟨m, fun _ => 0, g⟩ (fun r => (∀ c : Dev Cert.MmNt.nD,
      r.2.mem ((c.tc : Thread Cert.MmNt.nD Cert.MmNt.τ).loc Cert.MmNt.main_arg0) = m ((c.tc : Thread Cert.MmNt.nD Cert.MmNt.τ).loc Cert.MmNt.main_arg0)
      ∧ r.2.mem ((c.tc : Thread Cert.MmNt.nD Cert.MmNt.τ).loc Cert.MmNt.main_arg1) = m ((c.tc : Thread Cert.MmNt.nD Cert.MmNt.τ).loc Cert.MmNt.main_arg1))
      ∧ r.2.sem = fun _ => 0)

def quiescent_MmNtIdeal [hMmNtIdeal : Cert.MmNtIdeal.Facts] : Prop :=
  ∀ (m : (ℓ : Loc Cert.MmNtIdeal.nD Cert.MmNtIdeal.τ Cert.MmNtIdeal.sig) → Buf (Elt Ideal) ℓ) (g : Dev Cert.MmNtIdeal.nD → PrngReg), Pre_MmNtIdeal m →
    θ_run (Cert.MmNtIdeal.defs (F := Ideal)) (onTc (τ := Cert.MmNtIdeal.τ) (Cert.MmNtIdeal.main (F := Ideal))) ⟨m, fun _ => 0, g⟩ (fun r => (∀ c : Dev Cert.MmNtIdeal.nD,
      r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
      ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ r.2.sem = fun _ => 0)

def quiescent_MmNtRefIdeal [hMmNtRefIdeal : Cert.MmNtRefIdeal.Facts] : Prop :=
  ∀ (m : (ℓ : Loc Cert.MmNtRefIdeal.nD Cert.MmNtRefIdeal.τ Cert.MmNtRefIdeal.sig) → Buf (Elt Ideal) ℓ) (g : Dev Cert.MmNtRefIdeal.nD → PrngReg), Pre_MmNtRefIdeal m →
    θ_run (Cert.MmNtRefIdeal.defs (F := Ideal)) (onTc (τ := Cert.MmNtRefIdeal.τ) (Cert.MmNtRefIdeal.main (F := Ideal))) ⟨m, fun _ => 0, g⟩ (fun r => (∀ c : Dev Cert.MmNtRefIdeal.nD,
      r.2.mem ((c.tc : Thread Cert.MmNtRefIdeal.nD Cert.MmNtRefIdeal.τ).loc Cert.MmNtRefIdeal.main_arg0) = m ((c.tc : Thread Cert.MmNtRefIdeal.nD Cert.MmNtRefIdeal.τ).loc Cert.MmNtRefIdeal.main_arg0)
      ∧ r.2.mem ((c.tc : Thread Cert.MmNtRefIdeal.nD Cert.MmNtRefIdeal.τ).loc Cert.MmNtRefIdeal.main_arg1) = m ((c.tc : Thread Cert.MmNtRefIdeal.nD Cert.MmNtRefIdeal.τ).loc Cert.MmNtRefIdeal.main_arg1))
      ∧ r.2.sem = fun _ => 0)

def quiescent_Parts [hParts : Cert.Parts.Facts] : Prop :=
  ∀ (m : (ℓ : Loc Cert.Parts.nD Cert.Parts.τ Cert.Parts.sig) → Buf (Elt Bits) ℓ) (g : Dev Cert.Parts.nD → PrngReg), Pre_Parts m →
    θ_run (Cert.Parts.defs (F := Bits)) (onTc (τ := Cert.Parts.τ) (Cert.Parts.main (F := Bits))) ⟨m, fun _ => 0, g⟩ (fun r => (∀ c : Dev Cert.Parts.nD,
      r.2.mem ((c.tc : Thread Cert.Parts.nD Cert.Parts.τ).loc Cert.Parts.main_arg0) = m ((c.tc : Thread Cert.Parts.nD Cert.Parts.τ).loc Cert.Parts.main_arg0)
      ∧ r.2.mem ((c.tc : Thread Cert.Parts.nD Cert.Parts.τ).loc Cert.Parts.main_arg1) = m ((c.tc : Thread Cert.Parts.nD Cert.Parts.τ).loc Cert.Parts.main_arg1)
      ∧ r.2.mem ((c.tc : Thread Cert.Parts.nD Cert.Parts.τ).loc Cert.Parts.main_arg2) = m ((c.tc : Thread Cert.Parts.nD Cert.Parts.τ).loc Cert.Parts.main_arg2)
      ∧ r.2.mem ((c.tc : Thread Cert.Parts.nD Cert.Parts.τ).loc Cert.Parts.main_arg3) = m ((c.tc : Thread Cert.Parts.nD Cert.Parts.τ).loc Cert.Parts.main_arg3)
      ∧ r.2.mem ((c.tc : Thread Cert.Parts.nD Cert.Parts.τ).loc Cert.Parts.main_arg4) = m ((c.tc : Thread Cert.Parts.nD Cert.Parts.τ).loc Cert.Parts.main_arg4))
      ∧ r.2.sem = fun _ => 0)

def quiescent_PartsIdeal [hPartsIdeal : Cert.PartsIdeal.Facts] : Prop :=
  ∀ (m : (ℓ : Loc Cert.PartsIdeal.nD Cert.PartsIdeal.τ Cert.PartsIdeal.sig) → Buf (Elt Ideal) ℓ) (g : Dev Cert.PartsIdeal.nD → PrngReg), Pre_PartsIdeal m →
    θ_run (Cert.PartsIdeal.defs (F := Ideal)) (onTc (τ := Cert.PartsIdeal.τ) (Cert.PartsIdeal.main (F := Ideal))) ⟨m, fun _ => 0, g⟩ (fun r => (∀ c : Dev Cert.PartsIdeal.nD,
      r.2.mem ((c.tc : Thread Cert.PartsIdeal.nD Cert.PartsIdeal.τ).loc Cert.PartsIdeal.main_arg0) = m ((c.tc : Thread Cert.PartsIdeal.nD Cert.PartsIdeal.τ).loc Cert.PartsIdeal.main_arg0)
      ∧ r.2.mem ((c.tc : Thread Cert.PartsIdeal.nD Cert.PartsIdeal.τ).loc Cert.PartsIdeal.main_arg1) = m ((c.tc : Thread Cert.PartsIdeal.nD Cert.PartsIdeal.τ).loc Cert.PartsIdeal.main_arg1)
      ∧ r.2.mem ((c.tc : Thread Cert.PartsIdeal.nD Cert.PartsIdeal.τ).loc Cert.PartsIdeal.main_arg2) = m ((c.tc : Thread Cert.PartsIdeal.nD Cert.PartsIdeal.τ).loc Cert.PartsIdeal.main_arg2)
      ∧ r.2.mem ((c.tc : Thread Cert.PartsIdeal.nD Cert.PartsIdeal.τ).loc Cert.PartsIdeal.main_arg3) = m ((c.tc : Thread Cert.PartsIdeal.nD Cert.PartsIdeal.τ).loc Cert.PartsIdeal.main_arg3)
      ∧ r.2.mem ((c.tc : Thread Cert.PartsIdeal.nD Cert.PartsIdeal.τ).loc Cert.PartsIdeal.main_arg4) = m ((c.tc : Thread Cert.PartsIdeal.nD Cert.PartsIdeal.τ).loc Cert.PartsIdeal.main_arg4))
      ∧ r.2.sem = fun _ => 0)

def quiescent_PartsRefIdeal [hPartsRefIdeal : Cert.PartsRefIdeal.Facts] : Prop :=
  ∀ (m : (ℓ : Loc Cert.PartsRefIdeal.nD Cert.PartsRefIdeal.τ Cert.PartsRefIdeal.sig) → Buf (Elt Ideal) ℓ) (g : Dev Cert.PartsRefIdeal.nD → PrngReg), Pre_PartsRefIdeal m →
    θ_run (Cert.PartsRefIdeal.defs (F := Ideal)) (onTc (τ := Cert.PartsRefIdeal.τ) (Cert.PartsRefIdeal.main (F := Ideal))) ⟨m, fun _ => 0, g⟩ (fun r => (∀ c : Dev Cert.PartsRefIdeal.nD,
      r.2.mem ((c.tc : Thread Cert.PartsRefIdeal.nD Cert.PartsRefIdeal.τ).loc Cert.PartsRefIdeal.main_arg0) = m ((c.tc : Thread Cert.PartsRefIdeal.nD Cert.PartsRefIdeal.τ).loc Cert.PartsRefIdeal.main_arg0)
      ∧ r.2.mem ((c.tc : Thread Cert.PartsRefIdeal.nD Cert.PartsRefIdeal.τ).loc Cert.PartsRefIdeal.main_arg1) = m ((c.tc : Thread Cert.PartsRefIdeal.nD Cert.PartsRefIdeal.τ).loc Cert.PartsRefIdeal.main_arg1)
      ∧ r.2.mem ((c.tc : Thread Cert.PartsRefIdeal.nD Cert.PartsRefIdeal.τ).loc Cert.PartsRefIdeal.main_arg2) = m ((c.tc : Thread Cert.PartsRefIdeal.nD Cert.PartsRefIdeal.τ).loc Cert.PartsRefIdeal.main_arg2)
      ∧ r.2.mem ((c.tc : Thread Cert.PartsRefIdeal.nD Cert.PartsRefIdeal.τ).loc Cert.PartsRefIdeal.main_arg3) = m ((c.tc : Thread Cert.PartsRefIdeal.nD Cert.PartsRefIdeal.τ).loc Cert.PartsRefIdeal.main_arg3)
      ∧ r.2.mem ((c.tc : Thread Cert.PartsRefIdeal.nD Cert.PartsRefIdeal.τ).loc Cert.PartsRefIdeal.main_arg4) = m ((c.tc : Thread Cert.PartsRefIdeal.nD Cert.PartsRefIdeal.τ).loc Cert.PartsRefIdeal.main_arg4))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def preserves_MixIn_MixInIdeal : Prop :=
  True

def algebraic_MixInIdeal_MixInRefIdeal_pre_finite_in [hMixInIdeal : Cert.MixInIdeal.Facts] [hMixInRefIdeal : Cert.MixInRefIdeal.Facts] [hPre_finite_in : Cert.Pre_finite_in.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal_finite_in m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)) →
    ∃ (v0 : (c : Dev Cert.MixInIdeal.nD) → Buf (Elt Ideal) ((c.tc : Thread Cert.MixInIdeal.nD Cert.MixInIdeal.τ).loc Cert.MixInIdeal.main_v6_0)) (v1 : (c : Dev Cert.MixInIdeal.nD) → Buf (Elt Ideal) ((c.tc : Thread Cert.MixInIdeal.nD Cert.MixInIdeal.τ).loc Cert.MixInIdeal.main_v6_1)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v6_0) = v0 c
          ∧ r.2.mem ((c.tc : Thread Cert.MixInIdeal.nD Cert.MixInIdeal.τ).loc Cert.MixInIdeal.main_v6_1) = v1 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v38) = v0 c
          ∧ r.2.mem ((c.tc : Thread Cert.MixInRefIdeal.nD Cert.MixInRefIdeal.τ).loc Cert.MixInRefIdeal.main_v39) = v1 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4))

def preserves_Qkv_QkvIdeal : Prop :=
  True

def algebraic_QkvIdeal_QkvRefIdeal_pre_finite_qkv [hQkvIdeal : Cert.QkvIdeal.Facts] [hQkvRefIdeal : Cert.QkvRefIdeal.Facts] [hPre_finite_qkv : Cert.Pre_finite_qkv.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal_finite_qkv m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v7_0)) (v1 : (c : Dev Cert.QkvIdeal.nD) → Buf (Elt Ideal) ((c.tc : Thread Cert.QkvIdeal.nD Cert.QkvIdeal.τ).loc Cert.QkvIdeal.main_v7_1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v7_0) = v0 c
          ∧ r.2.mem ((c.tc : Thread Cert.QkvIdeal.nD Cert.QkvIdeal.τ).loc Cert.QkvIdeal.main_v7_1) = v1 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v38) = v0 c
          ∧ r.2.mem ((c.tc : Thread Cert.QkvRefIdeal.nD Cert.QkvRefIdeal.τ).loc Cert.QkvRefIdeal.main_v39) = v1 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def preserves_Rows_RowsIdeal : Prop :=
  True

def algebraic_RowsIdeal_RowsRefIdeal_pre_finite_rows [hRowsIdeal : Cert.RowsIdeal.Facts] [hRowsRefIdeal : Cert.RowsRefIdeal.Facts] [hPre_finite_rows : Cert.Pre_finite_rows.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsRefIdeal.nD Cert.RowsRefIdeal.τ Cert.RowsRefIdeal.sig) → Buf (Elt Ideal) ℓ) (g' : Dev Cert.RowsRefIdeal.nD → PrngReg), Pre_RowsIdeal_finite_rows m →
    (∀ c : Dev Cert.RowsIdeal.nD,
      m' ((c.tc : Thread Cert.RowsRefIdeal.nD Cert.RowsRefIdeal.τ).loc Cert.RowsRefIdeal.main_arg0) = m ((c.tc : Thread Cert.RowsIdeal.nD Cert.RowsIdeal.τ).loc Cert.RowsIdeal.main_arg0)
      ∧ m' ((c.tc : Thread Cert.RowsRefIdeal.nD Cert.RowsRefIdeal.τ).loc Cert.RowsRefIdeal.main_arg1) = m ((c.tc : Thread Cert.RowsIdeal.nD Cert.RowsIdeal.τ).loc Cert.RowsIdeal.main_arg1)
      ∧ m' ((c.tc : Thread Cert.RowsRefIdeal.nD Cert.RowsRefIdeal.τ).loc Cert.RowsRefIdeal.main_arg2) = m ((c.tc : Thread Cert.RowsIdeal.nD Cert.RowsIdeal.τ).loc Cert.RowsIdeal.main_arg2)
      ∧ m' ((c.tc : Thread Cert.RowsRefIdeal.nD Cert.RowsRefIdeal.τ).loc Cert.RowsRefIdeal.main_arg3) = m ((c.tc : Thread Cert.RowsIdeal.nD Cert.RowsIdeal.τ).loc Cert.RowsIdeal.main_arg3)
      ∧ m' ((c.tc : Thread Cert.RowsRefIdeal.nD Cert.RowsRefIdeal.τ).loc Cert.RowsRefIdeal.main_arg4) = m ((c.tc : Thread Cert.RowsIdeal.nD Cert.RowsIdeal.τ).loc Cert.RowsIdeal.main_arg4)
      ∧ m' ((c.tc : Thread Cert.RowsRefIdeal.nD Cert.RowsRefIdeal.τ).loc Cert.RowsRefIdeal.main_arg5) = m ((c.tc : Thread Cert.RowsIdeal.nD Cert.RowsIdeal.τ).loc Cert.RowsIdeal.main_arg5)
      ∧ m' ((c.tc : Thread Cert.RowsRefIdeal.nD Cert.RowsRefIdeal.τ).loc Cert.RowsRefIdeal.main_arg6) = m ((c.tc : Thread Cert.RowsIdeal.nD Cert.RowsIdeal.τ).loc Cert.RowsIdeal.main_arg6)
      ∧ m' ((c.tc : Thread Cert.RowsRefIdeal.nD Cert.RowsRefIdeal.τ).loc Cert.RowsRefIdeal.main_arg7) = m ((c.tc : Thread Cert.RowsIdeal.nD Cert.RowsIdeal.τ).loc Cert.RowsIdeal.main_arg7)
      ∧ m' ((c.tc : Thread Cert.RowsRefIdeal.nD Cert.RowsRefIdeal.τ).loc Cert.RowsRefIdeal.main_arg8) = m ((c.tc : Thread Cert.RowsIdeal.nD Cert.RowsIdeal.τ).loc Cert.RowsIdeal.main_arg8)
      ∧ m' ((c.tc : Thread Cert.RowsRefIdeal.nD Cert.RowsRefIdeal.τ).loc Cert.RowsRefIdeal.main_arg9) = m ((c.tc : Thread Cert.RowsIdeal.nD Cert.RowsIdeal.τ).loc Cert.RowsIdeal.main_arg9)) →
    ∃ (v0 : (c : Dev Cert.RowsIdeal.nD) → Buf (Elt Ideal) ((c.tc : Thread Cert.RowsIdeal.nD Cert.RowsIdeal.τ).loc Cert.RowsIdeal.main_v247_0)) (v1 : (c : Dev Cert.RowsIdeal.nD) → Buf (Elt Ideal) ((c.tc : Thread Cert.RowsIdeal.nD Cert.RowsIdeal.τ).loc Cert.RowsIdeal.main_v247_1)) (v2 : (c : Dev Cert.RowsIdeal.nD) → Buf (Elt Ideal) ((c.tc : Thread Cert.RowsIdeal.nD Cert.RowsIdeal.τ).loc Cert.RowsIdeal.main_v247_2)) (v3 : (c : Dev Cert.RowsIdeal.nD) → Buf (Elt Ideal) ((c.tc : Thread Cert.RowsIdeal.nD Cert.RowsIdeal.τ).loc Cert.RowsIdeal.main_v247_3)) (v4 : (c : Dev Cert.RowsIdeal.nD) → Buf (Elt Ideal) ((c.tc : Thread Cert.RowsIdeal.nD Cert.RowsIdeal.τ).loc Cert.RowsIdeal.main_v247_4)) (v5 : (c : Dev Cert.RowsIdeal.nD) → Buf (Elt Ideal) ((c.tc : Thread Cert.RowsIdeal.nD Cert.RowsIdeal.τ).loc Cert.RowsIdeal.main_v247_5)) (v6 : (c : Dev Cert.RowsIdeal.nD) → Buf (Elt Ideal) ((c.tc : Thread Cert.RowsIdeal.nD Cert.RowsIdeal.τ).loc Cert.RowsIdeal.main_v247_6)) (v7 : (c : Dev Cert.RowsIdeal.nD) → Buf (Elt Ideal) ((c.tc : Thread Cert.RowsIdeal.nD Cert.RowsIdeal.τ).loc Cert.RowsIdeal.main_v247_7)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v247_0) = v0 c
          ∧ r.2.mem ((c.tc : Thread Cert.RowsIdeal.nD Cert.RowsIdeal.τ).loc Cert.RowsIdeal.main_v247_1) = v1 c
          ∧ r.2.mem ((c.tc : Thread Cert.RowsIdeal.nD Cert.RowsIdeal.τ).loc Cert.RowsIdeal.main_v247_2) = v2 c
          ∧ r.2.mem ((c.tc : Thread Cert.RowsIdeal.nD Cert.RowsIdeal.τ).loc Cert.RowsIdeal.main_v247_3) = v3 c
          ∧ r.2.mem ((c.tc : Thread Cert.RowsIdeal.nD Cert.RowsIdeal.τ).loc Cert.RowsIdeal.main_v247_4) = v4 c
          ∧ r.2.mem ((c.tc : Thread Cert.RowsIdeal.nD Cert.RowsIdeal.τ).loc Cert.RowsIdeal.main_v247_5) = v5 c
          ∧ r.2.mem ((c.tc : Thread Cert.RowsIdeal.nD Cert.RowsIdeal.τ).loc Cert.RowsIdeal.main_v247_6) = v6 c
          ∧ r.2.mem ((c.tc : Thread Cert.RowsIdeal.nD Cert.RowsIdeal.τ).loc Cert.RowsIdeal.main_v247_7) = v7 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
          ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
          ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3)
          ∧ r.2.mem ((c.tc : Thread Cert.RowsIdeal.nD Cert.RowsIdeal.τ).loc Cert.RowsIdeal.main_arg4) = m ((c.tc : Thread Cert.RowsIdeal.nD Cert.RowsIdeal.τ).loc Cert.RowsIdeal.main_arg4)
          ∧ r.2.mem ((c.tc : Thread Cert.RowsIdeal.nD Cert.RowsIdeal.τ).loc Cert.RowsIdeal.main_arg5) = m ((c.tc : Thread Cert.RowsIdeal.nD Cert.RowsIdeal.τ).loc Cert.RowsIdeal.main_arg5)
          ∧ r.2.mem ((c.tc : Thread Cert.RowsIdeal.nD Cert.RowsIdeal.τ).loc Cert.RowsIdeal.main_arg6) = m ((c.tc : Thread Cert.RowsIdeal.nD Cert.RowsIdeal.τ).loc Cert.RowsIdeal.main_arg6)
          ∧ r.2.mem ((c.tc : Thread Cert.RowsIdeal.nD Cert.RowsIdeal.τ).loc Cert.RowsIdeal.main_arg7) = m ((c.tc : Thread Cert.RowsIdeal.nD Cert.RowsIdeal.τ).loc Cert.RowsIdeal.main_arg7)
          ∧ r.2.mem ((c.tc : Thread Cert.RowsIdeal.nD Cert.RowsIdeal.τ).loc Cert.RowsIdeal.main_arg8) = m ((c.tc : Thread Cert.RowsIdeal.nD Cert.RowsIdeal.τ).loc Cert.RowsIdeal.main_arg8)
          ∧ r.2.mem ((c.tc : Thread Cert.RowsIdeal.nD Cert.RowsIdeal.τ).loc Cert.RowsIdeal.main_arg9) = m ((c.tc : Thread Cert.RowsIdeal.nD Cert.RowsIdeal.τ).loc Cert.RowsIdeal.main_arg9))
      ∧ θ_run (Cert.RowsRefIdeal.defs (F := Ideal)) (onTc (τ := Cert.RowsRefIdeal.τ) (Cert.RowsRefIdeal.main (F := Ideal))) ⟨m', fun _ => 0, g'⟩ (fun r => ∀ c : Dev Cert.RowsRefIdeal.nD,
          r.2.mem ((c.tc : Thread Cert.RowsRefIdeal.nD Cert.RowsRefIdeal.τ).loc Cert.RowsRefIdeal.main_v387) = v0 c
          ∧ r.2.mem ((c.tc : Thread Cert.RowsRefIdeal.nD Cert.RowsRefIdeal.τ).loc Cert.RowsRefIdeal.main_v388) = v1 c
          ∧ r.2.mem ((c.tc : Thread Cert.RowsRefIdeal.nD Cert.RowsRefIdeal.τ).loc Cert.RowsRefIdeal.main_v389) = v2 c
          ∧ r.2.mem ((c.tc : Thread Cert.RowsRefIdeal.nD Cert.RowsRefIdeal.τ).loc Cert.RowsRefIdeal.main_v390) = v3 c
          ∧ r.2.mem ((c.tc : Thread Cert.RowsRefIdeal.nD Cert.RowsRefIdeal.τ).loc Cert.RowsRefIdeal.main_v391) = v4 c
          ∧ r.2.mem ((c.tc : Thread Cert.RowsRefIdeal.nD Cert.RowsRefIdeal.τ).loc Cert.RowsRefIdeal.main_v392) = v5 c
          ∧ r.2.mem ((c.tc : Thread Cert.RowsRefIdeal.nD Cert.RowsRefIdeal.τ).loc Cert.RowsRefIdeal.main_v319) = v6 c
          ∧ r.2.mem ((c.tc : Thread Cert.RowsRefIdeal.nD Cert.RowsRefIdeal.τ).loc Cert.RowsRefIdeal.main_v393) = v7 c
          ∧ r.2.mem ((c.tc : Thread Cert.RowsRefIdeal.nD Cert.RowsRefIdeal.τ).loc Cert.RowsRefIdeal.main_arg0) = m' ((c.tc : Thread Cert.RowsRefIdeal.nD Cert.RowsRefIdeal.τ).loc Cert.RowsRefIdeal.main_arg0)
          ∧ r.2.mem ((c.tc : Thread Cert.RowsRefIdeal.nD Cert.RowsRefIdeal.τ).loc Cert.RowsRefIdeal.main_arg1) = m' ((c.tc : Thread Cert.RowsRefIdeal.nD Cert.RowsRefIdeal.τ).loc Cert.RowsRefIdeal.main_arg1)
          ∧ r.2.mem ((c.tc : Thread Cert.RowsRefIdeal.nD Cert.RowsRefIdeal.τ).loc Cert.RowsRefIdeal.main_arg2) = m' ((c.tc : Thread Cert.RowsRefIdeal.nD Cert.RowsRefIdeal.τ).loc Cert.RowsRefIdeal.main_arg2)
          ∧ r.2.mem ((c.tc : Thread Cert.RowsRefIdeal.nD Cert.RowsRefIdeal.τ).loc Cert.RowsRefIdeal.main_arg3) = m' ((c.tc : Thread Cert.RowsRefIdeal.nD Cert.RowsRefIdeal.τ).loc Cert.RowsRefIdeal.main_arg3)
          ∧ r.2.mem ((c.tc : Thread Cert.RowsRefIdeal.nD Cert.RowsRefIdeal.τ).loc Cert.RowsRefIdeal.main_arg4) = m' ((c.tc : Thread Cert.RowsRefIdeal.nD Cert.RowsRefIdeal.τ).loc Cert.RowsRefIdeal.main_arg4)
          ∧ r.2.mem ((c.tc : Thread Cert.RowsRefIdeal.nD Cert.RowsRefIdeal.τ).loc Cert.RowsRefIdeal.main_arg5) = m' ((c.tc : Thread Cert.RowsRefIdeal.nD Cert.RowsRefIdeal.τ).loc Cert.RowsRefIdeal.main_arg5)
          ∧ r.2.mem ((c.tc : Thread Cert.RowsRefIdeal.nD Cert.RowsRefIdeal.τ).loc Cert.RowsRefIdeal.main_arg6) = m' ((c.tc : Thread Cert.RowsRefIdeal.nD Cert.RowsRefIdeal.τ).loc Cert.RowsRefIdeal.main_arg6)
          ∧ r.2.mem ((c.tc : Thread Cert.RowsRefIdeal.nD Cert.RowsRefIdeal.τ).loc Cert.RowsRefIdeal.main_arg7) = m' ((c.tc : Thread Cert.RowsRefIdeal.nD Cert.RowsRefIdeal.τ).loc Cert.RowsRefIdeal.main_arg7)
          ∧ r.2.mem ((c.tc : Thread Cert.RowsRefIdeal.nD Cert.RowsRefIdeal.τ).loc Cert.RowsRefIdeal.main_arg8) = m' ((c.tc : Thread Cert.RowsRefIdeal.nD Cert.RowsRefIdeal.τ).loc Cert.RowsRefIdeal.main_arg8)
          ∧ r.2.mem ((c.tc : Thread Cert.RowsRefIdeal.nD Cert.RowsRefIdeal.τ).loc Cert.RowsRefIdeal.main_arg9) = m' ((c.tc : Thread Cert.RowsRefIdeal.nD Cert.RowsRefIdeal.τ).loc Cert.RowsRefIdeal.main_arg9))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)
      ∧ m' ((c.tc : Thread Cert.LossRefIdeal.nD Cert.LossRefIdeal.τ).loc Cert.LossRefIdeal.main_arg7) = m ((c.tc : Thread Cert.LossIdeal.nD Cert.LossIdeal.τ).loc Cert.LossIdeal.main_arg7)
      ∧ m' ((c.tc : Thread Cert.LossRefIdeal.nD Cert.LossRefIdeal.τ).loc Cert.LossRefIdeal.main_arg8) = m ((c.tc : Thread Cert.LossIdeal.nD Cert.LossIdeal.τ).loc Cert.LossIdeal.main_arg8)) →
    ∃ (v0 : (c : Dev Cert.LossIdeal.nD) → Buf (Elt Ideal) ((c.tc : Thread Cert.LossIdeal.nD Cert.LossIdeal.τ).loc Cert.LossIdeal.main_v10_0)) (v1 : (c : Dev Cert.LossIdeal.nD) → Buf (Elt Ideal) ((c.tc : Thread Cert.LossIdeal.nD Cert.LossIdeal.τ).loc Cert.LossIdeal.main_v10_1)) (v2 : (c : Dev Cert.LossIdeal.nD) → Buf (Elt Ideal) ((c.tc : Thread Cert.LossIdeal.nD Cert.LossIdeal.τ).loc Cert.LossIdeal.main_v10_2)) (v3 : (c : Dev Cert.LossIdeal.nD) → Buf (Elt Ideal) ((c.tc : Thread Cert.LossIdeal.nD Cert.LossIdeal.τ).loc Cert.LossIdeal.main_v10_3)) (v4 : (c : Dev Cert.LossIdeal.nD) → Buf (Elt Ideal) ((c.tc : Thread Cert.LossIdeal.nD Cert.LossIdeal.τ).loc Cert.LossIdeal.main_v10_4)) (v5 : (c : Dev Cert.LossIdeal.nD) → Buf (Elt Ideal) ((c.tc : Thread Cert.LossIdeal.nD Cert.LossIdeal.τ).loc Cert.LossIdeal.main_v10_5)) (v6 : (c : Dev Cert.LossIdeal.nD) → Buf (Elt Ideal) ((c.tc : Thread Cert.LossIdeal.nD Cert.LossIdeal.τ).loc Cert.LossIdeal.main_v10_6)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v10_0) = v0 c
          ∧ r.2.mem ((c.tc : Thread Cert.LossIdeal.nD Cert.LossIdeal.τ).loc Cert.LossIdeal.main_v10_1) = v1 c
          ∧ r.2.mem ((c.tc : Thread Cert.LossIdeal.nD Cert.LossIdeal.τ).loc Cert.LossIdeal.main_v10_2) = v2 c
          ∧ r.2.mem ((c.tc : Thread Cert.LossIdeal.nD Cert.LossIdeal.τ).loc Cert.LossIdeal.main_v10_3) = v3 c
          ∧ r.2.mem ((c.tc : Thread Cert.LossIdeal.nD Cert.LossIdeal.τ).loc Cert.LossIdeal.main_v10_4) = v4 c
          ∧ r.2.mem ((c.tc : Thread Cert.LossIdeal.nD Cert.LossIdeal.τ).loc Cert.LossIdeal.main_v10_5) = v5 c
          ∧ r.2.mem ((c.tc : Thread Cert.LossIdeal.nD Cert.LossIdeal.τ).loc Cert.LossIdeal.main_v10_6) = v6 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
          ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
          ∧ r.2.mem ((c.tc : Thread Cert.LossIdeal.nD Cert.LossIdeal.τ).loc Cert.LossIdeal.main_arg8) = m ((c.tc : Thread Cert.LossIdeal.nD Cert.LossIdeal.τ).loc Cert.LossIdeal.main_arg8))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v1) = v0 c
          ∧ r.2.mem ((c.tc : Thread Cert.LossRefIdeal.nD Cert.LossRefIdeal.τ).loc Cert.LossRefIdeal.main_v74) = v1 c
          ∧ r.2.mem ((c.tc : Thread Cert.LossRefIdeal.nD Cert.LossRefIdeal.τ).loc Cert.LossRefIdeal.main_v75) = v2 c
          ∧ r.2.mem ((c.tc : Thread Cert.LossRefIdeal.nD Cert.LossRefIdeal.τ).loc Cert.LossRefIdeal.main_v76) = v3 c
          ∧ r.2.mem ((c.tc : Thread Cert.LossRefIdeal.nD Cert.LossRefIdeal.τ).loc Cert.LossRefIdeal.main_v73) = v4 c
          ∧ r.2.mem ((c.tc : Thread Cert.LossRefIdeal.nD Cert.LossRefIdeal.τ).loc Cert.LossRefIdeal.main_v77) = v5 c
          ∧ r.2.mem ((c.tc : Thread Cert.LossRefIdeal.nD Cert.LossRefIdeal.τ).loc Cert.LossRefIdeal.main_v78) = v6 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6)
          ∧ r.2.mem ((c.tc : Thread Cert.LossRefIdeal.nD Cert.LossRefIdeal.τ).loc Cert.LossRefIdeal.main_arg7) = m' ((c.tc : Thread Cert.LossRefIdeal.nD Cert.LossRefIdeal.τ).loc Cert.LossRefIdeal.main_arg7)
          ∧ r.2.mem ((c.tc : Thread Cert.LossRefIdeal.nD Cert.LossRefIdeal.τ).loc Cert.LossRefIdeal.main_arg8) = m' ((c.tc : Thread Cert.LossRefIdeal.nD Cert.LossRefIdeal.τ).loc Cert.LossRefIdeal.main_arg8))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v25_0)) (v1 : (c : Dev Cert.FfnIdeal.nD) → Buf (Elt Ideal) ((c.tc : Thread Cert.FfnIdeal.nD Cert.FfnIdeal.τ).loc Cert.FfnIdeal.main_v25_1)) (v2 : (c : Dev Cert.FfnIdeal.nD) → Buf (Elt Ideal) ((c.tc : Thread Cert.FfnIdeal.nD Cert.FfnIdeal.τ).loc Cert.FfnIdeal.main_v25_2)) (v3 : (c : Dev Cert.FfnIdeal.nD) → Buf (Elt Ideal) ((c.tc : Thread Cert.FfnIdeal.nD Cert.FfnIdeal.τ).loc Cert.FfnIdeal.main_v25_3)) (v4 : (c : Dev Cert.FfnIdeal.nD) → Buf (Elt Ideal) ((c.tc : Thread Cert.FfnIdeal.nD Cert.FfnIdeal.τ).loc Cert.FfnIdeal.main_v25_4)) (v5 : (c : Dev Cert.FfnIdeal.nD) → Buf (Elt Ideal) ((c.tc : Thread Cert.FfnIdeal.nD Cert.FfnIdeal.τ).loc Cert.FfnIdeal.main_v25_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v25_0) = v0 c
          ∧ r.2.mem ((c.tc : Thread Cert.FfnIdeal.nD Cert.FfnIdeal.τ).loc Cert.FfnIdeal.main_v25_1) = v1 c
          ∧ r.2.mem ((c.tc : Thread Cert.FfnIdeal.nD Cert.FfnIdeal.τ).loc Cert.FfnIdeal.main_v25_2) = v2 c
          ∧ r.2.mem ((c.tc : Thread Cert.FfnIdeal.nD Cert.FfnIdeal.τ).loc Cert.FfnIdeal.main_v25_3) = v3 c
          ∧ r.2.mem ((c.tc : Thread Cert.FfnIdeal.nD Cert.FfnIdeal.τ).loc Cert.FfnIdeal.main_v25_4) = v4 c
          ∧ r.2.mem ((c.tc : Thread Cert.FfnIdeal.nD Cert.FfnIdeal.τ).loc Cert.FfnIdeal.main_v25_5) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v54) = v0 c
          ∧ r.2.mem ((c.tc : Thread Cert.FfnRefIdeal.nD Cert.FfnRefIdeal.τ).loc Cert.FfnRefIdeal.main_v81) = v1 c
          ∧ r.2.mem ((c.tc : Thread Cert.FfnRefIdeal.nD Cert.FfnRefIdeal.τ).loc Cert.FfnRefIdeal.main_v82) = v2 c
          ∧ r.2.mem ((c.tc : Thread Cert.FfnRefIdeal.nD Cert.FfnRefIdeal.τ).loc Cert.FfnRefIdeal.main_v83) = v3 c
          ∧ r.2.mem ((c.tc : Thread Cert.FfnRefIdeal.nD Cert.FfnRefIdeal.τ).loc Cert.FfnRefIdeal.main_v84) = v4 c
          ∧ r.2.mem ((c.tc : Thread Cert.FfnRefIdeal.nD Cert.FfnRefIdeal.τ).loc Cert.FfnRefIdeal.main_v87) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v8_0)) (v1 : (c : Dev Cert.FfnFwdIdeal.nD) → Buf (Elt Ideal) ((c.tc : Thread Cert.FfnFwdIdeal.nD Cert.FfnFwdIdeal.τ).loc Cert.FfnFwdIdeal.main_v8_1)) (v2 : (c : Dev Cert.FfnFwdIdeal.nD) → Buf (Elt Ideal) ((c.tc : Thread Cert.FfnFwdIdeal.nD Cert.FfnFwdIdeal.τ).loc Cert.FfnFwdIdeal.main_v8_2)) (v3 : (c : Dev Cert.FfnFwdIdeal.nD) → Buf (Elt Ideal) ((c.tc : Thread Cert.FfnFwdIdeal.nD Cert.FfnFwdIdeal.τ).loc Cert.FfnFwdIdeal.main_v8_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v8_0) = v0 c
          ∧ r.2.mem ((c.tc : Thread Cert.FfnFwdIdeal.nD Cert.FfnFwdIdeal.τ).loc Cert.FfnFwdIdeal.main_v8_1) = v1 c
          ∧ r.2.mem ((c.tc : Thread Cert.FfnFwdIdeal.nD Cert.FfnFwdIdeal.τ).loc Cert.FfnFwdIdeal.main_v8_2) = v2 c
          ∧ r.2.mem ((c.tc : Thread Cert.FfnFwdIdeal.nD Cert.FfnFwdIdeal.τ).loc Cert.FfnFwdIdeal.main_v8_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v20) = v0 c
          ∧ r.2.mem ((c.tc : Thread Cert.FfnFwdRefIdeal.nD Cert.FfnFwdRefIdeal.τ).loc Cert.FfnFwdRefIdeal.main_v21) = v1 c
          ∧ r.2.mem ((c.tc : Thread Cert.FfnFwdRefIdeal.nD Cert.FfnFwdRefIdeal.τ).loc Cert.FfnFwdRefIdeal.main_v22) = v2 c
          ∧ r.2.mem ((c.tc : Thread Cert.FfnFwdRefIdeal.nD Cert.FfnFwdRefIdeal.τ).loc Cert.FfnFwdRefIdeal.main_v23) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_ProjFwd_ProjFwdIdeal : Prop :=
  True

def algebraic_ProjFwdIdeal_ProjFwdRefIdeal [hProjFwdIdeal : Cert.ProjFwdIdeal.Facts] [hProjFwdRefIdeal : Cert.ProjFwdRefIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdRefIdeal.nD Cert.ProjFwdRefIdeal.τ Cert.ProjFwdRefIdeal.sig) → Buf (Elt Ideal) ℓ) (g' : Dev Cert.ProjFwdRefIdeal.nD → PrngReg), Pre_ProjFwdIdeal m →
    (∀ c : Dev Cert.ProjFwdIdeal.nD,
      m' ((c.tc : Thread Cert.ProjFwdRefIdeal.nD Cert.ProjFwdRefIdeal.τ).loc Cert.ProjFwdRefIdeal.main_arg0) = m ((c.tc : Thread Cert.ProjFwdIdeal.nD Cert.ProjFwdIdeal.τ).loc Cert.ProjFwdIdeal.main_arg0)
      ∧ m' ((c.tc : Thread Cert.ProjFwdRefIdeal.nD Cert.ProjFwdRefIdeal.τ).loc Cert.ProjFwdRefIdeal.main_arg1) = m ((c.tc : Thread Cert.ProjFwdIdeal.nD Cert.ProjFwdIdeal.τ).loc Cert.ProjFwdIdeal.main_arg1)
      ∧ m' ((c.tc : Thread Cert.ProjFwdRefIdeal.nD Cert.ProjFwdRefIdeal.τ).loc Cert.ProjFwdRefIdeal.main_arg2) = m ((c.tc : Thread Cert.ProjFwdIdeal.nD Cert.ProjFwdIdeal.τ).loc Cert.ProjFwdIdeal.main_arg2)
      ∧ m' ((c.tc : Thread Cert.ProjFwdRefIdeal.nD Cert.ProjFwdRefIdeal.τ).loc Cert.ProjFwdRefIdeal.main_arg3) = m ((c.tc : Thread Cert.ProjFwdIdeal.nD Cert.ProjFwdIdeal.τ).loc Cert.ProjFwdIdeal.main_arg3)
      ∧ m' ((c.tc : Thread Cert.ProjFwdRefIdeal.nD Cert.ProjFwdRefIdeal.τ).loc Cert.ProjFwdRefIdeal.main_arg4) = m ((c.tc : Thread Cert.ProjFwdIdeal.nD Cert.ProjFwdIdeal.τ).loc Cert.ProjFwdIdeal.main_arg4)
      ∧ m' ((c.tc : Thread Cert.ProjFwdRefIdeal.nD Cert.ProjFwdRefIdeal.τ).loc Cert.ProjFwdRefIdeal.main_arg5) = m ((c.tc : Thread Cert.ProjFwdIdeal.nD Cert.ProjFwdIdeal.τ).loc Cert.ProjFwdIdeal.main_arg5)
      ∧ m' ((c.tc : Thread Cert.ProjFwdRefIdeal.nD Cert.ProjFwdRefIdeal.τ).loc Cert.ProjFwdRefIdeal.main_arg6) = m ((c.tc : Thread Cert.ProjFwdIdeal.nD Cert.ProjFwdIdeal.τ).loc Cert.ProjFwdIdeal.main_arg6)) →
    ∃ (v0 : (c : Dev Cert.ProjFwdIdeal.nD) → Buf (Elt Ideal) ((c.tc : Thread Cert.ProjFwdIdeal.nD Cert.ProjFwdIdeal.τ).loc Cert.ProjFwdIdeal.main_v9_0)) (v1 : (c : Dev Cert.ProjFwdIdeal.nD) → Buf (Elt Ideal) ((c.tc : Thread Cert.ProjFwdIdeal.nD Cert.ProjFwdIdeal.τ).loc Cert.ProjFwdIdeal.main_v9_1)) (v2 : (c : Dev Cert.ProjFwdIdeal.nD) → Buf (Elt Ideal) ((c.tc : Thread Cert.ProjFwdIdeal.nD Cert.ProjFwdIdeal.τ).loc Cert.ProjFwdIdeal.main_v9_2)) (v3 : (c : Dev Cert.ProjFwdIdeal.nD) → Buf (Elt Ideal) ((c.tc : Thread Cert.ProjFwdIdeal.nD Cert.ProjFwdIdeal.τ).loc Cert.ProjFwdIdeal.main_v9_3)) (v4 : (c : Dev Cert.ProjFwdIdeal.nD) → Buf (Elt Ideal) ((c.tc : Thread Cert.ProjFwdIdeal.nD Cert.ProjFwdIdeal.τ).loc Cert.ProjFwdIdeal.main_v9_4)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v9_0) = v0 c
          ∧ r.2.mem ((c.tc : Thread Cert.ProjFwdIdeal.nD Cert.ProjFwdIdeal.τ).loc Cert.ProjFwdIdeal.main_v9_1) = v1 c
          ∧ r.2.mem ((c.tc : Thread Cert.ProjFwdIdeal.nD Cert.ProjFwdIdeal.τ).loc Cert.ProjFwdIdeal.main_v9_2) = v2 c
          ∧ r.2.mem ((c.tc : Thread Cert.ProjFwdIdeal.nD Cert.ProjFwdIdeal.τ).loc Cert.ProjFwdIdeal.main_v9_3) = v3 c
          ∧ r.2.mem ((c.tc : Thread Cert.ProjFwdIdeal.nD Cert.ProjFwdIdeal.τ).loc Cert.ProjFwdIdeal.main_v9_4) = v4 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
          ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
          ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3)
          ∧ r.2.mem ((c.tc : Thread Cert.ProjFwdIdeal.nD Cert.ProjFwdIdeal.τ).loc Cert.ProjFwdIdeal.main_arg4) = m ((c.tc : Thread Cert.ProjFwdIdeal.nD Cert.ProjFwdIdeal.τ).loc Cert.ProjFwdIdeal.main_arg4)
          ∧ r.2.mem ((c.tc : Thread Cert.ProjFwdIdeal.nD Cert.ProjFwdIdeal.τ).loc Cert.ProjFwdIdeal.main_arg5) = m ((c.tc : Thread Cert.ProjFwdIdeal.nD Cert.ProjFwdIdeal.τ).loc Cert.ProjFwdIdeal.main_arg5)
          ∧ r.2.mem ((c.tc : Thread Cert.ProjFwdIdeal.nD Cert.ProjFwdIdeal.τ).loc Cert.ProjFwdIdeal.main_arg6) = m ((c.tc : Thread Cert.ProjFwdIdeal.nD Cert.ProjFwdIdeal.τ).loc Cert.ProjFwdIdeal.main_arg6))
      ∧ θ_run (Cert.ProjFwdRefIdeal.defs (F := Ideal)) (onTc (τ := Cert.ProjFwdRefIdeal.τ) (Cert.ProjFwdRefIdeal.main (F := Ideal))) ⟨m', fun _ => 0, g'⟩ (fun r => ∀ c : Dev Cert.ProjFwdRefIdeal.nD,
          r.2.mem ((c.tc : Thread Cert.ProjFwdRefIdeal.nD Cert.ProjFwdRefIdeal.τ).loc Cert.ProjFwdRefIdeal.main_v1) = v0 c
          ∧ r.2.mem ((c.tc : Thread Cert.ProjFwdRefIdeal.nD Cert.ProjFwdRefIdeal.τ).loc Cert.ProjFwdRefIdeal.main_v22) = v1 c
          ∧ r.2.mem ((c.tc : Thread Cert.ProjFwdRefIdeal.nD Cert.ProjFwdRefIdeal.τ).loc Cert.ProjFwdRefIdeal.main_v23) = v2 c
          ∧ r.2.mem ((c.tc : Thread Cert.ProjFwdRefIdeal.nD Cert.ProjFwdRefIdeal.τ).loc Cert.ProjFwdRefIdeal.main_v24) = v3 c
          ∧ r.2.mem ((c.tc : Thread Cert.ProjFwdRefIdeal.nD Cert.ProjFwdRefIdeal.τ).loc Cert.ProjFwdRefIdeal.main_v25) = v4 c
          ∧ r.2.mem ((c.tc : Thread Cert.ProjFwdRefIdeal.nD Cert.ProjFwdRefIdeal.τ).loc Cert.ProjFwdRefIdeal.main_arg0) = m' ((c.tc : Thread Cert.ProjFwdRefIdeal.nD Cert.ProjFwdRefIdeal.τ).loc Cert.ProjFwdRefIdeal.main_arg0)
          ∧ r.2.mem ((c.tc : Thread Cert.ProjFwdRefIdeal.nD Cert.ProjFwdRefIdeal.τ).loc Cert.ProjFwdRefIdeal.main_arg1) = m' ((c.tc : Thread Cert.ProjFwdRefIdeal.nD Cert.ProjFwdRefIdeal.τ).loc Cert.ProjFwdRefIdeal.main_arg1)
          ∧ r.2.mem ((c.tc : Thread Cert.ProjFwdRefIdeal.nD Cert.ProjFwdRefIdeal.τ).loc Cert.ProjFwdRefIdeal.main_arg2) = m' ((c.tc : Thread Cert.ProjFwdRefIdeal.nD Cert.ProjFwdRefIdeal.τ).loc Cert.ProjFwdRefIdeal.main_arg2)
          ∧ r.2.mem ((c.tc : Thread Cert.ProjFwdRefIdeal.nD Cert.ProjFwdRefIdeal.τ).loc Cert.ProjFwdRefIdeal.main_arg3) = m' ((c.tc : Thread Cert.ProjFwdRefIdeal.nD Cert.ProjFwdRefIdeal.τ).loc Cert.ProjFwdRefIdeal.main_arg3)
          ∧ r.2.mem ((c.tc : Thread Cert.ProjFwdRefIdeal.nD Cert.ProjFwdRefIdeal.τ).loc Cert.ProjFwdRefIdeal.main_arg4) = m' ((c.tc : Thread Cert.ProjFwdRefIdeal.nD Cert.ProjFwdRefIdeal.τ).loc Cert.ProjFwdRefIdeal.main_arg4)
          ∧ r.2.mem ((c.tc : Thread Cert.ProjFwdRefIdeal.nD Cert.ProjFwdRefIdeal.τ).loc Cert.ProjFwdRefIdeal.main_arg5) = m' ((c.tc : Thread Cert.ProjFwdRefIdeal.nD Cert.ProjFwdRefIdeal.τ).loc Cert.ProjFwdRefIdeal.main_arg5)
          ∧ r.2.mem ((c.tc : Thread Cert.ProjFwdRefIdeal.nD Cert.ProjFwdRefIdeal.τ).loc Cert.ProjFwdRefIdeal.main_arg6) = m' ((c.tc : Thread Cert.ProjFwdRefIdeal.nD Cert.ProjFwdRefIdeal.τ).loc Cert.ProjFwdRefIdeal.main_arg6))

def preserves_NormProj_NormProjIdeal : Prop :=
  True

def algebraic_NormProjIdeal_NormProjRefIdeal [hNormProjIdeal : Cert.NormProjIdeal.Facts] [hNormProjRefIdeal : Cert.NormProjRefIdeal.Facts] : Prop :=
  ∀ (m : (ℓ : Loc Cert.NormProjIdeal.nD Cert.NormProjIdeal.τ Cert.NormProjIdeal.sig) → Buf (Elt Ideal) ℓ) (g : Dev Cert.NormProjIdeal.nD → PrngReg)
    (m' : (ℓ : Loc Cert.NormProjRefIdeal.nD Cert.NormProjRefIdeal.τ Cert.NormProjRefIdeal.sig) → Buf (Elt Ideal) ℓ) (g' : Dev Cert.NormProjRefIdeal.nD → PrngReg), Pre_NormProjIdeal m →
    (∀ c : Dev Cert.NormProjIdeal.nD,
      m' ((c.tc : Thread Cert.NormProjRefIdeal.nD Cert.NormProjRefIdeal.τ).loc Cert.NormProjRefIdeal.main_arg0) = m ((c.tc : Thread Cert.NormProjIdeal.nD Cert.NormProjIdeal.τ).loc Cert.NormProjIdeal.main_arg0)
      ∧ m' ((c.tc : Thread Cert.NormProjRefIdeal.nD Cert.NormProjRefIdeal.τ).loc Cert.NormProjRefIdeal.main_arg1) = m ((c.tc : Thread Cert.NormProjIdeal.nD Cert.NormProjIdeal.τ).loc Cert.NormProjIdeal.main_arg1)
      ∧ m' ((c.tc : Thread Cert.NormProjRefIdeal.nD Cert.NormProjRefIdeal.τ).loc Cert.NormProjRefIdeal.main_arg2) = m ((c.tc : Thread Cert.NormProjIdeal.nD Cert.NormProjIdeal.τ).loc Cert.NormProjIdeal.main_arg2)) →
    ∃ (v0 : (c : Dev Cert.NormProjIdeal.nD) → Buf (Elt Ideal) ((c.tc : Thread Cert.NormProjIdeal.nD Cert.NormProjIdeal.τ).loc Cert.NormProjIdeal.main_v3_0)) (v1 : (c : Dev Cert.NormProjIdeal.nD) → Buf (Elt Ideal) ((c.tc : Thread Cert.NormProjIdeal.nD Cert.NormProjIdeal.τ).loc Cert.NormProjIdeal.main_v3_1)),
      θ_run (Cert.NormProjIdeal.defs (F := Ideal)) (onTc (τ := Cert.NormProjIdeal.τ) (Cert.NormProjIdeal.main (F := Ideal))) ⟨m, fun _ => 0, g⟩ (fun r => ∀ c : Dev Cert.NormProjIdeal.nD,
          r.2.mem ((c.tc : Thread Cert.NormProjIdeal.nD Cert.NormProjIdeal.τ).loc Cert.NormProjIdeal.main_v3_0) = v0 c
          ∧ r.2.mem ((c.tc : Thread Cert.NormProjIdeal.nD Cert.NormProjIdeal.τ).loc Cert.NormProjIdeal.main_v3_1) = v1 c
          ∧ r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
          ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
          ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2))
      ∧ θ_run (Cert.NormProjRefIdeal.defs (F := Ideal)) (onTc (τ := Cert.NormProjRefIdeal.τ) (Cert.NormProjRefIdeal.main (F := Ideal))) ⟨m', fun _ => 0, g'⟩ (fun r => ∀ c : Dev Cert.NormProjRefIdeal.nD,
          r.2.mem ((c.tc : Thread Cert.NormProjRefIdeal.nD Cert.NormProjRefIdeal.τ).loc Cert.NormProjRefIdeal.main_v14) = v0 c
          ∧ r.2.mem ((c.tc : Thread Cert.NormProjRefIdeal.nD Cert.NormProjRefIdeal.τ).loc Cert.NormProjRefIdeal.main_v15) = v1 c
          ∧ r.2.mem ((c.tc : Thread Cert.NormProjRefIdeal.nD Cert.NormProjRefIdeal.τ).loc Cert.NormProjRefIdeal.main_arg0) = m' ((c.tc : Thread Cert.NormProjRefIdeal.nD Cert.NormProjRefIdeal.τ).loc Cert.NormProjRefIdeal.main_arg0)
          ∧ r.2.mem ((c.tc : Thread Cert.NormProjRefIdeal.nD Cert.NormProjRefIdeal.τ).loc Cert.NormProjRefIdeal.main_arg1) = m' ((c.tc : Thread Cert.NormProjRefIdeal.nD Cert.NormProjRefIdeal.τ).loc Cert.NormProjRefIdeal.main_arg1)
          ∧ r.2.mem ((c.tc : Thread Cert.NormProjRefIdeal.nD Cert.NormProjRefIdeal.τ).loc Cert.NormProjRefIdeal.main_arg2) = m' ((c.tc : Thread Cert.NormProjRefIdeal.nD Cert.NormProjRefIdeal.τ).loc Cert.NormProjRefIdeal.main_arg2))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)
      ∧ m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8)) →
    ∃ (v0 : (c : Dev Cert.MixFwdIdeal.nD) → Buf (Elt Ideal) ((c.tc : Thread Cert.MixFwdIdeal.nD Cert.MixFwdIdeal.τ).loc Cert.MixFwdIdeal.main_v13_0)) (v1 : (c : Dev Cert.MixFwdIdeal.nD) → Buf (Elt Ideal) ((c.tc : Thread Cert.MixFwdIdeal.nD Cert.MixFwdIdeal.τ).loc Cert.MixFwdIdeal.main_v13_1)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v13_0) = v0 c
          ∧ r.2.mem ((c.tc : Thread Cert.MixFwdIdeal.nD Cert.MixFwdIdeal.τ).loc Cert.MixFwdIdeal.main_v13_1) = v1 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v297) = v0 c
          ∧ r.2.mem ((c.tc : Thread Cert.MixFwdRefIdeal.nD Cert.MixFwdRefIdeal.τ).loc Cert.MixFwdRefIdeal.main_v233) = v1 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7)
          ∧ r.2.mem ((c.tc : Thread Cert.MixFwdRefIdeal.nD Cert.MixFwdRefIdeal.τ).loc Cert.MixFwdRefIdeal.main_arg8) = m' ((c.tc : Thread Cert.MixFwdRefIdeal.nD Cert.MixFwdRefIdeal.τ).loc Cert.MixFwdRefIdeal.main_arg8))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_2)) (v2 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_2) = v1 c
          ∧ r.2.mem ((c.tc : Thread Cert.ConvIdeal.nD Cert.ConvIdeal.τ).loc Cert.ConvIdeal.main_v0_1) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v592) = v0 c
          ∧ r.2.mem ((c.tc : Thread Cert.ConvRefIdeal.nD Cert.ConvRefIdeal.τ).loc Cert.ConvRefIdeal.main_v593) = v1 c
          ∧ r.2.mem ((c.tc : Thread Cert.ConvRefIdeal.nD Cert.ConvRefIdeal.τ).loc Cert.ConvRefIdeal.main_v579) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_MmTn_MmTnIdeal : Prop :=
  True

def algebraic_MmTnIdeal_MmTnRefIdeal [hMmTnIdeal : Cert.MmTnIdeal.Facts] [hMmTnRefIdeal : Cert.MmTnRefIdeal.Facts] : Prop :=
  ∀ (m : (ℓ : Loc Cert.MmTnIdeal.nD Cert.MmTnIdeal.τ Cert.MmTnIdeal.sig) → Buf (Elt Ideal) ℓ) (g : Dev Cert.MmTnIdeal.nD → PrngReg)
    (m' : (ℓ : Loc Cert.MmTnRefIdeal.nD Cert.MmTnRefIdeal.τ Cert.MmTnRefIdeal.sig) → Buf (Elt Ideal) ℓ) (g' : Dev Cert.MmTnRefIdeal.nD → PrngReg), Pre_MmTnIdeal m →
    (∀ c : Dev Cert.MmTnIdeal.nD,
      m' ((c.tc : Thread Cert.MmTnRefIdeal.nD Cert.MmTnRefIdeal.τ).loc Cert.MmTnRefIdeal.main_arg0) = m ((c.tc : Thread Cert.MmTnIdeal.nD Cert.MmTnIdeal.τ).loc Cert.MmTnIdeal.main_arg0)
      ∧ m' ((c.tc : Thread Cert.MmTnRefIdeal.nD Cert.MmTnRefIdeal.τ).loc Cert.MmTnRefIdeal.main_arg1) = m ((c.tc : Thread Cert.MmTnIdeal.nD Cert.MmTnIdeal.τ).loc Cert.MmTnIdeal.main_arg1)) →
    ∃ (v0 : (c : Dev Cert.MmTnIdeal.nD) → Buf (Elt Ideal) ((c.tc : Thread Cert.MmTnIdeal.nD Cert.MmTnIdeal.τ).loc Cert.MmTnIdeal.main_v0)),
      θ_run (Cert.MmTnIdeal.defs (F := Ideal)) (onTc (τ := Cert.MmTnIdeal.τ) (Cert.MmTnIdeal.main (F := Ideal))) ⟨m, fun _ => 0, g⟩ (fun r => ∀ c : Dev Cert.MmTnIdeal.nD,
          r.2.mem ((c.tc : Thread Cert.MmTnIdeal.nD Cert.MmTnIdeal.τ).loc Cert.MmTnIdeal.main_v0) = v0 c
          ∧ r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
          ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ θ_run (Cert.MmTnRefIdeal.defs (F := Ideal)) (onTc (τ := Cert.MmTnRefIdeal.τ) (Cert.MmTnRefIdeal.main (F := Ideal))) ⟨m', fun _ => 0, g'⟩ (fun r => ∀ c : Dev Cert.MmTnRefIdeal.nD,
          r.2.mem ((c.tc : Thread Cert.MmTnRefIdeal.nD Cert.MmTnRefIdeal.τ).loc Cert.MmTnRefIdeal.main_v3) = v0 c
          ∧ r.2.mem ((c.tc : Thread Cert.MmTnRefIdeal.nD Cert.MmTnRefIdeal.τ).loc Cert.MmTnRefIdeal.main_arg0) = m' ((c.tc : Thread Cert.MmTnRefIdeal.nD Cert.MmTnRefIdeal.τ).loc Cert.MmTnRefIdeal.main_arg0)
          ∧ r.2.mem ((c.tc : Thread Cert.MmTnRefIdeal.nD Cert.MmTnRefIdeal.τ).loc Cert.MmTnRefIdeal.main_arg1) = m' ((c.tc : Thread Cert.MmTnRefIdeal.nD Cert.MmTnRefIdeal.τ).loc Cert.MmTnRefIdeal.main_arg1))

def preserves_MmNt_MmNtIdeal : Prop :=
  True

def algebraic_MmNtIdeal_MmNtRefIdeal [hMmNtIdeal : Cert.MmNtIdeal.Facts] [hMmNtRefIdeal : Cert.MmNtRefIdeal.Facts] : Prop :=
  ∀ (m : (ℓ : Loc Cert.MmNtIdeal.nD Cert.MmNtIdeal.τ Cert.MmNtIdeal.sig) → Buf (Elt Ideal) ℓ) (g : Dev Cert.MmNtIdeal.nD → PrngReg)
    (m' : (ℓ : Loc Cert.MmNtRefIdeal.nD Cert.MmNtRefIdeal.τ Cert.MmNtRefIdeal.sig) → Buf (Elt Ideal) ℓ) (g' : Dev Cert.MmNtRefIdeal.nD → PrngReg), Pre_MmNtIdeal m →
    (∀ c : Dev Cert.MmNtIdeal.nD,
      m' ((c.tc : Thread Cert.MmNtRefIdeal.nD Cert.MmNtRefIdeal.τ).loc Cert.MmNtRefIdeal.main_arg0) = m ((c.tc : Thread Cert.MmNtIdeal.nD Cert.MmNtIdeal.τ).loc Cert.MmNtIdeal.main_arg0)
      ∧ m' ((c.tc : Thread Cert.MmNtRefIdeal.nD Cert.MmNtRefIdeal.τ).loc Cert.MmNtRefIdeal.main_arg1) = m ((c.tc : Thread Cert.MmNtIdeal.nD Cert.MmNtIdeal.τ).loc Cert.MmNtIdeal.main_arg1)) →
    ∃ (v0 : (c : Dev Cert.MmNtIdeal.nD) → Buf (Elt Ideal) ((c.tc : Thread Cert.MmNtIdeal.nD Cert.MmNtIdeal.τ).loc Cert.MmNtIdeal.main_v1)),
      θ_run (Cert.MmNtIdeal.defs (F := Ideal)) (onTc (τ := Cert.MmNtIdeal.τ) (Cert.MmNtIdeal.main (F := Ideal))) ⟨m, fun _ => 0, g⟩ (fun r => ∀ c : Dev Cert.MmNtIdeal.nD,
          r.2.mem ((c.tc : Thread Cert.MmNtIdeal.nD Cert.MmNtIdeal.τ).loc Cert.MmNtIdeal.main_v1) = v0 c
          ∧ r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
          ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ θ_run (Cert.MmNtRefIdeal.defs (F := Ideal)) (onTc (τ := Cert.MmNtRefIdeal.τ) (Cert.MmNtRefIdeal.main (F := Ideal))) ⟨m', fun _ => 0, g'⟩ (fun r => ∀ c : Dev Cert.MmNtRefIdeal.nD,
          r.2.mem ((c.tc : Thread Cert.MmNtRefIdeal.nD Cert.MmNtRefIdeal.τ).loc Cert.MmNtRefIdeal.main_v1) = v0 c
          ∧ r.2.mem ((c.tc : Thread Cert.MmNtRefIdeal.nD Cert.MmNtRefIdeal.τ).loc Cert.MmNtRefIdeal.main_arg0) = m' ((c.tc : Thread Cert.MmNtRefIdeal.nD Cert.MmNtRefIdeal.τ).loc Cert.MmNtRefIdeal.main_arg0)
          ∧ r.2.mem ((c.tc : Thread Cert.MmNtRefIdeal.nD Cert.MmNtRefIdeal.τ).loc Cert.MmNtRefIdeal.main_arg1) = m' ((c.tc : Thread Cert.MmNtRefIdeal.nD Cert.MmNtRefIdeal.τ).loc Cert.MmNtRefIdeal.main_arg1))

def preserves_Parts_PartsIdeal : Prop :=
  True

def algebraic_PartsIdeal_PartsRefIdeal [hPartsIdeal : Cert.PartsIdeal.Facts] [hPartsRefIdeal : Cert.PartsRefIdeal.Facts] : Prop :=
  ∀ (m : (ℓ : Loc Cert.PartsIdeal.nD Cert.PartsIdeal.τ Cert.PartsIdeal.sig) → Buf (Elt Ideal) ℓ) (g : Dev Cert.PartsIdeal.nD → PrngReg)
    (m' : (ℓ : Loc Cert.PartsRefIdeal.nD Cert.PartsRefIdeal.τ Cert.PartsRefIdeal.sig) → Buf (Elt Ideal) ℓ) (g' : Dev Cert.PartsRefIdeal.nD → PrngReg), Pre_PartsIdeal m →
    (∀ c : Dev Cert.PartsIdeal.nD,
      m' ((c.tc : Thread Cert.PartsRefIdeal.nD Cert.PartsRefIdeal.τ).loc Cert.PartsRefIdeal.main_arg0) = m ((c.tc : Thread Cert.PartsIdeal.nD Cert.PartsIdeal.τ).loc Cert.PartsIdeal.main_arg0)
      ∧ m' ((c.tc : Thread Cert.PartsRefIdeal.nD Cert.PartsRefIdeal.τ).loc Cert.PartsRefIdeal.main_arg1) = m ((c.tc : Thread Cert.PartsIdeal.nD Cert.PartsIdeal.τ).loc Cert.PartsIdeal.main_arg1)
      ∧ m' ((c.tc : Thread Cert.PartsRefIdeal.nD Cert.PartsRefIdeal.τ).loc Cert.PartsRefIdeal.main_arg2) = m ((c.tc : Thread Cert.PartsIdeal.nD Cert.PartsIdeal.τ).loc Cert.PartsIdeal.main_arg2)
      ∧ m' ((c.tc : Thread Cert.PartsRefIdeal.nD Cert.PartsRefIdeal.τ).loc Cert.PartsRefIdeal.main_arg3) = m ((c.tc : Thread Cert.PartsIdeal.nD Cert.PartsIdeal.τ).loc Cert.PartsIdeal.main_arg3)
      ∧ m' ((c.tc : Thread Cert.PartsRefIdeal.nD Cert.PartsRefIdeal.τ).loc Cert.PartsRefIdeal.main_arg4) = m ((c.tc : Thread Cert.PartsIdeal.nD Cert.PartsIdeal.τ).loc Cert.PartsIdeal.main_arg4)) →
    ∃ (v0 : (c : Dev Cert.PartsIdeal.nD) → Buf (Elt Ideal) ((c.tc : Thread Cert.PartsIdeal.nD Cert.PartsIdeal.τ).loc Cert.PartsIdeal.main_v0_0)) (v1 : (c : Dev Cert.PartsIdeal.nD) → Buf (Elt Ideal) ((c.tc : Thread Cert.PartsIdeal.nD Cert.PartsIdeal.τ).loc Cert.PartsIdeal.main_v0_1)) (v2 : (c : Dev Cert.PartsIdeal.nD) → Buf (Elt Ideal) ((c.tc : Thread Cert.PartsIdeal.nD Cert.PartsIdeal.τ).loc Cert.PartsIdeal.main_v0_2)) (v3 : (c : Dev Cert.PartsIdeal.nD) → Buf (Elt Ideal) ((c.tc : Thread Cert.PartsIdeal.nD Cert.PartsIdeal.τ).loc Cert.PartsIdeal.main_v0_3)),
      θ_run (Cert.PartsIdeal.defs (F := Ideal)) (onTc (τ := Cert.PartsIdeal.τ) (Cert.PartsIdeal.main (F := Ideal))) ⟨m, fun _ => 0, g⟩ (fun r => ∀ c : Dev Cert.PartsIdeal.nD,
          r.2.mem ((c.tc : Thread Cert.PartsIdeal.nD Cert.PartsIdeal.τ).loc Cert.PartsIdeal.main_v0_0) = v0 c
          ∧ r.2.mem ((c.tc : Thread Cert.PartsIdeal.nD Cert.PartsIdeal.τ).loc Cert.PartsIdeal.main_v0_1) = v1 c
          ∧ r.2.mem ((c.tc : Thread Cert.PartsIdeal.nD Cert.PartsIdeal.τ).loc Cert.PartsIdeal.main_v0_2) = v2 c
          ∧ r.2.mem ((c.tc : Thread Cert.PartsIdeal.nD Cert.PartsIdeal.τ).loc Cert.PartsIdeal.main_v0_3) = v3 c
          ∧ r.2.mem ((c.tc : Thread Cert.PartsIdeal.nD Cert.PartsIdeal.τ).loc Cert.PartsIdeal.main_arg0) = m ((c.tc : Thread Cert.PartsIdeal.nD Cert.PartsIdeal.τ).loc Cert.PartsIdeal.main_arg0)
          ∧ r.2.mem ((c.tc : Thread Cert.PartsIdeal.nD Cert.PartsIdeal.τ).loc Cert.PartsIdeal.main_arg1) = m ((c.tc : Thread Cert.PartsIdeal.nD Cert.PartsIdeal.τ).loc Cert.PartsIdeal.main_arg1)
          ∧ r.2.mem ((c.tc : Thread Cert.PartsIdeal.nD Cert.PartsIdeal.τ).loc Cert.PartsIdeal.main_arg2) = m ((c.tc : Thread Cert.PartsIdeal.nD Cert.PartsIdeal.τ).loc Cert.PartsIdeal.main_arg2)
          ∧ r.2.mem ((c.tc : Thread Cert.PartsIdeal.nD Cert.PartsIdeal.τ).loc Cert.PartsIdeal.main_arg3) = m ((c.tc : Thread Cert.PartsIdeal.nD Cert.PartsIdeal.τ).loc Cert.PartsIdeal.main_arg3)
          ∧ r.2.mem ((c.tc : Thread Cert.PartsIdeal.nD Cert.PartsIdeal.τ).loc Cert.PartsIdeal.main_arg4) = m ((c.tc : Thread Cert.PartsIdeal.nD Cert.PartsIdeal.τ).loc Cert.PartsIdeal.main_arg4))
      ∧ θ_run (Cert.PartsRefIdeal.defs (F := Ideal)) (onTc (τ := Cert.PartsRefIdeal.τ) (Cert.PartsRefIdeal.main (F := Ideal))) ⟨m', fun _ => 0, g'⟩ (fun r => ∀ c : Dev Cert.PartsRefIdeal.nD,
          r.2.mem ((c.tc : Thread Cert.PartsRefIdeal.nD Cert.PartsRefIdeal.τ).loc Cert.PartsRefIdeal.main_v4) = v0 c
          ∧ r.2.mem ((c.tc : Thread Cert.PartsRefIdeal.nD Cert.PartsRefIdeal.τ).loc Cert.PartsRefIdeal.main_v28) = v1 c
          ∧ r.2.mem ((c.tc : Thread Cert.PartsRefIdeal.nD Cert.PartsRefIdeal.τ).loc Cert.PartsRefIdeal.main_v9) = v2 c
          ∧ r.2.mem ((c.tc : Thread Cert.PartsRefIdeal.nD Cert.PartsRefIdeal.τ).loc Cert.PartsRefIdeal.main_v15) = v3 c
          ∧ r.2.mem ((c.tc : Thread Cert.PartsRefIdeal.nD Cert.PartsRefIdeal.τ).loc Cert.PartsRefIdeal.main_arg0) = m' ((c.tc : Thread Cert.PartsRefIdeal.nD Cert.PartsRefIdeal.τ).loc Cert.PartsRefIdeal.main_arg0)
          ∧ r.2.mem ((c.tc : Thread Cert.PartsRefIdeal.nD Cert.PartsRefIdeal.τ).loc Cert.PartsRefIdeal.main_arg1) = m' ((c.tc : Thread Cert.PartsRefIdeal.nD Cert.PartsRefIdeal.τ).loc Cert.PartsRefIdeal.main_arg1)
          ∧ r.2.mem ((c.tc : Thread Cert.PartsRefIdeal.nD Cert.PartsRefIdeal.τ).loc Cert.PartsRefIdeal.main_arg2) = m' ((c.tc : Thread Cert.PartsRefIdeal.nD Cert.PartsRefIdeal.τ).loc Cert.PartsRefIdeal.main_arg2)
          ∧ r.2.mem ((c.tc : Thread Cert.PartsRefIdeal.nD Cert.PartsRefIdeal.τ).loc Cert.PartsRefIdeal.main_arg3) = m' ((c.tc : Thread Cert.PartsRefIdeal.nD Cert.PartsRefIdeal.τ).loc Cert.PartsRefIdeal.main_arg3)
          ∧ r.2.mem ((c.tc : Thread Cert.PartsRefIdeal.nD Cert.PartsRefIdeal.τ).loc Cert.PartsRefIdeal.main_arg4) = m' ((c.tc : Thread Cert.PartsRefIdeal.nD Cert.PartsRefIdeal.τ).loc Cert.PartsRefIdeal.main_arg4))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v23) = v0 c
          ∧ r.2.mem ((c.tc : Thread Cert.AdamwRefIdeal.nD Cert.AdamwRefIdeal.τ).loc Cert.AdamwRefIdeal.main_v4) = v1 c
          ∧ r.2.mem ((c.tc : Thread Cert.AdamwRefIdeal.nD Cert.AdamwRefIdeal.τ).loc Cert.AdamwRefIdeal.main_v10) = v2 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v0) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def Claim : Prop :=
  ∃ (hMixIn : Cert.MixIn.Facts) (hMixInIdeal : Cert.MixInIdeal.Facts) (hMixInRefIdeal : Cert.MixInRefIdeal.Facts) (hQkv : Cert.Qkv.Facts) (hQkvIdeal : Cert.QkvIdeal.Facts) (hQkvRefIdeal : Cert.QkvRefIdeal.Facts) (hRows : Cert.Rows.Facts) (hRowsIdeal : Cert.RowsIdeal.Facts) (hRowsRefIdeal : Cert.RowsRefIdeal.Facts) (hLoss : Cert.Loss.Facts) (hLossIdeal : Cert.LossIdeal.Facts) (hLossRefIdeal : Cert.LossRefIdeal.Facts) (hFfn : Cert.Ffn.Facts) (hFfnIdeal : Cert.FfnIdeal.Facts) (hFfnRefIdeal : Cert.FfnRefIdeal.Facts) (hFfnFwd : Cert.FfnFwd.Facts) (hFfnFwdIdeal : Cert.FfnFwdIdeal.Facts) (hFfnFwdRefIdeal : Cert.FfnFwdRefIdeal.Facts) (hProjFwd : Cert.ProjFwd.Facts) (hProjFwdIdeal : Cert.ProjFwdIdeal.Facts) (hProjFwdRefIdeal : Cert.ProjFwdRefIdeal.Facts) (hNormProj : Cert.NormProj.Facts) (hNormProjIdeal : Cert.NormProjIdeal.Facts) (hNormProjRefIdeal : Cert.NormProjRefIdeal.Facts) (hMixFwd : Cert.MixFwd.Facts) (hMixFwdIdeal : Cert.MixFwdIdeal.Facts) (hMixFwdRefIdeal : Cert.MixFwdRefIdeal.Facts) (hConv : Cert.Conv.Facts) (hConvIdeal : Cert.ConvIdeal.Facts) (hConvRefIdeal : Cert.ConvRefIdeal.Facts) (hMmTn : Cert.MmTn.Facts) (hMmTnIdeal : Cert.MmTnIdeal.Facts) (hMmTnRefIdeal : Cert.MmTnRefIdeal.Facts) (hMmNt : Cert.MmNt.Facts) (hMmNtIdeal : Cert.MmNtIdeal.Facts) (hMmNtRefIdeal : Cert.MmNtRefIdeal.Facts) (hParts : Cert.Parts.Facts) (hPartsIdeal : Cert.PartsIdeal.Facts) (hPartsRefIdeal : Cert.PartsRefIdeal.Facts) (hAdamw : Cert.Adamw.Facts) (hAdamwIdeal : Cert.AdamwIdeal.Facts) (hAdamwRefIdeal : Cert.AdamwRefIdeal.Facts) (hSum : Cert.Sum.Facts) (hSumIdeal : Cert.SumIdeal.Facts) (hSumRefIdeal : Cert.SumRefIdeal.Facts) (hPre_finite_in : Cert.Pre_finite_in.Facts) (hPre_finite_qkv : Cert.Pre_finite_qkv.Facts) (hPre_finite_rows : Cert.Pre_finite_rows.Facts) (hPre_finite_loss : Cert.Pre_finite_loss.Facts) (hPre_finite_ffn : Cert.Pre_finite_ffn.Facts),
    quiescent_MixIn (hMixIn := hMixIn)
    ∧ quiescent_MixInIdeal (hMixInIdeal := hMixInIdeal)
    ∧ quiescent_MixInIdeal_pre_finite_in (hMixInIdeal := hMixInIdeal) (hPre_finite_in := hPre_finite_in)
    ∧ quiescent_MixInRefIdeal (hMixInRefIdeal := hMixInRefIdeal)
    ∧ quiescent_MixInRefIdeal_pre_finite_in (hMixInRefIdeal := hMixInRefIdeal) (hPre_finite_in := hPre_finite_in)
    ∧ quiescent_Qkv (hQkv := hQkv)
    ∧ quiescent_QkvIdeal (hQkvIdeal := hQkvIdeal)
    ∧ quiescent_QkvIdeal_pre_finite_qkv (hQkvIdeal := hQkvIdeal) (hPre_finite_qkv := hPre_finite_qkv)
    ∧ quiescent_QkvRefIdeal (hQkvRefIdeal := hQkvRefIdeal)
    ∧ quiescent_QkvRefIdeal_pre_finite_qkv (hQkvRefIdeal := hQkvRefIdeal) (hPre_finite_qkv := hPre_finite_qkv)
    ∧ quiescent_Rows (hRows := hRows)
    ∧ quiescent_RowsIdeal (hRowsIdeal := hRowsIdeal)
    ∧ quiescent_RowsIdeal_pre_finite_rows (hRowsIdeal := hRowsIdeal) (hPre_finite_rows := hPre_finite_rows)
    ∧ quiescent_RowsRefIdeal (hRowsRefIdeal := hRowsRefIdeal)
    ∧ quiescent_RowsRefIdeal_pre_finite_rows (hRowsRefIdeal := hRowsRefIdeal) (hPre_finite_rows := hPre_finite_rows)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_ProjFwd (hProjFwd := hProjFwd)
    ∧ quiescent_ProjFwdIdeal (hProjFwdIdeal := hProjFwdIdeal)
    ∧ quiescent_ProjFwdRefIdeal (hProjFwdRefIdeal := hProjFwdRefIdeal)
    ∧ quiescent_NormProj (hNormProj := hNormProj)
    ∧ quiescent_NormProjIdeal (hNormProjIdeal := hNormProjIdeal)
    ∧ quiescent_NormProjRefIdeal (hNormProjRefIdeal := hNormProjRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_Conv (hConv := hConv)
    ∧ quiescent_ConvIdeal (hConvIdeal := hConvIdeal)
    ∧ quiescent_ConvRefIdeal (hConvRefIdeal := hConvRefIdeal)
    ∧ quiescent_MmTn (hMmTn := hMmTn)
    ∧ quiescent_MmTnIdeal (hMmTnIdeal := hMmTnIdeal)
    ∧ quiescent_MmTnRefIdeal (hMmTnRefIdeal := hMmTnRefIdeal)
    ∧ quiescent_MmNt (hMmNt := hMmNt)
    ∧ quiescent_MmNtIdeal (hMmNtIdeal := hMmNtIdeal)
    ∧ quiescent_MmNtRefIdeal (hMmNtRefIdeal := hMmNtRefIdeal)
    ∧ quiescent_Parts (hParts := hParts)
    ∧ quiescent_PartsIdeal (hPartsIdeal := hPartsIdeal)
    ∧ quiescent_PartsRefIdeal (hPartsRefIdeal := hPartsRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_Sum (hSum := hSum)
    ∧ quiescent_SumIdeal (hSumIdeal := hSumIdeal)
    ∧ quiescent_SumRefIdeal (hSumRefIdeal := hSumRefIdeal)
    ∧ preserves_MixIn_MixInIdeal
    ∧ algebraic_MixInIdeal_MixInRefIdeal_pre_finite_in (hMixInIdeal := hMixInIdeal) (hMixInRefIdeal := hMixInRefIdeal) (hPre_finite_in := hPre_finite_in)
    ∧ preserves_Qkv_QkvIdeal
    ∧ algebraic_QkvIdeal_QkvRefIdeal_pre_finite_qkv (hQkvIdeal := hQkvIdeal) (hQkvRefIdeal := hQkvRefIdeal) (hPre_finite_qkv := hPre_finite_qkv)
    ∧ preserves_Rows_RowsIdeal
    ∧ algebraic_RowsIdeal_RowsRefIdeal_pre_finite_rows (hRowsIdeal := hRowsIdeal) (hRowsRefIdeal := hRowsRefIdeal) (hPre_finite_rows := hPre_finite_rows)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_ProjFwd_ProjFwdIdeal
    ∧ algebraic_ProjFwdIdeal_ProjFwdRefIdeal (hProjFwdIdeal := hProjFwdIdeal) (hProjFwdRefIdeal := hProjFwdRefIdeal)
    ∧ preserves_NormProj_NormProjIdeal
    ∧ algebraic_NormProjIdeal_NormProjRefIdeal (hNormProjIdeal := hNormProjIdeal) (hNormProjRefIdeal := hNormProjRefIdeal)
    ∧ preserves_MixFwd_MixFwdIdeal
    ∧ algebraic_MixFwdIdeal_MixFwdRefIdeal (hMixFwdIdeal := hMixFwdIdeal) (hMixFwdRefIdeal := hMixFwdRefIdeal)
    ∧ preserves_Conv_ConvIdeal
    ∧ algebraic_ConvIdeal_ConvRefIdeal (hConvIdeal := hConvIdeal) (hConvRefIdeal := hConvRefIdeal)
    ∧ preserves_MmTn_MmTnIdeal
    ∧ algebraic_MmTnIdeal_MmTnRefIdeal (hMmTnIdeal := hMmTnIdeal) (hMmTnRefIdeal := hMmTnRefIdeal)
    ∧ preserves_MmNt_MmNtIdeal
    ∧ algebraic_MmNtIdeal_MmNtRefIdeal (hMmNtIdeal := hMmNtIdeal) (hMmNtRefIdeal := hMmNtRefIdeal)
    ∧ preserves_Parts_PartsIdeal
    ∧ algebraic_PartsIdeal_PartsRefIdeal (hPartsIdeal := hPartsIdeal) (hPartsRefIdeal := hPartsRefIdeal)
    ∧ preserves_Adamw_AdamwIdeal
    ∧ algebraic_AdamwIdeal_AdamwRefIdeal (hAdamwIdeal := hAdamwIdeal) (hAdamwRefIdeal := hAdamwRefIdeal)
    ∧ preserves_Sum_SumIdeal
    ∧ algebraic_SumIdeal_SumRefIdeal (hSumIdeal := hSumIdeal) (hSumRefIdeal := hSumRefIdeal)
-- ==== Pre_finite_ffn.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S8192x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_finite_in.lean ====
abbrev S8192x1024 : Shape := ⟨2, ![8192, 1024]⟩
abbrev S1024 : Shape := ⟨1, ![1024]⟩
abbrev S1024x2048 : Shape := ⟨2, ![1024, 2048]⟩
abbrev S8192x2048 : Shape := ⟨2, ![8192, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  main_v18

def fn {F : FTy → Type} [FloatOps F] (main_arg0 : FVec F S8192x1024 .f32) (main_arg1 : FVec F S1024 .f32) (main_arg2 : FVec F S1024x2048 .f32) (main_arg3 : FVec F S8192x2048 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_v13 main_v16
-- ==== Pre_finite_loss.lean ====
abbrev S8192x1024 : Shape := ⟨2, ![8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S1024 .f32) (main_arg8 : FVec F S8192x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S8192x1024 .f32 := Host.absf main_arg8
  let main_cst_14 : FVec F S_ .f32 := constant S_ .f32 0x7F800000#32
  let main_v40 : FVec F S8192x1024 .f32 := broadcastInDim S8192x1024 ![] bcast_S_S8192x1024 main_cst_14
  let main_v41 : IVec S8192x1024 1 := cmpf .olt main_v39 main_v40
  let main_c_15 : IVec S_ 1 := constantI S_ 1 1#1
  let main_v42 : IVec S_ 1 := (fun x v => Host.reduce IntOp.andi x v reducesTo_S8192x1024_S_d0_1 h_S_) main_v41 main_c_15
  let main_v43 : IVec S_ 1 := andi main_v38 main_v42
  main_v43

def fn_part1 {F : FTy → Type} [FloatOps F] (main_arg4 : FVec F S1024x2816 .f32) (main_arg5 : FVec F S1024x2816 .f32) (main_arg6 : FVec F S2816x1024 .f32) (main_arg7 : FVec F S1024 .f32) (main_arg8 : FVec F S8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S1024x2816 .f32 := Host.absf main_arg5
  let main_cst_8 : FVec F S_ .f32 := constant S_ .f32 0x7F800000#32
  let main_v25 : FVec F S1024x2816 .f32 := broadcastInDim S1024x2816 ![] bcast_S_S1024x2816 main_cst_8
  let main_v26 : IVec S1024x2816 1 := cmpf .olt main_v24 main_v25
  let main_c_9 : IVec S_ 1 := constantI S_ 1 1#1
  let main_v27 : IVec S_ 1 := (fun x v => Host.reduce IntOp.andi x v reducesTo_S1024x2816_S_d0_1 h_S_) main_v26 main_c_9
  let main_v28 : IVec S_ 1 := andi main_v23 main_v27
  let main_v29 : FVec F S2816x1024 .f32 := Host.absf main_arg6
  let main_cst_10 : FVec F S_ .f32 := constant S_ .f32 0x7F800000#32
  let main_v30 : FVec F S2816x1024 .f32 := broadcastInDim S2816x1024 ![] bcast_S_S2816x1024 main_cst_10
  let main_v31 : IVec S2816x1024 1 := cmpf .olt main_v29 main_v30
  let main_c_11 : IVec S_ 1 := constantI S_ 1 1#1
  let main_v32 : IVec S_ 1 := (fun x v => Host.reduce IntOp.andi x v reducesTo_S2816x1024_S_d0_1 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S1024x1024 .f32) (main_arg2 : FVec F S8192x1024 .f32) (main_arg3 : FVec F S1024 .f32) (main_arg4 : FVec F S1024x2816 .f32) (main_arg5 : FVec F S1024x2816 .f32) (main_arg6 : FVec F S2816x1024 .f32) (main_arg7 : FVec F S1024 .f32) (main_arg8 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_v13 main_v16
-- ==== Pre_finite_qkv.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x3072 : S_.BroadcastsInDim S1024x3072 (![] : Fin 0 → Fin S1024x3072.rank)
  reducesTo_S1024x3072_S_d0_1 : S1024x3072.ReducesTo [0, 1] S_
  bcast_S_S8192x3072 : S_.BroadcastsInDim S8192x3072 (![] : Fin 0 → Fin S8192x3072.rank)
  reducesTo_S8192x3072_S_d0_1 : S8192x3072.ReducesTo [0, 1] S_

variable [Facts]

def fn_part1 {F : FTy → Type} [FloatOps F] (main_v13 : IVec S_ 1) (main_v16 : IVec S8192x3072 1) : IVec S_ 1 :=
  let main_c_5 : IVec S_ 1 := constantI S_ 1 1#1
  let main_v17 : IVec S_ 1 := (fun x v => Host.reduce IntOp.andi x v reducesTo_S8192x3072_S_d0_1 h_S_) main_v16 main_c_5
  let main_v18 : IVec S_ 1 := andi main_v13 main_v17
  main_v18

def fn {F : FTy → Type} [FloatOps F] (main_arg0 : FVec F S8192x1024 .f32) (main_arg1 : FVec F S1024 .f32) (main_arg2 : FVec F S1024x3072 .f32) (main_arg3 : FVec F S8192x3072 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S8192x3072 .f32 := Host.absf main_arg3
  let main_cst_4 : FVec F S_ .f32 := constant S_ .f32 0x7F800000#32
  let main_v15 : FVec F S8192x3072 .f32 := broadcastInDim S8192x3072 ![] bcast_S_S8192x3072 main_cst_4
  let main_v16 : IVec S8192x3072 1 := cmpf .olt main_v14 main_v15
  fn_part1 (F := F) main_v13 main_v16
-- ==== Pre_finite_rows.lean ====
abbrev S8192x2048 : Shape := ⟨2, ![8192, 2048]⟩
abbrev S31x512 : Shape := ⟨2, ![31, 512]⟩
abbrev S512 : Shape := ⟨1, ![512]⟩
abbrev S4x128 : Shape := ⟨2, ![4, 128]⟩
abbrev S4x128x128 : Shape := ⟨3, ![4, 128, 128]⟩
abbrev S8192x1024 : Shape := ⟨2, ![8192, 1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S31x512 : S_.BroadcastsInDim S31x512 (![] : Fin 0 → Fin S31x512.rank)
  reducesTo_S31x512_S_d0_1 : S31x512.ReducesTo [0, 1] S_
  bcast_S_S512 : S_.BroadcastsInDim S512 (![] : Fin 0 → Fin S512.rank)
  reducesTo_S512_S_d0 : S512.ReducesTo [0] S_
  bcast_S_S4x128 : S_.BroadcastsInDim S4x128 (![] : Fin 0 → Fin S4x128.rank)
  reducesTo_S4x128_S_d0_1 : S4x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S8192x1024 : S_.BroadcastsInDim S8192x1024 (![] : Fin 0 → Fin S8192x1024.rank)
  reducesTo_S8192x1024_S_d0_1 : S8192x1024.ReducesTo [0, 1] S_

variable [Facts]

def fn_part2 {F : FTy → Type} [FloatOps F] (main_arg9 : FVec F S8192x1024 .f32) (main_v33 : IVec S_ 1) : IVec S_ 1 :=
  let main_v34 : FVec F S8192x1024 .f32 := Host.absf main_arg9
  let main_cst_12 : FVec F S_ .f32 := constant S_ .f32 0x7F800000#32
  let main_v35 : FVec F S8192x1024 .f32 := broadcastInDim S8192x1024 ![] bcast_S_S8192x1024 main_cst_12
  let main_v36 : IVec S8192x1024 1 := cmpf .olt main_v34 main_v35
  let main_c_13 : IVec S_ 1 := constantI S_ 1 1#1
  let main_v37 : IVec S_ 1 := (fun x v => Host.reduce IntOp.andi x v reducesTo_S8192x1024_S_d0_1 h_S_) main_v36 main_c_13
  let main_v38 : IVec S_ 1 := andi main_v33 main_v37
  main_v38

def fn_part1 {F : FTy → Type} [FloatOps F] (main_arg4 : FVec F S512 .f32) (main_arg5 : FVec F S4x128 .f32) (main_arg7 : FVec F S4x128x128 .f32) (main_arg9 : FVec F S8192x1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S4x128 .f32 := Host.absf main_arg5
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128x128 .f32 := Host.absf main_arg7
  let main_cst_10 : FVec F S_ .f32 := constant S_ .f32 0x7F800000#32
  let main_v30 : FVec F S4x128x128 .f32 := broadcastInDim S4x128x128 ![] bcast_S_S4x128x128 main_cst_10
  let main_v31 : IVec S4x128x128 1 := cmpf .olt main_v29 main_v30
  let main_c_11 : IVec S_ 1 := constantI S_ 1 1#1
  let main_v32 : IVec S_ 1 := (fun x v => Host.reduce IntOp.andi x v reducesTo_S4x128x128_S_d0_1_2 h_S_) main_v31 main_c_11
  let main_v33 : IVec S_ 1 := andi main_v28 main_v32
  fn_part2 (F := F) main_arg9 main_v33

def fn {F : FTy → Type} [FloatOps F] (main_arg0 : FVec F S8192x2048 .f32) (main_arg1 : FVec F S31x512 .f32) (main_arg2 : FVec F S512 .f32) (main_arg3 : FVec F S512 .f32) (main_arg4 : FVec F S512 .f32) (main_arg5 : FVec F S4x128 .f32) (main_arg6 : FVec F S4x128 .f32) (main_arg7 : FVec F S4x128x128 .f32) (main_arg8 : FVec F S4x128 .f32) (main_arg9 : FVec F S8192x1024 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S31x512 .f32 := Host.absf main_arg1
  let main_cst_0 : FVec F S_ .f32 := constant S_ .f32 0x7F800000#32
  let main_v5 : FVec F S31x512 .f32 := broadcastInDim S31x512 ![] bcast_S_S31x512 main_cst_0
  let main_v6 : IVec S31x512 1 := cmpf .olt main_v4 main_v5
  let main_c_1 : IVec S_ 1 := constantI S_ 1 1#1
  let main_v7 : IVec S_ 1 := (fun x v => Host.reduce IntOp.andi x v reducesTo_S31x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg7 main_arg9 main_v13 main_v16
-- ==== MixIn.lean ====
abbrev S8192x1024 : Shape := ⟨2, ![8192, 1024]⟩
abbrev S1024 : Shape := ⟨1, ![1024]⟩
abbrev S1024x2048 : Shape := ⟨2, ![1024, 2048]⟩
abbrev S8192x2048 : Shape := ⟨2, ![8192, 2048]⟩
abbrev S2048x1024 : Shape := ⟨2, ![2048, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S8192x2048, .f32⟩
  | .hbm, ⟨4, _⟩ => ⟨S8192x1024, .f32⟩
  | .hbm, ⟨5, _⟩ => ⟨S2048x1024, .f32⟩
  | .hbm, ⟨6, _⟩ => ⟨S2048x1024, .bf16⟩
  | .hbm, ⟨7, _⟩ => ⟨S8192x2048, .bf16⟩
  | .hbm, ⟨8, _⟩ => ⟨S8192x1024, .bf16⟩
  | .hbm, ⟨9, _⟩ => ⟨S8192x1024, .bf16⟩
  | .hbm, ⟨10, _⟩ => ⟨S1x1024, .f32⟩
  | .hbm, ⟨11, _⟩ => ⟨S8192x1024, .f32⟩
  | .hbm, ⟨12, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MixInRefIdeal.lean ====
abbrev S8192x1024 : Shape := ⟨2, ![8192, 1024]⟩
abbrev S1024 : Shape := ⟨1, ![1024]⟩
abbrev S1024x2048 : Shape := ⟨2, ![1024, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2048, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Qkv.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S3072x1024 : Shape := ⟨2, ![3072, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 14
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x3072, .f32⟩
  | .hbm, ⟨4, _⟩ => ⟨S8192x1024, .f32⟩
  | .hbm, ⟨5, _⟩ => ⟨S8192x3072, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S3072x1024, .f32⟩
  | .hbm, ⟨10, _⟩ => ⟨S3072x1024, .bf16⟩
  | .hbm, ⟨11, _⟩ => ⟨S1x1024, .f32⟩
  | .hbm, ⟨12, _⟩ => ⟨S8192x1024, .f32⟩
  | .hbm, ⟨13, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S3072x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== QkvRefIdeal.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x3072, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x3072, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Rows.lean ====
abbrev S8192x2048 : Shape := ⟨2, ![8192, 2048]⟩
abbrev S31x512 : Shape := ⟨2, ![31, 512]⟩
abbrev S512 : Shape := ⟨1, ![512]⟩
abbrev S4x128 : Shape := ⟨2, ![4, 128]⟩
abbrev S4x128x128 : Shape := ⟨3, ![4, 128, 128]⟩
abbrev S8192x1024 : Shape := ⟨2, ![8192, 1024]⟩
abbrev S8192x512 : Shape := ⟨2, ![8192, 512]⟩
abbrev S_ : Shape := ⟨0, ![]⟩
abbrev S2x4096x512 : Shape := ⟨3, ![2, 4096, 512]⟩
abbrev S2x30x512 : Shape := ⟨3, ![2, 30, 512]⟩
abbrev S2x4126x512 : Shape := ⟨3, ![2, 4126, 512]⟩
abbrev S1x512 : Shape := ⟨2, ![1, 512]⟩
abbrev S1x1x512 : Shape := ⟨3, ![1, 1, 512]⟩
abbrev S128x128 : Shape := ⟨2, ![128, 128]⟩
abbrev S1x128x128 : Shape := ⟨3, ![1, 128, 128]⟩
abbrev S128x4 : Shape := ⟨2, ![128, 4]⟩
abbrev S128x4x128 : Shape := ⟨3, ![128, 4, 128]⟩
abbrev S128x512 : Shape := ⟨2, ![128, 512]⟩
abbrev S512x1024 : Shape := ⟨2, ![512, 1024]⟩
abbrev S512x512 : Shape := ⟨2, ![512, 512]⟩
abbrev S512x128 : Shape := ⟨2, ![512, 128]⟩
abbrev S512x1 : Shape := ⟨2, ![512, 1]⟩
abbrev S1x128 : Shape := ⟨2, ![1, 128]⟩
abbrev S128 : Shape := ⟨1, ![128]⟩
abbrev S128x1 : Shape := ⟨2, ![128, 1]⟩

abbrev nBuf : Space → Nat
  | .hbm => 282
  | .vmem => 27
  | .smem => 0
  | _ => 0

abbrev hbmTy0_0 (i : Nat) : BufTy := match i % 128 with
  | 0 => ⟨S8192x2048, .f32⟩
  | 1 => ⟨S31x512, .f32⟩
  | 2 => ⟨S512, .f32⟩
  | 3 => ⟨S512, .f32⟩
  | 4 => ⟨S512, .f32⟩
  | 5 => ⟨S4x128, .f32⟩
  | 6 => ⟨S4x128, .f32⟩
  | 7 => ⟨S4x128x128, .f32⟩
  | 8 => ⟨S4x128, .f32⟩
  | 9 => ⟨S8192x1024, .f32⟩
  | 10 => ⟨S8192x512, .f32⟩
  | 11 => ⟨S8192x512, .f32⟩
  | 12 => ⟨S8192x512, .f32⟩
  | 13 => ⟨S8192x512, .f32⟩
  | 14 => ⟨S_, .f32⟩
  | 15 => ⟨S8192x512, .f32⟩
  | 16 => ⟨S8192x512, .f32⟩
  | 17 => ⟨S_, .f32⟩
  | 18 => ⟨S8192x512, .f32⟩
  | 19 => ⟨S8192x512, .f32⟩
  | 20 => ⟨S8192x512, .f32⟩
  | 21 => ⟨S2x4096x512, .f32⟩
  | 22 => ⟨S_, .f32⟩
  | 23 => ⟨S2x30x512, .f32⟩
  | 24 => ⟨S2x4126x512, .f32⟩
  | 25 => ⟨S_, .f32⟩
  | 26 => ⟨S2x4096x512, .f32⟩
  | 27 => ⟨S2x4096x512, .f32⟩
  | 28 => ⟨S1x512, .f32⟩
  | 29 => ⟨S512, .f32⟩
  | 30 => ⟨S1x1x512, .f32⟩
  | 31 => ⟨S2x4096x512, .f32⟩
  | 32 => ⟨S2x4096x512, .f32⟩
  | 33 => ⟨S2x4096x512, .f32⟩
  | 34 => ⟨S2x4096x512, .f32⟩
  | 35 => ⟨S1x512, .f32⟩
  | 36 => ⟨S512, .f32⟩
  | 37 => ⟨S1x1x512, .f32⟩
  | 38 => ⟨S2x4096x512, .f32⟩
  | 39 => ⟨S2x4096x512, .f32⟩
  | 40 => ⟨S2x4096x512, .f32⟩
  | 41 => ⟨S2x4096x512, .f32⟩
  | 42 => ⟨S1x512, .f32⟩
  | 43 => ⟨S512, .f32⟩
  | 44 => ⟨S1x1x512, .f32⟩
  | 45 => ⟨S2x4096x512, .f32⟩
  | 46 => ⟨S2x4096x512, .f32⟩
  | 47 => ⟨S2x4096x512, .f32⟩
  | 48 => ⟨S2x4096x512, .f32⟩
  | 49 => ⟨S1x512, .f32⟩
  | 50 => ⟨S512, .f32⟩
  | 51 => ⟨S1x1x512, .f32⟩
  | 52 => ⟨S2x4096x512, .f32⟩
  | 53 => ⟨S2x4096x512, .f32⟩
  | 54 => ⟨S2x4096x512, .f32⟩
  | 55 => ⟨S2x4096x512, .f32⟩
  | 56 => ⟨S1x512, .f32⟩
  | 57 => ⟨S512, .f32⟩
  | 58 => ⟨S1x1x512, .f32⟩
  | 59 => ⟨S2x4096x512, .f32⟩
  | 60 => ⟨S2x4096x512, .f32⟩
  | 61 => ⟨S2x4096x512, .f32⟩
  | 62 => ⟨S2x4096x512, .f32⟩
  | 63 => ⟨S1x512, .f32⟩
  | 64 => ⟨S512, .f32⟩
  | 65 => ⟨S1x1x512, .f32⟩
  | 66 => ⟨S2x4096x512, .f32⟩
  | 67 => ⟨S2x4096x512, .f32⟩
  | 68 => ⟨S2x4096x512, .f32⟩
  | 69 => ⟨S2x4096x512, .f32⟩
  | 70 => ⟨S1x512, .f32⟩
  | 71 => ⟨S512, .f32⟩
  | 72 => ⟨S1x1x512, .f32⟩
  | 73 => ⟨S2x4096x512, .f32⟩
  | 74 => ⟨S2x4096x512, .f32⟩
  | 75 => ⟨S2x4096x512, .f32⟩
  | 76 => ⟨S2x4096x512, .f32⟩
  | 77 => ⟨S1x512, .f32⟩
  | 78 => ⟨S512, .f32⟩
  | 79 => ⟨S1x1x512, .f32⟩
  | 80 => ⟨S2x4096x512, .f32⟩
  | 81 => ⟨S2x4096x512, .f32⟩
  | 82 => ⟨S2x4096x512, .f32⟩
  | 83 => ⟨S2x4096x512, .f32⟩
  | 84 => ⟨S1x512, .f32⟩
  | 85 => ⟨S512, .f32⟩
  | 86 => ⟨S1x1x512, .f32⟩
  | 87 => ⟨S2x4096x512, .f32⟩
  | 88 => ⟨S2x4096x512, .f32⟩
  | 89 => ⟨S2x4096x512, .f32⟩
  | 90 => ⟨S2x4096x512, .f32⟩
  | 91 => ⟨S1x512, .f32⟩
  | 92 => ⟨S512, .f32⟩
  | 93 => ⟨S1x1x512, .f32⟩
  | 94 => ⟨S2x4096x512, .f32⟩
  | 95 => ⟨S2x4096x512, .f32⟩
  | 96 => ⟨S2x4096x512, .f32⟩
  | 97 => ⟨S2x4096x512, .f32⟩
  | 98 => ⟨S1x512, .f32⟩
  | 99 => ⟨S512, .f32⟩
  | 100 => ⟨S1x1x512, .f32⟩
  | 101 => ⟨S2x4096x512, .f32⟩
  | 102 => ⟨S2x4096x512, .f32⟩
  | 103 => ⟨S2x4096x512, .f32⟩
  | 104 => ⟨S2x4096x512, .f32⟩
  | 105 => ⟨S1x512, .f32⟩
  | 106 => ⟨S512, .f32⟩
  | 107 => ⟨S1x1x512, .f32⟩
  | 108 => ⟨S2x4096x512, .f32⟩
  | 109 => ⟨S2x4096x512, .f32⟩
  | 110 => ⟨S2x4096x512, .f32⟩
  | 111 => ⟨S2x4096x512, .f32⟩
  | 112 => ⟨S1x512, .f32⟩
  | 113 => ⟨S512, .f32⟩
  | 114 => ⟨S1x1x512, .f32⟩
  | 115 => ⟨S2x4096x512, .f32⟩
  | 116 => ⟨S2x4096x512, .f32⟩
  | 117 => ⟨S2x4096x512, .f32⟩
  | 118 => ⟨S2x4096x512, .f32⟩
  | 119 => ⟨S1x512, .f32⟩
  | 120 => ⟨S512, .f32⟩
  | 121 => ⟨S1x1x512, .f32⟩
  | 122 => ⟨S2x4096x512, .f32⟩
  | 123 => ⟨S2x4096x512, .f32⟩
  | 124 => ⟨S2x4096x512, .f32⟩
  | 125 => ⟨S2x4096x512, .f32⟩
  | 126 => ⟨S1x512, .f32⟩
  | 127 => ⟨S512, .f32⟩
  | _ => ⟨S8192x2048, .f32⟩

abbrev hbmTy0_1 (i : Nat) : BufTy := match i % 128 with
  | 0 => ⟨S1x1x512, .f32⟩
  | 1 => ⟨S2x4096x512, .f32⟩
  | 2 => ⟨S2x4096x512, .f32⟩
  | 3 => ⟨S2x4096x512, .f32⟩
  | 4 => ⟨S2x4096x512, .f32⟩
  | 5 => ⟨S1x512, .f32⟩
  | 6 => ⟨S512, .f32⟩
  | 7 => ⟨S1x1x512, .f32⟩
  | 8 => ⟨S2x4096x512, .f32⟩
  | 9 => ⟨S2x4096x512, .f32⟩
  | 10 => ⟨S2x4096x512, .f32⟩
  | 11 => ⟨S2x4096x512, .f32⟩
  | 12 => ⟨S1x512, .f32⟩
  | 13 => ⟨S512, .f32⟩
  | 14 => ⟨S1x1x512, .f32⟩
  | 15 => ⟨S2x4096x512, .f32⟩
  | 16 => ⟨S2x4096x512, .f32⟩
  | 17 => ⟨S2x4096x512, .f32⟩
  | 18 => ⟨S2x4096x512, .f32⟩
  | 19 => ⟨S1x512, .f32⟩
  | 20 => ⟨S512, .f32⟩
  | 21 => ⟨S1x1x512, .f32⟩
  | 22 => ⟨S2x4096x512, .f32⟩
  | 23 => ⟨S2x4096x512, .f32⟩
  | 24 => ⟨S2x4096x512, .f32⟩
  | 25 => ⟨S2x4096x512, .f32⟩
  | 26 => ⟨S1x512, .f32⟩
  | 27 => ⟨S512, .f32⟩
  | 28 => ⟨S1x1x512, .f32⟩
  | 29 => ⟨S2x4096x512, .f32⟩
  | 30 => ⟨S2x4096x512, .f32⟩
  | 31 => ⟨S2x4096x512, .f32⟩
  | 32 => ⟨S2x4096x512, .f32⟩
  | 33 => ⟨S1x512, .f32⟩
  | 34 => ⟨S512, .f32⟩
  | 35 => ⟨S1x1x512, .f32⟩
  | 36 => ⟨S2x4096x512, .f32⟩
  | 37 => ⟨S2x4096x512, .f32⟩
  | 38 => ⟨S2x4096x512, .f32⟩
  | 39 => ⟨S2x4096x512, .f32⟩
  | 40 => ⟨S1x512, .f32⟩
  | 41 => ⟨S512, .f32⟩
  | 42 => ⟨S1x1x512, .f32⟩
  | 43 => ⟨S2x4096x512, .f32⟩
  | 44 => ⟨S2x4096x512, .f32⟩
  | 45 => ⟨S2x4096x512, .f32⟩
  | 46 => ⟨S2x4096x512, .f32⟩
  | 47 => ⟨S1x512, .f32⟩
  | 48 => ⟨S512, .f32⟩
  | 49 => ⟨S1x1x512, .f32⟩
  | 50 => ⟨S2x4096x512, .f32⟩
  | 51 => ⟨S2x4096x512, .f32⟩
  | 52 => ⟨S2x4096x512, .f32⟩
  | 53 => ⟨S2x4096x512, .f32⟩
  | 54 => ⟨S1x512, .f32⟩
  | 55 => ⟨S512, .f32⟩
  | 56 => ⟨S1x1x512, .f32⟩
  | 57 => ⟨S2x4096x512, .f32⟩
  | 58 => ⟨S2x4096x512, .f32⟩
  | 59 => ⟨S2x4096x512, .f32⟩
  | 60 => ⟨S2x4096x512, .f32⟩
  | 61 => ⟨S1x512, .f32⟩
  | 62 => ⟨S512, .f32⟩
  | 63 => ⟨S1x1x512, .f32⟩
  | 64 => ⟨S2x4096x512, .f32⟩
  | 65 => ⟨S2x4096x512, .f32⟩
  | 66 => ⟨S2x4096x512, .f32⟩
  | 67 => ⟨S2x4096x512, .f32⟩
  | 68 => ⟨S1x512, .f32⟩
  | 69 => ⟨S512, .f32⟩
  | 70 => ⟨S1x1x512, .f32⟩
  | 71 => ⟨S2x4096x512, .f32⟩
  | 72 => ⟨S2x4096x512, .f32⟩
  | 73 => ⟨S2x4096x512, .f32⟩
  | 74 => ⟨S2x4096x512, .f32⟩
  | 75 => ⟨S1x512, .f32⟩
  | 76 => ⟨S512, .f32⟩
  | 77 => ⟨S1x1x512, .f32⟩
  | 78 => ⟨S2x4096x512, .f32⟩
  | 79 => ⟨S2x4096x512, .f32⟩
  | 80 => ⟨S2x4096x512, .f32⟩
  | 81 => ⟨S2x4096x512, .f32⟩
  | 82 => ⟨S1x512, .f32⟩
  | 83 => ⟨S512, .f32⟩
  | 84 => ⟨S1x1x512, .f32⟩
  | 85 => ⟨S2x4096x512, .f32⟩
  | 86 => ⟨S2x4096x512, .f32⟩
  | 87 => ⟨S2x4096x512, .f32⟩
  | 88 => ⟨S2x4096x512, .f32⟩
  | 89 => ⟨S1x512, .f32⟩
  | 90 => ⟨S512, .f32⟩
  | 91 => ⟨S1x1x512, .f32⟩
  | 92 => ⟨S2x4096x512, .f32⟩
  | 93 => ⟨S2x4096x512, .f32⟩
  | 94 => ⟨S2x4096x512, .f32⟩
  | 95 => ⟨S2x4096x512, .f32⟩
  | 96 => ⟨S1x512, .f32⟩
  | 97 => ⟨S512, .f32⟩
  | 98 => ⟨S1x1x512, .f32⟩
  | 99 => ⟨S2x4096x512, .f32⟩
  | 100 => ⟨S2x4096x512, .f32⟩
  | 101 => ⟨S2x4096x512, .f32⟩
  | 102 => ⟨S2x4096x512, .f32⟩
  | 103 => ⟨S1x512, .f32⟩
  | 104 => ⟨S512, .f32⟩
  | 105 => ⟨S1x1x512, .f32⟩
  | 106 => ⟨S2x4096x512, .f32⟩
  | 107 => ⟨S2x4096x512, .f32⟩
  | 108 => ⟨S2x4096x512, .f32⟩
  | 109 => ⟨S2x4096x512, .f32⟩
  | 110 => ⟨S1x512, .f32⟩
  | 111 => ⟨S512, .f32⟩
  | 112 => ⟨S1x1x512, .f32⟩
  | 113 => ⟨S2x4096x512, .f32⟩
  | 114 => ⟨S2x4096x512, .f32⟩
  | 115 => ⟨S2x4096x512, .f32⟩
  | 116 => ⟨S1x1x512, .f32⟩
  | 117 => ⟨S2x4096x512, .f32⟩
  | 118 => ⟨S2x4096x512, .f32⟩
  | 119 => ⟨S8192x512, .f32⟩
  | 120 => ⟨S_, .i1⟩
  | 121 => ⟨S128x128, .i1⟩
  | 122 => ⟨S128x128, .i32⟩
  | 123 => ⟨S_, .i32⟩
  | 124 => ⟨S128x128, .i32⟩
  | 125 => ⟨S128x128, .i32⟩
  | 126 => ⟨S128x128, .i32⟩
  | 127 => ⟨S128x128, .i1⟩
  | _ => ⟨S8192x2048, .f32⟩

abbrev hbmTy0_2 (i : Nat) : BufTy := match i % 128 with
  | 0 => ⟨S_, .i1⟩
  | 1 => ⟨S128x128, .i1⟩
  | 2 => ⟨S128x128, .i1⟩
  | 3 => ⟨S1x128x128, .i1⟩
  | 4 => ⟨S_, .f32⟩
  | 5 => ⟨S_, .f32⟩
  | 6 => ⟨S4x128x128, .i1⟩
  | 7 => ⟨S4x128x128, .f32⟩
  | 8 => ⟨S4x128x128, .f32⟩
  | 9 => ⟨S4x128x128, .bf16⟩
  | 10 => ⟨S4x128x128, .bf16⟩
  | 11 => ⟨S128x4, .f32⟩
  | 12 => ⟨S128x4x128, .f32⟩
  | 13 => ⟨S128x512, .f32⟩
  | 14 => ⟨S1x512, .f32⟩
  | 15 => ⟨S1x512, .f32⟩
  | 16 => ⟨S1x512, .f32⟩
  | 17 => ⟨S1x512, .f32⟩
  | 18 => ⟨S8192x512, .f32⟩
  | 19 => ⟨S8192x1024, .bf16⟩
  | 20 => ⟨S1x512, .f32⟩
  | 21 => ⟨S1x512, .f32⟩
  | 22 => ⟨S1x512, .f32⟩
  | 23 => ⟨S1x512, .f32⟩
  | 24 => ⟨S4x128x128, .f32⟩
  | 25 => ⟨S128x4, .f32⟩
  | _ => ⟨S8192x2048, .f32⟩

abbrev hbmTy (i : Nat) : BufTy := match i / 128 with
  | 0 => hbmTy0_0 i
  | 1 => hbmTy0_1 i
  | 2 => hbmTy0_2 i
  | _ => ⟨S8192x2048, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S4x128x128, .bf16⟩
  | .local _ .vmem, ⟨13, _⟩ => ⟨S4x128x128, .bf16⟩
  | .local _ .vmem, ⟨14, _⟩ => ⟨S128x512, .f32⟩
  | .local _ .vmem, ⟨15, _⟩ => ⟨S512x512, .f32⟩
  | .local _ .vmem, ⟨16, _⟩ => ⟨S512x512, .f32⟩
  | .local _ .vmem, ⟨17, _⟩ => ⟨S512x1024, .bf16⟩
  | .local _ .vmem, ⟨18, _⟩ => ⟨S512x1024, .bf16⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S4x128x128, .f32⟩
  | .local _ .vmem, ⟨24, _⟩ => ⟨S128x4, .f32⟩
  | .local _ .vmem, ⟨25, _⟩ => ⟨S512x128, .f32⟩
  | .local _ .vmem, ⟨26, _⟩ => ⟨S128x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_v229 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_v233 : Ref sig .tc := ⟨.hbm, 247, rfl⟩
abbrev main_c : Ref sig .tc := ⟨.hbm, 248, rfl⟩
abbrev main_v234 : Ref sig .tc := ⟨.hbm, 249, rfl⟩
abbrev main_call0_v0 : Ref sig .tc := ⟨.hbm, 250, rfl⟩
abbrev main_call0_c : Ref sig .tc := ⟨.hbm, 251, rfl⟩
abbrev main_call0_v1 : Ref sig .tc := ⟨.hbm, 252, rfl⟩
abbrev main_call0_v2 : Ref sig .tc := ⟨.hbm, 253, rfl⟩
abbrev main_call0_v3 : Ref sig .tc := ⟨.hbm, 254, rfl⟩
abbrev main_call0_v4 : Ref sig .tc := ⟨.hbm, 255, rfl⟩
abbrev main_call0_c_0 : Ref sig .tc := ⟨.hbm, 256, rfl⟩
abbrev main_call0_v5 : Ref sig .tc := ⟨.hbm, 257, rfl⟩
abbrev main_v235 : Ref sig .tc := ⟨.hbm, 258, rfl⟩
abbrev main_v236 : Ref sig .tc := ⟨.hbm, 259, rfl⟩
abbrev main_cst_3 : Ref sig .tc := ⟨.hbm, 260, rfl⟩
abbrev main_call1_v0 : Ref sig .tc := ⟨.hbm, 261, rfl⟩
abbrev main_call1_v1 : Ref sig .tc := ⟨.hbm, 262, rfl⟩
abbrev main_call1_v2 : Ref sig .tc := ⟨.hbm, 263, rfl⟩
abbrev main_v237 : Ref sig .tc := ⟨.hbm, 264, rfl⟩
abbrev main_v238 : Ref sig .tc := ⟨.hbm, 265, rfl⟩
abbrev main_v239 : Ref sig .tc := ⟨.hbm, 266, rfl⟩
abbrev main_v240 : Ref sig .tc := ⟨.hbm, 267, rfl⟩
abbrev main_v241 : Ref sig .tc := ⟨.hbm, 268, rfl⟩
abbrev main_v242 : Ref sig .tc := ⟨.hbm, 269, rfl⟩
abbrev main_v243 : Ref sig .tc := ⟨.hbm, 270, rfl⟩
abbrev main_v244 : Ref sig .tc := ⟨.hbm, 271, rfl⟩
abbrev main_v245 : Ref sig .tc := ⟨.hbm, 272, rfl⟩
abbrev main_v246 : Ref sig .tc := ⟨.hbm, 273, rfl⟩
abbrev main_v247_0 : Ref sig .tc := ⟨.hbm, 274, rfl⟩
abbrev main_v247_1 : Ref sig .tc := ⟨.hbm, 275, rfl⟩
abbrev main_v247_2 : Ref sig .tc := ⟨.hbm, 276, rfl⟩
abbrev main_v247_3 : Ref sig .tc := ⟨.hbm, 277, rfl⟩
abbrev main_v247_4 : Ref sig .tc := ⟨.hbm, 278, rfl⟩
abbrev main_v247_5 : Ref sig .tc := ⟨.hbm, 279, rfl⟩
abbrev main_v247_6 : Ref sig .tc := ⟨.hbm, 280, rfl⟩
abbrev main_v247_7 : Ref sig .tc := ⟨.hbm, 281, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let arg1 : BitVec 32 := BitVec.ofNat 32 (i 1).val
  let c7_i32 : BitVec 32 := 7#32
  let v4 : BitVec 1 := Scalar.cmpi .eq arg1 c7_i32
  let v5 : BitVec 1 := Scalar.andi v3 v4
  let v884 : BitVec 32 := Scalar.extui v5
  let c0_i32_620 : BitVec 32 := 0#32
  let v885 : BitVec 1 := Scalar.cmpi .ne v884 c0_i32_620
  v885

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S4x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S128x4 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== RowsRefIdeal.lean ====
abbrev S8192x2048 : Shape := ⟨2, ![8192, 2048]⟩
abbrev S31x512 : Shape := ⟨2, ![31, 512]⟩
abbrev S512 : Shape := ⟨1, ![512]⟩
abbrev S4x128 : Shape := ⟨2, ![4, 128]⟩
abbrev S4x128x128 : Shape := ⟨3, ![4, 128, 128]⟩
abbrev S8192x1024 : Shape := ⟨2, ![8192, 1024]⟩
abbrev S8192x512 : Shape := ⟨2, ![8192, 512]⟩
abbrev S_ : Shape := ⟨0, ![]⟩
abbrev S2x4096x512 : Shape := ⟨3, ![2, 4096, 512]⟩
abbrev S2x30x512 : Shape := ⟨3, ![2, 30, 512]⟩
abbrev S2x4126x512 : Shape := ⟨3, ![2, 4126, 512]⟩
abbrev S1x512 : Shape := ⟨2, ![1, 512]⟩
abbrev S1x1x512 : Shape := ⟨3, ![1, 1, 512]⟩
abbrev S8192 : Shape := ⟨1, ![8192]⟩
abbrev S8192x1 : Shape := ⟨2, ![8192, 1]⟩
abbrev S8192x4x128 : Shape := ⟨3, ![8192, 4, 128]⟩
abbrev S8192x4 : Shape := ⟨2, ![8192, 4]⟩
abbrev S8192x4x1 : Shape := ⟨3, ![8192, 4, 1]⟩
abbrev S1x4x128 : Shape := ⟨3, ![1, 4, 128]⟩
abbrev S64x128x4x128 : Shape := ⟨4, ![64, 128, 4, 128]⟩
abbrev S128x128 : Shape := ⟨2, ![128, 128]⟩
abbrev S1x128x128 : Shape := ⟨3, ![1, 128, 128]⟩
abbrev S4x64x128x128 : Shape := ⟨4, ![4, 64, 128, 128]⟩
abbrev S128x4 : Shape := ⟨2, ![128, 4]⟩
abbrev S128x4x1 : Shape := ⟨3, ![128, 4, 1]⟩
abbrev S1x128x4x1 : Shape := ⟨4, ![1, 128, 4, 1]⟩

abbrev nBuf : Space → Nat
  | .hbm => 477
  | .vmem => 0
  | .smem => 0
  | _ => 0

abbrev hbmTy0_0 (i : Nat) : BufTy := match i % 128 with
  | 0 => ⟨S8192x2048, .f32⟩
  | 1 => ⟨S31x512, .f32⟩
  | 2 => ⟨S512, .f32⟩
  | 3 => ⟨S512, .f32⟩
  | 4 => ⟨S512, .f32⟩
  | 5 => ⟨S4x128, .f32⟩
  | 6 => ⟨S4x128, .f32⟩
  | 7 => ⟨S4x128x128, .f32⟩
  | 8 => ⟨S4x128, .f32⟩
  | 9 => ⟨S8192x1024, .f32⟩
  | 10 => ⟨S8192x512, .f32⟩
  | 11 => ⟨S8192x512, .f32⟩
  | 12 => ⟨S8192x512, .f32⟩
  | 13 => ⟨S8192x512, .f32⟩
  | 14 => ⟨S_, .f32⟩
  | 15 => ⟨S8192x512, .f32⟩
  | 16 => ⟨S8192x512, .f32⟩
  | 17 => ⟨S_, .f32⟩
  | 18 => ⟨S8192x512, .f32⟩
  | 19 => ⟨S8192x512, .f32⟩
  | 20 => ⟨S8192x512, .f32⟩
  | 21 => ⟨S2x4096x512, .f32⟩
  | 22 => ⟨S_, .f32⟩
  | 23 => ⟨S2x30x512, .f32⟩
  | 24 => ⟨S2x4126x512, .f32⟩
  | 25 => ⟨S_, .f32⟩
  | 26 => ⟨S2x4096x512, .f32⟩
  | 27 => ⟨S2x4096x512, .f32⟩
  | 28 => ⟨S1x512, .f32⟩
  | 29 => ⟨S512, .f32⟩
  | 30 => ⟨S1x1x512, .f32⟩
  | 31 => ⟨S2x4096x512, .f32⟩
  | 32 => ⟨S2x4096x512, .f32⟩
  | 33 => ⟨S2x4096x512, .f32⟩
  | 34 => ⟨S2x4096x512, .f32⟩
  | 35 => ⟨S1x512, .f32⟩
  | 36 => ⟨S512, .f32⟩
  | 37 => ⟨S1x1x512, .f32⟩
  | 38 => ⟨S2x4096x512, .f32⟩
  | 39 => ⟨S2x4096x512, .f32⟩
  | 40 => ⟨S2x4096x512, .f32⟩
  | 41 => ⟨S2x4096x512, .f32⟩
  | 42 => ⟨S1x512, .f32⟩
  | 43 => ⟨S512, .f32⟩
  | 44 => ⟨S1x1x512, .f32⟩
  | 45 => ⟨S2x4096x512, .f32⟩
  | 46 => ⟨S2x4096x512, .f32⟩
  | 47 => ⟨S2x4096x512, .f32⟩
  | 48 => ⟨S2x4096x512, .f32⟩
  | 49 => ⟨S1x512, .f32⟩
  | 50 => ⟨S512, .f32⟩
  | 51 => ⟨S1x1x512, .f32⟩
  | 52 => ⟨S2x4096x512, .f32⟩
  | 53 => ⟨S2x4096x512, .f32⟩
  | 54 => ⟨S2x4096x512, .f32⟩
  | 55 => ⟨S2x4096x512, .f32⟩
  | 56 => ⟨S1x512, .f32⟩
  | 57 => ⟨S512, .f32⟩
  | 58 => ⟨S1x1x512, .f32⟩
  | 59 => ⟨S2x4096x512, .f32⟩
  | 60 => ⟨S2x4096x512, .f32⟩
  | 61 => ⟨S2x4096x512, .f32⟩
  | 62 => ⟨S2x4096x512, .f32⟩
  | 63 => ⟨S1x512, .f32⟩
  | 64 => ⟨S512, .f32⟩
  | 65 => ⟨S1x1x512, .f32⟩
  | 66 => ⟨S2x4096x512, .f32⟩
  | 67 => ⟨S2x4096x512, .f32⟩
  | 68 => ⟨S2x4096x512, .f32⟩
  | 69 => ⟨S2x4096x512, .f32⟩
  | 70 => ⟨S1x512, .f32⟩
  | 71 => ⟨S512, .f32⟩
  | 72 => ⟨S1x1x512, .f32⟩
  | 73 => ⟨S2x4096x512, .f32⟩
  | 74 => ⟨S2x4096x512, .f32⟩
  | 75 => ⟨S2x4096x512, .f32⟩
  | 76 => ⟨S2x4096x512, .f32⟩
  | 77 => ⟨S1x512, .f32⟩
  | 78 => ⟨S512, .f32⟩
  | 79 => ⟨S1x1x512, .f32⟩
  | 80 => ⟨S2x4096x512, .f32⟩
  | 81 => ⟨S2x4096x512, .f32⟩
  | 82 => ⟨S2x4096x512, .f32⟩
  | 83 => ⟨S2x4096x512, .f32⟩
  | 84 => ⟨S1x512, .f32⟩
  | 85 => ⟨S512, .f32⟩
  | 86 => ⟨S1x1x512, .f32⟩
  | 87 => ⟨S2x4096x512, .f32⟩
  | 88 => ⟨S2x4096x512, .f32⟩
  | 89 => ⟨S2x4096x512, .f32⟩
  | 90 => ⟨S2x4096x512, .f32⟩
  | 91 => ⟨S1x512, .f32⟩
  | 92 => ⟨S512, .f32⟩
  | 93 => ⟨S1x1x512, .f32⟩
  | 94 => ⟨S2x4096x512, .f32⟩
  | 95 => ⟨S2x4096x512, .f32⟩
  | 96 => ⟨S2x4096x512, .f32⟩
  | 97 => ⟨S2x4096x512, .f32⟩
  | 98 => ⟨S1x512, .f32⟩
  | 99 => ⟨S512, .f32⟩
  | 100 => ⟨S1x1x512, .f32⟩
  | 101 => ⟨S2x4096x512, .f32⟩
  | 102 => ⟨S2x4096x512, .f32⟩
  | 103 => ⟨S2x4096x512, .f32⟩
  | 104 => ⟨S2x4096x512, .f32⟩
  | 105 => ⟨S1x512, .f32⟩
  | 106 => ⟨S512, .f32⟩
  | 107 => ⟨S1x1x512, .f32⟩
  | 108 => ⟨S2x4096x512, .f32⟩
  | 109 => ⟨S2x4096x512, .f32⟩
  | 110 => ⟨S2x4096x512, .f32⟩
  | 111 => ⟨S2x4096x512, .f32⟩
  | 112 => ⟨S1x512, .f32⟩
  | 113 => ⟨S512, .f32⟩
  | 114 => ⟨S1x1x512, .f32⟩
  | 115 => ⟨S2x4096x512, .f32⟩
  | 116 => ⟨S2x4096x512, .f32⟩
  | 117 => ⟨S2x4096x512, .f32⟩
  | 118 => ⟨S2x4096x512, .f32⟩
  | 119 => ⟨S1x512, .f32⟩
  | 120 => ⟨S512, .f32⟩
  | 121 => ⟨S1x1x512, .f32⟩
  | 122 => ⟨S2x4096x512, .f32⟩
  | 123 => ⟨S2x4096x512, .f32⟩
  | 124 => ⟨S2x4096x512, .f32⟩
  | 125 => ⟨S2x4096x512, .f32⟩
  | 126 => ⟨S1x512, .f32⟩
  | 127 => ⟨S512, .f32⟩
  | _ => ⟨S8192x2048, .f32⟩

abbrev hbmTy0_1 (i : Nat) : BufTy := match i % 128 with
  | 0 => ⟨S1x1x512, .f32⟩
  | 1 => ⟨S2x4096x512, .f32⟩
  | 2 => ⟨S2x4096x512, .f32⟩
  | 3 => ⟨S2x4096x512, .f32⟩
  | 4 => ⟨S2x4096x512, .f32⟩
  | 5 => ⟨S1x512, .f32⟩
  | 6 => ⟨S512, .f32⟩
  | 7 => ⟨S1x1x512, .f32⟩
  | 8 => ⟨S2x4096x512, .f32⟩
  | 9 => ⟨S2x4096x512, .f32⟩
  | 10 => ⟨S2x4096x512, .f32⟩
  | 11 => ⟨S2x4096x512, .f32⟩
  | 12 => ⟨S1x512, .f32⟩
  | 13 => ⟨S512, .f32⟩
  | 14 => ⟨S1x1x512, .f32⟩
  | 15 => ⟨S2x4096x512, .f32⟩
  | 16 => ⟨S2x4096x512, .f32⟩
  | 17 => ⟨S2x4096x512, .f32⟩
  | 18 => ⟨S2x4096x512, .f32⟩
  | 19 => ⟨S1x512, .f32⟩
  | 20 => ⟨S512, .f32⟩
  | 21 => ⟨S1x1x512, .f32⟩
  | 22 => ⟨S2x4096x512, .f32⟩
  | 23 => ⟨S2x4096x512, .f32⟩
  | 24 => ⟨S2x4096x512, .f32⟩
  | 25 => ⟨S2x4096x512, .f32⟩
  | 26 => ⟨S1x512, .f32⟩
  | 27 => ⟨S512, .f32⟩
  | 28 => ⟨S1x1x512, .f32⟩
  | 29 => ⟨S2x4096x512, .f32⟩
  | 30 => ⟨S2x4096x512, .f32⟩
  | 31 => ⟨S2x4096x512, .f32⟩
  | 32 => ⟨S2x4096x512, .f32⟩
  | 33 => ⟨S1x512, .f32⟩
  | 34 => ⟨S512, .f32⟩
  | 35 => ⟨S1x1x512, .f32⟩
  | 36 => ⟨S2x4096x512, .f32⟩
  | 37 => ⟨S2x4096x512, .f32⟩
  | 38 => ⟨S2x4096x512, .f32⟩
  | 39 => ⟨S2x4096x512, .f32⟩
  | 40 => ⟨S1x512, .f32⟩
  | 41 => ⟨S512, .f32⟩
  | 42 => ⟨S1x1x512, .f32⟩
  | 43 => ⟨S2x4096x512, .f32⟩
  | 44 => ⟨S2x4096x512, .f32⟩
  | 45 => ⟨S2x4096x512, .f32⟩
  | 46 => ⟨S2x4096x512, .f32⟩
  | 47 => ⟨S1x512, .f32⟩
  | 48 => ⟨S512, .f32⟩
  | 49 => ⟨S1x1x512, .f32⟩
  | 50 => ⟨S2x4096x512, .f32⟩
  | 51 => ⟨S2x4096x512, .f32⟩
  | 52 => ⟨S2x4096x512, .f32⟩
  | 53 => ⟨S2x4096x512, .f32⟩
  | 54 => ⟨S1x512, .f32⟩
  | 55 => ⟨S512, .f32⟩
  | 56 => ⟨S1x1x512, .f32⟩
  | 57 => ⟨S2x4096x512, .f32⟩
  | 58 => ⟨S2x4096x512, .f32⟩
  | 59 => ⟨S2x4096x512, .f32⟩
  | 60 => ⟨S2x4096x512, .f32⟩
  | 61 => ⟨S1x512, .f32⟩
  | 62 => ⟨S512, .f32⟩
  | 63 => ⟨S1x1x512, .f32⟩
  | 64 => ⟨S2x4096x512, .f32⟩
  | 65 => ⟨S2x4096x512, .f32⟩
  | 66 => ⟨S2x4096x512, .f32⟩
  | 67 => ⟨S2x4096x512, .f32⟩
  | 68 => ⟨S1x512, .f32⟩
  | 69 => ⟨S512, .f32⟩
  | 70 => ⟨S1x1x512, .f32⟩
  | 71 => ⟨S2x4096x512, .f32⟩
  | 72 => ⟨S2x4096x512, .f32⟩
  | 73 => ⟨S2x4096x512, .f32⟩
  | 74 => ⟨S2x4096x512, .f32⟩
  | 75 => ⟨S1x512, .f32⟩
  | 76 => ⟨S512, .f32⟩
  | 77 => ⟨S1x1x512, .f32⟩
  | 78 => ⟨S2x4096x512, .f32⟩
  | 79 => ⟨S2x4096x512, .f32⟩
  | 80 => ⟨S2x4096x512, .f32⟩
  | 81 => ⟨S2x4096x512, .f32⟩
  | 82 => ⟨S1x512, .f32⟩
  | 83 => ⟨S512, .f32⟩
  | 84 => ⟨S1x1x512, .f32⟩
  | 85 => ⟨S2x4096x512, .f32⟩
  | 86 => ⟨S2x4096x512, .f32⟩
  | 87 => ⟨S2x4096x512, .f32⟩
  | 88 => ⟨S2x4096x512, .f32⟩
  | 89 => ⟨S1x512, .f32⟩
  | 90 => ⟨S512, .f32⟩
  | 91 => ⟨S1x1x512, .f32⟩
  | 92 => ⟨S2x4096x512, .f32⟩
  | 93 => ⟨S2x4096x512, .f32⟩
  | 94 => ⟨S2x4096x512, .f32⟩
  | 95 => ⟨S2x4096x512, .f32⟩
  | 96 => ⟨S1x512, .f32⟩
  | 97 => ⟨S512, .f32⟩
  | 98 => ⟨S1x1x512, .f32⟩
  | 99 => ⟨S2x4096x512, .f32⟩
  | 100 => ⟨S2x4096x512, .f32⟩
  | 101 => ⟨S2x4096x512, .f32⟩
  | 102 => ⟨S2x4096x512, .f32⟩
  | 103 => ⟨S1x512, .f32⟩
  | 104 => ⟨S512, .f32⟩
  | 105 => ⟨S1x1x512, .f32⟩
  | 106 => ⟨S2x4096x512, .f32⟩
  | 107 => ⟨S2x4096x512, .f32⟩
  | 108 => ⟨S2x4096x512, .f32⟩
  | 109 => ⟨S2x4096x512, .f32⟩
  | 110 => ⟨S1x512, .f32⟩
  | 111 => ⟨S512, .f32⟩
  | 112 => ⟨S1x1x512, .f32⟩
  | 113 => ⟨S2x4096x512, .f32⟩
  | 114 => ⟨S2x4096x512, .f32⟩
  | 115 => ⟨S2x4096x512, .f32⟩
  | 116 => ⟨S1x1x512, .f32⟩
  | 117 => ⟨S2x4096x512, .f32⟩
  | 118 => ⟨S2x4096x512, .f32⟩
  | 119 => ⟨S8192x512, .f32⟩
  | 120 => ⟨S8192x1024, .f32⟩
  | 121 => ⟨S_, .f32⟩
  | 122 => ⟨S8192, .f32⟩
  | 123 => ⟨S8192x1, .f32⟩
  | 124 => ⟨S_, .f32⟩
  | 125 => ⟨S8192x1, .f32⟩
  | 126 => ⟨S8192x1, .f32⟩
  | 127 => ⟨S8192x512, .f32⟩
  | _ => ⟨S8192x2048, .f32⟩

abbrev hbmTy0_2 (i : Nat) : BufTy := match i % 128 with
  | 0 => ⟨S8192x512, .f32⟩
  | 1 => ⟨S8192x512, .f32⟩
  | 2 => ⟨S_, .f32⟩
  | 3 => ⟨S8192, .f32⟩
  | 4 => ⟨S8192x1, .f32⟩
  | 5 => ⟨S_, .f32⟩
  | 6 => ⟨S8192x1, .f32⟩
  | 7 => ⟨S8192x1, .f32⟩
  | 8 => ⟨S_, .f32⟩
  | 9 => ⟨S8192x1, .f32⟩
  | 10 => ⟨S8192x1, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x512, .f32⟩
  | 17 => ⟨S8192x512, .f32⟩
  | 18 => ⟨S1x512, .f32⟩
  | 19 => ⟨S8192x512, .f32⟩
  | 20 => ⟨S8192x512, .f32⟩
  | 21 => ⟨S1x512, .f32⟩
  | 22 => ⟨S8192x512, .f32⟩
  | 23 => ⟨S8192x512, .f32⟩
  | 24 => ⟨S8192x512, .f32⟩
  | 25 => ⟨S8192x512, .f32⟩
  | 26 => ⟨S_, .f32⟩
  | 27 => ⟨S8192x512, .f32⟩
  | 28 => ⟨S8192x512, .f32⟩
  | 29 => ⟨S_, .f32⟩
  | 30 => ⟨S8192x512, .f32⟩
  | 31 => ⟨S8192x512, .f32⟩
  | 32 => ⟨S_, .f32⟩
  | 33 => ⟨S8192x512, .f32⟩
  | 34 => ⟨S8192x512, .f32⟩
  | 35 => ⟨S8192x512, .f32⟩
  | 36 => ⟨S8192x512, .f32⟩
  | 37 => ⟨S8192x512, .f32⟩
  | 38 => ⟨S8192x512, .f32⟩
  | 39 => ⟨S8192x4x128, .f32⟩
  | 40 => ⟨S_, .f32⟩
  | 41 => ⟨S8192x4, .f32⟩
  | 42 => ⟨S8192x4x1, .f32⟩
  | 43 => ⟨S_, .f32⟩
  | 44 => ⟨S8192x4x1, .f32⟩
  | 45 => ⟨S8192x4x1, .f32⟩
  | 46 => ⟨S8192x4x128, .f32⟩
  | 47 => ⟨S8192x4x128, .f32⟩
  | 48 => ⟨S8192x4x128, .f32⟩
  | 49 => ⟨S_, .f32⟩
  | 50 => ⟨S8192x4, .f32⟩
  | 51 => ⟨S8192x4x1, .f32⟩
  | 52 => ⟨S_, .f32⟩
  | 53 => ⟨S8192x4x1, .f32⟩
  | 54 => ⟨S8192x4x1, .f32⟩
  | 55 => ⟨S_, .f32⟩
  | 56 => ⟨S8192x4x1, .f32⟩
  | 57 => ⟨S8192x4x1, .f32⟩
  | 58 => ⟨S8192x4x1, .f32⟩
  | 59 => ⟨S8192x4x1, .f32⟩
  | 60 => ⟨S_, .f32⟩
  | 61 => ⟨S8192x4x1, .f32⟩
  | 62 => ⟨S8192x4x1, .f32⟩
  | 63 => ⟨S8192x4x128, .f32⟩
  | 64 => ⟨S8192x4x128, .f32⟩
  | 65 => ⟨S1x4x128, .f32⟩
  | 66 => ⟨S8192x4x128, .f32⟩
  | 67 => ⟨S8192x4x128, .f32⟩
  | 68 => ⟨S1x4x128, .f32⟩
  | 69 => ⟨S8192x4x128, .f32⟩
  | 70 => ⟨S8192x4x128, .f32⟩
  | 71 => ⟨S64x128x4x128, .f32⟩
  | 72 => ⟨S_, .i1⟩
  | 73 => ⟨S128x128, .i1⟩
  | 74 => ⟨S128x128, .i32⟩
  | 75 => ⟨S_, .i32⟩
  | 76 => ⟨S128x128, .i32⟩
  | 77 => ⟨S128x128, .i32⟩
  | 78 => ⟨S128x128, .i32⟩
  | 79 => ⟨S128x128, .i1⟩
  | 80 => ⟨S_, .i1⟩
  | 81 => ⟨S128x128, .i1⟩
  | 82 => ⟨S128x128, .i1⟩
  | 83 => ⟨S1x128x128, .i1⟩
  | 84 => ⟨S_, .f32⟩
  | 85 => ⟨S_, .f32⟩
  | 86 => ⟨S4x128x128, .i1⟩
  | 87 => ⟨S4x128x128, .f32⟩
  | 88 => ⟨S4x128x128, .f32⟩
  | 89 => ⟨S_, .f32⟩
  | 90 => ⟨S4x128x128, .f32⟩
  | 91 => ⟨S4x64x128x128, .f32⟩
  | 92 => ⟨S64x128x4x128, .f32⟩
  | 93 => ⟨S128x4, .f32⟩
  | 94 => ⟨S128x4x1, .f32⟩
  | 95 => ⟨S1x128x4x1, .f32⟩
  | 96 => ⟨S64x128x4x128, .f32⟩
  | 97 => ⟨S64x128x4x128, .f32⟩
  | 98 => ⟨S8192x512, .f32⟩
  | 99 => ⟨S8192x512, .f32⟩
  | 100 => ⟨S8192x1024, .f32⟩
  | 101 => ⟨S8192x512, .f32⟩
  | 102 => ⟨S8192x512, .f32⟩
  | 103 => ⟨S8192x512, .f32⟩
  | 104 => ⟨S8192x512, .f32⟩
  | 105 => ⟨S64x128x4x128, .f32⟩
  | 106 => ⟨S_, .f32⟩
  | 107 => ⟨S128x4, .f32⟩
  | 108 => ⟨S1x128x4x1, .f32⟩
  | 109 => ⟨S_, .f32⟩
  | 110 => ⟨S128x4, .f32⟩
  | 111 => ⟨S128x4x1, .f32⟩
  | 112 => ⟨S_, .f32⟩
  | 113 => ⟨S128x4, .f32⟩
  | 114 => ⟨S4x128, .f32⟩
  | 115 => ⟨S4x64x128x128, .f32⟩
  | 116 => ⟨S4x128x128, .f32⟩
  | 117 => ⟨S4x64x128x128, .f32⟩
  | 118 => ⟨S64x128x4x128, .f32⟩
  | 119 => ⟨S_, .f32⟩
  | 120 => ⟨S4x128x128, .f32⟩
  | 121 => ⟨S4x128x128, .f32⟩
  | 122 => ⟨S8192x4x128, .f32⟩
  | 123 => ⟨S_, .f32⟩
  | 124 => ⟨S4x128, .f32⟩
  | 125 => ⟨S1x4x128, .f32⟩
  | 126 => ⟨S_, .f32⟩
  | 127 => ⟨S4x128, .f32⟩
  | _ => ⟨S8192x2048, .f32⟩

abbrev hbmTy0_3 (i : Nat) : BufTy := match i % 128 with
  | 0 => ⟨S8192x4x128, .f32⟩
  | 1 => ⟨S_, .f32⟩
  | 2 => ⟨S4x128, .f32⟩
  | 3 => ⟨S1x4x128, .f32⟩
  | 4 => ⟨S8192x4x128, .f32⟩
  | 5 => ⟨S8192x4x128, .f32⟩
  | 6 => ⟨S_, .f32⟩
  | 7 => ⟨S4x128, .f32⟩
  | 8 => ⟨S8192x4x128, .f32⟩
  | 9 => ⟨S_, .f32⟩
  | 10 => ⟨S8192x4, .f32⟩
  | 11 => ⟨S8192x4x1, .f32⟩
  | 12 => ⟨S8192x4x128, .f32⟩
  | 13 => ⟨S8192x4x128, .f32⟩
  | 14 => ⟨S8192x4x1, .f32⟩
  | 15 => ⟨S_, .f32⟩
  | 16 => ⟨S8192x4x1, .f32⟩
  | 17 => ⟨S8192x4x1, .f32⟩
  | 18 => ⟨S_, .f32⟩
  | 19 => ⟨S8192x4, .f32⟩
  | 20 => ⟨S8192x4x128, .f32⟩
  | 21 => ⟨S8192x4x128, .f32⟩
  | 22 => ⟨S8192x4x128, .f32⟩
  | 23 => ⟨S8192x4x128, .f32⟩
  | 24 => ⟨S8192x4x128, .f32⟩
  | 25 => ⟨S8192x4x128, .f32⟩
  | 26 => ⟨S_, .f32⟩
  | 27 => ⟨S8192x4, .f32⟩
  | 28 => ⟨S8192x4x1, .f32⟩
  | 29 => ⟨S_, .f32⟩
  | 30 => ⟨S8192x4x1, .f32⟩
  | 31 => ⟨S8192x4x1, .f32⟩
  | 32 => ⟨S_, .f32⟩
  | 33 => ⟨S8192x4, .f32⟩
  | 34 => ⟨S8192x4x128, .f32⟩
  | 35 => ⟨S8192x4x128, .f32⟩
  | 36 => ⟨S8192x512, .f32⟩
  | 37 => ⟨S_, .f32⟩
  | 38 => ⟨S8192x1024, .f32⟩
  | 39 => ⟨S_, .f32⟩
  | 40 => ⟨S8192x1024, .f32⟩
  | 41 => ⟨S8192x1024, .f32⟩
  | 42 => ⟨S8192x512, .f32⟩
  | 43 => ⟨S8192x512, .f32⟩
  | 44 => ⟨S8192x512, .f32⟩
  | 45 => ⟨S8192x512, .f32⟩
  | 46 => ⟨S_, .f32⟩
  | 47 => ⟨S512, .f32⟩
  | 48 => ⟨S1x512, .f32⟩
  | 49 => ⟨S_, .f32⟩
  | 50 => ⟨S512, .f32⟩
  | 51 => ⟨S8192x512, .f32⟩
  | 52 => ⟨S_, .f32⟩
  | 53 => ⟨S512, .f32⟩
  | 54 => ⟨S1x512, .f32⟩
  | 55 => ⟨S8192x512, .f32⟩
  | 56 => ⟨S8192x512, .f32⟩
  | 57 => ⟨S_, .f32⟩
  | 58 => ⟨S512, .f32⟩
  | 59 => ⟨S8192x512, .f32⟩
  | 60 => ⟨S_, .f32⟩
  | 61 => ⟨S8192, .f32⟩
  | 62 => ⟨S8192x1, .f32⟩
  | 63 => ⟨S8192x512, .f32⟩
  | 64 => ⟨S8192x512, .f32⟩
  | 65 => ⟨S8192x1, .f32⟩
  | 66 => ⟨S_, .f32⟩
  | 67 => ⟨S8192x1, .f32⟩
  | 68 => ⟨S8192x1, .f32⟩
  | 69 => ⟨S_, .f32⟩
  | 70 => ⟨S8192, .f32⟩
  | 71 => ⟨S8192x512, .f32⟩
  | 72 => ⟨S8192x512, .f32⟩
  | 73 => ⟨S8192x512, .f32⟩
  | 74 => ⟨S8192x512, .f32⟩
  | 75 => ⟨S8192x512, .f32⟩
  | 76 => ⟨S8192x512, .f32⟩
  | 77 => ⟨S_, .f32⟩
  | 78 => ⟨S8192, .f32⟩
  | 79 => ⟨S8192x1, .f32⟩
  | 80 => ⟨S_, .f32⟩
  | 81 => ⟨S8192x1, .f32⟩
  | 82 => ⟨S8192x1, .f32⟩
  | 83 => ⟨S_, .f32⟩
  | 84 => ⟨S8192, .f32⟩
  | 85 => ⟨S8192x512, .f32⟩
  | 86 => ⟨S8192x512, .f32⟩
  | 87 => ⟨S8192x1024, .bf16⟩
  | 88 => ⟨S1x512, .f32⟩
  | 89 => ⟨S1x512, .f32⟩
  | 90 => ⟨S1x512, .f32⟩
  | 91 => ⟨S1x512, .f32⟩
  | 92 => ⟨S128x4, .f32⟩
  | _ => ⟨S8192x2048, .f32⟩

abbrev hbmTy (i : Nat) : BufTy := match i / 128 with
  | 0 => hbmTy0_0 i
  | 1 => hbmTy0_1 i
  | 2 => hbmTy0_2 i
  | 3 => hbmTy0_3 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_v229 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_v233 : Ref sig .tc := ⟨.hbm, 247, rfl⟩
abbrev main_v234 : Ref sig .tc := ⟨.hbm, 248, rfl⟩
abbrev main_cst_3 : Ref sig .tc := ⟨.hbm, 249, rfl⟩
abbrev main_v235 : Ref sig .tc := ⟨.hbm, 250, rfl⟩
abbrev main_v236 : Ref sig .tc := ⟨.hbm, 251, rfl⟩
abbrev main_cst_4 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_cst_5 : Ref sig .tc := ⟨.hbm, 258, rfl⟩
abbrev main_v242 : Ref sig .tc := ⟨.hbm, 259, rfl⟩
abbrev main_v243 : Ref sig .tc := ⟨.hbm, 260, rfl⟩
abbrev main_cst_6 : Ref sig .tc := ⟨.hbm, 261, rfl⟩
abbrev main_v244 : Ref sig .tc := ⟨.hbm, 262, rfl⟩
abbrev main_v245 : Ref sig .tc := ⟨.hbm, 263, rfl⟩
abbrev main_cst_7 : Ref sig .tc := ⟨.hbm, 264, rfl⟩
abbrev main_v246 : Ref sig .tc := ⟨.hbm, 265, rfl⟩
abbrev main_v247 : Ref sig .tc := ⟨.hbm, 266, rfl⟩
abbrev main_v248 : Ref sig .tc := ⟨.hbm, 267, rfl⟩
abbrev main_v249 : Ref sig .tc := ⟨.hbm, 268, rfl⟩
abbrev main_cst_8 : Ref sig .tc := ⟨.hbm, 269, rfl⟩
abbrev main_v250 : Ref sig .tc := ⟨.hbm, 270, rfl⟩
abbrev main_v251 : Ref sig .tc := ⟨.hbm, 271, rfl⟩
abbrev main_v252 : Ref sig .tc := ⟨.hbm, 272, rfl⟩
abbrev main_v253 : Ref sig .tc := ⟨.hbm, 273, rfl⟩
abbrev main_v254 : Ref sig .tc := ⟨.hbm, 274, rfl⟩
abbrev main_v255 : Ref sig .tc := ⟨.hbm, 275, rfl⟩
abbrev main_v256 : Ref sig .tc := ⟨.hbm, 276, rfl⟩
abbrev main_v257 : Ref sig .tc := ⟨.hbm, 277, rfl⟩
abbrev main_v258 : Ref sig .tc := ⟨.hbm, 278, rfl⟩
abbrev main_v259 : Ref sig .tc := ⟨.hbm, 279, rfl⟩
abbrev main_call0_v0 : Ref sig .tc := ⟨.hbm, 280, rfl⟩
abbrev main_call0_v1 : Ref sig .tc := ⟨.hbm, 281, rfl⟩
abbrev main_call0_cst : Ref sig .tc := ⟨.hbm, 282, rfl⟩
abbrev main_call0_v2 : Ref sig .tc := ⟨.hbm, 283, rfl⟩
abbrev main_call0_v3 : Ref sig .tc := ⟨.hbm, 284, rfl⟩
abbrev main_call0_cst_0 : Ref sig .tc := ⟨.hbm, 285, rfl⟩
abbrev main_call0_v4 : Ref sig .tc := ⟨.hbm, 286, rfl⟩
abbrev main_v260_2 : Ref sig .tc := ⟨.hbm, 287, rfl⟩
abbrev main_call0_cst_1 : Ref sig .tc := ⟨.hbm, 288, rfl⟩
abbrev main_call0_v6 : Ref sig .tc := ⟨.hbm, 289, rfl⟩
abbrev main_call0_v7 : Ref sig .tc := ⟨.hbm, 290, rfl⟩
abbrev main_v260_1 : Ref sig .tc := ⟨.hbm, 291, rfl⟩
abbrev main_v260_0 : Ref sig .tc := ⟨.hbm, 292, rfl⟩
abbrev main_v261 : Ref sig .tc := ⟨.hbm, 293, rfl⟩
abbrev main_v262 : Ref sig .tc := ⟨.hbm, 294, rfl⟩
abbrev main_v263 : Ref sig .tc := ⟨.hbm, 295, rfl⟩
abbrev main_cst_9 : Ref sig .tc := ⟨.hbm, 296, rfl⟩
abbrev main_v264 : Ref sig .tc := ⟨.hbm, 297, rfl⟩
abbrev main_v265 : Ref sig .tc := ⟨.hbm, 298, rfl⟩
abbrev main_cst_10 : Ref sig .tc := ⟨.hbm, 299, rfl⟩
abbrev main_v266 : Ref sig .tc := ⟨.hbm, 300, rfl⟩
abbrev main_v267 : Ref sig .tc := ⟨.hbm, 301, rfl⟩
abbrev main_v268 : Ref sig .tc := ⟨.hbm, 302, rfl⟩
abbrev main_v269 : Ref sig .tc := ⟨.hbm, 303, rfl⟩
abbrev main_v270 : Ref sig .tc := ⟨.hbm, 304, rfl⟩
abbrev main_cst_11 : Ref sig .tc := ⟨.hbm, 305, rfl⟩
abbrev main_v271 : Ref sig .tc := ⟨.hbm, 306, rfl⟩
abbrev main_v272 : Ref sig .tc := ⟨.hbm, 307, rfl⟩
abbrev main_cst_12 : Ref sig .tc := ⟨.hbm, 308, rfl⟩
abbrev main_v273 : Ref sig .tc := ⟨.hbm, 309, rfl⟩
abbrev main_v274 : Ref sig .tc := ⟨.hbm, 310, rfl⟩
abbrev main_cst_13 : Ref sig .tc := ⟨.hbm, 311, rfl⟩
abbrev main_v275 : Ref sig .tc := ⟨.hbm, 312, rfl⟩
abbrev main_v276 : Ref sig .tc := ⟨.hbm, 313, rfl⟩
abbrev main_v277 : Ref sig .tc := ⟨.hbm, 314, rfl⟩
abbrev main_v278 : Ref sig .tc := ⟨.hbm, 315, rfl⟩
abbrev main_cst_14 : Ref sig .tc := ⟨.hbm, 316, rfl⟩
abbrev main_v279 : Ref sig .tc := ⟨.hbm, 317, rfl⟩
abbrev main_v280 : Ref sig .tc := ⟨.hbm, 318, rfl⟩
abbrev main_v281 : Ref sig .tc := ⟨.hbm, 319, rfl⟩
abbrev main_v282 : Ref sig .tc := ⟨.hbm, 320, rfl⟩
abbrev main_v283 : Ref sig .tc := ⟨.hbm, 321, rfl⟩
abbrev main_v284 : Ref sig .tc := ⟨.hbm, 322, rfl⟩
abbrev main_v285 : Ref sig .tc := ⟨.hbm, 323, rfl⟩
abbrev main_v286 : Ref sig .tc := ⟨.hbm, 324, rfl⟩
abbrev main_v287 : Ref sig .tc := ⟨.hbm, 325, rfl⟩
abbrev main_v288 : Ref sig .tc := ⟨.hbm, 326, rfl⟩
abbrev main_v289 : Ref sig .tc := ⟨.hbm, 327, rfl⟩
abbrev main_c : Ref sig .tc := ⟨.hbm, 328, rfl⟩
abbrev main_v290 : Ref sig .tc := ⟨.hbm, 329, rfl⟩
abbrev main_call1_v0 : Ref sig .tc := ⟨.hbm, 330, rfl⟩
abbrev main_call1_c : Ref sig .tc := ⟨.hbm, 331, rfl⟩
abbrev main_call1_v1 : Ref sig .tc := ⟨.hbm, 332, rfl⟩
abbrev main_call1_v2 : Ref sig .tc := ⟨.hbm, 333, rfl⟩
abbrev main_call1_v3 : Ref sig .tc := ⟨.hbm, 334, rfl⟩
abbrev main_call1_v4 : Ref sig .tc := ⟨.hbm, 335, rfl⟩
abbrev main_call1_c_0 : Ref sig .tc := ⟨.hbm, 336, rfl⟩
abbrev main_call1_v5 : Ref sig .tc := ⟨.hbm, 337, rfl⟩
abbrev main_v291 : Ref sig .tc := ⟨.hbm, 338, rfl⟩
abbrev main_v292 : Ref sig .tc := ⟨.hbm, 339, rfl⟩
abbrev main_cst_15 : Ref sig .tc := ⟨.hbm, 340, rfl⟩
abbrev main_call2_v0 : Ref sig .tc := ⟨.hbm, 341, rfl⟩
abbrev main_v293_1 : Ref sig .tc := ⟨.hbm, 342, rfl⟩
abbrev main_call2_v2 : Ref sig .tc := ⟨.hbm, 343, rfl⟩
abbrev main_v293_0 : Ref sig .tc := ⟨.hbm, 344, rfl⟩
abbrev main_call2_cst : Ref sig .tc := ⟨.hbm, 345, rfl⟩
abbrev main_v293_2 : Ref sig .tc := ⟨.hbm, 346, rfl⟩
abbrev main_v294 : Ref sig .tc := ⟨.hbm, 347, rfl⟩
abbrev main_v295 : Ref sig .tc := ⟨.hbm, 348, rfl⟩
abbrev main_v296 : Ref sig .tc := ⟨.hbm, 349, rfl⟩
abbrev main_v297 : Ref sig .tc := ⟨.hbm, 350, rfl⟩
abbrev main_v298 : Ref sig .tc := ⟨.hbm, 351, rfl⟩
abbrev main_v299 : Ref sig .tc := ⟨.hbm, 352, rfl⟩
abbrev main_v300 : Ref sig .tc := ⟨.hbm, 353, rfl⟩
abbrev main_v301 : Ref sig .tc := ⟨.hbm, 354, rfl⟩
abbrev main_v302 : Ref sig .tc := ⟨.hbm, 355, rfl⟩
abbrev main_v303 : Ref sig .tc := ⟨.hbm, 356, rfl⟩
abbrev main_v304 : Ref sig .tc := ⟨.hbm, 357, rfl⟩
abbrev main_v305 : Ref sig .tc := ⟨.hbm, 358, rfl⟩
abbrev main_v306 : Ref sig .tc := ⟨.hbm, 359, rfl⟩
abbrev main_v307 : Ref sig .tc := ⟨.hbm, 360, rfl⟩
abbrev main_v308 : Ref sig .tc := ⟨.hbm, 361, rfl⟩
abbrev main_cst_16 : Ref sig .tc := ⟨.hbm, 362, rfl⟩
abbrev main_v309 : Ref sig .tc := ⟨.hbm, 363, rfl⟩
abbrev main_v310 : Ref sig .tc := ⟨.hbm, 364, rfl⟩
abbrev main_cst_17 : Ref sig .tc := ⟨.hbm, 365, rfl⟩
abbrev main_v311 : Ref sig .tc := ⟨.hbm, 366, rfl⟩
abbrev main_v312 : Ref sig .tc := ⟨.hbm, 367, rfl⟩
abbrev main_cst_18 : Ref sig .tc := ⟨.hbm, 368, rfl⟩
abbrev main_v313 : Ref sig .tc := ⟨.hbm, 369, rfl⟩
abbrev main_v314 : Ref sig .tc := ⟨.hbm, 370, rfl⟩
abbrev main_v315 : Ref sig .tc := ⟨.hbm, 371, rfl⟩
abbrev main_v316 : Ref sig .tc := ⟨.hbm, 372, rfl⟩
abbrev main_v317 : Ref sig .tc := ⟨.hbm, 373, rfl⟩
abbrev main_v318 : Ref sig .tc := ⟨.hbm, 374, rfl⟩
abbrev main_call3_cst : Ref sig .tc := ⟨.hbm, 375, rfl⟩
abbrev main_call3_v0 : Ref sig .tc := ⟨.hbm, 376, rfl⟩
abbrev main_v319 : Ref sig .tc := ⟨.hbm, 377, rfl⟩
abbrev main_v320 : Ref sig .tc := ⟨.hbm, 378, rfl⟩
abbrev main_cst_19 : Ref sig .tc := ⟨.hbm, 379, rfl⟩
abbrev main_v321 : Ref sig .tc := ⟨.hbm, 380, rfl⟩
abbrev main_v322 : Ref sig .tc := ⟨.hbm, 381, rfl⟩
abbrev main_cst_20 : Ref sig .tc := ⟨.hbm, 382, rfl⟩
abbrev main_v323 : Ref sig .tc := ⟨.hbm, 383, rfl⟩
abbrev main_v324 : Ref sig .tc := ⟨.hbm, 384, rfl⟩
abbrev main_cst_21 : Ref sig .tc := ⟨.hbm, 385, rfl⟩
abbrev main_v325 : Ref sig .tc := ⟨.hbm, 386, rfl⟩
abbrev main_v326 : Ref sig .tc := ⟨.hbm, 387, rfl⟩
abbrev main_v327 : Ref sig .tc := ⟨.hbm, 388, rfl⟩
abbrev main_v328 : Ref sig .tc := ⟨.hbm, 389, rfl⟩
abbrev main_cst_22 : Ref sig .tc := ⟨.hbm, 390, rfl⟩
abbrev main_v329 : Ref sig .tc := ⟨.hbm, 391, rfl⟩
abbrev main_v330 : Ref sig .tc := ⟨.hbm, 392, rfl⟩
abbrev main_cst_23 : Ref sig .tc := ⟨.hbm, 393, rfl⟩
abbrev main_v331 : Ref sig .tc := ⟨.hbm, 394, rfl⟩
abbrev main_v332 : Ref sig .tc := ⟨.hbm, 395, rfl⟩
abbrev main_v333 : Ref sig .tc := ⟨.hbm, 396, rfl⟩
abbrev main_v334 : Ref sig .tc := ⟨.hbm, 397, rfl⟩
abbrev main_v335 : Ref sig .tc := ⟨.hbm, 398, rfl⟩
abbrev main_cst_24 : Ref sig .tc := ⟨.hbm, 399, rfl⟩
abbrev main_v336 : Ref sig .tc := ⟨.hbm, 400, rfl⟩
abbrev main_v337 : Ref sig .tc := ⟨.hbm, 401, rfl⟩
abbrev main_cst_25 : Ref sig .tc := ⟨.hbm, 402, rfl⟩
abbrev main_v338 : Ref sig .tc := ⟨.hbm, 403, rfl⟩
abbrev main_v339 : Ref sig .tc := ⟨.hbm, 404, rfl⟩
abbrev main_v340 : Ref sig .tc := ⟨.hbm, 405, rfl⟩
abbrev main_v341 : Ref sig .tc := ⟨.hbm, 406, rfl⟩
abbrev main_v342 : Ref sig .tc := ⟨.hbm, 407, rfl⟩
abbrev main_v343 : Ref sig .tc := ⟨.hbm, 408, rfl⟩
abbrev main_v344 : Ref sig .tc := ⟨.hbm, 409, rfl⟩
abbrev main_cst_26 : Ref sig .tc := ⟨.hbm, 410, rfl⟩
abbrev main_v345 : Ref sig .tc := ⟨.hbm, 411, rfl⟩
abbrev main_v346 : Ref sig .tc := ⟨.hbm, 412, rfl⟩
abbrev main_cst_27 : Ref sig .tc := ⟨.hbm, 413, rfl⟩
abbrev main_v347 : Ref sig .tc := ⟨.hbm, 414, rfl⟩
abbrev main_v348 : Ref sig .tc := ⟨.hbm, 415, rfl⟩
abbrev main_cst_28 : Ref sig .tc := ⟨.hbm, 416, rfl⟩
abbrev main_v349 : Ref sig .tc := ⟨.hbm, 417, rfl⟩
abbrev main_v350 : Ref sig .tc := ⟨.hbm, 418, rfl⟩
abbrev main_v351 : Ref sig .tc := ⟨.hbm, 419, rfl⟩
abbrev main_v352 : Ref sig .tc := ⟨.hbm, 420, rfl⟩
abbrev main_cst_29 : Ref sig .tc := ⟨.hbm, 421, rfl⟩
abbrev main_v353 : Ref sig .tc := ⟨.hbm, 422, rfl⟩
abbrev main_cst_30 : Ref sig .tc := ⟨.hbm, 423, rfl⟩
abbrev main_v354 : Ref sig .tc := ⟨.hbm, 424, rfl⟩
abbrev main_v355 : Ref sig .tc := ⟨.hbm, 425, rfl⟩
abbrev main_call4_v0 : Ref sig .tc := ⟨.hbm, 426, rfl⟩
abbrev main_call4_v1 : Ref sig .tc := ⟨.hbm, 427, rfl⟩
abbrev main_call4_v2 : Ref sig .tc := ⟨.hbm, 428, rfl⟩
abbrev main_v356 : Ref sig .tc := ⟨.hbm, 429, rfl⟩
abbrev main_cst_31 : Ref sig .tc := ⟨.hbm, 430, rfl⟩
abbrev main_v357 : Ref sig .tc := ⟨.hbm, 431, rfl⟩
abbrev main_v358 : Ref sig .tc := ⟨.hbm, 432, rfl⟩
abbrev main_cst_32 : Ref sig .tc := ⟨.hbm, 433, rfl⟩
abbrev main_v359 : Ref sig .tc := ⟨.hbm, 434, rfl⟩
abbrev main_v360 : Ref sig .tc := ⟨.hbm, 435, rfl⟩
abbrev main_cst_33 : Ref sig .tc := ⟨.hbm, 436, rfl⟩
abbrev main_v361 : Ref sig .tc := ⟨.hbm, 437, rfl⟩
abbrev main_v362 : Ref sig .tc := ⟨.hbm, 438, rfl⟩
abbrev main_v363 : Ref sig .tc := ⟨.hbm, 439, rfl⟩
abbrev main_v364 : Ref sig .tc := ⟨.hbm, 440, rfl⟩
abbrev main_cst_34 : Ref sig .tc := ⟨.hbm, 441, rfl⟩
abbrev main_v365 : Ref sig .tc := ⟨.hbm, 442, rfl⟩
abbrev main_v366 : Ref sig .tc := ⟨.hbm, 443, rfl⟩
abbrev main_cst_35 : Ref sig .tc := ⟨.hbm, 444, rfl⟩
abbrev main_v367 : Ref sig .tc := ⟨.hbm, 445, rfl⟩
abbrev main_v368 : Ref sig .tc := ⟨.hbm, 446, rfl⟩
abbrev main_v369 : Ref sig .tc := ⟨.hbm, 447, rfl⟩
abbrev main_v370 : Ref sig .tc := ⟨.hbm, 448, rfl⟩
abbrev main_v371 : Ref sig .tc := ⟨.hbm, 449, rfl⟩
abbrev main_cst_36 : Ref sig .tc := ⟨.hbm, 450, rfl⟩
abbrev main_v372 : Ref sig .tc := ⟨.hbm, 451, rfl⟩
abbrev main_v373 : Ref sig .tc := ⟨.hbm, 452, rfl⟩
abbrev main_cst_37 : Ref sig .tc := ⟨.hbm, 453, rfl⟩
abbrev main_v374 : Ref sig .tc := ⟨.hbm, 454, rfl⟩
abbrev main_v375 : Ref sig .tc := ⟨.hbm, 455, rfl⟩
abbrev main_v376 : Ref sig .tc := ⟨.hbm, 456, rfl⟩
abbrev main_v377 : Ref sig .tc := ⟨.hbm, 457, rfl⟩
abbrev main_v378 : Ref sig .tc := ⟨.hbm, 458, rfl⟩
abbrev main_v379 : Ref sig .tc := ⟨.hbm, 459, rfl⟩
abbrev main_v380 : Ref sig .tc := ⟨.hbm, 460, rfl⟩
abbrev main_cst_38 : Ref sig .tc := ⟨.hbm, 461, rfl⟩
abbrev main_v381 : Ref sig .tc := ⟨.hbm, 462, rfl⟩
abbrev main_v382 : Ref sig .tc := ⟨.hbm, 463, rfl⟩
abbrev main_cst_39 : Ref sig .tc := ⟨.hbm, 464, rfl⟩
abbrev main_v383 : Ref sig .tc := ⟨.hbm, 465, rfl⟩
abbrev main_v384 : Ref sig .tc := ⟨.hbm, 466, rfl⟩
abbrev main_cst_40 : Ref sig .tc := ⟨.hbm, 467, rfl⟩
abbrev main_v385 : Ref sig .tc := ⟨.hbm, 468, rfl⟩
abbrev main_v386 : Ref sig .tc := ⟨.hbm, 469, rfl⟩
abbrev main_v387 : Ref sig .tc := ⟨.hbm, 470, rfl⟩
abbrev main_v388 : Ref sig .tc := ⟨.hbm, 471, rfl⟩
abbrev main_v389 : Ref sig .tc := ⟨.hbm, 472, rfl⟩
abbrev main_v390 : Ref sig .tc := ⟨.hbm, 473, rfl⟩
abbrev main_v391 : Ref sig .tc := ⟨.hbm, 474, rfl⟩
abbrev main_v392 : Ref sig .tc := ⟨.hbm, 475, rfl⟩
abbrev main_v393 : Ref sig .tc := ⟨.hbm, 476, rfl⟩

abbrev nD : Nat := 1
abbrev τ : Topo := Topo.v7x

variable {F : FTy → Type} [FloatOps F]
-- ==== Loss.lean ====
abbrev S8192x1024 : Shape := ⟨2, ![8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x2816x1024 : Shape := ⟨3, ![1, 2816, 1024]⟩
abbrev S3x2816x1024 : Shape := ⟨3, ![3, 2816, 1024]⟩
abbrev S1x1024 : Shape := ⟨2, ![1, 1024]⟩
abbrev S8192x2816 : Shape := ⟨2, ![8192, 2816]⟩
abbrev S1x128 : Shape := ⟨2, ![1, 128]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 26
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S8192x1024, .f32⟩
  | .hbm, ⟨9, _⟩ => ⟨S2816x1024, .f32⟩
  | .hbm, ⟨10, _⟩ => ⟨S2816x1024, .f32⟩
  | .hbm, ⟨11, _⟩ => ⟨S1x2816x1024, .f32⟩
  | .hbm, ⟨12, _⟩ => ⟨S1x2816x1024, .f32⟩
  | .hbm, ⟨13, _⟩ => ⟨S1x2816x1024, .f32⟩
  | .hbm, ⟨14, _⟩ => ⟨S3x2816x1024, .f32⟩
  | .hbm, ⟨15, _⟩ => ⟨S3x2816x1024, .bf16⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S8192x1024, .f32⟩
  | .hbm, ⟨20, _⟩ => ⟨S8192x2816, .bf16⟩
  | .hbm, ⟨21, _⟩ => ⟨S8192x2816, .bf16⟩
  | .hbm, ⟨22, _⟩ => ⟨S8192x1024, .bf16⟩
  | .hbm, ⟨23, _⟩ => ⟨S8192x1024, .f32⟩
  | .hbm, ⟨24, _⟩ => ⟨S1x128, .f32⟩
  | .hbm, ⟨25, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x2816x1024, .bf16⟩
  | .local _ .vmem, ⟨7, _⟩ => ⟨S1x2816x1024, .bf16⟩
  | .local _ .vmem, ⟨8, _⟩ => ⟨S1x2816x1024, .bf16⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S1x128, .f32⟩
  | .local _ .vmem, ⟨23, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v10_5 : Ref sig .tc := ⟨.hbm, 24, rfl⟩
abbrev main_v10_6 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== LossRefIdeal.lean ====
abbrev S8192x1024 : Shape := ⟨2, ![8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S1x128 : Shape := ⟨2, ![1, 128]⟩

abbrev nBuf : Space → Nat
  | .hbm => 116
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S8192, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S1024, .f32⟩
  | .hbm, ⟨94, _⟩ => ⟨S8192x1024, .f32⟩
  | .hbm, ⟨95, _⟩ => ⟨S_, .f32⟩
  | .hbm, ⟨96, _⟩ => ⟨S8192, .f32⟩
  | .hbm, ⟨97, _⟩ => ⟨S8192x1, .f32⟩
  | .hbm, ⟨98, _⟩ => ⟨S8192x1024, .f32⟩
  | .hbm, ⟨99, _⟩ => ⟨S8192x1024, .f32⟩
  | .hbm, ⟨100, _⟩ => ⟨S8192x1, .f32⟩
  | .hbm, ⟨101, _⟩ => ⟨S_, .f32⟩
  | .hbm, ⟨102, _⟩ => ⟨S8192x1, .f32⟩
  | .hbm, ⟨103, _⟩ => ⟨S8192x1, .f32⟩
  | .hbm, ⟨104, _⟩ => ⟨S_, .f32⟩
  | .hbm, ⟨105, _⟩ => ⟨S8192, .f32⟩
  | .hbm, ⟨106, _⟩ => ⟨S8192x1024, .f32⟩
  | .hbm, ⟨107, _⟩ => ⟨S8192x1024, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S8192x2816, .bf16⟩
  | .hbm, ⟨112, _⟩ => ⟨S8192x2816, .bf16⟩
  | .hbm, ⟨113, _⟩ => ⟨S8192x1024, .bf16⟩
  | .hbm, ⟨114, _⟩ => ⟨S1x128, .f32⟩
  | .hbm, ⟨115, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_7 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_cst_10 : Ref sig .tc := ⟨.hbm, 73, rfl⟩
abbrev main_v45 : Ref sig .tc := ⟨.hbm, 74, rfl⟩
abbrev main_cst_11 : Ref sig .tc := ⟨.hbm, 75, rfl⟩
abbrev main_cst_12 : Ref sig .tc := ⟨.hbm, 76, rfl⟩
abbrev main_v46 : Ref sig .tc := ⟨.hbm, 77, rfl⟩
abbrev main_v47 : Ref sig .tc := ⟨.hbm, 78, rfl⟩
abbrev main_cst_13 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_14 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_15 : Ref sig .tc := ⟨.hbm, 92, rfl⟩
abbrev main_v59 : Ref sig .tc := ⟨.hbm, 93, rfl⟩
abbrev main_v60 : Ref sig .tc := ⟨.hbm, 94, rfl⟩
abbrev main_cst_16 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_17 : Ref sig .tc := ⟨.hbm, 101, rfl⟩
abbrev main_v66 : Ref sig .tc := ⟨.hbm, 102, rfl⟩
abbrev main_v67 : Ref sig .tc := ⟨.hbm, 103, rfl⟩
abbrev main_cst_18 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩

abbrev nD : Nat := 1
abbrev τ : Topo := Topo.v7x

variable {F : FTy → Type} [FloatOps F]
-- ==== Ffn.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x2816x1024 : Shape := ⟨3, ![1, 2816, 1024]⟩
abbrev S3x2816x1024 : Shape := ⟨3, ![3, 2816, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 40
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S2816x1024, .f32⟩
  | .hbm, ⟨7, _⟩ => ⟨S2816x1024, .f32⟩
  | .hbm, ⟨8, _⟩ => ⟨S1x2816x1024, .f32⟩
  | .hbm, ⟨9, _⟩ => ⟨S1x2816x1024, .f32⟩
  | .hbm, ⟨10, _⟩ => ⟨S1x2816x1024, .f32⟩
  | .hbm, ⟨11, _⟩ => ⟨S3x2816x1024, .f32⟩
  | .hbm, ⟨12, _⟩ => ⟨S3x2816x1024, .bf16⟩
  | .hbm, ⟨13, _⟩ => ⟨S1x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x2816, .f32⟩
  | .hbm, ⟨31, _⟩ => ⟨S8192x2816, .bf16⟩
  | .hbm, ⟨32, _⟩ => ⟨S8192x2816, .f32⟩
  | .hbm, ⟨33, _⟩ => ⟨S8192x2816, .bf16⟩
  | .hbm, ⟨34, _⟩ => ⟨S8192x1024, .f32⟩
  | .hbm, ⟨35, _⟩ => ⟨S1x1024, .f32⟩
  | .hbm, ⟨36, _⟩ => ⟨S8192x2816, .bf16⟩
  | .hbm, ⟨37, _⟩ => ⟨S8192x2816, .bf16⟩
  | .hbm, ⟨38, _⟩ => ⟨S8192x2816, .bf16⟩
  | .hbm, ⟨39, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S1x2816x1024, .bf16⟩
  | .local _ .vmem, ⟨10, _⟩ => ⟨S1x2816x1024, .bf16⟩
  | .local _ .vmem, ⟨11, _⟩ => ⟨S1x2816x1024, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev main_v25_3 : Ref sig .tc := ⟨.hbm, 37, rfl⟩
abbrev main_v25_4 : Ref sig .tc := ⟨.hbm, 38, rfl⟩
abbrev main_v25_5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![32, 1], ![false, false]⟩

def k0_cond3 (i : grid0.Coords) : BitVec 1 :=
  let arg1 : BitVec 32 := BitVec.ofNat 32 (i 1).val
  let c0_i32_34 : BitVec 32 := 0#32
  let v53 : BitVec 1 := Scalar.cmpi .eq arg1 c0_i32_34
  let v54 : BitVec 32 := Scalar.extui v53
  let c0_i32_35 : BitVec 32 := 0#32
  let v55 : BitVec 1 := Scalar.cmpi .ne v54 c0_i32_35
  v55

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== FfnRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 141
  | .vmem => 0
  | .smem => 0
  | _ => 0

abbrev hbmTy0_0 (i : Nat) : BufTy := match i % 128 with
  | 0 => ⟨S8192x1024, .f32⟩
  | 1 => ⟨S1024, .f32⟩
  | 2 => ⟨S1024x2816, .f32⟩
  | 3 => ⟨S1024x2816, .f32⟩
  | 4 => ⟨S2816x1024, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S1x1024, .f32⟩
  | 24 => ⟨S8192x1024, .f32⟩
  | 25 => ⟨S8192x1024, .f32⟩
  | 26 => ⟨S8192x2816, .f32⟩
  | 27 => ⟨S8192x2816, .f32⟩
  | 28 => ⟨S8192x2816, .f32⟩
  | 29 => ⟨S8192x2816, .f32⟩
  | 30 => ⟨S_, .f32⟩
  | 31 => ⟨S8192x2816, .f32⟩
  | 32 => ⟨S8192x2816, .f32⟩
  | 33 => ⟨S_, .f32⟩
  | 34 => ⟨S8192x2816, .f32⟩
  | 35 => ⟨S8192x2816, .f32⟩
  | 36 => ⟨S_, .f32⟩
  | 37 => ⟨S8192x2816, .f32⟩
  | 38 => ⟨S8192x2816, .f32⟩
  | 39 => ⟨S8192x2816, .f32⟩
  | 40 => ⟨S8192x2816, .f32⟩
  | 41 => ⟨S8192x2816, .f32⟩
  | 42 => ⟨S8192x1024, .f32⟩
  | 43 => ⟨S_, .f32⟩
  | 44 => ⟨S8192x1024, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S8192x2816, .f32⟩
  | 52 => ⟨S8192x2816, .f32⟩
  | 53 => ⟨S8192x2816, .f32⟩
  | 54 => ⟨S8192x2816, .f32⟩
  | 55 => ⟨S8192x2816, .f32⟩
  | 56 => ⟨S8192x2816, .f32⟩
  | 57 => ⟨S8192x2816, .f32⟩
  | 58 => ⟨S8192x1024, .f32⟩
  | 59 => ⟨S8192x1024, .f32⟩
  | 60 => ⟨S8192x1024, .f32⟩
  | 61 => ⟨S8192x1024, .f32⟩
  | 62 => ⟨S_, .f32⟩
  | 63 => ⟨S1024, .f32⟩
  | 64 => ⟨S1x1024, .f32⟩
  | 65 => ⟨S8192x1024, .f32⟩
  | 66 => ⟨S8192x1024, .f32⟩
  | 67 => ⟨S_, .f32⟩
  | 68 => ⟨S1024, .f32⟩
  | 69 => ⟨S8192x1024, .f32⟩
  | 70 => ⟨S_, .f32⟩
  | 71 => ⟨S8192, .f32⟩
  | 72 => ⟨S8192x1, .f32⟩
  | 73 => ⟨S8192x1024, .f32⟩
  | 74 => ⟨S8192x1024, .f32⟩
  | 75 => ⟨S8192x1024, .f32⟩
  | 76 => ⟨S8192x1, .f32⟩
  | 77 => ⟨S_, .f32⟩
  | 78 => ⟨S8192x1, .f32⟩
  | 79 => ⟨S8192x1, .f32⟩
  | 80 => ⟨S_, .f32⟩
  | 81 => ⟨S8192, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S_, .f32⟩
  | 89 => ⟨S8192, .f32⟩
  | 90 => ⟨S8192x1, .f32⟩
  | 91 => ⟨S_, .f32⟩
  | 92 => ⟨S8192x1, .f32⟩
  | 93 => ⟨S8192x1, .f32⟩
  | 94 => ⟨S_, .f32⟩
  | 95 => ⟨S8192x1, .f32⟩
  | 96 => ⟨S8192x1, .f32⟩
  | 97 => ⟨S8192x1, .f32⟩
  | 98 => ⟨S8192x1024, .f32⟩
  | 99 => ⟨S8192x1024, .f32⟩
  | 100 => ⟨S1x1024, .f32⟩
  | 101 => ⟨S8192x1024, .f32⟩
  | 102 => ⟨S8192x1024, .f32⟩
  | 103 => ⟨S8192x2816, .f32⟩
  | 104 => ⟨S8192x2816, .f32⟩
  | 105 => ⟨S8192x2816, .f32⟩
  | 106 => ⟨S8192x2816, .f32⟩
  | 107 => ⟨S_, .f32⟩
  | 108 => ⟨S8192x2816, .f32⟩
  | 109 => ⟨S8192x2816, .f32⟩
  | 110 => ⟨S_, .f32⟩
  | 111 => ⟨S8192x2816, .f32⟩
  | 112 => ⟨S8192x2816, .f32⟩
  | 113 => ⟨S_, .f32⟩
  | 114 => ⟨S8192x2816, .f32⟩
  | 115 => ⟨S8192x2816, .f32⟩
  | 116 => ⟨S8192x2816, .f32⟩
  | 117 => ⟨S8192x2816, .f32⟩
  | 118 => ⟨S8192x2816, .f32⟩
  | 119 => ⟨S8192x1024, .f32⟩
  | 120 => ⟨S_, .f32⟩
  | 121 => ⟨S8192x1024, .f32⟩
  | 122 => ⟨S8192x1024, .f32⟩
  | 123 => ⟨S_, .f32⟩
  | 124 => ⟨S8192x1024, .f32⟩
  | 125 => ⟨S8192x1024, .f32⟩
  | 126 => ⟨S8192x2816, .f32⟩
  | 127 => ⟨S8192x2816, .f32⟩
  | _ => ⟨S8192x1024, .f32⟩

abbrev hbmTy0_1 (i : Nat) : BufTy := match i % 128 with
  | 0 => ⟨S8192x2816, .f32⟩
  | 1 => ⟨S8192x2816, .f32⟩
  | 2 => ⟨S8192x2816, .f32⟩
  | 3 => ⟨S8192x2816, .f32⟩
  | 4 => ⟨S8192x2816, .f32⟩
  | 5 => ⟨S1x1024, .f32⟩
  | 6 => ⟨S8192x2816, .bf16⟩
  | 7 => ⟨S8192x2816, .bf16⟩
  | 8 => ⟨S8192x2816, .bf16⟩
  | 9 => ⟨S_, .f32⟩
  | 10 => ⟨S8192x1024, .f32⟩
  | 11 => ⟨S8192x1024, .f32⟩
  | 12 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_v70_2 : Ref sig .tc := ⟨.hbm, 112, rfl⟩
abbrev main_call2_cst_1 : Ref sig .tc := ⟨.hbm, 113, rfl⟩
abbrev main_call2_v6 : Ref sig .tc := ⟨.hbm, 114, rfl⟩
abbrev main_call2_v7 : Ref sig .tc := ⟨.hbm, 115, rfl⟩
abbrev main_v70_1 : Ref sig .tc := ⟨.hbm, 116, rfl⟩
abbrev main_v70_0 : Ref sig .tc := ⟨.hbm, 117, rfl⟩
abbrev main_v71 : Ref sig .tc := ⟨.hbm, 118, rfl⟩
abbrev main_v72 : Ref sig .tc := ⟨.hbm, 119, rfl⟩
abbrev main_cst_13 : Ref sig .tc := ⟨.hbm, 120, rfl⟩
abbrev main_v73 : Ref sig .tc := ⟨.hbm, 121, rfl⟩
abbrev main_v74 : Ref sig .tc := ⟨.hbm, 122, rfl⟩
abbrev main_cst_14 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_cst_15 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩

abbrev nD : Nat := 1
abbrev τ : Topo := Topo.v7x

variable {F : FTy → Type} [FloatOps F]
-- ==== FfnFwd.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x2816x1024 : Shape := ⟨3, ![1, 2816, 1024]⟩
abbrev S3x2816x1024 : Shape := ⟨3, ![3, 2816, 1024]⟩
abbrev S1x1024 : Shape := ⟨2, ![1, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 17
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S1x2816x1024, .f32⟩
  | .hbm, ⟨8, _⟩ => ⟨S1x2816x1024, .f32⟩
  | .hbm, ⟨9, _⟩ => ⟨S1x2816x1024, .f32⟩
  | .hbm, ⟨10, _⟩ => ⟨S3x2816x1024, .f32⟩
  | .hbm, ⟨11, _⟩ => ⟨S3x2816x1024, .bf16⟩
  | .hbm, ⟨12, _⟩ => ⟨S1x1024, .f32⟩
  | .hbm, ⟨13, _⟩ => ⟨S8192x1024, .f32⟩
  | .hbm, ⟨14, _⟩ => ⟨S8192x2816, .bf16⟩
  | .hbm, ⟨15, _⟩ => ⟨S8192x2816, .bf16⟩
  | .hbm, ⟨16, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x2816x1024, .bf16⟩
  | .local _ .vmem, ⟨4, _⟩ => ⟨S1x2816x1024, .bf16⟩
  | .local _ .vmem, ⟨5, _⟩ => ⟨S1x2816x1024, .bf16⟩
  | .local _ .vmem, ⟨6, _⟩ => ⟨S256x1024, .f32⟩
  | .local _ .vmem, ⟨7, _⟩ => ⟨S256x1024, .f32⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_24 : BitVec 32 := 0#32
  let v33 : BitVec 1 := Scalar.cmpi .eq arg1 c0_i32_24
  let v34 : BitVec 32 := Scalar.extui v33
  let c0_i32_25 : BitVec 32 := 0#32
  let v35 : BitVec 1 := Scalar.cmpi .ne v34 c0_i32_25
  v35

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnFwdRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x2816, .bf16⟩
  | .hbm, ⟨39, _⟩ => ⟨S8192x2816, .bf16⟩
  | .hbm, ⟨40, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== ProjFwd.lean ====
abbrev S8192x1024 : Shape := ⟨2, ![8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x2816x1024 : Shape := ⟨3, ![1, 2816, 1024]⟩
abbrev S3x2816x1024 : Shape := ⟨3, ![3, 2816, 1024]⟩
abbrev S1x1024 : Shape := ⟨2, ![1, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 21
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S1x2816x1024, .f32⟩
  | .hbm, ⟨10, _⟩ => ⟨S1x2816x1024, .f32⟩
  | .hbm, ⟨11, _⟩ => ⟨S1x2816x1024, .f32⟩
  | .hbm, ⟨12, _⟩ => ⟨S3x2816x1024, .f32⟩
  | .hbm, ⟨13, _⟩ => ⟨S3x2816x1024, .bf16⟩
  | .hbm, ⟨14, _⟩ => ⟨S1024x1024, .bf16⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x2816, .bf16⟩
  | .hbm, ⟨19, _⟩ => ⟨S8192x2816, .bf16⟩
  | .hbm, ⟨20, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x2816x1024, .bf16⟩
  | .local _ .vmem, ⟨7, _⟩ => ⟨S1x2816x1024, .bf16⟩
  | .local _ .vmem, ⟨8, _⟩ => ⟨S1x2816x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .bf16⟩
  | .local _ .vmem, ⟨18, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjFwdRefIdeal.lean ====
abbrev S8192x1024 : Shape := ⟨2, ![8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x2816, .bf16⟩
  | .hbm, ⟨43, _⟩ => ⟨S8192x2816, .bf16⟩
  | .hbm, ⟨44, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]
-- ==== NormProj.lean ====
abbrev S8192x1024 : Shape := ⟨2, ![8192, 1024]⟩
abbrev S1024 : Shape := ⟨1, ![1024]⟩
abbrev S1024x3072 : Shape := ⟨2, ![1024, 3072]⟩
abbrev S3072x1024 : Shape := ⟨2, ![3072, 1024]⟩
abbrev S1x1024 : Shape := ⟨2, ![1, 1024]⟩
abbrev S8192x3072 : Shape := ⟨2, ![8192, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S3072x1024, .f32⟩
  | .hbm, ⟨4, _⟩ => ⟨S3072x1024, .bf16⟩
  | .hbm, ⟨5, _⟩ => ⟨S1x1024, .f32⟩
  | .hbm, ⟨6, _⟩ => ⟨S8192x3072, .bf16⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3072x1024, .bf16⟩
  | .local _ .vmem, ⟨4, _⟩ => ⟨S512x3072, .bf16⟩
  | .local _ .vmem, ⟨5, _⟩ => ⟨S512x3072, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== NormProjRefIdeal.lean ====
abbrev S8192x1024 : Shape := ⟨2, ![8192, 1024]⟩
abbrev S1024 : Shape := ⟨1, ![1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x3072, .f32⟩
  | .hbm, ⟨20, _⟩ => ⟨S8192x3072, .bf16⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== MixFwd.lean ====
abbrev S8192x2048 : Shape := ⟨2, ![8192, 2048]⟩
abbrev S31x512 : Shape := ⟨2, ![31, 512]⟩
abbrev S512 : Shape := ⟨1, ![512]⟩
abbrev S4x128 : Shape := ⟨2, ![4, 128]⟩
abbrev S4x128x128 : Shape := ⟨3, ![4, 128, 128]⟩
abbrev S_ : Shape := ⟨0, ![]⟩
abbrev S128x128 : Shape := ⟨2, ![128, 128]⟩
abbrev S1x128x128 : Shape := ⟨3, ![1, 128, 128]⟩
abbrev S128x4 : Shape := ⟨2, ![128, 4]⟩
abbrev S128x4x128 : Shape := ⟨3, ![128, 4, 128]⟩
abbrev S128x512 : Shape := ⟨2, ![128, 512]⟩
abbrev S1x512 : Shape := ⟨2, ![1, 512]⟩
abbrev S8192x1024 : Shape := ⟨2, ![8192, 1024]⟩
abbrev S8192x512 : Shape := ⟨2, ![8192, 512]⟩
abbrev S512x512 : Shape := ⟨2, ![512, 512]⟩
abbrev S32x512 : Shape := ⟨2, ![32, 512]⟩
abbrev S512x1024 : Shape := ⟨2, ![512, 1024]⟩
abbrev S8x544x512 : Shape := ⟨3, ![8, 544, 512]⟩
abbrev S1x32x512 : Shape := ⟨3, ![1, 32, 512]⟩
abbrev S1x512x512 : Shape := ⟨3, ![1, 512, 512]⟩
abbrev S1x536x512 : Shape := ⟨3, ![1, 536, 512]⟩
abbrev S536x512 : Shape := ⟨2, ![536, 512]⟩
abbrev S512x1 : Shape := ⟨2, ![512, 1]⟩
abbrev S512x128 : Shape := ⟨2, ![512, 128]⟩
abbrev S1x128 : Shape := ⟨2, ![1, 128]⟩

abbrev nBuf : Space → Nat
  | .hbm => 37
  | .vmem => 25
  | .smem => 0
  | _ => 0

abbrev bufTy : (tb : Table) → Fin (tcTables nBuf tb) → BufTy
  | .hbm, ⟨0, _⟩ => ⟨S8192x2048, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S4x128, .f32⟩
  | .hbm, ⟨6, _⟩ => ⟨S4x128, .f32⟩
  | .hbm, ⟨7, _⟩ => ⟨S4x128x128, .f32⟩
  | .hbm, ⟨8, _⟩ => ⟨S4x128, .f32⟩
  | .hbm, ⟨9, _⟩ => ⟨S_, .i1⟩
  | .hbm, ⟨10, _⟩ => ⟨S128x128, .i1⟩
  | .hbm, ⟨11, _⟩ => ⟨S128x128, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S128x128, .i1⟩
  | .hbm, ⟨17, _⟩ => ⟨S_, .i1⟩
  | .hbm, ⟨18, _⟩ => ⟨S128x128, .i1⟩
  | .hbm, ⟨19, _⟩ => ⟨S128x128, .i1⟩
  | .hbm, ⟨20, _⟩ => ⟨S1x128x128, .i1⟩
  | .hbm, ⟨21, _⟩ => ⟨S_, .f32⟩
  | .hbm, ⟨22, _⟩ => ⟨S_, .f32⟩
  | .hbm, ⟨23, _⟩ => ⟨S4x128x128, .i1⟩
  | .hbm, ⟨24, _⟩ => ⟨S4x128x128, .f32⟩
  | .hbm, ⟨25, _⟩ => ⟨S4x128x128, .f32⟩
  | .hbm, ⟨26, _⟩ => ⟨S4x128x128, .bf16⟩
  | .hbm, ⟨27, _⟩ => ⟨S128x4, .f32⟩
  | .hbm, ⟨28, _⟩ => ⟨S128x4x128, .f32⟩
  | .hbm, ⟨29, _⟩ => ⟨S128x512, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S8192x1024, .bf16⟩
  | .hbm, ⟨36, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S31x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S4x128x128, .bf16⟩
  | .local _ .vmem, ⟨19, _⟩ => ⟨S128x512, .f32⟩
  | .local _ .vmem, ⟨20, _⟩ => ⟨S512x1024, .bf16⟩
  | .local _ .vmem, ⟨21, _⟩ => ⟨S512x1024, .bf16⟩
  | .local _ .vmem, ⟨22, _⟩ => ⟨S512x512, .f32⟩
  | .local _ .vmem, ⟨23, _⟩ => ⟨S512x512, .f32⟩
  | .local _ .vmem, ⟨24, _⟩ => ⟨S8x544x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_0 : Ref sig .tc := ⟨.hbm, 17, rfl⟩
abbrev main_call0_v5 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13_0 : Ref sig .tc := ⟨.hbm, 35, rfl⟩
abbrev main_v13_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c1_i32_0 : BitVec 32 := 1#32
  let c0_i32_1 : BitVec 32 := 0#32
  ![v4.toNat, c1_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MixFwdRefIdeal.lean ====
abbrev S8192x2048 : Shape := ⟨2, ![8192, 2048]⟩
abbrev S31x512 : Shape := ⟨2, ![31, 512]⟩
abbrev S512 : Shape := ⟨1, ![512]⟩
abbrev S4x128 : Shape := ⟨2, ![4, 128]⟩
abbrev S4x128x128 : Shape := ⟨3, ![4, 128, 128]⟩
abbrev S8192x512 : Shape := ⟨2, ![8192, 512]⟩
abbrev S_ : Shape := ⟨0, ![]⟩
abbrev S2x4096x512 : Shape := ⟨3, ![2, 4096, 512]⟩
abbrev S2x30x512 : Shape := ⟨3, ![2, 30, 512]⟩
abbrev S2x4126x512 : Shape := ⟨3, ![2, 4126, 512]⟩
abbrev S1x512 : Shape := ⟨2, ![1, 512]⟩
abbrev S1x1x512 : Shape := ⟨3, ![1, 1, 512]⟩
abbrev S8192 : Shape := ⟨1, ![8192]⟩
abbrev S8192x1 : Shape := ⟨2, ![8192, 1]⟩
abbrev S8192x4x128 : Shape := ⟨3, ![8192, 4, 128]⟩
abbrev S8192x4 : Shape := ⟨2, ![8192, 4]⟩
abbrev S8192x4x1 : Shape := ⟨3, ![8192, 4, 1]⟩
abbrev S1x4x128 : Shape := ⟨3, ![1, 4, 128]⟩
abbrev S64x128x4x128 : Shape := ⟨4, ![64, 128, 4, 128]⟩
abbrev S128x128 : Shape := ⟨2, ![128, 128]⟩
abbrev S1x128x128 : Shape := ⟨3, ![1, 128, 128]⟩
abbrev S4x64x128x128 : Shape := ⟨4, ![4, 64, 128, 128]⟩
abbrev S128x4 : Shape := ⟨2, ![128, 4]⟩
abbrev S128x4x1 : Shape := ⟨3, ![128, 4, 1]⟩
abbrev S1x128x4x1 : Shape := ⟨4, ![1, 128, 4, 1]⟩
abbrev S8192x1024 : Shape := ⟨2, ![8192, 1024]⟩

abbrev nBuf : Space → Nat
  | .hbm => 342
  | .vmem => 0
  | .smem => 0
  | _ => 0

abbrev hbmTy0_0 (i : Nat) : BufTy := match i % 128 with
  | 0 => ⟨S8192x2048, .f32⟩
  | 1 => ⟨S31x512, .f32⟩
  | 2 => ⟨S512, .f32⟩
  | 3 => ⟨S512, .f32⟩
  | 4 => ⟨S512, .f32⟩
  | 5 => ⟨S4x128, .f32⟩
  | 6 => ⟨S4x128, .f32⟩
  | 7 => ⟨S4x128x128, .f32⟩
  | 8 => ⟨S4x128, .f32⟩
  | 9 => ⟨S8192x512, .f32⟩
  | 10 => ⟨S8192x512, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S_, .f32⟩
  | 17 => ⟨S8192x512, .f32⟩
  | 18 => ⟨S8192x512, .f32⟩
  | 19 => ⟨S8192x512, .f32⟩
  | 20 => ⟨S2x4096x512, .f32⟩
  | 21 => ⟨S_, .f32⟩
  | 22 => ⟨S2x30x512, .f32⟩
  | 23 => ⟨S2x4126x512, .f32⟩
  | 24 => ⟨S_, .f32⟩
  | 25 => ⟨S2x4096x512, .f32⟩
  | 26 => ⟨S2x4096x512, .f32⟩
  | 27 => ⟨S1x512, .f32⟩
  | 28 => ⟨S512, .f32⟩
  | 29 => ⟨S1x1x512, .f32⟩
  | 30 => ⟨S2x4096x512, .f32⟩
  | 31 => ⟨S2x4096x512, .f32⟩
  | 32 => ⟨S2x4096x512, .f32⟩
  | 33 => ⟨S2x4096x512, .f32⟩
  | 34 => ⟨S1x512, .f32⟩
  | 35 => ⟨S512, .f32⟩
  | 36 => ⟨S1x1x512, .f32⟩
  | 37 => ⟨S2x4096x512, .f32⟩
  | 38 => ⟨S2x4096x512, .f32⟩
  | 39 => ⟨S2x4096x512, .f32⟩
  | 40 => ⟨S2x4096x512, .f32⟩
  | 41 => ⟨S1x512, .f32⟩
  | 42 => ⟨S512, .f32⟩
  | 43 => ⟨S1x1x512, .f32⟩
  | 44 => ⟨S2x4096x512, .f32⟩
  | 45 => ⟨S2x4096x512, .f32⟩
  | 46 => ⟨S2x4096x512, .f32⟩
  | 47 => ⟨S2x4096x512, .f32⟩
  | 48 => ⟨S1x512, .f32⟩
  | 49 => ⟨S512, .f32⟩
  | 50 => ⟨S1x1x512, .f32⟩
  | 51 => ⟨S2x4096x512, .f32⟩
  | 52 => ⟨S2x4096x512, .f32⟩
  | 53 => ⟨S2x4096x512, .f32⟩
  | 54 => ⟨S2x4096x512, .f32⟩
  | 55 => ⟨S1x512, .f32⟩
  | 56 => ⟨S512, .f32⟩
  | 57 => ⟨S1x1x512, .f32⟩
  | 58 => ⟨S2x4096x512, .f32⟩
  | 59 => ⟨S2x4096x512, .f32⟩
  | 60 => ⟨S2x4096x512, .f32⟩
  | 61 => ⟨S2x4096x512, .f32⟩
  | 62 => ⟨S1x512, .f32⟩
  | 63 => ⟨S512, .f32⟩
  | 64 => ⟨S1x1x512, .f32⟩
  | 65 => ⟨S2x4096x512, .f32⟩
  | 66 => ⟨S2x4096x512, .f32⟩
  | 67 => ⟨S2x4096x512, .f32⟩
  | 68 => ⟨S2x4096x512, .f32⟩
  | 69 => ⟨S1x512, .f32⟩
  | 70 => ⟨S512, .f32⟩
  | 71 => ⟨S1x1x512, .f32⟩
  | 72 => ⟨S2x4096x512, .f32⟩
  | 73 => ⟨S2x4096x512, .f32⟩
  | 74 => ⟨S2x4096x512, .f32⟩
  | 75 => ⟨S2x4096x512, .f32⟩
  | 76 => ⟨S1x512, .f32⟩
  | 77 => ⟨S512, .f32⟩
  | 78 => ⟨S1x1x512, .f32⟩
  | 79 => ⟨S2x4096x512, .f32⟩
  | 80 => ⟨S2x4096x512, .f32⟩
  | 81 => ⟨S2x4096x512, .f32⟩
  | 82 => ⟨S2x4096x512, .f32⟩
  | 83 => ⟨S1x512, .f32⟩
  | 84 => ⟨S512, .f32⟩
  | 85 => ⟨S1x1x512, .f32⟩
  | 86 => ⟨S2x4096x512, .f32⟩
  | 87 => ⟨S2x4096x512, .f32⟩
  | 88 => ⟨S2x4096x512, .f32⟩
  | 89 => ⟨S2x4096x512, .f32⟩
  | 90 => ⟨S1x512, .f32⟩
  | 91 => ⟨S512, .f32⟩
  | 92 => ⟨S1x1x512, .f32⟩
  | 93 => ⟨S2x4096x512, .f32⟩
  | 94 => ⟨S2x4096x512, .f32⟩
  | 95 => ⟨S2x4096x512, .f32⟩
  | 96 => ⟨S2x4096x512, .f32⟩
  | 97 => ⟨S1x512, .f32⟩
  | 98 => ⟨S512, .f32⟩
  | 99 => ⟨S1x1x512, .f32⟩
  | 100 => ⟨S2x4096x512, .f32⟩
  | 101 => ⟨S2x4096x512, .f32⟩
  | 102 => ⟨S2x4096x512, .f32⟩
  | 103 => ⟨S2x4096x512, .f32⟩
  | 104 => ⟨S1x512, .f32⟩
  | 105 => ⟨S512, .f32⟩
  | 106 => ⟨S1x1x512, .f32⟩
  | 107 => ⟨S2x4096x512, .f32⟩
  | 108 => ⟨S2x4096x512, .f32⟩
  | 109 => ⟨S2x4096x512, .f32⟩
  | 110 => ⟨S2x4096x512, .f32⟩
  | 111 => ⟨S1x512, .f32⟩
  | 112 => ⟨S512, .f32⟩
  | 113 => ⟨S1x1x512, .f32⟩
  | 114 => ⟨S2x4096x512, .f32⟩
  | 115 => ⟨S2x4096x512, .f32⟩
  | 116 => ⟨S2x4096x512, .f32⟩
  | 117 => ⟨S2x4096x512, .f32⟩
  | 118 => ⟨S1x512, .f32⟩
  | 119 => ⟨S512, .f32⟩
  | 120 => ⟨S1x1x512, .f32⟩
  | 121 => ⟨S2x4096x512, .f32⟩
  | 122 => ⟨S2x4096x512, .f32⟩
  | 123 => ⟨S2x4096x512, .f32⟩
  | 124 => ⟨S2x4096x512, .f32⟩
  | 125 => ⟨S1x512, .f32⟩
  | 126 => ⟨S512, .f32⟩
  | 127 => ⟨S1x1x512, .f32⟩
  | _ => ⟨S8192x2048, .f32⟩

abbrev hbmTy0_1 (i : Nat) : BufTy := match i % 128 with
  | 0 => ⟨S2x4096x512, .f32⟩
  | 1 => ⟨S2x4096x512, .f32⟩
  | 2 => ⟨S2x4096x512, .f32⟩
  | 3 => ⟨S2x4096x512, .f32⟩
  | 4 => ⟨S1x512, .f32⟩
  | 5 => ⟨S512, .f32⟩
  | 6 => ⟨S1x1x512, .f32⟩
  | 7 => ⟨S2x4096x512, .f32⟩
  | 8 => ⟨S2x4096x512, .f32⟩
  | 9 => ⟨S2x4096x512, .f32⟩
  | 10 => ⟨S2x4096x512, .f32⟩
  | 11 => ⟨S1x512, .f32⟩
  | 12 => ⟨S512, .f32⟩
  | 13 => ⟨S1x1x512, .f32⟩
  | 14 => ⟨S2x4096x512, .f32⟩
  | 15 => ⟨S2x4096x512, .f32⟩
  | 16 => ⟨S2x4096x512, .f32⟩
  | 17 => ⟨S2x4096x512, .f32⟩
  | 18 => ⟨S1x512, .f32⟩
  | 19 => ⟨S512, .f32⟩
  | 20 => ⟨S1x1x512, .f32⟩
  | 21 => ⟨S2x4096x512, .f32⟩
  | 22 => ⟨S2x4096x512, .f32⟩
  | 23 => ⟨S2x4096x512, .f32⟩
  | 24 => ⟨S2x4096x512, .f32⟩
  | 25 => ⟨S1x512, .f32⟩
  | 26 => ⟨S512, .f32⟩
  | 27 => ⟨S1x1x512, .f32⟩
  | 28 => ⟨S2x4096x512, .f32⟩
  | 29 => ⟨S2x4096x512, .f32⟩
  | 30 => ⟨S2x4096x512, .f32⟩
  | 31 => ⟨S2x4096x512, .f32⟩
  | 32 => ⟨S1x512, .f32⟩
  | 33 => ⟨S512, .f32⟩
  | 34 => ⟨S1x1x512, .f32⟩
  | 35 => ⟨S2x4096x512, .f32⟩
  | 36 => ⟨S2x4096x512, .f32⟩
  | 37 => ⟨S2x4096x512, .f32⟩
  | 38 => ⟨S2x4096x512, .f32⟩
  | 39 => ⟨S1x512, .f32⟩
  | 40 => ⟨S512, .f32⟩
  | 41 => ⟨S1x1x512, .f32⟩
  | 42 => ⟨S2x4096x512, .f32⟩
  | 43 => ⟨S2x4096x512, .f32⟩
  | 44 => ⟨S2x4096x512, .f32⟩
  | 45 => ⟨S2x4096x512, .f32⟩
  | 46 => ⟨S1x512, .f32⟩
  | 47 => ⟨S512, .f32⟩
  | 48 => ⟨S1x1x512, .f32⟩
  | 49 => ⟨S2x4096x512, .f32⟩
  | 50 => ⟨S2x4096x512, .f32⟩
  | 51 => ⟨S2x4096x512, .f32⟩
  | 52 => ⟨S2x4096x512, .f32⟩
  | 53 => ⟨S1x512, .f32⟩
  | 54 => ⟨S512, .f32⟩
  | 55 => ⟨S1x1x512, .f32⟩
  | 56 => ⟨S2x4096x512, .f32⟩
  | 57 => ⟨S2x4096x512, .f32⟩
  | 58 => ⟨S2x4096x512, .f32⟩
  | 59 => ⟨S2x4096x512, .f32⟩
  | 60 => ⟨S1x512, .f32⟩
  | 61 => ⟨S512, .f32⟩
  | 62 => ⟨S1x1x512, .f32⟩
  | 63 => ⟨S2x4096x512, .f32⟩
  | 64 => ⟨S2x4096x512, .f32⟩
  | 65 => ⟨S2x4096x512, .f32⟩
  | 66 => ⟨S2x4096x512, .f32⟩
  | 67 => ⟨S1x512, .f32⟩
  | 68 => ⟨S512, .f32⟩
  | 69 => ⟨S1x1x512, .f32⟩
  | 70 => ⟨S2x4096x512, .f32⟩
  | 71 => ⟨S2x4096x512, .f32⟩
  | 72 => ⟨S2x4096x512, .f32⟩
  | 73 => ⟨S2x4096x512, .f32⟩
  | 74 => ⟨S1x512, .f32⟩
  | 75 => ⟨S512, .f32⟩
  | 76 => ⟨S1x1x512, .f32⟩
  | 77 => ⟨S2x4096x512, .f32⟩
  | 78 => ⟨S2x4096x512, .f32⟩
  | 79 => ⟨S2x4096x512, .f32⟩
  | 80 => ⟨S2x4096x512, .f32⟩
  | 81 => ⟨S1x512, .f32⟩
  | 82 => ⟨S512, .f32⟩
  | 83 => ⟨S1x1x512, .f32⟩
  | 84 => ⟨S2x4096x512, .f32⟩
  | 85 => ⟨S2x4096x512, .f32⟩
  | 86 => ⟨S2x4096x512, .f32⟩
  | 87 => ⟨S2x4096x512, .f32⟩
  | 88 => ⟨S1x512, .f32⟩
  | 89 => ⟨S512, .f32⟩
  | 90 => ⟨S1x1x512, .f32⟩
  | 91 => ⟨S2x4096x512, .f32⟩
  | 92 => ⟨S2x4096x512, .f32⟩
  | 93 => ⟨S2x4096x512, .f32⟩
  | 94 => ⟨S2x4096x512, .f32⟩
  | 95 => ⟨S1x512, .f32⟩
  | 96 => ⟨S512, .f32⟩
  | 97 => ⟨S1x1x512, .f32⟩
  | 98 => ⟨S2x4096x512, .f32⟩
  | 99 => ⟨S2x4096x512, .f32⟩
  | 100 => ⟨S2x4096x512, .f32⟩
  | 101 => ⟨S2x4096x512, .f32⟩
  | 102 => ⟨S1x512, .f32⟩
  | 103 => ⟨S512, .f32⟩
  | 104 => ⟨S1x1x512, .f32⟩
  | 105 => ⟨S2x4096x512, .f32⟩
  | 106 => ⟨S2x4096x512, .f32⟩
  | 107 => ⟨S2x4096x512, .f32⟩
  | 108 => ⟨S2x4096x512, .f32⟩
  | 109 => ⟨S1x512, .f32⟩
  | 110 => ⟨S512, .f32⟩
  | 111 => ⟨S1x1x512, .f32⟩
  | 112 => ⟨S2x4096x512, .f32⟩
  | 113 => ⟨S2x4096x512, .f32⟩
  | 114 => ⟨S2x4096x512, .f32⟩
  | 115 => ⟨S1x1x512, .f32⟩
  | 116 => ⟨S2x4096x512, .f32⟩
  | 117 => ⟨S2x4096x512, .f32⟩
  | 118 => ⟨S8192x512, .f32⟩
  | 119 => ⟨S_, .f32⟩
  | 120 => ⟨S8192, .f32⟩
  | 121 => ⟨S8192x1, .f32⟩
  | 122 => ⟨S_, .f32⟩
  | 123 => ⟨S8192x1, .f32⟩
  | 124 => ⟨S8192x1, .f32⟩
  | 125 => ⟨S8192x512, .f32⟩
  | 126 => ⟨S8192x512, .f32⟩
  | 127 => ⟨S8192x512, .f32⟩
  | _ => ⟨S8192x2048, .f32⟩

abbrev hbmTy0_2 (i : Nat) : BufTy := match i % 128 with
  | 0 => ⟨S_, .f32⟩
  | 1 => ⟨S8192, .f32⟩
  | 2 => ⟨S8192x1, .f32⟩
  | 3 => ⟨S_, .f32⟩
  | 4 => ⟨S8192x1, .f32⟩
  | 5 => ⟨S8192x1, .f32⟩
  | 6 => ⟨S_, .f32⟩
  | 7 => ⟨S8192x1, .f32⟩
  | 8 => ⟨S8192x1, .f32⟩
  | 9 => ⟨S8192x1, .f32⟩
  | 10 => ⟨S8192x512, .f32⟩
  | 11 => ⟨S8192x512, .f32⟩
  | 12 => ⟨S1x512, .f32⟩
  | 13 => ⟨S8192x512, .f32⟩
  | 14 => ⟨S8192x512, .f32⟩
  | 15 => ⟨S1x512, .f32⟩
  | 16 => ⟨S8192x512, .f32⟩
  | 17 => ⟨S8192x512, .f32⟩
  | 18 => ⟨S8192x512, .f32⟩
  | 19 => ⟨S8192x512, .f32⟩
  | 20 => ⟨S_, .f32⟩
  | 21 => ⟨S8192x512, .f32⟩
  | 22 => ⟨S8192x512, .f32⟩
  | 23 => ⟨S_, .f32⟩
  | 24 => ⟨S8192x512, .f32⟩
  | 25 => ⟨S8192x512, .f32⟩
  | 26 => ⟨S8192x512, .f32⟩
  | 27 => ⟨S8192x512, .f32⟩
  | 28 => ⟨S8192x512, .f32⟩
  | 29 => ⟨S8192x4x128, .f32⟩
  | 30 => ⟨S_, .f32⟩
  | 31 => ⟨S8192x4, .f32⟩
  | 32 => ⟨S8192x4x1, .f32⟩
  | 33 => ⟨S_, .f32⟩
  | 34 => ⟨S8192x4x1, .f32⟩
  | 35 => ⟨S8192x4x1, .f32⟩
  | 36 => ⟨S8192x4x128, .f32⟩
  | 37 => ⟨S8192x4x128, .f32⟩
  | 38 => ⟨S8192x4x128, .f32⟩
  | 39 => ⟨S_, .f32⟩
  | 40 => ⟨S8192x4, .f32⟩
  | 41 => ⟨S8192x4x1, .f32⟩
  | 42 => ⟨S_, .f32⟩
  | 43 => ⟨S8192x4x1, .f32⟩
  | 44 => ⟨S8192x4x1, .f32⟩
  | 45 => ⟨S_, .f32⟩
  | 46 => ⟨S8192x4x1, .f32⟩
  | 47 => ⟨S8192x4x1, .f32⟩
  | 48 => ⟨S8192x4x1, .f32⟩
  | 49 => ⟨S8192x4x128, .f32⟩
  | 50 => ⟨S8192x4x128, .f32⟩
  | 51 => ⟨S1x4x128, .f32⟩
  | 52 => ⟨S8192x4x128, .f32⟩
  | 53 => ⟨S8192x4x128, .f32⟩
  | 54 => ⟨S1x4x128, .f32⟩
  | 55 => ⟨S8192x4x128, .f32⟩
  | 56 => ⟨S8192x4x128, .f32⟩
  | 57 => ⟨S64x128x4x128, .f32⟩
  | 58 => ⟨S_, .i1⟩
  | 59 => ⟨S128x128, .i1⟩
  | 60 => ⟨S128x128, .i32⟩
  | 61 => ⟨S_, .i32⟩
  | 62 => ⟨S128x128, .i32⟩
  | 63 => ⟨S128x128, .i32⟩
  | 64 => ⟨S128x128, .i32⟩
  | 65 => ⟨S128x128, .i1⟩
  | 66 => ⟨S_, .i1⟩
  | 67 => ⟨S128x128, .i1⟩
  | 68 => ⟨S128x128, .i1⟩
  | 69 => ⟨S1x128x128, .i1⟩
  | 70 => ⟨S_, .f32⟩
  | 71 => ⟨S_, .f32⟩
  | 72 => ⟨S4x128x128, .i1⟩
  | 73 => ⟨S4x128x128, .f32⟩
  | 74 => ⟨S4x128x128, .f32⟩
  | 75 => ⟨S4x64x128x128, .f32⟩
  | 76 => ⟨S64x128x4x128, .f32⟩
  | 77 => ⟨S128x4, .f32⟩
  | 78 => ⟨S128x4x1, .f32⟩
  | 79 => ⟨S1x128x4x1, .f32⟩
  | 80 => ⟨S64x128x4x128, .f32⟩
  | 81 => ⟨S64x128x4x128, .f32⟩
  | 82 => ⟨S8192x512, .f32⟩
  | 83 => ⟨S8192x512, .f32⟩
  | 84 => ⟨S8192x1024, .f32⟩
  | 85 => ⟨S8192x1024, .bf16⟩
  | _ => ⟨S8192x2048, .f32⟩

abbrev hbmTy (i : Nat) : BufTy := match i / 128 with
  | 0 => hbmTy0_0 i
  | 1 => hbmTy0_1 i
  | 2 => hbmTy0_2 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩
abbrev main_v197 : Ref sig .tc := ⟨.hbm, 210, rfl⟩
abbrev main_v198 : Ref sig .tc := ⟨.hbm, 211, rfl⟩
abbrev main_v199 : Ref sig .tc := ⟨.hbm, 212, rfl⟩
abbrev main_v200 : Ref sig .tc := ⟨.hbm, 213, rfl⟩
abbrev main_v201 : Ref sig .tc := ⟨.hbm, 214, rfl⟩
abbrev main_v202 : Ref sig .tc := ⟨.hbm, 215, rfl⟩
abbrev main_v203 : Ref sig .tc := ⟨.hbm, 216, rfl⟩
abbrev main_v204 : Ref sig .tc := ⟨.hbm, 217, rfl⟩
abbrev main_v205 : Ref sig .tc := ⟨.hbm, 218, rfl⟩
abbrev main_v206 : Ref sig .tc := ⟨.hbm, 219, rfl⟩
abbrev main_v207 : Ref sig .tc := ⟨.hbm, 220, rfl⟩
abbrev main_v208 : Ref sig .tc := ⟨.hbm, 221, rfl⟩
abbrev main_v209 : Ref sig .tc := ⟨.hbm, 222, rfl⟩
abbrev main_v210 : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_v214 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩
abbrev main_v219 : Ref sig .tc := ⟨.hbm, 232, rfl⟩
abbrev main_v220 : Ref sig .tc := ⟨.hbm, 233, rfl⟩
abbrev main_v221 : Ref sig .tc := ⟨.hbm, 234, rfl⟩
abbrev main_v222 : Ref sig .tc := ⟨.hbm, 235, rfl⟩
abbrev main_v223 : Ref sig .tc := ⟨.hbm, 236, rfl⟩
abbrev main_v224 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_v230 : Ref sig .tc := ⟨.hbm, 243, rfl⟩
abbrev main_v231 : Ref sig .tc := ⟨.hbm, 244, rfl⟩
abbrev main_v232 : Ref sig .tc := ⟨.hbm, 245, rfl⟩
abbrev main_v233 : Ref sig .tc := ⟨.hbm, 246, rfl⟩
abbrev main_cst_3 : Ref sig .tc := ⟨.hbm, 247, rfl⟩
abbrev main_v234 : Ref sig .tc := ⟨.hbm, 248, rfl⟩
abbrev main_v235 : Ref sig .tc := ⟨.hbm, 249, rfl⟩
abbrev main_cst_4 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_cst_5 : Ref sig .tc := ⟨.hbm, 256, rfl⟩
abbrev main_v241 : Ref sig .tc := ⟨.hbm, 257, rfl⟩
abbrev main_v242 : Ref sig .tc := ⟨.hbm, 258, rfl⟩
abbrev main_cst_6 : Ref sig .tc := ⟨.hbm, 259, rfl⟩
abbrev main_v243 : Ref sig .tc := ⟨.hbm, 260, rfl⟩
abbrev main_v244 : Ref sig .tc := ⟨.hbm, 261, rfl⟩
abbrev main_cst_7 : Ref sig .tc := ⟨.hbm, 262, rfl⟩
abbrev main_v245 : Ref sig .tc := ⟨.hbm, 263, rfl⟩
abbrev main_v246 : Ref sig .tc := ⟨.hbm, 264, rfl⟩
abbrev main_v247 : Ref sig .tc := ⟨.hbm, 265, rfl⟩
abbrev main_v248 : Ref sig .tc := ⟨.hbm, 266, rfl⟩
abbrev main_v249 : Ref sig .tc := ⟨.hbm, 267, rfl⟩
abbrev main_v250 : Ref sig .tc := ⟨.hbm, 268, rfl⟩
abbrev main_v251 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_v255 : Ref sig .tc := ⟨.hbm, 273, rfl⟩
abbrev main_call0_v0 : Ref sig .tc := ⟨.hbm, 274, rfl⟩
abbrev main_call0_v1 : Ref sig .tc := ⟨.hbm, 275, rfl⟩
abbrev main_call0_cst : Ref sig .tc := ⟨.hbm, 276, rfl⟩
abbrev main_call0_v2 : Ref sig .tc := ⟨.hbm, 277, rfl⟩
abbrev main_call0_v3 : Ref sig .tc := ⟨.hbm, 278, rfl⟩
abbrev main_call0_cst_0 : Ref sig .tc := ⟨.hbm, 279, rfl⟩
abbrev main_call0_v4 : Ref sig .tc := ⟨.hbm, 280, rfl⟩
abbrev main_call0_v5 : Ref sig .tc := ⟨.hbm, 281, rfl⟩
abbrev main_v256 : Ref sig .tc := ⟨.hbm, 282, rfl⟩
abbrev main_v257 : Ref sig .tc := ⟨.hbm, 283, rfl⟩
abbrev main_v258 : Ref sig .tc := ⟨.hbm, 284, rfl⟩
abbrev main_v259 : Ref sig .tc := ⟨.hbm, 285, rfl⟩
abbrev main_cst_8 : Ref sig .tc := ⟨.hbm, 286, rfl⟩
abbrev main_v260 : Ref sig .tc := ⟨.hbm, 287, rfl⟩
abbrev main_v261 : Ref sig .tc := ⟨.hbm, 288, rfl⟩
abbrev main_cst_9 : Ref sig .tc := ⟨.hbm, 289, rfl⟩
abbrev main_v262 : Ref sig .tc := ⟨.hbm, 290, rfl⟩
abbrev main_v263 : Ref sig .tc := ⟨.hbm, 291, rfl⟩
abbrev main_v264 : Ref sig .tc := ⟨.hbm, 292, rfl⟩
abbrev main_v265 : Ref sig .tc := ⟨.hbm, 293, rfl⟩
abbrev main_v266 : Ref sig .tc := ⟨.hbm, 294, rfl⟩
abbrev main_cst_10 : Ref sig .tc := ⟨.hbm, 295, rfl⟩
abbrev main_v267 : Ref sig .tc := ⟨.hbm, 296, rfl⟩
abbrev main_v268 : Ref sig .tc := ⟨.hbm, 297, rfl⟩
abbrev main_cst_11 : Ref sig .tc := ⟨.hbm, 298, rfl⟩
abbrev main_v269 : Ref sig .tc := ⟨.hbm, 299, rfl⟩
abbrev main_v270 : Ref sig .tc := ⟨.hbm, 300, rfl⟩
abbrev main_cst_12 : Ref sig .tc := ⟨.hbm, 301, rfl⟩
abbrev main_v271 : Ref sig .tc := ⟨.hbm, 302, rfl⟩
abbrev main_v272 : Ref sig .tc := ⟨.hbm, 303, rfl⟩
abbrev main_v273 : Ref sig .tc := ⟨.hbm, 304, rfl⟩
abbrev main_v274 : Ref sig .tc := ⟨.hbm, 305, rfl⟩
abbrev main_v275 : Ref sig .tc := ⟨.hbm, 306, rfl⟩
abbrev main_v276 : Ref sig .tc := ⟨.hbm, 307, rfl⟩
abbrev main_v277 : Ref sig .tc := ⟨.hbm, 308, rfl⟩
abbrev main_v278 : Ref sig .tc := ⟨.hbm, 309, rfl⟩
abbrev main_v279 : Ref sig .tc := ⟨.hbm, 310, rfl⟩
abbrev main_v280 : Ref sig .tc := ⟨.hbm, 311, rfl⟩
abbrev main_v281 : Ref sig .tc := ⟨.hbm, 312, rfl⟩
abbrev main_v282 : Ref sig .tc := ⟨.hbm, 313, rfl⟩
abbrev main_c : Ref sig .tc := ⟨.hbm, 314, rfl⟩
abbrev main_v283 : Ref sig .tc := ⟨.hbm, 315, rfl⟩
abbrev main_call1_v0 : Ref sig .tc := ⟨.hbm, 316, rfl⟩
abbrev main_call1_c : Ref sig .tc := ⟨.hbm, 317, rfl⟩
abbrev main_call1_v1 : Ref sig .tc := ⟨.hbm, 318, rfl⟩
abbrev main_call1_v2 : Ref sig .tc := ⟨.hbm, 319, rfl⟩
abbrev main_call1_v3 : Ref sig .tc := ⟨.hbm, 320, rfl⟩
abbrev main_call1_v4 : Ref sig .tc := ⟨.hbm, 321, rfl⟩
abbrev main_call1_c_0 : Ref sig .tc := ⟨.hbm, 322, rfl⟩
abbrev main_call1_v5 : Ref sig .tc := ⟨.hbm, 323, rfl⟩
abbrev main_v284 : Ref sig .tc := ⟨.hbm, 324, rfl⟩
abbrev main_v285 : Ref sig .tc := ⟨.hbm, 325, rfl⟩
abbrev main_cst_13 : Ref sig .tc := ⟨.hbm, 326, rfl⟩
abbrev main_call2_v0 : Ref sig .tc := ⟨.hbm, 327, rfl⟩
abbrev main_call2_v1 : Ref sig .tc := ⟨.hbm, 328, rfl⟩
abbrev main_call2_v2 : Ref sig .tc := ⟨.hbm, 329, rfl⟩
abbrev main_v286 : Ref sig .tc := ⟨.hbm, 330, rfl⟩
abbrev main_v287 : Ref sig .tc := ⟨.hbm, 331, rfl⟩
abbrev main_v288 : Ref sig .tc := ⟨.hbm, 332, rfl⟩
abbrev main_v289 : Ref sig .tc := ⟨.hbm, 333, rfl⟩
abbrev main_v290 : Ref sig .tc := ⟨.hbm, 334, rfl⟩
abbrev main_v291 : Ref sig .tc := ⟨.hbm, 335, rfl⟩
abbrev main_v292 : Ref sig .tc := ⟨.hbm, 336, rfl⟩
abbrev main_v293 : Ref sig .tc := ⟨.hbm, 337, rfl⟩
abbrev main_v294 : Ref sig .tc := ⟨.hbm, 338, rfl⟩
abbrev main_v295 : Ref sig .tc := ⟨.hbm, 339, rfl⟩
abbrev main_v296 : Ref sig .tc := ⟨.hbm, 340, rfl⟩
abbrev main_v297 : Ref sig .tc := ⟨.hbm, 341, rfl⟩

abbrev nD : Nat := 1
abbrev τ : Topo := Topo.v7x

variable {F : FTy → Type} [FloatOps F]
-- ==== Conv.lean ====
abbrev S8192x2048 : Shape := ⟨2, ![8192, 2048]⟩
abbrev S31x512 : Shape := ⟨2, ![31, 512]⟩
abbrev S8192x512 : Shape := ⟨2, ![8192, 512]⟩
abbrev S8192x1024 : Shape := ⟨2, ![8192, 1024]⟩
abbrev S1x512 : Shape := ⟨2, ![1, 512]⟩
abbrev S512x512 : Shape := ⟨2, ![512, 512]⟩
abbrev S32x512 : Shape := ⟨2, ![32, 512]⟩
abbrev S512x1024 : Shape := ⟨2, ![512, 1024]⟩
abbrev S8x544x512 : Shape := ⟨3, ![8, 544, 512]⟩
abbrev S31x8x512 : Shape := ⟨3, ![31, 8, 512]⟩
abbrev S1x32x512 : Shape := ⟨3, ![1, 32, 512]⟩
abbrev S1x512x512 : Shape := ⟨3, ![1, 512, 512]⟩
abbrev S1x536x512 : Shape := ⟨3, ![1, 536, 512]⟩
abbrev S536x512 : Shape := ⟨2, ![536, 512]⟩
abbrev S512 : Shape := ⟨1, ![512]⟩
abbrev S8x512 : Shape := ⟨2, ![8, 512]⟩
abbrev S1x8x512 : Shape := ⟨3, ![1, 8, 512]⟩

abbrev nBuf : Space → Nat
  | .hbm => 6
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S31x512, .f32⟩
  | .hbm, ⟨2, _⟩ => ⟨S8192x512, .f32⟩
  | .hbm, ⟨3, _⟩ => ⟨S8192x1024, .bf16⟩
  | .hbm, ⟨4, _⟩ => ⟨S31x512, .f32⟩
  | .hbm, ⟨5, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S32x512, .f32⟩
  | .local _ .vmem, ⟨3, _⟩ => ⟨S32x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S31x512, .f32⟩
  | .local _ .vmem, ⟨13, _⟩ => ⟨S512x1024, .bf16⟩
  | .local _ .vmem, ⟨14, _⟩ => ⟨S512x1024, .bf16⟩
  | .local _ .vmem, ⟨15, _⟩ => ⟨S31x512, .f32⟩
  | .local _ .vmem, ⟨16, _⟩ => ⟨S1x512, .f32⟩
  | .local _ .vmem, ⟨17, _⟩ => ⟨S8x544x512, .f32⟩
  | .local _ .vmem, ⟨18, _⟩ => ⟨S8x544x512, .f32⟩
  | .local _ .vmem, ⟨19, _⟩ => ⟨S512x512, .f32⟩
  | .local _ .vmem, ⟨20, _⟩ => ⟨S31x8x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let arg1 : BitVec 32 := BitVec.ofNat 32 (i 1).val
  let c7_i32 : BitVec 32 := 7#32
  let v4 : BitVec 1 := Scalar.cmpi .eq arg1 c7_i32
  let v5 : BitVec 1 := Scalar.andi v3 v4
  let v11153 : BitVec 32 := Scalar.extui v5
  let c0_i32_7088 : BitVec 32 := 0#32
  let v11154 : BitVec 1 := Scalar.cmpi .ne v11153 c0_i32_7088
  v11154

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.addi v1 c1_i32
  let c16_i32 : BitVec 32 := 16#32
  let v3 : BitVec 32 := Scalar.muli v2 c16_i32
  let c255_i32 : BitVec 32 := 255#32
  let v4 : BitVec 32 := Scalar.minsi v3 c255_i32
  let c0_i32 : BitVec 32 := 0#32
  let c0_i32_0 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c1_i32_0 : BitVec 32 := 1#32
  let c0_i32_1 : BitVec 32 := 0#32
  ![v4.toNat, c1_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S31x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== ConvRefIdeal.lean ====
abbrev S8192x2048 : Shape := ⟨2, ![8192, 2048]⟩
abbrev S31x512 : Shape := ⟨2, ![31, 512]⟩
abbrev S8192x512 : Shape := ⟨2, ![8192, 512]⟩
abbrev S_ : Shape := ⟨0, ![]⟩
abbrev S512 : Shape := ⟨1, ![512]⟩
abbrev S2x4096x512 : Shape := ⟨3, ![2, 4096, 512]⟩
abbrev S2x30x512 : Shape := ⟨3, ![2, 30, 512]⟩
abbrev S2x4126x512 : Shape := ⟨3, ![2, 4126, 512]⟩
abbrev S1x512 : Shape := ⟨2, ![1, 512]⟩
abbrev S1x1x512 : Shape := ⟨3, ![1, 1, 512]⟩
abbrev S8192x1024 : Shape := ⟨2, ![8192, 1024]⟩

abbrev nBuf : Space → Nat
  | .hbm => 732
  | .vmem => 0
  | .smem => 0
  | _ => 0

abbrev hbmTy0_0 (i : Nat) : BufTy := match i % 128 with
  | 0 => ⟨S8192x2048, .f32⟩
  | 1 => ⟨S31x512, .f32⟩
  | 2 => ⟨S8192x512, .f32⟩
  | 3 => ⟨S_, .f32⟩
  | 4 => ⟨S512, .f32⟩
  | 5 => ⟨S8192x512, .f32⟩
  | 6 => ⟨S8192x512, .f32⟩
  | 7 => ⟨S8192x512, .f32⟩
  | 8 => ⟨S8192x512, .f32⟩
  | 9 => ⟨S_, .f32⟩
  | 10 => ⟨S8192x512, .f32⟩
  | 11 => ⟨S8192x512, .f32⟩
  | 12 => ⟨S_, .f32⟩
  | 13 => ⟨S8192x512, .f32⟩
  | 14 => ⟨S8192x512, .f32⟩
  | 15 => ⟨S_, .f32⟩
  | 16 => ⟨S8192x512, .f32⟩
  | 17 => ⟨S8192x512, .f32⟩
  | 18 => ⟨S8192x512, .f32⟩
  | 19 => ⟨S8192x512, .f32⟩
  | 20 => ⟨S2x4096x512, .f32⟩
  | 21 => ⟨S_, .f32⟩
  | 22 => ⟨S2x30x512, .f32⟩
  | 23 => ⟨S2x4126x512, .f32⟩
  | 24 => ⟨S_, .f32⟩
  | 25 => ⟨S2x30x512, .f32⟩
  | 26 => ⟨S_, .f32⟩
  | 27 => ⟨S2x4096x512, .f32⟩
  | 28 => ⟨S2x4096x512, .f32⟩
  | 29 => ⟨S1x512, .f32⟩
  | 30 => ⟨S512, .f32⟩
  | 31 => ⟨S1x1x512, .f32⟩
  | 32 => ⟨S2x4096x512, .f32⟩
  | 33 => ⟨S2x4096x512, .f32⟩
  | 34 => ⟨S2x4096x512, .f32⟩
  | 35 => ⟨S2x4096x512, .f32⟩
  | 36 => ⟨S1x512, .f32⟩
  | 37 => ⟨S512, .f32⟩
  | 38 => ⟨S1x1x512, .f32⟩
  | 39 => ⟨S2x4096x512, .f32⟩
  | 40 => ⟨S2x4096x512, .f32⟩
  | 41 => ⟨S2x4096x512, .f32⟩
  | 42 => ⟨S2x4096x512, .f32⟩
  | 43 => ⟨S1x512, .f32⟩
  | 44 => ⟨S512, .f32⟩
  | 45 => ⟨S1x1x512, .f32⟩
  | 46 => ⟨S2x4096x512, .f32⟩
  | 47 => ⟨S2x4096x512, .f32⟩
  | 48 => ⟨S2x4096x512, .f32⟩
  | 49 => ⟨S2x4096x512, .f32⟩
  | 50 => ⟨S1x512, .f32⟩
  | 51 => ⟨S512, .f32⟩
  | 52 => ⟨S1x1x512, .f32⟩
  | 53 => ⟨S2x4096x512, .f32⟩
  | 54 => ⟨S2x4096x512, .f32⟩
  | 55 => ⟨S2x4096x512, .f32⟩
  | 56 => ⟨S2x4096x512, .f32⟩
  | 57 => ⟨S1x512, .f32⟩
  | 58 => ⟨S512, .f32⟩
  | 59 => ⟨S1x1x512, .f32⟩
  | 60 => ⟨S2x4096x512, .f32⟩
  | 61 => ⟨S2x4096x512, .f32⟩
  | 62 => ⟨S2x4096x512, .f32⟩
  | 63 => ⟨S2x4096x512, .f32⟩
  | 64 => ⟨S1x512, .f32⟩
  | 65 => ⟨S512, .f32⟩
  | 66 => ⟨S1x1x512, .f32⟩
  | 67 => ⟨S2x4096x512, .f32⟩
  | 68 => ⟨S2x4096x512, .f32⟩
  | 69 => ⟨S2x4096x512, .f32⟩
  | 70 => ⟨S2x4096x512, .f32⟩
  | 71 => ⟨S1x512, .f32⟩
  | 72 => ⟨S512, .f32⟩
  | 73 => ⟨S1x1x512, .f32⟩
  | 74 => ⟨S2x4096x512, .f32⟩
  | 75 => ⟨S2x4096x512, .f32⟩
  | 76 => ⟨S2x4096x512, .f32⟩
  | 77 => ⟨S2x4096x512, .f32⟩
  | 78 => ⟨S1x512, .f32⟩
  | 79 => ⟨S512, .f32⟩
  | 80 => ⟨S1x1x512, .f32⟩
  | 81 => ⟨S2x4096x512, .f32⟩
  | 82 => ⟨S2x4096x512, .f32⟩
  | 83 => ⟨S2x4096x512, .f32⟩
  | 84 => ⟨S2x4096x512, .f32⟩
  | 85 => ⟨S1x512, .f32⟩
  | 86 => ⟨S512, .f32⟩
  | 87 => ⟨S1x1x512, .f32⟩
  | 88 => ⟨S2x4096x512, .f32⟩
  | 89 => ⟨S2x4096x512, .f32⟩
  | 90 => ⟨S2x4096x512, .f32⟩
  | 91 => ⟨S2x4096x512, .f32⟩
  | 92 => ⟨S1x512, .f32⟩
  | 93 => ⟨S512, .f32⟩
  | 94 => ⟨S1x1x512, .f32⟩
  | 95 => ⟨S2x4096x512, .f32⟩
  | 96 => ⟨S2x4096x512, .f32⟩
  | 97 => ⟨S2x4096x512, .f32⟩
  | 98 => ⟨S2x4096x512, .f32⟩
  | 99 => ⟨S1x512, .f32⟩
  | 100 => ⟨S512, .f32⟩
  | 101 => ⟨S1x1x512, .f32⟩
  | 102 => ⟨S2x4096x512, .f32⟩
  | 103 => ⟨S2x4096x512, .f32⟩
  | 104 => ⟨S2x4096x512, .f32⟩
  | 105 => ⟨S2x4096x512, .f32⟩
  | 106 => ⟨S1x512, .f32⟩
  | 107 => ⟨S512, .f32⟩
  | 108 => ⟨S1x1x512, .f32⟩
  | 109 => ⟨S2x4096x512, .f32⟩
  | 110 => ⟨S2x4096x512, .f32⟩
  | 111 => ⟨S2x4096x512, .f32⟩
  | 112 => ⟨S2x4096x512, .f32⟩
  | 113 => ⟨S1x512, .f32⟩
  | 114 => ⟨S512, .f32⟩
  | 115 => ⟨S1x1x512, .f32⟩
  | 116 => ⟨S2x4096x512, .f32⟩
  | 117 => ⟨S2x4096x512, .f32⟩
  | 118 => ⟨S2x4096x512, .f32⟩
  | 119 => ⟨S2x4096x512, .f32⟩
  | 120 => ⟨S1x512, .f32⟩
  | 121 => ⟨S512, .f32⟩
  | 122 => ⟨S1x1x512, .f32⟩
  | 123 => ⟨S2x4096x512, .f32⟩
  | 124 => ⟨S2x4096x512, .f32⟩
  | 125 => ⟨S2x4096x512, .f32⟩
  | 126 => ⟨S2x4096x512, .f32⟩
  | 127 => ⟨S1x512, .f32⟩
  | _ => ⟨S8192x2048, .f32⟩

abbrev hbmTy0_1 (i : Nat) : BufTy := match i % 128 with
  | 0 => ⟨S512, .f32⟩
  | 1 => ⟨S1x1x512, .f32⟩
  | 2 => ⟨S2x4096x512, .f32⟩
  | 3 => ⟨S2x4096x512, .f32⟩
  | 4 => ⟨S2x4096x512, .f32⟩
  | 5 => ⟨S2x4096x512, .f32⟩
  | 6 => ⟨S1x512, .f32⟩
  | 7 => ⟨S512, .f32⟩
  | 8 => ⟨S1x1x512, .f32⟩
  | 9 => ⟨S2x4096x512, .f32⟩
  | 10 => ⟨S2x4096x512, .f32⟩
  | 11 => ⟨S2x4096x512, .f32⟩
  | 12 => ⟨S2x4096x512, .f32⟩
  | 13 => ⟨S1x512, .f32⟩
  | 14 => ⟨S512, .f32⟩
  | 15 => ⟨S1x1x512, .f32⟩
  | 16 => ⟨S2x4096x512, .f32⟩
  | 17 => ⟨S2x4096x512, .f32⟩
  | 18 => ⟨S2x4096x512, .f32⟩
  | 19 => ⟨S2x4096x512, .f32⟩
  | 20 => ⟨S1x512, .f32⟩
  | 21 => ⟨S512, .f32⟩
  | 22 => ⟨S1x1x512, .f32⟩
  | 23 => ⟨S2x4096x512, .f32⟩
  | 24 => ⟨S2x4096x512, .f32⟩
  | 25 => ⟨S2x4096x512, .f32⟩
  | 26 => ⟨S2x4096x512, .f32⟩
  | 27 => ⟨S1x512, .f32⟩
  | 28 => ⟨S512, .f32⟩
  | 29 => ⟨S1x1x512, .f32⟩
  | 30 => ⟨S2x4096x512, .f32⟩
  | 31 => ⟨S2x4096x512, .f32⟩
  | 32 => ⟨S2x4096x512, .f32⟩
  | 33 => ⟨S2x4096x512, .f32⟩
  | 34 => ⟨S1x512, .f32⟩
  | 35 => ⟨S512, .f32⟩
  | 36 => ⟨S1x1x512, .f32⟩
  | 37 => ⟨S2x4096x512, .f32⟩
  | 38 => ⟨S2x4096x512, .f32⟩
  | 39 => ⟨S2x4096x512, .f32⟩
  | 40 => ⟨S2x4096x512, .f32⟩
  | 41 => ⟨S1x512, .f32⟩
  | 42 => ⟨S512, .f32⟩
  | 43 => ⟨S1x1x512, .f32⟩
  | 44 => ⟨S2x4096x512, .f32⟩
  | 45 => ⟨S2x4096x512, .f32⟩
  | 46 => ⟨S2x4096x512, .f32⟩
  | 47 => ⟨S2x4096x512, .f32⟩
  | 48 => ⟨S1x512, .f32⟩
  | 49 => ⟨S512, .f32⟩
  | 50 => ⟨S1x1x512, .f32⟩
  | 51 => ⟨S2x4096x512, .f32⟩
  | 52 => ⟨S2x4096x512, .f32⟩
  | 53 => ⟨S2x4096x512, .f32⟩
  | 54 => ⟨S2x4096x512, .f32⟩
  | 55 => ⟨S1x512, .f32⟩
  | 56 => ⟨S512, .f32⟩
  | 57 => ⟨S1x1x512, .f32⟩
  | 58 => ⟨S2x4096x512, .f32⟩
  | 59 => ⟨S2x4096x512, .f32⟩
  | 60 => ⟨S2x4096x512, .f32⟩
  | 61 => ⟨S2x4096x512, .f32⟩
  | 62 => ⟨S1x512, .f32⟩
  | 63 => ⟨S512, .f32⟩
  | 64 => ⟨S1x1x512, .f32⟩
  | 65 => ⟨S2x4096x512, .f32⟩
  | 66 => ⟨S2x4096x512, .f32⟩
  | 67 => ⟨S2x4096x512, .f32⟩
  | 68 => ⟨S2x4096x512, .f32⟩
  | 69 => ⟨S1x512, .f32⟩
  | 70 => ⟨S512, .f32⟩
  | 71 => ⟨S1x1x512, .f32⟩
  | 72 => ⟨S2x4096x512, .f32⟩
  | 73 => ⟨S2x4096x512, .f32⟩
  | 74 => ⟨S2x4096x512, .f32⟩
  | 75 => ⟨S2x4096x512, .f32⟩
  | 76 => ⟨S1x512, .f32⟩
  | 77 => ⟨S512, .f32⟩
  | 78 => ⟨S1x1x512, .f32⟩
  | 79 => ⟨S2x4096x512, .f32⟩
  | 80 => ⟨S2x4096x512, .f32⟩
  | 81 => ⟨S2x4096x512, .f32⟩
  | 82 => ⟨S2x4096x512, .f32⟩
  | 83 => ⟨S1x512, .f32⟩
  | 84 => ⟨S512, .f32⟩
  | 85 => ⟨S1x1x512, .f32⟩
  | 86 => ⟨S2x4096x512, .f32⟩
  | 87 => ⟨S2x4096x512, .f32⟩
  | 88 => ⟨S2x4096x512, .f32⟩
  | 89 => ⟨S2x4096x512, .f32⟩
  | 90 => ⟨S1x512, .f32⟩
  | 91 => ⟨S512, .f32⟩
  | 92 => ⟨S1x1x512, .f32⟩
  | 93 => ⟨S2x4096x512, .f32⟩
  | 94 => ⟨S2x4096x512, .f32⟩
  | 95 => ⟨S2x4096x512, .f32⟩
  | 96 => ⟨S2x4096x512, .f32⟩
  | 97 => ⟨S1x512, .f32⟩
  | 98 => ⟨S512, .f32⟩
  | 99 => ⟨S1x1x512, .f32⟩
  | 100 => ⟨S2x4096x512, .f32⟩
  | 101 => ⟨S2x4096x512, .f32⟩
  | 102 => ⟨S2x4096x512, .f32⟩
  | 103 => ⟨S2x4096x512, .f32⟩
  | 104 => ⟨S1x512, .f32⟩
  | 105 => ⟨S512, .f32⟩
  | 106 => ⟨S1x1x512, .f32⟩
  | 107 => ⟨S2x4096x512, .f32⟩
  | 108 => ⟨S2x4096x512, .f32⟩
  | 109 => ⟨S2x4096x512, .f32⟩
  | 110 => ⟨S2x4096x512, .f32⟩
  | 111 => ⟨S1x512, .f32⟩
  | 112 => ⟨S512, .f32⟩
  | 113 => ⟨S1x1x512, .f32⟩
  | 114 => ⟨S2x4096x512, .f32⟩
  | 115 => ⟨S2x4096x512, .f32⟩
  | 116 => ⟨S2x4096x512, .f32⟩
  | 117 => ⟨S1x1x512, .f32⟩
  | 118 => ⟨S2x4096x512, .f32⟩
  | 119 => ⟨S2x4096x512, .f32⟩
  | 120 => ⟨S8192x512, .f32⟩
  | 121 => ⟨S2x4096x512, .f32⟩
  | 122 => ⟨S_, .f32⟩
  | 123 => ⟨S512, .f32⟩
  | 124 => ⟨S1x1x512, .f32⟩
  | 125 => ⟨S_, .f32⟩
  | 126 => ⟨S512, .f32⟩
  | 127 => ⟨S2x4096x512, .f32⟩
  | _ => ⟨S8192x2048, .f32⟩

abbrev hbmTy0_2 (i : Nat) : BufTy := match i % 128 with
  | 0 => ⟨S_, .f32⟩
  | 1 => ⟨S512, .f32⟩
  | 2 => ⟨S1x1x512, .f32⟩
  | 3 => ⟨S2x4096x512, .f32⟩
  | 4 => ⟨S2x4096x512, .f32⟩
  | 5 => ⟨S_, .f32⟩
  | 6 => ⟨S512, .f32⟩
  | 7 => ⟨S1x512, .f32⟩
  | 8 => ⟨S_, .f32⟩
  | 9 => ⟨S31x512, .f32⟩
  | 10 => ⟨S_, .f32⟩
  | 11 => ⟨S2x4126x512, .f32⟩
  | 12 => ⟨S2x4096x512, .f32⟩
  | 13 => ⟨S_, .f32⟩
  | 14 => ⟨S512, .f32⟩
  | 15 => ⟨S1x1x512, .f32⟩
  | 16 => ⟨S2x4096x512, .f32⟩
  | 17 => ⟨S2x4096x512, .f32⟩
  | 18 => ⟨S_, .f32⟩
  | 19 => ⟨S512, .f32⟩
  | 20 => ⟨S1x512, .f32⟩
  | 21 => ⟨S_, .f32⟩
  | 22 => ⟨S31x512, .f32⟩
  | 23 => ⟨S31x512, .f32⟩
  | 24 => ⟨S_, .f32⟩
  | 25 => ⟨S2x4126x512, .f32⟩
  | 26 => ⟨S2x4126x512, .f32⟩
  | 27 => ⟨S2x4096x512, .f32⟩
  | 28 => ⟨S_, .f32⟩
  | 29 => ⟨S512, .f32⟩
  | 30 => ⟨S1x1x512, .f32⟩
  | 31 => ⟨S2x4096x512, .f32⟩
  | 32 => ⟨S2x4096x512, .f32⟩
  | 33 => ⟨S_, .f32⟩
  | 34 => ⟨S512, .f32⟩
  | 35 => ⟨S1x512, .f32⟩
  | 36 => ⟨S_, .f32⟩
  | 37 => ⟨S31x512, .f32⟩
  | 38 => ⟨S31x512, .f32⟩
  | 39 => ⟨S_, .f32⟩
  | 40 => ⟨S2x4126x512, .f32⟩
  | 41 => ⟨S2x4126x512, .f32⟩
  | 42 => ⟨S2x4096x512, .f32⟩
  | 43 => ⟨S_, .f32⟩
  | 44 => ⟨S512, .f32⟩
  | 45 => ⟨S1x1x512, .f32⟩
  | 46 => ⟨S2x4096x512, .f32⟩
  | 47 => ⟨S2x4096x512, .f32⟩
  | 48 => ⟨S_, .f32⟩
  | 49 => ⟨S512, .f32⟩
  | 50 => ⟨S1x512, .f32⟩
  | 51 => ⟨S_, .f32⟩
  | 52 => ⟨S31x512, .f32⟩
  | 53 => ⟨S31x512, .f32⟩
  | 54 => ⟨S_, .f32⟩
  | 55 => ⟨S2x4126x512, .f32⟩
  | 56 => ⟨S2x4126x512, .f32⟩
  | 57 => ⟨S2x4096x512, .f32⟩
  | 58 => ⟨S_, .f32⟩
  | 59 => ⟨S512, .f32⟩
  | 60 => ⟨S1x1x512, .f32⟩
  | 61 => ⟨S2x4096x512, .f32⟩
  | 62 => ⟨S2x4096x512, .f32⟩
  | 63 => ⟨S_, .f32⟩
  | 64 => ⟨S512, .f32⟩
  | 65 => ⟨S1x512, .f32⟩
  | 66 => ⟨S_, .f32⟩
  | 67 => ⟨S31x512, .f32⟩
  | 68 => ⟨S31x512, .f32⟩
  | 69 => ⟨S_, .f32⟩
  | 70 => ⟨S2x4126x512, .f32⟩
  | 71 => ⟨S2x4126x512, .f32⟩
  | 72 => ⟨S2x4096x512, .f32⟩
  | 73 => ⟨S_, .f32⟩
  | 74 => ⟨S512, .f32⟩
  | 75 => ⟨S1x1x512, .f32⟩
  | 76 => ⟨S2x4096x512, .f32⟩
  | 77 => ⟨S2x4096x512, .f32⟩
  | 78 => ⟨S_, .f32⟩
  | 79 => ⟨S512, .f32⟩
  | 80 => ⟨S1x512, .f32⟩
  | 81 => ⟨S_, .f32⟩
  | 82 => ⟨S31x512, .f32⟩
  | 83 => ⟨S31x512, .f32⟩
  | 84 => ⟨S_, .f32⟩
  | 85 => ⟨S2x4126x512, .f32⟩
  | 86 => ⟨S2x4126x512, .f32⟩
  | 87 => ⟨S2x4096x512, .f32⟩
  | 88 => ⟨S_, .f32⟩
  | 89 => ⟨S512, .f32⟩
  | 90 => ⟨S1x1x512, .f32⟩
  | 91 => ⟨S2x4096x512, .f32⟩
  | 92 => ⟨S2x4096x512, .f32⟩
  | 93 => ⟨S_, .f32⟩
  | 94 => ⟨S512, .f32⟩
  | 95 => ⟨S1x512, .f32⟩
  | 96 => ⟨S_, .f32⟩
  | 97 => ⟨S31x512, .f32⟩
  | 98 => ⟨S31x512, .f32⟩
  | 99 => ⟨S_, .f32⟩
  | 100 => ⟨S2x4126x512, .f32⟩
  | 101 => ⟨S2x4126x512, .f32⟩
  | 102 => ⟨S2x4096x512, .f32⟩
  | 103 => ⟨S_, .f32⟩
  | 104 => ⟨S512, .f32⟩
  | 105 => ⟨S1x1x512, .f32⟩
  | 106 => ⟨S2x4096x512, .f32⟩
  | 107 => ⟨S2x4096x512, .f32⟩
  | 108 => ⟨S_, .f32⟩
  | 109 => ⟨S512, .f32⟩
  | 110 => ⟨S1x512, .f32⟩
  | 111 => ⟨S_, .f32⟩
  | 112 => ⟨S31x512, .f32⟩
  | 113 => ⟨S31x512, .f32⟩
  | 114 => ⟨S_, .f32⟩
  | 115 => ⟨S2x4126x512, .f32⟩
  | 116 => ⟨S2x4126x512, .f32⟩
  | 117 => ⟨S2x4096x512, .f32⟩
  | 118 => ⟨S_, .f32⟩
  | 119 => ⟨S512, .f32⟩
  | 120 => ⟨S1x1x512, .f32⟩
  | 121 => ⟨S2x4096x512, .f32⟩
  | 122 => ⟨S2x4096x512, .f32⟩
  | 123 => ⟨S_, .f32⟩
  | 124 => ⟨S512, .f32⟩
  | 125 => ⟨S1x512, .f32⟩
  | 126 => ⟨S_, .f32⟩
  | 127 => ⟨S31x512, .f32⟩
  | _ => ⟨S8192x2048, .f32⟩

abbrev hbmTy0_3 (i : Nat) : BufTy := match i % 128 with
  | 0 => ⟨S31x512, .f32⟩
  | 1 => ⟨S_, .f32⟩
  | 2 => ⟨S2x4126x512, .f32⟩
  | 3 => ⟨S2x4126x512, .f32⟩
  | 4 => ⟨S2x4096x512, .f32⟩
  | 5 => ⟨S_, .f32⟩
  | 6 => ⟨S512, .f32⟩
  | 7 => ⟨S1x1x512, .f32⟩
  | 8 => ⟨S2x4096x512, .f32⟩
  | 9 => ⟨S2x4096x512, .f32⟩
  | 10 => ⟨S_, .f32⟩
  | 11 => ⟨S512, .f32⟩
  | 12 => ⟨S1x512, .f32⟩
  | 13 => ⟨S_, .f32⟩
  | 14 => ⟨S31x512, .f32⟩
  | 15 => ⟨S31x512, .f32⟩
  | 16 => ⟨S_, .f32⟩
  | 17 => ⟨S2x4126x512, .f32⟩
  | 18 => ⟨S2x4126x512, .f32⟩
  | 19 => ⟨S2x4096x512, .f32⟩
  | 20 => ⟨S_, .f32⟩
  | 21 => ⟨S512, .f32⟩
  | 22 => ⟨S1x1x512, .f32⟩
  | 23 => ⟨S2x4096x512, .f32⟩
  | 24 => ⟨S2x4096x512, .f32⟩
  | 25 => ⟨S_, .f32⟩
  | 26 => ⟨S512, .f32⟩
  | 27 => ⟨S1x512, .f32⟩
  | 28 => ⟨S_, .f32⟩
  | 29 => ⟨S31x512, .f32⟩
  | 30 => ⟨S31x512, .f32⟩
  | 31 => ⟨S_, .f32⟩
  | 32 => ⟨S2x4126x512, .f32⟩
  | 33 => ⟨S2x4126x512, .f32⟩
  | 34 => ⟨S2x4096x512, .f32⟩
  | 35 => ⟨S_, .f32⟩
  | 36 => ⟨S512, .f32⟩
  | 37 => ⟨S1x1x512, .f32⟩
  | 38 => ⟨S2x4096x512, .f32⟩
  | 39 => ⟨S2x4096x512, .f32⟩
  | 40 => ⟨S_, .f32⟩
  | 41 => ⟨S512, .f32⟩
  | 42 => ⟨S1x512, .f32⟩
  | 43 => ⟨S_, .f32⟩
  | 44 => ⟨S31x512, .f32⟩
  | 45 => ⟨S31x512, .f32⟩
  | 46 => ⟨S_, .f32⟩
  | 47 => ⟨S2x4126x512, .f32⟩
  | 48 => ⟨S2x4126x512, .f32⟩
  | 49 => ⟨S2x4096x512, .f32⟩
  | 50 => ⟨S_, .f32⟩
  | 51 => ⟨S512, .f32⟩
  | 52 => ⟨S1x1x512, .f32⟩
  | 53 => ⟨S2x4096x512, .f32⟩
  | 54 => ⟨S2x4096x512, .f32⟩
  | 55 => ⟨S_, .f32⟩
  | 56 => ⟨S512, .f32⟩
  | 57 => ⟨S1x512, .f32⟩
  | 58 => ⟨S_, .f32⟩
  | 59 => ⟨S31x512, .f32⟩
  | 60 => ⟨S31x512, .f32⟩
  | 61 => ⟨S_, .f32⟩
  | 62 => ⟨S2x4126x512, .f32⟩
  | 63 => ⟨S2x4126x512, .f32⟩
  | 64 => ⟨S2x4096x512, .f32⟩
  | 65 => ⟨S_, .f32⟩
  | 66 => ⟨S512, .f32⟩
  | 67 => ⟨S1x1x512, .f32⟩
  | 68 => ⟨S2x4096x512, .f32⟩
  | 69 => ⟨S2x4096x512, .f32⟩
  | 70 => ⟨S_, .f32⟩
  | 71 => ⟨S512, .f32⟩
  | 72 => ⟨S1x512, .f32⟩
  | 73 => ⟨S_, .f32⟩
  | 74 => ⟨S31x512, .f32⟩
  | 75 => ⟨S31x512, .f32⟩
  | 76 => ⟨S_, .f32⟩
  | 77 => ⟨S2x4126x512, .f32⟩
  | 78 => ⟨S2x4126x512, .f32⟩
  | 79 => ⟨S2x4096x512, .f32⟩
  | 80 => ⟨S_, .f32⟩
  | 81 => ⟨S512, .f32⟩
  | 82 => ⟨S1x1x512, .f32⟩
  | 83 => ⟨S2x4096x512, .f32⟩
  | 84 => ⟨S2x4096x512, .f32⟩
  | 85 => ⟨S_, .f32⟩
  | 86 => ⟨S512, .f32⟩
  | 87 => ⟨S1x512, .f32⟩
  | 88 => ⟨S_, .f32⟩
  | 89 => ⟨S31x512, .f32⟩
  | 90 => ⟨S31x512, .f32⟩
  | 91 => ⟨S_, .f32⟩
  | 92 => ⟨S2x4126x512, .f32⟩
  | 93 => ⟨S2x4126x512, .f32⟩
  | 94 => ⟨S2x4096x512, .f32⟩
  | 95 => ⟨S_, .f32⟩
  | 96 => ⟨S512, .f32⟩
  | 97 => ⟨S1x1x512, .f32⟩
  | 98 => ⟨S2x4096x512, .f32⟩
  | 99 => ⟨S2x4096x512, .f32⟩
  | 100 => ⟨S_, .f32⟩
  | 101 => ⟨S512, .f32⟩
  | 102 => ⟨S1x512, .f32⟩
  | 103 => ⟨S_, .f32⟩
  | 104 => ⟨S31x512, .f32⟩
  | 105 => ⟨S31x512, .f32⟩
  | 106 => ⟨S_, .f32⟩
  | 107 => ⟨S2x4126x512, .f32⟩
  | 108 => ⟨S2x4126x512, .f32⟩
  | 109 => ⟨S2x4096x512, .f32⟩
  | 110 => ⟨S_, .f32⟩
  | 111 => ⟨S512, .f32⟩
  | 112 => ⟨S1x1x512, .f32⟩
  | 113 => ⟨S2x4096x512, .f32⟩
  | 114 => ⟨S2x4096x512, .f32⟩
  | 115 => ⟨S_, .f32⟩
  | 116 => ⟨S512, .f32⟩
  | 117 => ⟨S1x512, .f32⟩
  | 118 => ⟨S_, .f32⟩
  | 119 => ⟨S31x512, .f32⟩
  | 120 => ⟨S31x512, .f32⟩
  | 121 => ⟨S_, .f32⟩
  | 122 => ⟨S2x4126x512, .f32⟩
  | 123 => ⟨S2x4126x512, .f32⟩
  | 124 => ⟨S2x4096x512, .f32⟩
  | 125 => ⟨S_, .f32⟩
  | 126 => ⟨S512, .f32⟩
  | 127 => ⟨S1x1x512, .f32⟩
  | _ => ⟨S8192x2048, .f32⟩

abbrev hbmTy0_4 (i : Nat) : BufTy := match i % 128 with
  | 0 => ⟨S2x4096x512, .f32⟩
  | 1 => ⟨S2x4096x512, .f32⟩
  | 2 => ⟨S_, .f32⟩
  | 3 => ⟨S512, .f32⟩
  | 4 => ⟨S1x512, .f32⟩
  | 5 => ⟨S_, .f32⟩
  | 6 => ⟨S31x512, .f32⟩
  | 7 => ⟨S31x512, .f32⟩
  | 8 => ⟨S_, .f32⟩
  | 9 => ⟨S2x4126x512, .f32⟩
  | 10 => ⟨S2x4126x512, .f32⟩
  | 11 => ⟨S2x4096x512, .f32⟩
  | 12 => ⟨S_, .f32⟩
  | 13 => ⟨S512, .f32⟩
  | 14 => ⟨S1x1x512, .f32⟩
  | 15 => ⟨S2x4096x512, .f32⟩
  | 16 => ⟨S2x4096x512, .f32⟩
  | 17 => ⟨S_, .f32⟩
  | 18 => ⟨S512, .f32⟩
  | 19 => ⟨S1x512, .f32⟩
  | 20 => ⟨S_, .f32⟩
  | 21 => ⟨S31x512, .f32⟩
  | 22 => ⟨S31x512, .f32⟩
  | 23 => ⟨S_, .f32⟩
  | 24 => ⟨S2x4126x512, .f32⟩
  | 25 => ⟨S2x4126x512, .f32⟩
  | 26 => ⟨S2x4096x512, .f32⟩
  | 27 => ⟨S_, .f32⟩
  | 28 => ⟨S512, .f32⟩
  | 29 => ⟨S1x1x512, .f32⟩
  | 30 => ⟨S2x4096x512, .f32⟩
  | 31 => ⟨S2x4096x512, .f32⟩
  | 32 => ⟨S_, .f32⟩
  | 33 => ⟨S512, .f32⟩
  | 34 => ⟨S1x512, .f32⟩
  | 35 => ⟨S_, .f32⟩
  | 36 => ⟨S31x512, .f32⟩
  | 37 => ⟨S31x512, .f32⟩
  | 38 => ⟨S_, .f32⟩
  | 39 => ⟨S2x4126x512, .f32⟩
  | 40 => ⟨S2x4126x512, .f32⟩
  | 41 => ⟨S2x4096x512, .f32⟩
  | 42 => ⟨S_, .f32⟩
  | 43 => ⟨S512, .f32⟩
  | 44 => ⟨S1x1x512, .f32⟩
  | 45 => ⟨S2x4096x512, .f32⟩
  | 46 => ⟨S2x4096x512, .f32⟩
  | 47 => ⟨S_, .f32⟩
  | 48 => ⟨S512, .f32⟩
  | 49 => ⟨S1x512, .f32⟩
  | 50 => ⟨S_, .f32⟩
  | 51 => ⟨S31x512, .f32⟩
  | 52 => ⟨S31x512, .f32⟩
  | 53 => ⟨S_, .f32⟩
  | 54 => ⟨S2x4126x512, .f32⟩
  | 55 => ⟨S2x4126x512, .f32⟩
  | 56 => ⟨S2x4096x512, .f32⟩
  | 57 => ⟨S_, .f32⟩
  | 58 => ⟨S512, .f32⟩
  | 59 => ⟨S1x1x512, .f32⟩
  | 60 => ⟨S2x4096x512, .f32⟩
  | 61 => ⟨S2x4096x512, .f32⟩
  | 62 => ⟨S_, .f32⟩
  | 63 => ⟨S512, .f32⟩
  | 64 => ⟨S1x512, .f32⟩
  | 65 => ⟨S_, .f32⟩
  | 66 => ⟨S31x512, .f32⟩
  | 67 => ⟨S31x512, .f32⟩
  | 68 => ⟨S_, .f32⟩
  | 69 => ⟨S2x4126x512, .f32⟩
  | 70 => ⟨S2x4126x512, .f32⟩
  | 71 => ⟨S2x4096x512, .f32⟩
  | 72 => ⟨S_, .f32⟩
  | 73 => ⟨S512, .f32⟩
  | 74 => ⟨S1x1x512, .f32⟩
  | 75 => ⟨S2x4096x512, .f32⟩
  | 76 => ⟨S2x4096x512, .f32⟩
  | 77 => ⟨S_, .f32⟩
  | 78 => ⟨S512, .f32⟩
  | 79 => ⟨S1x512, .f32⟩
  | 80 => ⟨S_, .f32⟩
  | 81 => ⟨S31x512, .f32⟩
  | 82 => ⟨S31x512, .f32⟩
  | 83 => ⟨S_, .f32⟩
  | 84 => ⟨S2x4126x512, .f32⟩
  | 85 => ⟨S2x4126x512, .f32⟩
  | 86 => ⟨S2x4096x512, .f32⟩
  | 87 => ⟨S_, .f32⟩
  | 88 => ⟨S512, .f32⟩
  | 89 => ⟨S1x1x512, .f32⟩
  | 90 => ⟨S2x4096x512, .f32⟩
  | 91 => ⟨S2x4096x512, .f32⟩
  | 92 => ⟨S_, .f32⟩
  | 93 => ⟨S512, .f32⟩
  | 94 => ⟨S1x512, .f32⟩
  | 95 => ⟨S_, .f32⟩
  | 96 => ⟨S31x512, .f32⟩
  | 97 => ⟨S31x512, .f32⟩
  | 98 => ⟨S_, .f32⟩
  | 99 => ⟨S2x4126x512, .f32⟩
  | 100 => ⟨S2x4126x512, .f32⟩
  | 101 => ⟨S2x4096x512, .f32⟩
  | 102 => ⟨S_, .f32⟩
  | 103 => ⟨S512, .f32⟩
  | 104 => ⟨S1x1x512, .f32⟩
  | 105 => ⟨S2x4096x512, .f32⟩
  | 106 => ⟨S2x4096x512, .f32⟩
  | 107 => ⟨S_, .f32⟩
  | 108 => ⟨S512, .f32⟩
  | 109 => ⟨S1x512, .f32⟩
  | 110 => ⟨S_, .f32⟩
  | 111 => ⟨S31x512, .f32⟩
  | 112 => ⟨S31x512, .f32⟩
  | 113 => ⟨S_, .f32⟩
  | 114 => ⟨S2x4126x512, .f32⟩
  | 115 => ⟨S2x4126x512, .f32⟩
  | 116 => ⟨S2x4096x512, .f32⟩
  | 117 => ⟨S_, .f32⟩
  | 118 => ⟨S512, .f32⟩
  | 119 => ⟨S1x1x512, .f32⟩
  | 120 => ⟨S2x4096x512, .f32⟩
  | 121 => ⟨S2x4096x512, .f32⟩
  | 122 => ⟨S_, .f32⟩
  | 123 => ⟨S512, .f32⟩
  | 124 => ⟨S1x512, .f32⟩
  | 125 => ⟨S_, .f32⟩
  | 126 => ⟨S31x512, .f32⟩
  | 127 => ⟨S31x512, .f32⟩
  | _ => ⟨S8192x2048, .f32⟩

abbrev hbmTy0_5 (i : Nat) : BufTy := match i % 128 with
  | 0 => ⟨S_, .f32⟩
  | 1 => ⟨S2x4126x512, .f32⟩
  | 2 => ⟨S2x4126x512, .f32⟩
  | 3 => ⟨S2x4096x512, .f32⟩
  | 4 => ⟨S_, .f32⟩
  | 5 => ⟨S512, .f32⟩
  | 6 => ⟨S1x1x512, .f32⟩
  | 7 => ⟨S2x4096x512, .f32⟩
  | 8 => ⟨S2x4096x512, .f32⟩
  | 9 => ⟨S_, .f32⟩
  | 10 => ⟨S512, .f32⟩
  | 11 => ⟨S1x512, .f32⟩
  | 12 => ⟨S_, .f32⟩
  | 13 => ⟨S31x512, .f32⟩
  | 14 => ⟨S31x512, .f32⟩
  | 15 => ⟨S_, .f32⟩
  | 16 => ⟨S2x4126x512, .f32⟩
  | 17 => ⟨S2x4126x512, .f32⟩
  | 18 => ⟨S2x4096x512, .f32⟩
  | 19 => ⟨S_, .f32⟩
  | 20 => ⟨S512, .f32⟩
  | 21 => ⟨S1x1x512, .f32⟩
  | 22 => ⟨S2x4096x512, .f32⟩
  | 23 => ⟨S2x4096x512, .f32⟩
  | 24 => ⟨S_, .f32⟩
  | 25 => ⟨S512, .f32⟩
  | 26 => ⟨S1x512, .f32⟩
  | 27 => ⟨S_, .f32⟩
  | 28 => ⟨S31x512, .f32⟩
  | 29 => ⟨S31x512, .f32⟩
  | 30 => ⟨S_, .f32⟩
  | 31 => ⟨S2x4126x512, .f32⟩
  | 32 => ⟨S2x4126x512, .f32⟩
  | 33 => ⟨S2x4096x512, .f32⟩
  | 34 => ⟨S_, .f32⟩
  | 35 => ⟨S512, .f32⟩
  | 36 => ⟨S1x1x512, .f32⟩
  | 37 => ⟨S2x4096x512, .f32⟩
  | 38 => ⟨S2x4096x512, .f32⟩
  | 39 => ⟨S_, .f32⟩
  | 40 => ⟨S512, .f32⟩
  | 41 => ⟨S1x512, .f32⟩
  | 42 => ⟨S_, .f32⟩
  | 43 => ⟨S31x512, .f32⟩
  | 44 => ⟨S31x512, .f32⟩
  | 45 => ⟨S_, .f32⟩
  | 46 => ⟨S2x4126x512, .f32⟩
  | 47 => ⟨S2x4126x512, .f32⟩
  | 48 => ⟨S2x4096x512, .f32⟩
  | 49 => ⟨S_, .f32⟩
  | 50 => ⟨S512, .f32⟩
  | 51 => ⟨S1x1x512, .f32⟩
  | 52 => ⟨S2x4096x512, .f32⟩
  | 53 => ⟨S2x4096x512, .f32⟩
  | 54 => ⟨S_, .f32⟩
  | 55 => ⟨S512, .f32⟩
  | 56 => ⟨S1x512, .f32⟩
  | 57 => ⟨S_, .f32⟩
  | 58 => ⟨S31x512, .f32⟩
  | 59 => ⟨S31x512, .f32⟩
  | 60 => ⟨S_, .f32⟩
  | 61 => ⟨S2x4126x512, .f32⟩
  | 62 => ⟨S2x4126x512, .f32⟩
  | 63 => ⟨S2x4096x512, .f32⟩
  | 64 => ⟨S_, .f32⟩
  | 65 => ⟨S512, .f32⟩
  | 66 => ⟨S1x1x512, .f32⟩
  | 67 => ⟨S2x4096x512, .f32⟩
  | 68 => ⟨S2x4096x512, .f32⟩
  | 69 => ⟨S_, .f32⟩
  | 70 => ⟨S512, .f32⟩
  | 71 => ⟨S1x512, .f32⟩
  | 72 => ⟨S_, .f32⟩
  | 73 => ⟨S31x512, .f32⟩
  | 74 => ⟨S31x512, .f32⟩
  | 75 => ⟨S_, .f32⟩
  | 76 => ⟨S2x4126x512, .f32⟩
  | 77 => ⟨S2x4126x512, .f32⟩
  | 78 => ⟨S2x30x512, .f32⟩
  | 79 => ⟨S2x4096x512, .f32⟩
  | 80 => ⟨S8192x512, .f32⟩
  | 81 => ⟨S8192x512, .f32⟩
  | 82 => ⟨S8192x512, .f32⟩
  | 83 => ⟨S8192x512, .f32⟩
  | 84 => ⟨S_, .f32⟩
  | 85 => ⟨S8192x2048, .f32⟩
  | 86 => ⟨S_, .f32⟩
  | 87 => ⟨S8192x2048, .f32⟩
  | 88 => ⟨S8192x2048, .f32⟩
  | 89 => ⟨S8192x1024, .f32⟩
  | 90 => ⟨S8192x1024, .bf16⟩
  | 91 => ⟨S1x512, .f32⟩
  | _ => ⟨S8192x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_cst_6 : Ref sig .tc := ⟨.hbm, 250, rfl⟩
abbrev main_v240 : Ref sig .tc := ⟨.hbm, 251, rfl⟩
abbrev main_v241 : Ref sig .tc := ⟨.hbm, 252, rfl⟩
abbrev main_cst_7 : Ref sig .tc := ⟨.hbm, 253, rfl⟩
abbrev main_v242 : Ref sig .tc := ⟨.hbm, 254, rfl⟩
abbrev main_v243 : Ref sig .tc := ⟨.hbm, 255, rfl⟩
abbrev main_cst_8 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_cst_9 : Ref sig .tc := ⟨.hbm, 261, rfl⟩
abbrev main_v248 : Ref sig .tc := ⟨.hbm, 262, rfl⟩
abbrev main_v249 : Ref sig .tc := ⟨.hbm, 263, rfl⟩
abbrev main_cst_10 : Ref sig .tc := ⟨.hbm, 264, rfl⟩
abbrev main_v250 : Ref sig .tc := ⟨.hbm, 265, rfl⟩
abbrev main_cst_11 : Ref sig .tc := ⟨.hbm, 266, rfl⟩
abbrev main_v251 : Ref sig .tc := ⟨.hbm, 267, rfl⟩
abbrev main_v252 : Ref sig .tc := ⟨.hbm, 268, rfl⟩
abbrev main_cst_12 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_cst_13 : Ref sig .tc := ⟨.hbm, 274, rfl⟩
abbrev main_v257 : Ref sig .tc := ⟨.hbm, 275, rfl⟩
abbrev main_v258 : Ref sig .tc := ⟨.hbm, 276, rfl⟩
abbrev main_cst_14 : Ref sig .tc := ⟨.hbm, 277, rfl⟩
abbrev main_v259 : Ref sig .tc := ⟨.hbm, 278, rfl⟩
abbrev main_v260 : Ref sig .tc := ⟨.hbm, 279, rfl⟩
abbrev main_cst_15 : Ref sig .tc := ⟨.hbm, 280, rfl⟩
abbrev main_v261 : Ref sig .tc := ⟨.hbm, 281, rfl⟩
abbrev main_v262 : Ref sig .tc := ⟨.hbm, 282, rfl⟩
abbrev main_v263 : Ref sig .tc := ⟨.hbm, 283, rfl⟩
abbrev main_cst_16 : Ref sig .tc := ⟨.hbm, 284, rfl⟩
abbrev main_v264 : Ref sig .tc := ⟨.hbm, 285, rfl⟩
abbrev main_v265 : Ref sig .tc := ⟨.hbm, 286, rfl⟩
abbrev main_v266 : Ref sig .tc := ⟨.hbm, 287, rfl⟩
abbrev main_v267 : Ref sig .tc := ⟨.hbm, 288, rfl⟩
abbrev main_cst_17 : Ref sig .tc := ⟨.hbm, 289, rfl⟩
abbrev main_v268 : Ref sig .tc := ⟨.hbm, 290, rfl⟩
abbrev main_v269 : Ref sig .tc := ⟨.hbm, 291, rfl⟩
abbrev main_cst_18 : Ref sig .tc := ⟨.hbm, 292, rfl⟩
abbrev main_v270 : Ref sig .tc := ⟨.hbm, 293, rfl⟩
abbrev main_v271 : Ref sig .tc := ⟨.hbm, 294, rfl⟩
abbrev main_cst_19 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_cst_20 : Ref sig .tc := ⟨.hbm, 299, rfl⟩
abbrev main_v275 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_cst_21 : Ref sig .tc := ⟨.hbm, 304, rfl⟩
abbrev main_v279 : Ref sig .tc := ⟨.hbm, 305, rfl⟩
abbrev main_v280 : Ref sig .tc := ⟨.hbm, 306, rfl⟩
abbrev main_cst_22 : Ref sig .tc := ⟨.hbm, 307, rfl⟩
abbrev main_v281 : Ref sig .tc := ⟨.hbm, 308, rfl⟩
abbrev main_v282 : Ref sig .tc := ⟨.hbm, 309, rfl⟩
abbrev main_cst_23 : Ref sig .tc := ⟨.hbm, 310, rfl⟩
abbrev main_v283 : Ref sig .tc := ⟨.hbm, 311, rfl⟩
abbrev main_v284 : Ref sig .tc := ⟨.hbm, 312, rfl⟩
abbrev main_v285 : Ref sig .tc := ⟨.hbm, 313, rfl⟩
abbrev main_cst_24 : Ref sig .tc := ⟨.hbm, 314, rfl⟩
abbrev main_v286 : Ref sig .tc := ⟨.hbm, 315, rfl⟩
abbrev main_v287 : Ref sig .tc := ⟨.hbm, 316, rfl⟩
abbrev main_v288 : Ref sig .tc := ⟨.hbm, 317, rfl⟩
abbrev main_v289 : Ref sig .tc := ⟨.hbm, 318, rfl⟩
abbrev main_cst_25 : Ref sig .tc := ⟨.hbm, 319, rfl⟩
abbrev main_v290 : Ref sig .tc := ⟨.hbm, 320, rfl⟩
abbrev main_v291 : Ref sig .tc := ⟨.hbm, 321, rfl⟩
abbrev main_cst_26 : Ref sig .tc := ⟨.hbm, 322, rfl⟩
abbrev main_v292 : Ref sig .tc := ⟨.hbm, 323, rfl⟩
abbrev main_v293 : Ref sig .tc := ⟨.hbm, 324, rfl⟩
abbrev main_cst_27 : Ref sig .tc := ⟨.hbm, 325, rfl⟩
abbrev main_v294 : Ref sig .tc := ⟨.hbm, 326, rfl⟩
abbrev main_v295 : Ref sig .tc := ⟨.hbm, 327, rfl⟩
abbrev main_v296 : Ref sig .tc := ⟨.hbm, 328, rfl⟩
abbrev main_cst_28 : Ref sig .tc := ⟨.hbm, 329, rfl⟩
abbrev main_v297 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_cst_29 : Ref sig .tc := ⟨.hbm, 334, rfl⟩
abbrev main_v301 : Ref sig .tc := ⟨.hbm, 335, rfl⟩
abbrev main_v302 : Ref sig .tc := ⟨.hbm, 336, rfl⟩
abbrev main_cst_30 : Ref sig .tc := ⟨.hbm, 337, rfl⟩
abbrev main_v303 : Ref sig .tc := ⟨.hbm, 338, rfl⟩
abbrev main_v304 : Ref sig .tc := ⟨.hbm, 339, rfl⟩
abbrev main_cst_31 : Ref sig .tc := ⟨.hbm, 340, rfl⟩
abbrev main_v305 : Ref sig .tc := ⟨.hbm, 341, rfl⟩
abbrev main_v306 : Ref sig .tc := ⟨.hbm, 342, rfl⟩
abbrev main_v307 : Ref sig .tc := ⟨.hbm, 343, rfl⟩
abbrev main_cst_32 : Ref sig .tc := ⟨.hbm, 344, rfl⟩
abbrev main_v308 : Ref sig .tc := ⟨.hbm, 345, rfl⟩
abbrev main_v309 : Ref sig .tc := ⟨.hbm, 346, rfl⟩
abbrev main_v310 : Ref sig .tc := ⟨.hbm, 347, rfl⟩
abbrev main_v311 : Ref sig .tc := ⟨.hbm, 348, rfl⟩
abbrev main_cst_33 : Ref sig .tc := ⟨.hbm, 349, rfl⟩
abbrev main_v312 : Ref sig .tc := ⟨.hbm, 350, rfl⟩
abbrev main_v313 : Ref sig .tc := ⟨.hbm, 351, rfl⟩
abbrev main_cst_34 : Ref sig .tc := ⟨.hbm, 352, rfl⟩
abbrev main_v314 : Ref sig .tc := ⟨.hbm, 353, rfl⟩
abbrev main_v315 : Ref sig .tc := ⟨.hbm, 354, rfl⟩
abbrev main_cst_35 : Ref sig .tc := ⟨.hbm, 355, rfl⟩
abbrev main_v316 : Ref sig .tc := ⟨.hbm, 356, rfl⟩
abbrev main_v317 : Ref sig .tc := ⟨.hbm, 357, rfl⟩
abbrev main_v318 : Ref sig .tc := ⟨.hbm, 358, rfl⟩
abbrev main_cst_36 : Ref sig .tc := ⟨.hbm, 359, rfl⟩
abbrev main_v319 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_cst_37 : Ref sig .tc := ⟨.hbm, 364, rfl⟩
abbrev main_v323 : Ref sig .tc := ⟨.hbm, 365, rfl⟩
abbrev main_v324 : Ref sig .tc := ⟨.hbm, 366, rfl⟩
abbrev main_cst_38 : Ref sig .tc := ⟨.hbm, 367, rfl⟩
abbrev main_v325 : Ref sig .tc := ⟨.hbm, 368, rfl⟩
abbrev main_v326 : Ref sig .tc := ⟨.hbm, 369, rfl⟩
abbrev main_cst_39 : Ref sig .tc := ⟨.hbm, 370, rfl⟩
abbrev main_v327 : Ref sig .tc := ⟨.hbm, 371, rfl⟩
abbrev main_v328 : Ref sig .tc := ⟨.hbm, 372, rfl⟩
abbrev main_v329 : Ref sig .tc := ⟨.hbm, 373, rfl⟩
abbrev main_cst_40 : Ref sig .tc := ⟨.hbm, 374, rfl⟩
abbrev main_v330 : Ref sig .tc := ⟨.hbm, 375, rfl⟩
abbrev main_v331 : Ref sig .tc := ⟨.hbm, 376, rfl⟩
abbrev main_v332 : Ref sig .tc := ⟨.hbm, 377, rfl⟩
abbrev main_v333 : Ref sig .tc := ⟨.hbm, 378, rfl⟩
abbrev main_cst_41 : Ref sig .tc := ⟨.hbm, 379, rfl⟩
abbrev main_v334 : Ref sig .tc := ⟨.hbm, 380, rfl⟩
abbrev main_v335 : Ref sig .tc := ⟨.hbm, 381, rfl⟩
abbrev main_cst_42 : Ref sig .tc := ⟨.hbm, 382, rfl⟩
abbrev main_v336 : Ref sig .tc := ⟨.hbm, 383, rfl⟩
abbrev main_v337 : Ref sig .tc := ⟨.hbm, 384, rfl⟩
abbrev main_cst_43 : Ref sig .tc := ⟨.hbm, 385, rfl⟩
abbrev main_v338 : Ref sig .tc := ⟨.hbm, 386, rfl⟩
abbrev main_v339 : Ref sig .tc := ⟨.hbm, 387, rfl⟩
abbrev main_v340 : Ref sig .tc := ⟨.hbm, 388, rfl⟩
abbrev main_cst_44 : Ref sig .tc := ⟨.hbm, 389, rfl⟩
abbrev main_v341 : Ref sig .tc := ⟨.hbm, 390, rfl⟩
abbrev main_v342 : Ref sig .tc := ⟨.hbm, 391, rfl⟩
abbrev main_v343 : Ref sig .tc := ⟨.hbm, 392, rfl⟩
abbrev main_v344 : Ref sig .tc := ⟨.hbm, 393, rfl⟩
abbrev main_cst_45 : Ref sig .tc := ⟨.hbm, 394, rfl⟩
abbrev main_v345 : Ref sig .tc := ⟨.hbm, 395, rfl⟩
abbrev main_v346 : Ref sig .tc := ⟨.hbm, 396, rfl⟩
abbrev main_cst_46 : Ref sig .tc := ⟨.hbm, 397, rfl⟩
abbrev main_v347 : Ref sig .tc := ⟨.hbm, 398, rfl⟩
abbrev main_v348 : Ref sig .tc := ⟨.hbm, 399, rfl⟩
abbrev main_cst_47 : Ref sig .tc := ⟨.hbm, 400, rfl⟩
abbrev main_v349 : Ref sig .tc := ⟨.hbm, 401, rfl⟩
abbrev main_v350 : Ref sig .tc := ⟨.hbm, 402, rfl⟩
abbrev main_v351 : Ref sig .tc := ⟨.hbm, 403, rfl⟩
abbrev main_cst_48 : Ref sig .tc := ⟨.hbm, 404, rfl⟩
abbrev main_v352 : Ref sig .tc := ⟨.hbm, 405, rfl⟩
abbrev main_v353 : Ref sig .tc := ⟨.hbm, 406, rfl⟩
abbrev main_v354 : Ref sig .tc := ⟨.hbm, 407, rfl⟩
abbrev main_v355 : Ref sig .tc := ⟨.hbm, 408, rfl⟩
abbrev main_cst_49 : Ref sig .tc := ⟨.hbm, 409, rfl⟩
abbrev main_v356 : Ref sig .tc := ⟨.hbm, 410, rfl⟩
abbrev main_v357 : Ref sig .tc := ⟨.hbm, 411, rfl⟩
abbrev main_cst_50 : Ref sig .tc := ⟨.hbm, 412, rfl⟩
abbrev main_v358 : Ref sig .tc := ⟨.hbm, 413, rfl⟩
abbrev main_v359 : Ref sig .tc := ⟨.hbm, 414, rfl⟩
abbrev main_cst_51 : Ref sig .tc := ⟨.hbm, 415, rfl⟩
abbrev main_v360 : Ref sig .tc := ⟨.hbm, 416, rfl⟩
abbrev main_v361 : Ref sig .tc := ⟨.hbm, 417, rfl⟩
abbrev main_v362 : Ref sig .tc := ⟨.hbm, 418, rfl⟩
abbrev main_cst_52 : Ref sig .tc := ⟨.hbm, 419, rfl⟩
abbrev main_v363 : Ref sig .tc := ⟨.hbm, 420, rfl⟩
abbrev main_v364 : Ref sig .tc := ⟨.hbm, 421, rfl⟩
abbrev main_v365 : Ref sig .tc := ⟨.hbm, 422, rfl⟩
abbrev main_v366 : Ref sig .tc := ⟨.hbm, 423, rfl⟩
abbrev main_cst_53 : Ref sig .tc := ⟨.hbm, 424, rfl⟩
abbrev main_v367 : Ref sig .tc := ⟨.hbm, 425, rfl⟩
abbrev main_v368 : Ref sig .tc := ⟨.hbm, 426, rfl⟩
abbrev main_cst_54 : Ref sig .tc := ⟨.hbm, 427, rfl⟩
abbrev main_v369 : Ref sig .tc := ⟨.hbm, 428, rfl⟩
abbrev main_v370 : Ref sig .tc := ⟨.hbm, 429, rfl⟩
abbrev main_cst_55 : Ref sig .tc := ⟨.hbm, 430, rfl⟩
abbrev main_v371 : Ref sig .tc := ⟨.hbm, 431, rfl⟩
abbrev main_v372 : Ref sig .tc := ⟨.hbm, 432, rfl⟩
abbrev main_v373 : Ref sig .tc := ⟨.hbm, 433, rfl⟩
abbrev main_cst_56 : Ref sig .tc := ⟨.hbm, 434, rfl⟩
abbrev main_v374 : Ref sig .tc := ⟨.hbm, 435, rfl⟩
abbrev main_v375 : Ref sig .tc := ⟨.hbm, 436, rfl⟩
abbrev main_v376 : Ref sig .tc := ⟨.hbm, 437, rfl⟩
abbrev main_v377 : Ref sig .tc := ⟨.hbm, 438, rfl⟩
abbrev main_cst_57 : Ref sig .tc := ⟨.hbm, 439, rfl⟩
abbrev main_v378 : Ref sig .tc := ⟨.hbm, 440, rfl⟩
abbrev main_v379 : Ref sig .tc := ⟨.hbm, 441, rfl⟩
abbrev main_cst_58 : Ref sig .tc := ⟨.hbm, 442, rfl⟩
abbrev main_v380 : Ref sig .tc := ⟨.hbm, 443, rfl⟩
abbrev main_v381 : Ref sig .tc := ⟨.hbm, 444, rfl⟩
abbrev main_cst_59 : Ref sig .tc := ⟨.hbm, 445, rfl⟩
abbrev main_v382 : Ref sig .tc := ⟨.hbm, 446, rfl⟩
abbrev main_v383 : Ref sig .tc := ⟨.hbm, 447, rfl⟩
abbrev main_v384 : Ref sig .tc := ⟨.hbm, 448, rfl⟩
abbrev main_cst_60 : Ref sig .tc := ⟨.hbm, 449, rfl⟩
abbrev main_v385 : Ref sig .tc := ⟨.hbm, 450, rfl⟩
abbrev main_v386 : Ref sig .tc := ⟨.hbm, 451, rfl⟩
abbrev main_v387 : Ref sig .tc := ⟨.hbm, 452, rfl⟩
abbrev main_v388 : Ref sig .tc := ⟨.hbm, 453, rfl⟩
abbrev main_cst_61 : Ref sig .tc := ⟨.hbm, 454, rfl⟩
abbrev main_v389 : Ref sig .tc := ⟨.hbm, 455, rfl⟩
abbrev main_v390 : Ref sig .tc := ⟨.hbm, 456, rfl⟩
abbrev main_cst_62 : Ref sig .tc := ⟨.hbm, 457, rfl⟩
abbrev main_v391 : Ref sig .tc := ⟨.hbm, 458, rfl⟩
abbrev main_v392 : Ref sig .tc := ⟨.hbm, 459, rfl⟩
abbrev main_cst_63 : Ref sig .tc := ⟨.hbm, 460, rfl⟩
abbrev main_v393 : Ref sig .tc := ⟨.hbm, 461, rfl⟩
abbrev main_v394 : Ref sig .tc := ⟨.hbm, 462, rfl⟩
abbrev main_v395 : Ref sig .tc := ⟨.hbm, 463, rfl⟩
abbrev main_cst_64 : Ref sig .tc := ⟨.hbm, 464, rfl⟩
abbrev main_v396 : Ref sig .tc := ⟨.hbm, 465, rfl⟩
abbrev main_v397 : Ref sig .tc := ⟨.hbm, 466, rfl⟩
abbrev main_v398 : Ref sig .tc := ⟨.hbm, 467, rfl⟩
abbrev main_v399 : Ref sig .tc := ⟨.hbm, 468, rfl⟩
abbrev main_cst_65 : Ref sig .tc := ⟨.hbm, 469, rfl⟩
abbrev main_v400 : Ref sig .tc := ⟨.hbm, 470, rfl⟩
abbrev main_v401 : Ref sig .tc := ⟨.hbm, 471, rfl⟩
abbrev main_cst_66 : Ref sig .tc := ⟨.hbm, 472, rfl⟩
abbrev main_v402 : Ref sig .tc := ⟨.hbm, 473, rfl⟩
abbrev main_v403 : Ref sig .tc := ⟨.hbm, 474, rfl⟩
abbrev main_cst_67 : Ref sig .tc := ⟨.hbm, 475, rfl⟩
abbrev main_v404 : Ref sig .tc := ⟨.hbm, 476, rfl⟩
abbrev main_v405 : Ref sig .tc := ⟨.hbm, 477, rfl⟩
abbrev main_v406 : Ref sig .tc := ⟨.hbm, 478, rfl⟩
abbrev main_cst_68 : Ref sig .tc := ⟨.hbm, 479, rfl⟩
abbrev main_v407 : Ref sig .tc := ⟨.hbm, 480, rfl⟩
abbrev main_v408 : Ref sig .tc := ⟨.hbm, 481, rfl⟩
abbrev main_v409 : Ref sig .tc := ⟨.hbm, 482, rfl⟩
abbrev main_v410 : Ref sig .tc := ⟨.hbm, 483, rfl⟩
abbrev main_cst_69 : Ref sig .tc := ⟨.hbm, 484, rfl⟩
abbrev main_v411 : Ref sig .tc := ⟨.hbm, 485, rfl⟩
abbrev main_v412 : Ref sig .tc := ⟨.hbm, 486, rfl⟩
abbrev main_cst_70 : Ref sig .tc := ⟨.hbm, 487, rfl⟩
abbrev main_v413 : Ref sig .tc := ⟨.hbm, 488, rfl⟩
abbrev main_v414 : Ref sig .tc := ⟨.hbm, 489, rfl⟩
abbrev main_cst_71 : Ref sig .tc := ⟨.hbm, 490, rfl⟩
abbrev main_v415 : Ref sig .tc := ⟨.hbm, 491, rfl⟩
abbrev main_v416 : Ref sig .tc := ⟨.hbm, 492, rfl⟩
abbrev main_v417 : Ref sig .tc := ⟨.hbm, 493, rfl⟩
abbrev main_cst_72 : Ref sig .tc := ⟨.hbm, 494, rfl⟩
abbrev main_v418 : Ref sig .tc := ⟨.hbm, 495, rfl⟩
abbrev main_v419 : Ref sig .tc := ⟨.hbm, 496, rfl⟩
abbrev main_v420 : Ref sig .tc := ⟨.hbm, 497, rfl⟩
abbrev main_v421 : Ref sig .tc := ⟨.hbm, 498, rfl⟩
abbrev main_cst_73 : Ref sig .tc := ⟨.hbm, 499, rfl⟩
abbrev main_v422 : Ref sig .tc := ⟨.hbm, 500, rfl⟩
abbrev main_v423 : Ref sig .tc := ⟨.hbm, 501, rfl⟩
abbrev main_cst_74 : Ref sig .tc := ⟨.hbm, 502, rfl⟩
abbrev main_v424 : Ref sig .tc := ⟨.hbm, 503, rfl⟩
abbrev main_v425 : Ref sig .tc := ⟨.hbm, 504, rfl⟩
abbrev main_cst_75 : Ref sig .tc := ⟨.hbm, 505, rfl⟩
abbrev main_v426 : Ref sig .tc := ⟨.hbm, 506, rfl⟩
abbrev main_v427 : Ref sig .tc := ⟨.hbm, 507, rfl⟩
abbrev main_v428 : Ref sig .tc := ⟨.hbm, 508, rfl⟩
abbrev main_cst_76 : Ref sig .tc := ⟨.hbm, 509, rfl⟩
abbrev main_v429 : Ref sig .tc := ⟨.hbm, 510, rfl⟩
abbrev main_v430 : Ref sig .tc := ⟨.hbm, 511, rfl⟩
abbrev main_v431 : Ref sig .tc := ⟨.hbm, 512, rfl⟩
abbrev main_v432 : Ref sig .tc := ⟨.hbm, 513, rfl⟩
abbrev main_cst_77 : Ref sig .tc := ⟨.hbm, 514, rfl⟩
abbrev main_v433 : Ref sig .tc := ⟨.hbm, 515, rfl⟩
abbrev main_v434 : Ref sig .tc := ⟨.hbm, 516, rfl⟩
abbrev main_cst_78 : Ref sig .tc := ⟨.hbm, 517, rfl⟩
abbrev main_v435 : Ref sig .tc := ⟨.hbm, 518, rfl⟩
abbrev main_v436 : Ref sig .tc := ⟨.hbm, 519, rfl⟩
abbrev main_cst_79 : Ref sig .tc := ⟨.hbm, 520, rfl⟩
abbrev main_v437 : Ref sig .tc := ⟨.hbm, 521, rfl⟩
abbrev main_v438 : Ref sig .tc := ⟨.hbm, 522, rfl⟩
abbrev main_v439 : Ref sig .tc := ⟨.hbm, 523, rfl⟩
abbrev main_cst_80 : Ref sig .tc := ⟨.hbm, 524, rfl⟩
abbrev main_v440 : Ref sig .tc := ⟨.hbm, 525, rfl⟩
abbrev main_v441 : Ref sig .tc := ⟨.hbm, 526, rfl⟩
abbrev main_v442 : Ref sig .tc := ⟨.hbm, 527, rfl⟩
abbrev main_v443 : Ref sig .tc := ⟨.hbm, 528, rfl⟩
abbrev main_cst_81 : Ref sig .tc := ⟨.hbm, 529, rfl⟩
abbrev main_v444 : Ref sig .tc := ⟨.hbm, 530, rfl⟩
abbrev main_v445 : Ref sig .tc := ⟨.hbm, 531, rfl⟩
abbrev main_cst_82 : Ref sig .tc := ⟨.hbm, 532, rfl⟩
abbrev main_v446 : Ref sig .tc := ⟨.hbm, 533, rfl⟩
abbrev main_v447 : Ref sig .tc := ⟨.hbm, 534, rfl⟩
abbrev main_cst_83 : Ref sig .tc := ⟨.hbm, 535, rfl⟩
abbrev main_v448 : Ref sig .tc := ⟨.hbm, 536, rfl⟩
abbrev main_v449 : Ref sig .tc := ⟨.hbm, 537, rfl⟩
abbrev main_v450 : Ref sig .tc := ⟨.hbm, 538, rfl⟩
abbrev main_cst_84 : Ref sig .tc := ⟨.hbm, 539, rfl⟩
abbrev main_v451 : Ref sig .tc := ⟨.hbm, 540, rfl⟩
abbrev main_v452 : Ref sig .tc := ⟨.hbm, 541, rfl⟩
abbrev main_v453 : Ref sig .tc := ⟨.hbm, 542, rfl⟩
abbrev main_v454 : Ref sig .tc := ⟨.hbm, 543, rfl⟩
abbrev main_cst_85 : Ref sig .tc := ⟨.hbm, 544, rfl⟩
abbrev main_v455 : Ref sig .tc := ⟨.hbm, 545, rfl⟩
abbrev main_v456 : Ref sig .tc := ⟨.hbm, 546, rfl⟩
abbrev main_cst_86 : Ref sig .tc := ⟨.hbm, 547, rfl⟩
abbrev main_v457 : Ref sig .tc := ⟨.hbm, 548, rfl⟩
abbrev main_v458 : Ref sig .tc := ⟨.hbm, 549, rfl⟩
abbrev main_cst_87 : Ref sig .tc := ⟨.hbm, 550, rfl⟩
abbrev main_v459 : Ref sig .tc := ⟨.hbm, 551, rfl⟩
abbrev main_v460 : Ref sig .tc := ⟨.hbm, 552, rfl⟩
abbrev main_v461 : Ref sig .tc := ⟨.hbm, 553, rfl⟩
abbrev main_cst_88 : Ref sig .tc := ⟨.hbm, 554, rfl⟩
abbrev main_v462 : Ref sig .tc := ⟨.hbm, 555, rfl⟩
abbrev main_v463 : Ref sig .tc := ⟨.hbm, 556, rfl⟩
abbrev main_v464 : Ref sig .tc := ⟨.hbm, 557, rfl⟩
abbrev main_v465 : Ref sig .tc := ⟨.hbm, 558, rfl⟩
abbrev main_cst_89 : Ref sig .tc := ⟨.hbm, 559, rfl⟩
abbrev main_v466 : Ref sig .tc := ⟨.hbm, 560, rfl⟩
abbrev main_v467 : Ref sig .tc := ⟨.hbm, 561, rfl⟩
abbrev main_cst_90 : Ref sig .tc := ⟨.hbm, 562, rfl⟩
abbrev main_v468 : Ref sig .tc := ⟨.hbm, 563, rfl⟩
abbrev main_v469 : Ref sig .tc := ⟨.hbm, 564, rfl⟩
abbrev main_cst_91 : Ref sig .tc := ⟨.hbm, 565, rfl⟩
abbrev main_v470 : Ref sig .tc := ⟨.hbm, 566, rfl⟩
abbrev main_v471 : Ref sig .tc := ⟨.hbm, 567, rfl⟩
abbrev main_v472 : Ref sig .tc := ⟨.hbm, 568, rfl⟩
abbrev main_cst_92 : Ref sig .tc := ⟨.hbm, 569, rfl⟩
abbrev main_v473 : Ref sig .tc := ⟨.hbm, 570, rfl⟩
abbrev main_v474 : Ref sig .tc := ⟨.hbm, 571, rfl⟩
abbrev main_v475 : Ref sig .tc := ⟨.hbm, 572, rfl⟩
abbrev main_v476 : Ref sig .tc := ⟨.hbm, 573, rfl⟩
abbrev main_cst_93 : Ref sig .tc := ⟨.hbm, 574, rfl⟩
abbrev main_v477 : Ref sig .tc := ⟨.hbm, 575, rfl⟩
abbrev main_v478 : Ref sig .tc := ⟨.hbm, 576, rfl⟩
abbrev main_cst_94 : Ref sig .tc := ⟨.hbm, 577, rfl⟩
abbrev main_v479 : Ref sig .tc := ⟨.hbm, 578, rfl⟩
abbrev main_v480 : Ref sig .tc := ⟨.hbm, 579, rfl⟩
abbrev main_cst_95 : Ref sig .tc := ⟨.hbm, 580, rfl⟩
abbrev main_v481 : Ref sig .tc := ⟨.hbm, 581, rfl⟩
abbrev main_v482 : Ref sig .tc := ⟨.hbm, 582, rfl⟩
abbrev main_v483 : Ref sig .tc := ⟨.hbm, 583, rfl⟩
abbrev main_cst_96 : Ref sig .tc := ⟨.hbm, 584, rfl⟩
abbrev main_v484 : Ref sig .tc := ⟨.hbm, 585, rfl⟩
abbrev main_v485 : Ref sig .tc := ⟨.hbm, 586, rfl⟩
abbrev main_v486 : Ref sig .tc := ⟨.hbm, 587, rfl⟩
abbrev main_v487 : Ref sig .tc := ⟨.hbm, 588, rfl⟩
abbrev main_cst_97 : Ref sig .tc := ⟨.hbm, 589, rfl⟩
abbrev main_v488 : Ref sig .tc := ⟨.hbm, 590, rfl⟩
abbrev main_v489 : Ref sig .tc := ⟨.hbm, 591, rfl⟩
abbrev main_cst_98 : Ref sig .tc := ⟨.hbm, 592, rfl⟩
abbrev main_v490 : Ref sig .tc := ⟨.hbm, 593, rfl⟩
abbrev main_v491 : Ref sig .tc := ⟨.hbm, 594, rfl⟩
abbrev main_cst_99 : Ref sig .tc := ⟨.hbm, 595, rfl⟩
abbrev main_v492 : Ref sig .tc := ⟨.hbm, 596, rfl⟩
abbrev main_v493 : Ref sig .tc := ⟨.hbm, 597, rfl⟩
abbrev main_v494 : Ref sig .tc := ⟨.hbm, 598, rfl⟩
abbrev main_cst_100 : Ref sig .tc := ⟨.hbm, 599, rfl⟩
abbrev main_v495 : Ref sig .tc := ⟨.hbm, 600, rfl⟩
abbrev main_v496 : Ref sig .tc := ⟨.hbm, 601, rfl⟩
abbrev main_v497 : Ref sig .tc := ⟨.hbm, 602, rfl⟩
abbrev main_v498 : Ref sig .tc := ⟨.hbm, 603, rfl⟩
abbrev main_cst_101 : Ref sig .tc := ⟨.hbm, 604, rfl⟩
abbrev main_v499 : Ref sig .tc := ⟨.hbm, 605, rfl⟩
abbrev main_v500 : Ref sig .tc := ⟨.hbm, 606, rfl⟩
abbrev main_cst_102 : Ref sig .tc := ⟨.hbm, 607, rfl⟩
abbrev main_v501 : Ref sig .tc := ⟨.hbm, 608, rfl⟩
abbrev main_v502 : Ref sig .tc := ⟨.hbm, 609, rfl⟩
abbrev main_cst_103 : Ref sig .tc := ⟨.hbm, 610, rfl⟩
abbrev main_v503 : Ref sig .tc := ⟨.hbm, 611, rfl⟩
abbrev main_v504 : Ref sig .tc := ⟨.hbm, 612, rfl⟩
abbrev main_v505 : Ref sig .tc := ⟨.hbm, 613, rfl⟩
abbrev main_cst_104 : Ref sig .tc := ⟨.hbm, 614, rfl⟩
abbrev main_v506 : Ref sig .tc := ⟨.hbm, 615, rfl⟩
abbrev main_v507 : Ref sig .tc := ⟨.hbm, 616, rfl⟩
abbrev main_v508 : Ref sig .tc := ⟨.hbm, 617, rfl⟩
abbrev main_v509 : Ref sig .tc := ⟨.hbm, 618, rfl⟩
abbrev main_cst_105 : Ref sig .tc := ⟨.hbm, 619, rfl⟩
abbrev main_v510 : Ref sig .tc := ⟨.hbm, 620, rfl⟩
abbrev main_v511 : Ref sig .tc := ⟨.hbm, 621, rfl⟩
abbrev main_cst_106 : Ref sig .tc := ⟨.hbm, 622, rfl⟩
abbrev main_v512 : Ref sig .tc := ⟨.hbm, 623, rfl⟩
abbrev main_v513 : Ref sig .tc := ⟨.hbm, 624, rfl⟩
abbrev main_cst_107 : Ref sig .tc := ⟨.hbm, 625, rfl⟩
abbrev main_v514 : Ref sig .tc := ⟨.hbm, 626, rfl⟩
abbrev main_v515 : Ref sig .tc := ⟨.hbm, 627, rfl⟩
abbrev main_v516 : Ref sig .tc := ⟨.hbm, 628, rfl⟩
abbrev main_cst_108 : Ref sig .tc := ⟨.hbm, 629, rfl⟩
abbrev main_v517 : Ref sig .tc := ⟨.hbm, 630, rfl⟩
abbrev main_v518 : Ref sig .tc := ⟨.hbm, 631, rfl⟩
abbrev main_v519 : Ref sig .tc := ⟨.hbm, 632, rfl⟩
abbrev main_v520 : Ref sig .tc := ⟨.hbm, 633, rfl⟩
abbrev main_cst_109 : Ref sig .tc := ⟨.hbm, 634, rfl⟩
abbrev main_v521 : Ref sig .tc := ⟨.hbm, 635, rfl⟩
abbrev main_v522 : Ref sig .tc := ⟨.hbm, 636, rfl⟩
abbrev main_cst_110 : Ref sig .tc := ⟨.hbm, 637, rfl⟩
abbrev main_v523 : Ref sig .tc := ⟨.hbm, 638, rfl⟩
abbrev main_v524 : Ref sig .tc := ⟨.hbm, 639, rfl⟩
abbrev main_cst_111 : Ref sig .tc := ⟨.hbm, 640, rfl⟩
abbrev main_v525 : Ref sig .tc := ⟨.hbm, 641, rfl⟩
abbrev main_v526 : Ref sig .tc := ⟨.hbm, 642, rfl⟩
abbrev main_v527 : Ref sig .tc := ⟨.hbm, 643, rfl⟩
abbrev main_cst_112 : Ref sig .tc := ⟨.hbm, 644, rfl⟩
abbrev main_v528 : Ref sig .tc := ⟨.hbm, 645, rfl⟩
abbrev main_v529 : Ref sig .tc := ⟨.hbm, 646, rfl⟩
abbrev main_v530 : Ref sig .tc := ⟨.hbm, 647, rfl⟩
abbrev main_v531 : Ref sig .tc := ⟨.hbm, 648, rfl⟩
abbrev main_cst_113 : Ref sig .tc := ⟨.hbm, 649, rfl⟩
abbrev main_v532 : Ref sig .tc := ⟨.hbm, 650, rfl⟩
abbrev main_v533 : Ref sig .tc := ⟨.hbm, 651, rfl⟩
abbrev main_cst_114 : Ref sig .tc := ⟨.hbm, 652, rfl⟩
abbrev main_v534 : Ref sig .tc := ⟨.hbm, 653, rfl⟩
abbrev main_v535 : Ref sig .tc := ⟨.hbm, 654, rfl⟩
abbrev main_cst_115 : Ref sig .tc := ⟨.hbm, 655, rfl⟩
abbrev main_v536 : Ref sig .tc := ⟨.hbm, 656, rfl⟩
abbrev main_v537 : Ref sig .tc := ⟨.hbm, 657, rfl⟩
abbrev main_v538 : Ref sig .tc := ⟨.hbm, 658, rfl⟩
abbrev main_cst_116 : Ref sig .tc := ⟨.hbm, 659, rfl⟩
abbrev main_v539 : Ref sig .tc := ⟨.hbm, 660, rfl⟩
abbrev main_v540 : Ref sig .tc := ⟨.hbm, 661, rfl⟩
abbrev main_v541 : Ref sig .tc := ⟨.hbm, 662, rfl⟩
abbrev main_v542 : Ref sig .tc := ⟨.hbm, 663, rfl⟩
abbrev main_cst_117 : Ref sig .tc := ⟨.hbm, 664, rfl⟩
abbrev main_v543 : Ref sig .tc := ⟨.hbm, 665, rfl⟩
abbrev main_v544 : Ref sig .tc := ⟨.hbm, 666, rfl⟩
abbrev main_cst_118 : Ref sig .tc := ⟨.hbm, 667, rfl⟩
abbrev main_v545 : Ref sig .tc := ⟨.hbm, 668, rfl⟩
abbrev main_v546 : Ref sig .tc := ⟨.hbm, 669, rfl⟩
abbrev main_cst_119 : Ref sig .tc := ⟨.hbm, 670, rfl⟩
abbrev main_v547 : Ref sig .tc := ⟨.hbm, 671, rfl⟩
abbrev main_v548 : Ref sig .tc := ⟨.hbm, 672, rfl⟩
abbrev main_v549 : Ref sig .tc := ⟨.hbm, 673, rfl⟩
abbrev main_cst_120 : Ref sig .tc := ⟨.hbm, 674, rfl⟩
abbrev main_v550 : Ref sig .tc := ⟨.hbm, 675, rfl⟩
abbrev main_v551 : Ref sig .tc := ⟨.hbm, 676, rfl⟩
abbrev main_v552 : Ref sig .tc := ⟨.hbm, 677, rfl⟩
abbrev main_v553 : Ref sig .tc := ⟨.hbm, 678, rfl⟩
abbrev main_cst_121 : Ref sig .tc := ⟨.hbm, 679, rfl⟩
abbrev main_v554 : Ref sig .tc := ⟨.hbm, 680, rfl⟩
abbrev main_v555 : Ref sig .tc := ⟨.hbm, 681, rfl⟩
abbrev main_cst_122 : Ref sig .tc := ⟨.hbm, 682, rfl⟩
abbrev main_v556 : Ref sig .tc := ⟨.hbm, 683, rfl⟩
abbrev main_v557 : Ref sig .tc := ⟨.hbm, 684, rfl⟩
abbrev main_cst_123 : Ref sig .tc := ⟨.hbm, 685, rfl⟩
abbrev main_v558 : Ref sig .tc := ⟨.hbm, 686, rfl⟩
abbrev main_v559 : Ref sig .tc := ⟨.hbm, 687, rfl⟩
abbrev main_v560 : Ref sig .tc := ⟨.hbm, 688, rfl⟩
abbrev main_cst_124 : Ref sig .tc := ⟨.hbm, 689, rfl⟩
abbrev main_v561 : Ref sig .tc := ⟨.hbm, 690, rfl⟩
abbrev main_v562 : Ref sig .tc := ⟨.hbm, 691, rfl⟩
abbrev main_v563 : Ref sig .tc := ⟨.hbm, 692, rfl⟩
abbrev main_v564 : Ref sig .tc := ⟨.hbm, 693, rfl⟩
abbrev main_cst_125 : Ref sig .tc := ⟨.hbm, 694, rfl⟩
abbrev main_v565 : Ref sig .tc := ⟨.hbm, 695, rfl⟩
abbrev main_v566 : Ref sig .tc := ⟨.hbm, 696, rfl⟩
abbrev main_cst_126 : Ref sig .tc := ⟨.hbm, 697, rfl⟩
abbrev main_v567 : Ref sig .tc := ⟨.hbm, 698, rfl⟩
abbrev main_v568 : Ref sig .tc := ⟨.hbm, 699, rfl⟩
abbrev main_cst_127 : Ref sig .tc := ⟨.hbm, 700, rfl⟩
abbrev main_v569 : Ref sig .tc := ⟨.hbm, 701, rfl⟩
abbrev main_v570 : Ref sig .tc := ⟨.hbm, 702, rfl⟩
abbrev main_v571 : Ref sig .tc := ⟨.hbm, 703, rfl⟩
abbrev main_cst_128 : Ref sig .tc := ⟨.hbm, 704, rfl⟩
abbrev main_v572 : Ref sig .tc := ⟨.hbm, 705, rfl⟩
abbrev main_v573 : Ref sig .tc := ⟨.hbm, 706, rfl⟩
abbrev main_v574 : Ref sig .tc := ⟨.hbm, 707, rfl⟩
abbrev main_v575 : Ref sig .tc := ⟨.hbm, 708, rfl⟩
abbrev main_cst_129 : Ref sig .tc := ⟨.hbm, 709, rfl⟩
abbrev main_v576 : Ref sig .tc := ⟨.hbm, 710, rfl⟩
abbrev main_v577 : Ref sig .tc := ⟨.hbm, 711, rfl⟩
abbrev main_cst_130 : Ref sig .tc := ⟨.hbm, 712, rfl⟩
abbrev main_v578 : Ref sig .tc := ⟨.hbm, 713, rfl⟩
abbrev main_v579 : Ref sig .tc := ⟨.hbm, 714, rfl⟩
abbrev main_cst_131 : Ref sig .tc := ⟨.hbm, 715, rfl⟩
abbrev main_v580 : Ref sig .tc := ⟨.hbm, 716, rfl⟩
abbrev main_v581 : Ref sig .tc := ⟨.hbm, 717, rfl⟩
abbrev main_v582 : Ref sig .tc := ⟨.hbm, 718, rfl⟩
abbrev main_v583 : Ref sig .tc := ⟨.hbm, 719, rfl⟩
abbrev main_v584 : Ref sig .tc := ⟨.hbm, 720, rfl⟩
abbrev main_v585 : Ref sig .tc := ⟨.hbm, 721, rfl⟩
abbrev main_v586 : Ref sig .tc := ⟨.hbm, 722, rfl⟩
abbrev main_v587 : Ref sig .tc := ⟨.hbm, 723, rfl⟩
abbrev main_cst_132 : Ref sig .tc := ⟨.hbm, 724, rfl⟩
abbrev main_v588 : Ref sig .tc := ⟨.hbm, 725, rfl⟩
abbrev main_cst_133 : Ref sig .tc := ⟨.hbm, 726, rfl⟩
abbrev main_v589 : Ref sig .tc := ⟨.hbm, 727, rfl⟩
abbrev main_v590 : Ref sig .tc := ⟨.hbm, 728, rfl⟩
abbrev main_v591 : Ref sig .tc := ⟨.hbm, 729, rfl⟩
abbrev main_v592 : Ref sig .tc := ⟨.hbm, 730, rfl⟩
abbrev main_v593 : Ref sig .tc := ⟨.hbm, 731, rfl⟩

abbrev nD : Nat := 1
abbrev τ : Topo := Topo.v7x

variable {F : FTy → Type} [FloatOps F]
-- ==== MmTn.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmTnRefIdeal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S2816x8192, .f32⟩
  | .hbm, ⟨4, _⟩ => ⟨S8192x1024, .f32⟩
  | .hbm, ⟨5, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmNt.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmNtRefIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Parts.lean ====
abbrev S8x352x1024 : Shape := ⟨3, ![8, 352, 1024]⟩
abbrev S2x352x1024 : Shape := ⟨3, ![2, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .f32⟩
  | .hbm, ⟨1, _⟩ => ⟨S8x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x176x1024, .f32⟩
  | .local _ .vmem, ⟨1, _⟩ => ⟨S8x176x1024, .f32⟩
  | .local _ .vmem, ⟨2, _⟩ => ⟨S8x176x1024, .f32⟩
  | .local _ .vmem, ⟨3, _⟩ => ⟨S8x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== PartsRefIdeal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S8x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S1x352x1024, .f32⟩
  | .hbm, ⟨10, _⟩ => ⟨S1x352x1024, .f32⟩
  | .hbm, ⟨11, _⟩ => ⟨S2x352x1024, .f32⟩
  | .hbm, ⟨12, _⟩ => ⟨S_, .f32⟩
  | .hbm, ⟨13, _⟩ => ⟨S2x352x1024, .f32⟩
  | .hbm, ⟨14, _⟩ => ⟨S2x352x1024, .f32⟩
  | .hbm, ⟨15, _⟩ => ⟨S_, .f32⟩
  | .hbm, ⟨16, _⟩ => ⟨S2x352x1024, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S2x352x1024, .f32⟩
  | .hbm, ⟨23, _⟩ => ⟨S_, .f32⟩
  | .hbm, ⟨24, _⟩ => ⟨S2x352x1024, .f32⟩
  | .hbm, ⟨25, _⟩ => ⟨S2x352x1024, .f32⟩
  | .hbm, ⟨26, _⟩ => ⟨S2x352x1024, .f32⟩
  | .hbm, ⟨27, _⟩ => ⟨S_, .f32⟩
  | .hbm, ⟨28, _⟩ => ⟨S2x352x1024, .f32⟩
  | .hbm, ⟨29, _⟩ => ⟨S2x352x1024, .f32⟩
  | .hbm, ⟨30, _⟩ => ⟨S_, .f32⟩
  | .hbm, ⟨31, _⟩ => ⟨S2x352x1024, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | .hbm, ⟨37, _⟩ => ⟨S2x352x1024, .f32⟩
  | .hbm, ⟨38, _⟩ => ⟨S_, .f32⟩
  | .hbm, ⟨39, _⟩ => ⟨S2x352x1024, .f32⟩
  | .hbm, ⟨40, _⟩ => ⟨S2x352x1024, .f32⟩
  | .hbm, ⟨41, _⟩ => ⟨S2x352x1024, .f32⟩
  | .hbm, ⟨42, _⟩ => ⟨S_, .f32⟩
  | .hbm, ⟨43, _⟩ => ⟨S2x352x1024, .f32⟩
  | .hbm, ⟨44, _⟩ => ⟨S2x352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Adamw.lean ====
abbrev S608x128 : Shape := ⟨2, ![608, 128]⟩
abbrev S152x128 : Shape := ⟨2, ![152, 128]⟩

abbrev nBuf : Space → Nat
  | .hbm => 7
  | .vmem => 14
  | .smem => 0
  | _ => 0

abbrev bufTy : (tb : Table) → Fin (tcTables nBuf tb) → BufTy
  | .hbm, ⟨0, _⟩ => ⟨S608x128, .f32⟩
  | .hbm, ⟨1, _⟩ => ⟨S608x128, .f32⟩
  | .hbm, ⟨2, _⟩ => ⟨S608x128, .f32⟩
  | .hbm, ⟨3, _⟩ => ⟨S608x128, .f32⟩
  | .hbm, ⟨4, _⟩ => ⟨S608x128, .f32⟩
  | .hbm, ⟨5, _⟩ => ⟨S608x128, .f32⟩
  | .hbm, ⟨6, _⟩ => ⟨S608x128, .f32⟩
  | .local _ .vmem, ⟨0, _⟩ => ⟨S152x128, .f32⟩
  | .local _ .vmem, ⟨1, _⟩ => ⟨S152x128, .f32⟩
  | .local _ .vmem, ⟨2, _⟩ => ⟨S152x128, .f32⟩
  | .local _ .vmem, ⟨3, _⟩ => ⟨S152x128, .f32⟩
  | .local _ .vmem, ⟨4, _⟩ => ⟨S152x128, .f32⟩
  | .local _ .vmem, ⟨5, _⟩ => ⟨S152x128, .f32⟩
  | .local _ .vmem, ⟨6, _⟩ => ⟨S152x128, .f32⟩
  | .local _ .vmem, ⟨7, _⟩ => ⟨S152x128, .f32⟩
  | .local _ .vmem, ⟨8, _⟩ => ⟨S152x128, .f32⟩
  | .local _ .vmem, ⟨9, _⟩ => ⟨S152x128, .f32⟩
  | .local _ .vmem, ⟨10, _⟩ => ⟨S152x128, .f32⟩
  | .local _ .vmem, ⟨11, _⟩ => ⟨S152x128, .f32⟩
  | .local _ .vmem, ⟨12, _⟩ => ⟨S152x128, .f32⟩
  | .local _ .vmem, ⟨13, _⟩ => ⟨S152x128, .f32⟩
  | _, _ => ⟨S608x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S152x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S152x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S152x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S152x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S152x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S152x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S152x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwRefIdeal.lean ====
abbrev S608x128 : Shape := ⟨2, ![608, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S608x128, .f32⟩
  | .hbm, ⟨1, _⟩ => ⟨S608x128, .f32⟩
  | .hbm, ⟨2, _⟩ => ⟨S608x128, .f32⟩
  | .hbm, ⟨3, _⟩ => ⟨S608x128, .f32⟩
  | .hbm, ⟨4, _⟩ => ⟨S_, .f32⟩
  | .hbm, ⟨5, _⟩ => ⟨S608x128, .f32⟩
  | .hbm, ⟨6, _⟩ => ⟨S608x128, .f32⟩
  | .hbm, ⟨7, _⟩ => ⟨S_, .f32⟩
  | .hbm, ⟨8, _⟩ => ⟨S608x128, .f32⟩
  | .hbm, ⟨9, _⟩ => ⟨S608x128, .f32⟩
  | .hbm, ⟨10, _⟩ => ⟨S608x128, .f32⟩
  | .hbm, ⟨11, _⟩ => ⟨S_, .f32⟩
  | .hbm, ⟨12, _⟩ => ⟨S608x128, .f32⟩
  | .hbm, ⟨13, _⟩ => ⟨S608x128, .f32⟩
  | .hbm, ⟨14, _⟩ => ⟨S608x128, .f32⟩
  | .hbm, ⟨15, _⟩ => ⟨S_, .f32⟩
  | .hbm, ⟨16, _⟩ => ⟨S608x128, .f32⟩
  | .hbm, ⟨17, _⟩ => ⟨S608x128, .f32⟩
  | .hbm, ⟨18, _⟩ => ⟨S608x128, .f32⟩
  | .hbm, ⟨19, _⟩ => ⟨S_, .f32⟩
  | .hbm, ⟨20, _⟩ => ⟨S608x128, .f32⟩
  | .hbm, ⟨21, _⟩ => ⟨S608x128, .f32⟩
  | .hbm, ⟨22, _⟩ => ⟨S_, .f32⟩
  | .hbm, ⟨23, _⟩ => ⟨S608x128, .f32⟩
  | .hbm, ⟨24, _⟩ => ⟨S608x128, .f32⟩
  | .hbm, ⟨25, _⟩ => ⟨S608x128, .f32⟩
  | .hbm, ⟨26, _⟩ => ⟨S_, .f32⟩
  | .hbm, ⟨27, _⟩ => ⟨S608x128, .f32⟩
  | .hbm, ⟨28, _⟩ => ⟨S608x128, .f32⟩
  | .hbm, ⟨29, _⟩ => ⟨S608x128, .f32⟩
  | .hbm, ⟨30, _⟩ => ⟨S_, .f32⟩
  | .hbm, ⟨31, _⟩ => ⟨S608x128, .f32⟩
  | .hbm, ⟨32, _⟩ => ⟨S608x128, .f32⟩
  | .hbm, ⟨33, _⟩ => ⟨S608x128, .f32⟩
  | .hbm, ⟨34, _⟩ => ⟨S_, .f32⟩
  | .hbm, ⟨35, _⟩ => ⟨S608x128, .f32⟩
  | .hbm, ⟨36, _⟩ => ⟨S608x128, .f32⟩
  | _, _ => ⟨S608x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Sum.lean ====
abbrev S8x720x128 : Shape := ⟨3, ![8, 720, 128]⟩
abbrev S720x128 : Shape := ⟨2, ![720, 128]⟩
abbrev S1x720x128 : Shape := ⟨3, ![1, 720, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x720x128, .f32⟩
  | .hbm, ⟨1, _⟩ => ⟨S720x128, .f32⟩
  | .local _ .vmem, ⟨0, _⟩ => ⟨S8x720x128, .f32⟩
  | .local _ .vmem, ⟨1, _⟩ => ⟨S720x128, .f32⟩
  | _, _ => ⟨S8x720x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x720x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S720x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumRefIdeal.lean ====
abbrev S8x720x128 : Shape := ⟨3, ![8, 720, 128]⟩
abbrev S_ : Shape := ⟨0, ![]⟩
abbrev S720x128 : Shape := ⟨2, ![720, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x720x128, .f32⟩
  | .hbm, ⟨1, _⟩ => ⟨S_, .f32⟩
  | .hbm, ⟨2, _⟩ => ⟨S720x128, .f32⟩
  | _, _ => ⟨S8x720x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Reals.lean ====
/- Extended reals that are real numbers: how the operations of the two programs act on them, and the constants both
   programs carry as bit patterns. -/
module

public import Idealize.ShloMosaic.Lib.Pointwise
public import Idealize.ShloMosaic.Lib.ReduceAll

@[expose] public section

noncomputable section

namespace Cert.Reals

open Idealize.ShloMosaic

/-- `a` is a real number, not one of the two infinities. -/
def IsReal (a : EReal) : Prop := ∃ r : ℝ, a = (r : EReal)

theorem isReal_coe (r : ℝ) : IsReal (r : EReal) := ⟨r, rfl⟩
theorem isReal_zero : IsReal 0 := ⟨0, EReal.coe_zero.symm⟩
theorem isReal_one : IsReal 1 := ⟨1, EReal.coe_one.symm⟩

variable {a b : EReal}

theorem IsReal.add (ha : IsReal a) (hb : IsReal b) : IsReal (a + b) := by
  obtain ⟨r, rfl⟩ := ha; obtain ⟨s, rfl⟩ := hb; exact ⟨r + s, (EReal.coe_add r s).symm⟩

theorem IsReal.mul (ha : IsReal a) (hb : IsReal b) : IsReal (a * b) := by
  obtain ⟨r, rfl⟩ := ha; obtain ⟨s, rfl⟩ := hb; exact ⟨r * s, (EReal.coe_mul r s).symm⟩

theorem IsReal.sub (ha : IsReal a) (hb : IsReal b) : IsReal (a - b) := by
  obtain ⟨r, rfl⟩ := ha; obtain ⟨s, rfl⟩ := hb; exact ⟨r - s, (EReal.coe_sub r s).symm⟩

theorem IsReal.neg (ha : IsReal a) : IsReal (-a) := by
  obtain ⟨r, rfl⟩ := ha; exact ⟨-r, (EReal.coe_neg r).symm⟩

theorem coe_finset_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A family of real numbers, as the values of a real function. -/
theorem lift {ι : Type} {f : ι → EReal} (h : ∀ i, IsReal (f i)) : ∃ g : ι → ℝ, f = fun i => (g i : EReal) :=
  ⟨fun i => (h i).choose, funext fun i => (h i).choose_spec⟩

theorem isReal_sum {ι : Type} {s : Finset ι} {f : ι → EReal} (h : ∀ i, IsReal (f i)) : IsReal (∑ i ∈ s, f i) := by
  obtain ⟨g, rfl⟩ := lift h
  exact ⟨∑ i ∈ s, g i, (coe_finset_sum s g).symm⟩

/-- Division by a real other than zero, of two reals. -/
theorem div_coe_coe {y : ℝ} (h : y ≠ 0) (x : ℝ) : Ideal.div x y = ((x / y : ℝ) : EReal) := by
  rw [Ideal.div_coe h, ← EReal.coe_mul, mul_one_div]

theorem IsReal.div_coe (ha : IsReal a) {y : ℝ} (h : y ≠ 0) : IsReal (Ideal.div a y) := by
  obtain ⟨r, rfl⟩ := ha; exact ⟨_, div_coe_coe h r⟩

/-- The reciprocal square root of a positive real. -/
theorem rsqrt_coe_pos {x : ℝ} (h : 0 < x) : Ideal.rsqrt x = (((Real.sqrt x)⁻¹ : ℝ) : EReal) := by
  rw [Ideal.rsqrt_coe, if_neg (not_lt.mpr h.le), if_neg h.ne']

/-- What a comparison `|a| < ∞` being true says. -/
theorem isReal_of_abs_lt (h : Ideal.cmp .olt (max a (-a)) ⊤ = 1#1) : IsReal a := by
  induction a using EReal.rec with
  | bot => simp [Ideal.cmp] at h
  | top => simp [Ideal.cmp] at h
  | coe r => exact ⟨r, rfl⟩

theorem inf_bits : Ideal.ofBits .f32 0x7F800000#32 = ⊤ := by simp [Ideal.ofBits, Ideal.ieee]

/-! The constants, each by the value of its bits. -/

theorem bits_1024 : Ideal.ofBits .f32 0x44800000#32 = ((1024 : ℝ) : EReal) := by
  simp [Ideal.ofBits, Ideal.ieee, -EReal.coe_mul]; norm_num

theorem bits_neg_half : Ideal.ofBits .f32 0xBF000000#32 = ((-(1 / 2) : ℝ) : EReal) := by
  simp [Ideal.ofBits, Ideal.ieee, -EReal.coe_mul]; norm_num

/-- The small constant under the root, whatever it is, is a positive real. -/
theorem bits_eps : ∃ e : ℝ, 0 < e ∧ Ideal.ofBits .f32 0x358637BD#32 = (e : EReal) := by
  refine ⟨8796093 / 2 ^ 43, by positivity, ?_⟩
  simp [Ideal.ofBits, Ideal.ieee, -EReal.coe_mul]; norm_num

/-- A conjunction of two bits is set when both are. -/
theorem andi_split {s : Shape} {p q : IVec s 1} {i : s.Idx} (h : andi p q i = 1#1) : p i = 1#1 ∧ q i = 1#1 := by
  have h' : p i &&& q i = 1#1 := h
  revert h'
  generalize p i = x; generalize q i = y
  revert x y; decide

/-- What a finiteness test of a whole array says of its elements: they are real. -/
theorem all_real {s z t u : Shape} {axes : List (Fin s.rank)} {d : Fin z.rank → Fin s.rank} [Subsingleton t.Idx] (x : FVec Ideal s .f32)
    (hb : z.BroadcastsInDim s d) (init : IVec u 1) (h : s.ReducesTo axes t) (hu : 0 < u.numel) (j : t.Idx)
    (e : Host.reduce IntOp.andi (cmpf .olt (Host.absf x) (broadcastInDim s d hb (constant z .f32 0x7F800000#32))) init h hu j = 1#1)
    (i : s.Idx) : IsReal (x i) := by
  have := Host.reduce_andi_all _ _ h hu j e i
  pointwise at this
  rw [inf_bits] at this
  exact isReal_of_abs_lt this

end Cert.Reals

end
-- ==== Proof.RmsNorm.lean ====
/- The gradient of a root mean square norm in the two ways the programs compute it. -/
module

public import proofs.«01_k».proof.Proof.Reals

@[expose] public section

noncomputable section

namespace Cert.RmsNorm

open Idealize.ShloMosaic Cert.Reals

/-- The mean of the squares of a row of 1024, plus the small constant. -/
def meanSq (x : Fin 1024 → EReal) : EReal :=
  Ideal.div (∑ k, x k * x k) (Ideal.ofBits .f32 0x44800000#32) + Ideal.ofBits .f32 0x358637BD#32

/-- The factor a row is normalised by. -/
def rstd (x : Fin 1024 → EReal) : EReal := Ideal.rsqrt (meanSq x)

/-- The row gradient as the version writes it: `r (u - x r² mean(u x))`. -/
def rowGrad (x u : Fin 1024 → EReal) (j : Fin 1024) : EReal :=
  rstd x * (u j - x j * (rstd x * rstd x) * Ideal.div (∑ k, u k * x k) (Ideal.ofBits .f32 0x44800000#32))

/-- The factor of `x` in the differentiated row: the cotangent of the mean square, over the row's length. -/
def sqGrad (x u : Fin 1024 → EReal) : EReal :=
  Ideal.div ((∑ k, x k * u k) * (Ideal.ofBits .f32 0xBF000000#32 * Ideal.div (rstd x) (meanSq x)))
    (Ideal.ofBits .f32 0x44800000#32)

/-- For a real row, the mean square is a positive real. -/
theorem meanSq_real {x : Fin 1024 → ℝ} : ∃ q : ℝ, 0 < q ∧ meanSq (fun k => (x k : EReal)) = (q : EReal) := by
  obtain ⟨e, he, hb⟩ := bits_eps
  refine ⟨(∑ k, x k * x k) / 1024 + e, ?_, ?_⟩
  · have : 0 ≤ ∑ k, x k * x k := Finset.sum_nonneg fun k _ => mul_self_nonneg _
    positivity
  · rw [meanSq, bits_1024, hb]
    simp only [← EReal.coe_mul, ← coe_finset_sum]
    rw [div_coe_coe (by norm_num), ← EReal.coe_add]

theorem rstd_real {x : Fin 1024 → EReal} (hx : ∀ k, IsReal (x k)) : IsReal (rstd x) := by
  obtain ⟨x, rfl⟩ := lift hx
  obtain ⟨q, hq, h⟩ := meanSq_real (x := x)
  exact ⟨_, by rw [rstd, h, rsqrt_coe_pos hq]⟩

theorem rowGrad_real {x u : Fin 1024 → EReal} (hx : ∀ k, IsReal (x k)) (hu : ∀ k, IsReal (u k)) (j : Fin 1024) :
    IsReal (rowGrad x u j) := by
  have hr := rstd_real hx
  rw [rowGrad, bits_1024]
  exact hr.mul ((hu j).sub (((hx j).mul (hr.mul hr)).mul
    ((isReal_sum fun k => (hu k).mul (hx k)).div_coe (by norm_num))))

/-- The two ways agree where the row and the incoming gradient are real; what is added to it (`gp`) may be anything. -/
theorem add_rowGrad {x u : Fin 1024 → EReal} (hx : ∀ k, IsReal (x k)) (hu : ∀ k, IsReal (u k)) (gp : EReal) (j : Fin 1024) :
    gp + rowGrad x u j = gp + u j * rstd x + x j * sqGrad x u + sqGrad x u * x j := by
  obtain ⟨x, rfl⟩ := lift hx
  obtain ⟨u, rfl⟩ := lift hu
  obtain ⟨q, hq, h⟩ := meanSq_real (x := x)
  have hr : rstd (fun k => (x k : EReal)) = (((Real.sqrt q)⁻¹ : ℝ) : EReal) := by rw [rstd, h, rsqrt_coe_pos hq]
  have hs : Real.sqrt q * Real.sqrt q = q := Real.mul_self_sqrt hq.le
  have hs0 : Real.sqrt q ≠ 0 := (Real.sqrt_pos.mpr hq).ne'
  rw [rowGrad, sqGrad, hr, h, bits_1024, bits_neg_half, add_assoc, add_assoc]
  congr 1
  simp only [← EReal.coe_mul, ← coe_finset_sum, div_coe_coe hq.ne', div_coe_coe (show (1024 : ℝ) ≠ 0 by norm_num), ← EReal.coe_sub,
    ← EReal.coe_add]
  rw [EReal.coe_eq_coe_iff, show (∑ k, u k * x k) = ∑ k, x k * u k from Finset.sum_congr rfl fun k _ => mul_comm _ _]
  generalize (∑ k, x k * u k) = s
  generalize Real.sqrt q = w at *
  subst hs
  field_simp
  ring

end Cert.RmsNorm

end
-- ==== Proof.MixInKernel.lean ====
/- What the two results of `mix_in_bwd` hold after the kernel's run, as formulas over the argument arrays. -/
module

public import proofs.«01_k».proof.Proof.Gen.MixInIdeal.Value
public import proofs.«01_k».proof.Proof.RmsNorm
public import Idealize.ShloMosaic.Lib.Pipeline.ValueKit
public import Idealize.ShloMosaic.Lib.Claim

@[expose] public section

set_option maxRecDepth 16384

noncomputable section

namespace Cert.MixInIdeal.Formula

open Cert.MixInIdeal Cert.MixInIdeal.Gen Idealize.ShloMosaic Idealize.ShloMosaic.TcCoe Idealize.SL.Sem Cert.RmsNorm

variable (m : (ℓ : Loc nD τ sig) → Buf (Elt Ideal) ℓ) (c : Dev nD)

abbrev X : FVec Ideal S8192x1024 .f32 := m ((c : Thread nD τ).loc main_arg0)
abbrev G : FVec Ideal S1024 .f32 := m ((c : Thread nD τ).loc main_arg1)
abbrev W : FVec Ideal S1024x2048 .f32 := m ((c : Thread nD τ).loc main_arg2)
abbrev DZ : FVec Ideal S8192x2048 .f32 := m ((c : Thread nD τ).loc main_arg3)
abbrev GP : FVec Ideal S8192x1024 .f32 := m ((c : Thread nD τ).loc main_arg4)

/-- The cotangent of the normalised row: `dz wᵀ`. -/
def dh (i : Fin 8192) (k : Fin 1024) : EReal := ∑ l : Fin 2048, DZ m c (ix2 i l) * W m c (ix2 k l)

/-- Row `i` of the block's input. -/
def row (i : Fin 8192) (k : Fin 1024) : EReal := X m c (ix2 i k)

/-- The cotangent of the row before its weights. -/
def u (i : Fin 8192) (k : Fin 1024) : EReal := dh m c i k * G m c (ix1 k)

/-- The gradient with respect to the block's input, added to the one that flows past it. -/
def outX (p : S8192x1024.Idx) : EReal := GP m c p + rowGrad (row m c (p 0)) (u m c (p 0)) (p 1)

/-- The gradient with respect to the norm's weights. -/
def outG (p : S1x1024.Idx) : EReal := ∑ i : Fin 8192, dh m c i (p 1) * row m c i (p 1) * rstd (row m c i)

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![t.val, 0]
    ∧ win0_7.index t = ![0, 0] :=
  (by decide +kernel : ∀ t : Fin grid0.N, _)

/-- Row `r` of grid point `t`'s block. -/
def at_ (t : Fin cfg0.N) (r : Fin 512) : Fin 8192 :=
  ⟨t.val * 512 + r.val, by have h : t.val < 16 := lt_of_lt_of_eq t.isLt N_0; omega⟩

theorem at_val (t : Fin cfg0.N) (r : Fin 512) : (at_ t r).val = t.val * 512 + r.val := rfl

theorem read0 (t : Fin cfg0.N) (r : Fin 512) (k : Fin 1024) :
    (iblk m c 0 t : Vec Ideal S512x1024 .bf16) (ix2 r k) = DZ m c (ix2 (at_ t r) ⟨k.val, by omega⟩) := by
  blk_ext! [iblk, V, idx t, at_val]

theorem read1 (t : Fin cfg0.N) (r : Fin 512) (k : Fin 1024) :
    (iblk m c 1 t : Vec Ideal S512x1024 .bf16) (ix2 r k) = DZ m c (ix2 (at_ t r) ⟨1024 + k.val, by omega⟩) := by
  blk_ext! [iblk, V, idx t, at_val]

theorem read2 (t : Fin cfg0.N) (k : Fin 2048) (j : Fin 1024) :
    (iblk m c 2 t : Vec Ideal S2048x1024 .bf16) (ix2 k j) = W m c (ix2 j k) := by
  blk_ext! [iblk, V, idx t, at_val]

theorem read3 (t : Fin cfg0.N) (r : Fin 512) (k : Fin 1024) :
    (iblk m c 3 t : Vec Ideal S512x1024 .f32) (ix2 r k) = row m c (at_ t r) k := by
  unfold row; blk_ext! [iblk, V, idx t, at_val]

theorem read4 (t : Fin cfg0.N) (k : Fin 1024) :
    (iblk m c 4 t : Vec Ideal S1x1024 .f32) (ix2 0 k) = G m c (ix1 k) := by
  blk_ext! [iblk, V, idx t, at_val]

theorem read5 (t : Fin cfg0.N) (r : Fin 512) (k : Fin 1024) :
    (iblk m c 5 t : Vec Ideal S512x1024 .f32) (ix2 r k) = GP m c (ix2 (at_ t r) k) := by
  blk_ext! [iblk, V, idx t, at_val]

/-- The two products of a block add up to the whole contraction. -/
theorem dh_at (t : Fin cfg0.N) (r : Fin 512) (j : Fin 1024) :
    (∑ x : Fin 1024, DZ m c (ix2 (at_ t r) ⟨x.val, by omega⟩) * W m c (ix2 j ⟨x.val, by omega⟩))
      + ∑ x : Fin 1024, DZ m c (ix2 (at_ t r) ⟨1024 + x.val, by omega⟩) * W m c (ix2 j ⟨1024 + x.val, by omega⟩)
      = dh m c (at_ t r) j :=
  (Fin.sum_univ_two_halves 1024 1024 rfl fun l => DZ m c (ix2 (at_ t r) l) * W m c (ix2 j l)).symm

theorem pointX (t : Fin cfg0.N) (y : S512x1024.Idx) : k0_pay1 (k0_pay5 (iblk m c 3 t))
      (k0_pay6 (iblk m c 0 t) (View.ld (iblk m c 2 t) (Rect.unit ![0, 0] ![1024, 1024] inb_S2048x1024_S1024x1024_0_0))
        (iblk m c 1 t) (View.ld (iblk m c 2 t) (Rect.unit ![1024, 0] ![1024, 1024] inb_S2048x1024_S1024x1024_1024_0))
        (iblk m c 4 t))
      (k0_pay7 (iblk m c 0 t) (View.ld (iblk m c 2 t) (Rect.unit ![0, 0] ![1024, 1024] inb_S2048x1024_S1024x1024_0_0))
        (iblk m c 1 t) (View.ld (iblk m c 2 t) (Rect.unit ![1024, 0] ![1024, 1024] inb_S2048x1024_S1024x1024_1024_0))
        (iblk m c 3 t) (iblk m c 4 t))
      (iblk m c 5 t) y = outX m c (ix2 (at_ t (y 0)) (y 1)) := by
  idx_vars y
  unfold_payloads
  pointwise
  simp only [read0, read1, read2, read3, read4, read5, dh_at]
  rfl

theorem pointG (t : Fin cfg0.N) (a : FVec Ideal S1x1024 .f32) (y : S1x1024.Idx) : k0_pay2
      (k0_pay4 (iblk m c 0 t) (View.ld (iblk m c 2 t) (Rect.unit ![0, 0] ![1024, 1024] inb_S2048x1024_S1024x1024_0_0))
        (iblk m c 1 t) (View.ld (iblk m c 2 t) (Rect.unit ![1024, 0] ![1024, 1024] inb_S2048x1024_S1024x1024_1024_0)))
      (iblk m c 3 t) (k0_pay5 (iblk m c 3 t)) a y
      = a y + ∑ r : Fin 512, dh m c (at_ t r) (y 1) * row m c (at_ t r) (y 1) * rstd (row m c (at_ t r)) := by
  idx_vars y
  unfold_payloads
  pointwise
  simp only [read0, read1, read2, read3, dh_at]
  rfl

theorem zeroG (y : S1x1024.Idx) : k0_pay3 (F := Ideal) y = 0 := by pointwise [k0_pay3]

theorem finalX : (dats m 0 c).arrAt 6 cfg0.N = outX m c := by
  refine (dats m 0 c).arrAt_eq_of_covers 6 _ (by decide +kernel) fun t hf y => ?_
  blk_simp
  have e : ((View.whole main_v6_0).slice (win0_6.rect t)).emb y = ix2 (at_ t (y 0)) (y 1) := by
    blk_ext [idx t]; rfl
  rw [after0_6]
  by_cases h : t.val % 16 = 0
  · rw [Gen.outsAt0_A m c t h]
    frame_out
    rw [e]
    exact pointX m c t y
  · rw [Gen.outsAt0_B m c t h]
    frame_out
    rw [e]
    exact pointX m c t y

theorem finalG : (dats m 0 c).arrAt 7 cfg0.N = outG m c := by
  refine (dats m 0 c).arrAt_eq_of_after_last 7 t0_15 (by decide +kernel) _ fun y => ?_
  blk_simp
  rw [after0_7, Pipeline.eq_sum_fin_of_reset_step_apply_last (fun n h => (outsAt0 m c n h).2) 16 (fun _ => 0)
    (fun t y => ∑ r : Fin 512, dh m c (at_ t r) (y 1) * row m c (at_ t r) (y 1) * rstd (row m c (at_ t r)))
    (fun t h y => by rw [outsAt0_A m c t h]; frame_out; exact (pointG m c t _ y).trans (congrArg (· + _) (zeroG y)))
    (fun t h y => by rw [outsAt0_B m c t h]; frame_out; exact pointG m c t _ y)
    (le_of_eq N_0) t0_15 rfl y, zero_add]
  show (_ : EReal) = _
  exact Fin.sum_mul_add_fin 16 512 (fun i : Fin 8192 => dh m c i (y 1) * row m c i (y 1) * rstd (row m c i)) rfl

end Cert.MixInIdeal.Formula

end
-- ==== Proof.MixInRef.lean ====
/- The two results of the reference of `mix_in_bwd`, as formulas over the argument arrays. -/
module

public import proofs.«01_k».proof.Proof.Gen.MixInRefIdeal.Run
public import proofs.«01_k».proof.Proof.RmsNorm
public import Idealize.ShloMosaic.Lib.Tactic.CleanTypes

@[expose] public section

set_option maxRecDepth 16384

noncomputable section

namespace Cert.MixInRefIdeal.Formula

open Cert.MixInRefIdeal Idealize.ShloMosaic Idealize.ShloMosaic.TcCoe Idealize.SL.Sem Cert.RmsNorm

variable (m : (ℓ : Loc nD τ sig) → Buf (Elt Ideal) ℓ) (c : Dev nD)

abbrev X : FVec Ideal S8192x1024 .f32 := m ((c.tc : Thread nD τ).loc main_arg0)
abbrev G : FVec Ideal S1024 .f32 := m ((c.tc : Thread nD τ).loc main_arg1)
abbrev W : FVec Ideal S1024x2048 .f32 := m ((c.tc : Thread nD τ).loc main_arg2)
abbrev DZ : FVec Ideal S8192x2048 .f32 := m ((c.tc : Thread nD τ).loc main_arg3)
abbrev GP : FVec Ideal S8192x1024 .f32 := m ((c.tc : Thread nD τ).loc main_arg4)

/-- The cotangent of the normalised row. -/
def dh (i : Fin 8192) (k : Fin 1024) : EReal := ∑ l : Fin 2048, DZ m c (ix2 i l) * W m c (ix2 k l)

def row (i : Fin 8192) (k : Fin 1024) : EReal := X m c (ix2 i k)

def u (i : Fin 8192) (k : Fin 1024) : EReal := dh m c i k * G m c (ix1 k)

def outX (p : S8192x1024.Idx) : EReal :=
  GP m c p + u m c (p 0) (p 1) * rstd (row m c (p 0)) + row m c (p 0) (p 1) * sqGrad (row m c (p 0)) (u m c (p 0))
    + sqGrad (row m c (p 0)) (u m c (p 0)) * row m c (p 0) (p 1)

def outG (p : S1x1024.Idx) : EReal := ∑ i : Fin 8192, row m c i (p 1) * rstd (row m c i) * dh m c i (p 1)

/-- The reference's run, with its results at these formulas. -/
theorem run (ρ : Dev nD → PrngReg) :
    θ_run defs (onTc (τ := τ) (main (F := Ideal))) ⟨m, fun _ => 0, ρ⟩ fun r => ∀ c : Dev nD,
      r.2.mem ((c.tc : Thread nD τ).loc main_v38) = outX m c
      ∧ r.2.mem ((c.tc : Thread nD τ).loc main_v39) = outG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨h0, h1, hk⟩ := h c
  refine ⟨h0.trans ?_, h1.trans ?_, hk⟩
  · funext p
    idx_vars p
    unfold Value.res_main_v38
    clean_types
    pointwise
    simp only [Finset.univ_unique, Finset.sum_singleton]
    rfl
  · funext p
    idx_vars p
    clean_types
    pointwise
    simp only [Finset.univ_unique, Finset.sum_singleton]
    rfl

end Cert.MixInRefIdeal.Formula

end
-- ==== Proof.MixIn.lean ====
/- The claims about `mix_in_bwd`: the frames of its programs, and that its two gradients are the reference's. -/
module

public import proofs.«01_k».proof.Defs
public import proofs.«01_k».proof.Proof.Gen.MixIn
public import proofs.«01_k».proof.Proof.Gen.MixIn.Frame
public import proofs.«01_k».proof.Proof.MixInKernel
public import proofs.«01_k».proof.Proof.MixInRef
public import Idealize.ShloMosaic.Lib.Quiescent

@[expose] public section

set_option maxRecDepth 16384

noncomputable section

namespace Cert.MixInClaims

open Idealize.ShloMosaic Idealize.ShloMosaic.TcCoe Idealize.SL.Sem Cert.Reals Cert.RmsNorm

instance preFacts : Cert.Pre_finite_in.Facts where
  bcast_S_S8192x1024 := by decide
  reducesTo_S8192x1024_S_d0_1 := by decide
  h_S_ := by decide
  bcast_S_S1024 := by decide
  reducesTo_S1024_S_d0 := by decide
  bcast_S_S1024x2048 := by decide
  reducesTo_S1024x2048_S_d0_1 := by decide
  bcast_S_S8192x2048 := by decide
  reducesTo_S8192x2048_S_d0_1 := by decide

theorem frame : Cert.quiescent_MixIn := fun m ρ _ => Cert.MixIn.Gen.frame m ρ

theorem frameIdeal : Cert.quiescent_MixInIdeal := fun m ρ _ => Cert.MixInIdeal.Gen.frame m ρ

theorem frameIdealPre : Cert.quiescent_MixInIdeal_pre_finite_in := fun m ρ _ => Cert.MixInIdeal.Gen.frame m ρ

theorem frameRef : Cert.quiescent_MixInRefIdeal := fun m ρ _ =>
  (θ_run _ _ _).mono (fun r h => ⟨fun c => (h c).2.2, sem_eq_zero_of_no_sems rfl _⟩) (Cert.MixInRefIdeal.Formula.run m ρ)

theorem frameRefPre : Cert.quiescent_MixInRefIdeal_pre_finite_in := fun m ρ _ =>
  (θ_run _ _ _).mono (fun r h => ⟨fun c => (h c).2.2, sem_eq_zero_of_no_sems rfl _⟩) (Cert.MixInRefIdeal.Formula.run m ρ)

section

open Cert.MixInIdeal Cert.MixInIdeal.Formula

variable {m : (ℓ : Loc nD τ sig) → Buf (Elt Ideal) ℓ}

/-- The precondition, read: the input, the norm's weights, the product's weights and the cotangent are real. -/
theorem finite (h : Cert.Pre_MixInIdeal_finite_in m) (c : Dev nD) :
    ((∀ i, IsReal (X m c i)) ∧ ∀ i, IsReal (G m c i)) ∧ (∀ i, IsReal (W m c i)) ∧ ∀ i, IsReal (DZ m c i) := by
  have e := congrFun (h c) (fun a => a.elim0)
  dsimp only [Cert.Pre_finite_in.fn, Cert.Pre_finite_in.fn_part1] at e
  obtain ⟨e, e3⟩ := andi_split e
  obtain ⟨e, e2⟩ := andi_split e
  obtain ⟨e0, e1⟩ := andi_split e
  exact ⟨⟨all_real _ _ _ _ _ _ e0, all_real _ _ _ _ _ _ e1⟩, all_real _ _ _ _ _ _ e2, all_real _ _ _ _ _ _ e3⟩

theorem u_real (h : Cert.Pre_MixInIdeal_finite_in m) (c : Dev nD) (i : Fin 8192) (k : Fin 1024) : IsReal (u m c i k) := by
  obtain ⟨⟨_, hg⟩, hw, hz⟩ := finite h c
  exact (isReal_sum fun l => (hz _).mul (hw _)).mul (hg _)

theorem outX_eq (h : Cert.Pre_MixInIdeal_finite_in m) (c : Dev nD) (p : S8192x1024.Idx) :
    outX m c p = GP m c p + u m c (p 0) (p 1) * rstd (row m c (p 0)) + row m c (p 0) (p 1) * sqGrad (row m c (p 0)) (u m c (p 0))
      + sqGrad (row m c (p 0)) (u m c (p 0)) * row m c (p 0) (p 1) :=
  add_rowGrad (fun k => (finite h c).1.1 _) (u_real h c _) _ _

end

theorem algebraic : Cert.algebraic_MixInIdeal_MixInRefIdeal_pre_finite_in := by
  intro m g m' g' hpre hagree
  refine ⟨fun c => Cert.MixInIdeal.Formula.outX m c, fun c => Cert.MixInIdeal.Formula.outG m c, ?_, ?_⟩
  · exact (θ_run _ _ _).mono (fun r h c => ⟨(h c).1.trans (Cert.MixInIdeal.Formula.finalX m c),
      (h c).2.1.trans (Cert.MixInIdeal.Formula.finalG m c), (h c).2.2⟩) (Cert.MixInIdeal.Value.run_blocks m g)
  · refine (θ_run _ _ _).mono (fun r h c => ⟨(h c).1.trans ?_, (h c).2.1.trans ?_, (h c).2.2⟩) (Cert.MixInRefIdeal.Formula.run m' g')
    all_goals
      obtain ⟨a0, a1, a2, a3, a4⟩ := hagree c
      have er : Cert.MixInRefIdeal.Formula.row m' c = Cert.MixInIdeal.Formula.row m c := by
        funext i k
        exact congrFun a0 _
      have ed : Cert.MixInRefIdeal.Formula.dh m' c = Cert.MixInIdeal.Formula.dh m c := by
        funext i k
        simp only [Cert.MixInRefIdeal.Formula.dh, a2, a3]
        rfl
      have eu : Cert.MixInRefIdeal.Formula.u m' c = Cert.MixInIdeal.Formula.u m c := by
        funext i k
        simp only [Cert.MixInRefIdeal.Formula.u, ed, a1]
        rfl
      funext p
    · refine Eq.trans ?_ (outX_eq hpre c p).symm
      simp only [Cert.MixInRefIdeal.Formula.outX, eu, er, a4]
    · simp only [Cert.MixInRefIdeal.Formula.outG, ed, er]
      refine Finset.sum_congr rfl fun i _ => ?_
      rw [mul_comm, ← mul_assoc]

end Cert.MixInClaims

end
-- ==== Proof.QkvKernel.lean ====
/- What the two results of `qkv_bwd` hold after the kernel's run, as formulas over the argument arrays. -/
module

public import proofs.«01_k».proof.Proof.Gen.QkvIdeal.Value
public import proofs.«01_k».proof.Proof.RmsNorm
public import Idealize.ShloMosaic.Lib.Pipeline.ValueKit
public import Idealize.ShloMosaic.Lib.Claim

@[expose] public section

set_option maxRecDepth 16384

noncomputable section

namespace Cert.QkvIdeal.Formula

open Cert.QkvIdeal Cert.QkvIdeal.Gen Idealize.ShloMosaic Idealize.ShloMosaic.TcCoe Idealize.SL.Sem Cert.RmsNorm

variable (m : (ℓ : Loc nD τ sig) → Buf (Elt Ideal) ℓ) (c : Dev nD)

abbrev X : FVec Ideal S8192x1024 .f32 := m ((c : Thread nD τ).loc main_arg0)
abbrev G : FVec Ideal S1024 .f32 := m ((c : Thread nD τ).loc main_arg1)
abbrev W : FVec Ideal S1024x3072 .f32 := m ((c : Thread nD τ).loc main_arg2)
abbrev DZ : FVec Ideal S8192x3072 .f32 := m ((c : Thread nD τ).loc main_arg3)
abbrev GP : FVec Ideal S8192x1024 .f32 := m ((c : Thread nD τ).loc main_arg4)

/-- The cotangent of the normalised row: `dz wᵀ`. -/
def dh (i : Fin 8192) (k : Fin 1024) : EReal := ∑ l : Fin 3072, DZ m c (ix2 i l) * W m c (ix2 k l)

/-- Row `i` of the block's input. -/
def row (i : Fin 8192) (k : Fin 1024) : EReal := X m c (ix2 i k)

/-- The cotangent of the row before its weights. -/
def u (i : Fin 8192) (k : Fin 1024) : EReal := dh m c i k * G m c (ix1 k)

/-- The gradient with respect to the block's input, added to the one that flows past it. -/
def outX (p : S8192x1024.Idx) : EReal := GP m c p + rowGrad (row m c (p 0)) (u m c (p 0)) (p 1)

/-- The gradient with respect to the norm's weights. -/
def outG (p : S1x1024.Idx) : EReal := ∑ i : Fin 8192, dh m c i (p 1) * row m c i (p 1) * rstd (row m c i)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![t.val, 0]
    ∧ win0_7.index t = ![t.val, 0] ∧ win0_8.index t = ![0, 0] :=
  (by decide +kernel : ∀ t : Fin grid0.N, _)

/-- Row `r` of grid point `t`'s block. -/
def at_ (t : Fin cfg0.N) (r : Fin 512) : Fin 8192 :=
  ⟨t.val * 512 + r.val, by have h : t.val < 16 := lt_of_lt_of_eq t.isLt N_0; omega⟩

theorem at_val (t : Fin cfg0.N) (r : Fin 512) : (at_ t r).val = t.val * 512 + r.val := rfl

theorem read0 (t : Fin cfg0.N) (r : Fin 512) (k : Fin 1024) :
    (iblk m c 0 t : Vec Ideal S512x1024 .bf16) (ix2 r k) = DZ m c (ix2 (at_ t r) ⟨k.val, by omega⟩) := by
  blk_ext! [iblk, V, idx t, at_val]

theorem read1 (t : Fin cfg0.N) (r : Fin 512) (k : Fin 1024) :
    (iblk m c 1 t : Vec Ideal S512x1024 .bf16) (ix2 r k) = DZ m c (ix2 (at_ t r) ⟨1024 + k.val, by omega⟩) := by
  blk_ext! [iblk, V, idx t, at_val]

theorem read2 (t : Fin cfg0.N) (r : Fin 512) (k : Fin 1024) :
    (iblk m c 2 t : Vec Ideal S512x1024 .bf16) (ix2 r k) = DZ m c (ix2 (at_ t r) ⟨2048 + k.val, by omega⟩) := by
  blk_ext! [iblk, V, idx t, at_val]

theorem read3 (t : Fin cfg0.N) (k : Fin 3072) (j : Fin 1024) :
    (iblk m c 3 t : Vec Ideal S3072x1024 .bf16) (ix2 k j) = W m c (ix2 j k) := by
  blk_ext! [iblk, V, idx t, at_val]

theorem read4 (t : Fin cfg0.N) (r : Fin 512) (k : Fin 1024) :
    (iblk m c 4 t : Vec Ideal S512x1024 .f32) (ix2 r k) = row m c (at_ t r) k := by
  unfold row; blk_ext! [iblk, V, idx t, at_val]

theorem read5 (t : Fin cfg0.N) (k : Fin 1024) :
    (iblk m c 5 t : Vec Ideal S1x1024 .f32) (ix2 0 k) = G m c (ix1 k) := by
  blk_ext! [iblk, V, idx t, at_val]

theorem read6 (t : Fin cfg0.N) (r : Fin 512) (k : Fin 1024) :
    (iblk m c 6 t : Vec Ideal S512x1024 .f32) (ix2 r k) = GP m c (ix2 (at_ t r) k) := by
  blk_ext! [iblk, V, idx t, at_val]

/-- The three products of a block add up to the whole contraction. -/
theorem dh_at (t : Fin cfg0.N) (r : Fin 512) (j : Fin 1024) :
    (∑ x : Fin 1024, DZ m c (ix2 (at_ t r) ⟨x.val, by omega⟩) * W m c (ix2 j ⟨x.val, by omega⟩))
      + (∑ x : Fin 1024, DZ m c (ix2 (at_ t r) ⟨1024 + x.val, by omega⟩) * W m c (ix2 j ⟨1024 + x.val, by omega⟩))
      + ∑ x : Fin 1024, DZ m c (ix2 (at_ t r) ⟨2048 + x.val, by omega⟩) * W m c (ix2 j ⟨2048 + x.val, by omega⟩)
      = dh m c (at_ t r) j :=
  ((Fin.sum_univ_two_halves 2048 1024 rfl fun l => DZ m c (ix2 (at_ t r) l) * W m c (ix2 j l)).trans (congrArg (· + _)
    (Fin.sum_univ_two_halves 1024 1024 rfl fun l : Fin 2048 =>
      DZ m c (ix2 (at_ t r) ⟨l.val, by omega⟩) * W m c (ix2 j ⟨l.val, by omega⟩)))).symm

theorem pointX (t : Fin cfg0.N) (y : S512x1024.Idx) : k0_pay1 (iblk m c 4 t) (k0_pay5 (iblk m c 4 t))
      (k0_pay6 (iblk m c 0 t) (View.ld (iblk m c 3 t) (Rect.unit ![0, 0] ![1024, 1024] inb_S3072x1024_S1024x1024_0_0))
        (iblk m c 1 t) (View.ld (iblk m c 3 t) (Rect.unit ![1024, 0] ![1024, 1024] inb_S3072x1024_S1024x1024_1024_0))
        (iblk m c 2 t) (View.ld (iblk m c 3 t) (Rect.unit ![2048, 0] ![1024, 1024] inb_S3072x1024_S1024x1024_2048_0))
        (iblk m c 5 t))
      (k0_pay7 (iblk m c 4 t)) (iblk m c 6 t) y = outX m c (ix2 (at_ t (y 0)) (y 1)) := by
  idx_vars y
  unfold_payloads
  pointwise
  simp only [read0, read1, read2, read3, read4, read5, read6, dh_at]
  rfl

theorem pointG (t : Fin cfg0.N) (a : FVec Ideal S1x1024 .f32) (y : S1x1024.Idx) : k0_pay2
      (k0_pay4 (iblk m c 0 t) (View.ld (iblk m c 3 t) (Rect.unit ![0, 0] ![1024, 1024] inb_S3072x1024_S1024x1024_0_0))
        (iblk m c 1 t) (View.ld (iblk m c 3 t) (Rect.unit ![1024, 0] ![1024, 1024] inb_S3072x1024_S1024x1024_1024_0))
        (iblk m c 2 t) (View.ld (iblk m c 3 t) (Rect.unit ![2048, 0] ![1024, 1024] inb_S3072x1024_S1024x1024_2048_0)))
      (iblk m c 4 t) (k0_pay5 (iblk m c 4 t)) a y
      = a y + ∑ r : Fin 512, dh m c (at_ t r) (y 1) * row m c (at_ t r) (y 1) * rstd (row m c (at_ t r)) := by
  idx_vars y
  unfold_payloads
  pointwise
  simp only [read0, read1, read2, read3, read4, dh_at]
  rfl

theorem zeroG (y : S1x1024.Idx) : k0_pay3 (F := Ideal) y = 0 := by pointwise [k0_pay3]

theorem finalX : (dats m 0 c).arrAt 7 cfg0.N = outX m c := by
  refine (dats m 0 c).arrAt_eq_of_covers 7 _ (by decide +kernel) fun t hf y => ?_
  blk_simp
  have e : ((View.whole main_v7_0).slice (win0_7.rect t)).emb y = ix2 (at_ t (y 0)) (y 1) := by
    blk_ext [idx t]; rfl
  rw [after0_7]
  by_cases h : t.val % 16 = 0
  · rw [Gen.outsAt0_A m c t h]
    frame_out
    rw [e]
    exact pointX m c t y
  · rw [Gen.outsAt0_B m c t h]
    frame_out
    rw [e]
    exact pointX m c t y

theorem finalG : (dats m 0 c).arrAt 8 cfg0.N = outG m c := by
  refine (dats m 0 c).arrAt_eq_of_after_last 8 t0_15 (by decide +kernel) _ fun y => ?_
  blk_simp
  rw [after0_8, Pipeline.eq_sum_fin_of_reset_step_apply_last (fun n h => (outsAt0 m c n h).2) 16 (fun _ => 0)
    (fun t y => ∑ r : Fin 512, dh m c (at_ t r) (y 1) * row m c (at_ t r) (y 1) * rstd (row m c (at_ t r)))
    (fun t h y => by rw [outsAt0_A m c t h]; frame_out; exact (pointG m c t _ y).trans (congrArg (· + _) (zeroG y)))
    (fun t h y => by rw [outsAt0_B m c t h]; frame_out; exact pointG m c t _ y)
    (le_of_eq N_0) t0_15 rfl y, zero_add]
  show (_ : EReal) = _
  exact Fin.sum_mul_add_fin 16 512 (fun i : Fin 8192 => dh m c i (y 1) * row m c i (y 1) * rstd (row m c i)) rfl

end Cert.QkvIdeal.Formula

end
-- ==== Proof.QkvRef.lean ====
/- The two results of the reference of `qkv_bwd`, as formulas over the argument arrays. -/
module

public import proofs.«01_k».proof.Proof.Gen.QkvRefIdeal.Run
public import proofs.«01_k».proof.Proof.RmsNorm
public import Idealize.ShloMosaic.Lib.Tactic.CleanTypes

@[expose] public section

set_option maxRecDepth 16384

noncomputable section

namespace Cert.QkvRefIdeal.Formula

open Cert.QkvRefIdeal Idealize.ShloMosaic Idealize.ShloMosaic.TcCoe Idealize.SL.Sem Cert.RmsNorm

variable (m : (ℓ : Loc nD τ sig) → Buf (Elt Ideal) ℓ) (c : Dev nD)

abbrev X : FVec Ideal S8192x1024 .f32 := m ((c.tc : Thread nD τ).loc main_arg0)
abbrev G : FVec Ideal S1024 .f32 := m ((c.tc : Thread nD τ).loc main_arg1)
abbrev W : FVec Ideal S1024x3072 .f32 := m ((c.tc : Thread nD τ).loc main_arg2)
abbrev DZ : FVec Ideal S8192x3072 .f32 := m ((c.tc : Thread nD τ).loc main_arg3)
abbrev GP : FVec Ideal S8192x1024 .f32 := m ((c.tc : Thread nD τ).loc main_arg4)

/-- The cotangent of the normalised row. -/
def dh (i : Fin 8192) (k : Fin 1024) : EReal := ∑ l : Fin 3072, DZ m c (ix2 i l) * W m c (ix2 k l)

def row (i : Fin 8192) (k : Fin 1024) : EReal := X m c (ix2 i k)

def u (i : Fin 8192) (k : Fin 1024) : EReal := dh m c i k * G m c (ix1 k)

def outX (p : S8192x1024.Idx) : EReal :=
  GP m c p + u m c (p 0) (p 1) * rstd (row m c (p 0)) + row m c (p 0) (p 1) * sqGrad (row m c (p 0)) (u m c (p 0))
    + sqGrad (row m c (p 0)) (u m c (p 0)) * row m c (p 0) (p 1)

def outG (p : S1x1024.Idx) : EReal := ∑ i : Fin 8192, row m c i (p 1) * rstd (row m c i) * dh m c i (p 1)

/-- The reference's run, with its results at these formulas. -/
theorem run (ρ : Dev nD → PrngReg) :
    θ_run defs (onTc (τ := τ) (main (F := Ideal))) ⟨m, fun _ => 0, ρ⟩ fun r => ∀ c : Dev nD,
      r.2.mem ((c.tc : Thread nD τ).loc main_v38) = outX m c
      ∧ r.2.mem ((c.tc : Thread nD τ).loc main_v39) = outG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨h0, h1, hk⟩ := h c
  refine ⟨h0.trans ?_, h1.trans ?_, hk⟩
  · funext p
    idx_vars p
    unfold Value.res_main_v38
    clean_types
    pointwise
    simp only [Finset.univ_unique, Finset.sum_singleton]
    rfl
  · funext p
    idx_vars p
    clean_types
    pointwise
    simp only [Finset.univ_unique, Finset.sum_singleton]
    rfl

end Cert.QkvRefIdeal.Formula

end
-- ==== Proof.Qkv.lean ====
/- The claims about `qkv_bwd`: the frames of its programs, and that its two gradients are the reference's. -/
module

public import proofs.«01_k».proof.Defs
public import proofs.«01_k».proof.Proof.Gen.Qkv
public import proofs.«01_k».proof.Proof.Gen.Qkv.Frame
public import proofs.«01_k».proof.Proof.QkvKernel
public import proofs.«01_k».proof.Proof.QkvRef
public import Idealize.ShloMosaic.Lib.Quiescent

@[expose] public section

set_option maxRecDepth 16384

noncomputable section

namespace Cert.QkvClaims

open Idealize.ShloMosaic Idealize.ShloMosaic.TcCoe Idealize.SL.Sem Cert.Reals Cert.RmsNorm

instance preFacts : Cert.Pre_finite_qkv.Facts where
  bcast_S_S8192x1024 := by decide
  reducesTo_S8192x1024_S_d0_1 := by decide
  h_S_ := by decide
  bcast_S_S1024 := by decide
  reducesTo_S1024_S_d0 := by decide
  bcast_S_S1024x3072 := by decide
  reducesTo_S1024x3072_S_d0_1 := by decide
  bcast_S_S8192x3072 := by decide
  reducesTo_S8192x3072_S_d0_1 := by decide

theorem frame : Cert.quiescent_Qkv := fun m ρ _ => Cert.Qkv.Gen.frame m ρ

theorem frameIdeal : Cert.quiescent_QkvIdeal := fun m ρ _ => Cert.QkvIdeal.Gen.frame m ρ

theorem frameIdealPre : Cert.quiescent_QkvIdeal_pre_finite_qkv := fun m ρ _ => Cert.QkvIdeal.Gen.frame m ρ

theorem frameRef : Cert.quiescent_QkvRefIdeal := fun m ρ _ =>
  (θ_run _ _ _).mono (fun r h => ⟨fun c => (h c).2.2, sem_eq_zero_of_no_sems rfl _⟩) (Cert.QkvRefIdeal.Formula.run m ρ)

theorem frameRefPre : Cert.quiescent_QkvRefIdeal_pre_finite_qkv := fun m ρ _ =>
  (θ_run _ _ _).mono (fun r h => ⟨fun c => (h c).2.2, sem_eq_zero_of_no_sems rfl _⟩) (Cert.QkvRefIdeal.Formula.run m ρ)

section

open Cert.QkvIdeal Cert.QkvIdeal.Formula

variable {m : (ℓ : Loc nD τ sig) → Buf (Elt Ideal) ℓ}

/-- The precondition, read: the input, the norm's weights, the product's weights and the cotangent are real. -/
theorem finite (h : Cert.Pre_QkvIdeal_finite_qkv m) (c : Dev nD) :
    ((∀ i, IsReal (X m c i)) ∧ ∀ i, IsReal (G m c i)) ∧ (∀ i, IsReal (W m c i)) ∧ ∀ i, IsReal (DZ m c i) := by
  have e := congrFun (h c) (fun a => a.elim0)
  dsimp only [Cert.Pre_finite_qkv.fn, Cert.Pre_finite_qkv.fn_part1] at e
  obtain ⟨e, e3⟩ := andi_split e
  obtain ⟨e, e2⟩ := andi_split e
  obtain ⟨e0, e1⟩ := andi_split e
  exact ⟨⟨all_real _ _ _ _ _ _ e0, all_real _ _ _ _ _ _ e1⟩, all_real _ _ _ _ _ _ e2, all_real _ _ _ _ _ _ e3⟩

theorem u_real (h : Cert.Pre_QkvIdeal_finite_qkv m) (c : Dev nD) (i : Fin 8192) (k : Fin 1024) : IsReal (u m c i k) := by
  obtain ⟨⟨_, hg⟩, hw, hz⟩ := finite h c
  exact (isReal_sum fun l => (hz _).mul (hw _)).mul (hg _)

theorem outX_eq (h : Cert.Pre_QkvIdeal_finite_qkv m) (c : Dev nD) (p : S8192x1024.Idx) :
    outX m c p = GP m c p + u m c (p 0) (p 1) * rstd (row m c (p 0)) + row m c (p 0) (p 1) * sqGrad (row m c (p 0)) (u m c (p 0))
      + sqGrad (row m c (p 0)) (u m c (p 0)) * row m c (p 0) (p 1) :=
  add_rowGrad (fun k => (finite h c).1.1 _) (u_real h c _) _ _

end

theorem algebraic : Cert.algebraic_QkvIdeal_QkvRefIdeal_pre_finite_qkv := by
  intro m g m' g' hpre hagree
  refine ⟨fun c => Cert.QkvIdeal.Formula.outX m c, fun c => Cert.QkvIdeal.Formula.outG m c, ?_, ?_⟩
  · exact (θ_run _ _ _).mono (fun r h c => ⟨(h c).1.trans (Cert.QkvIdeal.Formula.finalX m c),
      (h c).2.1.trans (Cert.QkvIdeal.Formula.finalG m c), (h c).2.2⟩) (Cert.QkvIdeal.Value.run_blocks m g)
  · refine (θ_run _ _ _).mono (fun r h c => ⟨(h c).1.trans ?_, (h c).2.1.trans ?_, (h c).2.2⟩) (Cert.QkvRefIdeal.Formula.run m' g')
    all_goals
      obtain ⟨a0, a1, a2, a3, a4⟩ := hagree c
      have er : Cert.QkvRefIdeal.Formula.row m' c = Cert.QkvIdeal.Formula.row m c := by
        funext i k
        exact congrFun a0 _
      have ed : Cert.QkvRefIdeal.Formula.dh m' c = Cert.QkvIdeal.Formula.dh m c := by
        funext i k
        simp only [Cert.QkvRefIdeal.Formula.dh, a2, a3]
        rfl
      have eu : Cert.QkvRefIdeal.Formula.u m' c = Cert.QkvIdeal.Formula.u m c := by
        funext i k
        simp only [Cert.QkvRefIdeal.Formula.u, ed, a1]
        rfl
      funext p
    · refine Eq.trans ?_ (outX_eq hpre c p).symm
      simp only [Cert.QkvRefIdeal.Formula.outX, eu, er, a4]
    · simp only [Cert.QkvRefIdeal.Formula.outG, ed, er]
      refine Finset.sum_congr rfl fun i _ => ?_
      rw [mul_comm, ← mul_assoc]

end Cert.QkvClaims

end
-- ==== Proof.Gate.lean ====
/- The logistic function, in the two ways the programs compute it, and the gate `y ↦ y σ(y)` differentiated. -/
module

public import proofs.«01_k».proof.Proof.Reals

@[expose] public section

noncomputable section

namespace Cert.Gate

open Idealize.ShloMosaic Cert.Reals

theorem bits_half : Ideal.ofBits .f32 0x3F000000#32 = ((1 / 2 : ℝ) : EReal) := by
  simp [Ideal.ofBits, Ideal.ieee, -EReal.coe_mul]; norm_num

theorem bits_one : Ideal.ofBits .f32 0x3F800000#32 = 1 := by
  simp [Ideal.ofBits, Ideal.ieee, -EReal.coe_mul]; norm_num

theorem bits_zero : Ideal.ofBits .f32 0x00000000#32 = 0 := by
  simp [Ideal.ofBits, Ideal.ieee]

/-- The logistic function by the hyperbolic tangent, as the version computes it. -/
def sig (x : EReal) : EReal :=
  Ideal.ofBits .f32 0x3F000000#32 * Ideal.tanh (Ideal.ofBits .f32 0x3F000000#32 * x) + Ideal.ofBits .f32 0x3F000000#32

theorem half_tanh (r : ℝ) : 1 / 2 * Real.tanh (1 / 2 * r) + 1 / 2 = (1 + Real.exp (-r))⁻¹ := by
  have h : Real.exp (-r) = Real.exp (-(1 / 2 * r)) * Real.exp (-(1 / 2 * r)) := by rw [← Real.exp_add]; ring_nf
  have hp := Real.exp_pos (1 / 2 * r)
  have hn : Real.exp (-(1 / 2 * r)) = (Real.exp (1 / 2 * r))⁻¹ := Real.exp_neg _
  rw [Real.tanh_eq_sinh_div_cosh, Real.sinh_eq, Real.cosh_eq, h, hn]
  generalize Real.exp (1 / 2 * r) = w at hp ⊢
  have hw : w ≠ 0 := hp.ne'
  have h1 : w ^ 2 + 1 ≠ 0 := by positivity
  field_simp
  ring

/-- It is `1 / (1 + e⁻ˣ)`, at the infinities too. -/
theorem sig_eq (x : EReal) : sig x = Ideal.div (Ideal.ofBits .f32 0x3F800000#32)
    (Ideal.ofBits .f32 0x3F800000#32 + Ideal.exp (-x)) := by
  rw [bits_one, sig, bits_half]
  show _ = Ideal.logistic x
  induction x using EReal.rec with
  | bot =>
    rw [EReal.coe_mul_bot_of_pos (by norm_num), Ideal.tanh_bot, Ideal.logistic_bot, mul_neg, mul_one, ← EReal.coe_neg,
      ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, ← EReal.coe_mul, ← EReal.coe_add, half_tanh, Ideal.logistic_coe]

theorem sig_real {x : EReal} (h : IsReal x) : IsReal (sig x) := by
  obtain ⟨r, rfl⟩ := h
  exact ⟨_, by rw [sig, bits_half, ← EReal.coe_mul, Ideal.tanh_coe, ← EReal.coe_mul, ← EReal.coe_add]⟩

/-- The gradient of `y σ(y)` as the version writes it. -/
def siluGrad (d y : EReal) : EReal :=
  d * (sig y * (Ideal.ofBits .f32 0x3F800000#32 + y * (Ideal.ofBits .f32 0x3F800000#32 - sig y)))

theorem siluGrad_real {d y : EReal} (hd : IsReal d) (hy : IsReal y) : IsReal (siluGrad d y) := by
  rw [siluGrad, bits_one]
  exact hd.mul ((sig_real hy).mul (isReal_one.add (hy.mul (isReal_one.sub (sig_real hy)))))

/-- Differentiating the product `y σ(y)` gives the same, where `y` and the incoming gradient are real. -/
theorem siluGrad_eq {d y : EReal} (hd : IsReal d) (hy : IsReal y) :
    siluGrad d y = d * sig y + y * d * (sig y * (Ideal.ofBits .f32 0x3F800000#32 - sig y)) := by
  rw [siluGrad, bits_one]
  obtain ⟨s, hs⟩ := sig_real hy
  rw [hs]
  obtain ⟨d, rfl⟩ := hd
  obtain ⟨y, rfl⟩ := hy
  simp only [← EReal.coe_one, ← EReal.coe_mul, ← EReal.coe_sub, ← EReal.coe_add]
  rw [EReal.coe_eq_coe_iff]
  ring

end Cert.Gate

end
-- ==== Proof.LayerNorm.lean ====
/- The gradient of a layer norm in the two ways the programs compute it. -/
module

public import proofs.«01_k».proof.Proof.Reals

@[expose] public section

noncomputable section

namespace Cert.LayerNorm

open Idealize.ShloMosaic Cert.Reals

theorem bits_512 : Ideal.ofBits .f32 0x44000000#32 = ((512 : ℝ) : EReal) := by
  simp [Ideal.ofBits, Ideal.ieee, -EReal.coe_mul]; norm_num

theorem bits_128 : Ideal.ofBits .f32 0x43000000#32 = ((128 : ℝ) : EReal) := by
  simp [Ideal.ofBits, Ideal.ieee, -EReal.coe_mul]; norm_num

variable {n : ℕ} (N : EReal) (x d : Fin n → EReal)

/-- The row less its mean; `N` stands for the row's length. -/
def cen (k : Fin n) : EReal := x k - Ideal.div (∑ k, x k) N

/-- The mean of the squares of the centred row, plus the small constant. -/
def var : EReal := Ideal.div (∑ k, cen N x k * cen N x k) N + Ideal.ofBits .f32 0x358637BD#32

/-- The factor the centred row is normalised by. -/
def rstd : EReal := Ideal.rsqrt (var N x)

/-- The normalised row. -/
def xh (k : Fin n) : EReal := cen N x k * rstd N x

/-- The gradient as the version writes it: `r (d - mean d - x̂ mean (d x̂))`. -/
def grad (j : Fin n) : EReal :=
  rstd N x * (d j - Ideal.div (∑ k, d k) N - xh N x j * Ideal.div (∑ k, d k * xh N x k) N)

/-- The factor of the centred row in the differentiated norm: the cotangent of the variance, over the row's length. -/
def varGrad : EReal :=
  Ideal.div ((∑ k, cen N x k * d k) * (Ideal.ofBits .f32 0xBF000000#32 * Ideal.div (rstd N x) (var N x))) N

/-- The cotangent of the centred row. -/
def cenGrad (j : Fin n) : EReal := d j * rstd N x + cen N x j * varGrad N x d + varGrad N x d * cen N x j

variable {N} {x d}

theorem cen_coe {r : ℝ} (hr : r ≠ 0) (y : Fin n → ℝ) :
    cen (r : EReal) (fun k => (y k : EReal)) = fun k => ((y k - (∑ k, y k) / r : ℝ) : EReal) := by
  funext k
  rw [cen, ← coe_finset_sum, div_coe_coe hr, ← EReal.coe_sub]

theorem var_coe {r : ℝ} (hr : 0 < r) (y : Fin n → ℝ) :
    ∃ q : ℝ, 0 < q ∧ var (r : EReal) (fun k => (y k : EReal)) = (q : EReal) := by
  obtain ⟨e, he, hb⟩ := bits_eps
  refine ⟨(∑ k, (y k - (∑ k, y k) / r) * (y k - (∑ k, y k) / r)) / r + e, ?_, ?_⟩
  · have : 0 ≤ ∑ k, (y k - (∑ k, y k) / r) * (y k - (∑ k, y k) / r) := Finset.sum_nonneg fun k _ => mul_self_nonneg _
    positivity
  · rw [var, cen_coe hr.ne', hb]
    simp only [← EReal.coe_mul, ← coe_finset_sum]
    rw [div_coe_coe hr.ne', ← EReal.coe_add]

theorem cen_real {r : ℝ} (hr : 0 < r) (hx : ∀ k, IsReal (x k)) (k : Fin n) : IsReal (cen (r : EReal) x k) :=
  (hx k).sub ((isReal_sum hx).div_coe hr.ne')

theorem rstd_real {r : ℝ} (hr : 0 < r) (hx : ∀ k, IsReal (x k)) : IsReal (rstd (r : EReal) x) := by
  obtain ⟨y, rfl⟩ := lift hx
  obtain ⟨q, hq, h⟩ := var_coe hr y
  exact ⟨_, by rw [rstd, h, rsqrt_coe_pos hq]⟩

theorem xh_real {r : ℝ} (hr : 0 < r) (hx : ∀ k, IsReal (x k)) (k : Fin n) : IsReal (xh (r : EReal) x k) :=
  (cen_real hr hx k).mul (rstd_real hr hx)

/-- The two ways agree on real rows: the differentiated centring takes the mean off the cotangent of the centred row. -/
theorem grad_eq (hN : N = ((n : ℝ) : EReal)) (hn : 0 < n) (hx : ∀ k, IsReal (x k)) (hd : ∀ k, IsReal (d k)) (j : Fin n) :
    grad N x d j = cenGrad N x d j + Ideal.div (∑ k, -cenGrad N x d k) N := by
  obtain ⟨x, rfl⟩ := lift hx
  obtain ⟨d, rfl⟩ := lift hd
  subst hN
  have hr : (0 : ℝ) < n := Nat.cast_pos.mpr hn
  obtain ⟨q, hq, h⟩ := var_coe hr x
  have hs : Real.sqrt q * Real.sqrt q = q := Real.mul_self_sqrt hq.le
  have hs0 : Real.sqrt q ≠ 0 := (Real.sqrt_pos.mpr hq).ne'
  have h0 : ∑ k, (x k - (∑ k, x k) / n) = 0 := by
    rw [Finset.sum_sub_distrib, Finset.sum_const, Finset.card_univ, Fintype.card_fin, nsmul_eq_mul]
    field_simp
    ring
  simp only [grad, cenGrad, varGrad, xh, rstd, h, rsqrt_coe_pos hq, cen_coe hr.ne', bits_neg_half]
  generalize hy : (fun k => x k - (∑ k, x k) / (n : ℝ)) = y
  have hyk (k : Fin n) : x k - (∑ k, x k) / (n : ℝ) = y k := congrFun hy k
  simp only [hyk] at h0 ⊢
  simp only [← EReal.coe_mul, ← coe_finset_sum, div_coe_coe hq.ne', div_coe_coe hr.ne', ← EReal.coe_sub, ← EReal.coe_add,
    ← EReal.coe_neg]
  rw [EReal.coe_eq_coe_iff]
  have h1 : ∑ k, d k * (y k * (Real.sqrt q)⁻¹) = (∑ k, y k * d k) * (Real.sqrt q)⁻¹ := by
    rw [Finset.sum_mul]; exact Finset.sum_congr rfl fun k _ => by ring
  generalize hs' : (∑ k, y k * d k) * (-(1 / 2) * ((Real.sqrt q)⁻¹ / q)) / (n : ℝ) = s
  have h2 : ∑ k, -(d k * (Real.sqrt q)⁻¹ + y k * s + s * y k) = -((∑ k, d k) * (Real.sqrt q)⁻¹) := by
    rw [Finset.sum_neg_distrib, Finset.sum_add_distrib, Finset.sum_add_distrib, ← Finset.sum_mul, ← Finset.sum_mul,
      ← Finset.mul_sum, h0]
    ring
  rw [h1, h2, ← hs']
  generalize Real.sqrt q = w at *
  subst hs
  field_simp
  ring

end Cert.LayerNorm

end
-- ==== Proof.RowsMath.lean ====
/- The gradients of the two gated halves of the mixer, row by row: the convolution half's norm and gate, and the chunked spatial
   gate with its per-group norm. The arrays are given as functions of their coordinates. -/
module

public import proofs.«01_k».proof.Proof.Gate
public import proofs.«01_k».proof.Proof.LayerNorm

@[expose] public section

noncomputable section

namespace Cert.RowsMath

open Idealize.ShloMosaic Cert.Reals Cert.Gate Cert.LayerNorm

/-- What the call reads: the convolved half `a`, the two halves `u`, `v` of the spatial gate by group and lane, the norms' weights,
    the masked mixing matrices, their bias, and the two halves of the cotangent. -/
structure Args where
  a : Fin 8192 → Fin 512 → EReal
  u : Fin 8192 → Fin 4 → Fin 128 → EReal
  v : Fin 8192 → Fin 4 → Fin 128 → EReal
  lag : Fin 512 → EReal
  lab : Fin 512 → EReal
  lvg : Fin 4 → Fin 128 → EReal
  lvb : Fin 4 → Fin 128 → EReal
  ws : Fin 4 → Fin 128 → Fin 128 → EReal
  sb : Fin 4 → Fin 128 → EReal
  da : Fin 8192 → Fin 512 → EReal
  db : Fin 8192 → Fin 4 → Fin 128 → EReal

/-- The two row lengths as the programs' constants. -/
abbrev L : EReal := Ideal.ofBits .f32 0x44000000#32
abbrev L' : EReal := Ideal.ofBits .f32 0x43000000#32

/-- Row `t` of the chunk row `i` lies in. -/
def mate (i : Fin 8192) (t : Fin 128) : Fin 8192 := ⟨i.val / 128 * 128 + t.val, by omega⟩

/-- The place of row `i` within its chunk. -/
def place (i : Fin 8192) : Fin 128 := ⟨i.val % 128, by omega⟩

/-- Row `t` of chunk `n`. -/
def chunk (n : Fin 64) (t : Fin 128) : Fin 8192 := ⟨n.val * 128 + t.val, by omega⟩

/-- Group and lane of a column of the spatial half, and back. -/
def grp (k : Fin 512) : Fin 4 := ⟨k.val / 128, by omega⟩
def lane (k : Fin 512) : Fin 128 := ⟨k.val % 128, by omega⟩
def col (g : Fin 4) (d : Fin 128) : Fin 512 := ⟨g.val * 128 + d.val, by omega⟩

variable (p : Args)

/-- The normalised row before the gate. -/
def y (i : Fin 8192) (k : Fin 512) : EReal := xh L (p.a i) k * p.lag k + p.lab k

/-- The cotangent of `y`. -/
def dy (i : Fin 8192) (k : Fin 512) : EReal := siluGrad (p.da i k) (y p i k)

def da1 (i : Fin 8192) (k : Fin 512) : EReal := grad L (p.a i) (fun k => dy p i k * p.lag k) k

def dlag (k : Fin 512) : EReal := ∑ i : Fin 8192, dy p i k * xh L (p.a i) k

def dlab (k : Fin 512) : EReal := ∑ i : Fin 8192, dy p i k

/-- The normalised row of the spatial half. -/
def v1 (i : Fin 8192) (g : Fin 4) (d : Fin 128) : EReal := xh L' (p.v i g) d * p.lvg g d + p.lvb g d

/-- The mixed rows. -/
def v2 (i : Fin 8192) (g : Fin 4) (d : Fin 128) : EReal := (∑ s : Fin 128, p.ws g (place i) s * v1 p (mate i s) g d) + p.sb g (place i)

def du (i : Fin 8192) (g : Fin 4) (d : Fin 128) : EReal := p.db i g d * v2 p i g d

def dv2 (i : Fin 8192) (g : Fin 4) (d : Fin 128) : EReal := p.db i g d * p.u i g d

def dv1 (i : Fin 8192) (g : Fin 4) (d : Fin 128) : EReal := ∑ t : Fin 128, p.ws g t (place i) * dv2 p (mate i t) g d

def dv (i : Fin 8192) (g : Fin 4) (d : Fin 128) : EReal := grad L' (p.v i g) (fun d => dv1 p i g d * p.lvg g d) d

def dlvg (g : Fin 4) (d : Fin 128) : EReal := ∑ i : Fin 8192, dv1 p i g d * xh L' (p.v i g) d

def dlvb (g : Fin 4) (d : Fin 128) : EReal := ∑ i : Fin 8192, dv1 p i g d

def dws (g : Fin 4) (t s : Fin 128) : EReal :=
  if s.val ≤ t.val then ∑ n : Fin 64, ∑ d : Fin 128, dv2 p (chunk n t) g d * v1 p (chunk n s) g d else 0

def dsb (t : Fin 128) (g : Fin 4) : EReal := ∑ d : Fin 128, ∑ n : Fin 64, dv2 p (chunk n t) g d

/-! The reference's forms of the same. -/

/-- The logistic function by the exponential. -/
def sg (x : EReal) : EReal := Ideal.div 1 (1 + Ideal.exp (-x))

def dyRef (i : Fin 8192) (k : Fin 512) : EReal :=
  p.da i k * sg (y p i k) + y p i k * p.da i k * (sg (y p i k) * (1 - sg (y p i k)))

def da1Ref (i : Fin 8192) (k : Fin 512) : EReal :=
  cenGrad L (p.a i) (fun k => dyRef p i k * p.lag k) k + Ideal.div (∑ k, -cenGrad L (p.a i) (fun k => dyRef p i k * p.lag k) k) L

def dvRef (i : Fin 8192) (g : Fin 4) (d : Fin 128) : EReal :=
  cenGrad L' (p.v i g) (fun d => dv1 p i g d * p.lvg g d) d
    + Ideal.div (∑ d, -cenGrad L' (p.v i g) (fun d => dv1 p i g d * p.lvg g d) d) L'

/-- What is asked of the arrays: these are real. -/
structure Real : Prop where
  a : ∀ i k, IsReal (p.a i k)
  u : ∀ i g d, IsReal (p.u i g d)
  v : ∀ i g d, IsReal (p.v i g d)
  lag : ∀ k, IsReal (p.lag k)
  lab : ∀ k, IsReal (p.lab k)
  lvg : ∀ g d, IsReal (p.lvg g d)
  ws : ∀ g t s, IsReal (p.ws g t s)
  da : ∀ i k, IsReal (p.da i k)
  db : ∀ i g d, IsReal (p.db i g d)

variable {p}

theorem L_pos : (0 : ℝ) < 512 := by norm_num

theorem y_real (h : Real p) (i : Fin 8192) (k : Fin 512) : IsReal (y p i k) := by
  rw [y, L, bits_512]
  exact ((xh_real L_pos (h.a i) k).mul (h.lag k)).add (h.lab k)

theorem dyRef_eq (h : Real p) (i : Fin 8192) (k : Fin 512) : dyRef p i k = dy p i k := by
  rw [dy, siluGrad_eq (h.da i k) (y_real h i k), sig_eq]
  simp only [dyRef, sg, bits_one]

theorem da1Ref_eq (h : Real p) (i : Fin 8192) (k : Fin 512) : da1Ref p i k = da1 p i k := by
  rw [da1Ref, da1]
  simp only [dyRef_eq h]
  exact (grad_eq (by rw [L, bits_512]; norm_num) (by norm_num) (h.a i)
    (fun k => (siluGrad_real (h.da i k) (y_real h i k)).mul (h.lag k)) k).symm

theorem dv1_real (h : Real p) (i : Fin 8192) (g : Fin 4) (d : Fin 128) : IsReal (dv1 p i g d) :=
  isReal_sum fun _ => (h.ws _ _ _).mul ((h.db _ _ _).mul (h.u _ _ _))

theorem dvRef_eq (h : Real p) (i : Fin 8192) (g : Fin 4) (d : Fin 128) : dvRef p i g d = dv p i g d :=
  (grad_eq (by rw [L', bits_128]; norm_num) (by norm_num) (h.v i g) (fun d => (dv1_real h i g d).mul (h.lvg g d)) d).symm

end Cert.RowsMath

end
-- ==== Proof.ConvRows.lean ====
/- The causal convolution of the mixer's first half, entry by entry: what the host lines compute before the calls. -/
module

public import proofs.«01_k».proof.Proof.Gate

@[expose] public section

noncomputable section

namespace Cert.ConvRows

open Idealize.ShloMosaic Cert.Reals

variable (z : Fin 8192 → Fin 2048 → EReal) (w : Fin 31 → Fin 512 → EReal) (b : Fin 512 → EReal)

/-- The gated half: a column times the logistic function of its partner. -/
def glu (i : Fin 8192) (k : Fin 512) : EReal :=
  z i ⟨k.val, by omega⟩ * Ideal.div 1 (1 + Ideal.exp (-z i ⟨512 + k.val, by omega⟩))

/-- A sequence's gated rows behind thirty rows of zeros. -/
def padded (s : Fin 2) (p : ℕ) (k : Fin 512) : EReal :=
  if _ : p < 30 then 0 else if h : p < 4126 then glu z ⟨s.val * 4096 + (p - 30), by omega⟩ k else 0

/-- The running sum of the taps before tap `n`. -/
def taps (f : ℕ → EReal) : ℕ → EReal
  | 0 => 0
  | n + 1 => taps f n + f n

/-- The product at tap `j`. -/
def tap (s : Fin 2) (t : Fin 4096) (k : Fin 512) (j : ℕ) : EReal :=
  padded z s (j + t.val) k * w (Fin.ofNat 31 j) k

/-- The convolved row. -/
def conv (s : Fin 2) (t : Fin 4096) (k : Fin 512) : EReal := taps (tap z w s t k) 31 + b k

/-- The convolved rows of both sequences, one below the other. -/
def rows (i : Fin 8192) (k : Fin 512) : EReal := conv z w b ⟨i.val / 4096, by omega⟩ ⟨i.val % 4096, by omega⟩ k

variable {z w b}

/-- A padded row that is a row of the sequence, without the bound. -/
theorem padded_of (s : Fin 2) {p : ℕ} (hp : p < 4126) (k : Fin 512) :
    padded z s p k = if _ : p < 30 then 0 else glu z ⟨s.val * 4096 + (p - 30), by omega⟩ k := by
  rw [padded]
  exact dite_congr rfl (fun _ => rfl) fun _ => dif_pos hp

theorem glu_real (hz : ∀ i k, IsReal (z i k)) (i : Fin 8192) (k : Fin 512) : IsReal (glu z i k) := by
  have e := Cert.Gate.sig_eq (z i ⟨512 + k.val, by omega⟩)
  rw [Cert.Gate.bits_one] at e
  rw [glu, ← e]
  exact (hz _ _).mul (Cert.Gate.sig_real (hz _ _))

theorem padded_real (hz : ∀ i k, IsReal (z i k)) (s : Fin 2) (p : ℕ) (k : Fin 512) : IsReal (padded z s p k) := by
  rw [padded]
  split
  · exact ⟨0, rfl⟩
  · split
    · exact glu_real hz _ _
    · exact ⟨0, rfl⟩

theorem taps_real {f : ℕ → EReal} (hf : ∀ j, IsReal (f j)) : ∀ n, IsReal (taps f n)
  | 0 => ⟨0, rfl⟩
  | n + 1 => (taps_real hf n).add (hf n)

theorem rows_real (hz : ∀ i k, IsReal (z i k)) (hw : ∀ j k, IsReal (w j k)) (hb : ∀ k, IsReal (b k)) (i : Fin 8192) (k : Fin 512) :
    IsReal (rows z w b i k) :=
  (taps_real (fun j => (padded_real hz _ _ _).mul (hw _ _)) 31).add (hb k)

end Cert.ConvRows

end
-- ==== Proof.RowsHost.lean ====
/- What the host lines of `mix_bwd_rows`'s program hand to the kernel, entry by entry. -/
module

public import proofs.«01_k».proof.Proof.Gen.RowsIdeal.Value
public import proofs.«01_k».proof.Proof.RowsMath
public import proofs.«01_k».proof.Proof.ConvRows
public import Idealize.ShloMosaic.Lib.Tactic.CleanTypes
public import Idealize.ShloMosaic.Lib.Pipeline.ValueKit
public import Idealize.ShloMosaic.Lib.Claim

@[expose] public section

set_option maxRecDepth 16384

noncomputable section

namespace Cert.RowsIdeal.Formula

open Cert.RowsIdeal Cert.RowsIdeal.Gen Idealize.ShloMosaic Idealize.ShloMosaic.TcCoe Idealize.SL.Sem Cert.RowsMath Cert.LayerNorm
open Idealize.ShloMosaic.StableHlo

variable (m : (ℓ : Loc nD τ sig) → Buf (Elt Ideal) ℓ) (c : Dev nD)

abbrev Z : FVec Ideal S8192x2048 .f32 := m ((c : Thread nD τ).loc main_arg0)
abbrev CW : FVec Ideal S31x512 .f32 := m ((c : Thread nD τ).loc main_arg1)
abbrev CB : FVec Ideal S512 .f32 := m ((c : Thread nD τ).loc main_arg2)

abbrev LAG : FVec Ideal S512 .f32 := m ((c : Thread nD τ).loc main_arg3)
abbrev LAB : FVec Ideal S512 .f32 := m ((c : Thread nD τ).loc main_arg4)
abbrev LVG : FVec Ideal S4x128 .f32 := m ((c : Thread nD τ).loc main_arg5)
abbrev LVB : FVec Ideal S4x128 .f32 := m ((c : Thread nD τ).loc main_arg6)
abbrev WS : FVec Ideal S4x128x128 .f32 := m ((c : Thread nD τ).loc main_arg7)
abbrev SB : FVec Ideal S4x128 .f32 := m ((c : Thread nD τ).loc main_arg8)
abbrev DC : FVec Ideal S8192x1024 .f32 := m ((c : Thread nD τ).loc main_arg9)

/-- The buffers after the convolution's host lines. -/
def H0 : Valuation τ sig (Elt Ideal) := after hostOps0 (fun b => m (c, b))

/-- Two stretches of host lines run one after the other. -/
theorem after_append {ℓ₁ ℓ₂ : List (HloOp τ sig (Elt Ideal))} (v : Valuation τ sig (Elt Ideal)) : after (ℓ₁ ++ ℓ₂) v = after ℓ₂ (after ℓ₁ v) := by
  induction ℓ₁ generalizing v with
  | nil => rfl
  | cons o l h => exact h _

theorem V_split (b : Ref sig .tc) : V m c b = after hostOps0_4 (after hostOps0_3 (after hostOps0_2 (after hostOps0_1 (H0 m c)))) b := by
  unfold V H0
  rw [List.flatten_cons, List.flatten_cons, List.flatten_cons, List.flatten_cons, List.flatten_cons, List.flatten_nil, after_append, after_append, after_append,
    after_append, List.append_nil]

set_option maxHeartbeats 4000000 in
theorem H0_arg0 : H0 m c (Proc.devRef .tc main_arg0) = m (c, Proc.devRef .tc main_arg0) := by
  unfold H0
  after_results_simp

set_option maxHeartbeats 4000000 in
theorem H0_arg3 : H0 m c (Proc.devRef .tc main_arg3) = m (c, Proc.devRef .tc main_arg3) := by
  unfold H0
  after_results_simp

set_option maxHeartbeats 4000000 in
theorem H0_arg4 : H0 m c (Proc.devRef .tc main_arg4) = m (c, Proc.devRef .tc main_arg4) := by
  unfold H0
  after_results_simp

set_option maxHeartbeats 4000000 in
theorem H0_arg5 : H0 m c (Proc.devRef .tc main_arg5) = m (c, Proc.devRef .tc main_arg5) := by
  unfold H0
  after_results_simp

set_option maxHeartbeats 4000000 in
theorem H0_arg6 : H0 m c (Proc.devRef .tc main_arg6) = m (c, Proc.devRef .tc main_arg6) := by
  unfold H0
  after_results_simp

set_option maxHeartbeats 4000000 in
theorem H0_arg7 : H0 m c (Proc.devRef .tc main_arg7) = m (c, Proc.devRef .tc main_arg7) := by
  unfold H0
  after_results_simp

set_option maxHeartbeats 4000000 in
theorem H0_arg8 : H0 m c (Proc.devRef .tc main_arg8) = m (c, Proc.devRef .tc main_arg8) := by
  unfold H0
  after_results_simp

set_option maxHeartbeats 4000000 in
theorem H0_arg9 : H0 m c (Proc.devRef .tc main_arg9) = m (c, Proc.devRef .tc main_arg9) := by
  unfold H0
  after_results_simp

set_option maxHeartbeats 4000000 in
theorem H0_v234 : (H0 m c (Proc.devRef .tc main_v234) : IVec S128x128 1) = broadcastInDim S128x128 ![] bcast_S_S128x128 (constantI S_ 1 1#1) := by
  unfold H0
  after_results_simp

set_option maxHeartbeats 20000000 in
/-- The convolved half. -/
theorem H0_v233 (i : Fin 8192) (k : Fin 512) :
    (H0 m c (Proc.devRef .tc main_v233) : FVec Ideal S8192x512 .f32) (ix2 i k)
      = ConvRows.rows (fun i j => Z m c (ix2 i j)) (fun i j => CW m c (ix2 i j)) (fun j => CB m c (ix1 j)) i k := by
  unfold H0
  after_results_simp
  clean_types
  pointwise
  after_results_simp
  pointwise
  unfold ConvRows.rows ConvRows.conv
  simp only [ConvRows.taps, ConvRows.tap, zero_add]
  simp (disch := omega) only [ConvRows.padded_of]
  refine congrArg₂ (· + ·) (congrArg₂ (· + ·) rfl (congrArg₂ (· * ·) ?_ rfl)) rfl
  have e : (⟨i.val / 4096 * 4096 + (30 + i.val % 4096 - 30), by omega⟩ : Fin 8192) = i := Fin.ext (by show _ / _ * _ + _ = _; omega)
  rw [dif_neg (by omega), e]
  rfl

theorem V_arg0 : V m c main_arg0 = Z m c := by
  rw [V_split]
  after_results_simp
  exact H0_arg0 m c

theorem V_arg9 : V m c main_arg9 = DC m c := by
  rw [V_split]
  after_results_simp
  exact H0_arg9 m c

theorem V_v233 (i : Fin 8192) (k : Fin 512) : (V m c main_v233 : FVec Ideal S8192x512 .f32) (ix2 i k)
    = ConvRows.rows (fun i j => Z m c (ix2 i j)) (fun i j => CW m c (ix2 i j)) (fun j => CB m c (ix1 j)) i k := by
  rw [V_split]
  after_results_simp
  exact H0_v233 m c i k

theorem V_v243 (k : Fin 512) : (V m c main_v243 : FVec Ideal S1x512 .f32) (ix2 0 k) = LAG m c (ix1 k) := by
  rw [V_split]
  after_results_simp
  rw [H0_arg3]
  pointwise

theorem V_v244 (k : Fin 512) : (V m c main_v244 : FVec Ideal S1x512 .f32) (ix2 0 k) = LAB m c (ix1 k) := by
  rw [V_split]
  after_results_simp
  rw [H0_arg4]
  pointwise

theorem V_v245 (k : Fin 512) : (V m c main_v245 : FVec Ideal S1x512 .f32) (ix2 0 k) = LVG m c (ix2 (grp k) (lane k)) := by
  rw [V_split]
  after_results_simp
  rw [H0_arg5]
  pointwise
  rfl

theorem V_v246 (k : Fin 512) : (V m c main_v246 : FVec Ideal S1x512 .f32) (ix2 0 k) = LVB m c (ix2 (grp k) (lane k)) := by
  rw [V_split]
  after_results_simp
  rw [H0_arg6]
  pointwise
  rfl

theorem V_v242 (t : Fin 128) (k : Fin 512) : (V m c main_v242 : FVec Ideal S128x512 .f32) (ix2 t k) = SB m c (ix2 (grp k) t) := by
  rw [V_split]
  after_results_simp
  rw [H0_arg8]
  pointwise
  rfl

/-- The lower triangle as the host lines compare it. -/
theorem mask (t s : Fin 128) :
    IntOp.cmpi CmpIPredicate.sge (IntOp.addi (BitVec.ofNat 32 t.val) 0#32) (BitVec.ofNat 32 s.val) = if s.val ≤ t.val then 1#1 else 0#1 := by
  revert t s
  decide +kernel

theorem V_v238 (g : Fin 4) (t s : Fin 128) :
    (V m c main_v238 : FVec Ideal S4x128x128 .bf16) (ix3 g t s) = if s.val ≤ t.val then WS m c (ix3 g t s) else 0 := by
  rw [V_split]
  after_results_simp
  rw [H0_arg7, H0_v234]
  simp -implicitDefEqProofs only [StableHlo.TRef.toBuf, StableHlo.TRef.ofBuf, cast_cast, cast_eq]
  pointwise
  rw [mask t s]
  by_cases h : s.val ≤ t.val
  · rw [if_pos h, if_pos h]
    rfl
  · rw [if_neg h, if_neg h]
    exact Cert.Gate.bits_zero

theorem V_v239 (g : Fin 4) (t s : Fin 128) :
    (V m c main_v239 : FVec Ideal S4x128x128 .bf16) (ix3 g t s) = if t.val ≤ s.val then WS m c (ix3 g s t) else 0 := by
  rw [V_split]
  after_results_simp
  rw [H0_arg7, H0_v234]
  simp -implicitDefEqProofs only [StableHlo.TRef.toBuf, StableHlo.TRef.ofBuf, cast_cast, cast_eq]
  pointwise
  rw [mask s t]
  by_cases h : t.val ≤ s.val
  · rw [if_pos h, if_pos h]
    rfl
  · rw [if_neg h, if_neg h]
    exact Cert.Gate.bits_zero

end Cert.RowsIdeal.Formula

end
-- ==== Proof.Pieces.lean ====
/- A buffer written in pieces, read at an index: the newest piece that holds the index gives the entry; a piece that does not hold it is
   passed over. -/
module

public import Idealize.ShloMosaic.Lib.Pipeline.ReadBack
public import Idealize.ShloMosaic.Lib.Pipeline.ValueKit
public import Idealize.ShloMosaic.Lib.Claim

@[expose] public section

noncomputable section

namespace Cert.Pieces

open Idealize.ShloMosaic

variable {e : EltTy} {Val : EltTy → Type} [∀ e, Nonempty (Val e)]

theorem hit2 {n0 n1 o0 o1 s0 s1 : ℕ} (inb : ∀ a, (![o0, o1] : Fin 2 → ℕ) a + (![s0, s1] : Fin 2 → ℕ) a ≤ (⟨2, ![n0, n1]⟩ : Shape).size a)
    (w : (⟨2, ![s0, s1]⟩ : Shape).Idx → Val e) (L : List (View.Piece Val ⟨2, ![n0, n1]⟩ e)) (i : Fin n0) (j : Fin n1) (p : Fin s0) (q : Fin s1)
    (hi : i.val = o0 + p.val) (hj : j.val = o1 + q.val) :
    View.canon ((⟨Rect.unit ![o0, o1] ![s0, s1] inb, w⟩ : View.Piece Val ⟨2, ![n0, n1]⟩ e) :: L) (ix2 i j) = w (ix2 p q) := by
  have h : (ix2 i j : (⟨2, ![n0, n1]⟩ : Shape).Idx) = (Rect.unit (s := ⟨2, ![n0, n1]⟩) ![o0, o1] ![s0, s1] inb).emb (ix2 p q) := by
    funext a
    refine Fin.ext ?_
    fin_cases a
    · exact hi.trans (congrArg (o0 + ·) (Nat.one_mul _).symm)
    · exact hj.trans (congrArg (o1 + ·) (Nat.one_mul _).symm)
  rw [h]
  exact View.canon_cons_emb (Rect.unit _ _ inb) w L _

theorem skip2 {n0 n1 o0 o1 s0 s1 : ℕ} (inb : ∀ a, (![o0, o1] : Fin 2 → ℕ) a + (![s0, s1] : Fin 2 → ℕ) a ≤ (⟨2, ![n0, n1]⟩ : Shape).size a)
    (w : (⟨2, ![s0, s1]⟩ : Shape).Idx → Val e) (L : List (View.Piece Val ⟨2, ![n0, n1]⟩ e)) (i : Fin n0) (j : Fin n1)
    (h : i.val < o0 ∨ o0 + s0 ≤ i.val ∨ j.val < o1 ∨ o1 + s1 ≤ j.val) :
    View.canon ((⟨Rect.unit ![o0, o1] ![s0, s1] inb, w⟩ : View.Piece Val ⟨2, ![n0, n1]⟩ e) :: L) (ix2 i j) = View.canon L (ix2 i j) := by
  refine View.canon_cons_of_not_mem _ L fun hm => ?_
  rw [Rect.mem_set_unit] at hm
  have h0 : o0 ≤ i.val ∧ i.val < o0 + s0 := hm 0
  have h1 : o1 ≤ j.val ∧ j.val < o1 + s1 := hm 1
  omega

theorem hit3 {n0 n1 n2 o0 o1 o2 s0 s1 s2 : ℕ}
    (inb : ∀ a, (![o0, o1, o2] : Fin 3 → ℕ) a + (![s0, s1, s2] : Fin 3 → ℕ) a ≤ (⟨3, ![n0, n1, n2]⟩ : Shape).size a)
    (w : (⟨3, ![s0, s1, s2]⟩ : Shape).Idx → Val e) (L : List (View.Piece Val ⟨3, ![n0, n1, n2]⟩ e)) (i : Fin n0) (j : Fin n1) (k : Fin n2)
    (p : Fin s0) (q : Fin s1) (r : Fin s2) (hi : i.val = o0 + p.val) (hj : j.val = o1 + q.val) (hk : k.val = o2 + r.val) :
    View.canon ((⟨Rect.unit ![o0, o1, o2] ![s0, s1, s2] inb, w⟩ : View.Piece Val ⟨3, ![n0, n1, n2]⟩ e) :: L) (ix3 i j k) = w (ix3 p q r) := by
  have h : (ix3 i j k : (⟨3, ![n0, n1, n2]⟩ : Shape).Idx)
      = (Rect.unit (s := ⟨3, ![n0, n1, n2]⟩) ![o0, o1, o2] ![s0, s1, s2] inb).emb (ix3 p q r) := by
    funext a
    refine Fin.ext ?_
    fin_cases a
    · exact hi.trans (congrArg (o0 + ·) (Nat.one_mul _).symm)
    · exact hj.trans (congrArg (o1 + ·) (Nat.one_mul _).symm)
    · exact hk.trans (congrArg (o2 + ·) (Nat.one_mul _).symm)
  rw [h]
  exact View.canon_cons_emb (Rect.unit _ _ inb) w L _

theorem skip3 {n0 n1 n2 o0 o1 o2 s0 s1 s2 : ℕ}
    (inb : ∀ a, (![o0, o1, o2] : Fin 3 → ℕ) a + (![s0, s1, s2] : Fin 3 → ℕ) a ≤ (⟨3, ![n0, n1, n2]⟩ : Shape).size a)
    (w : (⟨3, ![s0, s1, s2]⟩ : Shape).Idx → Val e) (L : List (View.Piece Val ⟨3, ![n0, n1, n2]⟩ e)) (i : Fin n0) (j : Fin n1) (k : Fin n2)
    (h : i.val < o0 ∨ o0 + s0 ≤ i.val) :
    View.canon ((⟨Rect.unit ![o0, o1, o2] ![s0, s1, s2] inb, w⟩ : View.Piece Val ⟨3, ![n0, n1, n2]⟩ e) :: L) (ix3 i j k)
      = View.canon L (ix3 i j k) := by
  refine View.canon_cons_of_not_mem _ L fun hm => ?_
  rw [Rect.mem_set_unit] at hm
  have h0 : o0 ≤ i.val ∧ i.val < o0 + s0 := hm 0
  omega

/-- A load of a whole buffer after its writes reads what they left. -/
theorem load_whole {sig : RefSig} {κ : Kind} {sp : Space} {n0 n1 : ℕ} (v : View sig κ sp ⟨2, ![n0, n1]⟩ e)
    (inb : ∀ a, (![0, 0] : Fin 2 → ℕ) a + (![n0, n1] : Fin 2 → ℕ) a ≤ (⟨2, ![n0, n1]⟩ : Shape).size a)
    (L : List (View.Piece Val ⟨2, ![n0, n1]⟩ e)) (i : Fin n0) (j : Fin n1) :
    v.readCov L (Rect.unit (s := ⟨2, ![n0, n1]⟩) ![0, 0] ![n0, n1] inb).toLoadRect (ix2 i j) = View.canon L (ix2 i j) := by
  rw [View.readCov_eq_canon']
  show View.canon L _ = _
  congr 1
  funext a
  refine Fin.ext ?_
  fin_cases a
  · exact (Nat.zero_add _).trans (Nat.one_mul _)
  · exact (Nat.zero_add _).trans (Nat.one_mul _)

end Cert.Pieces

end
-- ==== Proof.RowsBlocks.lean ====
/- The blocks a grid point of `mix_bwd_rows` reads, entry by entry over the argument arrays. -/
module

public import proofs.«01_k».proof.Proof.RowsHost
public import proofs.«01_k».proof.Proof.Pieces
public import Idealize.ShloMosaic.Lib.Pipeline.ReadBack

@[expose] public section

set_option maxRecDepth 16384

noncomputable section

namespace Cert.RowsIdeal.Formula

open Cert.RowsIdeal Cert.RowsIdeal.Gen Idealize.ShloMosaic Idealize.ShloMosaic.TcCoe Idealize.SL.Sem Cert.RowsMath Cert.LayerNorm

variable (m : (ℓ : Loc nD τ sig) → Buf (Elt Ideal) ℓ) (c : Dev nD)

def cu (g : Fin 4) (d : Fin 128) : Fin 2048 := ⟨1024 + g.val * 128 + d.val, by omega⟩
def cv (g : Fin 4) (d : Fin 128) : Fin 2048 := ⟨1536 + g.val * 128 + d.val, by omega⟩
def ca (k : Fin 512) : Fin 1024 := ⟨k.val, by omega⟩
def cb (g : Fin 4) (d : Fin 128) : Fin 1024 := ⟨512 + g.val * 128 + d.val, by omega⟩

/-- The arrays as the formulas take them. -/
def args : Args where
  a i k := ConvRows.rows (fun i j => Z m c (ix2 i j)) (fun i j => CW m c (ix2 i j)) (fun j => CB m c (ix1 j)) i k
  u i g d := Z m c (ix2 i (cu g d))
  v i g d := Z m c (ix2 i (cv g d))
  lag k := LAG m c (ix1 k)
  lab k := LAB m c (ix1 k)
  lvg g d := LVG m c (ix2 g d)
  lvb g d := LVB m c (ix2 g d)
  ws g t s := if s.val ≤ t.val then WS m c (ix3 g t s) else 0
  sb g t := SB m c (ix2 g t)
  da i k := DC m c (ix2 i (ca k))
  db i g d := DC m c (ix2 i (cb g d))

theorem idx : ∀ t : Fin cfg0.N, win0_0.index t = ![t.val, 0] ∧ win0_1.index t = ![t.val, 2] ∧ win0_2.index t = ![t.val, 3]
    ∧ win0_3.index t = ![t.val, 0] ∧ win0_4.index t = ![0, 0] ∧ win0_5.index t = ![0, 0] ∧ win0_6.index t = ![0, 0]
    ∧ win0_7.index t = ![0, 0] ∧ win0_8.index t = ![0, 0, 0] ∧ win0_9.index t = ![0, 0, 0] ∧ win0_10.index t = ![0, 0]
    ∧ win0_11.index t = ![t.val, 0] ∧ win0_12.index t = ![t.val, 0] ∧ win0_13.index t = ![0, 0] ∧ win0_14.index t = ![0, 0]
    ∧ win0_15.index t = ![0, 0] ∧ win0_16.index t = ![0, 0] ∧ win0_17.index t = ![0, 0, 0] ∧ win0_18.index t = ![0, 0] :=
  (by decide +kernel : ∀ t : Fin grid0.N, _)

/-- Row `r` of grid point `t`'s block. -/
def at_ (t : Fin cfg0.N) (r : Fin 512) : Fin 8192 :=
  ⟨t.val * 512 + r.val, by have h : t.val < 16 := lt_of_lt_of_eq t.isLt N_0; omega⟩

theorem at_val (t : Fin cfg0.N) (r : Fin 512) : (at_ t r).val = t.val * 512 + r.val := rfl

/-! The blocks a grid point reads. -/

theorem blk0 (t : Fin cfg0.N) (r : Fin 512) (k : Fin 1024) :
    (iblk m c 0 t : Vec Ideal S512x1024 .f32) (ix2 r k) = DC m c (ix2 (at_ t r) k) := by
  rw [← V_arg9]
  blk_ext! [iblk, idx t, at_val]

theorem blk1 (t : Fin cfg0.N) (r : Fin 512) (k : Fin 512) :
    (iblk m c 1 t : Vec Ideal S512x512 .f32) (ix2 r k) = Z m c (ix2 (at_ t r) ⟨1024 + k.val, by omega⟩) := by
  rw [← V_arg0]
  blk_ext! [iblk, idx t, at_val]

theorem blk2 (t : Fin cfg0.N) (r : Fin 512) (k : Fin 512) :
    (iblk m c 2 t : Vec Ideal S512x512 .f32) (ix2 r k) = Z m c (ix2 (at_ t r) ⟨1536 + k.val, by omega⟩) := by
  rw [← V_arg0]
  blk_ext! [iblk, idx t, at_val]

theorem blk3 (t : Fin cfg0.N) (r : Fin 512) (k : Fin 512) :
    (iblk m c 3 t : Vec Ideal S512x512 .f32) (ix2 r k) = (args m c).a (at_ t r) k := by
  refine Eq.trans ?_ (V_v233 m c (at_ t r) k)
  blk_ext! [iblk, idx t, at_val]

theorem blk4 (t : Fin cfg0.N) (k : Fin 512) : (iblk m c 4 t : Vec Ideal S1x512 .f32) (ix2 0 k) = (args m c).lag k := by
  refine Eq.trans ?_ (V_v243 m c k)
  blk_ext! [iblk, idx t, at_val]

theorem blk5 (t : Fin cfg0.N) (k : Fin 512) : (iblk m c 5 t : Vec Ideal S1x512 .f32) (ix2 0 k) = (args m c).lab k := by
  refine Eq.trans ?_ (V_v244 m c k)
  blk_ext! [iblk, idx t, at_val]

theorem blk6 (t : Fin cfg0.N) (k : Fin 512) :
    (iblk m c 6 t : Vec Ideal S1x512 .f32) (ix2 0 k) = (args m c).lvg (grp k) (lane k) := by
  refine Eq.trans ?_ (V_v245 m c k)
  blk_ext! [iblk, idx t, at_val]

theorem blk7 (t : Fin cfg0.N) (k : Fin 512) :
    (iblk m c 7 t : Vec Ideal S1x512 .f32) (ix2 0 k) = (args m c).lvb (grp k) (lane k) := by
  refine Eq.trans ?_ (V_v246 m c k)
  blk_ext! [iblk, idx t, at_val]

theorem blk8 (t : Fin cfg0.N) (g : Fin 4) (a b : Fin 128) :
    (iblk m c 8 t : Vec Ideal S4x128x128 .bf16) (ix3 g a b) = (args m c).ws g a b := by
  refine Eq.trans ?_ (V_v238 m c g a b)
  blk_ext! [iblk, idx t, at_val]

theorem blk9 (t : Fin cfg0.N) (g : Fin 4) (a b : Fin 128) :
    (iblk m c 9 t : Vec Ideal S4x128x128 .bf16) (ix3 g a b) = (args m c).ws g b a := by
  refine Eq.trans ?_ (V_v239 m c g a b)
  blk_ext! [iblk, idx t, at_val]

theorem blk10 (t : Fin cfg0.N) (s : Fin 128) (k : Fin 512) :
    (iblk m c 10 t : Vec Ideal S128x512 .f32) (ix2 s k) = (args m c).sb (grp k) s := by
  refine Eq.trans ?_ (V_v242 m c s k)
  blk_ext! [iblk, idx t, at_val]

/-! Rows and columns of a block by chunk or group and lane. -/

theorem col0 (d : Fin 128) (h) : (⟨d.val, h⟩ : Fin 512) = col 0 d := Fin.ext (by simp [col])
theorem col1 (d : Fin 128) (h) : (⟨128 + d.val, h⟩ : Fin 512) = col 1 d := Fin.ext (by simp [col])
theorem col2 (d : Fin 128) (h) : (⟨256 + d.val, h⟩ : Fin 512) = col 2 d := Fin.ext (by simp [col])
theorem col3 (d : Fin 128) (h) : (⟨384 + d.val, h⟩ : Fin 512) = col 3 d := Fin.ext (by simp [col])
theorem cb0 (d : Fin 128) (h) : (⟨512 + d.val, h⟩ : Fin 1024) = cb 0 d := Fin.ext (by simp [cb])
theorem cb1 (d : Fin 128) (h) : (⟨640 + d.val, h⟩ : Fin 1024) = cb 1 d := Fin.ext (by simp [cb])
theorem cb2 (d : Fin 128) (h) : (⟨768 + d.val, h⟩ : Fin 1024) = cb 2 d := Fin.ext (by simp [cb])
theorem cb3 (d : Fin 128) (h) : (⟨896 + d.val, h⟩ : Fin 1024) = cb 3 d := Fin.ext (by simp [cb])
theorem ca0 (k : Fin 512) (h) : (⟨k.val, h⟩ : Fin 1024) = ca k := rfl

theorem grp_col (g : Fin 4) (d : Fin 128) : grp (col g d) = g := Fin.ext (by show (g.val * 128 + d.val) / 128 = g.val; omega)

theorem lane_col (g : Fin 4) (d : Fin 128) : lane (col g d) = d := Fin.ext (by show (g.val * 128 + d.val) % 128 = d.val; omega)

theorem place_at (t : Fin cfg0.N) (n : Fin 4) (a : Fin 128) : place (at_ t (col n a)) = a :=
  Fin.ext (by show (t.val * 512 + (n.val * 128 + a.val)) % 128 = a.val; omega)

theorem mate_at (t : Fin cfg0.N) (n : Fin 4) (a s : Fin 128) : mate (at_ t (col n a)) s = at_ t (col n s) :=
  Fin.ext (by show (t.val * 512 + (n.val * 128 + a.val)) / 128 * 128 + s.val = t.val * 512 + (n.val * 128 + s.val); omega)

theorem col_eq (k : Fin 512) : k = col (grp k) (lane k) := Fin.ext (by show k.val = k.val / 128 * 128 + k.val % 128; omega)

theorem four (g : Fin 4) : g = 0 ∨ g = 1 ∨ g = 2 ∨ g = 3 := by omega

theorem col_val (g : Fin 4) (d : Fin 128) : (col g d).val = g.val * 128 + d.val := rfl

/-! The blocks over the formulas' arguments. -/

theorem blk0_a (t : Fin cfg0.N) (r k : Fin 512) : (iblk m c 0 t : Vec Ideal S512x1024 .f32) (ix2 r (ca k)) = (args m c).da (at_ t r) k :=
  blk0 m c t r _

theorem blk0_b (t : Fin cfg0.N) (r : Fin 512) (g : Fin 4) (d : Fin 128) :
    (iblk m c 0 t : Vec Ideal S512x1024 .f32) (ix2 r (cb g d)) = (args m c).db (at_ t r) g d :=
  blk0 m c t r _

theorem blk1_g (t : Fin cfg0.N) (r : Fin 512) (g : Fin 4) (d : Fin 128) :
    (iblk m c 1 t : Vec Ideal S512x512 .f32) (ix2 r (col g d)) = (args m c).u (at_ t r) g d :=
  (blk1 m c t r _).trans (congrArg (fun k => Z m c (ix2 (at_ t r) k)) (Fin.ext (Nat.add_assoc _ _ _).symm))

theorem blk2_g (t : Fin cfg0.N) (r : Fin 512) (g : Fin 4) (d : Fin 128) :
    (iblk m c 2 t : Vec Ideal S512x512 .f32) (ix2 r (col g d)) = (args m c).v (at_ t r) g d :=
  (blk2 m c t r _).trans (congrArg (fun k => Z m c (ix2 (at_ t r) k)) (Fin.ext (Nat.add_assoc _ _ _).symm))

theorem blk6_g (t : Fin cfg0.N) (g : Fin 4) (d : Fin 128) : (iblk m c 6 t : Vec Ideal S1x512 .f32) (ix2 0 (col g d)) = (args m c).lvg g d := by
  rw [blk6, grp_col, lane_col]

theorem blk7_g (t : Fin cfg0.N) (g : Fin 4) (d : Fin 128) : (iblk m c 7 t : Vec Ideal S1x512 .f32) (ix2 0 (col g d)) = (args m c).lvb g d := by
  rw [blk7, grp_col, lane_col]

theorem blk10_g (t : Fin cfg0.N) (s : Fin 128) (g : Fin 4) (d : Fin 128) :
    (iblk m c 10 t : Vec Ideal S128x512 .f32) (ix2 s (col g d)) = (args m c).sb g s := by
  rw [blk10, grp_col]

/-- The mixed rows and their gradient within a chunk. -/
theorem v2_at (t : Fin cfg0.N) (n : Fin 4) (a : Fin 128) (g : Fin 4) (d : Fin 128) :
    v2 (args m c) (at_ t (col n a)) g d = (∑ s : Fin 128, (args m c).ws g a s * v1 (args m c) (at_ t (col n s)) g d) + (args m c).sb g a := by
  simp only [v2, place_at, mate_at]

theorem dv1_at (t : Fin cfg0.N) (n : Fin 4) (a : Fin 128) (g : Fin 4) (d : Fin 128) :
    dv1 (args m c) (at_ t (col n a)) g d = ∑ s : Fin 128, (args m c).ws g s a * dv2 (args m c) (at_ t (col n s)) g d := by
  simp only [dv1, place_at, mate_at]

end Cert.RowsIdeal.Formula

end
-- ==== Proof.RowsNorm.lean ====
/- The convolution half at a grid point: the gradient through its gate and norm, and the two sums over the rows. -/
module

public import proofs.«01_k».proof.Proof.RowsBlocks

@[expose] public section

set_option maxRecDepth 16384

noncomputable section

namespace Cert.RowsIdeal.Formula

open Cert.RowsIdeal Cert.RowsIdeal.Gen Idealize.ShloMosaic Idealize.ShloMosaic.TcCoe Idealize.SL.Sem Cert.RowsMath Cert.LayerNorm Cert.Gate Cert.Pieces

variable (m : (ℓ : Loc nD τ sig) → Buf (Elt Ideal) ℓ) (c : Dev nD)

theorem da1A (t : Fin cfg0.N) (h0 : t.val % 16 = 0) (h1 : ¬ t.val % 16 = 15) (r k : Fin 512) :
    (outsAt0 m c t.val t.isLt).1 (ix2 r k) = da1 (args m c) (at_ t r) k := by
  rw [Gen.outsAt0_A m c t h0 h1]
  frame_out
  open_payloads
  pointwise
  simp only [col0, col1, col2, col3, cb0, cb1, cb2, cb3, blk0_b, blk1_g, blk2_g, blk6_g, blk7_g, blk8, blk9, blk10_g, blk0_a, ca0, blk3, blk4, blk5]
  have hx (k : Fin 512) : cen L ((args m c).a (at_ t r)) k * rstd L ((args m c).a (at_ t r)) = xh L ((args m c).a (at_ t r)) k := rfl
  simp only [cen, rstd, var, L] at hx
  have hy (k : Fin 512) : xh L ((args m c).a (at_ t r)) k * (args m c).lag k + (args m c).lab k = RowsMath.y (args m c) (at_ t r) k := rfl
  simp only [L] at hy
  have hs (x : EReal) : Ideal.ofBits .f32 0x3F000000#32 * Ideal.tanh (Ideal.ofBits .f32 0x3F000000#32 * x) + Ideal.ofBits .f32 0x3F000000#32
      = Cert.Gate.sig x := rfl
  have hd (k : Fin 512) : (args m c).da (at_ t r) k * (Cert.Gate.sig (RowsMath.y (args m c) (at_ t r) k)
      * (1 + RowsMath.y (args m c) (at_ t r) k * (1 - Cert.Gate.sig (RowsMath.y (args m c) (at_ t r) k)))) = dy (args m c) (at_ t r) k := by
    simp only [dy, siluGrad, Cert.Gate.bits_one]
  simp only [hx, hy, hs, hd]
  rfl

theorem da1B (t : Fin cfg0.N) (h0 : ¬ t.val % 16 = 0) (h1 : ¬ t.val % 16 = 15) (r k : Fin 512) :
    (outsAt0 m c t.val t.isLt).1 (ix2 r k) = da1 (args m c) (at_ t r) k := by
  rw [Gen.outsAt0_B m c t h0 h1]
  frame_out
  open_payloads
  pointwise
  simp only [col0, col1, col2, col3, cb0, cb1, cb2, cb3, blk0_b, blk1_g, blk2_g, blk6_g, blk7_g, blk8, blk9, blk10_g, blk0_a, ca0, blk3, blk4, blk5]
  have hx (k : Fin 512) : cen L ((args m c).a (at_ t r)) k * rstd L ((args m c).a (at_ t r)) = xh L ((args m c).a (at_ t r)) k := rfl
  simp only [cen, rstd, var, L] at hx
  have hy (k : Fin 512) : xh L ((args m c).a (at_ t r)) k * (args m c).lag k + (args m c).lab k = RowsMath.y (args m c) (at_ t r) k := rfl
  simp only [L] at hy
  have hs (x : EReal) : Ideal.ofBits .f32 0x3F000000#32 * Ideal.tanh (Ideal.ofBits .f32 0x3F000000#32 * x) + Ideal.ofBits .f32 0x3F000000#32
      = Cert.Gate.sig x := rfl
  have hd (k : Fin 512) : (args m c).da (at_ t r) k * (Cert.Gate.sig (RowsMath.y (args m c) (at_ t r) k)
      * (1 + RowsMath.y (args m c) (at_ t r) k * (1 - Cert.Gate.sig (RowsMath.y (args m c) (at_ t r) k)))) = dy (args m c) (at_ t r) k := by
    simp only [dy, siluGrad, Cert.Gate.bits_one]
  simp only [hx, hy, hs, hd]
  rfl

theorem da1C (t : Fin cfg0.N) (h0 : ¬ t.val % 16 = 0) (h1 : t.val % 16 = 15) (r k : Fin 512) :
    (outsAt0 m c t.val t.isLt).1 (ix2 r k) = da1 (args m c) (at_ t r) k := by
  rw [Gen.outsAt0_C m c t h0 h1]
  frame_out
  open_payloads
  pointwise
  simp only [col0, col1, col2, col3, cb0, cb1, cb2, cb3, blk0_b, blk1_g, blk2_g, blk6_g, blk7_g, blk8, blk9, blk10_g, blk0_a, ca0, blk3, blk4, blk5]
  have hx (k : Fin 512) : cen L ((args m c).a (at_ t r)) k * rstd L ((args m c).a (at_ t r)) = xh L ((args m c).a (at_ t r)) k := rfl
  simp only [cen, rstd, var, L] at hx
  have hy (k : Fin 512) : xh L ((args m c).a (at_ t r)) k * (args m c).lag k + (args m c).lab k = RowsMath.y (args m c) (at_ t r) k := rfl
  simp only [L] at hy
  have hs (x : EReal) : Ideal.ofBits .f32 0x3F000000#32 * Ideal.tanh (Ideal.ofBits .f32 0x3F000000#32 * x) + Ideal.ofBits .f32 0x3F000000#32
      = Cert.Gate.sig x := rfl
  have hd (k : Fin 512) : (args m c).da (at_ t r) k * (Cert.Gate.sig (RowsMath.y (args m c) (at_ t r) k)
      * (1 + RowsMath.y (args m c) (at_ t r) k * (1 - Cert.Gate.sig (RowsMath.y (args m c) (at_ t r) k)))) = dy (args m c) (at_ t r) k := by
    simp only [dy, siluGrad, Cert.Gate.bits_one]
  simp only [hx, hy, hs, hd]
  rfl

/-- What a grid point adds to the two sums of the norm's weights. -/
def termG (t : Fin cfg0.N) (k : Fin 512) : EReal := ∑ r : Fin 512, dy (args m c) (at_ t r) k * xh L ((args m c).a (at_ t r)) k
def termS (t : Fin cfg0.N) (k : Fin 512) : EReal := ∑ r : Fin 512, dy (args m c) (at_ t r) k

theorem tGA (t : Fin cfg0.N) (h0 : t.val % 16 = 0) (h1 : ¬ t.val % 16 = 15) (k : Fin 512) :
    (outsAt0 m c t.val t.isLt).2.2.1 (ix2 0 k) = 0 + termG m c t k := by
  rw [termG, Gen.outsAt0_A m c t h0 h1]
  frame_out
  open_payloads
  pointwise
  simp only [col0, col1, col2, col3, cb0, cb1, cb2, cb3, blk0_b, blk1_g, blk2_g, blk6_g, blk7_g, blk8, blk9, blk10_g, blk0_a, ca0, blk3, blk4, blk5]
  try simp only [da1, termG, termS, dy, siluGrad, Cert.Gate.bits_one, grad, xh, rstd, var, cen, RowsMath.y, Cert.Gate.sig, L]

theorem tGB (t : Fin cfg0.N) (h0 : ¬ t.val % 16 = 0) (h1 : ¬ t.val % 16 = 15) (k : Fin 512) :
    (outsAt0 m c t.val t.isLt).2.2.1 (ix2 0 k) = (outsAt0 m c (t.val - 1) (by omega)).2.2.1 (ix2 0 k) + termG m c t k := by
  rw [termG, Gen.outsAt0_B m c t h0 h1]
  frame_out
  open_payloads
  pointwise
  simp only [col0, col1, col2, col3, cb0, cb1, cb2, cb3, blk0_b, blk1_g, blk2_g, blk6_g, blk7_g, blk8, blk9, blk10_g, blk0_a, ca0, blk3, blk4, blk5]
  try simp only [da1, termG, termS, dy, siluGrad, Cert.Gate.bits_one, grad, xh, rstd, var, cen, RowsMath.y, Cert.Gate.sig, L]

theorem tGC (t : Fin cfg0.N) (h0 : ¬ t.val % 16 = 0) (h1 : t.val % 16 = 15) (k : Fin 512) :
    (outsAt0 m c t.val t.isLt).2.2.1 (ix2 0 k) = (outsAt0 m c (t.val - 1) (by omega)).2.2.1 (ix2 0 k) + termG m c t k := by
  rw [termG, Gen.outsAt0_C m c t h0 h1]
  frame_out
  open_payloads
  pointwise
  simp only [col0, col1, col2, col3, cb0, cb1, cb2, cb3, blk0_b, blk1_g, blk2_g, blk6_g, blk7_g, blk8, blk9, blk10_g, blk0_a, ca0, blk3, blk4, blk5]
  try simp only [da1, termG, termS, dy, siluGrad, Cert.Gate.bits_one, grad, xh, rstd, var, cen, RowsMath.y, Cert.Gate.sig, L]

theorem tSA (t : Fin cfg0.N) (h0 : t.val % 16 = 0) (h1 : ¬ t.val % 16 = 15) (k : Fin 512) :
    (outsAt0 m c t.val t.isLt).2.2.2.1 (ix2 0 k) = 0 + termS m c t k := by
  rw [termS, Gen.outsAt0_A m c t h0 h1]
  frame_out
  open_payloads
  pointwise
  simp only [col0, col1, col2, col3, cb0, cb1, cb2, cb3, blk0_b, blk1_g, blk2_g, blk6_g, blk7_g, blk8, blk9, blk10_g, blk0_a, ca0, blk3, blk4, blk5]
  try simp only [da1, termG, termS, dy, siluGrad, Cert.Gate.bits_one, grad, xh, rstd, var, cen, RowsMath.y, Cert.Gate.sig, L]

theorem tSB (t : Fin cfg0.N) (h0 : ¬ t.val % 16 = 0) (h1 : ¬ t.val % 16 = 15) (k : Fin 512) :
    (outsAt0 m c t.val t.isLt).2.2.2.1 (ix2 0 k) = (outsAt0 m c (t.val - 1) (by omega)).2.2.2.1 (ix2 0 k) + termS m c t k := by
  rw [termS, Gen.outsAt0_B m c t h0 h1]
  frame_out
  open_payloads
  pointwise
  simp only [col0, col1, col2, col3, cb0, cb1, cb2, cb3, blk0_b, blk1_g, blk2_g, blk6_g, blk7_g, blk8, blk9, blk10_g, blk0_a, ca0, blk3, blk4, blk5]
  try simp only [da1, termG, termS, dy, siluGrad, Cert.Gate.bits_one, grad, xh, rstd, var, cen, RowsMath.y, Cert.Gate.sig, L]

theorem tSC (t : Fin cfg0.N) (h0 : ¬ t.val % 16 = 0) (h1 : t.val % 16 = 15) (k : Fin 512) :
    (outsAt0 m c t.val t.isLt).2.2.2.1 (ix2 0 k) = (outsAt0 m c (t.val - 1) (by omega)).2.2.2.1 (ix2 0 k) + termS m c t k := by
  rw [termS, Gen.outsAt0_C m c t h0 h1]
  frame_out
  open_payloads
  pointwise
  simp only [col0, col1, col2, col3, cb0, cb1, cb2, cb3, blk0_b, blk1_g, blk2_g, blk6_g, blk7_g, blk8, blk9, blk10_g, blk0_a, ca0, blk3, blk4, blk5]
  try simp only [da1, termG, termS, dy, siluGrad, Cert.Gate.bits_one, grad, xh, rstd, var, cen, RowsMath.y, Cert.Gate.sig, L]

end Cert.RowsIdeal.Formula

end
-- ==== Proof.RowsMix.lean ====
/- What each grid point adds to the gradient of the mixing matrices. -/
module

public import proofs.«01_k».proof.Proof.RowsBlocks

@[expose] public section

set_option maxRecDepth 16384

noncomputable section

namespace Cert.RowsIdeal.Formula

open Cert.RowsIdeal Cert.RowsIdeal.Gen Idealize.ShloMosaic Idealize.ShloMosaic.TcCoe Idealize.SL.Sem Cert.RowsMath Cert.LayerNorm Cert.Gate Cert.Pieces

variable (m : (ℓ : Loc nD τ sig) → Buf (Elt Ideal) ℓ) (c : Dev nD)

/-- A select under the lower triangle. -/
theorem sel_mask (a b : Fin 128) (x y : EReal) :
    Scalar.select (IntOp.cmpi CmpIPredicate.sge (BitVec.ofNat 32 a.val) (BitVec.ofNat 32 b.val)) x y = if b.val ≤ a.val then x else y := by
  have h : IntOp.cmpi CmpIPredicate.sge (BitVec.ofNat 32 a.val) (BitVec.ofNat 32 b.val) = if b.val ≤ a.val then 1#1 else 0#1 := by
    revert a b
    decide +kernel
  rw [h]
  by_cases hab : b.val ≤ a.val
  · rw [if_pos hab, if_pos hab]
    rfl
  · rw [if_neg hab, if_neg hab]
    rfl

/-- What a grid point adds to the mixing matrices' gradient. -/
def termW (t : Fin cfg0.N) (g : Fin 4) (a b : Fin 128) : EReal :=
  ∑ n : Fin 4, if b.val ≤ a.val then ∑ d : Fin 128, dv2 (args m c) (at_ t (col n a)) g d * v1 (args m c) (at_ t (col n b)) g d else 0

theorem tWB (t : Fin cfg0.N) (h0 : ¬ t.val % 16 = 0) (h1 : ¬ t.val % 16 = 15) (g : Fin 4) (a b : Fin 128) :
    (outsAt0 m c t.val t.isLt).2.2.2.2.2.2.1 (ix3 g a b) = (outsAt0 m c (t.val - 1) (by omega)).2.2.2.2.2.2.1 (ix3 g a b) + termW m c t g a b := by
  rw [termW, Fin.sum_univ_four, Gen.outsAt0_B m c t h0 h1]
  frame_open
  simp (disch := decide) only [↓ View.readCov_skip, ↓ View.readCov_cons_toLoadRect, ↓ View.readCov_fill]
  frame_out
  try simp only [read_unread_whole]
  obtain rfl | rfl | rfl | rfl := four g
  · have hk : (((0 : Fin 4) : Fin 4).val) = 0 := rfl
    repeat refine (skip3 _ _ _ _ _ _ (by omega)).trans ?_
    refine (hit3 _ _ _ _ _ _ (0 : Fin 1) a b (by rfl) (Nat.zero_add _).symm (Nat.zero_add _).symm).trans ?_
    open_payloads
    pointwise
    simp only [col0, col1, col2, col3, cb0, cb1, cb2, cb3, blk0_b, blk1_g, blk2_g, blk6_g, blk7_g, blk8, blk9, blk10_g, blk0_a, ca0, blk3, blk4, blk5]
    simp only [sel_mask]
    try simp only [← add_assoc]
    rfl
  · have hk : (((1 : Fin 4) : Fin 4).val) = 1 := rfl
    repeat refine (skip3 _ _ _ _ _ _ (by omega)).trans ?_
    refine (hit3 _ _ _ _ _ _ (0 : Fin 1) a b (by rfl) (Nat.zero_add _).symm (Nat.zero_add _).symm).trans ?_
    open_payloads
    pointwise
    simp only [col0, col1, col2, col3, cb0, cb1, cb2, cb3, blk0_b, blk1_g, blk2_g, blk6_g, blk7_g, blk8, blk9, blk10_g, blk0_a, ca0, blk3, blk4, blk5]
    simp only [sel_mask]
    try simp only [← add_assoc]
    rfl
  · have hk : (((2 : Fin 4) : Fin 4).val) = 2 := rfl
    repeat refine (skip3 _ _ _ _ _ _ (by omega)).trans ?_
    refine (hit3 _ _ _ _ _ _ (0 : Fin 1) a b (by rfl) (Nat.zero_add _).symm (Nat.zero_add _).symm).trans ?_
    open_payloads
    pointwise
    simp only [col0, col1, col2, col3, cb0, cb1, cb2, cb3, blk0_b, blk1_g, blk2_g, blk6_g, blk7_g, blk8, blk9, blk10_g, blk0_a, ca0, blk3, blk4, blk5]
    simp only [sel_mask]
    try simp only [← add_assoc]
    rfl
  · have hk : (((3 : Fin 4) : Fin 4).val) = 3 := rfl
    repeat refine (skip3 _ _ _ _ _ _ (by omega)).trans ?_
    refine (hit3 _ _ _ _ _ _ (0 : Fin 1) a b (by rfl) (Nat.zero_add _).symm (Nat.zero_add _).symm).trans ?_
    open_payloads
    pointwise
    simp only [col0, col1, col2, col3, cb0, cb1, cb2, cb3, blk0_b, blk1_g, blk2_g, blk6_g, blk7_g, blk8, blk9, blk10_g, blk0_a, ca0, blk3, blk4, blk5]
    simp only [sel_mask]
    try simp only [← add_assoc]
    rfl

theorem tWC (t : Fin cfg0.N) (h0 : ¬ t.val % 16 = 0) (h1 : t.val % 16 = 15) (g : Fin 4) (a b : Fin 128) :
    (outsAt0 m c t.val t.isLt).2.2.2.2.2.2.1 (ix3 g a b) = (outsAt0 m c (t.val - 1) (by omega)).2.2.2.2.2.2.1 (ix3 g a b) + termW m c t g a b := by
  rw [termW, Fin.sum_univ_four, Gen.outsAt0_C m c t h0 h1]
  frame_open
  simp (disch := decide) only [↓ View.readCov_skip, ↓ View.readCov_cons_toLoadRect, ↓ View.readCov_fill]
  frame_out
  try simp only [read_unread_whole]
  obtain rfl | rfl | rfl | rfl := four g
  · have hk : (((0 : Fin 4) : Fin 4).val) = 0 := rfl
    repeat refine (skip3 _ _ _ _ _ _ (by omega)).trans ?_
    refine (hit3 _ _ _ _ _ _ (0 : Fin 1) a b (by rfl) (Nat.zero_add _).symm (Nat.zero_add _).symm).trans ?_
    open_payloads
    pointwise
    simp only [col0, col1, col2, col3, cb0, cb1, cb2, cb3, blk0_b, blk1_g, blk2_g, blk6_g, blk7_g, blk8, blk9, blk10_g, blk0_a, ca0, blk3, blk4, blk5]
    simp only [sel_mask]
    try simp only [← add_assoc]
    rfl
  · have hk : (((1 : Fin 4) : Fin 4).val) = 1 := rfl
    repeat refine (skip3 _ _ _ _ _ _ (by omega)).trans ?_
    refine (hit3 _ _ _ _ _ _ (0 : Fin 1) a b (by rfl) (Nat.zero_add _).symm (Nat.zero_add _).symm).trans ?_
    open_payloads
    pointwise
    simp only [col0, col1, col2, col3, cb0, cb1, cb2, cb3, blk0_b, blk1_g, blk2_g, blk6_g, blk7_g, blk8, blk9, blk10_g, blk0_a, ca0, blk3, blk4, blk5]
    simp only [sel_mask]
    try simp only [← add_assoc]
    rfl
  · have hk : (((2 : Fin 4) : Fin 4).val) = 2 := rfl
    repeat refine (skip3 _ _ _ _ _ _ (by omega)).trans ?_
    refine (hit3 _ _ _ _ _ _ (0 : Fin 1) a b (by rfl) (Nat.zero_add _).symm (Nat.zero_add _).symm).trans ?_
    open_payloads
    pointwise
    simp only [col0, col1, col2, col3, cb0, cb1, cb2, cb3, blk0_b, blk1_g, blk2_g, blk6_g, blk7_g, blk8, blk9, blk10_g, blk0_a, ca0, blk3, blk4, blk5]
    simp only [sel_mask]
    try simp only [← add_assoc]
    rfl
  · have hk : (((3 : Fin 4) : Fin 4).val) = 3 := rfl
    repeat refine (skip3 _ _ _ _ _ _ (by omega)).trans ?_
    refine (hit3 _ _ _ _ _ _ (0 : Fin 1) a b (by rfl) (Nat.zero_add _).symm (Nat.zero_add _).symm).trans ?_
    open_payloads
    pointwise
    simp only [col0, col1, col2, col3, cb0, cb1, cb2, cb3, blk0_b, blk1_g, blk2_g, blk6_g, blk7_g, blk8, blk9, blk10_g, blk0_a, ca0, blk3, blk4, blk5]
    simp only [sel_mask]
    try simp only [← add_assoc]
    rfl

theorem tWA (t : Fin cfg0.N) (h0 : t.val % 16 = 0) (h1 : ¬ t.val % 16 = 15) (g : Fin 4) (a b : Fin 128) :
    (outsAt0 m c t.val t.isLt).2.2.2.2.2.2.1 (ix3 g a b) = 0 + termW m c t g a b := by
  rw [termW, Fin.sum_univ_four, Gen.outsAt0_A m c t h0 h1]
  frame_open
  simp (disch := decide) only [↓ View.readCov_skip, ↓ View.readCov_cons_toLoadRect, ↓ View.readCov_fill]
  frame_out
  try simp only [read_unread_whole]
  obtain rfl | rfl | rfl | rfl := four g
  · have hk : (((0 : Fin 4) : Fin 4).val) = 0 := rfl
    repeat refine (skip3 _ _ _ _ _ _ (by omega)).trans ?_
    refine (hit3 _ _ _ _ _ _ (0 : Fin 1) a b (by rfl) (Nat.zero_add _).symm (Nat.zero_add _).symm).trans ?_
    open_payloads
    pointwise
    simp only [col0, col1, col2, col3, cb0, cb1, cb2, cb3, blk0_b, blk1_g, blk2_g, blk6_g, blk7_g, blk8, blk9, blk10_g, blk0_a, ca0, blk3, blk4, blk5]
    simp only [sel_mask]
    try simp only [← add_assoc]
    rfl
  · have hk : (((1 : Fin 4) : Fin 4).val) = 1 := rfl
    repeat refine (skip3 _ _ _ _ _ _ (by omega)).trans ?_
    refine (hit3 _ _ _ _ _ _ (0 : Fin 1) a b (by rfl) (Nat.zero_add _).symm (Nat.zero_add _).symm).trans ?_
    open_payloads
    pointwise
    simp only [col0, col1, col2, col3, cb0, cb1, cb2, cb3, blk0_b, blk1_g, blk2_g, blk6_g, blk7_g, blk8, blk9, blk10_g, blk0_a, ca0, blk3, blk4, blk5]
    simp only [sel_mask]
    try simp only [← add_assoc]
    rfl
  · have hk : (((2 : Fin 4) : Fin 4).val) = 2 := rfl
    repeat refine (skip3 _ _ _ _ _ _ (by omega)).trans ?_
    refine (hit3 _ _ _ _ _ _ (0 : Fin 1) a b (by rfl) (Nat.zero_add _).symm (Nat.zero_add _).symm).trans ?_
    open_payloads
    pointwise
    simp only [col0, col1, col2, col3, cb0, cb1, cb2, cb3, blk0_b, blk1_g, blk2_g, blk6_g, blk7_g, blk8, blk9, blk10_g, blk0_a, ca0, blk3, blk4, blk5]
    simp only [sel_mask]
    try simp only [← add_assoc]
    rfl
  · have hk : (((3 : Fin 4) : Fin 4).val) = 3 := rfl
    repeat refine (skip3 _ _ _ _ _ _ (by omega)).trans ?_
    refine (hit3 _ _ _ _ _ _ (0 : Fin 1) a b (by rfl) (Nat.zero_add _).symm (Nat.zero_add _).symm).trans ?_
    open_payloads
    pointwise
    simp only [col0, col1, col2, col3, cb0, cb1, cb2, cb3, blk0_b, blk1_g, blk2_g, blk6_g, blk7_g, blk8, blk9, blk10_g, blk0_a, ca0, blk3, blk4, blk5]
    simp only [sel_mask]
    try simp only [← add_assoc]
    rfl

end Cert.RowsIdeal.Formula

end
-- ==== Proof.RowsLane.lean ====
/- What each grid point adds to the gradients of the per-group norm's weights. -/
module

public import proofs.«01_k».proof.Proof.RowsBlocks

@[expose] public section

set_option maxRecDepth 16384

noncomputable section

namespace Cert.RowsIdeal.Formula

open Cert.RowsIdeal Cert.RowsIdeal.Gen Idealize.ShloMosaic Idealize.ShloMosaic.TcCoe Idealize.SL.Sem Cert.RowsMath Cert.LayerNorm Cert.Gate Cert.Pieces

variable (m : (ℓ : Loc nD τ sig) → Buf (Elt Ideal) ℓ) (c : Dev nD)

/-- The gradient of a group's normalised rows over a grid point's block, as the kernel keeps it between its steps. -/
def DV1 (t : Fin cfg0.N) (g : Fin 4) : Vec Ideal S512x128 .f32 := fun y => dv1 (args m c) (at_ t (y 0)) g (y 1)

theorem DV1_at (t : Fin cfg0.N) (g : Fin 4) (r : Fin 512) (d : Fin 128) : DV1 m c t g (ix2 r d) = dv1 (args m c) (at_ t r) g d := rfl

/-- Written in four pieces, one for each chunk, and loaded whole. -/
theorem DV1_load (t : Fin cfg0.N) (g : Fin 4) (p3 p2 p1 p0 : Vec Ideal S128x128 .f32) (L : List (View.Piece (Elt Ideal) S512x128 .f32))
    (h3 : ∀ a d, p3 (ix2 a d) = dv1 (args m c) (at_ t (col 3 a)) g d) (h2 : ∀ a d, p2 (ix2 a d) = dv1 (args m c) (at_ t (col 2 a)) g d)
    (h1 : ∀ a d, p1 (ix2 a d) = dv1 (args m c) (at_ t (col 1 a)) g d) (h0 : ∀ a d, p0 (ix2 a d) = dv1 (args m c) (at_ t (col 0 a)) g d) :
    (View.whole cc0_scratch0).readCov
        (⟨Rect.unit ![384, 0] ![128, 128] inb_S512x128_S128x128_384_0, p3⟩ :: ⟨Rect.unit ![256, 0] ![128, 128] inb_S512x128_S128x128_256_0, p2⟩
          :: ⟨Rect.unit ![128, 0] ![128, 128] inb_S512x128_S128x128_128_0, p1⟩ :: ⟨Rect.unit ![0, 0] ![128, 128] inb_S512x128_S128x128_0_0, p0⟩ :: L)
        (Rect.unit ![0, 0] ![512, 128] inb_S512x128_S512x128_0_0).toLoadRect
      = DV1 m c t g := by
  funext y
  obtain ⟨r, d, rfl⟩ : ∃ (r : Fin 512) (d : Fin 128), y = ix2 r d := ⟨y 0, y 1, by idx_vars y⟩
  refine (load_whole _ _ _ r d).trans ?_
  obtain ⟨n, a, rfl⟩ : ∃ n a, r = col n a := ⟨_, _, col_eq r⟩
  rw [DV1_at]
  obtain rfl | rfl | rfl | rfl := four n
  · have hk := col_val 0 a
    repeat refine (skip2 _ _ _ _ _ (by omega)).trans ?_
    exact (hit2 _ _ _ _ _ a d (by omega) (Nat.zero_add _).symm).trans (h0 a d)
  · have hk := col_val 1 a
    repeat refine (skip2 _ _ _ _ _ (by omega)).trans ?_
    exact (hit2 _ _ _ _ _ a d (by omega) (Nat.zero_add _).symm).trans (h1 a d)
  · have hk := col_val 2 a
    repeat refine (skip2 _ _ _ _ _ (by omega)).trans ?_
    exact (hit2 _ _ _ _ _ a d (by omega) (Nat.zero_add _).symm).trans (h2 a d)
  · have hk := col_val 3 a
    exact (hit2 _ _ _ _ _ a d (by omega) (Nat.zero_add _).symm).trans (h3 a d)

/-- What a grid point adds to the two sums of the group norms' weights. -/
def termVG (t : Fin cfg0.N) (g : Fin 4) (d : Fin 128) : EReal := ∑ r : Fin 512, dv1 (args m c) (at_ t r) g d * xh L' ((args m c).v (at_ t r) g) d
def termVB (t : Fin cfg0.N) (g : Fin 4) (d : Fin 128) : EReal := ∑ r : Fin 512, dv1 (args m c) (at_ t r) g d

theorem tVGB (t : Fin cfg0.N) (h0 : ¬ t.val % 16 = 0) (h1 : ¬ t.val % 16 = 15) (k : Fin 512) :
    (outsAt0 m c t.val t.isLt).2.2.2.2.1 (ix2 0 k) = (outsAt0 m c (t.val - 1) (by omega)).2.2.2.2.1 (ix2 0 k) + termVG m c t (grp k) (lane k) := by
  rw [termVG]
  obtain ⟨g, d, rfl⟩ : ∃ g d, k = col g d := ⟨_, _, col_eq k⟩
  rw [grp_col, lane_col]
  rw [Gen.outsAt0_B m c t h0 h1]
  frame_open
  simp (disch := decide) only [↓ View.readCov_skip, ↓ View.readCov_cons_toLoadRect, ↓ View.readCov_fill]
  frame_out
  try simp only [read_unread_whole]
  obtain rfl | rfl | rfl | rfl := four g
  · have hk := col_val 0 d
    repeat refine (skip2 _ _ _ _ _ (by omega)).trans ?_
    refine (hit2 _ _ _ _ _ (0 : Fin 1) d (by rfl) (by omega)).trans ?_
    rw [DV1_load m c t 0 _ _ _ _ _ ?_ ?_ ?_ ?_]
    · open_payloads
      pointwise
      try simp only [col0, col1, col2, col3, cb0, cb1, cb2, cb3, blk0_b, blk1_g, blk2_g, blk6_g, blk7_g, blk8, blk9, blk10_g, blk0_a, ca0, blk3, blk4, blk5]
      simp only [DV1_at]
      try rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := col_val 1 d
    repeat refine (skip2 _ _ _ _ _ (by omega)).trans ?_
    refine (hit2 _ _ _ _ _ (0 : Fin 1) d (by rfl) (by omega)).trans ?_
    rw [DV1_load m c t 1 _ _ _ _ _ ?_ ?_ ?_ ?_]
    · open_payloads
      pointwise
      try simp only [col0, col1, col2, col3, cb0, cb1, cb2, cb3, blk0_b, blk1_g, blk2_g, blk6_g, blk7_g, blk8, blk9, blk10_g, blk0_a, ca0, blk3, blk4, blk5]
      simp only [DV1_at]
      try rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := col_val 2 d
    repeat refine (skip2 _ _ _ _ _ (by omega)).trans ?_
    refine (hit2 _ _ _ _ _ (0 : Fin 1) d (by rfl) (by omega)).trans ?_
    rw [DV1_load m c t 2 _ _ _ _ _ ?_ ?_ ?_ ?_]
    · open_payloads
      pointwise
      try simp only [col0, col1, col2, col3, cb0, cb1, cb2, cb3, blk0_b, blk1_g, blk2_g, blk6_g, blk7_g, blk8, blk9, blk10_g, blk0_a, ca0, blk3, blk4, blk5]
      simp only [DV1_at]
      try rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := col_val 3 d
    repeat refine (skip2 _ _ _ _ _ (by omega)).trans ?_
    refine (hit2 _ _ _ _ _ (0 : Fin 1) d (by rfl) (by omega)).trans ?_
    rw [DV1_load m c t 3 _ _ _ _ _ ?_ ?_ ?_ ?_]
    · open_payloads
      pointwise
      try simp only [col0, col1, col2, col3, cb0, cb1, cb2, cb3, blk0_b, blk1_g, blk2_g, blk6_g, blk7_g, blk8, blk9, blk10_g, blk0_a, ca0, blk3, blk4, blk5]
      simp only [DV1_at]
      try rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl

theorem tVGC (t : Fin cfg0.N) (h0 : ¬ t.val % 16 = 0) (h1 : t.val % 16 = 15) (k : Fin 512) :
    (outsAt0 m c t.val t.isLt).2.2.2.2.1 (ix2 0 k) = (outsAt0 m c (t.val - 1) (by omega)).2.2.2.2.1 (ix2 0 k) + termVG m c t (grp k) (lane k) := by
  rw [termVG]
  obtain ⟨g, d, rfl⟩ : ∃ g d, k = col g d := ⟨_, _, col_eq k⟩
  rw [grp_col, lane_col]
  rw [Gen.outsAt0_C m c t h0 h1]
  frame_open
  simp (disch := decide) only [↓ View.readCov_skip, ↓ View.readCov_cons_toLoadRect, ↓ View.readCov_fill]
  frame_out
  try simp only [read_unread_whole]
  obtain rfl | rfl | rfl | rfl := four g
  · have hk := col_val 0 d
    repeat refine (skip2 _ _ _ _ _ (by omega)).trans ?_
    refine (hit2 _ _ _ _ _ (0 : Fin 1) d (by rfl) (by omega)).trans ?_
    rw [DV1_load m c t 0 _ _ _ _ _ ?_ ?_ ?_ ?_]
    · open_payloads
      pointwise
      try simp only [col0, col1, col2, col3, cb0, cb1, cb2, cb3, blk0_b, blk1_g, blk2_g, blk6_g, blk7_g, blk8, blk9, blk10_g, blk0_a, ca0, blk3, blk4, blk5]
      simp only [DV1_at]
      try rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := col_val 1 d
    repeat refine (skip2 _ _ _ _ _ (by omega)).trans ?_
    refine (hit2 _ _ _ _ _ (0 : Fin 1) d (by rfl) (by omega)).trans ?_
    rw [DV1_load m c t 1 _ _ _ _ _ ?_ ?_ ?_ ?_]
    · open_payloads
      pointwise
      try simp only [col0, col1, col2, col3, cb0, cb1, cb2, cb3, blk0_b, blk1_g, blk2_g, blk6_g, blk7_g, blk8, blk9, blk10_g, blk0_a, ca0, blk3, blk4, blk5]
      simp only [DV1_at]
      try rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := col_val 2 d
    repeat refine (skip2 _ _ _ _ _ (by omega)).trans ?_
    refine (hit2 _ _ _ _ _ (0 : Fin 1) d (by rfl) (by omega)).trans ?_
    rw [DV1_load m c t 2 _ _ _ _ _ ?_ ?_ ?_ ?_]
    · open_payloads
      pointwise
      try simp only [col0, col1, col2, col3, cb0, cb1, cb2, cb3, blk0_b, blk1_g, blk2_g, blk6_g, blk7_g, blk8, blk9, blk10_g, blk0_a, ca0, blk3, blk4, blk5]
      simp only [DV1_at]
      try rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := col_val 3 d
    repeat refine (skip2 _ _ _ _ _ (by omega)).trans ?_
    refine (hit2 _ _ _ _ _ (0 : Fin 1) d (by rfl) (by omega)).trans ?_
    rw [DV1_load m c t 3 _ _ _ _ _ ?_ ?_ ?_ ?_]
    · open_payloads
      pointwise
      try simp only [col0, col1, col2, col3, cb0, cb1, cb2, cb3, blk0_b, blk1_g, blk2_g, blk6_g, blk7_g, blk8, blk9, blk10_g, blk0_a, ca0, blk3, blk4, blk5]
      simp only [DV1_at]
      try rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl

theorem tVGA (t : Fin cfg0.N) (h0 : t.val % 16 = 0) (h1 : ¬ t.val % 16 = 15) (k : Fin 512) :
    (outsAt0 m c t.val t.isLt).2.2.2.2.1 (ix2 0 k) = 0 + termVG m c t (grp k) (lane k) := by
  rw [termVG]
  obtain ⟨g, d, rfl⟩ : ∃ g d, k = col g d := ⟨_, _, col_eq k⟩
  rw [grp_col, lane_col]
  rw [Gen.outsAt0_A m c t h0 h1]
  frame_open
  simp (disch := decide) only [↓ View.readCov_skip, ↓ View.readCov_cons_toLoadRect, ↓ View.readCov_fill]
  frame_out
  try simp only [read_unread_whole]
  obtain rfl | rfl | rfl | rfl := four g
  · have hk := col_val 0 d
    repeat refine (skip2 _ _ _ _ _ (by omega)).trans ?_
    refine (hit2 _ _ _ _ _ (0 : Fin 1) d (by rfl) (by omega)).trans ?_
    rw [DV1_load m c t 0 _ _ _ _ _ ?_ ?_ ?_ ?_]
    · open_payloads
      pointwise
      try simp only [col0, col1, col2, col3, cb0, cb1, cb2, cb3, blk0_b, blk1_g, blk2_g, blk6_g, blk7_g, blk8, blk9, blk10_g, blk0_a, ca0, blk3, blk4, blk5]
      simp only [DV1_at]
      try rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := col_val 1 d
    repeat refine (skip2 _ _ _ _ _ (by omega)).trans ?_
    refine (hit2 _ _ _ _ _ (0 : Fin 1) d (by rfl) (by omega)).trans ?_
    rw [DV1_load m c t 1 _ _ _ _ _ ?_ ?_ ?_ ?_]
    · open_payloads
      pointwise
      try simp only [col0, col1, col2, col3, cb0, cb1, cb2, cb3, blk0_b, blk1_g, blk2_g, blk6_g, blk7_g, blk8, blk9, blk10_g, blk0_a, ca0, blk3, blk4, blk5]
      simp only [DV1_at]
      try rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := col_val 2 d
    repeat refine (skip2 _ _ _ _ _ (by omega)).trans ?_
    refine (hit2 _ _ _ _ _ (0 : Fin 1) d (by rfl) (by omega)).trans ?_
    rw [DV1_load m c t 2 _ _ _ _ _ ?_ ?_ ?_ ?_]
    · open_payloads
      pointwise
      try simp only [col0, col1, col2, col3, cb0, cb1, cb2, cb3, blk0_b, blk1_g, blk2_g, blk6_g, blk7_g, blk8, blk9, blk10_g, blk0_a, ca0, blk3, blk4, blk5]
      simp only [DV1_at]
      try rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := col_val 3 d
    repeat refine (skip2 _ _ _ _ _ (by omega)).trans ?_
    refine (hit2 _ _ _ _ _ (0 : Fin 1) d (by rfl) (by omega)).trans ?_
    rw [DV1_load m c t 3 _ _ _ _ _ ?_ ?_ ?_ ?_]
    · open_payloads
      pointwise
      try simp only [col0, col1, col2, col3, cb0, cb1, cb2, cb3, blk0_b, blk1_g, blk2_g, blk6_g, blk7_g, blk8, blk9, blk10_g, blk0_a, ca0, blk3, blk4, blk5]
      simp only [DV1_at]
      try rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl

theorem tVBB (t : Fin cfg0.N) (h0 : ¬ t.val % 16 = 0) (h1 : ¬ t.val % 16 = 15) (k : Fin 512) :
    (outsAt0 m c t.val t.isLt).2.2.2.2.2.1 (ix2 0 k) = (outsAt0 m c (t.val - 1) (by omega)).2.2.2.2.2.1 (ix2 0 k) + termVB m c t (grp k) (lane k) := by
  rw [termVB]
  obtain ⟨g, d, rfl⟩ : ∃ g d, k = col g d := ⟨_, _, col_eq k⟩
  rw [grp_col, lane_col]
  rw [Gen.outsAt0_B m c t h0 h1]
  frame_open
  simp (disch := decide) only [↓ View.readCov_skip, ↓ View.readCov_cons_toLoadRect, ↓ View.readCov_fill]
  frame_out
  try simp only [read_unread_whole]
  obtain rfl | rfl | rfl | rfl := four g
  · have hk := col_val 0 d
    repeat refine (skip2 _ _ _ _ _ (by omega)).trans ?_
    refine (hit2 _ _ _ _ _ (0 : Fin 1) d (by rfl) (by omega)).trans ?_
    rw [DV1_load m c t 0 _ _ _ _ _ ?_ ?_ ?_ ?_]
    · open_payloads
      pointwise
      try simp only [col0, col1, col2, col3, cb0, cb1, cb2, cb3, blk0_b, blk1_g, blk2_g, blk6_g, blk7_g, blk8, blk9, blk10_g, blk0_a, ca0, blk3, blk4, blk5]
      simp only [DV1_at]
      try rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := col_val 1 d
    repeat refine (skip2 _ _ _ _ _ (by omega)).trans ?_
    refine (hit2 _ _ _ _ _ (0 : Fin 1) d (by rfl) (by omega)).trans ?_
    rw [DV1_load m c t 1 _ _ _ _ _ ?_ ?_ ?_ ?_]
    · open_payloads
      pointwise
      try simp only [col0, col1, col2, col3, cb0, cb1, cb2, cb3, blk0_b, blk1_g, blk2_g, blk6_g, blk7_g, blk8, blk9, blk10_g, blk0_a, ca0, blk3, blk4, blk5]
      simp only [DV1_at]
      try rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := col_val 2 d
    repeat refine (skip2 _ _ _ _ _ (by omega)).trans ?_
    refine (hit2 _ _ _ _ _ (0 : Fin 1) d (by rfl) (by omega)).trans ?_
    rw [DV1_load m c t 2 _ _ _ _ _ ?_ ?_ ?_ ?_]
    · open_payloads
      pointwise
      try simp only [col0, col1, col2, col3, cb0, cb1, cb2, cb3, blk0_b, blk1_g, blk2_g, blk6_g, blk7_g, blk8, blk9, blk10_g, blk0_a, ca0, blk3, blk4, blk5]
      simp only [DV1_at]
      try rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := col_val 3 d
    repeat refine (skip2 _ _ _ _ _ (by omega)).trans ?_
    refine (hit2 _ _ _ _ _ (0 : Fin 1) d (by rfl) (by omega)).trans ?_
    rw [DV1_load m c t 3 _ _ _ _ _ ?_ ?_ ?_ ?_]
    · open_payloads
      pointwise
      try simp only [col0, col1, col2, col3, cb0, cb1, cb2, cb3, blk0_b, blk1_g, blk2_g, blk6_g, blk7_g, blk8, blk9, blk10_g, blk0_a, ca0, blk3, blk4, blk5]
      simp only [DV1_at]
      try rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl

theorem tVBC (t : Fin cfg0.N) (h0 : ¬ t.val % 16 = 0) (h1 : t.val % 16 = 15) (k : Fin 512) :
    (outsAt0 m c t.val t.isLt).2.2.2.2.2.1 (ix2 0 k) = (outsAt0 m c (t.val - 1) (by omega)).2.2.2.2.2.1 (ix2 0 k) + termVB m c t (grp k) (lane k) := by
  rw [termVB]
  obtain ⟨g, d, rfl⟩ : ∃ g d, k = col g d := ⟨_, _, col_eq k⟩
  rw [grp_col, lane_col]
  rw [Gen.outsAt0_C m c t h0 h1]
  frame_open
  simp (disch := decide) only [↓ View.readCov_skip, ↓ View.readCov_cons_toLoadRect, ↓ View.readCov_fill]
  frame_out
  try simp only [read_unread_whole]
  obtain rfl | rfl | rfl | rfl := four g
  · have hk := col_val 0 d
    repeat refine (skip2 _ _ _ _ _ (by omega)).trans ?_
    refine (hit2 _ _ _ _ _ (0 : Fin 1) d (by rfl) (by omega)).trans ?_
    rw [DV1_load m c t 0 _ _ _ _ _ ?_ ?_ ?_ ?_]
    · open_payloads
      pointwise
      try simp only [col0, col1, col2, col3, cb0, cb1, cb2, cb3, blk0_b, blk1_g, blk2_g, blk6_g, blk7_g, blk8, blk9, blk10_g, blk0_a, ca0, blk3, blk4, blk5]
      simp only [DV1_at]
      try rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := col_val 1 d
    repeat refine (skip2 _ _ _ _ _ (by omega)).trans ?_
    refine (hit2 _ _ _ _ _ (0 : Fin 1) d (by rfl) (by omega)).trans ?_
    rw [DV1_load m c t 1 _ _ _ _ _ ?_ ?_ ?_ ?_]
    · open_payloads
      pointwise
      try simp only [col0, col1, col2, col3, cb0, cb1, cb2, cb3, blk0_b, blk1_g, blk2_g, blk6_g, blk7_g, blk8, blk9, blk10_g, blk0_a, ca0, blk3, blk4, blk5]
      simp only [DV1_at]
      try rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := col_val 2 d
    repeat refine (skip2 _ _ _ _ _ (by omega)).trans ?_
    refine (hit2 _ _ _ _ _ (0 : Fin 1) d (by rfl) (by omega)).trans ?_
    rw [DV1_load m c t 2 _ _ _ _ _ ?_ ?_ ?_ ?_]
    · open_payloads
      pointwise
      try simp only [col0, col1, col2, col3, cb0, cb1, cb2, cb3, blk0_b, blk1_g, blk2_g, blk6_g, blk7_g, blk8, blk9, blk10_g, blk0_a, ca0, blk3, blk4, blk5]
      simp only [DV1_at]
      try rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := col_val 3 d
    repeat refine (skip2 _ _ _ _ _ (by omega)).trans ?_
    refine (hit2 _ _ _ _ _ (0 : Fin 1) d (by rfl) (by omega)).trans ?_
    rw [DV1_load m c t 3 _ _ _ _ _ ?_ ?_ ?_ ?_]
    · open_payloads
      pointwise
      try simp only [col0, col1, col2, col3, cb0, cb1, cb2, cb3, blk0_b, blk1_g, blk2_g, blk6_g, blk7_g, blk8, blk9, blk10_g, blk0_a, ca0, blk3, blk4, blk5]
      simp only [DV1_at]
      try rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl

theorem tVBA (t : Fin cfg0.N) (h0 : t.val % 16 = 0) (h1 : ¬ t.val % 16 = 15) (k : Fin 512) :
    (outsAt0 m c t.val t.isLt).2.2.2.2.2.1 (ix2 0 k) = 0 + termVB m c t (grp k) (lane k) := by
  rw [termVB]
  obtain ⟨g, d, rfl⟩ : ∃ g d, k = col g d := ⟨_, _, col_eq k⟩
  rw [grp_col, lane_col]
  rw [Gen.outsAt0_A m c t h0 h1]
  frame_open
  simp (disch := decide) only [↓ View.readCov_skip, ↓ View.readCov_cons_toLoadRect, ↓ View.readCov_fill]
  frame_out
  try simp only [read_unread_whole]
  obtain rfl | rfl | rfl | rfl := four g
  · have hk := col_val 0 d
    repeat refine (skip2 _ _ _ _ _ (by omega)).trans ?_
    refine (hit2 _ _ _ _ _ (0 : Fin 1) d (by rfl) (by omega)).trans ?_
    rw [DV1_load m c t 0 _ _ _ _ _ ?_ ?_ ?_ ?_]
    · open_payloads
      pointwise
      try simp only [col0, col1, col2, col3, cb0, cb1, cb2, cb3, blk0_b, blk1_g, blk2_g, blk6_g, blk7_g, blk8, blk9, blk10_g, blk0_a, ca0, blk3, blk4, blk5]
      simp only [DV1_at]
      try rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := col_val 1 d
    repeat refine (skip2 _ _ _ _ _ (by omega)).trans ?_
    refine (hit2 _ _ _ _ _ (0 : Fin 1) d (by rfl) (by omega)).trans ?_
    rw [DV1_load m c t 1 _ _ _ _ _ ?_ ?_ ?_ ?_]
    · open_payloads
      pointwise
      try simp only [col0, col1, col2, col3, cb0, cb1, cb2, cb3, blk0_b, blk1_g, blk2_g, blk6_g, blk7_g, blk8, blk9, blk10_g, blk0_a, ca0, blk3, blk4, blk5]
      simp only [DV1_at]
      try rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := col_val 2 d
    repeat refine (skip2 _ _ _ _ _ (by omega)).trans ?_
    refine (hit2 _ _ _ _ _ (0 : Fin 1) d (by rfl) (by omega)).trans ?_
    rw [DV1_load m c t 2 _ _ _ _ _ ?_ ?_ ?_ ?_]
    · open_payloads
      pointwise
      try simp only [col0, col1, col2, col3, cb0, cb1, cb2, cb3, blk0_b, blk1_g, blk2_g, blk6_g, blk7_g, blk8, blk9, blk10_g, blk0_a, ca0, blk3, blk4, blk5]
      simp only [DV1_at]
      try rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := col_val 3 d
    repeat refine (skip2 _ _ _ _ _ (by omega)).trans ?_
    refine (hit2 _ _ _ _ _ (0 : Fin 1) d (by rfl) (by omega)).trans ?_
    rw [DV1_load m c t 3 _ _ _ _ _ ?_ ?_ ?_ ?_]
    · open_payloads
      pointwise
      try simp only [col0, col1, col2, col3, cb0, cb1, cb2, cb3, blk0_b, blk1_g, blk2_g, blk6_g, blk7_g, blk8, blk9, blk10_g, blk0_a, ca0, blk3, blk4, blk5]
      simp only [DV1_at]
      try rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl

end Cert.RowsIdeal.Formula

end
-- ==== Proof.RowsGate.lean ====
/- The two halves of the spatial gate's gradient at a grid point. -/
module

public import proofs.«01_k».proof.Proof.RowsLane

@[expose] public section

set_option maxRecDepth 16384

noncomputable section

namespace Cert.RowsIdeal.Formula

open Cert.RowsIdeal Cert.RowsIdeal.Gen Idealize.ShloMosaic Idealize.ShloMosaic.TcCoe Idealize.SL.Sem Cert.RowsMath Cert.LayerNorm Cert.Gate Cert.Pieces

variable (m : (ℓ : Loc nD τ sig) → Buf (Elt Ideal) ℓ) (c : Dev nD)

def lcol (g : Fin 4) (d : Fin 128) : Fin 1024 := ⟨g.val * 128 + d.val, by omega⟩

theorem lcol_val (g : Fin 4) (d : Fin 128) : (lcol g d).val = g.val * 128 + d.val := rfl
theorem cb_val (g : Fin 4) (d : Fin 128) : (cb g d).val = 512 + g.val * 128 + d.val := rfl

theorem dzLA (t : Fin cfg0.N) (h0 : t.val % 16 = 0) (h1 : ¬ t.val % 16 = 15) (r : Fin 512) (g : Fin 4) (d : Fin 128) :
    (outsAt0 m c t.val t.isLt).2.1 (ix2 r (lcol g d)) = du (args m c) (at_ t r) g d := by
  obtain ⟨n, a, rfl⟩ : ∃ n a, r = col n a := ⟨_, _, col_eq r⟩
  rw [du, v2_at, Gen.outsAt0_A m c t h0 h1]
  frame_open
  simp (disch := decide) only [↓ View.readCov_skip, ↓ View.readCov_cons_toLoadRect, ↓ View.readCov_fill]
  frame_out
  try simp only [read_unread_whole]
  obtain rfl | rfl | rfl | rfl := four g
  · have hk := lcol_val 0 d
    obtain rfl | rfl | rfl | rfl := four n
    · have hn := col_val 0 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 1 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 2 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 3 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := lcol_val 1 d
    obtain rfl | rfl | rfl | rfl := four n
    · have hn := col_val 0 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 1 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 2 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 3 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := lcol_val 2 d
    obtain rfl | rfl | rfl | rfl := four n
    · have hn := col_val 0 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 1 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 2 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 3 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := lcol_val 3 d
    obtain rfl | rfl | rfl | rfl := four n
    · have hn := col_val 0 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 1 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 2 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 3 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl

theorem dzRA (t : Fin cfg0.N) (h0 : t.val % 16 = 0) (h1 : ¬ t.val % 16 = 15) (r : Fin 512) (g : Fin 4) (d : Fin 128) :
    (outsAt0 m c t.val t.isLt).2.1 (ix2 r (cb g d)) = dv (args m c) (at_ t r) g d := by
  rw [dv, Gen.outsAt0_A m c t h0 h1]
  frame_open
  simp (disch := decide) only [↓ View.readCov_skip, ↓ View.readCov_cons_toLoadRect, ↓ View.readCov_fill]
  frame_out
  try simp only [read_unread_whole]
  obtain rfl | rfl | rfl | rfl := four g
  · have hk := cb_val 0 d
    repeat refine (skip2 _ _ _ _ _ (by omega)).trans ?_
    refine (hit2 _ _ _ _ _ r d (by omega) (by omega)).trans ?_
    rw [DV1_load m c t 0 _ _ _ _ _ ?_ ?_ ?_ ?_]
    · open_payloads
      pointwise
      simp only [col0, col1, col2, col3, cb0, cb1, cb2, cb3, blk0_b, blk1_g, blk2_g, blk6_g, blk7_g, blk8, blk9, blk10_g, blk0_a, ca0, blk3, blk4, blk5]
      simp only [DV1_at]
      rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := cb_val 1 d
    repeat refine (skip2 _ _ _ _ _ (by omega)).trans ?_
    refine (hit2 _ _ _ _ _ r d (by omega) (by omega)).trans ?_
    rw [DV1_load m c t 1 _ _ _ _ _ ?_ ?_ ?_ ?_]
    · open_payloads
      pointwise
      simp only [col0, col1, col2, col3, cb0, cb1, cb2, cb3, blk0_b, blk1_g, blk2_g, blk6_g, blk7_g, blk8, blk9, blk10_g, blk0_a, ca0, blk3, blk4, blk5]
      simp only [DV1_at]
      rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := cb_val 2 d
    repeat refine (skip2 _ _ _ _ _ (by omega)).trans ?_
    refine (hit2 _ _ _ _ _ r d (by omega) (by omega)).trans ?_
    rw [DV1_load m c t 2 _ _ _ _ _ ?_ ?_ ?_ ?_]
    · open_payloads
      pointwise
      simp only [col0, col1, col2, col3, cb0, cb1, cb2, cb3, blk0_b, blk1_g, blk2_g, blk6_g, blk7_g, blk8, blk9, blk10_g, blk0_a, ca0, blk3, blk4, blk5]
      simp only [DV1_at]
      rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := cb_val 3 d
    repeat refine (skip2 _ _ _ _ _ (by omega)).trans ?_
    refine (hit2 _ _ _ _ _ r d (by omega) (by omega)).trans ?_
    rw [DV1_load m c t 3 _ _ _ _ _ ?_ ?_ ?_ ?_]
    · open_payloads
      pointwise
      simp only [col0, col1, col2, col3, cb0, cb1, cb2, cb3, blk0_b, blk1_g, blk2_g, blk6_g, blk7_g, blk8, blk9, blk10_g, blk0_a, ca0, blk3, blk4, blk5]
      simp only [DV1_at]
      rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl

theorem dzLB (t : Fin cfg0.N) (h0 : ¬ t.val % 16 = 0) (h1 : ¬ t.val % 16 = 15) (r : Fin 512) (g : Fin 4) (d : Fin 128) :
    (outsAt0 m c t.val t.isLt).2.1 (ix2 r (lcol g d)) = du (args m c) (at_ t r) g d := by
  obtain ⟨n, a, rfl⟩ : ∃ n a, r = col n a := ⟨_, _, col_eq r⟩
  rw [du, v2_at, Gen.outsAt0_B m c t h0 h1]
  frame_open
  simp (disch := decide) only [↓ View.readCov_skip, ↓ View.readCov_cons_toLoadRect, ↓ View.readCov_fill]
  frame_out
  try simp only [read_unread_whole]
  obtain rfl | rfl | rfl | rfl := four g
  · have hk := lcol_val 0 d
    obtain rfl | rfl | rfl | rfl := four n
    · have hn := col_val 0 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 1 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 2 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 3 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := lcol_val 1 d
    obtain rfl | rfl | rfl | rfl := four n
    · have hn := col_val 0 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 1 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 2 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 3 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := lcol_val 2 d
    obtain rfl | rfl | rfl | rfl := four n
    · have hn := col_val 0 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 1 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 2 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 3 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := lcol_val 3 d
    obtain rfl | rfl | rfl | rfl := four n
    · have hn := col_val 0 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 1 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 2 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 3 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl

theorem dzRB (t : Fin cfg0.N) (h0 : ¬ t.val % 16 = 0) (h1 : ¬ t.val % 16 = 15) (r : Fin 512) (g : Fin 4) (d : Fin 128) :
    (outsAt0 m c t.val t.isLt).2.1 (ix2 r (cb g d)) = dv (args m c) (at_ t r) g d := by
  rw [dv, Gen.outsAt0_B m c t h0 h1]
  frame_open
  simp (disch := decide) only [↓ View.readCov_skip, ↓ View.readCov_cons_toLoadRect, ↓ View.readCov_fill]
  frame_out
  try simp only [read_unread_whole]
  obtain rfl | rfl | rfl | rfl := four g
  · have hk := cb_val 0 d
    repeat refine (skip2 _ _ _ _ _ (by omega)).trans ?_
    refine (hit2 _ _ _ _ _ r d (by omega) (by omega)).trans ?_
    rw [DV1_load m c t 0 _ _ _ _ _ ?_ ?_ ?_ ?_]
    · open_payloads
      pointwise
      simp only [col0, col1, col2, col3, cb0, cb1, cb2, cb3, blk0_b, blk1_g, blk2_g, blk6_g, blk7_g, blk8, blk9, blk10_g, blk0_a, ca0, blk3, blk4, blk5]
      simp only [DV1_at]
      rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := cb_val 1 d
    repeat refine (skip2 _ _ _ _ _ (by omega)).trans ?_
    refine (hit2 _ _ _ _ _ r d (by omega) (by omega)).trans ?_
    rw [DV1_load m c t 1 _ _ _ _ _ ?_ ?_ ?_ ?_]
    · open_payloads
      pointwise
      simp only [col0, col1, col2, col3, cb0, cb1, cb2, cb3, blk0_b, blk1_g, blk2_g, blk6_g, blk7_g, blk8, blk9, blk10_g, blk0_a, ca0, blk3, blk4, blk5]
      simp only [DV1_at]
      rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := cb_val 2 d
    repeat refine (skip2 _ _ _ _ _ (by omega)).trans ?_
    refine (hit2 _ _ _ _ _ r d (by omega) (by omega)).trans ?_
    rw [DV1_load m c t 2 _ _ _ _ _ ?_ ?_ ?_ ?_]
    · open_payloads
      pointwise
      simp only [col0, col1, col2, col3, cb0, cb1, cb2, cb3, blk0_b, blk1_g, blk2_g, blk6_g, blk7_g, blk8, blk9, blk10_g, blk0_a, ca0, blk3, blk4, blk5]
      simp only [DV1_at]
      rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := cb_val 3 d
    repeat refine (skip2 _ _ _ _ _ (by omega)).trans ?_
    refine (hit2 _ _ _ _ _ r d (by omega) (by omega)).trans ?_
    rw [DV1_load m c t 3 _ _ _ _ _ ?_ ?_ ?_ ?_]
    · open_payloads
      pointwise
      simp only [col0, col1, col2, col3, cb0, cb1, cb2, cb3, blk0_b, blk1_g, blk2_g, blk6_g, blk7_g, blk8, blk9, blk10_g, blk0_a, ca0, blk3, blk4, blk5]
      simp only [DV1_at]
      rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl

theorem dzLC (t : Fin cfg0.N) (h0 : ¬ t.val % 16 = 0) (h1 : t.val % 16 = 15) (r : Fin 512) (g : Fin 4) (d : Fin 128) :
    (outsAt0 m c t.val t.isLt).2.1 (ix2 r (lcol g d)) = du (args m c) (at_ t r) g d := by
  obtain ⟨n, a, rfl⟩ : ∃ n a, r = col n a := ⟨_, _, col_eq r⟩
  rw [du, v2_at, Gen.outsAt0_C m c t h0 h1]
  frame_open
  simp (disch := decide) only [↓ View.readCov_skip, ↓ View.readCov_cons_toLoadRect, ↓ View.readCov_fill]
  frame_out
  try simp only [read_unread_whole]
  obtain rfl | rfl | rfl | rfl := four g
  · have hk := lcol_val 0 d
    obtain rfl | rfl | rfl | rfl := four n
    · have hn := col_val 0 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 1 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 2 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 3 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := lcol_val 1 d
    obtain rfl | rfl | rfl | rfl := four n
    · have hn := col_val 0 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 1 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 2 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 3 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := lcol_val 2 d
    obtain rfl | rfl | rfl | rfl := four n
    · have hn := col_val 0 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 1 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 2 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 3 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := lcol_val 3 d
    obtain rfl | rfl | rfl | rfl := four n
    · have hn := col_val 0 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 1 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 2 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl
    · have hn := col_val 3 a
      repeat refine (skip2 _ _ _ _ _ (by omega)).trans ?_
      refine (hit2 _ _ _ _ _ a d (by omega) (by omega)).trans ?_
      open_payloads
      pointwise
      simp only [col0, col1, col2, col3, cb0, cb1, cb2, cb3, blk0_b, blk1_g, blk2_g, blk6_g, blk7_g, blk8, blk9, blk10_g, blk0_a, ca0, blk3, blk4, blk5]
      rfl

theorem dzRC (t : Fin cfg0.N) (h0 : ¬ t.val % 16 = 0) (h1 : t.val % 16 = 15) (r : Fin 512) (g : Fin 4) (d : Fin 128) :
    (outsAt0 m c t.val t.isLt).2.1 (ix2 r (cb g d)) = dv (args m c) (at_ t r) g d := by
  rw [dv, Gen.outsAt0_C m c t h0 h1]
  frame_open
  simp (disch := decide) only [↓ View.readCov_skip, ↓ View.readCov_cons_toLoadRect, ↓ View.readCov_fill]
  frame_out
  try simp only [read_unread_whole]
  obtain rfl | rfl | rfl | rfl := four g
  · have hk := cb_val 0 d
    repeat refine (skip2 _ _ _ _ _ (by omega)).trans ?_
    refine (hit2 _ _ _ _ _ r d (by omega) (by omega)).trans ?_
    rw [DV1_load m c t 0 _ _ _ _ _ ?_ ?_ ?_ ?_]
    · open_payloads
      pointwise
      simp only [col0, col1, col2, col3, cb0, cb1, cb2, cb3, blk0_b, blk1_g, blk2_g, blk6_g, blk7_g, blk8, blk9, blk10_g, blk0_a, ca0, blk3, blk4, blk5]
      simp only [DV1_at]
      rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := cb_val 1 d
    repeat refine (skip2 _ _ _ _ _ (by omega)).trans ?_
    refine (hit2 _ _ _ _ _ r d (by omega) (by omega)).trans ?_
    rw [DV1_load m c t 1 _ _ _ _ _ ?_ ?_ ?_ ?_]
    · open_payloads
      pointwise
      simp only [col0, col1, col2, col3, cb0, cb1, cb2, cb3, blk0_b, blk1_g, blk2_g, blk6_g, blk7_g, blk8, blk9, blk10_g, blk0_a, ca0, blk3, blk4, blk5]
      simp only [DV1_at]
      rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := cb_val 2 d
    repeat refine (skip2 _ _ _ _ _ (by omega)).trans ?_
    refine (hit2 _ _ _ _ _ r d (by omega) (by omega)).trans ?_
    rw [DV1_load m c t 2 _ _ _ _ _ ?_ ?_ ?_ ?_]
    · open_payloads
      pointwise
      simp only [col0, col1, col2, col3, cb0, cb1, cb2, cb3, blk0_b, blk1_g, blk2_g, blk6_g, blk7_g, blk8, blk9, blk10_g, blk0_a, ca0, blk3, blk4, blk5]
      simp only [DV1_at]
      rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl
  · have hk := cb_val 3 d
    repeat refine (skip2 _ _ _ _ _ (by omega)).trans ?_
    refine (hit2 _ _ _ _ _ r d (by omega) (by omega)).trans ?_
    rw [DV1_load m c t 3 _ _ _ _ _ ?_ ?_ ?_ ?_]
    · open_payloads
      pointwise
      simp only [col0, col1, col2, col3, cb0, cb1, cb2, cb3, blk0_b, blk1_g, blk2_g, blk6_g, blk7_g, blk8, blk9, blk10_g, blk0_a, ca0, blk3, blk4, blk5]
      simp only [DV1_at]
      rfl
    all_goals
      intro a d
      rw [dv1_at]
      open_payloads
      pointwise
      simp only [col0, col1, col2, col3, cb0, cb1, cb2, cb3, blk0_b, blk1_g, blk2_g, blk6_g, blk7_g, blk8, blk9, blk10_g, blk0_a, ca0, blk3, blk4, blk5]
      rfl

end Cert.RowsIdeal.Formula

end
-- ==== Proof.RowsBias.lean ====
/- What each grid point adds to the bias's carried block, in each of the three cases of the grid. -/
module

public import proofs.«01_k».proof.Proof.RowsBlocks

@[expose] public section

set_option maxRecDepth 16384

noncomputable section

namespace Cert.RowsIdeal.Formula

open Cert.RowsIdeal Cert.RowsIdeal.Gen Idealize.ShloMosaic Idealize.ShloMosaic.TcCoe Idealize.SL.Sem Cert.RowsMath Cert.LayerNorm Cert.Pieces

variable (m : (ℓ : Loc nD τ sig) → Buf (Elt Ideal) ℓ) (c : Dev nD)

/-- What a grid point adds to the bias's carried block. -/
def termB (t : Fin cfg0.N) (a : Fin 128) (g : Fin 4) (d : Fin 128) : EReal := ∑ n : Fin 4, dv2 (args m c) (at_ t (col n a)) g d

theorem tBB (t : Fin cfg0.N) (h0 : ¬ t.val % 16 = 0) (h1 : ¬ t.val % 16 = 15) (a : Fin 128) (k : Fin 512) :
    (outsAt0 m c t.val t.isLt).2.2.2.2.2.2.2.2 (ix2 a k) = (outsAt0 m c (t.val - 1) (by omega)).2.2.2.2.2.2.2.2 (ix2 a k) + termB m c t a (grp k) (lane k) := by
  rw [termB, Fin.sum_univ_four]
  obtain ⟨g, d, rfl⟩ : ∃ g d, k = col g d := ⟨_, _, col_eq k⟩
  rw [grp_col, lane_col]
  rw [Gen.outsAt0_B m c t h0 h1]
  frame_open
  simp (disch := decide) only [↓ View.readCov_skip, ↓ View.readCov_cons_toLoadRect, ↓ View.readCov_fill]
  frame_out
  try simp only [read_unread_whole]
  obtain rfl | rfl | rfl | rfl := four g
  · have hk := col_val 0 d
    repeat refine (skip2 _ _ _ _ _ (by omega)).trans ?_
    refine (hit2 _ _ _ _ _ a d (Nat.zero_add _).symm (by omega)).trans ?_
    open_payloads
    pointwise
    simp only [col0, col1, col2, col3, cb0, cb1, cb2, cb3, blk0_b, blk1_g, blk2_g, blk6_g, blk7_g, blk8, blk9, blk10_g, blk0_a, ca0, blk3, blk4, blk5]
    try simp only [← add_assoc]
    rfl
  · have hk := col_val 1 d
    repeat refine (skip2 _ _ _ _ _ (by omega)).trans ?_
    refine (hit2 _ _ _ _ _ a d (Nat.zero_add _).symm (by omega)).trans ?_
    open_payloads
    pointwise
    simp only [col0, col1, col2, col3, cb0, cb1, cb2, cb3, blk0_b, blk1_g, blk2_g, blk6_g, blk7_g, blk8, blk9, blk10_g, blk0_a, ca0, blk3, blk4, blk5]
    try simp only [← add_assoc]
    rfl
  · have hk := col_val 2 d
    repeat refine (skip2 _ _ _ _ _ (by omega)).trans ?_
    refine (hit2 _ _ _ _ _ a d (Nat.zero_add _).symm (by omega)).trans ?_
    open_payloads
    pointwise
    simp only [col0, col1, col2, col3, cb0, cb1, cb2, cb3, blk0_b, blk1_g, blk2_g, blk6_g, blk7_g, blk8, blk9, blk10_g, blk0_a, ca0, blk3, blk4, blk5]
    try simp only [← add_assoc]
    rfl
  · have hk := col_val 3 d
    repeat refine (skip2 _ _ _ _ _ (by omega)).trans ?_
    refine (hit2 _ _ _ _ _ a d (Nat.zero_add _).symm (by omega)).trans ?_
    open_payloads
    pointwise
    simp only [col0, col1, col2, col3, cb0, cb1, cb2, cb3, blk0_b, blk1_g, blk2_g, blk6_g, blk7_g, blk8, blk9, blk10_g, blk0_a, ca0, blk3, blk4, blk5]
    try simp only [← add_assoc]
    rfl

theorem tBC (t : Fin cfg0.N) (h0 : ¬ t.val % 16 = 0) (h1 : t.val % 16 = 15) (a : Fin 128) (k : Fin 512) :
    (outsAt0 m c t.val t.isLt).2.2.2.2.2.2.2.2 (ix2 a k) = (outsAt0 m c (t.val - 1) (by omega)).2.2.2.2.2.2.2.2 (ix2 a k) + termB m c t a (grp k) (lane k) := by
  rw [termB, Fin.sum_univ_four]
  obtain ⟨g, d, rfl⟩ : ∃ g d, k = col g d := ⟨_, _, col_eq k⟩
  rw [grp_col, lane_col]
  rw [Gen.outsAt0_C m c t h0 h1]
  frame_open
  simp (disch := decide) only [↓ View.readCov_skip, ↓ View.readCov_cons_toLoadRect, ↓ View.readCov_fill]
  frame_out
  try simp only [read_unread_whole]
  obtain rfl | rfl | rfl | rfl := four g
  · have hk := col_val 0 d
    repeat refine (skip2 _ _ _ _ _ (by omega)).trans ?_
    refine (hit2 _ _ _ _ _ a d (Nat.zero_add _).symm (by omega)).trans ?_
    open_payloads
    pointwise
    simp only [col0, col1, col2, col3, cb0, cb1, cb2, cb3, blk0_b, blk1_g, blk2_g, blk6_g, blk7_g, blk8, blk9, blk10_g, blk0_a, ca0, blk3, blk4, blk5]
    try simp only [← add_assoc]
    rfl
  · have hk := col_val 1 d
    repeat refine (skip2 _ _ _ _ _ (by omega)).trans ?_
    refine (hit2 _ _ _ _ _ a d (Nat.zero_add _).symm (by omega)).trans ?_
    open_payloads
    pointwise
    simp only [col0, col1, col2, col3, cb0, cb1, cb2, cb3, blk0_b, blk1_g, blk2_g, blk6_g, blk7_g, blk8, blk9, blk10_g, blk0_a, ca0, blk3, blk4, blk5]
    try simp only [← add_assoc]
    rfl
  · have hk := col_val 2 d
    repeat refine (skip2 _ _ _ _ _ (by omega)).trans ?_
    refine (hit2 _ _ _ _ _ a d (Nat.zero_add _).symm (by omega)).trans ?_
    open_payloads
    pointwise
    simp only [col0, col1, col2, col3, cb0, cb1, cb2, cb3, blk0_b, blk1_g, blk2_g, blk6_g, blk7_g, blk8, blk9, blk10_g, blk0_a, ca0, blk3, blk4, blk5]
    try simp only [← add_assoc]
    rfl
  · have hk := col_val 3 d
    repeat refine (skip2 _ _ _ _ _ (by omega)).trans ?_
    refine (hit2 _ _ _ _ _ a d (Nat.zero_add _).symm (by omega)).trans ?_
    open_payloads
    pointwise
    simp only [col0, col1, col2, col3, cb0, cb1, cb2, cb3, blk0_b, blk1_g, blk2_g, blk6_g, blk7_g, blk8, blk9, blk10_g, blk0_a, ca0, blk3, blk4, blk5]
    try simp only [← add_assoc]
    rfl

theorem tBA (t : Fin cfg0.N) (h0 : t.val % 16 = 0) (h1 : ¬ t.val % 16 = 15) (a : Fin 128) (k : Fin 512) :
    (outsAt0 m c t.val t.isLt).2.2.2.2.2.2.2.2 (ix2 a k) = 0 + termB m c t a (grp k) (lane k) := by
  rw [termB, Fin.sum_univ_four]
  obtain ⟨g, d, rfl⟩ : ∃ g d, k = col g d := ⟨_, _, col_eq k⟩
  rw [grp_col, lane_col]
  rw [Gen.outsAt0_A m c t h0 h1]
  frame_open
  simp (disch := decide) only [↓ View.readCov_skip, ↓ View.readCov_cons_toLoadRect, ↓ View.readCov_fill]
  frame_out
  try simp only [read_unread_whole]
  obtain rfl | rfl | rfl | rfl := four g
  · have hk := col_val 0 d
    repeat refine (skip2 _ _ _ _ _ (by omega)).trans ?_
    refine (hit2 _ _ _ _ _ a d (Nat.zero_add _).symm (by omega)).trans ?_
    open_payloads
    pointwise
    simp only [col0, col1, col2, col3, cb0, cb1, cb2, cb3, blk0_b, blk1_g, blk2_g, blk6_g, blk7_g, blk8, blk9, blk10_g, blk0_a, ca0, blk3, blk4, blk5]
    try simp only [← add_assoc]

    rfl
  · have hk := col_val 1 d
    repeat refine (skip2 _ _ _ _ _ (by omega)).trans ?_
    refine (hit2 _ _ _ _ _ a d (Nat.zero_add _).symm (by omega)).trans ?_
    open_payloads
    pointwise
    simp only [col0, col1, col2, col3, cb0, cb1, cb2, cb3, blk0_b, blk1_g, blk2_g, blk6_g, blk7_g, blk8, blk9, blk10_g, blk0_a, ca0, blk3, blk4, blk5]
    try simp only [← add_assoc]

    rfl
  · have hk := col_val 2 d
    repeat refine (skip2 _ _ _ _ _ (by omega)).trans ?_
    refine (hit2 _ _ _ _ _ a d (Nat.zero_add _).symm (by omega)).trans ?_
    open_payloads
    pointwise
    simp only [col0, col1, col2, col3, cb0, cb1, cb2, cb3, blk0_b, blk1_g, blk2_g, blk6_g, blk7_g, blk8, blk9, blk10_g, blk0_a, ca0, blk3, blk4, blk5]
    try simp only [← add_assoc]

    rfl
  · have hk := col_val 3 d
    repeat refine (skip2 _ _ _ _ _ (by omega)).trans ?_
    refine (hit2 _ _ _ _ _ a d (Nat.zero_add _).symm (by omega)).trans ?_
    open_payloads
    pointwise
    simp only [col0, col1, col2, col3, cb0, cb1, cb2, cb3, blk0_b, blk1_g, blk2_g, blk6_g, blk7_g, blk8, blk9, blk10_g, blk0_a, ca0, blk3, blk4, blk5]
    try simp only [← add_assoc]

    rfl

end Cert.RowsIdeal.Formula

end
-- ==== Proof.RowsBiasSum.lean ====
/- The bias's gradient, summed over the lanes by the last grid point. -/
module

public import proofs.«01_k».proof.Proof.RowsBias

@[expose] public section

set_option maxRecDepth 16384

noncomputable section

namespace Cert.RowsIdeal.Formula

open Cert.RowsIdeal Cert.RowsIdeal.Gen Idealize.ShloMosaic Idealize.ShloMosaic.TcCoe Idealize.SL.Sem Cert.RowsMath Cert.LayerNorm Cert.Gate Cert.Pieces

variable (m : (ℓ : Loc nD τ sig) → Buf (Elt Ideal) ℓ) (c : Dev nD)

/-- The last point's sums of the bias's carried block. -/
theorem tSBC (t : Fin cfg0.N) (h0 : ¬ t.val % 16 = 0) (h1 : t.val % 16 = 15) (a : Fin 128) (g : Fin 4) :
    (outsAt0 m c t.val t.isLt).2.2.2.2.2.2.2.1 (ix2 a g)
      = ∑ d : Fin 128, (outsAt0 m c t.val t.isLt).2.2.2.2.2.2.2.2 (ix2 a (col g d)) := by
  simp only [tBC m c t h0 h1, grp_col, lane_col, termB, Fin.sum_univ_four]
  rw [Gen.outsAt0_C m c t h0 h1]
  frame_open
  simp (disch := decide) only [↓ View.readCov_skip, ↓ View.readCov_cons_toLoadRect, ↓ View.readCov_fill]
  frame_out
  try simp only [read_unread_whole]
  open_payloads
  pointwise
  simp only [col0, col1, col2, col3, cb0, cb1, cb2, cb3, blk0_b, blk1_g, blk2_g, blk6_g, blk7_g, blk8, blk9, blk10_g, blk0_a, ca0, blk3, blk4, blk5]
  obtain rfl | rfl | rfl | rfl := four g
  · have e0 (x : EReal) : Scalar.select (IntOp.cmpi CmpIPredicate.eq (BitVec.ofNat 32 (0 : Fin 4).val) 0#32) x 0 = x := rfl
    have e1 (x : EReal) : Scalar.select (IntOp.cmpi CmpIPredicate.eq (BitVec.ofNat 32 (0 : Fin 4).val) 1#32) x 0 = 0 := rfl
    have e2 (x : EReal) : Scalar.select (IntOp.cmpi CmpIPredicate.eq (BitVec.ofNat 32 (0 : Fin 4).val) 2#32) x 0 = 0 := rfl
    have e3 (x : EReal) : Scalar.select (IntOp.cmpi CmpIPredicate.eq (BitVec.ofNat 32 (0 : Fin 4).val) 3#32) x 0 = 0 := rfl
    rw [e0, e1, e2, e3]
    simp only [add_zero, zero_add, ← add_assoc]
    rfl
  · have e0 (x : EReal) : Scalar.select (IntOp.cmpi CmpIPredicate.eq (BitVec.ofNat 32 (1 : Fin 4).val) 0#32) x 0 = 0 := rfl
    have e1 (x : EReal) : Scalar.select (IntOp.cmpi CmpIPredicate.eq (BitVec.ofNat 32 (1 : Fin 4).val) 1#32) x 0 = x := rfl
    have e2 (x : EReal) : Scalar.select (IntOp.cmpi CmpIPredicate.eq (BitVec.ofNat 32 (1 : Fin 4).val) 2#32) x 0 = 0 := rfl
    have e3 (x : EReal) : Scalar.select (IntOp.cmpi CmpIPredicate.eq (BitVec.ofNat 32 (1 : Fin 4).val) 3#32) x 0 = 0 := rfl
    rw [e0, e1, e2, e3]
    simp only [add_zero, zero_add, ← add_assoc]
    rfl
  · have e0 (x : EReal) : Scalar.select (IntOp.cmpi CmpIPredicate.eq (BitVec.ofNat 32 (2 : Fin 4).val) 0#32) x 0 = 0 := rfl
    have e1 (x : EReal) : Scalar.select (IntOp.cmpi CmpIPredicate.eq (BitVec.ofNat 32 (2 : Fin 4).val) 1#32) x 0 = 0 := rfl
    have e2 (x : EReal) : Scalar.select (IntOp.cmpi CmpIPredicate.eq (BitVec.ofNat 32 (2 : Fin 4).val) 2#32) x 0 = x := rfl
    have e3 (x : EReal) : Scalar.select (IntOp.cmpi CmpIPredicate.eq (BitVec.ofNat 32 (2 : Fin 4).val) 3#32) x 0 = 0 := rfl
    rw [e0, e1, e2, e3]
    simp only [add_zero, zero_add, ← add_assoc]
    rfl
  · have e0 (x : EReal) : Scalar.select (IntOp.cmpi CmpIPredicate.eq (BitVec.ofNat 32 (3 : Fin 4).val) 0#32) x 0 = 0 := rfl
    have e1 (x : EReal) : Scalar.select (IntOp.cmpi CmpIPredicate.eq (BitVec.ofNat 32 (3 : Fin 4).val) 1#32) x 0 = 0 := rfl
    have e2 (x : EReal) : Scalar.select (IntOp.cmpi CmpIPredicate.eq (BitVec.ofNat 32 (3 : Fin 4).val) 2#32) x 0 = 0 := rfl
    have e3 (x : EReal) : Scalar.select (IntOp.cmpi CmpIPredicate.eq (BitVec.ofNat 32 (3 : Fin 4).val) 3#32) x 0 = x := rfl
    rw [e0, e1, e2, e3]
    simp only [add_zero, zero_add, ← add_assoc]
    rfl

end Cert.RowsIdeal.Formula

end
-- ==== Proof.RowsKernel.lean ====
/- What `mix_bwd_rows` writes: its eight results over the whole arrays, from what each grid point leaves. -/
module

public import proofs.«01_k».proof.Proof.RowsNorm
public import proofs.«01_k».proof.Proof.RowsMix
public import proofs.«01_k».proof.Proof.RowsGate
public import proofs.«01_k».proof.Proof.RowsBiasSum

@[expose] public section

set_option maxRecDepth 16384

noncomputable section

namespace Cert.RowsIdeal.Formula

open Cert.RowsIdeal Cert.RowsIdeal.Gen Idealize.ShloMosaic Idealize.ShloMosaic.TcCoe Idealize.SL.Sem Cert.RowsMath Cert.LayerNorm Cert.Pieces

variable (m : (ℓ : Loc nD τ sig) → Buf (Elt Ideal) ℓ) (c : Dev nD)

def outA (p : S8192x512.Idx) : EReal := da1 (args m c) (p 0) (p 1)

/-- The two halves of the spatial gate's gradient side by side. -/
def outZ (p : S8192x1024.Idx) : EReal :=
  if h : (p 1).val < 512 then du (args m c) (p 0) (grp ⟨(p 1).val, h⟩) (lane ⟨(p 1).val, h⟩)
  else dv (args m c) (p 0) (grp ⟨(p 1).val - 512, by have : (p 1).val < 1024 := (p 1).isLt; omega⟩)
    (lane ⟨(p 1).val - 512, by have : (p 1).val < 1024 := (p 1).isLt; omega⟩)

/-- Row `a` of a grid point's chunk `n` is row `a` of a chunk of the whole. -/
theorem at_col (t : Fin cfg0.N) (n : Fin 4) (a : Fin 128) (h : t.val * 4 + n.val < 64) : at_ t (col n a) = chunk ⟨t.val * 4 + n.val, h⟩ a :=
  Fin.ext (by show t.val * 512 + (n.val * 128 + a.val) = (t.val * 4 + n.val) * 128 + a.val; omega)

theorem finalA : (dats m 0 c).arrAt 11 cfg0.N = outA m c := by
  refine (dats m 0 c).arrAt_eq_of_covers 11 _ (by decide +kernel) fun t hf y => ?_
  blk_simp
  have e : ((View.whole main_v247_0).slice (win0_11.rect t)).emb y = ix2 (at_ t (y 0)) (y 1) := by
    blk_ext [idx t]; rfl
  rw [after0_11, e]
  idx_vars y
  by_cases h0 : t.val % 16 = 0
  · exact da1A m c t h0 (by omega) _ _
  · by_cases h1 : t.val % 16 = 15
    · exact da1C m c t h0 h1 _ _
    · exact da1B m c t h0 h1 _ _

theorem finalG : (dats m 0 c).arrAt 13 cfg0.N = (fun p => dlag (args m c) (p 1) : FVec Ideal S1x512 .f32) := by
  refine (dats m 0 c).arrAt_eq_of_after_last 13 t0_15 (by decide +kernel) _ fun y => ?_
  blk_simp
  rw [after0_13, Pipeline.eq_sum_fin_of_reset_step_apply_last (fun n h => (outsAt0 m c n h).2.2.1) 16 (fun _ => 0)
    (fun t y => termG m c t (y 1))
    (fun t h y => by
      idx_vars y
      obtain rfl : y0 = 0 := Subsingleton.elim _ _
      exact tGA m c t h (by omega) _)
    (fun t h y => by
      idx_vars y
      obtain rfl : y0 = 0 := Subsingleton.elim _ _
      by_cases h1 : t.val % 16 = 15
      · exact tGC m c t h h1 _
      · exact tGB m c t h h1 _)
    (le_of_eq N_0) t0_15 rfl y, zero_add]
  show (_ : EReal) = _
  exact Fin.sum_mul_add_fin 16 512 (fun i : Fin 8192 => dy (args m c) i (y 1) * xh L ((args m c).a i) (y 1)) rfl

theorem finalS : (dats m 0 c).arrAt 14 cfg0.N = (fun p => dlab (args m c) (p 1) : FVec Ideal S1x512 .f32) := by
  refine (dats m 0 c).arrAt_eq_of_after_last 14 t0_15 (by decide +kernel) _ fun y => ?_
  blk_simp
  rw [after0_14, Pipeline.eq_sum_fin_of_reset_step_apply_last (fun n h => (outsAt0 m c n h).2.2.2.1) 16 (fun _ => 0)
    (fun t y => termS m c t (y 1))
    (fun t h y => by
      idx_vars y
      obtain rfl : y0 = 0 := Subsingleton.elim _ _
      exact tSA m c t h (by omega) _)
    (fun t h y => by
      idx_vars y
      obtain rfl : y0 = 0 := Subsingleton.elim _ _
      by_cases h1 : t.val % 16 = 15
      · exact tSC m c t h h1 _
      · exact tSB m c t h h1 _)
    (le_of_eq N_0) t0_15 rfl y, zero_add]
  show (_ : EReal) = _
  exact Fin.sum_mul_add_fin 16 512 (fun i : Fin 8192 => dy (args m c) i (y 1)) rfl

theorem finalVG : (dats m 0 c).arrAt 15 cfg0.N = (fun p => dlvg (args m c) (grp (p 1)) (lane (p 1)) : FVec Ideal S1x512 .f32) := by
  refine (dats m 0 c).arrAt_eq_of_after_last 15 t0_15 (by decide +kernel) _ fun y => ?_
  blk_simp
  rw [after0_15, Pipeline.eq_sum_fin_of_reset_step_apply_last (fun n h => (outsAt0 m c n h).2.2.2.2.1) 16 (fun _ => 0)
    (fun t y => termVG m c t (grp (y 1)) (lane (y 1)))
    (fun t h y => by
      idx_vars y
      obtain rfl : y0 = 0 := Subsingleton.elim _ _
      exact tVGA m c t h (by omega) _)
    (fun t h y => by
      idx_vars y
      obtain rfl : y0 = 0 := Subsingleton.elim _ _
      by_cases h1 : t.val % 16 = 15
      · exact tVGC m c t h h1 _
      · exact tVGB m c t h h1 _)
    (le_of_eq N_0) t0_15 rfl y, zero_add]
  show (_ : EReal) = _
  exact Fin.sum_mul_add_fin 16 512 (fun i : Fin 8192 => dv1 (args m c) i (grp (y 1)) (lane (y 1)) * xh L' ((args m c).v i (grp (y 1))) (lane (y 1))) rfl

theorem finalVB : (dats m 0 c).arrAt 16 cfg0.N = (fun p => dlvb (args m c) (grp (p 1)) (lane (p 1)) : FVec Ideal S1x512 .f32) := by
  refine (dats m 0 c).arrAt_eq_of_after_last 16 t0_15 (by decide +kernel) _ fun y => ?_
  blk_simp
  rw [after0_16, Pipeline.eq_sum_fin_of_reset_step_apply_last (fun n h => (outsAt0 m c n h).2.2.2.2.2.1) 16 (fun _ => 0)
    (fun t y => termVB m c t (grp (y 1)) (lane (y 1)))
    (fun t h y => by
      idx_vars y
      obtain rfl : y0 = 0 := Subsingleton.elim _ _
      exact tVBA m c t h (by omega) _)
    (fun t h y => by
      idx_vars y
      obtain rfl : y0 = 0 := Subsingleton.elim _ _
      by_cases h1 : t.val % 16 = 15
      · exact tVBC m c t h h1 _
      · exact tVBB m c t h h1 _)
    (le_of_eq N_0) t0_15 rfl y, zero_add]
  show (_ : EReal) = _
  exact Fin.sum_mul_add_fin 16 512 (fun i : Fin 8192 => dv1 (args m c) i (grp (y 1)) (lane (y 1))) rfl

/-- A chunk's part of the gradient of the mixing matrices. -/
def mixAt (g : Fin 4) (a b : Fin 128) (n : Fin 64) : EReal :=
  if b.val ≤ a.val then ∑ d : Fin 128, dv2 (args m c) (chunk n a) g d * v1 (args m c) (chunk n b) g d else 0

theorem termW_eq (t : Fin cfg0.N) (g : Fin 4) (a b : Fin 128) (h : t.val < 16) :
    termW m c t g a b = ∑ n : Fin 4, mixAt m c g a b ⟨t.val * 4 + n.val, by omega⟩ :=
  Finset.sum_congr rfl fun n _ => by simp only [mixAt, at_col t n _ (by omega)]

theorem finalW : (dats m 0 c).arrAt 17 cfg0.N = (fun p => dws (args m c) (p 0) (p 1) (p 2) : FVec Ideal S4x128x128 .f32) := by
  refine (dats m 0 c).arrAt_eq_of_after_last 17 t0_15 (by decide +kernel) _ fun y => ?_
  blk_simp
  rw [after0_17, Pipeline.eq_sum_fin_of_reset_step_apply_last (fun n h => (outsAt0 m c n h).2.2.2.2.2.2.1) 16 (fun _ => 0)
    (fun t y => termW m c t (y 0) (y 1) (y 2))
    (fun t h y => by
      idx_vars y
      exact tWA m c t h (by omega) _ _ _)
    (fun t h y => by
      idx_vars y
      by_cases h1 : t.val % 16 = 15
      · exact tWC m c t h h1 _ _ _
      · exact tWB m c t h h1 _ _ _)
    (le_of_eq N_0) t0_15 rfl y, zero_add]
  show (_ : EReal) = dws (args m c) (y 0) (y 1) (y 2)
  refine (Finset.sum_congr rfl fun t _ => termW_eq m c _ _ _ _ t.isLt).trans ?_
  refine (Fin.sum_mul_add_fin 16 4 (mixAt m c (y 0) (y 1) (y 2)) rfl).trans ?_
  unfold mixAt dws
  by_cases h : (y 2).val ≤ (y 1).val
  · simp only [if_pos h]
  · simp only [if_neg h, Finset.sum_const_zero]

theorem termB_eq (t : Fin cfg0.N) (a : Fin 128) (g : Fin 4) (d : Fin 128) (h : t.val < 16) :
    termB m c t a g d = ∑ n : Fin 4, dv2 (args m c) (chunk ⟨t.val * 4 + n.val, by omega⟩ a) g d :=
  Finset.sum_congr rfl fun n _ => by rw [at_col t n _ (by omega)]

/-- The bias's carried block after the last point. -/
theorem carried (y : S128x512.Idx) :
    (outsAt0 m c t0_15.val t0_15.isLt).2.2.2.2.2.2.2.2 y = ∑ n : Fin 64, dv2 (args m c) (chunk n (y 0)) (grp (y 1)) (lane (y 1)) := by
  rw [Pipeline.eq_sum_fin_of_reset_step_apply_last (fun n h => (outsAt0 m c n h).2.2.2.2.2.2.2.2) 16 (fun _ => 0)
    (fun t y => termB m c t (y 0) (grp (y 1)) (lane (y 1)))
    (fun t h y => by
      idx_vars y
      exact tBA m c t h (by omega) _ _)
    (fun t h y => by
      idx_vars y
      by_cases h1 : t.val % 16 = 15
      · exact tBC m c t h h1 _ _
      · exact tBB m c t h h1 _ _)
    (le_of_eq N_0) t0_15 rfl y, zero_add]
  refine (Finset.sum_congr rfl fun t _ => termB_eq m c _ _ _ _ t.isLt).trans ?_
  exact Fin.sum_mul_add_fin 16 4 (fun n : Fin 64 => dv2 (args m c) (chunk n (y 0)) (grp (y 1)) (lane (y 1))) rfl

theorem finalB : (dats m 0 c).arrAt 18 cfg0.N = (fun p => dsb (args m c) (p 0) (p 1) : FVec Ideal S128x4 .f32) := by
  refine (dats m 0 c).arrAt_eq_of_after_last 18 t0_15 (by decide +kernel) _ fun y => ?_
  blk_simp
  rw [after0_18]
  idx_vars y
  refine (tSBC m c t0_15 (by decide) (by decide) _ _).trans ?_
  exact Finset.sum_congr rfl fun d _ => by rw [carried]; simp only [ix2_0, ix2_1, grp_col, lane_col]

theorem finalZ : (dats m 0 c).arrAt 12 cfg0.N = outZ m c := by
  refine (dats m 0 c).arrAt_eq_of_covers 12 _ (by decide +kernel) fun t hf y => ?_
  blk_simp
  have e : ((View.whole main_v247_1).slice (win0_12.rect t)).emb y = ix2 (at_ t (y 0)) (y 1) := by
    blk_ext [idx t]; rfl
  rw [after0_12, e]
  idx_vars y
  unfold outZ
  show _ = if h : y1.val < 512 then du (args m c) (at_ t y0) (grp ⟨y1.val, h⟩) (lane ⟨y1.val, h⟩)
    else dv (args m c) (at_ t y0) (grp ⟨y1.val - 512, by omega⟩) (lane ⟨y1.val - 512, by omega⟩)
  by_cases h : y1.val < 512
  · rw [dif_pos h]
    have hl : y1 = lcol (grp ⟨y1.val, h⟩) (lane ⟨y1.val, h⟩) :=
      Fin.ext (by show y1.val = y1.val / 128 * 128 + y1.val % 128; omega)
    conv_lhs => rw [hl]
    by_cases h0 : t.val % 16 = 0
    · exact dzLA m c t h0 (by omega) _ _ _
    · by_cases h1 : t.val % 16 = 15
      · exact dzLC m c t h0 h1 _ _ _
      · exact dzLB m c t h0 h1 _ _ _
  · rw [dif_neg h]
    have hr : y1 = cb (grp ⟨y1.val - 512, by omega⟩) (lane ⟨y1.val - 512, by omega⟩) :=
      Fin.ext (by show y1.val = 512 + (y1.val - 512) / 128 * 128 + (y1.val - 512) % 128; omega)
    conv_lhs => rw [hr]
    by_cases h0 : t.val % 16 = 0
    · exact dzRA m c t h0 (by omega) _ _ _
    · by_cases h1 : t.val % 16 = 15
      · exact dzRC m c t h0 h1 _ _ _
      · exact dzRB m c t h0 h1 _ _ _

end Cert.RowsIdeal.Formula

end
-- ==== Proof.RowsRef.lean ====
/- The eight results of the reference of `mix_bwd_rows`, as formulas over the argument arrays. -/
module

public import proofs.«01_k».proof.Proof.Gen.RowsRefIdeal.Run
public import proofs.«01_k».proof.Proof.RowsMath
public import proofs.«01_k».proof.Proof.ConvRows
public import Idealize.ShloMosaic.Lib.Tactic.CleanTypes

@[expose] public section

set_option maxRecDepth 16384

noncomputable section

namespace Cert.RowsRefIdeal.Formula

open Cert.RowsRefIdeal Idealize.ShloMosaic Idealize.ShloMosaic.TcCoe Idealize.SL.Sem Cert.RowsMath Cert.LayerNorm
open Idealize.ShloMosaic.StableHlo

variable (m : (ℓ : Loc nD τ sig) → Buf (Elt Ideal) ℓ) (c : Dev nD)

/-- A sum over the first and the last of four axes. -/
theorem red03 {n0 n1 n2 n3 : Nat} (h : (⟨4, ![n0, n1, n2, n3]⟩ : Shape).ReducesTo [0, 3] ⟨2, ![n1, n2]⟩)
    (x : (⟨4, ![n0, n1, n2, n3]⟩ : Shape).Idx → EReal) (init : EReal) (i : Fin n1) (j : Fin n2) :
    Ideal.hostReduceAdd h x init (ix2 i j) = init + ∑ a : Fin n0, ∑ b : Fin n3, x (ix4 a i j b) := by
  unfold Ideal.hostReduceAdd
  refine congrArg (init + ·) ?_
  rw [← Fintype.sum_prod_type' (f := fun a b => x (ix4 a i j b))]
  refine Finset.sum_bij' (fun k _ => (k 0, k 3)) (fun q _ => ix4 q.1 i j q.2) (fun _ _ => Finset.mem_univ _) (fun q _ => ?_)
    (fun k hk => ?_) (fun _ _ => rfl) (fun k hk => ?_)
  · refine Finset.mem_filter.mpr ⟨Finset.mem_univ _, ?_⟩
    funext b
    fin_cases b <;> rfl
  · have e := (Finset.mem_filter.mp hk).2
    have e0 : k 1 = i := congrFun e 0
    have e1 : k 2 = j := congrFun e 1
    subst e0 e1
    funext b
    fin_cases b <;> rfl
  · have e := (Finset.mem_filter.mp hk).2
    have e0 : k 1 = i := congrFun e 0
    have e1 : k 2 = j := congrFun e 1
    subst e0 e1
    refine congrArg x ?_
    funext b
    fin_cases b <;> rfl

/-- The convolved half, as the host lines leave it. -/
abbrev A1 : FVec Ideal S8192x512 .f32 := Value.res_main_v233 (launchContents m c)

abbrev Z : FVec Ideal S8192x2048 .f32 := m ((c.tc : Thread nD τ).loc main_arg0)
abbrev LAG : FVec Ideal S512 .f32 := m ((c.tc : Thread nD τ).loc main_arg3)
abbrev LAB : FVec Ideal S512 .f32 := m ((c.tc : Thread nD τ).loc main_arg4)
abbrev LVG : FVec Ideal S4x128 .f32 := m ((c.tc : Thread nD τ).loc main_arg5)
abbrev LVB : FVec Ideal S4x128 .f32 := m ((c.tc : Thread nD τ).loc main_arg6)
abbrev WS : FVec Ideal S4x128x128 .f32 := m ((c.tc : Thread nD τ).loc main_arg7)
abbrev SB : FVec Ideal S4x128 .f32 := m ((c.tc : Thread nD τ).loc main_arg8)
abbrev DC : FVec Ideal S8192x1024 .f32 := m ((c.tc : Thread nD τ).loc main_arg9)

abbrev CW : FVec Ideal S31x512 .f32 := m ((c.tc : Thread nD τ).loc main_arg1)
abbrev CB : FVec Ideal S512 .f32 := m ((c.tc : Thread nD τ).loc main_arg2)

theorem r11 (s : Fin 2) (p : Fin 4126) (k : Fin 512) :
    (Value.res_main_v11 (launchContents m c) : FVec Ideal S2x4126x512 .f32) (ix3 s p k)
      = ConvRows.padded (fun i j => Z m c (ix2 i j)) s p k := by
  unfold Value.res_main_v11
  clean_types
  pointwise
  refine dite_congr rfl (fun _ => rfl) fun h => ?_
  rw [dif_pos p.isLt]
  rfl

theorem r89 (s : Fin 2) (t : Fin 4096) (k : Fin 512) :
    (Value.res_main_v89 (launchContents m c) : FVec Ideal S2x4096x512 .f32) (ix3 s t k)
      = ConvRows.taps (ConvRows.tap (fun i j => Z m c (ix2 i j)) (fun i j => CW m c (ix2 i j)) s t k) 11 := by
  unfold Value.res_main_v89
  clean_types
  pointwise
  simp only [r11]
  simp only [ConvRows.taps, ConvRows.tap, zero_add]
  rfl

theorem r166 (s : Fin 2) (t : Fin 4096) (k : Fin 512) :
    (Value.res_main_v166 (launchContents m c) : FVec Ideal S2x4096x512 .f32) (ix3 s t k)
      = ConvRows.taps (ConvRows.tap (fun i j => Z m c (ix2 i j)) (fun i j => CW m c (ix2 i j)) s t k) 22 := by
  unfold Value.res_main_v166
  clean_types
  pointwise
  simp only [r11, r89]
  simp only [ConvRows.taps, ConvRows.tap, zero_add]
  rfl

theorem r233 (i : Fin 8192) (k : Fin 512) :
    A1 m c (ix2 i k) = ConvRows.rows (fun i j => Z m c (ix2 i j)) (fun i j => CW m c (ix2 i j)) (fun j => CB m c (ix1 j)) i k := by
  unfold A1 Value.res_main_v233
  clean_types
  pointwise
  simp only [r11, r166]
  unfold ConvRows.rows ConvRows.conv
  simp only [ConvRows.taps, ConvRows.tap, zero_add]
  rfl

/-- Columns of the gate's two halves and of the cotangent's two halves. -/
def cu (g : Fin 4) (d : Fin 128) : Fin 2048 := ⟨1024 + (g.val * 128 + d.val), by omega⟩
def cv (g : Fin 4) (d : Fin 128) : Fin 2048 := ⟨1024 + (512 + (g.val * 128 + d.val)), by omega⟩
def ca (k : Fin 512) : Fin 1024 := ⟨k.val, by omega⟩
def cb (g : Fin 4) (d : Fin 128) : Fin 1024 := ⟨512 + (g.val * 128 + d.val), by omega⟩

/-- What the gradients are taken of. -/
def args : Args where
  a i k := A1 m c (ix2 i k)
  u i g d := Z m c (ix2 i (cu g d))
  v i g d := Z m c (ix2 i (cv g d))
  lag k := LAG m c (ix1 k)
  lab k := LAB m c (ix1 k)
  lvg g d := LVG m c (ix2 g d)
  lvb g d := LVB m c (ix2 g d)
  ws g t s := if s.val ≤ t.val then WS m c (ix3 g t s) else 0
  sb g t := SB m c (ix2 g t)
  da i k := DC m c (ix2 i (ca k))
  db i g d := DC m c (ix2 i (cb g d))

theorem r240 (i : Fin 8192) (k : Fin 512) :
    (Value.res_main_v240 (launchContents m c) : FVec Ideal S8192x512 .f32) (ix2 i k) = cen L ((args m c).a i) k := by
  unfold Value.res_main_v240
  clean_types
  pointwise
  rfl

theorem r247 (i : Fin 8192) (k : Fin 1) :
    (Value.res_main_v247 (launchContents m c) : FVec Ideal S8192x1 .f32) (ix2 i k) = var L ((args m c).a i) := by
  unfold Value.res_main_v247
  clean_types
  pointwise
  simp only [r240]
  rfl

theorem r248 (i : Fin 8192) (k : Fin 1) :
    (Value.res_main_v248 (launchContents m c) : FVec Ideal S8192x1 .f32) (ix2 i k) = rstd L ((args m c).a i) := by
  unfold Value.res_main_v248
  clean_types
  pointwise
  simp only [r247]
  rfl

theorem r253 (i : Fin 8192) (k : Fin 512) :
    (Value.res_main_v253 (launchContents m c) : FVec Ideal S8192x512 .f32) (ix2 i k) = xh L ((args m c).a i) k := by
  unfold Value.res_main_v253
  clean_types
  pointwise
  simp only [r240, r248]
  rfl

theorem r259 (i : Fin 8192) (k : Fin 512) :
    (Value.res_main_v259 (launchContents m c) : FVec Ideal S8192x512 .f32) (ix2 i k) = y (args m c) i k := by
  unfold Value.res_main_v259 Value.res_main_v254
  clean_types
  pointwise
  simp only [r253]
  rfl

theorem r260 (i : Fin 8192) (k : Fin 512) :
    (Value.res_main_v260_2 (launchContents m c) : FVec Ideal S8192x512 .f32) (ix2 i k) = sg (y (args m c) i k) := by
  unfold Value.res_main_v260_2
  clean_types
  pointwise
  simp only [r259]
  rfl

theorem r356 (i : Fin 8192) (k : Fin 512) :
    (Value.res_main_v356 (launchContents m c) : FVec Ideal S8192x512 .f32) (ix2 i k) = dyRef (args m c) i k := by
  unfold Value.res_main_v356 Value.res_main_v304
  clean_types
  pointwise
  simp only [r259, r260]
  rfl

theorem r364 (i : Fin 8192) (k : Fin 512) :
    (Value.res_main_v364 (launchContents m c) : FVec Ideal S8192x512 .f32) (ix2 i k) = dyRef (args m c) i k * (args m c).lag k := by
  unfold Value.res_main_v364 Value.res_main_v254
  clean_types
  pointwise
  simp only [r356]
  rfl

theorem r375 (i : Fin 8192) (k : Fin 512) :
    (Value.res_main_v375 (launchContents m c) : FVec Ideal S8192x512 .f32) (ix2 i k)
      = varGrad L ((args m c).a i) (fun k => dyRef (args m c) i k * (args m c).lag k) := by
  unfold Value.res_main_v375
  clean_types
  pointwise
  simp only [r364, r240, r247, r248, Finset.univ_unique, Finset.sum_singleton]
  rfl

theorem r379 (i : Fin 8192) (k : Fin 512) :
    (Value.res_main_v379 (launchContents m c) : FVec Ideal S8192x512 .f32) (ix2 i k)
      = cenGrad L ((args m c).a i) (fun k => dyRef (args m c) i k * (args m c).lag k) k := by
  unfold Value.res_main_v379
  clean_types
  pointwise
  simp only [r364, r240, r248, r375]
  rfl

theorem r263 (i : Fin 8192) (g : Fin 4) (d : Fin 128) :
    (Value.res_main_v263 (launchContents m c) : FVec Ideal S8192x4x128 .f32) (ix3 i g d) = (args m c).v i g d := by
  unfold Value.res_main_v263 Value.res_main_v234
  clean_types
  pointwise
  rfl

theorem r269 (i : Fin 8192) (g : Fin 4) (d : Fin 128) :
    (Value.res_main_v269 (launchContents m c) : FVec Ideal S8192x4x128 .f32) (ix3 i g d) = cen L' ((args m c).v i g) d := by
  unfold Value.res_main_v269
  clean_types
  pointwise
  simp only [r263]
  rfl

theorem r276 (i : Fin 8192) (g : Fin 4) (d : Fin 1) :
    (Value.res_main_v276 (launchContents m c) : FVec Ideal S8192x4x1 .f32) (ix3 i g d) = var L' ((args m c).v i g) := by
  unfold Value.res_main_v276
  clean_types
  pointwise
  simp only [r269]
  rfl

theorem r277 (i : Fin 8192) (g : Fin 4) (d : Fin 1) :
    (Value.res_main_v277 (launchContents m c) : FVec Ideal S8192x4x1 .f32) (ix3 i g d) = rstd L' ((args m c).v i g) := by
  unfold Value.res_main_v277
  clean_types
  pointwise
  simp only [r276]
  rfl

theorem r282 (i : Fin 8192) (g : Fin 4) (d : Fin 128) :
    (Value.res_main_v282 (launchContents m c) : FVec Ideal S8192x4x128 .f32) (ix3 i g d) = xh L' ((args m c).v i g) d := by
  unfold Value.res_main_v282
  clean_types
  pointwise
  simp only [r269, r277]
  rfl

theorem r289 (n : Fin 64) (t : Fin 128) (g : Fin 4) (d : Fin 128) :
    (Value.res_main_v289 (launchContents m c) : FVec Ideal S64x128x4x128 .f32) (ix4 n t g d) = v1 (args m c) (chunk n t) g d := by
  unfold Value.res_main_v289 Value.res_main_v283
  clean_types
  pointwise
  exact congrArg (· * _ + _) (r282 ..)

/-- The lower triangle as the host lines compare it. -/
theorem mask (t s : Fin 128) :
    IntOp.cmpi CmpIPredicate.sge (IntOp.addi (BitVec.ofNat 32 t.val) 0#32) (BitVec.ofNat 32 s.val) = if s.val ≤ t.val then 1#1 else 0#1 := by
  revert t s
  decide +kernel

theorem r293 (g : Fin 4) (t s : Fin 128) :
    (Value.res_main_v293_0 (launchContents m c) : FVec Ideal S4x128x128 .f32) (ix3 g t s) = (args m c).ws g t s := by
  unfold Value.res_main_v293_0 Value.res_main_v293_1
  clean_types
  pointwise
  rw [mask]
  have e : (args m c).ws g t s = if s.val ≤ t.val then WS m c (ix3 g t s) else 0 := rfl
  rw [e]
  by_cases h : s.val ≤ t.val
  · rw [if_pos h, if_pos h]
    rfl
  · rw [if_neg h, if_neg h]
    exact Cert.Gate.bits_zero

theorem r301 (i : Fin 8192) (k : Fin 512) :
    (Value.res_main_v301 (launchContents m c) : FVec Ideal S8192x512 .f32) (ix2 i k) = v2 (args m c) i (grp k) (lane k) := by
  unfold Value.res_main_v301
  clean_types
  pointwise
  simp only [r289, r293]
  exact congrArg (· + _) (Finset.sum_congr rfl fun _ _ => mul_comm _ _)

theorem r308 (n : Fin 64) (t : Fin 128) (g : Fin 4) (d : Fin 128) :
    (Value.res_main_v308 (launchContents m c) : FVec Ideal S64x128x4x128 .f32) (ix4 n t g d) = dv2 (args m c) (chunk n t) g d := by
  unfold Value.res_main_v308 Value.res_main_v261 Value.res_main_v234 Value.res_main_v305
  clean_types
  pointwise
  exact mul_comm _ _

theorem r315 (n : Fin 64) (t : Fin 128) (g : Fin 4) (d : Fin 128) :
    (Value.res_main_v315 (launchContents m c) : FVec Ideal S4x64x128x128 .f32) (ix4 g n d t) = dv2 (args m c) (chunk n t) g d := by
  unfold Value.res_main_v315
  clean_types
  pointwise
  exact r308 ..

theorem r320 (i : Fin 8192) (g : Fin 4) (d : Fin 128) :
    (Value.res_main_v320 (launchContents m c) : FVec Ideal S8192x4x128 .f32) (ix3 i g d) = dv1 (args m c) i g d := by
  unfold Value.res_main_v320
  clean_types
  pointwise
  simp only [r293]
  exact Finset.sum_congr rfl fun t _ => (congrArg (fun e : EReal => e * (args m c).ws g t (place i)) (r315 m c _ t g d)).trans (mul_comm _ _)

theorem r328 (i : Fin 8192) (g : Fin 4) (d : Fin 128) :
    (Value.res_main_v328 (launchContents m c) : FVec Ideal S8192x4x128 .f32) (ix3 i g d) = dv1 (args m c) i g d * (args m c).lvg g d := by
  unfold Value.res_main_v328 Value.res_main_v283
  clean_types
  pointwise
  simp only [r320]
  rfl

theorem r339 (i : Fin 8192) (g : Fin 4) (d : Fin 128) :
    (Value.res_main_v339 (launchContents m c) : FVec Ideal S8192x4x128 .f32) (ix3 i g d)
      = varGrad L' ((args m c).v i g) (fun d => dv1 (args m c) i g d * (args m c).lvg g d) := by
  unfold Value.res_main_v339
  clean_types
  pointwise
  simp only [r328, r269, r276, r277, Finset.univ_unique, Finset.sum_singleton]
  rfl

theorem r343 (i : Fin 8192) (g : Fin 4) (d : Fin 128) :
    (Value.res_main_v343 (launchContents m c) : FVec Ideal S8192x4x128 .f32) (ix3 i g d)
      = cenGrad L' ((args m c).v i g) (fun d => dv1 (args m c) i g d * (args m c).lvg g d) d := by
  unfold Value.res_main_v343
  clean_types
  pointwise
  simp only [r328, r269, r277, r339]
  rfl

/-- Group and lane of a column, for the right half of the gate's gradient and for its left half. -/
def outZ (p : S8192x1024.Idx) : EReal :=
  if h : (p 1).val < 512 then du (args m c) (p 0) (grp ⟨(p 1).val, h⟩) (lane ⟨(p 1).val, h⟩)
  else dvRef (args m c) (p 0) (grp ⟨(p 1).val - 512, by have : (p 1).val < 1024 := (p 1).isLt; omega⟩) (lane ⟨(p 1).val - 512, by have : (p 1).val < 1024 := (p 1).isLt; omega⟩)

theorem outZ_left (i : Fin 8192) (k : Fin 1024) (h : k.val < 512) :
    outZ m c (ix2 i k) = du (args m c) i (grp ⟨k.val, h⟩) (lane ⟨k.val, h⟩) :=
  dif_pos h

theorem outZ_right (i : Fin 8192) (k : Fin 1024) (h : ¬ k.val < 512) :
    outZ m c (ix2 i k) = dvRef (args m c) i (grp ⟨k.val - 512, by omega⟩) (lane ⟨k.val - 512, by omega⟩) :=
  dif_neg h

theorem r305 (i : Fin 8192) (k : Fin 512) :
    (Value.res_main_v305 (launchContents m c) : FVec Ideal S8192x512 .f32) (ix2 i k) = (args m c).db i (grp k) (lane k) := by
  unfold Value.res_main_v305
  clean_types
  pointwise
  refine congrArg (fun l => DC m c (ix2 i l)) (Fin.ext ?_)
  show 512 + k.val = 512 + (k.val / 128 * 128 + k.val % 128)
  omega

/-- The reference's run, with its results at these formulas. -/
theorem run (ρ : Dev nD → PrngReg) :
    θ_run defs (onTc (τ := τ) (main (F := Ideal))) ⟨m, fun _ => 0, ρ⟩ fun r => ∀ c : Dev nD,
      r.2.mem ((c.tc : Thread nD τ).loc main_v387) = (fun p => da1Ref (args m c) (p 0) (p 1) : FVec Ideal S8192x512 .f32)
      ∧ r.2.mem ((c.tc : Thread nD τ).loc main_v388) = (outZ m c : FVec Ideal S8192x1024 .bf16)
      ∧ r.2.mem ((c.tc : Thread nD τ).loc main_v389) = (fun p => ∑ i, dyRef (args m c) i (p 1) * xh L ((args m c).a i) (p 1) : FVec Ideal S1x512 .f32)
      ∧ r.2.mem ((c.tc : Thread nD τ).loc main_v390) = (fun p => ∑ i, dyRef (args m c) i (p 1) : FVec Ideal S1x512 .f32)
      ∧ r.2.mem ((c.tc : Thread nD τ).loc main_v391) = (fun p => dlvg (args m c) (grp (p 1)) (lane (p 1)) : FVec Ideal S1x512 .f32)
      ∧ r.2.mem ((c.tc : Thread nD τ).loc main_v392) = (fun p => dlvb (args m c) (grp (p 1)) (lane (p 1)) : FVec Ideal S1x512 .f32)
      ∧ r.2.mem ((c.tc : Thread nD τ).loc main_v319) = (fun p => dws (args m c) (p 0) (p 1) (p 2) : FVec Ideal S4x128x128 .f32)
      ∧ r.2.mem ((c.tc : Thread nD τ).loc main_v393) = (fun p => dsb (args m c) (p 0) (p 1) : FVec Ideal S128x4 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (Value.run m ρ)
  obtain ⟨h0, h1, h2, h3, h4, h5, h6, h7, hk⟩ := h c
  refine ⟨h0.trans ?_, h1.trans ?_, h2.trans ?_, h3.trans ?_, h4.trans ?_, h5.trans ?_, h6.trans ?_, h7.trans ?_, hk⟩
  · funext p
    idx_vars p
    clean_types
    pointwise
    simp only [r379, Finset.univ_unique, Finset.sum_singleton]
    rfl
  · funext p
    idx_vars p
    clean_types
    pointwise
    simp only [r343, Finset.univ_unique, Finset.sum_singleton]
    by_cases h : p1.val < 512
    · rw [dif_pos h, dif_neg (by omega), zero_add]
      rw [r305, r301, outZ_left m c p0 p1 h]
      rfl
    · rw [dif_neg h, dif_pos (by omega), add_zero]
      rw [outZ_right m c p0 p1 h]
      rfl
  · funext p
    idx_vars p
    clean_types
    pointwise
    simp only [r253, r356, Finset.univ_unique, Finset.sum_singleton]
    exact Finset.sum_congr rfl fun _ _ => mul_comm _ _
  · funext p
    idx_vars p
    clean_types
    pointwise
    simp only [r356, Finset.univ_unique, Finset.sum_singleton]
  · funext p
    idx_vars p
    clean_types
    pointwise
    simp only [r282, r320, Finset.univ_unique, Finset.sum_singleton]
    exact Finset.sum_congr rfl fun _ _ => mul_comm _ _
  · funext p
    idx_vars p
    clean_types
    pointwise
    simp only [r320, Finset.univ_unique, Finset.sum_singleton]
    rfl
  · funext p
    idx_vars p
    unfold Value.res_main_v293_1
    clean_types
    pointwise
    simp only [r315, r289]
    rw [mask]
    show _ = if p2.val ≤ p1.val then _ else _
    by_cases h : p2.val ≤ p1.val
    · rw [if_pos h, if_pos h]
      rfl
    · rw [if_neg h, if_neg h]
      rfl
  · funext p
    idx_vars p
    clean_types
    pointwise
    simp only [Finset.univ_unique, Finset.sum_singleton]
    rw [red03]
    simp only [Finset.univ_unique, Finset.sum_singleton]
    pointwise
    rw [red03]
    rw [zero_add]
    simp only [r308]
    exact Finset.sum_comm

end Cert.RowsRefIdeal.Formula

end
-- ==== Proof.Rows.lean ====
/- The claims about `mix_bwd_rows`: the frames of its programs, and that its eight results are the reference's. -/
module

public import proofs.«01_k».proof.Defs
public import proofs.«01_k».proof.Proof.Gen.Rows
public import proofs.«01_k».proof.Proof.Gen.Rows.Frame
public import proofs.«01_k».proof.Proof.RowsKernel
public import proofs.«01_k».proof.Proof.RowsRef
public import Idealize.ShloMosaic.Lib.Quiescent

@[expose] public section

set_option maxRecDepth 16384

noncomputable section

namespace Cert.RowsClaims

open Idealize.ShloMosaic Idealize.ShloMosaic.TcCoe Idealize.SL.Sem Cert.Reals Cert.RowsMath

instance preFacts : Cert.Pre_finite_rows.Facts where
  bcast_S_S8192x2048 := by decide
  reducesTo_S8192x2048_S_d0_1 := by decide
  h_S_ := by decide
  bcast_S_S31x512 := by decide
  reducesTo_S31x512_S_d0_1 := by decide
  bcast_S_S512 := by decide
  reducesTo_S512_S_d0 := by decide
  bcast_S_S4x128 := by decide
  reducesTo_S4x128_S_d0_1 := by decide
  bcast_S_S4x128x128 := by decide
  reducesTo_S4x128x128_S_d0_1_2 := by decide
  bcast_S_S8192x1024 := by decide
  reducesTo_S8192x1024_S_d0_1 := by decide

theorem frame : Cert.quiescent_Rows := fun m ρ _ => Cert.Rows.Gen.frame m ρ

theorem frameIdeal : Cert.quiescent_RowsIdeal := fun m ρ _ => Cert.RowsIdeal.Gen.frame m ρ

theorem frameIdealPre : Cert.quiescent_RowsIdeal_pre_finite_rows := fun m ρ _ => Cert.RowsIdeal.Gen.frame m ρ

theorem frameRef : Cert.quiescent_RowsRefIdeal := fun m ρ _ =>
  (θ_run _ _ _).mono (fun r h => ⟨fun c => (h c).2.2.2.2.2.2.2.2, sem_eq_zero_of_no_sems rfl _⟩) (Cert.RowsRefIdeal.Formula.run m ρ)

theorem frameRefPre : Cert.quiescent_RowsRefIdeal_pre_finite_rows := fun m ρ _ =>
  (θ_run _ _ _).mono (fun r h => ⟨fun c => (h c).2.2.2.2.2.2.2.2, sem_eq_zero_of_no_sems rfl _⟩) (Cert.RowsRefIdeal.Formula.run m ρ)

section

open Cert.RowsIdeal Cert.RowsIdeal.Formula

variable {m : (ℓ : Loc nD τ sig) → Buf (Elt Ideal) ℓ}

/-- The precondition, read: the arrays the norms and the gates read are real. -/
theorem real (h : Cert.Pre_RowsIdeal_finite_rows m) (c : Dev nD) : RowsMath.Real (args m c) := by
  have e := congrFun (h c) (fun a => a.elim0)
  dsimp only [Cert.Pre_finite_rows.fn, Cert.Pre_finite_rows.fn_part1, Cert.Pre_finite_rows.fn_part2] at e
  obtain ⟨e, e9⟩ := andi_split e
  obtain ⟨e, e7⟩ := andi_split e
  obtain ⟨e, e5⟩ := andi_split e
  obtain ⟨e, e4⟩ := andi_split e
  obtain ⟨e, e3⟩ := andi_split e
  obtain ⟨e, e2⟩ := andi_split e
  obtain ⟨e0, e1⟩ := andi_split e
  have hz : ∀ i, IsReal (Z m c i) := all_real _ _ _ _ _ _ e0
  have hw : ∀ i, IsReal (CW m c i) := all_real _ _ _ _ _ _ e1
  have hb : ∀ i, IsReal (CB m c i) := all_real _ _ _ _ _ _ e2
  have hg : ∀ i, IsReal (LAG m c i) := all_real _ _ _ _ _ _ e3
  have hs : ∀ i, IsReal (LAB m c i) := all_real _ _ _ _ _ _ e4
  have hv : ∀ i, IsReal (LVG m c i) := all_real _ _ _ _ _ _ e5
  have hm : ∀ i, IsReal (WS m c i) := all_real _ _ _ _ _ _ e7
  have hd : ∀ i, IsReal (DC m c i) := all_real _ _ _ _ _ _ e9
  exact {
    a := fun i k => ConvRows.rows_real (fun _ _ => hz _) (fun _ _ => hw _) (fun _ => hb _) i k
    u := fun _ _ _ => hz _
    v := fun _ _ _ => hz _
    lag := fun _ => hg _
    lab := fun _ => hs _
    lvg := fun _ _ => hv _
    ws := fun g t s => by
      show IsReal (if s.val ≤ t.val then WS m c (ix3 g t s) else 0)
      split
      · exact hm _
      · exact ⟨0, rfl⟩
    da := fun _ _ => hd _
    db := fun _ _ _ => hd _ }

end

/-- The two sides name the same columns. -/
theorem cu_eq : Cert.RowsRefIdeal.Formula.cu = Cert.RowsIdeal.Formula.cu := by
  funext g d
  exact Fin.ext (by simp only [Cert.RowsRefIdeal.Formula.cu, Cert.RowsIdeal.Formula.cu]; omega)

theorem cv_eq : Cert.RowsRefIdeal.Formula.cv = Cert.RowsIdeal.Formula.cv := by
  funext g d
  exact Fin.ext (by simp only [Cert.RowsRefIdeal.Formula.cv, Cert.RowsIdeal.Formula.cv]; omega)

theorem cb_eq : Cert.RowsRefIdeal.Formula.cb = Cert.RowsIdeal.Formula.cb := by
  funext g d
  exact Fin.ext (by simp only [Cert.RowsRefIdeal.Formula.cb, Cert.RowsIdeal.Formula.cb]; omega)

theorem algebraic : Cert.algebraic_RowsIdeal_RowsRefIdeal_pre_finite_rows := by
  intro m g m' g' hpre hagree
  refine ⟨fun c => Cert.RowsIdeal.Formula.outA m c, fun c => Cert.RowsIdeal.Formula.outZ m c,
    fun c p => dlag (Cert.RowsIdeal.Formula.args m c) (p 1), fun c p => dlab (Cert.RowsIdeal.Formula.args m c) (p 1),
    fun c p => dlvg (Cert.RowsIdeal.Formula.args m c) (grp (p 1)) (lane (p 1)),
    fun c p => dlvb (Cert.RowsIdeal.Formula.args m c) (grp (p 1)) (lane (p 1)),
    fun c p => dws (Cert.RowsIdeal.Formula.args m c) (p 0) (p 1) (p 2), fun c p => dsb (Cert.RowsIdeal.Formula.args m c) (p 0) (p 1), ?_, ?_⟩
  · exact (θ_run _ _ _).mono (fun r h c => ⟨(h c).1.trans (Cert.RowsIdeal.Formula.finalA m c),
      (h c).2.1.trans (Cert.RowsIdeal.Formula.finalZ m c), (h c).2.2.1.trans (Cert.RowsIdeal.Formula.finalG m c),
      (h c).2.2.2.1.trans (Cert.RowsIdeal.Formula.finalS m c), (h c).2.2.2.2.1.trans (Cert.RowsIdeal.Formula.finalVG m c),
      (h c).2.2.2.2.2.1.trans (Cert.RowsIdeal.Formula.finalVB m c), (h c).2.2.2.2.2.2.1.trans (Cert.RowsIdeal.Formula.finalW m c),
      (h c).2.2.2.2.2.2.2.1.trans (Cert.RowsIdeal.Formula.finalB m c), (h c).2.2.2.2.2.2.2.2⟩) (Cert.RowsIdeal.Value.run_blocks m g)
  · refine (θ_run _ _ _).mono (fun r h c => ?_) (Cert.RowsRefIdeal.Formula.run m' g')
    have ha : Cert.RowsRefIdeal.Formula.args m' c = Cert.RowsIdeal.Formula.args m c := by
      obtain ⟨a0, a1, a2, a3, a4, a5, a6, a7, a8, a9⟩ := hagree c
      simp only [Cert.RowsRefIdeal.Formula.args, Cert.RowsRefIdeal.Formula.r233, a0, a1, a2, a3, a4, a5, a6, a7, a8, a9, cu_eq, cv_eq, cb_eq]
      rfl
    have hr := real hpre c
    obtain ⟨h0, h1, h2, h3, h4, h5, h6, h7, hk⟩ := h c
    rw [ha] at h0 h2 h3 h4 h5 h6 h7
    refine ⟨h0.trans ?_, h1.trans ?_, h2.trans ?_, h3.trans ?_, h4, h5, h6, h7, hk⟩
    · funext p
      exact da1Ref_eq hr _ _
    · funext p
      by_cases h : (p 1).val < 512
      · have e : Cert.RowsRefIdeal.Formula.outZ m' c p
            = du (Cert.RowsRefIdeal.Formula.args m' c) (p 0) (grp ⟨(p 1).val, h⟩) (lane ⟨(p 1).val, h⟩) := dif_pos h
        have e' : Cert.RowsIdeal.Formula.outZ m c p
            = du (Cert.RowsIdeal.Formula.args m c) (p 0) (grp ⟨(p 1).val, h⟩) (lane ⟨(p 1).val, h⟩) := dif_pos h
        rw [e, ha]
        exact e'.symm
      · have hl : (p 1).val - 512 < 512 := by
          have : (p 1).val < 1024 := (p 1).isLt
          omega
        have e : Cert.RowsRefIdeal.Formula.outZ m' c p
            = dvRef (Cert.RowsRefIdeal.Formula.args m' c) (p 0) (grp ⟨_, hl⟩) (lane ⟨_, hl⟩) := dif_neg h
        have e' : Cert.RowsIdeal.Formula.outZ m c p
            = dv (Cert.RowsIdeal.Formula.args m c) (p 0) (grp ⟨_, hl⟩) (lane ⟨_, hl⟩) := dif_neg h
        rw [e, ha]
        exact (dvRef_eq hr _ _ _).trans e'.symm
    · funext p
      exact Finset.sum_congr rfl fun i _ => congrArg (· * _) (dyRef_eq hr _ _)
    · funext p
      exact Finset.sum_congr rfl fun i _ => dyRef_eq hr _ _

end Cert.RowsClaims

end
-- ==== Proof.LossMath.lean ====
/- The last feed-forward layer, the final norm, the loss and its gradient, over arrays given as functions of their coordinates. -/
module

public import proofs.«01_k».proof.Proof.Gate
public import proofs.«01_k».proof.Proof.RmsNorm
public import Idealize.ShloMosaic.Lib.Pipeline.ValueKit

@[expose] public section

noncomputable section

namespace Cert.LossMath

open Idealize.ShloMosaic Cert.Reals Cert.Gate Cert.RmsNorm

/-- What the call reads. -/
structure Args where
  act : Fin 8192 → Fin 1024 → EReal
  w : Fin 1024 → Fin 1024 → EReal
  r : Fin 8192 → Fin 1024 → EReal
  g : Fin 1024 → EReal
  wg : Fin 1024 → Fin 2816 → EReal
  wu : Fin 1024 → Fin 2816 → EReal
  wd : Fin 2816 → Fin 1024 → EReal
  gf : Fin 1024 → EReal
  tg : Fin 8192 → Fin 1024 → EReal

/-- One half, one, the row length and its inverse, as the programs' constants. -/
abbrev half : EReal := Ideal.ofBits .f32 0x3F000000#32
abbrev one : EReal := Ideal.ofBits .f32 0x3F800000#32
abbrev L : EReal := Ideal.ofBits .f32 0x44800000#32
abbrev invL : EReal := Ideal.ofBits .f32 0x3A800000#32

theorem bits_inv : invL = ((1 / 1024 : ℝ) : EReal) := by
  simp [Ideal.ofBits, Ideal.ieee, -EReal.coe_mul, -EReal.coe_add]; norm_num

variable (p : Args)

/-- The residual stream after the projection. -/
def x (i : Fin 8192) (k : Fin 1024) : EReal := p.r i k + ∑ l : Fin 1024, p.act i l * p.w l k

def h (i : Fin 8192) (k : Fin 1024) : EReal := x p i k * rstd (x p i) * p.g k

def a (i : Fin 8192) (f : Fin 2816) : EReal := ∑ k : Fin 1024, h p i k * p.wg k f

def b (i : Fin 8192) (f : Fin 2816) : EReal := ∑ k : Fin 1024, h p i k * p.wu k f

/-- The gated row. -/
def s (i : Fin 8192) (f : Fin 2816) : EReal := a p i f * sig (a p i f) * b p i f

def xo (i : Fin 8192) (k : Fin 1024) : EReal := x p i k + half * ∑ f : Fin 2816, s p i f * p.wd f k

/-- The final norm's difference from the target. -/
def e (i : Fin 8192) (k : Fin 1024) : EReal := xo p i k * rstd (xo p i) * p.gf k - p.tg i k

def u (i : Fin 8192) (k : Fin 1024) : EReal := e p i k * invL * p.gf k

def dx (i : Fin 8192) (k : Fin 1024) : EReal := rowGrad (xo p i) (u p i) k

def dgf (k : Fin 1024) : EReal := ∑ i : Fin 8192, e p i k * invL * xo p i k * rstd (xo p i)

/-- A row's squared error. -/
def sq (i : Fin 8192) : EReal := ∑ k : Fin 1024, e p i k * e p i k

/-- The loss as the version adds it up: a sum for each of 32 blocks of rows, each halved. -/
def loss : EReal := ∑ t : Fin 32, half * ∑ r : Fin 256, sq p ⟨t.val * 256 + r.val, by omega⟩ * invL

/-! The reference's forms. -/

def sgRef (i : Fin 8192) (f : Fin 2816) : EReal := a p i f * Ideal.div one (one + Ideal.exp (-a p i f)) * b p i f

/-- The cotangent of the difference. -/
def deRef (i : Fin 8192) (k : Fin 1024) : EReal := e p i k * Ideal.div (half * one) L + Ideal.div (half * one) L * e p i k

def uRef (i : Fin 8192) (k : Fin 1024) : EReal := deRef p i k * p.gf k

def dxRef (i : Fin 8192) (k : Fin 1024) : EReal :=
  uRef p i k * rstd (xo p i) + xo p i k * sqGrad (xo p i) (uRef p i) + sqGrad (xo p i) (uRef p i) * xo p i k

def dgfRef (k : Fin 1024) : EReal := ∑ i : Fin 8192, xo p i k * rstd (xo p i) * deRef p i k

def lossRef : EReal := half * ∑ i : Fin 8192, Ideal.div (sq p i) L

/-- What is asked of the arrays: all of them are real. -/
structure Real : Prop where
  act : ∀ i k, IsReal (p.act i k)
  w : ∀ i k, IsReal (p.w i k)
  r : ∀ i k, IsReal (p.r i k)
  g : ∀ k, IsReal (p.g k)
  wg : ∀ i k, IsReal (p.wg i k)
  wu : ∀ i k, IsReal (p.wu i k)
  wd : ∀ i k, IsReal (p.wd i k)
  gf : ∀ k, IsReal (p.gf k)
  tg : ∀ i k, IsReal (p.tg i k)

theorem sgRef_eq (i : Fin 8192) (f : Fin 2816) : sgRef p i f = s p i f := by
  rw [s, sig_eq]; rfl

variable {p}

theorem half_real : IsReal half := ⟨_, bits_half⟩
theorem invL_real : IsReal invL := ⟨_, bits_inv⟩

theorem x_real (q : Real p) (i : Fin 8192) (k : Fin 1024) : IsReal (x p i k) :=
  (q.r i k).add (isReal_sum fun l => (q.act i l).mul (q.w l k))

theorem h_real (q : Real p) (i : Fin 8192) (k : Fin 1024) : IsReal (h p i k) :=
  ((x_real q i k).mul (rstd_real fun k => x_real q i k)).mul (q.g k)

theorem a_real (q : Real p) (i : Fin 8192) (f : Fin 2816) : IsReal (a p i f) := isReal_sum fun k => (h_real q i k).mul (q.wg k f)

theorem b_real (q : Real p) (i : Fin 8192) (f : Fin 2816) : IsReal (b p i f) := isReal_sum fun k => (h_real q i k).mul (q.wu k f)

theorem xo_real (q : Real p) (i : Fin 8192) (k : Fin 1024) : IsReal (xo p i k) :=
  (x_real q i k).add (half_real.mul (isReal_sum fun f => (((a_real q i f).mul (sig_real (a_real q i f))).mul (b_real q i f)).mul (q.wd f k)))

theorem e_real (q : Real p) (i : Fin 8192) (k : Fin 1024) : IsReal (e p i k) :=
  (((xo_real q i k).mul (rstd_real fun k => xo_real q i k)).mul (q.gf k)).sub (q.tg i k)

theorem u_real (q : Real p) (i : Fin 8192) (k : Fin 1024) : IsReal (u p i k) := ((e_real q i k).mul invL_real).mul (q.gf k)

theorem deRef_eq (q : Real p) (i : Fin 8192) (k : Fin 1024) : deRef p i k = e p i k * invL := by
  obtain ⟨y, hy⟩ := e_real q i k
  rw [deRef, hy, half, one, L, bits_half, bits_one, bits_1024, bits_inv, mul_one, div_coe_coe (by norm_num), ← EReal.coe_mul, ← EReal.coe_mul,
    ← EReal.coe_mul, ← EReal.coe_add]
  exact congrArg _ (by ring)

theorem dxRef_eq (q : Real p) (i : Fin 8192) (k : Fin 1024) : dxRef p i k = dx p i k := by
  have hu : uRef p i = u p i := by
    funext k
    rw [uRef, deRef_eq q]; rfl
  have := add_rowGrad (fun k => xo_real q i k) (fun k => u_real q i k) 0 k
  rw [zero_add, zero_add] at this
  rw [dxRef, hu]
  exact this.symm

theorem dgfRef_eq (q : Real p) (k : Fin 1024) : dgfRef p k = dgf p k :=
  Finset.sum_congr rfl fun i _ => by rw [deRef_eq q, mul_comm, ← mul_assoc]

theorem lossRef_eq (q : Real p) : lossRef p = loss p := by
  have hq : ∀ i, IsReal (sq p i) := fun i => isReal_sum fun k => (e_real q i k).mul (e_real q i k)
  obtain ⟨f, hf⟩ := lift hq
  rw [lossRef, loss, hf, half, L, bits_half, bits_1024, bits_inv]
  simp only [div_coe_coe (y := 1024) (by norm_num), ← EReal.coe_mul, ← coe_finset_sum]
  refine congrArg _ ?_
  rw [← Finset.mul_sum]
  refine congrArg _ ?_
  rw [← Fin.sum_mul_add_fin 32 256 (fun i : Fin 8192 => f i / 1024) rfl]
  exact Finset.sum_congr rfl fun t _ => Finset.sum_congr rfl fun r _ => div_eq_mul_one_div _ _

end Cert.LossMath

end
-- ==== Proof.LossKernel.lean ====
/- What the seven results of `proj_ffn_loss` hold after the kernel's run, as formulas over the argument arrays. -/
module

public import proofs.«01_k».proof.Proof.Gen.LossIdeal.Value
public import proofs.«01_k».proof.Proof.LossMath
public import Idealize.ShloMosaic.Lib.Pipeline.ValueKit
public import Idealize.ShloMosaic.Lib.Claim

@[expose] public section

set_option maxRecDepth 16384

noncomputable section

namespace Cert.LossIdeal.Formula

open Cert.LossIdeal Cert.LossIdeal.Gen Idealize.ShloMosaic Idealize.ShloMosaic.TcCoe Idealize.SL.Sem Cert.RmsNorm Cert.LossMath

variable (m : (ℓ : Loc nD τ sig) → Buf (Elt Ideal) ℓ) (c : Dev nD)

abbrev ACT : FVec Ideal S8192x1024 .f32 := m ((c : Thread nD τ).loc main_arg0)
abbrev W : FVec Ideal S1024x1024 .f32 := m ((c : Thread nD τ).loc main_arg1)
abbrev R : FVec Ideal S8192x1024 .f32 := m ((c : Thread nD τ).loc main_arg2)
abbrev G : FVec Ideal S1024 .f32 := m ((c : Thread nD τ).loc main_arg3)
abbrev WG : FVec Ideal S1024x2816 .f32 := m ((c : Thread nD τ).loc main_arg4)
abbrev WU : FVec Ideal S1024x2816 .f32 := m ((c : Thread nD τ).loc main_arg5)
abbrev WD : FVec Ideal S2816x1024 .f32 := m ((c : Thread nD τ).loc main_arg6)
abbrev GF : FVec Ideal S1024 .f32 := m ((c : Thread nD τ).loc main_arg7)
abbrev TG : FVec Ideal S8192x1024 .f32 := m ((c : Thread nD τ).loc main_arg8)

/-- The argument arrays, by their coordinates. -/
def args : Args where
  act i k := ACT m c (ix2 i k)
  w k l := W m c (ix2 k l)
  r i k := R m c (ix2 i k)
  g k := G m c (ix1 k)
  wg k f := WG m c (ix2 k f)
  wu k f := WU m c (ix2 k f)
  wd f k := WD m c (ix2 f k)
  gf k := GF m c (ix1 k)
  tg i k := TG m c (ix2 i k)

theorem idx : ∀ t : Fin cfg0.N, win0_0.index t = ![t.val, 0] ∧ win0_1.index t = ![0, 0] ∧ win0_2.index t = ![t.val, 0]
    ∧ win0_3.index t = ![0, 0] ∧ win0_4.index t = ![0, 0, 0] ∧ win0_5.index t = ![1, 0, 0] ∧ win0_6.index t = ![2, 0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0]
    ∧ win0_14.index t = ![0, 0] ∧ win0_15.index t = ![0, 0] :=
  (by decide +kernel : ∀ t : Fin grid0.N, _)

/-- Row `r` of grid point `t`'s block. -/
def at_ (t : Fin cfg0.N) (r : Fin 256) : Fin 8192 :=
  ⟨t.val * 256 + r.val, by have h : t.val < 32 := lt_of_lt_of_eq t.isLt N_0; omega⟩

theorem at_val (t : Fin cfg0.N) (r : Fin 256) : (at_ t r).val = t.val * 256 + r.val := rfl

theorem read0 (t : Fin cfg0.N) (r : Fin 256) (k : Fin 1024) :
    (iblk m c 0 t : Vec Ideal S256x1024 .f32) (ix2 r k) = (args m c).act (at_ t r) k := by
  unfold args; blk_ext! [iblk, V, idx t, at_val]

theorem read1 (t : Fin cfg0.N) (l : Fin 1024) (k : Fin 1024) :
    (iblk m c 1 t : Vec Ideal S1024x1024 .bf16) (ix2 l k) = (args m c).w l k := by
  unfold args; blk_ext! [iblk, V, idx t, at_val]

theorem read2 (t : Fin cfg0.N) (r : Fin 256) (k : Fin 1024) :
    (iblk m c 2 t : Vec Ideal S256x1024 .f32) (ix2 r k) = (args m c).r (at_ t r) k := by
  unfold args; blk_ext! [iblk, V, idx t, at_val]

theorem read3 (t : Fin cfg0.N) (k : Fin 1024) :
    (iblk m c 3 t : Vec Ideal S1x1024 .f32) (ix2 0 k) = (args m c).g k := by
  unfold args; blk_ext! [iblk, V, idx t, at_val]

/-- The last grid point. -/
abbrev t0_31 : Fin cfg0.N := ⟨31, lt_of_lt_of_eq (by decide) N_0.symm⟩

set_option maxHeartbeats 1000000 in
/-- The three products' weights, stacked. -/
theorem V_v6 : (V m c main_v6 : FVec Ideal S3x2816x1024 .bf16) = fun p =>
    if (p 0).val = 0 then (args m c).wg (p 2) (p 1) else if (p 0).val = 1 then (args m c).wu (p 2) (p 1) else (args m c).wd (p 1) (p 2) := by
  unfold V
  after_results_simp
  funext p
  idx_vars p
  pointwise
  after_results_simp
  pointwise
  fin_cases p0
  · rfl
  · rfl
  · rfl

theorem read4 (t : Fin cfg0.N) (f : Fin 2816) (k : Fin 1024) :
    (iblk m c 4 t : Vec Ideal S1x2816x1024 .bf16) (ix3 0 f k) = (args m c).wg k f := by
  refine Eq.trans ?_ (congrFun (V_v6 m c) (ix3 0 f k))
  blk_ext! [iblk, idx t]

theorem read5 (t : Fin cfg0.N) (f : Fin 2816) (k : Fin 1024) :
    (iblk m c 5 t : Vec Ideal S1x2816x1024 .bf16) (ix3 0 f k) = (args m c).wu k f := by
  refine Eq.trans ?_ (congrFun (V_v6 m c) (ix3 1 f k))
  blk_ext! [iblk, idx t]

theorem read6 (t : Fin cfg0.N) (f : Fin 2816) (k : Fin 1024) :
    (iblk m c 6 t : Vec Ideal S1x2816x1024 .bf16) (ix3 0 f k) = (args m c).wd f k := by
  refine Eq.trans ?_ (congrFun (V_v6 m c) (ix3 2 f k))
  blk_ext! [iblk, idx t]

theorem read7 (t : Fin cfg0.N) (k : Fin 1024) :
    (iblk m c 7 t : Vec Ideal S1x1024 .f32) (ix2 0 k) = (args m c).gf k := by
  unfold args; blk_ext! [iblk, V, idx t, at_val]

theorem read8 (t : Fin cfg0.N) (r : Fin 256) (k : Fin 1024) :
    (iblk m c 8 t : Vec Ideal S256x1024 .f32) (ix2 r k) = (args m c).tg (at_ t r) k := by
  unfold args; blk_ext! [iblk, V, idx t, at_val]

/-! The block's intermediate values, each a function of the row and the column. -/

def xB (t : Fin cfg0.N) : FVec Ideal S256x1024 .f32 := fun y => x (args m c) (at_ t (y 0)) (y 1)
def hB (t : Fin cfg0.N) : FVec Ideal S256x1024 .bf16 := fun y => h (args m c) (at_ t (y 0)) (y 1)
def aB (t : Fin cfg0.N) : FVec Ideal S256x2816 .f32 := fun y => a (args m c) (at_ t (y 0)) (y 1)
def bB (t : Fin cfg0.N) : FVec Ideal S256x2816 .f32 := fun y => b (args m c) (at_ t (y 0)) (y 1)
def xoB (t : Fin cfg0.N) : FVec Ideal S256x1024 .f32 := fun y => xo (args m c) (at_ t (y 0)) (y 1)

/-- The final norm's row. -/
def nB (t : Fin cfg0.N) : FVec Ideal S256x1024 .f32 := fun y =>
  xo (args m c) (at_ t (y 0)) (y 1) * rstd (xo (args m c) (at_ t (y 0))) * (args m c).gf (y 1)

theorem xB_at (t : Fin cfg0.N) (r : Fin 256) (k : Fin 1024) : xB m c t (ix2 r k) = x (args m c) (at_ t r) k := rfl
theorem hB_at (t : Fin cfg0.N) (r : Fin 256) (k : Fin 1024) : hB m c t (ix2 r k) = h (args m c) (at_ t r) k := rfl
theorem aB_at (t : Fin cfg0.N) (r : Fin 256) (f : Fin 2816) : aB m c t (ix2 r f) = a (args m c) (at_ t r) f := rfl
theorem bB_at (t : Fin cfg0.N) (r : Fin 256) (f : Fin 2816) : bB m c t (ix2 r f) = b (args m c) (at_ t r) f := rfl
theorem xoB_at (t : Fin cfg0.N) (r : Fin 256) (k : Fin 1024) : xoB m c t (ix2 r k) = xo (args m c) (at_ t r) k := rfl
theorem nB_at (t : Fin cfg0.N) (r : Fin 256) (k : Fin 1024) : nB m c t (ix2 r k) =
    xo (args m c) (at_ t r) k * rstd (xo (args m c) (at_ t r)) * (args m c).gf k := rfl

theorem pay4 (t : Fin cfg0.N) : k0_pay4 (iblk m c 2 t) (iblk m c 0 t) (iblk m c 1 t) = xB m c t := by
  funext y
  idx_vars y
  rw [xB_at]
  pointwise [k0_pay4]
  simp only [read0, read1, read2]
  rfl

theorem pay5 (t : Fin cfg0.N) : k0_pay5 (iblk m c 2 t) (iblk m c 0 t) (iblk m c 1 t) (iblk m c 3 t) = hB m c t := by
  funext y
  idx_vars y
  rw [hB_at]
  unfold k0_pay5
  rw [pay4]
  pointwise
  simp only [read3, xB_at]
  rfl

theorem pay6 (t : Fin cfg0.N) : k0_pay6 (iblk m c 2 t) (iblk m c 0 t) (iblk m c 1 t) (iblk m c 3 t) (iblk m c 4 t) = aB m c t := by
  funext y
  idx_vars y
  rw [aB_at]
  unfold k0_pay6
  rw [pay5]
  pointwise
  simp only [read4, hB_at]
  rfl

theorem pay7 (t : Fin cfg0.N) : k0_pay7 (hB m c t) (iblk m c 5 t) = bB m c t := by
  funext y
  idx_vars y
  rw [bB_at]
  pointwise [k0_pay7]
  simp only [read5, hB_at]
  rfl

theorem pay8 (t : Fin cfg0.N) : k0_pay8 (aB m c t) = (aB m c t : FVec Ideal S256x2816 .bf16) := by
  funext y
  pointwise [k0_pay8]

theorem pay9 (t : Fin cfg0.N) : k0_pay9 (hB m c t) (iblk m c 5 t) = (bB m c t : FVec Ideal S256x2816 .bf16) := by
  unfold k0_pay9
  rw [pay7]
  funext y
  pointwise

theorem pay10 (t : Fin cfg0.N) : k0_pay10 (hB m c t) (aB m c t) (iblk m c 5 t) (xB m c t) (iblk m c 6 t) = xoB m c t := by
  funext y
  idx_vars y
  rw [xoB_at]
  unfold k0_pay10
  rw [pay7]
  pointwise
  simp only [read6, xB_at, aB_at, bB_at]
  rfl

theorem pay12 (t : Fin cfg0.N) :
    k0_pay12 (hB m c t) (aB m c t) (iblk m c 5 t) (xB m c t) (iblk m c 6 t) (iblk m c 7 t) = nB m c t := by
  funext y
  idx_vars y
  rw [nB_at]
  unfold k0_pay12 k0_pay11
  rw [pay10]
  pointwise
  simp only [read7, xoB_at]
  rfl

theorem pay17 (t : Fin cfg0.N) (y : S256x1024.Idx) :
    k0_pay17 (xoB m c t) (k0_pay11 (iblk m c 7 t)) (nB m c t) (iblk m c 8 t) y = dx (args m c) (at_ t (y 0)) (y 1) := by
  idx_vars y
  unfold k0_pay17 k0_pay11 k0_pay15 k0_pay16 k0_pay13
  pointwise
  simp only [read7, read8, xoB_at, nB_at]
  rfl

theorem pay14 (t : Fin cfg0.N) (u : FVec Ideal S1x128 .f32) (y : S1x128.Idx) : k0_pay14 (nB m c t) (iblk m c 8 t) u y
    = u y + half * ∑ r : Fin 256, sq (args m c) (at_ t r) * invL := by
  idx_vars y
  obtain rfl : y0 = 0 := Subsingleton.elim _ _
  unfold k0_pay14 k0_pay13
  pointwise
  simp only [read8, nB_at]
  rfl

theorem pay1 (t : Fin cfg0.N) (u : FVec Ideal S1x1024 .f32) (y : S1x1024.Idx) :
    k0_pay1 (k0_pay18 (xoB m c t) (nB m c t) (iblk m c 8 t)) (k0_pay19 (xoB m c t)) u y
    = u y + ∑ r : Fin 256, e (args m c) (at_ t r) (y 1) * invL * xo (args m c) (at_ t r) (y 1) * rstd (xo (args m c) (at_ t r)) := by
  idx_vars y
  obtain rfl : y0 = 0 := Subsingleton.elim _ _
  unfold k0_pay1 k0_pay18 k0_pay19 k0_pay15 k0_pay16 k0_pay13
  pointwise
  simp only [read8, xoB_at, nB_at]
  rfl

theorem zero2 (y : S1x128.Idx) : k0_pay2 (F := Ideal) y = 0 := by pointwise [k0_pay2]
theorem zero3 (y : S1x1024.Idx) : k0_pay3 (F := Ideal) y = 0 := by pointwise [k0_pay3]

theorem final9 : (dats m 0 c).arrAt 9 cfg0.N = (fun p => x (args m c) (p 0) (p 1) : FVec Ideal S8192x1024 .f32) := by
  refine (dats m 0 c).arrAt_eq_of_covers 9 _ (by decide +kernel) fun t hf y => ?_
  blk_simp
  have e : ((View.whole main_v10_0).slice (win0_9.rect t)).emb y = ix2 (at_ t (y 0)) (y 1) := by
    blk_ext [idx t]; rfl
  rw [after0_9]
  by_cases h : t.val % 32 = 0
  · rw [Gen.outsAt0_A m c t h]
    frame_out
    rw [e]
    exact congrFun (pay4 m c t) y
  · rw [Gen.outsAt0_B m c t h]
    frame_out
    rw [e]
    exact congrFun (pay4 m c t) y

theorem final10 : (dats m 0 c).arrAt 10 cfg0.N = (fun p => a (args m c) (p 0) (p 1) : FVec Ideal S8192x2816 .bf16) := by
  refine (dats m 0 c).arrAt_eq_of_covers 10 _ (by decide +kernel) fun t hf y => ?_
  blk_simp
  have e : ((View.whole main_v10_1).slice (win0_10.rect t)).emb y = ix2 (at_ t (y 0)) (y 1) := by
    blk_ext [idx t]; rfl
  rw [after0_10]
  by_cases h : t.val % 32 = 0
  · rw [Gen.outsAt0_A m c t h]
    frame_out
    rw [e]
    exact congrFun ((congrArg _ (pay6 m c t)).trans (pay8 m c t)) y
  · rw [Gen.outsAt0_B m c t h]
    frame_out
    rw [e]
    exact congrFun ((congrArg _ (pay6 m c t)).trans (pay8 m c t)) y

theorem final11 : (dats m 0 c).arrAt 11 cfg0.N = (fun p => b (args m c) (p 0) (p 1) : FVec Ideal S8192x2816 .bf16) := by
  refine (dats m 0 c).arrAt_eq_of_covers 11 _ (by decide +kernel) fun t hf y => ?_
  blk_simp
  have e : ((View.whole main_v10_2).slice (win0_11.rect t)).emb y = ix2 (at_ t (y 0)) (y 1) := by
    blk_ext [idx t]; rfl
  rw [after0_11]
  by_cases h : t.val % 32 = 0
  · rw [Gen.outsAt0_A m c t h]
    frame_out
    rw [e]
    exact congrFun ((congrArg (k0_pay9 · _) (pay5 m c t)).trans (pay9 m c t)) y
  · rw [Gen.outsAt0_B m c t h]
    frame_out
    rw [e]
    exact congrFun ((congrArg (k0_pay9 · _) (pay5 m c t)).trans (pay9 m c t)) y

theorem final12 : (dats m 0 c).arrAt 12 cfg0.N = (fun p => LossMath.h (args m c) (p 0) (p 1) : FVec Ideal S8192x1024 .bf16) := by
  refine (dats m 0 c).arrAt_eq_of_covers 12 _ (by decide +kernel) fun t hf y => ?_
  blk_simp
  have e : ((View.whole main_v10_3).slice (win0_12.rect t)).emb y = ix2 (at_ t (y 0)) (y 1) := by
    blk_ext [idx t]; rfl
  rw [after0_12]
  by_cases h : t.val % 32 = 0
  · rw [Gen.outsAt0_A m c t h]
    frame_out
    rw [e]
    exact congrFun (pay5 m c t) y
  · rw [Gen.outsAt0_B m c t h]
    frame_out
    rw [e]
    exact congrFun (pay5 m c t) y

/-- The gradient's block, with its inputs computed in the block. -/
theorem point13 (t : Fin cfg0.N) (y : S256x1024.Idx) :
    k0_pay17
      (k0_pay10 (k0_pay5 (iblk m c 2 t) (iblk m c 0 t) (iblk m c 1 t) (iblk m c 3 t))
        (k0_pay6 (iblk m c 2 t) (iblk m c 0 t) (iblk m c 1 t) (iblk m c 3 t) (iblk m c 4 t)) (iblk m c 5 t)
        (k0_pay4 (iblk m c 2 t) (iblk m c 0 t) (iblk m c 1 t)) (iblk m c 6 t))
      (k0_pay11 (iblk m c 7 t))
      (k0_pay12 (k0_pay5 (iblk m c 2 t) (iblk m c 0 t) (iblk m c 1 t) (iblk m c 3 t))
        (k0_pay6 (iblk m c 2 t) (iblk m c 0 t) (iblk m c 1 t) (iblk m c 3 t) (iblk m c 4 t)) (iblk m c 5 t)
        (k0_pay4 (iblk m c 2 t) (iblk m c 0 t) (iblk m c 1 t)) (iblk m c 6 t) (iblk m c 7 t))
      (iblk m c 8 t) y = dx (args m c) (at_ t (y 0)) (y 1) := by
  rw [pay5, pay6, pay4, pay10, pay12]
  exact pay17 m c t y

theorem point14 (t : Fin cfg0.N) (u : FVec Ideal S1x128 .f32) (y : S1x128.Idx) :
    k0_pay14
      (k0_pay12 (k0_pay5 (iblk m c 2 t) (iblk m c 0 t) (iblk m c 1 t) (iblk m c 3 t))
        (k0_pay6 (iblk m c 2 t) (iblk m c 0 t) (iblk m c 1 t) (iblk m c 3 t) (iblk m c 4 t)) (iblk m c 5 t)
        (k0_pay4 (iblk m c 2 t) (iblk m c 0 t) (iblk m c 1 t)) (iblk m c 6 t) (iblk m c 7 t))
      (iblk m c 8 t) u y = u y + half * ∑ r : Fin 256, sq (args m c) (at_ t r) * invL := by
  rw [pay5, pay6, pay4, pay12]
  exact pay14 m c t u y

theorem point15 (t : Fin cfg0.N) (u : FVec Ideal S1x1024 .f32) (y : S1x1024.Idx) :
    k0_pay1
      (k0_pay18
        (k0_pay10 (k0_pay5 (iblk m c 2 t) (iblk m c 0 t) (iblk m c 1 t) (iblk m c 3 t))
          (k0_pay6 (iblk m c 2 t) (iblk m c 0 t) (iblk m c 1 t) (iblk m c 3 t) (iblk m c 4 t)) (iblk m c 5 t)
          (k0_pay4 (iblk m c 2 t) (iblk m c 0 t) (iblk m c 1 t)) (iblk m c 6 t))
        (k0_pay12 (k0_pay5 (iblk m c 2 t) (iblk m c 0 t) (iblk m c 1 t) (iblk m c 3 t))
          (k0_pay6 (iblk m c 2 t) (iblk m c 0 t) (iblk m c 1 t) (iblk m c 3 t) (iblk m c 4 t)) (iblk m c 5 t)
          (k0_pay4 (iblk m c 2 t) (iblk m c 0 t) (iblk m c 1 t)) (iblk m c 6 t) (iblk m c 7 t))
        (iblk m c 8 t))
      (k0_pay19
        (k0_pay10 (k0_pay5 (iblk m c 2 t) (iblk m c 0 t) (iblk m c 1 t) (iblk m c 3 t))
          (k0_pay6 (iblk m c 2 t) (iblk m c 0 t) (iblk m c 1 t) (iblk m c 3 t) (iblk m c 4 t)) (iblk m c 5 t)
          (k0_pay4 (iblk m c 2 t) (iblk m c 0 t) (iblk m c 1 t)) (iblk m c 6 t))) u y
      = u y + ∑ r : Fin 256, e (args m c) (at_ t r) (y 1) * invL * xo (args m c) (at_ t r) (y 1) * rstd (xo (args m c) (at_ t r)) := by
  rw [pay5, pay6, pay4, pay10, pay12]
  exact pay1 m c t u y

theorem final13 : (dats m 0 c).arrAt 13 cfg0.N = (fun p => dx (args m c) (p 0) (p 1) : FVec Ideal S8192x1024 .f32) := by
  refine (dats m 0 c).arrAt_eq_of_covers 13 _ (by decide +kernel) fun t hf y => ?_
  blk_simp
  have e : ((View.whole main_v10_4).slice (win0_13.rect t)).emb y = ix2 (at_ t (y 0)) (y 1) := by
    blk_ext [idx t]; rfl
  rw [after0_13]
  by_cases h : t.val % 32 = 0
  · rw [Gen.outsAt0_A m c t h]
    frame_out
    rw [e]
    exact point13 m c t y
  · rw [Gen.outsAt0_B m c t h]
    frame_out
    rw [e]
    exact point13 m c t y

theorem final14 : (dats m 0 c).arrAt 14 cfg0.N = (fun _ => loss (args m c) : FVec Ideal S1x128 .f32) := by
  refine (dats m 0 c).arrAt_eq_of_after_last 14 t0_31 (by decide +kernel) _ fun y => ?_
  blk_simp
  rw [after0_14, Pipeline.eq_sum_fin_of_reset_step_apply_last (fun n h => (outsAt0 m c n h).2.2.2.2.2.1) 32 (fun _ => 0)
    (fun t _ => half * ∑ r : Fin 256, sq (args m c) (at_ t r) * invL)
    (fun t h y => by rw [outsAt0_A m c t h]; frame_out; exact (point14 m c t _ y).trans (congrArg (· + _) (zero2 y)))
    (fun t h y => by rw [outsAt0_B m c t h]; frame_out; exact point14 m c t _ y)
    (le_of_eq N_0) t0_31 rfl y, zero_add]
  rfl

theorem final15 : (dats m 0 c).arrAt 15 cfg0.N = (fun p => dgf (args m c) (p 1) : FVec Ideal S1x1024 .f32) := by
  refine (dats m 0 c).arrAt_eq_of_after_last 15 t0_31 (by decide +kernel) _ fun y => ?_
  blk_simp
  rw [after0_15, Pipeline.eq_sum_fin_of_reset_step_apply_last (fun n h => (outsAt0 m c n h).2.2.2.2.2.2) 32 (fun _ => 0)
    (fun t y => ∑ r : Fin 256, e (args m c) (at_ t r) (y 1) * invL * xo (args m c) (at_ t r) (y 1) * rstd (xo (args m c) (at_ t r)))
    (fun t h y => by rw [outsAt0_A m c t h]; frame_out; exact (point15 m c t _ y).trans (congrArg (· + _) (zero3 y)))
    (fun t h y => by rw [outsAt0_B m c t h]; frame_out; exact point15 m c t _ y)
    (le_of_eq N_0) t0_31 rfl y, zero_add]
  show (_ : EReal) = _
  exact Fin.sum_mul_add_fin 32 256 (fun i : Fin 8192 => e (args m c) i (y 1) * invL * xo (args m c) i (y 1) * rstd (xo (args m c) i)) rfl

end Cert.LossIdeal.Formula

end
-- ==== Proof.LossRef.lean ====
/- The seven results of the reference of `proj_ffn_loss`, as formulas over the argument arrays. -/
module

public import proofs.«01_k».proof.Proof.Gen.LossRefIdeal.Run
public import proofs.«01_k».proof.Proof.LossMath
public import Idealize.ShloMosaic.Lib.Tactic.CleanTypes

@[expose] public section

set_option maxRecDepth 16384

noncomputable section

namespace Cert.LossRefIdeal.Formula

open Cert.LossRefIdeal Idealize.ShloMosaic Idealize.ShloMosaic.TcCoe Idealize.SL.Sem Cert.RmsNorm Cert.LossMath
open Idealize.ShloMosaic.StableHlo

variable (m : (ℓ : Loc nD τ sig) → Buf (Elt Ideal) ℓ) (c : Dev nD)

abbrev ACT : FVec Ideal S8192x1024 .f32 := m ((c.tc : Thread nD τ).loc main_arg0)
abbrev W : FVec Ideal S1024x1024 .f32 := m ((c.tc : Thread nD τ).loc main_arg1)
abbrev R : FVec Ideal S8192x1024 .f32 := m ((c.tc : Thread nD τ).loc main_arg2)
abbrev G : FVec Ideal S1024 .f32 := m ((c.tc : Thread nD τ).loc main_arg3)
abbrev WG : FVec Ideal S1024x2816 .f32 := m ((c.tc : Thread nD τ).loc main_arg4)
abbrev WU : FVec Ideal S1024x2816 .f32 := m ((c.tc : Thread nD τ).loc main_arg5)
abbrev WD : FVec Ideal S2816x1024 .f32 := m ((c.tc : Thread nD τ).loc main_arg6)
abbrev GF : FVec Ideal S1024 .f32 := m ((c.tc : Thread nD τ).loc main_arg7)
abbrev TG : FVec Ideal S8192x1024 .f32 := m ((c.tc : Thread nD τ).loc main_arg8)

/-- The argument arrays, by their coordinates. -/
def args : Args where
  act i k := ACT m c (ix2 i k)
  w k l := W m c (ix2 k l)
  r i k := R m c (ix2 i k)
  g k := G m c (ix1 k)
  wg k f := WG m c (ix2 k f)
  wu k f := WU m c (ix2 k f)
  wd f k := WD m c (ix2 f k)
  gf k := GF m c (ix1 k)
  tg i k := TG m c (ix2 i k)

theorem r1 (i : Fin 8192) (k : Fin 1024) :
    (Value.res_main_v1 (launchContents m c) : FVec Ideal S8192x1024 .f32) (ix2 i k) = x (args m c) i k := by
  unfold Value.res_main_v1
  clean_types
  pointwise
  rfl

theorem r14 (i : Fin 8192) (k : Fin 1024) :
    (Value.res_main_v14 (launchContents m c) : FVec Ideal S8192x1024 .f32) (ix2 i k) = h (args m c) i k := by
  unfold Value.res_main_v14
  clean_types
  pointwise
  simp only [r1]
  rfl

theorem r15 (i : Fin 8192) (f : Fin 2816) :
    (Value.res_main_v15 (launchContents m c) : FVec Ideal S8192x2816 .f32) (ix2 i f) = a (args m c) i f := by
  unfold Value.res_main_v15
  clean_types
  pointwise
  simp only [r14]
  rfl

theorem r16 (i : Fin 8192) (f : Fin 2816) :
    (Value.res_main_v16 (launchContents m c) : FVec Ideal S8192x2816 .f32) (ix2 i f) = b (args m c) i f := by
  unfold Value.res_main_v16
  clean_types
  pointwise
  simp only [r14]
  rfl

theorem r22 (i : Fin 8192) (k : Fin 1024) :
    (Value.res_main_v22 (launchContents m c) : FVec Ideal S8192x1024 .f32) (ix2 i k) = xo (args m c) i k := by
  unfold Value.res_main_v22
  clean_types
  pointwise
  simp only [r1, r15, r16]
  exact congrArg (fun z => x (args m c) i k + half * z) (Finset.sum_congr rfl fun f _ =>
    congrArg (· * (args m c).wd f k) (by rw [← sgRef_eq, sgRef, one, Gate.bits_one]))

theorem r29 (i : Fin 8192) (k : Fin 1) :
    (Value.res_main_v29 (launchContents m c) : FVec Ideal S8192x1 .f32) (ix2 i k) = meanSq (xo (args m c) i) := by
  unfold Value.res_main_v29
  clean_types
  pointwise
  simp only [r22]
  rfl

theorem r30 (i : Fin 8192) (k : Fin 1) :
    (Value.res_main_v30 (launchContents m c) : FVec Ideal S8192x1 .f32) (ix2 i k) = rstd (xo (args m c) i) := by
  unfold Value.res_main_v30
  clean_types
  pointwise
  simp only [r29]
  rfl

theorem r35 (i : Fin 8192) (k : Fin 1024) :
    (Value.res_main_v35 (launchContents m c) : FVec Ideal S8192x1024 .f32) (ix2 i k) = xo (args m c) i k * rstd (xo (args m c) i) := by
  unfold Value.res_main_v35
  clean_types
  pointwise
  simp only [r22, r30]

theorem r36 (j : Fin 1) (k : Fin 1024) :
    (Value.res_main_v36 (launchContents m c) : FVec Ideal S1x1024 .f32) (ix2 j k) = (args m c).gf k := by
  unfold Value.res_main_v36
  clean_types
  pointwise
  rfl

theorem r39 (i : Fin 8192) (k : Fin 1024) :
    (Value.res_main_v39 (launchContents m c) : FVec Ideal S8192x1024 .f32) (ix2 i k) = e (args m c) i k := by
  unfold Value.res_main_v39
  clean_types
  pointwise
  simp only [r35, r36]
  rfl

theorem r50 (i : Fin 8192) (k : Fin 1024) :
    (Value.res_main_v50 (launchContents m c) : FVec Ideal S8192x1024 .f32) (ix2 i k) = Ideal.div (half * one) L := by
  unfold Value.res_main_v50
  clean_types
  pointwise

theorem r53 (i : Fin 8192) (k : Fin 1024) :
    (Value.res_main_v53 (launchContents m c) : FVec Ideal S8192x1024 .f32) (ix2 i k) = deRef (args m c) i k := by
  unfold Value.res_main_v53
  clean_types
  pointwise
  simp only [r39, r50]
  rfl

theorem r58 (i : Fin 8192) (k : Fin 1024) :
    (Value.res_main_v58 (launchContents m c) : FVec Ideal S8192x1024 .f32) (ix2 i k) = uRef (args m c) i k := by
  unfold Value.res_main_v58
  clean_types
  pointwise
  simp only [r53, r36]
  rfl

theorem r69 (i : Fin 8192) (k : Fin 1024) :
    (Value.res_main_v69 (launchContents m c) : FVec Ideal S8192x1024 .f32) (ix2 i k) = sqGrad (xo (args m c) i) (uRef (args m c) i) := by
  unfold Value.res_main_v69
  clean_types
  pointwise
  simp only [r22, r58, r29, r30, Finset.univ_unique, Finset.sum_singleton]
  rfl

/-- The reference's run, with its results at these formulas. -/
theorem run (ρ : Dev nD → PrngReg) :
    θ_run defs (onTc (τ := τ) (main (F := Ideal))) ⟨m, fun _ => 0, ρ⟩ fun r => ∀ c : Dev nD,
      r.2.mem ((c.tc : Thread nD τ).loc main_v1) = (fun p => x (args m c) (p 0) (p 1) : FVec Ideal S8192x1024 .f32)
      ∧ r.2.mem ((c.tc : Thread nD τ).loc main_v74) = (fun p => a (args m c) (p 0) (p 1) : FVec Ideal S8192x2816 .bf16)
      ∧ r.2.mem ((c.tc : Thread nD τ).loc main_v75) = (fun p => b (args m c) (p 0) (p 1) : FVec Ideal S8192x2816 .bf16)
      ∧ r.2.mem ((c.tc : Thread nD τ).loc main_v76) = (fun p => LossMath.h (args m c) (p 0) (p 1) : FVec Ideal S8192x1024 .bf16)
      ∧ r.2.mem ((c.tc : Thread nD τ).loc main_v73) = (fun p => dxRef (args m c) (p 0) (p 1) : FVec Ideal S8192x1024 .f32)
      ∧ r.2.mem ((c.tc : Thread nD τ).loc main_v77) = (fun _ => lossRef (args m c) : FVec Ideal S1x128 .f32)
      ∧ r.2.mem ((c.tc : Thread nD τ).loc main_v78) = (fun p => dgfRef (args m c) (p 1) : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (Value.run m ρ)
  obtain ⟨h0, h1, h2, h3, h4, h5, h6, hk⟩ := h c
  refine ⟨h0.trans ?_, h1.trans ?_, h2.trans ?_, h3.trans ?_, h4.trans ?_, h5.trans ?_, h6.trans ?_, hk⟩
  · funext p
    idx_vars p
    exact r1 m c p0 p1
  · funext p
    idx_vars p
    clean_types
    pointwise
    exact r15 m c p0 p1
  · funext p
    idx_vars p
    clean_types
    pointwise
    exact r16 m c p0 p1
  · funext p
    idx_vars p
    clean_types
    pointwise
    exact r14 m c p0 p1
  · funext p
    idx_vars p
    clean_types
    pointwise
    simp only [r22, r30, r58, r69]
    rfl
  · funext p
    idx_vars p
    clean_types
    pointwise
    simp only [r39]
    rfl
  · funext p
    idx_vars p
    clean_types
    pointwise
    simp only [r35, r53, Finset.univ_unique, Finset.sum_singleton]
    rfl

end Cert.LossRefIdeal.Formula

end
-- ==== Proof.Loss.lean ====
/- The claims about `proj_ffn_loss`: the frames of its programs, and that its seven results are the reference's. -/
module

public import proofs.«01_k».proof.Defs
public import proofs.«01_k».proof.Proof.Gen.Loss
public import proofs.«01_k».proof.Proof.Gen.Loss.Frame
public import proofs.«01_k».proof.Proof.LossKernel
public import proofs.«01_k».proof.Proof.LossRef
public import Idealize.ShloMosaic.Lib.Quiescent

@[expose] public section

set_option maxRecDepth 16384

noncomputable section

namespace Cert.LossClaims

open Idealize.ShloMosaic Idealize.ShloMosaic.TcCoe Idealize.SL.Sem Cert.Reals Cert.LossMath

instance preFacts : Cert.Pre_finite_loss.Facts where
  bcast_S_S8192x1024 := by decide
  reducesTo_S8192x1024_S_d0_1 := by decide
  h_S_ := by decide
  bcast_S_S1024x1024 := by decide
  reducesTo_S1024x1024_S_d0_1 := by decide
  bcast_S_S1024 := by decide
  reducesTo_S1024_S_d0 := by decide
  bcast_S_S1024x2816 := by decide
  reducesTo_S1024x2816_S_d0_1 := by decide
  bcast_S_S2816x1024 := by decide
  reducesTo_S2816x1024_S_d0_1 := by decide

theorem frame : Cert.quiescent_Loss := fun m ρ _ => Cert.Loss.Gen.frame m ρ

theorem frameIdeal : Cert.quiescent_LossIdeal := fun m ρ _ => Cert.LossIdeal.Gen.frame m ρ

theorem frameIdealPre : Cert.quiescent_LossIdeal_pre_finite_loss := fun m ρ _ => Cert.LossIdeal.Gen.frame m ρ

theorem frameRef : Cert.quiescent_LossRefIdeal := fun m ρ _ =>
  (θ_run _ _ _).mono (fun r h => ⟨fun c => (h c).2.2.2.2.2.2.2, sem_eq_zero_of_no_sems rfl _⟩) (Cert.LossRefIdeal.Formula.run m ρ)

theorem frameRefPre : Cert.quiescent_LossRefIdeal_pre_finite_loss := fun m ρ _ =>
  (θ_run _ _ _).mono (fun r h => ⟨fun c => (h c).2.2.2.2.2.2.2, sem_eq_zero_of_no_sems rfl _⟩) (Cert.LossRefIdeal.Formula.run m ρ)

section

open Cert.LossIdeal Cert.LossIdeal.Formula

variable {m : (ℓ : Loc nD τ sig) → Buf (Elt Ideal) ℓ}

/-- The precondition, read: every entry of the arguments is a real. -/
theorem real (h : Cert.Pre_LossIdeal_finite_loss m) (c : Dev nD) : LossMath.Real (args m c) := by
  have e := congrFun (h c) (fun a => a.elim0)
  dsimp only [Cert.Pre_finite_loss.fn, Cert.Pre_finite_loss.fn_part1, Cert.Pre_finite_loss.fn_part2] at e
  obtain ⟨e, e8⟩ := andi_split e
  obtain ⟨e, e7⟩ := andi_split e
  obtain ⟨e, e6⟩ := andi_split e
  obtain ⟨e, e5⟩ := andi_split e
  obtain ⟨e, e4⟩ := andi_split e
  obtain ⟨e, e3⟩ := andi_split e
  obtain ⟨e, e2⟩ := andi_split e
  obtain ⟨e0, e1⟩ := andi_split e
  have h0 : ∀ i, IsReal (ACT m c i) := all_real _ _ _ _ _ _ e0
  have h1 : ∀ i, IsReal (W m c i) := all_real _ _ _ _ _ _ e1
  have h2 : ∀ i, IsReal (R m c i) := all_real _ _ _ _ _ _ e2
  have h3 : ∀ i, IsReal (G m c i) := all_real _ _ _ _ _ _ e3
  have h4 : ∀ i, IsReal (WG m c i) := all_real _ _ _ _ _ _ e4
  have h5 : ∀ i, IsReal (WU m c i) := all_real _ _ _ _ _ _ e5
  have h6 : ∀ i, IsReal (WD m c i) := all_real _ _ _ _ _ _ e6
  have h7 : ∀ i, IsReal (GF m c i) := all_real _ _ _ _ _ _ e7
  have h8 : ∀ i, IsReal (TG m c i) := all_real _ _ _ _ _ _ e8
  exact {
    act := fun _ _ => h0 _
    w := fun _ _ => h1 _
    r := fun _ _ => h2 _
    g := fun _ => h3 _
    wg := fun _ _ => h4 _
    wu := fun _ _ => h5 _
    wd := fun _ _ => h6 _
    gf := fun _ => h7 _
    tg := fun _ _ => h8 _ }

end

theorem algebraic : Cert.algebraic_LossIdeal_LossRefIdeal_pre_finite_loss := by
  intro m g m' g' hpre hagree
  refine ⟨fun c p => x (Cert.LossIdeal.Formula.args m c) (p 0) (p 1), fun c p => a (Cert.LossIdeal.Formula.args m c) (p 0) (p 1), fun c p => b (Cert.LossIdeal.Formula.args m c) (p 0) (p 1), fun c p => LossMath.h (Cert.LossIdeal.Formula.args m c) (p 0) (p 1), fun c p => dx (Cert.LossIdeal.Formula.args m c) (p 0) (p 1),
    fun c _ => loss (Cert.LossIdeal.Formula.args m c), fun c p => dgf (Cert.LossIdeal.Formula.args m c) (p 1), ?_, ?_⟩
  · exact (θ_run _ _ _).mono (fun r h c => ⟨(h c).1.trans (Cert.LossIdeal.Formula.final9 m c),
      (h c).2.1.trans (Cert.LossIdeal.Formula.final10 m c),
      (h c).2.2.1.trans (Cert.LossIdeal.Formula.final11 m c),
      (h c).2.2.2.1.trans (Cert.LossIdeal.Formula.final12 m c),
      (h c).2.2.2.2.1.trans (Cert.LossIdeal.Formula.final13 m c),
      (h c).2.2.2.2.2.1.trans (Cert.LossIdeal.Formula.final14 m c),
      (h c).2.2.2.2.2.2.1.trans (Cert.LossIdeal.Formula.final15 m c),
      (h c).2.2.2.2.2.2.2⟩) (Cert.LossIdeal.Value.run_blocks m g)
  · refine (θ_run _ _ _).mono (fun r h c => ?_) (Cert.LossRefIdeal.Formula.run m' g')
    have ha : Cert.LossRefIdeal.Formula.args m' c = Cert.LossIdeal.Formula.args m c := by
      obtain ⟨a0, a1, a2, a3, a4, a5, a6, a7, a8⟩ := hagree c
      simp only [Cert.LossRefIdeal.Formula.args, a0, a1, a2, a3, a4, a5, a6, a7, a8]
      rfl
    have hr := real hpre c
    obtain ⟨h0, h1, h2, h3, h4, h5, h6, hk⟩ := h c
    rw [ha] at h0 h1 h2 h3 h4 h5 h6
    exact ⟨h0, h1, h2, h3, h4.trans (funext fun p => dxRef_eq hr _ _), h5.trans (funext fun _ => lossRef_eq hr),
      h6.trans (funext fun p => dgfRef_eq hr _), hk⟩

end Cert.LossClaims

end
-- ==== Proof.FfnMath.lean ====
/- The gradient of a gated feed-forward layer through its norm, over arrays given as functions of their coordinates. -/
module

public import proofs.«01_k».proof.Proof.Gate
public import proofs.«01_k».proof.Proof.RmsNorm

@[expose] public section

noncomputable section

namespace Cert.FfnMath

open Idealize.ShloMosaic Cert.Reals Cert.Gate Cert.RmsNorm

/-- What the call reads: the layer's input, the norm's weights, the three products' weights and the cotangent of the layer's output. -/
structure Args where
  x : Fin 8192 → Fin 1024 → EReal
  g : Fin 1024 → EReal
  wg : Fin 1024 → Fin 2816 → EReal
  wu : Fin 1024 → Fin 2816 → EReal
  wd : Fin 2816 → Fin 1024 → EReal
  go : Fin 8192 → Fin 1024 → EReal

abbrev half : EReal := Ideal.ofBits .f32 0x3F000000#32
abbrev one : EReal := Ideal.ofBits .f32 0x3F800000#32

variable (p : Args)

/-- The normalised row and the two products of it the forward pass saves. -/
def h (i : Fin 8192) (k : Fin 1024) : EReal := p.x i k * rstd (p.x i) * p.g k

def a (i : Fin 8192) (f : Fin 2816) : EReal := ∑ k : Fin 1024, h p i k * p.wg k f

def b (i : Fin 8192) (f : Fin 2816) : EReal := ∑ k : Fin 1024, h p i k * p.wu k f

/-- The cotangent of the last product, and of the gated row. -/
def gh (i : Fin 8192) (k : Fin 1024) : EReal := half * p.go i k

def ds (i : Fin 8192) (f : Fin 2816) : EReal := ∑ k : Fin 1024, gh p i k * p.wd f k

def sl (i : Fin 8192) (f : Fin 2816) : EReal := a p i f * sig (a p i f)

def s (i : Fin 8192) (f : Fin 2816) : EReal := sl p i f * b p i f

def da (i : Fin 8192) (f : Fin 2816) : EReal := ds p i f * b p i f * (sig (a p i f) + sl p i f * (one - sig (a p i f)))

def db (i : Fin 8192) (f : Fin 2816) : EReal := ds p i f * sl p i f

/-- The cotangent of the normalised row. -/
def dh (i : Fin 8192) (k : Fin 1024) : EReal := (∑ f : Fin 2816, da p i f * p.wg k f) + ∑ f : Fin 2816, db p i f * p.wu k f

def gx (i : Fin 8192) (k : Fin 1024) : EReal := p.go i k + rowGrad (p.x i) (fun k => dh p i k * p.g k) k

def dg (k : Fin 1024) : EReal := ∑ i : Fin 8192, dh p i k * p.x i k * rstd (p.x i)

/-! The reference's forms. -/

def sg (i : Fin 8192) (f : Fin 2816) : EReal := Ideal.div one (one + Ideal.exp (-a p i f))

def sRef (i : Fin 8192) (f : Fin 2816) : EReal := a p i f * sg p i f * b p i f

def dbRef (i : Fin 8192) (f : Fin 2816) : EReal := a p i f * sg p i f * ds p i f

def daRef (i : Fin 8192) (f : Fin 2816) : EReal :=
  ds p i f * b p i f * sg p i f + a p i f * (ds p i f * b p i f) * (sg p i f * (one - sg p i f))

def dhRef (i : Fin 8192) (k : Fin 1024) : EReal := (∑ f : Fin 2816, dbRef p i f * p.wu k f) + ∑ f : Fin 2816, daRef p i f * p.wg k f

def gxRef (i : Fin 8192) (k : Fin 1024) : EReal :=
  p.go i k + dhRef p i k * p.g k * rstd (p.x i) + p.x i k * sqGrad (p.x i) (fun k => dhRef p i k * p.g k)
    + sqGrad (p.x i) (fun k => dhRef p i k * p.g k) * p.x i k

def dgRef (k : Fin 1024) : EReal := ∑ i : Fin 8192, p.x i k * rstd (p.x i) * dhRef p i k

/-- What is asked of the arrays: all of them are real. -/
structure Real : Prop where
  x : ∀ i k, IsReal (p.x i k)
  g : ∀ k, IsReal (p.g k)
  wg : ∀ i k, IsReal (p.wg i k)
  wu : ∀ i k, IsReal (p.wu i k)
  wd : ∀ i k, IsReal (p.wd i k)
  go : ∀ i k, IsReal (p.go i k)

theorem sg_eq (i : Fin 8192) (f : Fin 2816) : sg p i f = sig (a p i f) := (sig_eq _).symm

theorem sRef_eq (i : Fin 8192) (f : Fin 2816) : sRef p i f = s p i f := by rw [sRef, sg_eq]; rfl

theorem dbRef_eq (i : Fin 8192) (f : Fin 2816) : dbRef p i f = db p i f := by
  rw [dbRef, sg_eq, mul_comm]; rfl

variable {p}

theorem h_real (q : Real p) (i : Fin 8192) (k : Fin 1024) : IsReal (h p i k) :=
  ((q.x i k).mul (rstd_real fun k => q.x i k)).mul (q.g k)

theorem a_real (q : Real p) (i : Fin 8192) (f : Fin 2816) : IsReal (a p i f) := isReal_sum fun k => (h_real q i k).mul (q.wg k f)

theorem b_real (q : Real p) (i : Fin 8192) (f : Fin 2816) : IsReal (b p i f) := isReal_sum fun k => (h_real q i k).mul (q.wu k f)

theorem ds_real (q : Real p) (i : Fin 8192) (f : Fin 2816) : IsReal (ds p i f) :=
  isReal_sum fun k => (IsReal.mul ⟨_, bits_half⟩ (q.go i k)).mul (q.wd f k)

theorem sl_real (q : Real p) (i : Fin 8192) (f : Fin 2816) : IsReal (sl p i f) := (a_real q i f).mul (sig_real (a_real q i f))

theorem one_real : IsReal one := by rw [one, bits_one]; exact isReal_one

theorem da_real (q : Real p) (i : Fin 8192) (f : Fin 2816) : IsReal (da p i f) :=
  ((ds_real q i f).mul (b_real q i f)).mul ((sig_real (a_real q i f)).add ((sl_real q i f).mul (one_real.sub (sig_real (a_real q i f)))))

theorem dh_real (q : Real p) (i : Fin 8192) (k : Fin 1024) : IsReal (dh p i k) :=
  (isReal_sum fun f => (da_real q i f).mul (q.wg k f)).add (isReal_sum fun f => ((ds_real q i f).mul (sl_real q i f)).mul (q.wu k f))

theorem daRef_eq (q : Real p) (i : Fin 8192) (f : Fin 2816) : daRef p i f = da p i f := by
  rw [daRef, da, sl, sg_eq, one, bits_one]
  obtain ⟨y, hy⟩ := a_real q i f
  obtain ⟨d, hd⟩ := (ds_real q i f).mul (b_real q i f)
  obtain ⟨t, ht⟩ := sig_real (a_real q i f)
  rw [hd, ht, hy, ← EReal.coe_one, ← EReal.coe_sub]
  simp only [← EReal.coe_mul, ← EReal.coe_add]
  exact congrArg _ (by ring)

theorem dhRef_eq (q : Real p) (i : Fin 8192) (k : Fin 1024) : dhRef p i k = dh p i k := by
  rw [dhRef, dh, add_comm]
  simp only [daRef_eq q, dbRef_eq]

theorem gxRef_eq (q : Real p) (i : Fin 8192) (k : Fin 1024) : gxRef p i k = gx p i k := by
  rw [gxRef, gx]
  simp only [dhRef_eq q]
  exact (add_rowGrad (fun k => q.x i k) (fun k => (dh_real q i k).mul (q.g k)) _ k).symm

theorem dgRef_eq (q : Real p) (k : Fin 1024) : dgRef p k = dg p k :=
  Finset.sum_congr rfl fun i _ => by rw [dhRef_eq q, mul_comm, ← mul_assoc]

end Cert.FfnMath

end
-- ==== Proof.FfnKernel.lean ====
/- What the six results of `ffn_bwd` hold after the kernel's run, as formulas over the argument arrays. -/
module

public import proofs.«01_k».proof.Proof.Gen.FfnIdeal.Value
public import proofs.«01_k».proof.Proof.FfnMath
public import Idealize.ShloMosaic.Lib.Pipeline.ValueKit
public import Idealize.ShloMosaic.Lib.Claim

@[expose] public section

set_option maxRecDepth 16384

noncomputable section

namespace Cert.FfnIdeal.Formula

open Cert.FfnIdeal Cert.FfnIdeal.Gen Idealize.ShloMosaic Idealize.ShloMosaic.TcCoe Idealize.SL.Sem Cert.RmsNorm Cert.FfnMath

variable (m : (ℓ : Loc nD τ sig) → Buf (Elt Ideal) ℓ) (c : Dev nD)

abbrev X : FVec Ideal S8192x1024 .f32 := m ((c : Thread nD τ).loc main_arg0)
abbrev G : FVec Ideal S1024 .f32 := m ((c : Thread nD τ).loc main_arg1)
abbrev WG : FVec Ideal S1024x2816 .f32 := m ((c : Thread nD τ).loc main_arg2)
abbrev WU : FVec Ideal S1024x2816 .f32 := m ((c : Thread nD τ).loc main_arg3)
abbrev WD : FVec Ideal S2816x1024 .f32 := m ((c : Thread nD τ).loc main_arg4)
abbrev GO : FVec Ideal S8192x1024 .f32 := m ((c : Thread nD τ).loc main_arg5)

/-- The argument arrays, by their coordinates. -/
def args : Args where
  x i k := X m c (ix2 i k)
  g k := G m c (ix1 k)
  wg k f := WG m c (ix2 k f)
  wu k f := WU m c (ix2 k f)
  wd f k := WD m c (ix2 f k)
  go i k := GO m c (ix2 i k)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0, 0] ∧ win0_6.index t = ![1, 0, 0]
    ∧ win0_7.index t = ![2, 0, 0] ∧ win0_8.index t = ![t.val, 0] ∧ win0_9.index t = ![0, 0] ∧ win0_10.index t = ![t.val, 0]
    ∧ win0_11.index t = ![t.val, 0] ∧ win0_12.index t = ![t.val, 0] ∧ win0_13.index t = ![t.val, 0] :=
  (by decide +kernel : ∀ t : Fin grid0.N, _)

/-- Row `r` of grid point `t`'s block. -/
def at_ (t : Fin cfg0.N) (r : Fin 256) : Fin 8192 :=
  ⟨t.val * 256 + r.val, by have h : t.val < 32 := lt_of_lt_of_eq t.isLt N_0; omega⟩

theorem at_val (t : Fin cfg0.N) (r : Fin 256) : (at_ t r).val = t.val * 256 + r.val := rfl

/-- The last grid point. -/
abbrev t0_31 : Fin cfg0.N := ⟨31, lt_of_lt_of_eq (by decide) N_0.symm⟩

set_option maxHeartbeats 1000000 in
/-- The three products' weights, stacked. -/
theorem V_v6 : (V m c main_v6 : FVec Ideal S3x2816x1024 .bf16) = fun p =>
    if (p 0).val = 0 then (args m c).wg (p 2) (p 1) else if (p 0).val = 1 then (args m c).wu (p 2) (p 1) else (args m c).wd (p 1) (p 2) := by
  unfold V
  after_results_simp
  funext p
  idx_vars p
  pointwise
  after_results_simp
  pointwise
  fin_cases p0
  · rfl
  · rfl
  · rfl

set_option maxHeartbeats 1000000 in
/-- The two products of the normalised row, as the host lines leave them. -/
theorem V_v22 : (V m c main_v22 : FVec Ideal S8192x2816 .bf16) = fun p => a (args m c) (p 0) (p 1) := by
  unfold V
  after_results_simp
  funext p
  idx_vars p
  pointwise
  rfl

set_option maxHeartbeats 1000000 in
theorem V_v24 : (V m c main_v24 : FVec Ideal S8192x2816 .bf16) = fun p => b (args m c) (p 0) (p 1) := by
  unfold V
  after_results_simp
  funext p
  idx_vars p
  pointwise
  rfl

theorem read0 (t : Fin cfg0.N) (r : Fin 256) (k : Fin 1024) :
    (iblk m c 0 t : Vec Ideal S256x1024 .f32) (ix2 r k) = (args m c).go (at_ t r) k := by
  unfold args; blk_ext! [iblk, V, idx t, at_val]

theorem read1 (t : Fin cfg0.N) (r : Fin 256) (k : Fin 1024) :
    (iblk m c 1 t : Vec Ideal S256x1024 .f32) (ix2 r k) = (args m c).x (at_ t r) k := by
  unfold args; blk_ext! [iblk, V, idx t, at_val]

theorem read2 (t : Fin cfg0.N) (k : Fin 1024) :
    (iblk m c 2 t : Vec Ideal S1x1024 .f32) (ix2 0 k) = (args m c).g k := by
  unfold args; blk_ext! [iblk, V, idx t, at_val]

theorem read3 (t : Fin cfg0.N) (r : Fin 256) (f : Fin 2816) :
    (iblk m c 3 t : Vec Ideal S256x2816 .bf16) (ix2 r f) = a (args m c) (at_ t r) f := by
  refine Eq.trans ?_ (congrFun (V_v22 m c) (ix2 (at_ t r) f))
  blk_ext! [iblk, idx t, at_val]

theorem read4 (t : Fin cfg0.N) (r : Fin 256) (f : Fin 2816) :
    (iblk m c 4 t : Vec Ideal S256x2816 .bf16) (ix2 r f) = b (args m c) (at_ t r) f := by
  refine Eq.trans ?_ (congrFun (V_v24 m c) (ix2 (at_ t r) f))
  blk_ext! [iblk, idx t, at_val]

theorem read5 (t : Fin cfg0.N) (f : Fin 2816) (k : Fin 1024) :
    (iblk m c 5 t : Vec Ideal S1x2816x1024 .bf16) (ix3 0 f k) = (args m c).wg k f := by
  refine Eq.trans ?_ (congrFun (V_v6 m c) (ix3 0 f k))
  blk_ext! [iblk, idx t]

theorem read6 (t : Fin cfg0.N) (f : Fin 2816) (k : Fin 1024) :
    (iblk m c 6 t : Vec Ideal S1x2816x1024 .bf16) (ix3 0 f k) = (args m c).wu k f := by
  refine Eq.trans ?_ (congrFun (V_v6 m c) (ix3 1 f k))
  blk_ext! [iblk, idx t]

theorem read7 (t : Fin cfg0.N) (f : Fin 2816) (k : Fin 1024) :
    (iblk m c 7 t : Vec Ideal S1x2816x1024 .bf16) (ix3 0 f k) = (args m c).wd f k := by
  refine Eq.trans ?_ (congrFun (V_v6 m c) (ix3 2 f k))
  blk_ext! [iblk, idx t]

/-! The block's intermediate values, each a function of the row and the column. -/

def ghB (t : Fin cfg0.N) : FVec Ideal S256x1024 .bf16 := fun y => gh (args m c) (at_ t (y 0)) (y 1)
def dsB (t : Fin cfg0.N) : FVec Ideal S256x2816 .f32 := fun y => ds (args m c) (at_ t (y 0)) (y 1)
def aB (t : Fin cfg0.N) : FVec Ideal S256x2816 .f32 := fun y => a (args m c) (at_ t (y 0)) (y 1)
def bB (t : Fin cfg0.N) : FVec Ideal S256x2816 .f32 := fun y => b (args m c) (at_ t (y 0)) (y 1)
def slB (t : Fin cfg0.N) : FVec Ideal S256x2816 .f32 := fun y => sl (args m c) (at_ t (y 0)) (y 1)
def daB (t : Fin cfg0.N) : FVec Ideal S256x2816 .bf16 := fun y => da (args m c) (at_ t (y 0)) (y 1)
def dbB (t : Fin cfg0.N) : FVec Ideal S256x2816 .bf16 := fun y => db (args m c) (at_ t (y 0)) (y 1)
def sB (t : Fin cfg0.N) : FVec Ideal S256x2816 .f32 := fun y => s (args m c) (at_ t (y 0)) (y 1)
def dhB (t : Fin cfg0.N) : FVec Ideal S256x1024 .f32 := fun y => dh (args m c) (at_ t (y 0)) (y 1)
def gxB (t : Fin cfg0.N) : FVec Ideal S256x1024 .f32 := fun y => gx (args m c) (at_ t (y 0)) (y 1)
def sigB (t : Fin cfg0.N) : FVec Ideal S256x2816 .f32 := fun y => Gate.sig (a (args m c) (at_ t (y 0)) (y 1))

theorem ghB_at (t : Fin cfg0.N) (r : Fin 256) (k : Fin 1024) : ghB m c t (ix2 r k) = gh (args m c) (at_ t r) k := rfl
theorem dsB_at (t : Fin cfg0.N) (r : Fin 256) (k : Fin 2816) : dsB m c t (ix2 r k) = ds (args m c) (at_ t r) k := rfl
theorem aB_at (t : Fin cfg0.N) (r : Fin 256) (k : Fin 2816) : aB m c t (ix2 r k) = a (args m c) (at_ t r) k := rfl
theorem bB_at (t : Fin cfg0.N) (r : Fin 256) (k : Fin 2816) : bB m c t (ix2 r k) = b (args m c) (at_ t r) k := rfl
theorem slB_at (t : Fin cfg0.N) (r : Fin 256) (k : Fin 2816) : slB m c t (ix2 r k) = sl (args m c) (at_ t r) k := rfl
theorem daB_at (t : Fin cfg0.N) (r : Fin 256) (k : Fin 2816) : daB m c t (ix2 r k) = da (args m c) (at_ t r) k := rfl
theorem dbB_at (t : Fin cfg0.N) (r : Fin 256) (k : Fin 2816) : dbB m c t (ix2 r k) = db (args m c) (at_ t r) k := rfl
theorem sB_at (t : Fin cfg0.N) (r : Fin 256) (k : Fin 2816) : sB m c t (ix2 r k) = s (args m c) (at_ t r) k := rfl
theorem dhB_at (t : Fin cfg0.N) (r : Fin 256) (k : Fin 1024) : dhB m c t (ix2 r k) = dh (args m c) (at_ t r) k := rfl
theorem gxB_at (t : Fin cfg0.N) (r : Fin 256) (k : Fin 1024) : gxB m c t (ix2 r k) = gx (args m c) (at_ t r) k := rfl
theorem sigB_at (t : Fin cfg0.N) (r : Fin 256) (k : Fin 2816) : sigB m c t (ix2 r k) = Gate.sig (a (args m c) (at_ t r) k) := rfl

theorem pay6 (t : Fin cfg0.N) : k0_pay6 (iblk m c 0 t) = ghB m c t := by
  funext y
  idx_vars y
  rw [ghB_at]
  unfold k0_pay6
  pointwise
  simp only [read0]
  rfl

theorem pay9 (t : Fin cfg0.N) : k0_pay9 (ghB m c t) (iblk m c 7 t) = dsB m c t := by
  funext y
  idx_vars y
  rw [dsB_at]
  unfold k0_pay9
  pointwise
  simp only [read7, ghB_at]
  rfl

theorem pay10 (t : Fin cfg0.N) : k0_pay10 (iblk m c 3 t) = aB m c t := by
  funext y
  idx_vars y
  rw [aB_at]
  unfold k0_pay10
  pointwise
  exact read3 m c t y0 y1

theorem pay11 (t : Fin cfg0.N) : k0_pay11 (iblk m c 4 t) = bB m c t := by
  funext y
  idx_vars y
  rw [bB_at]
  unfold k0_pay11
  pointwise
  exact read4 m c t y0 y1

theorem pay12 (t : Fin cfg0.N) : k0_pay12 (iblk m c 3 t) = sigB m c t := by
  funext y
  idx_vars y
  rw [sigB_at]
  unfold k0_pay12
  rw [pay10]
  pointwise
  simp only [aB_at]
  rfl

theorem pay13 (t : Fin cfg0.N) : k0_pay13 (iblk m c 3 t) = slB m c t := by
  funext y
  idx_vars y
  rw [slB_at]
  unfold k0_pay13
  rw [pay10, pay12]
  pointwise
  simp only [aB_at, sigB_at]
  rfl

theorem pay14 (t : Fin cfg0.N) : k0_pay14 (ghB m c t) (iblk m c 7 t) (iblk m c 3 t) (iblk m c 4 t) = daB m c t := by
  funext y
  idx_vars y
  rw [daB_at]
  unfold k0_pay14
  rw [pay9, pay11, pay12, pay13]
  pointwise
  simp only [dsB_at, bB_at, sigB_at, slB_at]
  rw [da, one, Gate.bits_one]

theorem pay15 (t : Fin cfg0.N) : k0_pay15 (ghB m c t) (iblk m c 7 t) (iblk m c 3 t) = dbB m c t := by
  funext y
  idx_vars y
  rw [dbB_at]
  unfold k0_pay15
  rw [pay9, pay13]
  pointwise
  simp only [dsB_at, slB_at]
  rfl

theorem pay16 (t : Fin cfg0.N) : k0_pay16 (iblk m c 3 t) (iblk m c 4 t) = sB m c t := by
  funext y
  idx_vars y
  rw [sB_at]
  unfold k0_pay16
  rw [pay11, pay13]
  pointwise
  simp only [bB_at, slB_at]
  rfl

theorem pay1 (t : Fin cfg0.N) : k0_pay1 (sB m c t) = (sB m c t : FVec Ideal S256x2816 .bf16) := by
  funext y
  pointwise [k0_pay1]

theorem pay2 (t : Fin cfg0.N) : k0_pay2 (daB m c t) (dbB m c t) (k0_pay7 (F := Ideal)) (iblk m c 5 t) (iblk m c 6 t) = dhB m c t := by
  funext y
  idx_vars y
  rw [dhB_at]
  unfold k0_pay2 k0_pay7
  pointwise
  simp only [read5, read6, daB_at, dbB_at, zero_add]
  rfl

theorem pay4 (t : Fin cfg0.N) : k0_pay4 (iblk m c 1 t) (iblk m c 2 t) (dhB m c t) (iblk m c 0 t) = gxB m c t := by
  funext y
  idx_vars y
  rw [gxB_at]
  unfold k0_pay4 k0_pay3
  pointwise
  simp only [read0, read1, read2, dhB_at]
  rfl

theorem pay5 (t : Fin cfg0.N) (u : FVec Ideal S1x1024 .f32) (y : S1x1024.Idx) : k0_pay5 (iblk m c 1 t) (dhB m c t) u y
    = u y + ∑ r : Fin 256, dh (args m c) (at_ t r) (y 1) * (args m c).x (at_ t r) (y 1) * rstd ((args m c).x (at_ t r)) := by
  idx_vars y
  obtain rfl : y0 = 0 := Subsingleton.elim _ _
  unfold k0_pay5 k0_pay3
  pointwise
  simp only [read1, dhB_at]
  rfl

theorem zero8 (y : S1x1024.Idx) : k0_pay8 (F := Ideal) y = 0 := by pointwise [k0_pay8]

/-- The cotangent of the normalised row, with its inputs computed in the block. -/
theorem pointH (t : Fin cfg0.N) :
    k0_pay2 (k0_pay14 (k0_pay6 (iblk m c 0 t)) (iblk m c 7 t) (iblk m c 3 t) (iblk m c 4 t))
      (k0_pay15 (k0_pay6 (iblk m c 0 t)) (iblk m c 7 t) (iblk m c 3 t)) (k0_pay7 (F := Ideal)) (iblk m c 5 t) (iblk m c 6 t) = dhB m c t := by
  rw [pay6, pay14, pay15]
  exact pay2 m c t

theorem point8 (t : Fin cfg0.N) (y : S256x1024.Idx) :
    k0_pay4 (iblk m c 1 t) (iblk m c 2 t)
      (k0_pay2 (k0_pay14 (k0_pay6 (iblk m c 0 t)) (iblk m c 7 t) (iblk m c 3 t) (iblk m c 4 t))
        (k0_pay15 (k0_pay6 (iblk m c 0 t)) (iblk m c 7 t) (iblk m c 3 t)) (k0_pay7 (F := Ideal)) (iblk m c 5 t) (iblk m c 6 t))
      (iblk m c 0 t) y = gx (args m c) (at_ t (y 0)) (y 1) := by
  rw [pointH]
  exact congrFun (pay4 m c t) y

theorem point9 (t : Fin cfg0.N) (u : FVec Ideal S1x1024 .f32) (y : S1x1024.Idx) :
    k0_pay5 (iblk m c 1 t)
      (k0_pay2 (k0_pay14 (k0_pay6 (iblk m c 0 t)) (iblk m c 7 t) (iblk m c 3 t) (iblk m c 4 t))
        (k0_pay15 (k0_pay6 (iblk m c 0 t)) (iblk m c 7 t) (iblk m c 3 t)) (k0_pay7 (F := Ideal)) (iblk m c 5 t) (iblk m c 6 t)) u y
    = u y + ∑ r : Fin 256, dh (args m c) (at_ t r) (y 1) * (args m c).x (at_ t r) (y 1) * rstd ((args m c).x (at_ t r)) := by
  rw [pointH]
  exact pay5 m c t u y

theorem point10 (t : Fin cfg0.N) (y : S256x2816.Idx) :
    k0_pay14 (k0_pay6 (iblk m c 0 t)) (iblk m c 7 t) (iblk m c 3 t) (iblk m c 4 t) y = da (args m c) (at_ t (y 0)) (y 1) := by
  rw [pay6]
  exact congrFun (pay14 m c t) y

theorem point11 (t : Fin cfg0.N) (y : S256x2816.Idx) :
    k0_pay15 (k0_pay6 (iblk m c 0 t)) (iblk m c 7 t) (iblk m c 3 t) y = db (args m c) (at_ t (y 0)) (y 1) := by
  rw [pay6]
  exact congrFun (pay15 m c t) y

theorem point12 (t : Fin cfg0.N) (y : S256x2816.Idx) :
    k0_pay1 (k0_pay16 (iblk m c 3 t) (iblk m c 4 t)) y = s (args m c) (at_ t (y 0)) (y 1) := by
  rw [pay16]
  exact congrFun (pay1 m c t) y

theorem point13 (t : Fin cfg0.N) (y : S256x1024.Idx) : k0_pay6 (iblk m c 0 t) y = gh (args m c) (at_ t (y 0)) (y 1) :=
  congrFun (pay6 m c t) y

theorem final8 : (dats m 0 c).arrAt 8 cfg0.N = (fun p => gx (args m c) (p 0) (p 1) : FVec Ideal S8192x1024 .f32) := by
  refine (dats m 0 c).arrAt_eq_of_covers 8 _ (by decide +kernel) fun t hf y => ?_
  blk_simp
  have e : ((View.whole main_v25_0).slice (win0_8.rect t)).emb y = ix2 (at_ t (y 0)) (y 1) := by
    blk_ext [idx t]; rfl
  rw [after0_8]
  by_cases h : t.val % 32 = 0
  · rw [Gen.outsAt0_A m c t h]
    frame_out
    rw [e]
    exact point8 m c t y
  · rw [Gen.outsAt0_B m c t h]
    frame_out
    rw [e]
    exact point8 m c t y

theorem final10 : (dats m 0 c).arrAt 10 cfg0.N = (fun p => da (args m c) (p 0) (p 1) : FVec Ideal S8192x2816 .bf16) := by
  refine (dats m 0 c).arrAt_eq_of_covers 10 _ (by decide +kernel) fun t hf y => ?_
  blk_simp
  have e : ((View.whole main_v25_2).slice (win0_10.rect t)).emb y = ix2 (at_ t (y 0)) (y 1) := by
    blk_ext [idx t]; rfl
  rw [after0_10]
  by_cases h : t.val % 32 = 0
  · rw [Gen.outsAt0_A m c t h]
    frame_out
    rw [e]
    exact point10 m c t y
  · rw [Gen.outsAt0_B m c t h]
    frame_out
    rw [e]
    exact point10 m c t y

theorem final11 : (dats m 0 c).arrAt 11 cfg0.N = (fun p => db (args m c) (p 0) (p 1) : FVec Ideal S8192x2816 .bf16) := by
  refine (dats m 0 c).arrAt_eq_of_covers 11 _ (by decide +kernel) fun t hf y => ?_
  blk_simp
  have e : ((View.whole main_v25_3).slice (win0_11.rect t)).emb y = ix2 (at_ t (y 0)) (y 1) := by
    blk_ext [idx t]; rfl
  rw [after0_11]
  by_cases h : t.val % 32 = 0
  · rw [Gen.outsAt0_A m c t h]
    frame_out
    rw [e]
    exact point11 m c t y
  · rw [Gen.outsAt0_B m c t h]
    frame_out
    rw [e]
    exact point11 m c t y

theorem final12 : (dats m 0 c).arrAt 12 cfg0.N = (fun p => s (args m c) (p 0) (p 1) : FVec Ideal S8192x2816 .bf16) := by
  refine (dats m 0 c).arrAt_eq_of_covers 12 _ (by decide +kernel) fun t hf y => ?_
  blk_simp
  have e : ((View.whole main_v25_4).slice (win0_12.rect t)).emb y = ix2 (at_ t (y 0)) (y 1) := by
    blk_ext [idx t]; rfl
  rw [after0_12]
  by_cases h : t.val % 32 = 0
  · rw [Gen.outsAt0_A m c t h]
    frame_out
    rw [e]
    exact point12 m c t y
  · rw [Gen.outsAt0_B m c t h]
    frame_out
    rw [e]
    exact point12 m c t y

theorem final13 : (dats m 0 c).arrAt 13 cfg0.N = (fun p => gh (args m c) (p 0) (p 1) : FVec Ideal S8192x1024 .bf16) := by
  refine (dats m 0 c).arrAt_eq_of_covers 13 _ (by decide +kernel) fun t hf y => ?_
  blk_simp
  have e : ((View.whole main_v25_5).slice (win0_13.rect t)).emb y = ix2 (at_ t (y 0)) (y 1) := by
    blk_ext [idx t]; rfl
  rw [after0_13]
  by_cases h : t.val % 32 = 0
  · rw [Gen.outsAt0_A m c t h]
    frame_out
    rw [e]
    exact point13 m c t y
  · rw [Gen.outsAt0_B m c t h]
    frame_out
    rw [e]
    exact point13 m c t y

theorem final9 : (dats m 0 c).arrAt 9 cfg0.N = (fun p => dg (args m c) (p 1) : FVec Ideal S1x1024 .f32) := by
  refine (dats m 0 c).arrAt_eq_of_after_last 9 t0_31 (by decide +kernel) _ fun y => ?_
  blk_simp
  rw [after0_9, Pipeline.eq_sum_fin_of_reset_step_apply_last (fun n h => (outsAt0 m c n h).2.1) 32 (fun _ => 0)
    (fun t y => ∑ r : Fin 256, dh (args m c) (at_ t r) (y 1) * (args m c).x (at_ t r) (y 1) * rstd ((args m c).x (at_ t r)))
    (fun t h y => by rw [outsAt0_A m c t h]; frame_out; exact (point9 m c t _ y).trans (congrArg (· + _) (zero8 y)))
    (fun t h y => by rw [outsAt0_B m c t h]; frame_out; exact point9 m c t _ y)
    (le_of_eq N_0) t0_31 rfl y, zero_add]
  show (_ : EReal) = _
  exact Fin.sum_mul_add_fin 32 256 (fun i : Fin 8192 => dh (args m c) i (y 1) * (args m c).x i (y 1) * rstd ((args m c).x i)) rfl

end Cert.FfnIdeal.Formula

end
-- ==== Proof.FfnRef.lean ====
/- The six results of the reference of `ffn_bwd`, as formulas over the argument arrays. -/
module

public import proofs.«01_k».proof.Proof.Gen.FfnRefIdeal.Run
public import proofs.«01_k».proof.Proof.FfnMath
public import Idealize.ShloMosaic.Lib.Tactic.CleanTypes

@[expose] public section

set_option maxRecDepth 16384

noncomputable section

namespace Cert.FfnRefIdeal.Formula

open Cert.FfnRefIdeal Cert.FfnRefIdeal.Gen Idealize.ShloMosaic Idealize.ShloMosaic.TcCoe Idealize.SL.Sem Cert.RmsNorm Cert.FfnMath

variable (m : (ℓ : Loc nD τ sig) → Buf (Elt Ideal) ℓ) (c : Dev nD)

abbrev X : FVec Ideal S8192x1024 .f32 := m ((c.tc : Thread nD τ).loc main_arg0)
abbrev G : FVec Ideal S1024 .f32 := m ((c.tc : Thread nD τ).loc main_arg1)
abbrev WG : FVec Ideal S1024x2816 .f32 := m ((c.tc : Thread nD τ).loc main_arg2)
abbrev WU : FVec Ideal S1024x2816 .f32 := m ((c.tc : Thread nD τ).loc main_arg3)
abbrev WD : FVec Ideal S2816x1024 .f32 := m ((c.tc : Thread nD τ).loc main_arg4)
abbrev GO : FVec Ideal S8192x1024 .f32 := m ((c.tc : Thread nD τ).loc main_arg5)

/-- The argument arrays, by their coordinates. -/
def args : Args where
  x i k := X m c (ix2 i k)
  g k := G m c (ix1 k)
  wg k f := WG m c (ix2 k f)
  wu k f := WU m c (ix2 k f)
  wd f k := WD m c (ix2 f k)
  go i k := GO m c (ix2 i k)

/-! The reference's intermediate arrays, a definition each. -/

/-- Each row's mean square and the factor the row is normalised by. -/
def vMS : FVec Ideal S8192x1 .f32 :=
  addf (Host.divf (broadcastInDim S8192x1 ![0] bcast_S8192_S8192x1_0 (Host.reduceAdd (mulf (X m c) (X m c)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

def vRS : FVec Ideal S8192x1 .f32 := Host.rsqrt (vMS m c)

/-- The norm's weights and the normalising factors, spread over the rows. -/
def vG : FVec Ideal S8192x1024 .f32 :=
  broadcastInDim S8192x1024 ![0, 1] bcast_S1x1024_S8192x1024_0_1 (broadcastInDim S1x1024 ![1] bcast_S1024_S1x1024_1 (G m c))

def vR : FVec Ideal S8192x1024 .f32 := broadcastInDim S8192x1024 ![0, 1] bcast_S8192x1_S8192x1024_0_1 (vRS m c)

def vH : FVec Ideal S8192x1024 .f32 := mulf (mulf (X m c) (vR m c)) (vG m c)

def vA : FVec Ideal S8192x2816 .f32 := Host.dotGeneral dot_S8192x1024_S1024x2816_S8192x2816_1_0_0_1_n_n none (vH m c) (WG m c)

def vB : FVec Ideal S8192x2816 .f32 := Host.dotGeneral dot_S8192x1024_S1024x2816_S8192x2816_1_0_0_1_n_n none (vH m c) (WU m c)

def vOne : FVec Ideal S8192x2816 .f32 := broadcastInDim S8192x2816 ![] bcast_S_S8192x2816 (constant S_ .f32 0x3F800000#32)

def vSG : FVec Ideal S8192x2816 .f32 := Host.divf vOne (addf vOne (Host.exp (Host.negf (vA m c))))

/-- The cotangent of the last product, over the output's cotangent `z`. -/
def vGH (z : FVec Ideal S8192x1024 .f32) : FVec Ideal S8192x1024 .f32 :=
  mulf (broadcastInDim S8192x1024 ![] bcast_S_S8192x1024 (constant S_ .f32 0x3F000000#32)) z

def vDS (z : FVec Ideal S8192x1024 .f32) : FVec Ideal S8192x2816 .f32 :=
  Host.dotGeneral dot_S8192x1024_S2816x1024_S8192x2816_1_1_0_0_n_n none (vGH z) (WD m c)

def vS : FVec Ideal S8192x2816 .f32 := mulf (mulf (vA m c) (vSG m c)) (vB m c)

def vDB (z : FVec Ideal S8192x1024 .f32) : FVec Ideal S8192x2816 .f32 := mulf (mulf (vA m c) (vSG m c)) (vDS m c z)

def vDA (z : FVec Ideal S8192x1024 .f32) : FVec Ideal S8192x2816 .f32 :=
  addf (mulf (mulf (vDS m c z) (vB m c)) (vSG m c)) (mulf (mulf (vA m c) (mulf (vDS m c z) (vB m c))) (mulf (vSG m c) (subf vOne (vSG m c))))

def vDH (z : FVec Ideal S8192x1024 .f32) : FVec Ideal S8192x1024 .f32 :=
  addf (Host.dotGeneral dot_S8192x2816_S1024x2816_S8192x1024_1_1_0_0_n_n none (vDB m c z) (WU m c))
    (Host.dotGeneral dot_S8192x2816_S1024x2816_S8192x1024_1_1_0_0_n_n none (vDA m c z) (WG m c))

def vU (z : FVec Ideal S8192x1024 .f32) : FVec Ideal S8192x1024 .f32 := mulf (vDH m c z) (vG m c)

def vSQ (z : FVec Ideal S8192x1024 .f32) : FVec Ideal S8192x1024 .f32 :=
  broadcastInDim S8192x1024 ![0] bcast_S8192_S8192x1024_0 (Host.reduceAdd (Host.divf (mulf (shapeCast _ (Host.reduceAdd (mulf (X m c) (vU m c z)) (constant S_ .f32 0x00000000#32) reducesTo_S8192x1024_S8192_d1 h_S_) shapeCasts_S8192_S8192x1) (mulf (broadcastInDim S8192x1 ![] bcast_S_S8192x1 (constant S_ .f32 0xBF000000#32)) (Host.divf (vRS m c) (vMS m c)))) (broadcastInDim S8192x1 ![] bcast_S_S8192x1 (constant S_ .f32 0x44800000#32))) (constant S_ .f32 0x00000000#32) reducesTo_S8192x1_S8192_d1 h_S_)

def vGX (z : FVec Ideal S8192x1024 .f32) : FVec Ideal S8192x1024 .f32 :=
  addf (addf (addf (GO m c) (mulf (vU m c z) (vR m c))) (mulf (X m c) (vSQ m c z))) (mulf (vSQ m c z) (X m c))

def vDG (z : FVec Ideal S8192x1024 .f32) : FVec Ideal S1x1024 .f32 :=
  shapeCast _ (Host.reduceAdd (shapeCast _ (Host.reduceAdd (mulf (mulf (X m c) (vR m c)) (vDH m c z)) (constant S_ .f32 0x00000000#32) reducesTo_S8192x1024_S1024_d0 h_S_) shapeCasts_S1024_S1x1024) (constant S_ .f32 0x00000000#32) reducesTo_S1x1024_S1024_d0 h_S_) shapeCasts_S1024_S1x1024

/-- The cotangent reshaped to its own shape. -/
def vZ : FVec Ideal S8192x1024 .f32 := shapeCast _ (GO m c) shapeCasts_S8192x1024_S8192x1024

theorem vZ_eq : vZ m c = GO m c := by
  funext p
  idx_vars p
  unfold vZ
  pointwise

theorem ms_at (i : Fin 8192) (k : Fin 1) : vMS m c (ix2 i k) = meanSq ((args m c).x i) := by
  unfold vMS; pointwise; rfl

theorem rs_at (i : Fin 8192) (k : Fin 1) : vRS m c (ix2 i k) = rstd ((args m c).x i) := by
  unfold vRS; pointwise; simp only [ms_at]; rfl

theorem g_at (i : Fin 8192) (k : Fin 1024) : vG m c (ix2 i k) = (args m c).g k := by
  unfold vG; pointwise; rfl

theorem r_at (i : Fin 8192) (k : Fin 1024) : vR m c (ix2 i k) = rstd ((args m c).x i) := by
  unfold vR; pointwise; simp only [rs_at]

theorem h_at (i : Fin 8192) (k : Fin 1024) : vH m c (ix2 i k) = h (args m c) i k := by
  unfold vH; pointwise; simp only [r_at, g_at]; rfl

theorem a_at (i : Fin 8192) (f : Fin 2816) : vA m c (ix2 i f) = a (args m c) i f := by
  unfold vA; pointwise; simp only [h_at]; rfl

theorem b_at (i : Fin 8192) (f : Fin 2816) : vB m c (ix2 i f) = b (args m c) i f := by
  unfold vB; pointwise; simp only [h_at]; rfl

theorem one_at (i : Fin 8192) (f : Fin 2816) : vOne (ix2 i f) = one := by
  unfold vOne; pointwise

theorem sg_at (i : Fin 8192) (f : Fin 2816) : vSG m c (ix2 i f) = sg (args m c) i f := by
  unfold vSG; pointwise; simp only [one_at, a_at]; rfl

theorem gh_at (i : Fin 8192) (k : Fin 1024) : vGH (GO m c) (ix2 i k) = gh (args m c) i k := by
  unfold vGH; pointwise; rfl

theorem ds_at (i : Fin 8192) (f : Fin 2816) : vDS m c (GO m c) (ix2 i f) = ds (args m c) i f := by
  unfold vDS; pointwise; simp only [gh_at]; rfl

theorem s_at (i : Fin 8192) (f : Fin 2816) : vS m c (ix2 i f) = sRef (args m c) i f := by
  unfold vS; pointwise; simp only [a_at, b_at, sg_at]; rfl

theorem db_at (i : Fin 8192) (f : Fin 2816) : vDB m c (GO m c) (ix2 i f) = dbRef (args m c) i f := by
  unfold vDB; pointwise; simp only [a_at, ds_at, sg_at]; rfl

theorem da_at (i : Fin 8192) (f : Fin 2816) : vDA m c (GO m c) (ix2 i f) = daRef (args m c) i f := by
  unfold vDA; pointwise; simp only [a_at, b_at, ds_at, sg_at, one_at]; rfl

theorem dh_at (i : Fin 8192) (k : Fin 1024) : vDH m c (GO m c) (ix2 i k) = dhRef (args m c) i k := by
  unfold vDH; pointwise; simp only [db_at, da_at]; rfl

theorem u_at (i : Fin 8192) (k : Fin 1024) : vU m c (GO m c) (ix2 i k) = dhRef (args m c) i k * (args m c).g k := by
  unfold vU; pointwise; simp only [dh_at, g_at]

theorem sq_at (i : Fin 8192) (k : Fin 1024) : vSQ m c (GO m c) (ix2 i k)
    = sqGrad ((args m c).x i) (fun k => dhRef (args m c) i k * (args m c).g k) := by
  unfold vSQ; pointwise; simp only [u_at, rs_at, ms_at, Finset.univ_unique, Finset.sum_singleton]; rfl

theorem gx_at (i : Fin 8192) (k : Fin 1024) : vGX m c (GO m c) (ix2 i k) = gxRef (args m c) i k := by
  unfold vGX; pointwise; simp only [u_at, r_at, sq_at]; rfl

theorem dg_at (j : Fin 1) (k : Fin 1024) : vDG m c (GO m c) (ix2 j k) = dgRef (args m c) k := by
  unfold vDG; pointwise; simp only [dh_at, r_at, Finset.univ_unique, Finset.sum_singleton]; rfl

/-- The reference's run, with its results at these formulas. -/
theorem run (ρ : Dev nD → PrngReg) :
    θ_run defs (onTc (τ := τ) (main (F := Ideal))) ⟨m, fun _ => 0, ρ⟩ fun r => ∀ c : Dev nD,
      r.2.mem ((c.tc : Thread nD τ).loc main_v54) = (fun p => gxRef (args m c) (p 0) (p 1) : FVec Ideal S8192x1024 .f32)
      ∧ r.2.mem ((c.tc : Thread nD τ).loc main_v81) = (fun p => dgRef (args m c) (p 1) : FVec Ideal S1x1024 .f32)
      ∧ r.2.mem ((c.tc : Thread nD τ).loc main_v82) = (fun p => daRef (args m c) (p 0) (p 1) : FVec Ideal S8192x2816 .bf16)
      ∧ r.2.mem ((c.tc : Thread nD τ).loc main_v83) = (fun p => dbRef (args m c) (p 0) (p 1) : FVec Ideal S8192x2816 .bf16)
      ∧ r.2.mem ((c.tc : Thread nD τ).loc main_v84) = (fun p => sRef (args m c) (p 0) (p 1) : FVec Ideal S8192x2816 .bf16)
      ∧ r.2.mem ((c.tc : Thread nD τ).loc main_v87) = (fun p => gh (args m c) (p 0) (p 1) : FVec Ideal S8192x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Value.run m ρ)
  obtain ⟨h0, h1, h2, h3, h4, h5, hk⟩ := h c
  refine ⟨h0.trans ?_, h1.trans ?_, h2.trans ?_, h3.trans ?_, h4.trans ?_, h5.trans ?_, hk⟩
  · refine (show Value.res_main_v54 m c = vGX m c (vZ m c) from rfl).trans ?_
    rw [vZ_eq]
    funext p
    idx_vars p
    exact gx_at m c p0 p1
  · refine (show Value.res_main_v81 m c = vDG m c (vZ m c) from rfl).trans ?_
    rw [vZ_eq]
    funext p
    idx_vars p
    exact dg_at m c p0 p1
  · refine (show Value.res_main_v82 m c = truncf .bf16 (vDA m c (GO m c)) bitsLt_bf16_f32 from rfl).trans ?_
    funext p
    idx_vars p
    pointwise
    exact da_at m c p0 p1
  · change truncf .bf16 (vDB m c (GO m c)) bitsLt_bf16_f32 = _
    funext p
    idx_vars p
    pointwise
    exact db_at m c p0 p1
  · change truncf .bf16 (vS m c) bitsLt_bf16_f32 = _
    funext p
    idx_vars p
    pointwise
    exact s_at m c p0 p1
  · change truncf .bf16 (vGH (GO m c)) bitsLt_bf16_f32 = _
    funext p
    idx_vars p
    pointwise
    exact gh_at m c p0 p1

end Cert.FfnRefIdeal.Formula

end
-- ==== Proof.Ffn.lean ====
/- The claims about `ffn_bwd`: the frames of its programs, and that its six results are the reference's. -/
module

public import proofs.«01_k».proof.Defs
public import proofs.«01_k».proof.Proof.Gen.Ffn
public import proofs.«01_k».proof.Proof.Gen.Ffn.Frame
public import proofs.«01_k».proof.Proof.FfnKernel
public import proofs.«01_k».proof.Proof.FfnRef
public import Idealize.ShloMosaic.Lib.Quiescent

@[expose] public section

set_option maxRecDepth 16384

noncomputable section

namespace Cert.FfnClaims

open Idealize.ShloMosaic Idealize.ShloMosaic.TcCoe Idealize.SL.Sem Cert.Reals Cert.FfnMath

instance preFacts : Cert.Pre_finite_ffn.Facts where
  bcast_S_S8192x1024 := by decide
  reducesTo_S8192x1024_S_d0_1 := by decide
  h_S_ := by decide
  bcast_S_S1024 := by decide
  reducesTo_S1024_S_d0 := by decide
  bcast_S_S1024x2816 := by decide
  reducesTo_S1024x2816_S_d0_1 := by decide
  bcast_S_S2816x1024 := by decide
  reducesTo_S2816x1024_S_d0_1 := by decide

theorem frame : Cert.quiescent_Ffn := fun m ρ _ => Cert.Ffn.Gen.frame m ρ

theorem frameIdeal : Cert.quiescent_FfnIdeal := fun m ρ _ => Cert.FfnIdeal.Gen.frame m ρ

theorem frameIdealPre : Cert.quiescent_FfnIdeal_pre_finite_ffn := fun m ρ _ => Cert.FfnIdeal.Gen.frame m ρ

theorem frameRef : Cert.quiescent_FfnRefIdeal := fun m ρ _ =>
  (θ_run _ _ _).mono (fun r h => ⟨fun c => (h c).2.2.2.2.2.2, sem_eq_zero_of_no_sems rfl _⟩) (Cert.FfnRefIdeal.Formula.run m ρ)

theorem frameRefPre : Cert.quiescent_FfnRefIdeal_pre_finite_ffn := fun m ρ _ =>
  (θ_run _ _ _).mono (fun r h => ⟨fun c => (h c).2.2.2.2.2.2, sem_eq_zero_of_no_sems rfl _⟩) (Cert.FfnRefIdeal.Formula.run m ρ)

section

open Cert.FfnIdeal Cert.FfnIdeal.Formula

variable {m : (ℓ : Loc nD τ sig) → Buf (Elt Ideal) ℓ}

/-- The precondition, read: every entry of the arguments is a real. -/
theorem real (h : Cert.Pre_FfnIdeal_finite_ffn m) (c : Dev nD) : FfnMath.Real (args m c) := by
  have e := congrFun (h c) (fun a => a.elim0)
  dsimp only [Cert.Pre_finite_ffn.fn, Cert.Pre_finite_ffn.fn_part1] at e
  obtain ⟨e, e5⟩ := andi_split e
  obtain ⟨e, e4⟩ := andi_split e
  obtain ⟨e, e3⟩ := andi_split e
  obtain ⟨e, e2⟩ := andi_split e
  obtain ⟨e0, e1⟩ := andi_split e
  have h0 : ∀ i, IsReal (X m c i) := all_real _ _ _ _ _ _ e0
  have h1 : ∀ i, IsReal (G m c i) := all_real _ _ _ _ _ _ e1
  have h2 : ∀ i, IsReal (WG m c i) := all_real _ _ _ _ _ _ e2
  have h3 : ∀ i, IsReal (WU m c i) := all_real _ _ _ _ _ _ e3
  have h4 : ∀ i, IsReal (WD m c i) := all_real _ _ _ _ _ _ e4
  have h5 : ∀ i, IsReal (GO m c i) := all_real _ _ _ _ _ _ e5
  exact {
    x := fun _ _ => h0 _
    g := fun _ => h1 _
    wg := fun _ _ => h2 _
    wu := fun _ _ => h3 _
    wd := fun _ _ => h4 _
    go := fun _ _ => h5 _ }

end

theorem algebraic : Cert.algebraic_FfnIdeal_FfnRefIdeal_pre_finite_ffn := by
  intro m g m' g' hpre hagree
  refine ⟨fun c p => gx (Cert.FfnIdeal.Formula.args m c) (p 0) (p 1), fun c p => dg (Cert.FfnIdeal.Formula.args m c) (p 1), fun c p => da (Cert.FfnIdeal.Formula.args m c) (p 0) (p 1), fun c p => db (Cert.FfnIdeal.Formula.args m c) (p 0) (p 1), fun c p => s (Cert.FfnIdeal.Formula.args m c) (p 0) (p 1), fun c p => gh (Cert.FfnIdeal.Formula.args m c) (p 0) (p 1), ?_, ?_⟩
  · exact (θ_run _ _ _).mono (fun r h c => ⟨(h c).1.trans (Cert.FfnIdeal.Formula.final8 m c),
      (h c).2.1.trans (Cert.FfnIdeal.Formula.final9 m c),
      (h c).2.2.1.trans (Cert.FfnIdeal.Formula.final10 m c),
      (h c).2.2.2.1.trans (Cert.FfnIdeal.Formula.final11 m c),
      (h c).2.2.2.2.1.trans (Cert.FfnIdeal.Formula.final12 m c),
      (h c).2.2.2.2.2.1.trans (Cert.FfnIdeal.Formula.final13 m c),
      (h c).2.2.2.2.2.2⟩) (Cert.FfnIdeal.Value.run_blocks m g)
  · refine (θ_run _ _ _).mono (fun r h c => ?_) (Cert.FfnRefIdeal.Formula.run m' g')
    have ha : Cert.FfnRefIdeal.Formula.args m' c = Cert.FfnIdeal.Formula.args m c := by
      obtain ⟨a0, a1, a2, a3, a4, a5⟩ := hagree c
      simp only [Cert.FfnRefIdeal.Formula.args, a0, a1, a2, a3, a4, a5]
      rfl
    have hr := real hpre c
    obtain ⟨h0, h1, h2, h3, h4, h5, hk⟩ := h c
    rw [ha] at h0 h1 h2 h3 h4 h5
    exact ⟨h0.trans (funext fun p => gxRef_eq hr _ _), h1.trans (funext fun p => dgRef_eq hr _), h2.trans (funext fun p => daRef_eq hr _ _),
      h3.trans (funext fun p => dbRef_eq _ _ _), h4.trans (funext fun p => sRef_eq _ _ _), h5, hk⟩

end Cert.FfnClaims

end
-- ==== Proof.FwdMath.lean ====
/- The normalised row, its products and the gated layer of the forward pass, over arrays given as functions of their coordinates. -/
module

public import proofs.«01_k».proof.Proof.Gate
public import proofs.«01_k».proof.Proof.RmsNorm

@[expose] public section

noncomputable section

namespace Cert.FwdMath

open Idealize.ShloMosaic Cert.Gate Cert.RmsNorm

abbrev half : EReal := Ideal.ofBits .f32 0x3F000000#32
abbrev one : EReal := Ideal.ofBits .f32 0x3F800000#32

/-- Each row over its root mean square, times the norm's weights. -/
def rmsNorm (x : Fin 8192 → Fin 1024 → EReal) (g : Fin 1024 → EReal) (i : Fin 8192) (k : Fin 1024) : EReal := x i k * rstd (x i) * g k

/-- A product with a matrix. -/
def prod {l n : ℕ} (h : Fin 8192 → Fin l → EReal) (w : Fin l → Fin n → EReal) (i : Fin 8192) (f : Fin n) : EReal := ∑ k : Fin l, h i k * w k f

/-- The gated row, with the gate as the version writes it and as the reference does. -/
def gated (a b : Fin 8192 → Fin 2816 → EReal) (i : Fin 8192) (f : Fin 2816) : EReal := a i f * sig (a i f) * b i f

def gatedRef (a b : Fin 8192 → Fin 2816 → EReal) (i : Fin 8192) (f : Fin 2816) : EReal :=
  a i f * Ideal.div one (one + Ideal.exp (-a i f)) * b i f

/-- The residual stream after the layer. -/
def out (x : Fin 8192 → Fin 1024 → EReal) (s : Fin 8192 → Fin 2816 → EReal) (wd : Fin 2816 → Fin 1024 → EReal)
    (i : Fin 8192) (k : Fin 1024) : EReal := x i k + half * prod s wd i k

theorem gatedRef_eq (a b : Fin 8192 → Fin 2816 → EReal) : gatedRef a b = gated a b :=
  funext fun i => funext fun f => by rw [gatedRef, gated, sig_eq]

end Cert.FwdMath

end
-- ==== Proof.FfnFwdKernel.lean ====
/- What the four results of `ffn_fwd` hold after the kernel's run, as formulas over the argument arrays. -/
module

public import proofs.«01_k».proof.Proof.Gen.FfnFwdIdeal.Value
public import proofs.«01_k».proof.Proof.FwdMath
public import Idealize.ShloMosaic.Lib.Pipeline.ValueKit
public import Idealize.ShloMosaic.Lib.Claim

@[expose] public section

set_option maxRecDepth 16384

noncomputable section

namespace Cert.FfnFwdIdeal.Formula

open Cert.FfnFwdIdeal Cert.FfnFwdIdeal.Gen Idealize.ShloMosaic Idealize.ShloMosaic.TcCoe Idealize.SL.Sem Cert.RmsNorm Cert.FwdMath

variable (m : (ℓ : Loc nD τ sig) → Buf (Elt Ideal) ℓ) (c : Dev nD)

/-! The argument arrays, by their coordinates, and the values of the layer. -/

def x (i : Fin 8192) (k : Fin 1024) : EReal := (m ((c : Thread nD τ).loc main_arg0) : FVec Ideal S8192x1024 .f32) (ix2 i k)
def g (k : Fin 1024) : EReal := (m ((c : Thread nD τ).loc main_arg1) : FVec Ideal S1024 .f32) (ix1 k)
def wg (k : Fin 1024) (f : Fin 2816) : EReal := (m ((c : Thread nD τ).loc main_arg2) : FVec Ideal S1024x2816 .f32) (ix2 k f)
def wu (k : Fin 1024) (f : Fin 2816) : EReal := (m ((c : Thread nD τ).loc main_arg3) : FVec Ideal S1024x2816 .f32) (ix2 k f)
def wd (f : Fin 2816) (k : Fin 1024) : EReal := (m ((c : Thread nD τ).loc main_arg4) : FVec Ideal S2816x1024 .f32) (ix2 f k)

def h : Fin 8192 → Fin 1024 → EReal := rmsNorm (x m c) (g m c)
def a : Fin 8192 → Fin 2816 → EReal := prod (h m c) (wg m c)
def b : Fin 8192 → Fin 2816 → EReal := prod (h m c) (wu m c)
def xo : Fin 8192 → Fin 1024 → EReal := out (x m c) (gated (a m c) (b m c)) (wd m c)

theorem idx : ∀ t : Fin cfg0.N, win0_0.index t = ![t.val, 0] ∧ win0_1.index t = ![0, 0] ∧ win0_2.index t = ![0, 0, 0]
    ∧ win0_3.index t = ![1, 0, 0] ∧ win0_4.index t = ![2, 0, 0] ∧ win0_5.index t = ![t.val, 0] ∧ win0_6.index t = ![t.val, 0]
    ∧ win0_7.index t = ![t.val, 0] ∧ win0_8.index t = ![t.val, 0] :=
  (by decide +kernel : ∀ t : Fin grid0.N, _)

/-- Row `r` of grid point `t`'s block. -/
def at_ (t : Fin cfg0.N) (r : Fin 256) : Fin 8192 :=
  ⟨t.val * 256 + r.val, by have h : t.val < 32 := lt_of_lt_of_eq t.isLt N_0; omega⟩

theorem at_val (t : Fin cfg0.N) (r : Fin 256) : (at_ t r).val = t.val * 256 + r.val := rfl

set_option maxHeartbeats 1000000 in
/-- The three products' weights, stacked. -/
theorem V_v6 : (V m c main_v6 : FVec Ideal S3x2816x1024 .bf16) = fun p =>
    if (p 0).val = 0 then wg m c (p 2) (p 1) else if (p 0).val = 1 then wu m c (p 2) (p 1) else wd m c (p 1) (p 2) := by
  unfold V
  after_results_simp
  funext p
  idx_vars p
  pointwise
  after_results_simp
  pointwise
  fin_cases p0
  · rfl
  · rfl
  · rfl

theorem read0 (t : Fin cfg0.N) (r : Fin 256) (k : Fin 1024) :
    (iblk m c 0 t : Vec Ideal S256x1024 .f32) (ix2 r k) = x m c (at_ t r) k := by
  unfold x; blk_ext! [iblk, V, idx t, at_val]

theorem read1 (t : Fin cfg0.N) (k : Fin 1024) : (iblk m c 1 t : Vec Ideal S1x1024 .f32) (ix2 0 k) = g m c k := by
  unfold g; blk_ext! [iblk, V, idx t, at_val]

theorem read2 (t : Fin cfg0.N) (f : Fin 2816) (k : Fin 1024) :
    (iblk m c 2 t : Vec Ideal S1x2816x1024 .bf16) (ix3 0 f k) = wg m c k f := by
  refine Eq.trans ?_ (congrFun (V_v6 m c) (ix3 0 f k))
  blk_ext! [iblk, idx t]

theorem read3 (t : Fin cfg0.N) (f : Fin 2816) (k : Fin 1024) :
    (iblk m c 3 t : Vec Ideal S1x2816x1024 .bf16) (ix3 0 f k) = wu m c k f := by
  refine Eq.trans ?_ (congrFun (V_v6 m c) (ix3 1 f k))
  blk_ext! [iblk, idx t]

theorem read4 (t : Fin cfg0.N) (f : Fin 2816) (k : Fin 1024) :
    (iblk m c 4 t : Vec Ideal S1x2816x1024 .bf16) (ix3 0 f k) = wd m c f k := by
  refine Eq.trans ?_ (congrFun (V_v6 m c) (ix3 2 f k))
  blk_ext! [iblk, idx t]

/-! The block's intermediate values, each a function of the row and the column. -/

def hB (t : Fin cfg0.N) : FVec Ideal S256x1024 .bf16 := fun y => h m c (at_ t (y 0)) (y 1)
def aB (t : Fin cfg0.N) : FVec Ideal S256x2816 .f32 := fun y => a m c (at_ t (y 0)) (y 1)
def bB (t : Fin cfg0.N) : FVec Ideal S256x2816 .f32 := fun y => b m c (at_ t (y 0)) (y 1)
def sB (t : Fin cfg0.N) : FVec Ideal S256x1024 .f32 := fun y => prod (gated (a m c) (b m c)) (wd m c) (at_ t (y 0)) (y 1)

theorem hB_at (t : Fin cfg0.N) (r : Fin 256) (k : Fin 1024) : hB m c t (ix2 r k) = h m c (at_ t r) k := rfl
theorem aB_at (t : Fin cfg0.N) (r : Fin 256) (f : Fin 2816) : aB m c t (ix2 r f) = a m c (at_ t r) f := rfl
theorem bB_at (t : Fin cfg0.N) (r : Fin 256) (f : Fin 2816) : bB m c t (ix2 r f) = b m c (at_ t r) f := rfl
theorem sB_at (t : Fin cfg0.N) (r : Fin 256) (k : Fin 1024) : sB m c t (ix2 r k) = prod (gated (a m c) (b m c)) (wd m c) (at_ t r) k := rfl

theorem pay3 (t : Fin cfg0.N) : k0_pay3 (iblk m c 0 t) (iblk m c 1 t) = hB m c t := by
  funext y
  idx_vars y
  rw [hB_at]
  unfold k0_pay3
  pointwise
  simp only [read0, read1]
  rfl

theorem pay6 (t : Fin cfg0.N) : k0_pay6 (hB m c t) (iblk m c 2 t) = aB m c t := by
  funext y
  idx_vars y
  rw [aB_at]
  unfold k0_pay6 k0_pay5
  pointwise
  simp only [read2, hB_at]
  rfl

theorem pay7 (t : Fin cfg0.N) : k0_pay7 (hB m c t) (iblk m c 3 t) = bB m c t := by
  funext y
  idx_vars y
  rw [bB_at]
  unfold k0_pay7 k0_pay5
  pointwise
  simp only [read3, hB_at]
  rfl

theorem pay10 (t : Fin cfg0.N) :
    k0_pay10 (hB m c t) (iblk m c 2 t) (iblk m c 3 t) (k0_pay4 (F := Ideal)) (iblk m c 4 t) = sB m c t := by
  funext y
  idx_vars y
  rw [sB_at]
  unfold k0_pay10 k0_pay4
  rw [pay6, pay7]
  pointwise
  simp only [read4, aB_at, bB_at, zero_add]
  rfl

theorem point5 (t : Fin cfg0.N) (y : S256x1024.Idx) :
    k0_pay2 (iblk m c 0 t) (k0_pay1 (k0_pay10 (k0_pay3 (iblk m c 0 t) (iblk m c 1 t)) (iblk m c 2 t) (iblk m c 3 t) (k0_pay4 (F := Ideal)) (iblk m c 4 t))) y
      = xo m c (at_ t (y 0)) (y 1) := by
  rw [pay3, pay10]
  idx_vars y
  unfold k0_pay2 k0_pay1
  pointwise
  simp only [read0, sB_at]
  rfl

theorem point6 (t : Fin cfg0.N) (y : S256x2816.Idx) :
    k0_pay8 (k0_pay3 (iblk m c 0 t) (iblk m c 1 t)) (iblk m c 2 t) y = a m c (at_ t (y 0)) (y 1) := by
  unfold k0_pay8
  rw [pay3, pay6]
  pointwise
  rfl

theorem point7 (t : Fin cfg0.N) (y : S256x2816.Idx) :
    k0_pay9 (k0_pay3 (iblk m c 0 t) (iblk m c 1 t)) (iblk m c 3 t) y = b m c (at_ t (y 0)) (y 1) := by
  unfold k0_pay9
  rw [pay3, pay7]
  pointwise
  rfl

theorem point8 (t : Fin cfg0.N) (y : S256x1024.Idx) :
    k0_pay3 (iblk m c 0 t) (iblk m c 1 t) y = h m c (at_ t (y 0)) (y 1) := congrFun (pay3 m c t) y

theorem final5 : (dats m 0 c).arrAt 5 cfg0.N = (fun p => xo m c (p 0) (p 1) : FVec Ideal S8192x1024 .f32) := by
  refine (dats m 0 c).arrAt_eq_of_covers 5 _ (by decide +kernel) fun t hf y => ?_
  blk_simp
  have e : ((View.whole main_v8_0).slice (win0_5.rect t)).emb y = ix2 (at_ t (y 0)) (y 1) := by
    blk_ext [idx t]; rfl
  rw [after0_5, outsAt0]
  frame_out
  rw [e]
  exact point5 m c t y

theorem final6 : (dats m 0 c).arrAt 6 cfg0.N = (fun p => a m c (p 0) (p 1) : FVec Ideal S8192x2816 .bf16) := by
  refine (dats m 0 c).arrAt_eq_of_covers 6 _ (by decide +kernel) fun t hf y => ?_
  blk_simp
  have e : ((View.whole main_v8_1).slice (win0_6.rect t)).emb y = ix2 (at_ t (y 0)) (y 1) := by
    blk_ext [idx t]; rfl
  rw [after0_6, outsAt0]
  frame_out
  rw [e]
  exact point6 m c t y

theorem final7 : (dats m 0 c).arrAt 7 cfg0.N = (fun p => b m c (p 0) (p 1) : FVec Ideal S8192x2816 .bf16) := by
  refine (dats m 0 c).arrAt_eq_of_covers 7 _ (by decide +kernel) fun t hf y => ?_
  blk_simp
  have e : ((View.whole main_v8_2).slice (win0_7.rect t)).emb y = ix2 (at_ t (y 0)) (y 1) := by
    blk_ext [idx t]; rfl
  rw [after0_7, outsAt0]
  frame_out
  rw [e]
  exact point7 m c t y

theorem final8 : (dats m 0 c).arrAt 8 cfg0.N = (fun p => h m c (p 0) (p 1) : FVec Ideal S8192x1024 .bf16) := by
  refine (dats m 0 c).arrAt_eq_of_covers 8 _ (by decide +kernel) fun t hf y => ?_
  blk_simp
  have e : ((View.whole main_v8_3).slice (win0_8.rect t)).emb y = ix2 (at_ t (y 0)) (y 1) := by
    blk_ext [idx t]; rfl
  rw [after0_8, outsAt0]
  frame_out
  rw [e]
  exact point8 m c t y

end Cert.FfnFwdIdeal.Formula

end
-- ==== Proof.FfnFwdRef.lean ====
/- The four results of the reference of `ffn_fwd`, as formulas over the argument arrays. -/
module

public import proofs.«01_k».proof.Proof.Gen.FfnFwdRefIdeal.Run
public import proofs.«01_k».proof.Proof.FwdMath
public import Idealize.ShloMosaic.Lib.Tactic.CleanTypes

@[expose] public section

set_option maxRecDepth 16384

noncomputable section

namespace Cert.FfnFwdRefIdeal.Formula

open Cert.FfnFwdRefIdeal Cert.FfnFwdRefIdeal.Gen Idealize.ShloMosaic Idealize.ShloMosaic.TcCoe Idealize.SL.Sem Cert.RmsNorm Cert.FwdMath

variable (m : (ℓ : Loc nD τ sig) → Buf (Elt Ideal) ℓ) (c : Dev nD)

abbrev X : FVec Ideal S8192x1024 .f32 := m ((c.tc : Thread nD τ).loc main_arg0)
abbrev G : FVec Ideal S1024 .f32 := m ((c.tc : Thread nD τ).loc main_arg1)
abbrev WG : FVec Ideal S1024x2816 .f32 := m ((c.tc : Thread nD τ).loc main_arg2)
abbrev WU : FVec Ideal S1024x2816 .f32 := m ((c.tc : Thread nD τ).loc main_arg3)
abbrev WD : FVec Ideal S2816x1024 .f32 := m ((c.tc : Thread nD τ).loc main_arg4)

/-! The argument arrays, by their coordinates, and the values of the call. -/

def x (i : Fin 8192) (k : Fin 1024) : EReal := X m c (ix2 i k)
def g (k : Fin 1024) : EReal := G m c (ix1 k)
def wg (k : Fin 1024) (f : Fin 2816) : EReal := WG m c (ix2 k f)
def wu (k : Fin 1024) (f : Fin 2816) : EReal := WU m c (ix2 k f)
def wd (f : Fin 2816) (k : Fin 1024) : EReal := WD m c (ix2 f k)

def h : Fin 8192 → Fin 1024 → EReal := rmsNorm (x m c) (g m c)
def a : Fin 8192 → Fin 2816 → EReal := prod (h m c) (wg m c)
def b : Fin 8192 → Fin 2816 → EReal := prod (h m c) (wu m c)
def xo : Fin 8192 → Fin 1024 → EReal := out (x m c) (gated (a m c) (b m c)) (wd m c)

/-! The reference's intermediate arrays, a definition each. -/

/-- Each row's mean square and the factor the row is normalised by. -/
def vMS : FVec Ideal S8192x1 .f32 :=
  addf (Host.divf (broadcastInDim S8192x1 ![0] bcast_S8192_S8192x1_0 (Host.reduceAdd (mulf (X m c) (X m c)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

def vRS : FVec Ideal S8192x1 .f32 := Host.rsqrt (vMS m c)

/-- The normalised rows. -/
def vH : FVec Ideal S8192x1024 .f32 :=
  mulf (mulf (X m c) (broadcastInDim S8192x1024 ![0, 1] bcast_S8192x1_S8192x1024_0_1 (vRS m c)))
    (broadcastInDim S8192x1024 ![0, 1] bcast_S1x1024_S8192x1024_0_1 (broadcastInDim S1x1024 ![1] bcast_S1024_S1x1024_1 (G m c)))

/-- The two products of the normalised rows and the gated rows. -/
def vA : FVec Ideal S8192x2816 .f32 := Host.dotGeneral dot_S8192x1024_S1024x2816_S8192x2816_1_0_0_1_n_n none (vH m c) (WG m c)

def vB : FVec Ideal S8192x2816 .f32 := Host.dotGeneral dot_S8192x1024_S1024x2816_S8192x2816_1_0_0_1_n_n none (vH m c) (WU m c)

def vOne : FVec Ideal S8192x2816 .f32 := broadcastInDim S8192x2816 ![] bcast_S_S8192x2816 (constant S_ .f32 0x3F800000#32)

def vS : FVec Ideal S8192x2816 .f32 := mulf (mulf (vA m c) (Host.divf vOne (addf vOne (Host.exp (Host.negf (vA m c)))))) (vB m c)

/-- The residual stream after the layer. -/
def vO : FVec Ideal S8192x1024 .f32 :=
  addf (X m c) (mulf (broadcastInDim S8192x1024 ![] bcast_S_S8192x1024 (constant S_ .f32 0x3F000000#32)) (Host.dotGeneral dot_S8192x2816_S2816x1024_S8192x1024_1_0_0_1_n_n none (vS m c) (WD m c)))

theorem ms_at (i : Fin 8192) (k : Fin 1) : vMS m c (ix2 i k) = meanSq (x m c i) := by
  unfold vMS; pointwise; rfl

theorem rs_at (i : Fin 8192) (k : Fin 1) : vRS m c (ix2 i k) = rstd (x m c i) := by
  unfold vRS; pointwise; simp only [ms_at]; rfl

theorem h_at (i : Fin 8192) (k : Fin 1024) : vH m c (ix2 i k) = h m c i k := by
  unfold vH; pointwise; simp only [rs_at]; rfl

theorem a_at (i : Fin 8192) (f : Fin 2816) : vA m c (ix2 i f) = a m c i f := by
  unfold vA; pointwise; simp only [h_at]; rfl

theorem b_at (i : Fin 8192) (f : Fin 2816) : vB m c (ix2 i f) = b m c i f := by
  unfold vB; pointwise; simp only [h_at]; rfl

theorem one_at (i : Fin 8192) (f : Fin 2816) : vOne (ix2 i f) = one := by
  unfold vOne; pointwise

theorem s_at (i : Fin 8192) (f : Fin 2816) : vS m c (ix2 i f) = gatedRef (a m c) (b m c) i f := by
  unfold vS; pointwise; simp only [one_at, a_at, b_at]; rfl

theorem o_at (i : Fin 8192) (k : Fin 1024) : vO m c (ix2 i k) = xo m c i k := by
  rw [xo, ← gatedRef_eq]
  unfold vO; pointwise; simp only [s_at]; rfl

/-- The reference's run, with its results at these formulas. -/
theorem run (ρ : Dev nD → PrngReg) :
    θ_run defs (onTc (τ := τ) (main (F := Ideal))) ⟨m, fun _ => 0, ρ⟩ fun r => ∀ c : Dev nD,
      r.2.mem ((c.tc : Thread nD τ).loc main_v20) = (fun p => xo m c (p 0) (p 1) : FVec Ideal S8192x1024 .f32)
      ∧ r.2.mem ((c.tc : Thread nD τ).loc main_v21) = (fun p => a m c (p 0) (p 1) : FVec Ideal S8192x2816 .bf16)
      ∧ r.2.mem ((c.tc : Thread nD τ).loc main_v22) = (fun p => b m c (p 0) (p 1) : FVec Ideal S8192x2816 .bf16)
      ∧ r.2.mem ((c.tc : Thread nD τ).loc main_v23) = (fun p => h m c (p 0) (p 1) : FVec Ideal S8192x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨h0, h1, h2, h3, hk⟩ := h c
  refine ⟨h0.trans ?_, h1.trans ?_, h2.trans ?_, h3.trans ?_, hk⟩
  · change vO m c = _
    funext p
    idx_vars p
    exact o_at m c p0 p1
  · change truncf .bf16 (vA m c) bitsLt_bf16_f32 = _
    funext p
    idx_vars p
    pointwise
    exact a_at m c p0 p1
  · change truncf .bf16 (vB m c) bitsLt_bf16_f32 = _
    funext p
    idx_vars p
    pointwise
    exact b_at m c p0 p1
  · change truncf .bf16 (vH m c) bitsLt_bf16_f32 = _
    funext p
    idx_vars p
    pointwise
    exact h_at m c p0 p1

end Cert.FfnFwdRefIdeal.Formula

end
-- ==== Proof.FfnFwd.lean ====
/- The claims about `ffn_fwd`: the frames of its programs, and that its four results are the reference's. -/
module

public import proofs.«01_k».proof.Defs
public import proofs.«01_k».proof.Proof.Gen.FfnFwd
public import proofs.«01_k».proof.Proof.Gen.FfnFwd.Frame
public import proofs.«01_k».proof.Proof.FfnFwdKernel
public import proofs.«01_k».proof.Proof.FfnFwdRef
public import Idealize.ShloMosaic.Lib.Quiescent

@[expose] public section

set_option maxRecDepth 16384

noncomputable section

namespace Cert.FfnFwdClaims

open Idealize.ShloMosaic Idealize.ShloMosaic.TcCoe Idealize.SL.Sem

theorem frame : Cert.quiescent_FfnFwd := fun m ρ _ => Cert.FfnFwd.Gen.frame m ρ

theorem frameIdeal : Cert.quiescent_FfnFwdIdeal := fun m ρ _ => Cert.FfnFwdIdeal.Gen.frame m ρ

theorem frameRef : Cert.quiescent_FfnFwdRefIdeal := fun m ρ _ =>
  (θ_run _ _ _).mono (fun r h => ⟨fun c => (h c).2.2.2.2, sem_eq_zero_of_no_sems rfl _⟩) (Cert.FfnFwdRefIdeal.Formula.run m ρ)

theorem algebraic : Cert.algebraic_FfnFwdIdeal_FfnFwdRefIdeal := by
  intro m g m' g' _ hagree
  refine ⟨fun c p => Cert.FfnFwdIdeal.Formula.xo m c (p 0) (p 1), fun c p => Cert.FfnFwdIdeal.Formula.a m c (p 0) (p 1), fun c p => Cert.FfnFwdIdeal.Formula.b m c (p 0) (p 1), fun c p => Cert.FfnFwdIdeal.Formula.h m c (p 0) (p 1), ?_, ?_⟩
  · exact (θ_run _ _ _).mono (fun r h c => ⟨(h c).1.trans (Cert.FfnFwdIdeal.Formula.final5 m c),
      (h c).2.1.trans (Cert.FfnFwdIdeal.Formula.final6 m c),
      (h c).2.2.1.trans (Cert.FfnFwdIdeal.Formula.final7 m c),
      (h c).2.2.2.1.trans (Cert.FfnFwdIdeal.Formula.final8 m c),
      (h c).2.2.2.2⟩) (Cert.FfnFwdIdeal.Value.run_blocks m g)
  · refine (θ_run _ _ _).mono (fun r h c => ?_) (Cert.FfnFwdRefIdeal.Formula.run m' g')
    obtain ⟨a0, a1, a2, a3, a4⟩ := hagree c
    have e0 : Cert.FfnFwdRefIdeal.Formula.x m' c = Cert.FfnFwdIdeal.Formula.x m c := by
      funext _ _; simp only [Cert.FfnFwdRefIdeal.Formula.x, a0]; rfl
    have e1 : Cert.FfnFwdRefIdeal.Formula.g m' c = Cert.FfnFwdIdeal.Formula.g m c := by
      funext _; simp only [Cert.FfnFwdRefIdeal.Formula.g, a1]; rfl
    have e2 : Cert.FfnFwdRefIdeal.Formula.wg m' c = Cert.FfnFwdIdeal.Formula.wg m c := by
      funext _ _; simp only [Cert.FfnFwdRefIdeal.Formula.wg, a2]; rfl
    have e3 : Cert.FfnFwdRefIdeal.Formula.wu m' c = Cert.FfnFwdIdeal.Formula.wu m c := by
      funext _ _; simp only [Cert.FfnFwdRefIdeal.Formula.wu, a3]; rfl
    have e4 : Cert.FfnFwdRefIdeal.Formula.wd m' c = Cert.FfnFwdIdeal.Formula.wd m c := by
      funext _ _; simp only [Cert.FfnFwdRefIdeal.Formula.wd, a4]; rfl
    have eH : Cert.FfnFwdRefIdeal.Formula.h m' c = Cert.FfnFwdIdeal.Formula.h m c := by
      unfold Cert.FfnFwdRefIdeal.Formula.h; rw [e0, e1]; rfl
    have eA : Cert.FfnFwdRefIdeal.Formula.a m' c = Cert.FfnFwdIdeal.Formula.a m c := by
      unfold Cert.FfnFwdRefIdeal.Formula.a; rw [eH, e2]; rfl
    have eB : Cert.FfnFwdRefIdeal.Formula.b m' c = Cert.FfnFwdIdeal.Formula.b m c := by
      unfold Cert.FfnFwdRefIdeal.Formula.b; rw [eH, e3]; rfl
    have eXO : Cert.FfnFwdRefIdeal.Formula.xo m' c = Cert.FfnFwdIdeal.Formula.xo m c := by
      unfold Cert.FfnFwdRefIdeal.Formula.xo; rw [e0, eA, eB, e4]; rfl
    obtain ⟨h0, h1, h2, h3, hk⟩ := h c
    rw [eXO] at h0
    rw [eA] at h1
    rw [eB] at h2
    rw [eH] at h3
    exact ⟨h0, h1, h2, h3, hk⟩

end Cert.FfnFwdClaims

end
-- ==== Proof.ProjFwdKernel.lean ====
/- What the five results of `proj_ffn_fwd` hold after the kernel's run, as formulas over the argument arrays. -/
module

public import proofs.«01_k».proof.Proof.Gen.ProjFwdIdeal.Value
public import proofs.«01_k».proof.Proof.FwdMath
public import Idealize.ShloMosaic.Lib.Pipeline.ValueKit
public import Idealize.ShloMosaic.Lib.Claim

@[expose] public section

set_option maxRecDepth 16384

noncomputable section

namespace Cert.ProjFwdIdeal.Formula

open Cert.ProjFwdIdeal Cert.ProjFwdIdeal.Gen Idealize.ShloMosaic Idealize.ShloMosaic.TcCoe Idealize.SL.Sem Cert.RmsNorm Cert.FwdMath

variable (m : (ℓ : Loc nD τ sig) → Buf (Elt Ideal) ℓ) (c : Dev nD)

/-! The argument arrays, by their coordinates, and the values of the layer. -/

def act (i : Fin 8192) (k : Fin 1024) : EReal := (m ((c : Thread nD τ).loc main_arg0) : FVec Ideal S8192x1024 .f32) (ix2 i k)
def w (k : Fin 1024) (l : Fin 1024) : EReal := (m ((c : Thread nD τ).loc main_arg1) : FVec Ideal S1024x1024 .f32) (ix2 k l)
def r (i : Fin 8192) (k : Fin 1024) : EReal := (m ((c : Thread nD τ).loc main_arg2) : FVec Ideal S8192x1024 .f32) (ix2 i k)
def g (k : Fin 1024) : EReal := (m ((c : Thread nD τ).loc main_arg3) : FVec Ideal S1024 .f32) (ix1 k)
def wg (k : Fin 1024) (f : Fin 2816) : EReal := (m ((c : Thread nD τ).loc main_arg4) : FVec Ideal S1024x2816 .f32) (ix2 k f)
def wu (k : Fin 1024) (f : Fin 2816) : EReal := (m ((c : Thread nD τ).loc main_arg5) : FVec Ideal S1024x2816 .f32) (ix2 k f)
def wd (f : Fin 2816) (k : Fin 1024) : EReal := (m ((c : Thread nD τ).loc main_arg6) : FVec Ideal S2816x1024 .f32) (ix2 f k)

def x (i : Fin 8192) (k : Fin 1024) : EReal := r m c i k + prod (act m c) (w m c) i k
def h : Fin 8192 → Fin 1024 → EReal := rmsNorm (x m c) (g m c)
def a : Fin 8192 → Fin 2816 → EReal := prod (h m c) (wg m c)
def b : Fin 8192 → Fin 2816 → EReal := prod (h m c) (wu m c)
def xo : Fin 8192 → Fin 1024 → EReal := out (x m c) (gated (a m c) (b m c)) (wd m c)

theorem idx : ∀ t : Fin cfg0.N, win0_0.index t = ![t.val, 0] ∧ win0_1.index t = ![0, 0] ∧ win0_2.index t = ![t.val, 0] ∧ win0_3.index t = ![0, 0]
    ∧ win0_4.index t = ![0, 0, 0] ∧ win0_5.index t = ![1, 0, 0] ∧ win0_6.index t = ![2, 0, 0] ∧ win0_7.index t = ![t.val, 0]
    ∧ win0_8.index t = ![t.val, 0] ∧ win0_9.index t = ![t.val, 0] ∧ win0_10.index t = ![t.val, 0] ∧ win0_11.index t = ![t.val, 0] :=
  (by decide +kernel : ∀ t : Fin grid0.N, _)

/-- Row `r` of grid point `t`'s block. -/
def at_ (t : Fin cfg0.N) (r : Fin 256) : Fin 8192 :=
  ⟨t.val * 256 + r.val, by have h : t.val < 32 := lt_of_lt_of_eq t.isLt N_0; omega⟩

theorem at_val (t : Fin cfg0.N) (r : Fin 256) : (at_ t r).val = t.val * 256 + r.val := rfl

set_option maxHeartbeats 1000000 in
/-- The three products' weights, stacked. -/
theorem V_v6 : (V m c main_v6 : FVec Ideal S3x2816x1024 .bf16) = fun p =>
    if (p 0).val = 0 then wg m c (p 2) (p 1) else if (p 0).val = 1 then wu m c (p 2) (p 1) else wd m c (p 1) (p 2) := by
  unfold V
  after_results_simp
  funext p
  idx_vars p
  pointwise
  after_results_simp
  pointwise
  fin_cases p0
  · rfl
  · rfl
  · rfl

theorem read0 (t : Fin cfg0.N) (y : Fin 256) (k : Fin 1024) : (iblk m c 0 t : Vec Ideal S256x1024 .f32) (ix2 y k) = act m c (at_ t y) k := by
  unfold act; blk_ext! [iblk, V, idx t, at_val]

theorem read1 (t : Fin cfg0.N) (k l : Fin 1024) : (iblk m c 1 t : Vec Ideal S1024x1024 .bf16) (ix2 k l) = w m c k l := by
  unfold w; blk_ext! [iblk, V, idx t, at_val]

theorem read2 (t : Fin cfg0.N) (y : Fin 256) (k : Fin 1024) : (iblk m c 2 t : Vec Ideal S256x1024 .f32) (ix2 y k) = r m c (at_ t y) k := by
  unfold r; blk_ext! [iblk, V, idx t, at_val]

theorem read3 (t : Fin cfg0.N) (k : Fin 1024) : (iblk m c 3 t : Vec Ideal S1x1024 .f32) (ix2 0 k) = g m c k := by
  unfold g; blk_ext! [iblk, V, idx t, at_val]

theorem read4 (t : Fin cfg0.N) (f : Fin 2816) (k : Fin 1024) :
    (iblk m c 4 t : Vec Ideal S1x2816x1024 .bf16) (ix3 0 f k) = wg m c k f := by
  refine Eq.trans ?_ (congrFun (V_v6 m c) (ix3 0 f k))
  blk_ext! [iblk, idx t]

theorem read5 (t : Fin cfg0.N) (f : Fin 2816) (k : Fin 1024) :
    (iblk m c 5 t : Vec Ideal S1x2816x1024 .bf16) (ix3 0 f k) = wu m c k f := by
  refine Eq.trans ?_ (congrFun (V_v6 m c) (ix3 1 f k))
  blk_ext! [iblk, idx t]

theorem read6 (t : Fin cfg0.N) (f : Fin 2816) (k : Fin 1024) :
    (iblk m c 6 t : Vec Ideal S1x2816x1024 .bf16) (ix3 0 f k) = wd m c f k := by
  refine Eq.trans ?_ (congrFun (V_v6 m c) (ix3 2 f k))
  blk_ext! [iblk, idx t]

/-! The block's intermediate values, each a function of the row and the column. -/

def xB (t : Fin cfg0.N) : FVec Ideal S256x1024 .f32 := fun y => x m c (at_ t (y 0)) (y 1)
def hB (t : Fin cfg0.N) : FVec Ideal S256x1024 .bf16 := fun y => h m c (at_ t (y 0)) (y 1)
def aB (t : Fin cfg0.N) : FVec Ideal S256x2816 .f32 := fun y => a m c (at_ t (y 0)) (y 1)
def bB (t : Fin cfg0.N) : FVec Ideal S256x2816 .f32 := fun y => b m c (at_ t (y 0)) (y 1)

theorem xB_at (t : Fin cfg0.N) (y : Fin 256) (k : Fin 1024) : xB m c t (ix2 y k) = x m c (at_ t y) k := rfl
theorem hB_at (t : Fin cfg0.N) (y : Fin 256) (k : Fin 1024) : hB m c t (ix2 y k) = h m c (at_ t y) k := rfl
theorem aB_at (t : Fin cfg0.N) (y : Fin 256) (f : Fin 2816) : aB m c t (ix2 y f) = a m c (at_ t y) f := rfl
theorem bB_at (t : Fin cfg0.N) (y : Fin 256) (f : Fin 2816) : bB m c t (ix2 y f) = b m c (at_ t y) f := rfl

theorem pay3 (t : Fin cfg0.N) : k0_pay3 (iblk m c 2 t) (iblk m c 0 t) (iblk m c 1 t) = xB m c t := by
  funext y
  idx_vars y
  rw [xB_at]
  unfold k0_pay3
  pointwise
  simp only [read0, read1, read2]
  rfl

theorem pay4 (t : Fin cfg0.N) : k0_pay4 (iblk m c 2 t) (iblk m c 0 t) (iblk m c 1 t) (iblk m c 3 t) = hB m c t := by
  funext y
  idx_vars y
  rw [hB_at]
  unfold k0_pay4
  rw [pay3]
  pointwise
  simp only [read3, xB_at]
  rfl

theorem pay5 (t : Fin cfg0.N) : k0_pay5 (iblk m c 2 t) (iblk m c 0 t) (iblk m c 1 t) (iblk m c 3 t) (iblk m c 4 t) = aB m c t := by
  funext y
  idx_vars y
  rw [aB_at]
  unfold k0_pay5
  rw [pay4]
  pointwise
  simp only [read4, hB_at]
  rfl

theorem pay6 (t : Fin cfg0.N) : k0_pay6 (iblk m c 2 t) (iblk m c 0 t) (iblk m c 1 t) (iblk m c 3 t) (iblk m c 5 t) = bB m c t := by
  funext y
  idx_vars y
  rw [bB_at]
  unfold k0_pay6
  rw [pay4]
  pointwise
  simp only [read5, hB_at]
  rfl

theorem point7 (t : Fin cfg0.N) (y : S256x1024.Idx) : k0_pay3 (iblk m c 2 t) (iblk m c 0 t) (iblk m c 1 t) y = x m c (at_ t (y 0)) (y 1) :=
  congrFun (pay3 m c t) y

theorem point8 (t : Fin cfg0.N) (y : S256x1024.Idx) :
    k0_pay2 (k0_pay5 (iblk m c 2 t) (iblk m c 0 t) (iblk m c 1 t) (iblk m c 3 t) (iblk m c 4 t)) (k0_pay6 (iblk m c 2 t) (iblk m c 0 t) (iblk m c 1 t) (iblk m c 3 t) (iblk m c 5 t)) (k0_pay3 (iblk m c 2 t) (iblk m c 0 t) (iblk m c 1 t)) (iblk m c 6 t) y
      = xo m c (at_ t (y 0)) (y 1) := by
  rw [pay3, pay5, pay6]
  idx_vars y
  unfold k0_pay2
  pointwise
  simp only [read6, xB_at, aB_at, bB_at]
  rfl

theorem point9 (t : Fin cfg0.N) (y : S256x2816.Idx) : k0_pay7 (iblk m c 2 t) (iblk m c 0 t) (iblk m c 1 t) (iblk m c 3 t) (iblk m c 4 t) y = a m c (at_ t (y 0)) (y 1) := by
  unfold k0_pay7
  rw [pay5]
  pointwise
  rfl

theorem point10 (t : Fin cfg0.N) (y : S256x2816.Idx) : k0_pay1 (k0_pay6 (iblk m c 2 t) (iblk m c 0 t) (iblk m c 1 t) (iblk m c 3 t) (iblk m c 5 t)) y = b m c (at_ t (y 0)) (y 1) := by
  unfold k0_pay1
  rw [pay6]
  pointwise
  rfl

theorem point11 (t : Fin cfg0.N) (y : S256x1024.Idx) : k0_pay4 (iblk m c 2 t) (iblk m c 0 t) (iblk m c 1 t) (iblk m c 3 t) y = h m c (at_ t (y 0)) (y 1) :=
  congrFun (pay4 m c t) y

theorem final7 : (dats m 0 c).arrAt 7 cfg0.N = (fun p => x m c (p 0) (p 1) : FVec Ideal S8192x1024 .f32) := by
  refine (dats m 0 c).arrAt_eq_of_covers 7 _ (by decide +kernel) fun t hf y => ?_
  blk_simp
  have e : ((View.whole main_v9_0).slice (win0_7.rect t)).emb y = ix2 (at_ t (y 0)) (y 1) := by
    blk_ext [idx t]; rfl
  rw [after0_7, outsAt0]
  frame_out
  rw [e]
  exact point7 m c t y

theorem final8 : (dats m 0 c).arrAt 8 cfg0.N = (fun p => xo m c (p 0) (p 1) : FVec Ideal S8192x1024 .f32) := by
  refine (dats m 0 c).arrAt_eq_of_covers 8 _ (by decide +kernel) fun t hf y => ?_
  blk_simp
  have e : ((View.whole main_v9_1).slice (win0_8.rect t)).emb y = ix2 (at_ t (y 0)) (y 1) := by
    blk_ext [idx t]; rfl
  rw [after0_8, outsAt0]
  frame_out
  rw [e]
  exact point8 m c t y

theorem final9 : (dats m 0 c).arrAt 9 cfg0.N = (fun p => a m c (p 0) (p 1) : FVec Ideal S8192x2816 .bf16) := by
  refine (dats m 0 c).arrAt_eq_of_covers 9 _ (by decide +kernel) fun t hf y => ?_
  blk_simp
  have e : ((View.whole main_v9_2).slice (win0_9.rect t)).emb y = ix2 (at_ t (y 0)) (y 1) := by
    blk_ext [idx t]; rfl
  rw [after0_9, outsAt0]
  frame_out
  rw [e]
  exact point9 m c t y

theorem final10 : (dats m 0 c).arrAt 10 cfg0.N = (fun p => b m c (p 0) (p 1) : FVec Ideal S8192x2816 .bf16) := by
  refine (dats m 0 c).arrAt_eq_of_covers 10 _ (by decide +kernel) fun t hf y => ?_
  blk_simp
  have e : ((View.whole main_v9_3).slice (win0_10.rect t)).emb y = ix2 (at_ t (y 0)) (y 1) := by
    blk_ext [idx t]; rfl
  rw [after0_10, outsAt0]
  frame_out
  rw [e]
  exact point10 m c t y

theorem final11 : (dats m 0 c).arrAt 11 cfg0.N = (fun p => h m c (p 0) (p 1) : FVec Ideal S8192x1024 .bf16) := by
  refine (dats m 0 c).arrAt_eq_of_covers 11 _ (by decide +kernel) fun t hf y => ?_
  blk_simp
  have e : ((View.whole main_v9_4).slice (win0_11.rect t)).emb y = ix2 (at_ t (y 0)) (y 1) := by
    blk_ext [idx t]; rfl
  rw [after0_11, outsAt0]
  frame_out
  rw [e]
  exact point11 m c t y

end Cert.ProjFwdIdeal.Formula

end
-- ==== Proof.ProjFwdRef.lean ====
/- The five results of the reference of `proj_ffn_fwd`, as formulas over the argument arrays. -/
module

public import proofs.«01_k».proof.Proof.Gen.ProjFwdRefIdeal.Run
public import proofs.«01_k».proof.Proof.FwdMath
public import Idealize.ShloMosaic.Lib.Tactic.CleanTypes

@[expose] public section

set_option maxRecDepth 16384

noncomputable section

namespace Cert.ProjFwdRefIdeal.Formula

open Cert.ProjFwdRefIdeal Cert.ProjFwdRefIdeal.Gen Idealize.ShloMosaic Idealize.ShloMosaic.TcCoe Idealize.SL.Sem Cert.RmsNorm Cert.FwdMath

variable (m : (ℓ : Loc nD τ sig) → Buf (Elt Ideal) ℓ) (c : Dev nD)

abbrev ACT : FVec Ideal S8192x1024 .f32 := m ((c.tc : Thread nD τ).loc main_arg0)
abbrev W : FVec Ideal S1024x1024 .f32 := m ((c.tc : Thread nD τ).loc main_arg1)
abbrev R : FVec Ideal S8192x1024 .f32 := m ((c.tc : Thread nD τ).loc main_arg2)
abbrev G : FVec Ideal S1024 .f32 := m ((c.tc : Thread nD τ).loc main_arg3)
abbrev WG : FVec Ideal S1024x2816 .f32 := m ((c.tc : Thread nD τ).loc main_arg4)
abbrev WU : FVec Ideal S1024x2816 .f32 := m ((c.tc : Thread nD τ).loc main_arg5)
abbrev WD : FVec Ideal S2816x1024 .f32 := m ((c.tc : Thread nD τ).loc main_arg6)

/-! The argument arrays, by their coordinates, and the values of the call. -/

def act (i : Fin 8192) (k : Fin 1024) : EReal := ACT m c (ix2 i k)
def w (k : Fin 1024) (l : Fin 1024) : EReal := W m c (ix2 k l)
def r (i : Fin 8192) (k : Fin 1024) : EReal := R m c (ix2 i k)
def g (k : Fin 1024) : EReal := G m c (ix1 k)
def wg (k : Fin 1024) (f : Fin 2816) : EReal := WG m c (ix2 k f)
def wu (k : Fin 1024) (f : Fin 2816) : EReal := WU m c (ix2 k f)
def wd (f : Fin 2816) (k : Fin 1024) : EReal := WD m c (ix2 f k)

def x (i : Fin 8192) (k : Fin 1024) : EReal := r m c i k + prod (act m c) (w m c) i k
def h : Fin 8192 → Fin 1024 → EReal := rmsNorm (x m c) (g m c)
def a : Fin 8192 → Fin 2816 → EReal := prod (h m c) (wg m c)
def b : Fin 8192 → Fin 2816 → EReal := prod (h m c) (wu m c)
def xo : Fin 8192 → Fin 1024 → EReal := out (x m c) (gated (a m c) (b m c)) (wd m c)

/-- The residual stream before the layer. -/
def X : FVec Ideal S8192x1024 .f32 := addf (R m c) (Host.dotGeneral dot_S8192x1024_S1024x1024_S8192x1024_1_0_0_1_n_n none (ACT m c) (W m c))

/-! The reference's intermediate arrays, a definition each. -/

/-- Each row's mean square and the factor the row is normalised by. -/
def vMS : FVec Ideal S8192x1 .f32 :=
  addf (Host.divf (broadcastInDim S8192x1 ![0] bcast_S8192_S8192x1_0 (Host.reduceAdd (mulf (X m c) (X m c)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

def vRS : FVec Ideal S8192x1 .f32 := Host.rsqrt (vMS m c)

/-- The normalised rows. -/
def vH : FVec Ideal S8192x1024 .f32 :=
  mulf (mulf (X m c) (broadcastInDim S8192x1024 ![0, 1] bcast_S8192x1_S8192x1024_0_1 (vRS m c)))
    (broadcastInDim S8192x1024 ![0, 1] bcast_S1x1024_S8192x1024_0_1 (broadcastInDim S1x1024 ![1] bcast_S1024_S1x1024_1 (G m c)))

/-- The two products of the normalised rows and the gated rows. -/
def vA : FVec Ideal S8192x2816 .f32 := Host.dotGeneral dot_S8192x1024_S1024x2816_S8192x2816_1_0_0_1_n_n none (vH m c) (WG m c)

def vB : FVec Ideal S8192x2816 .f32 := Host.dotGeneral dot_S8192x1024_S1024x2816_S8192x2816_1_0_0_1_n_n none (vH m c) (WU m c)

def vOne : FVec Ideal S8192x2816 .f32 := broadcastInDim S8192x2816 ![] bcast_S_S8192x2816 (constant S_ .f32 0x3F800000#32)

def vS : FVec Ideal S8192x2816 .f32 := mulf (mulf (vA m c) (Host.divf vOne (addf vOne (Host.exp (Host.negf (vA m c)))))) (vB m c)

/-- The residual stream after the layer. -/
def vO : FVec Ideal S8192x1024 .f32 :=
  addf (X m c) (mulf (broadcastInDim S8192x1024 ![] bcast_S_S8192x1024 (constant S_ .f32 0x3F000000#32)) (Host.dotGeneral dot_S8192x2816_S2816x1024_S8192x1024_1_0_0_1_n_n none (vS m c) (WD m c)))

theorem x_at (i : Fin 8192) (k : Fin 1024) : X m c (ix2 i k) = x m c i k := by
  unfold X; pointwise; rfl

theorem ms_at (i : Fin 8192) (k : Fin 1) : vMS m c (ix2 i k) = meanSq (x m c i) := by
  unfold vMS; pointwise; simp only [x_at]; rfl

theorem rs_at (i : Fin 8192) (k : Fin 1) : vRS m c (ix2 i k) = rstd (x m c i) := by
  unfold vRS; pointwise; simp only [ms_at]; rfl

theorem h_at (i : Fin 8192) (k : Fin 1024) : vH m c (ix2 i k) = h m c i k := by
  unfold vH; pointwise; simp only [rs_at, x_at]; rfl

theorem a_at (i : Fin 8192) (f : Fin 2816) : vA m c (ix2 i f) = a m c i f := by
  unfold vA; pointwise; simp only [h_at]; rfl

theorem b_at (i : Fin 8192) (f : Fin 2816) : vB m c (ix2 i f) = b m c i f := by
  unfold vB; pointwise; simp only [h_at]; rfl

theorem one_at (i : Fin 8192) (f : Fin 2816) : vOne (ix2 i f) = one := by
  unfold vOne; pointwise

theorem s_at (i : Fin 8192) (f : Fin 2816) : vS m c (ix2 i f) = gatedRef (a m c) (b m c) i f := by
  unfold vS; pointwise; simp only [one_at, a_at, b_at]; rfl

theorem o_at (i : Fin 8192) (k : Fin 1024) : vO m c (ix2 i k) = xo m c i k := by
  rw [xo, ← gatedRef_eq]
  unfold vO; pointwise; simp only [s_at, x_at]; rfl

/-- The reference's run, with its results at these formulas. -/
theorem run (ρ : Dev nD → PrngReg) :
    θ_run defs (onTc (τ := τ) (main (F := Ideal))) ⟨m, fun _ => 0, ρ⟩ fun r => ∀ c : Dev nD,
      r.2.mem ((c.tc : Thread nD τ).loc main_v1) = (fun p => x m c (p 0) (p 1) : FVec Ideal S8192x1024 .f32)
      ∧ r.2.mem ((c.tc : Thread nD τ).loc main_v22) = (fun p => xo m c (p 0) (p 1) : FVec Ideal S8192x1024 .f32)
      ∧ r.2.mem ((c.tc : Thread nD τ).loc main_v23) = (fun p => a m c (p 0) (p 1) : FVec Ideal S8192x2816 .bf16)
      ∧ r.2.mem ((c.tc : Thread nD τ).loc main_v24) = (fun p => b m c (p 0) (p 1) : FVec Ideal S8192x2816 .bf16)
      ∧ r.2.mem ((c.tc : Thread nD τ).loc main_v25) = (fun p => h m c (p 0) (p 1) : FVec Ideal S8192x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Value.run m ρ)
  obtain ⟨h0, h1, h2, h3, h4, hk⟩ := h c
  refine ⟨h0.trans ?_, h1.trans ?_, h2.trans ?_, h3.trans ?_, h4.trans ?_, hk⟩
  · change X m c = _
    funext p
    idx_vars p
    exact x_at m c p0 p1
  · change vO m c = _
    funext p
    idx_vars p
    exact o_at m c p0 p1
  · change truncf .bf16 (vA m c) bitsLt_bf16_f32 = _
    funext p
    idx_vars p
    pointwise
    exact a_at m c p0 p1
  · change truncf .bf16 (vB m c) bitsLt_bf16_f32 = _
    funext p
    idx_vars p
    pointwise
    exact b_at m c p0 p1
  · change truncf .bf16 (vH m c) bitsLt_bf16_f32 = _
    funext p
    idx_vars p
    pointwise
    exact h_at m c p0 p1

end Cert.ProjFwdRefIdeal.Formula

end
-- ==== Proof.ProjFwd.lean ====
/- The claims about `proj_ffn_fwd`: the frames of its programs, and that its five results are the reference's. -/
module

public import proofs.«01_k».proof.Defs
public import proofs.«01_k».proof.Proof.Gen.ProjFwd
public import proofs.«01_k».proof.Proof.Gen.ProjFwd.Frame
public import proofs.«01_k».proof.Proof.ProjFwdKernel
public import proofs.«01_k».proof.Proof.ProjFwdRef
public import Idealize.ShloMosaic.Lib.Quiescent

@[expose] public section

set_option maxRecDepth 16384

noncomputable section

namespace Cert.ProjFwdClaims

open Idealize.ShloMosaic Idealize.ShloMosaic.TcCoe Idealize.SL.Sem

theorem frame : Cert.quiescent_ProjFwd := fun m ρ _ => Cert.ProjFwd.Gen.frame m ρ

theorem frameIdeal : Cert.quiescent_ProjFwdIdeal := fun m ρ _ => Cert.ProjFwdIdeal.Gen.frame m ρ

theorem frameRef : Cert.quiescent_ProjFwdRefIdeal := fun m ρ _ =>
  (θ_run _ _ _).mono (fun r h => ⟨fun c => (h c).2.2.2.2.2, sem_eq_zero_of_no_sems rfl _⟩) (Cert.ProjFwdRefIdeal.Formula.run m ρ)

theorem algebraic : Cert.algebraic_ProjFwdIdeal_ProjFwdRefIdeal := by
  intro m g m' g' _ hagree
  refine ⟨fun c p => Cert.ProjFwdIdeal.Formula.x m c (p 0) (p 1), fun c p => Cert.ProjFwdIdeal.Formula.xo m c (p 0) (p 1), fun c p => Cert.ProjFwdIdeal.Formula.a m c (p 0) (p 1), fun c p => Cert.ProjFwdIdeal.Formula.b m c (p 0) (p 1), fun c p => Cert.ProjFwdIdeal.Formula.h m c (p 0) (p 1), ?_, ?_⟩
  · exact (θ_run _ _ _).mono (fun r h c => ⟨(h c).1.trans (Cert.ProjFwdIdeal.Formula.final7 m c),
      (h c).2.1.trans (Cert.ProjFwdIdeal.Formula.final8 m c),
      (h c).2.2.1.trans (Cert.ProjFwdIdeal.Formula.final9 m c),
      (h c).2.2.2.1.trans (Cert.ProjFwdIdeal.Formula.final10 m c),
      (h c).2.2.2.2.1.trans (Cert.ProjFwdIdeal.Formula.final11 m c),
      (h c).2.2.2.2.2⟩) (Cert.ProjFwdIdeal.Value.run_blocks m g)
  · refine (θ_run _ _ _).mono (fun r h c => ?_) (Cert.ProjFwdRefIdeal.Formula.run m' g')
    obtain ⟨a0, a1, a2, a3, a4, a5, a6⟩ := hagree c
    have e0 : Cert.ProjFwdRefIdeal.Formula.act m' c = Cert.ProjFwdIdeal.Formula.act m c := by
      funext _ _; simp only [Cert.ProjFwdRefIdeal.Formula.act, a0]; rfl
    have e1 : Cert.ProjFwdRefIdeal.Formula.w m' c = Cert.ProjFwdIdeal.Formula.w m c := by
      funext _ _; simp only [Cert.ProjFwdRefIdeal.Formula.w, a1]; rfl
    have e2 : Cert.ProjFwdRefIdeal.Formula.r m' c = Cert.ProjFwdIdeal.Formula.r m c := by
      funext _ _; simp only [Cert.ProjFwdRefIdeal.Formula.r, a2]; rfl
    have e3 : Cert.ProjFwdRefIdeal.Formula.g m' c = Cert.ProjFwdIdeal.Formula.g m c := by
      funext _; simp only [Cert.ProjFwdRefIdeal.Formula.g, a3]; rfl
    have e4 : Cert.ProjFwdRefIdeal.Formula.wg m' c = Cert.ProjFwdIdeal.Formula.wg m c := by
      funext _ _; simp only [Cert.ProjFwdRefIdeal.Formula.wg, a4]; rfl
    have e5 : Cert.ProjFwdRefIdeal.Formula.wu m' c = Cert.ProjFwdIdeal.Formula.wu m c := by
      funext _ _; simp only [Cert.ProjFwdRefIdeal.Formula.wu, a5]; rfl
    have e6 : Cert.ProjFwdRefIdeal.Formula.wd m' c = Cert.ProjFwdIdeal.Formula.wd m c := by
      funext _ _; simp only [Cert.ProjFwdRefIdeal.Formula.wd, a6]; rfl
    have eX : Cert.ProjFwdRefIdeal.Formula.x m' c = Cert.ProjFwdIdeal.Formula.x m c := by
      funext i k; unfold Cert.ProjFwdRefIdeal.Formula.x; rw [e2, e0, e1]; rfl
    have eH : Cert.ProjFwdRefIdeal.Formula.h m' c = Cert.ProjFwdIdeal.Formula.h m c := by
      unfold Cert.ProjFwdRefIdeal.Formula.h; rw [eX, e3]; rfl
    have eA : Cert.ProjFwdRefIdeal.Formula.a m' c = Cert.ProjFwdIdeal.Formula.a m c := by
      unfold Cert.ProjFwdRefIdeal.Formula.a; rw [eH, e4]; rfl
    have eB : Cert.ProjFwdRefIdeal.Formula.b m' c = Cert.ProjFwdIdeal.Formula.b m c := by
      unfold Cert.ProjFwdRefIdeal.Formula.b; rw [eH, e5]; rfl
    have eXO : Cert.ProjFwdRefIdeal.Formula.xo m' c = Cert.ProjFwdIdeal.Formula.xo m c := by
      unfold Cert.ProjFwdRefIdeal.Formula.xo; rw [eX, eA, eB, e6]; rfl
    obtain ⟨h0, h1, h2, h3, h4, hk⟩ := h c
    rw [eX] at h0
    rw [eXO] at h1
    rw [eA] at h2
    rw [eB] at h3
    rw [eH] at h4
    exact ⟨h0, h1, h2, h3, h4, hk⟩

end Cert.ProjFwdClaims

end
-- ==== Proof.NormProjKernel.lean ====
/- What the two results of `mm_nt` hold after the kernel's run, as formulas over the argument arrays. -/
module

public import proofs.«01_k».proof.Proof.Gen.NormProjIdeal.Value
public import proofs.«01_k».proof.Proof.FwdMath
public import Idealize.ShloMosaic.Lib.Pipeline.ValueKit
public import Idealize.ShloMosaic.Lib.Claim

@[expose] public section

set_option maxRecDepth 16384

noncomputable section

namespace Cert.NormProjIdeal.Formula

open Cert.NormProjIdeal Cert.NormProjIdeal.Gen Idealize.ShloMosaic Idealize.ShloMosaic.TcCoe Idealize.SL.Sem Cert.RmsNorm Cert.FwdMath

variable (m : (ℓ : Loc nD τ sig) → Buf (Elt Ideal) ℓ) (c : Dev nD)

/-! The argument arrays, by their coordinates, and the values of the call. -/

def x (i : Fin 8192) (k : Fin 1024) : EReal := (m ((c : Thread nD τ).loc main_arg0) : FVec Ideal S8192x1024 .f32) (ix2 i k)
def g (k : Fin 1024) : EReal := (m ((c : Thread nD τ).loc main_arg1) : FVec Ideal S1024 .f32) (ix1 k)
def w (k : Fin 1024) (l : Fin 3072) : EReal := (m ((c : Thread nD τ).loc main_arg2) : FVec Ideal S1024x3072 .f32) (ix2 k l)

def h : Fin 8192 → Fin 1024 → EReal := rmsNorm (x m c) (g m c)
def z : Fin 8192 → Fin 3072 → EReal := prod (h m c) (w m c)

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- Row `r` of grid point `t`'s block. -/
def at_ (t : Fin cfg0.N) (r : Fin 512) : Fin 8192 :=
  ⟨t.val * 512 + r.val, by have h : t.val < 16 := lt_of_lt_of_eq t.isLt N_0; omega⟩

theorem at_val (t : Fin cfg0.N) (r : Fin 512) : (at_ t r).val = t.val * 512 + r.val := rfl

theorem read0 (t : Fin cfg0.N) (y : Fin 512) (k : Fin 1024) : (iblk m c 0 t : Vec Ideal S512x1024 .f32) (ix2 y k) = x m c (at_ t y) k := by
  unfold x; blk_ext! [iblk, V, idx t, at_val]

theorem read1 (t : Fin cfg0.N) (k : Fin 1024) : (iblk m c 1 t : Vec Ideal S1x1024 .f32) (ix2 0 k) = g m c k := by
  unfold g; blk_ext! [iblk, V, idx t, at_val]

theorem read2 (t : Fin cfg0.N) (l : Fin 3072) (k : Fin 1024) : (iblk m c 2 t : Vec Ideal S3072x1024 .bf16) (ix2 l k) = w m c k l := by
  unfold w; blk_ext! [iblk, V, idx t, at_val]

/-- The block's normalised rows. -/
def hB (t : Fin cfg0.N) : FVec Ideal S512x1024 .bf16 := fun y => h m c (at_ t (y 0)) (y 1)

theorem hB_at (t : Fin cfg0.N) (y : Fin 512) (k : Fin 1024) : hB m c t (ix2 y k) = h m c (at_ t y) k := rfl

theorem pay1 (t : Fin cfg0.N) : k0_pay1 (iblk m c 0 t) (iblk m c 1 t) = hB m c t := by
  funext y
  idx_vars y
  rw [hB_at]
  unfold k0_pay1
  pointwise
  simp only [read0, read1]
  rfl

theorem point3 (t : Fin cfg0.N) (y : S512x3072.Idx) :
    k0_pay2 (k0_pay1 (iblk m c 0 t) (iblk m c 1 t)) (iblk m c 2 t) y = z m c (at_ t (y 0)) (y 1) := by
  rw [pay1]
  idx_vars y
  unfold k0_pay2
  pointwise
  simp only [read2, hB_at]
  rfl

theorem point4 (t : Fin cfg0.N) (y : S512x1024.Idx) : k0_pay1 (iblk m c 0 t) (iblk m c 1 t) y = h m c (at_ t (y 0)) (y 1) :=
  congrFun (pay1 m c t) y

theorem final3 : (dats m 0 c).arrAt 3 cfg0.N = (fun p => z m c (p 0) (p 1) : FVec Ideal S8192x3072 .bf16) := by
  refine (dats m 0 c).arrAt_eq_of_covers 3 _ (by decide +kernel) fun t hf y => ?_
  blk_simp
  have e : ((View.whole main_v3_0).slice (win0_3.rect t)).emb y = ix2 (at_ t (y 0)) (y 1) := by
    blk_ext [idx t]; rfl
  rw [after0_3, outsAt0]
  frame_out
  rw [e]
  exact point3 m c t y

theorem final4 : (dats m 0 c).arrAt 4 cfg0.N = (fun p => h m c (p 0) (p 1) : FVec Ideal S8192x1024 .bf16) := by
  refine (dats m 0 c).arrAt_eq_of_covers 4 _ (by decide +kernel) fun t hf y => ?_
  blk_simp
  have e : ((View.whole main_v3_1).slice (win0_4.rect t)).emb y = ix2 (at_ t (y 0)) (y 1) := by
    blk_ext [idx t]; rfl
  rw [after0_4, outsAt0]
  frame_out
  rw [e]
  exact point4 m c t y

end Cert.NormProjIdeal.Formula

end
-- ==== Proof.NormProjRef.lean ====
/- The two results of the reference of `mm_nt`, as formulas over the argument arrays. -/
module

public import proofs.«01_k».proof.Proof.Gen.NormProjRefIdeal.Run
public import proofs.«01_k».proof.Proof.FwdMath
public import Idealize.ShloMosaic.Lib.Tactic.CleanTypes

@[expose] public section

set_option maxRecDepth 16384

noncomputable section

namespace Cert.NormProjRefIdeal.Formula

open Cert.NormProjRefIdeal Cert.NormProjRefIdeal.Gen Idealize.ShloMosaic Idealize.ShloMosaic.TcCoe Idealize.SL.Sem Cert.RmsNorm Cert.FwdMath

variable (m : (ℓ : Loc nD τ sig) → Buf (Elt Ideal) ℓ) (c : Dev nD)

abbrev X : FVec Ideal S8192x1024 .f32 := m ((c.tc : Thread nD τ).loc main_arg0)
abbrev G : FVec Ideal S1024 .f32 := m ((c.tc : Thread nD τ).loc main_arg1)
abbrev W : FVec Ideal S1024x3072 .f32 := m ((c.tc : Thread nD τ).loc main_arg2)

/-! The argument arrays, by their coordinates, and the values of the call. -/

def x (i : Fin 8192) (k : Fin 1024) : EReal := X m c (ix2 i k)
def g (k : Fin 1024) : EReal := G m c (ix1 k)
def w (k : Fin 1024) (l : Fin 3072) : EReal := W m c (ix2 k l)

def h : Fin 8192 → Fin 1024 → EReal := rmsNorm (x m c) (g m c)
def z : Fin 8192 → Fin 3072 → EReal := prod (h m c) (w m c)

/-! The reference's intermediate arrays, a definition each. -/

/-- Each row's mean square and the factor the row is normalised by. -/
def vMS : FVec Ideal S8192x1 .f32 :=
  addf (Host.divf (broadcastInDim S8192x1 ![0] bcast_S8192_S8192x1_0 (Host.reduceAdd (mulf (X m c) (X m c)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

def vRS : FVec Ideal S8192x1 .f32 := Host.rsqrt (vMS m c)

/-- The normalised rows. -/
def vH : FVec Ideal S8192x1024 .f32 :=
  mulf (mulf (X m c) (broadcastInDim S8192x1024 ![0, 1] bcast_S8192x1_S8192x1024_0_1 (vRS m c)))
    (broadcastInDim S8192x1024 ![0, 1] bcast_S1x1024_S8192x1024_0_1 (broadcastInDim S1x1024 ![1] bcast_S1024_S1x1024_1 (G m c)))

/-- The product of the normalised rows. -/
def vZ : FVec Ideal S8192x3072 .f32 := Host.dotGeneral dot_S8192x1024_S1024x3072_S8192x3072_1_0_0_1_n_n none (vH m c) (W m c)

theorem ms_at (i : Fin 8192) (k : Fin 1) : vMS m c (ix2 i k) = meanSq (x m c i) := by
  unfold vMS; pointwise; rfl

theorem rs_at (i : Fin 8192) (k : Fin 1) : vRS m c (ix2 i k) = rstd (x m c i) := by
  unfold vRS; pointwise; simp only [ms_at]; rfl

theorem h_at (i : Fin 8192) (k : Fin 1024) : vH m c (ix2 i k) = h m c i k := by
  unfold vH; pointwise; simp only [rs_at]; rfl

theorem z_at (i : Fin 8192) (l : Fin 3072) : vZ m c (ix2 i l) = z m c i l := by
  unfold vZ; pointwise; simp only [h_at]; rfl

/-- The reference's run, with its results at these formulas. -/
theorem run (ρ : Dev nD → PrngReg) :
    θ_run defs (onTc (τ := τ) (main (F := Ideal))) ⟨m, fun _ => 0, ρ⟩ fun r => ∀ c : Dev nD,
      r.2.mem ((c.tc : Thread nD τ).loc main_v14) = (fun p => z m c (p 0) (p 1) : FVec Ideal S8192x3072 .bf16)
      ∧ r.2.mem ((c.tc : Thread nD τ).loc main_v15) = (fun p => h m c (p 0) (p 1) : FVec Ideal S8192x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨h0, h1, hk⟩ := h c
  refine ⟨h0.trans ?_, h1.trans ?_, hk⟩
  · change truncf .bf16 (vZ m c) bitsLt_bf16_f32 = _
    funext p
    idx_vars p
    pointwise
    exact z_at m c p0 p1
  · change truncf .bf16 (vH m c) bitsLt_bf16_f32 = _
    funext p
    idx_vars p
    pointwise
    exact h_at m c p0 p1

end Cert.NormProjRefIdeal.Formula

end
-- ==== Proof.NormProj.lean ====
/- The claims about `mm_nt`: the frames of its programs, and that its two results are the reference's. -/
module

public import proofs.«01_k».proof.Defs
public import proofs.«01_k».proof.Proof.Gen.NormProj
public import proofs.«01_k».proof.Proof.Gen.NormProj.Frame
public import proofs.«01_k».proof.Proof.NormProjKernel
public import proofs.«01_k».proof.Proof.NormProjRef
public import Idealize.ShloMosaic.Lib.Quiescent

@[expose] public section

set_option maxRecDepth 16384

noncomputable section

namespace Cert.NormProjClaims

open Idealize.ShloMosaic Idealize.ShloMosaic.TcCoe Idealize.SL.Sem

theorem frame : Cert.quiescent_NormProj := fun m ρ _ => Cert.NormProj.Gen.frame m ρ

theorem frameIdeal : Cert.quiescent_NormProjIdeal := fun m ρ _ => Cert.NormProjIdeal.Gen.frame m ρ

theorem frameRef : Cert.quiescent_NormProjRefIdeal := fun m ρ _ =>
  (θ_run _ _ _).mono (fun r h => ⟨fun c => (h c).2.2, sem_eq_zero_of_no_sems rfl _⟩) (Cert.NormProjRefIdeal.Formula.run m ρ)

theorem algebraic : Cert.algebraic_NormProjIdeal_NormProjRefIdeal := by
  intro m g m' g' _ hagree
  refine ⟨fun c p => Cert.NormProjIdeal.Formula.z m c (p 0) (p 1), fun c p => Cert.NormProjIdeal.Formula.h m c (p 0) (p 1), ?_, ?_⟩
  · exact (θ_run _ _ _).mono (fun r h c => ⟨(h c).1.trans (Cert.NormProjIdeal.Formula.final3 m c),
      (h c).2.1.trans (Cert.NormProjIdeal.Formula.final4 m c),
      (h c).2.2⟩) (Cert.NormProjIdeal.Value.run_blocks m g)
  · refine (θ_run _ _ _).mono (fun r h c => ?_) (Cert.NormProjRefIdeal.Formula.run m' g')
    obtain ⟨a0, a1, a2⟩ := hagree c
    have e0 : Cert.NormProjRefIdeal.Formula.x m' c = Cert.NormProjIdeal.Formula.x m c := by
      funext _ _; simp only [Cert.NormProjRefIdeal.Formula.x, a0]; rfl
    have e1 : Cert.NormProjRefIdeal.Formula.g m' c = Cert.NormProjIdeal.Formula.g m c := by
      funext _; simp only [Cert.NormProjRefIdeal.Formula.g, a1]; rfl
    have e2 : Cert.NormProjRefIdeal.Formula.w m' c = Cert.NormProjIdeal.Formula.w m c := by
      funext _ _; simp only [Cert.NormProjRefIdeal.Formula.w, a2]; rfl
    have eH : Cert.NormProjRefIdeal.Formula.h m' c = Cert.NormProjIdeal.Formula.h m c := by
      unfold Cert.NormProjRefIdeal.Formula.h; rw [e0, e1]; rfl
    have eZ : Cert.NormProjRefIdeal.Formula.z m' c = Cert.NormProjIdeal.Formula.z m c := by
      unfold Cert.NormProjRefIdeal.Formula.z; rw [eH, e2]; rfl
    obtain ⟨h0, h1, hk⟩ := h c
    rw [eZ] at h0
    rw [eH] at h1
    exact ⟨h0, h1, hk⟩

end Cert.NormProjClaims

end
-- ==== Proof.MixFwdMath.lean ====
/- The values of the mixer's forward call, row by row: the convolved half through its norm and swish, and the spatial gate times its
   partner. The arrays are given as functions of their coordinates. -/
module

public import proofs.«01_k».proof.Proof.RowsMath
public import proofs.«01_k».proof.Proof.ConvRows

@[expose] public section

noncomputable section

namespace Cert.MixFwdMath

open Idealize.ShloMosaic Cert.Gate Cert.LayerNorm Cert.RowsMath

variable (p : Args)

/-- The swish of the normalised row, as the version writes it and as the reference does. -/
def swish (i : Fin 8192) (k : Fin 512) : EReal := y p i k * sig (y p i k)

def swishRef (i : Fin 8192) (k : Fin 512) : EReal :=
  y p i k * Ideal.div 1 (1 + Ideal.exp (-y p i k))

/-- The gated row of the spatial half. -/
def gate (i : Fin 8192) (k : Fin 512) : EReal := p.u i (grp k) (lane k) * v2 p i (grp k) (lane k)

/-- Two halves side by side. -/
def beside (a b : Fin 8192 → Fin 512 → EReal) (i : Fin 8192) (k : Fin 1024) : EReal :=
  if h : k.val < 512 then a i ⟨k.val, h⟩ else b i ⟨k.val - 512, by omega⟩

theorem swishRef_eq : swishRef p = swish p :=
  funext fun i => funext fun k => by rw [swishRef, swish, sig_eq, bits_one]

/-- The taps added onto the bias one after the other. -/
def onto (f : ℕ → EReal) (b : EReal) : ℕ → EReal
  | 0 => b
  | n + 1 => onto f b n + f n

theorem onto_eq (f : ℕ → EReal) (b : EReal) : ∀ n, onto f b n = ConvRows.taps f n + b
  | 0 => (zero_add b).symm
  | n + 1 => by rw [onto, onto_eq f b n, ConvRows.taps, add_right_comm]

end Cert.MixFwdMath

end
-- ==== Proof.MixFwdBlocks.lean ====
/- What `mix_fwd`'s program hands to the kernel and the blocks a grid point reads, entry by entry over the argument arrays. -/
module

public import proofs.«01_k».proof.Proof.Gen.MixFwdIdeal.Value
public import proofs.«01_k».proof.Proof.MixFwdMath
public import proofs.«01_k».proof.Proof.RowsBlocks

@[expose] public section

set_option maxRecDepth 16384

noncomputable section

namespace Cert.MixFwdIdeal.Formula

open Cert.MixFwdIdeal Cert.MixFwdIdeal.Gen Idealize.ShloMosaic Idealize.ShloMosaic.TcCoe Idealize.SL.Sem Cert.RowsMath Cert.LayerNorm
open Idealize.ShloMosaic.StableHlo
open Cert.RowsIdeal.Formula (mask grp_col lane_col)

variable (m : (ℓ : Loc nD τ sig) → Buf (Elt Ideal) ℓ) (c : Dev nD)

abbrev Z : FVec Ideal S8192x2048 .f32 := m ((c : Thread nD τ).loc main_arg0)
abbrev CW : FVec Ideal S31x512 .f32 := m ((c : Thread nD τ).loc main_arg1)
abbrev CB : FVec Ideal S512 .f32 := m ((c : Thread nD τ).loc main_arg2)
abbrev LAG : FVec Ideal S512 .f32 := m ((c : Thread nD τ).loc main_arg3)
abbrev LAB : FVec Ideal S512 .f32 := m ((c : Thread nD τ).loc main_arg4)
abbrev LVG : FVec Ideal S4x128 .f32 := m ((c : Thread nD τ).loc main_arg5)
abbrev LVB : FVec Ideal S4x128 .f32 := m ((c : Thread nD τ).loc main_arg6)
abbrev WS : FVec Ideal S4x128x128 .f32 := m ((c : Thread nD τ).loc main_arg7)
abbrev SB : FVec Ideal S4x128 .f32 := m ((c : Thread nD τ).loc main_arg8)

def z (i : Fin 8192) (j : Fin 2048) : EReal := Z m c (ix2 i j)
def cw (j : Fin 31) (k : Fin 512) : EReal := CW m c (ix2 j k)
def cb (k : Fin 512) : EReal := CB m c (ix1 k)

/-- The arrays as the formulas take them; the cotangents play no part. -/
def args : Args where
  a := ConvRows.rows (z m c) (cw m c) (cb m c)
  u i g d := z m c i ⟨1024 + (g.val * 128 + d.val), by omega⟩
  v i g d := z m c i ⟨1536 + (g.val * 128 + d.val), by omega⟩
  lag k := LAG m c (ix1 k)
  lab k := LAB m c (ix1 k)
  lvg g d := LVG m c (ix2 g d)
  lvb g d := LVB m c (ix2 g d)
  ws g t s := if s.val ≤ t.val then WS m c (ix3 g t s) else 0
  sb g t := SB m c (ix2 g t)
  da _ _ := 0
  db _ _ _ := 0

/-- Two stretches of host lines run one after the other. -/
theorem after_append {ℓ₁ ℓ₂ : List (HloOp τ sig (Elt Ideal))} (v : Valuation τ sig (Elt Ideal)) : after (ℓ₁ ++ ℓ₂) v = after ℓ₂ (after ℓ₁ v) := by
  induction ℓ₁ generalizing v with
  | nil => rfl
  | cons o l h => exact h _

theorem V_split (b : Ref sig .tc) :
    V m c b = after hostOps0_4 (after hostOps0_3 (after hostOps0_2 (after hostOps0_1 (after hostOps0 (fun b => m (c, b)))))) b := by
  unfold V
  rw [List.flatten_cons, List.flatten_cons, List.flatten_cons, List.flatten_cons, List.flatten_cons, List.flatten_nil, after_append, after_append, after_append,
    after_append, List.append_nil]

theorem V_arg0 : V m c main_arg0 = Z m c := by
  rw [V_split]
  after_results_simp

theorem V_arg1 : V m c main_arg1 = CW m c := by
  rw [V_split]
  after_results_simp

theorem V_v8 (k : Fin 512) : (V m c main_v8 : FVec Ideal S1x512 .f32) (ix2 0 k) = cb m c k := by
  rw [V_split]
  after_results_simp
  pointwise
  rfl

theorem V_v9 (k : Fin 512) : (V m c main_v9 : FVec Ideal S1x512 .f32) (ix2 0 k) = LAG m c (ix1 k) := by
  rw [V_split]
  after_results_simp
  pointwise

theorem V_v10 (k : Fin 512) : (V m c main_v10 : FVec Ideal S1x512 .f32) (ix2 0 k) = LAB m c (ix1 k) := by
  rw [V_split]
  after_results_simp
  pointwise

theorem V_v11 (k : Fin 512) : (V m c main_v11 : FVec Ideal S1x512 .f32) (ix2 0 k) = LVG m c (ix2 (grp k) (lane k)) := by
  rw [V_split]
  after_results_simp
  pointwise
  rfl

theorem V_v12 (k : Fin 512) : (V m c main_v12 : FVec Ideal S1x512 .f32) (ix2 0 k) = LVB m c (ix2 (grp k) (lane k)) := by
  rw [V_split]
  after_results_simp
  pointwise
  rfl

theorem V_v7 (t : Fin 128) (k : Fin 512) : (V m c main_v7 : FVec Ideal S128x512 .f32) (ix2 t k) = SB m c (ix2 (grp k) t) := by
  rw [V_split]
  after_results_simp
  pointwise
  rfl

theorem V_v4 (g : Fin 4) (t s : Fin 128) : (V m c main_v4 : FVec Ideal S4x128x128 .bf16) (ix3 g t s) = (args m c).ws g t s := by
  rw [V_split]
  after_results_simp
  simp -implicitDefEqProofs only [StableHlo.TRef.toBuf, StableHlo.TRef.ofBuf, cast_cast, cast_eq]
  pointwise
  rw [mask t s]
  have e : (args m c).ws g t s = if s.val ≤ t.val then WS m c (ix3 g t s) else 0 := rfl
  rw [e]
  by_cases h : s.val ≤ t.val
  · rw [if_pos h, if_pos h]
    rfl
  · rw [if_neg h, if_neg h]
    exact Cert.Gate.bits_zero

theorem idx : ∀ t : Fin cfg0.N, win0_0.index t = ![t.val, 0] ∧ win0_1.index t = ![t.val, 1] ∧ win0_2.index t = ![t.val * 16 - 1, 0]
    ∧ win0_3.index t = ![t.val * 16 - 1, 1] ∧ win0_4.index t = ![t.val, 2] ∧ win0_5.index t = ![t.val, 3] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0, 0] ∧ win0_13.index t = ![0, 0] ∧ win0_14.index t = ![t.val, 0]
    ∧ win0_15.index t = ![t.val, 0] :=
  (by decide +kernel : ∀ t : Fin grid0.N, _)

/-- A sequence's first grid point, as the kernel tests for it. -/
theorem first : ∀ t : Fin cfg0.N, IntOp.cmpi CmpIPredicate.eq (BitVec.ofNat 32 (grid0.coords t 1).val) 0#32 = if t.val % 8 = 0 then 1#1 else 0#1 :=
  (by decide +kernel : ∀ t : Fin grid0.N, _)

theorem lt16 (t : Fin cfg0.N) : t.val < 16 := lt_of_lt_of_eq t.isLt N_0

/-- Row `r` of grid point `t`'s block. -/
def at_ (t : Fin cfg0.N) (r : Fin 512) : Fin 8192 := ⟨t.val * 512 + r.val, by have h := lt16 t; omega⟩

/-- Row `r` of the 32 rows before it. -/
def before_ (t : Fin cfg0.N) (r : Fin 32) : Fin 8192 := ⟨(t.val * 16 - 1) * 32 + r.val, by have h := lt16 t; omega⟩

theorem at_val (t : Fin cfg0.N) (r : Fin 512) : (at_ t r).val = t.val * 512 + r.val := rfl

theorem before_val (t : Fin cfg0.N) (r : Fin 32) : (before_ t r).val = (t.val * 16 - 1) * 32 + r.val := rfl

/-! The blocks a grid point reads. -/

theorem blk0 (t : Fin cfg0.N) (r k : Fin 512) : (iblk m c 0 t : Vec Ideal S512x512 .f32) (ix2 r k) = z m c (at_ t r) ⟨k.val, by omega⟩ := by
  show _ = Z m c _
  rw [← V_arg0]
  blk_ext! [iblk, idx t, at_val]

theorem blk1 (t : Fin cfg0.N) (r k : Fin 512) : (iblk m c 1 t : Vec Ideal S512x512 .f32) (ix2 r k) = z m c (at_ t r) ⟨512 + k.val, by omega⟩ := by
  show _ = Z m c _
  rw [← V_arg0]
  blk_ext! [iblk, idx t, at_val]

theorem blk2 (t : Fin cfg0.N) (r : Fin 32) (k : Fin 512) :
    (iblk m c 2 t : Vec Ideal S32x512 .f32) (ix2 r k) = z m c (before_ t r) ⟨k.val, by omega⟩ := by
  show _ = Z m c _
  rw [← V_arg0]
  blk_ext! [iblk, idx t, before_val]

theorem blk3 (t : Fin cfg0.N) (r : Fin 32) (k : Fin 512) :
    (iblk m c 3 t : Vec Ideal S32x512 .f32) (ix2 r k) = z m c (before_ t r) ⟨512 + k.val, by omega⟩ := by
  show _ = Z m c _
  rw [← V_arg0]
  blk_ext! [iblk, idx t, before_val]

theorem blk4 (t : Fin cfg0.N) (r : Fin 512) (g : Fin 4) (d : Fin 128) :
    (iblk m c 4 t : Vec Ideal S512x512 .f32) (ix2 r (col g d)) = (args m c).u (at_ t r) g d := by
  show _ = Z m c _
  rw [← V_arg0]
  blk_ext! [iblk, idx t, at_val, col]

theorem blk5 (t : Fin cfg0.N) (r : Fin 512) (g : Fin 4) (d : Fin 128) :
    (iblk m c 5 t : Vec Ideal S512x512 .f32) (ix2 r (col g d)) = (args m c).v (at_ t r) g d := by
  show _ = Z m c _
  rw [← V_arg0]
  blk_ext! [iblk, idx t, at_val, col]

theorem blk6 (t : Fin cfg0.N) (j : Fin 31) (k : Fin 512) : (iblk m c 6 t : Vec Ideal S31x512 .f32) (ix2 j k) = cw m c j k := by
  show _ = CW m c _
  rw [← V_arg1]
  blk_ext! [iblk, idx t]

theorem blk7 (t : Fin cfg0.N) (k : Fin 512) : (iblk m c 7 t : Vec Ideal S1x512 .f32) (ix2 0 k) = cb m c k := by
  refine Eq.trans ?_ (V_v8 m c k)
  blk_ext! [iblk, idx t]

theorem blk8 (t : Fin cfg0.N) (k : Fin 512) : (iblk m c 8 t : Vec Ideal S1x512 .f32) (ix2 0 k) = (args m c).lag k := by
  refine Eq.trans ?_ (V_v9 m c k)
  blk_ext! [iblk, idx t]

theorem blk9 (t : Fin cfg0.N) (k : Fin 512) : (iblk m c 9 t : Vec Ideal S1x512 .f32) (ix2 0 k) = (args m c).lab k := by
  refine Eq.trans ?_ (V_v10 m c k)
  blk_ext! [iblk, idx t]

theorem blk10 (t : Fin cfg0.N) (g : Fin 4) (d : Fin 128) : (iblk m c 10 t : Vec Ideal S1x512 .f32) (ix2 0 (col g d)) = (args m c).lvg g d := by
  have e := V_v11 m c (col g d)
  rw [grp_col, lane_col] at e
  refine Eq.trans ?_ e
  blk_ext! [iblk, idx t]

theorem blk11 (t : Fin cfg0.N) (g : Fin 4) (d : Fin 128) : (iblk m c 11 t : Vec Ideal S1x512 .f32) (ix2 0 (col g d)) = (args m c).lvb g d := by
  have e := V_v12 m c (col g d)
  rw [grp_col, lane_col] at e
  refine Eq.trans ?_ e
  blk_ext! [iblk, idx t]

theorem blk12 (t : Fin cfg0.N) (g : Fin 4) (a b : Fin 128) : (iblk m c 12 t : Vec Ideal S4x128x128 .bf16) (ix3 g a b) = (args m c).ws g a b := by
  refine Eq.trans ?_ (V_v4 m c g a b)
  blk_ext! [iblk, idx t]

theorem blk13 (t : Fin cfg0.N) (s : Fin 128) (g : Fin 4) (d : Fin 128) :
    (iblk m c 13 t : Vec Ideal S128x512 .f32) (ix2 s (col g d)) = (args m c).sb g s := by
  have e := V_v7 m c s (col g d)
  rw [grp_col] at e
  refine Eq.trans ?_ e
  blk_ext! [iblk, idx t]

/-- The mixed rows within a chunk. -/
theorem v2_at (t : Fin cfg0.N) (n : Fin 4) (a : Fin 128) (g : Fin 4) (d : Fin 128) :
    v2 (args m c) (at_ t (col n a)) g d = (∑ s : Fin 128, (args m c).ws g a s * v1 (args m c) (at_ t (col n s)) g d) + (args m c).sb g a := by
  have hp : place (at_ t (col n a)) = a := Fin.ext (by show (t.val * 512 + (n.val * 128 + a.val)) % 128 = a.val; omega)
  have hm (s : Fin 128) : mate (at_ t (col n a)) s = at_ t (col n s) :=
    Fin.ext (by show (t.val * 512 + (n.val * 128 + a.val)) / 128 * 128 + s.val = t.val * 512 + (n.val * 128 + s.val); omega)
  simp only [v2, hp, hm]

end Cert.MixFwdIdeal.Formula

end
-- ==== Proof.MixFwdConv.lean ====
/- The convolved rows as `mix_fwd`'s kernel computes them: eight copies of the gated rows, each moved up by one row more, and thirty-one
   products of a copy's rows and a row of the weights. -/
module

public import proofs.«01_k».proof.Proof.MixFwdBlocks

@[expose] public section

set_option maxRecDepth 16384

noncomputable section

namespace Cert.MixFwdIdeal.Formula

open Cert.MixFwdIdeal Cert.MixFwdIdeal.Gen Idealize.ShloMosaic Idealize.ShloMosaic.TcCoe Idealize.SL.Sem Cert.RowsMath Cert.LayerNorm
open Idealize.ShloMosaic.StableHlo Cert.Pieces Cert.MixFwdMath

variable (m : (ℓ : Loc nD τ sig) → Buf (Elt Ideal) ℓ) (c : Dev nD)

/-- Row `p` of the gated rows a grid point lays out: thirty-two rows of what came before, then its own. -/
def A0 (t : Fin cfg0.N) (p : ℕ) (k : Fin 512) : EReal :=
  ConvRows.padded (z m c) ⟨t.val / 8, by have h := lt16 t; omega⟩ (t.val % 8 * 512 + p - 2) k

/-- The convolved row as the kernel sums it. -/
theorem row_eq (t : Fin cfg0.N) (b : ℕ) (i : Fin 32) (hb : b + i.val < 512) (k : Fin 512) :
    (args m c).a (at_ t ⟨b + i.val, hb⟩) k = onto (fun j => cw m c (Fin.ofNat 31 j) k * A0 m c t (b + 2 + j + i.val) k) (cb m c k) 31 := by
  show ConvRows.rows (z m c) (cw m c) (cb m c) _ k = _
  rw [onto_eq, ConvRows.rows, ConvRows.conv]
  refine congrArg (fun f => ConvRows.taps f 31 + cb m c k) (funext fun j => ?_)
  show ConvRows.padded (z m c) _ _ k * _ = _ * ConvRows.padded (z m c) _ _ k
  rw [mul_comm]
  have e : (⟨(at_ t ⟨b + i.val, hb⟩).val / 4096, by omega⟩ : Fin 2) = ⟨t.val / 8, by have h := lt16 t; omega⟩ :=
    Fin.ext (by show (t.val * 512 + (b + i.val)) / 4096 = t.val / 8; omega)
  refine congrArg (cw m c (Fin.ofNat 31 j) k * ·) ?_
  refine (congrArg (fun s => ConvRows.padded (z m c) s _ k) e).trans (congrArg (fun p => ConvRows.padded (z m c) _ p k) ?_)
  show j + (t.val * 512 + (b + i.val)) % 4096 = _
  omega

theorem glu_eq (i : Fin 8192) (k : Fin 512) :
    ConvRows.glu (z m c) i k = z m c i ⟨k.val, by omega⟩ * Gate.sig (z m c i ⟨512 + k.val, by omega⟩) := by
  rw [Gate.sig_eq, Gate.bits_one, ConvRows.glu]

/-- The grid point's own rows. -/
theorem own (t : Fin cfg0.N) (p k : Fin 512) : k0_pay3 (iblk m c 0 t) (iblk m c 1 t) (ix3 0 p k) = A0 m c t (32 + p.val) k := by
  have h := lt16 t
  rw [A0, ConvRows.padded_of _ (by omega), dif_neg (by omega), glu_eq]
  have e : (⟨t.val / 8 * 4096 + (t.val % 8 * 512 + (32 + p.val) - 2 - 30), by omega⟩ : Fin 8192) = at_ t p :=
    Fin.ext (by show t.val / 8 * 4096 + (t.val % 8 * 512 + (32 + p.val) - 2 - 30) = t.val * 512 + p.val; omega)
  rw [e]
  open_payloads
  pointwise
  simp only [blk0, blk1]
  rfl

/-- The rows before them. -/
theorem prior (t : Fin cfg0.N) (p : Fin 32) (k : Fin 512) :
    k0_pay2 (grid0.coords t) (iblk m c 2 t) (iblk m c 3 t) (ix3 0 p k) = A0 m c t p.val k := by
  have h := lt16 t
  have e2 : k0_pay2 (grid0.coords t) (iblk m c 2 t) (iblk m c 3 t) (ix3 0 p k)
      = Scalar.select (IntOp.cmpi CmpIPredicate.eq (BitVec.ofNat 32 (grid0.coords t 1).val) 0#32) (Ideal.ofBits .f32 0x00000000#32)
        (z m c (before_ t p) ⟨k.val, by omega⟩ * Gate.sig (z m c (before_ t p) ⟨512 + k.val, by omega⟩)) := by
    open_payloads
    pointwise
    simp only [blk2, blk3]
    rfl
  rw [e2, first, A0, ConvRows.padded_of _ (by omega)]
  by_cases h0 : t.val % 8 = 0
  · rw [if_pos h0, dif_pos (by omega)]
    exact Gate.bits_zero
  · rw [if_neg h0, dif_neg (by omega), glu_eq]
    have e : (⟨t.val / 8 * 4096 + (t.val % 8 * 512 + p.val - 2 - 30), by omega⟩ : Fin 8192) = before_ t p :=
      Fin.ext (by show t.val / 8 * 4096 + (t.val % 8 * 512 + p.val - 2 - 30) = (t.val * 16 - 1) * 32 + p.val; omega)
    rw [e]
    rfl

/-- `n` rows from row `p` on. -/
def RD (t : Fin cfg0.N) (n p : ℕ) : Vec Ideal ⟨3, ![1, n, 512]⟩ .f32 := fun y => A0 m c t (p + (y 1).val) (y 2)

theorem RD_at (t : Fin cfg0.N) (n p : ℕ) (a : Fin 1) (i : Fin n) (k : Fin 512) : RD m c t n p (ix3 a i k) = A0 m c t (p + i.val) k := rfl

theorem cast_cast_ (x : FVec Ideal S1x536x512 .f32) (h h') : shapeCast S1x536x512 (shapeCast S536x512 x h) h' = x := by
  funext y
  idx_vars y
  pointwise

abbrev own_ (t : Fin cfg0.N) : View.Piece (Elt Ideal) S8x544x512 .f32 :=
  ⟨Rect.unit ![0, 32, 0] ![1, 512, 512] inb_S8x544x512_S1x512x512_0_32_0, k0_pay3 (iblk m c 0 t) (iblk m c 1 t)⟩
abbrev prior_ (t : Fin cfg0.N) : View.Piece (Elt Ideal) S8x544x512 .f32 :=
  ⟨Rect.unit ![0, 0, 0] ![1, 32, 512] inb_S8x544x512_S1x32x512_0_0_0, k0_pay2 (grid0.coords t) (iblk m c 2 t) (iblk m c 3 t)⟩

/-- The eight copies: row `q` of copy `s` is row `s + q`. -/
def G (t : Fin cfg0.N) : S8x544x512.Idx → Elt Ideal .f32 := fun y => A0 m c t ((y 0).val + (y 1).val) (y 2)

theorem own_G (t : Fin cfg0.N) : ∀ y, (own_ m c t).2 y = G m c t ((own_ m c t).1.emb y) := by
  intro y
  idx_vars y
  obtain rfl : y0 = 0 := by omega
  refine (own m c t y1 y2).trans ?_
  show A0 m c t _ _ = A0 m c t _ _
  congr 1
  · show 32 + y1.val = (0 + 1 * 0) + (32 + 1 * y1.val)
    omega
  · exact Fin.ext (by show y2.val = 0 + 1 * y2.val; omega)

theorem prior_G (t : Fin cfg0.N) : ∀ y, (prior_ m c t).2 y = G m c t ((prior_ m c t).1.emb y) := by
  intro y
  idx_vars y
  obtain rfl : y0 = 0 := by omega
  refine (prior m c t y1 y2).trans ?_
  show A0 m c t _ _ = A0 m c t _ _
  congr 1
  · show y1.val = (0 + 1 * 0) + (0 + 1 * y1.val)
    omega
  · exact Fin.ext (by show y2.val = 0 + 1 * y2.val; omega)

abbrev copy_ (t : Fin cfg0.N) (s : ℕ) (inb : ∀ a, (![s, 0, 0] : Fin 3 → ℕ) a + (![1, 536, 512] : Fin 3 → ℕ) a ≤ S8x544x512.size a) : View.Piece (Elt Ideal) S8x544x512 .f32 :=
  ⟨Rect.unit ![s, 0, 0] ![1, 536, 512] inb, RD m c t 536 s⟩

theorem copy_G (t : Fin cfg0.N) (s : ℕ) (inb) : ∀ y, (copy_ m c t s inb).2 y = G m c t ((copy_ m c t s inb).1.emb y) := by
  intro y
  idx_vars y
  obtain rfl : y0 = 0 := by omega
  show A0 m c t _ _ = A0 m c t _ _
  congr 1
  · show s + y1.val = (s + 1 * 0) + (0 + 1 * y1.val)
    omega
  · exact Fin.ext (by show y2.val = 0 + 1 * y2.val; omega)

/-- A load from the copies. -/
theorem load_G (t : Fin cfg0.N) (L : List (View.Piece (Elt Ideal) S8x544x512 .f32)) (s q n : ℕ)
    (inb : ∀ a, (![s, q, 0] : Fin 3 → ℕ) a + (![1, n, 512] : Fin 3 → ℕ) a ≤ S8x544x512.size a) (hL : View.PiecesOf (G m c t) L)
    (hc : ∀ (a : Fin 8) (b : Fin 544) (d : Fin 512), a.val = s → q ≤ b.val → b.val < q + n → ∃ P ∈ L, ix3 a b d ∈ P.1.set) :
    (View.whole cc0_scratch0).readCov L (Rect.unit (s := S8x544x512) ![s, q, 0] ![1, n, 512] inb).toLoadRect = RD m c t n (s + q) := by
  funext y
  rw [View.readCov_eq_canon']
  have i0 : s + 1 ≤ 8 := inb 0
  have i1 : q + n ≤ 544 := inb 1
  have h0 : (y 0).val < 1 := (y 0).isLt
  have h1 : (y 1).val < n := (y 1).isLt
  have h2 : (y 2).val < 512 := (y 2).isLt
  have e : (Rect.unit (s := S8x544x512) ![s, q, 0] ![1, n, 512] inb).toLoadRect.idx y
      = ix3 (⟨s, by omega⟩ : Fin 8) (⟨q + (y 1).val, by omega⟩ : Fin 544) (⟨(y 2).val, h2⟩ : Fin 512) := by
    funext a
    refine Fin.ext ?_
    fin_cases a
    · show s + 1 * (y 0).val = s
      omega
    · show q + 1 * (y 1).val = q + (y 1).val
      omega
    · show 0 + 1 * (y 2).val = (y 2).val
      omega
  show View.canon L ((Rect.unit (s := S8x544x512) ![s, q, 0] ![1, n, 512] inb).toLoadRect.idx y) = _
  rw [e]
  have hg := View.canon_append_of_piecesOf (G m c t) [] L hL (ix3 (⟨s, by omega⟩ : Fin 8) (⟨q + (y 1).val, by omega⟩ : Fin 544) (⟨(y 2).val, h2⟩ : Fin 512))
    (hc _ _ _ rfl (Nat.le_add_right _ _) (Nat.add_lt_add_left h1 q))
  rw [List.append_nil] at hg
  refine hg.trans ?_
  show A0 m c t (s + (q + (y 1).val)) _ = A0 m c t (s + q + (y 1).val) _
  rw [Nat.add_assoc]
  rfl

theorem mem_ {s q n : ℕ} (inb : ∀ a, (![s, q, 0] : Fin 3 → ℕ) a + (![1, n, 512] : Fin 3 → ℕ) a ≤ S8x544x512.size a) (a : Fin 8) (b : Fin 544)
    (d : Fin 512) (ha : a.val = s) (h1 : q ≤ b.val) (h2 : b.val < q + n) : (ix3 a b d : S8x544x512.Idx) ∈ (Rect.unit ![s, q, 0] ![1, n, 512] inb).set := by
  rw [Rect.mem_set_unit]
  intro x
  fin_cases x
  · show s ≤ a.val ∧ a.val < s + 1
    omega
  · exact ⟨h1, h2⟩
  · show 0 ≤ d.val ∧ d.val < 0 + 512
    omega

/-- The grid point's rows as they are laid out first. -/
abbrev base_ (t : Fin cfg0.N) : List (View.Piece (Elt Ideal) S8x544x512 .f32) := [own_ m c t, prior_ m c t]

theorem base_G (t : Fin cfg0.N) : View.PiecesOf (G m c t) (base_ m c t) := ⟨own_G m c t, prior_G m c t, trivial⟩

theorem base_mem (t : Fin cfg0.N) (a : Fin 8) (b : Fin 544) (d : Fin 512) (ha : a.val = 0) : ∃ P ∈ base_ m c t, ix3 a b d ∈ P.1.set := by
  by_cases h : b.val < 32
  · exact ⟨_, .tail _ (.head _), mem_ inb_S8x544x512_S1x32x512_0_0_0 a b d ha (Nat.zero_le _) (by omega)⟩
  · exact ⟨_, .head _, mem_ inb_S8x544x512_S1x512x512_0_32_0 a b d ha (by omega) (by omega)⟩

/-- A moved copy laid out on top of others. -/
theorem more_G (t : Fin cfg0.N) (s : ℕ) (inb) {L : List (View.Piece (Elt Ideal) S8x544x512 .f32)} (h : View.PiecesOf (G m c t) L) :
    View.PiecesOf (G m c t) (copy_ m c t s inb :: L) := ⟨copy_G m c t s inb, h⟩

theorem more_mem (P : View.Piece (Elt Ideal) S8x544x512 .f32) {L : List (View.Piece (Elt Ideal) S8x544x512 .f32)} {i : S8x544x512.Idx}
    (h : ∃ P ∈ L, i ∈ P.1.set) : ∃ Q ∈ P :: L, i ∈ Q.1.set := by
  obtain ⟨Q, hQ, hi⟩ := h
  exact ⟨Q, .tail _ hQ, hi⟩

abbrev L1 (t : Fin cfg0.N) := copy_ m c t 1 inb_S8x544x512_S1x536x512_1_0_0 :: base_ m c t
abbrev L2 (t : Fin cfg0.N) := copy_ m c t 2 inb_S8x544x512_S1x536x512_2_0_0 :: L1 m c t
abbrev L3 (t : Fin cfg0.N) := copy_ m c t 3 inb_S8x544x512_S1x536x512_3_0_0 :: L2 m c t
abbrev L4 (t : Fin cfg0.N) := copy_ m c t 4 inb_S8x544x512_S1x536x512_4_0_0 :: L3 m c t
abbrev L5 (t : Fin cfg0.N) := copy_ m c t 5 inb_S8x544x512_S1x536x512_5_0_0 :: L4 m c t
abbrev L6 (t : Fin cfg0.N) := copy_ m c t 6 inb_S8x544x512_S1x536x512_6_0_0 :: L5 m c t
abbrev L7 (t : Fin cfg0.N) := copy_ m c t 7 inb_S8x544x512_S1x536x512_7_0_0 :: L6 m c t

theorem L1_G (t : Fin cfg0.N) : View.PiecesOf (G m c t) (L1 m c t) := more_G m c t 1 _ (base_G m c t)
theorem L2_G (t : Fin cfg0.N) : View.PiecesOf (G m c t) (L2 m c t) := more_G m c t 2 _ (L1_G m c t)
theorem L3_G (t : Fin cfg0.N) : View.PiecesOf (G m c t) (L3 m c t) := more_G m c t 3 _ (L2_G m c t)
theorem L4_G (t : Fin cfg0.N) : View.PiecesOf (G m c t) (L4 m c t) := more_G m c t 4 _ (L3_G m c t)
theorem L5_G (t : Fin cfg0.N) : View.PiecesOf (G m c t) (L5 m c t) := more_G m c t 5 _ (L4_G m c t)
theorem L6_G (t : Fin cfg0.N) : View.PiecesOf (G m c t) (L6 m c t) := more_G m c t 6 _ (L5_G m c t)
theorem L7_G (t : Fin cfg0.N) : View.PiecesOf (G m c t) (L7 m c t) := more_G m c t 7 _ (L6_G m c t)

/-! The loads that make the copies, and those of the taps. -/

theorem ld1 (t : Fin cfg0.N) (inb) : (View.whole cc0_scratch0).readCov (base_ m c t)
    (Rect.unit (s := S8x544x512) ![0, 1, 0] ![1, 536, 512] inb).toLoadRect = RD m c t 536 1 :=
  load_G m c t _ 0 1 536 inb (base_G m c t) fun a b d ha _ _ => base_mem m c t a b d ha

theorem ld2 (t : Fin cfg0.N) (inb) : (View.whole cc0_scratch0).readCov (L1 m c t)
    (Rect.unit (s := S8x544x512) ![0, 2, 0] ![1, 536, 512] inb).toLoadRect = RD m c t 536 2 :=
  load_G m c t _ 0 2 536 inb (L1_G m c t) fun a b d ha _ _ => more_mem _ (base_mem m c t a b d ha)

theorem ld3 (t : Fin cfg0.N) (inb) : (View.whole cc0_scratch0).readCov (L2 m c t)
    (Rect.unit (s := S8x544x512) ![0, 3, 0] ![1, 536, 512] inb).toLoadRect = RD m c t 536 3 :=
  load_G m c t _ 0 3 536 inb (L2_G m c t) fun a b d ha _ _ => more_mem _ (more_mem _ (base_mem m c t a b d ha))

theorem ld4 (t : Fin cfg0.N) (inb) : (View.whole cc0_scratch0).readCov (L3 m c t)
    (Rect.unit (s := S8x544x512) ![0, 4, 0] ![1, 536, 512] inb).toLoadRect = RD m c t 536 4 :=
  load_G m c t _ 0 4 536 inb (L3_G m c t) fun a b d ha _ _ => more_mem _ (more_mem _ (more_mem _ (base_mem m c t a b d ha)))

theorem ld5 (t : Fin cfg0.N) (inb) : (View.whole cc0_scratch0).readCov (L4 m c t)
    (Rect.unit (s := S8x544x512) ![0, 5, 0] ![1, 536, 512] inb).toLoadRect = RD m c t 536 5 :=
  load_G m c t _ 0 5 536 inb (L4_G m c t) fun a b d ha _ _ => more_mem _ (more_mem _ (more_mem _ (more_mem _ (base_mem m c t a b d ha))))

theorem ld6 (t : Fin cfg0.N) (inb) : (View.whole cc0_scratch0).readCov (L5 m c t)
    (Rect.unit (s := S8x544x512) ![0, 6, 0] ![1, 536, 512] inb).toLoadRect = RD m c t 536 6 :=
  load_G m c t _ 0 6 536 inb (L5_G m c t) fun a b d ha _ _ =>
    more_mem _ (more_mem _ (more_mem _ (more_mem _ (more_mem _ (base_mem m c t a b d ha)))))

theorem base_mem6 (t : Fin cfg0.N) (a : Fin 8) (b : Fin 544) (d : Fin 512) (ha : a.val = 0) : ∃ P ∈ L6 m c t, ix3 a b d ∈ P.1.set :=
  more_mem _ (more_mem _ (more_mem _ (more_mem _ (more_mem _ (more_mem _ (base_mem m c t a b d ha))))))

theorem ld7 (t : Fin cfg0.N) (inb) : (View.whole cc0_scratch0).readCov (L6 m c t)
    (Rect.unit (s := S8x544x512) ![0, 7, 0] ![1, 536, 512] inb).toLoadRect = RD m c t 536 7 :=
  load_G m c t _ 0 7 536 inb (L6_G m c t) fun a b d ha _ _ => base_mem6 m c t a b d ha

/-- A tap's rows, from the copy that holds them at a multiple of eight. -/
theorem ldT (t : Fin cfg0.N) (s q : ℕ) (inb) (hq : q ≤ 504 ∨ s = 0) : (View.whole cc0_scratch0).readCov (L7 m c t)
    (Rect.unit (s := S8x544x512) ![s, q, 0] ![1, 32, 512] inb).toLoadRect = RD m c t 32 (s + q) := by
  refine load_G m c t _ s q 32 inb (L7_G m c t) fun a b d ha h1 h2 => ?_
  obtain h | h | h | h | h | h | h | h : a.val = 0 ∨ a.val = 1 ∨ a.val = 2 ∨ a.val = 3 ∨ a.val = 4 ∨ a.val = 5 ∨ a.val = 6 ∨ a.val = 7 := by omega
  · exact more_mem _ (base_mem6 m c t a b d h)
  · exact ⟨copy_ m c t 1 inb_S8x544x512_S1x536x512_1_0_0, .tail _ (.tail _ (.tail _ (.tail _ (.tail _ (.tail _ (.head _)))))), mem_ inb_S8x544x512_S1x536x512_1_0_0 a b d h (Nat.zero_le _) (by omega)⟩
  · exact ⟨copy_ m c t 2 inb_S8x544x512_S1x536x512_2_0_0, .tail _ (.tail _ (.tail _ (.tail _ (.tail _ (.head _))))), mem_ inb_S8x544x512_S1x536x512_2_0_0 a b d h (Nat.zero_le _) (by omega)⟩
  · exact ⟨copy_ m c t 3 inb_S8x544x512_S1x536x512_3_0_0, .tail _ (.tail _ (.tail _ (.tail _ (.head _)))), mem_ inb_S8x544x512_S1x536x512_3_0_0 a b d h (Nat.zero_le _) (by omega)⟩
  · exact ⟨copy_ m c t 4 inb_S8x544x512_S1x536x512_4_0_0, .tail _ (.tail _ (.tail _ (.head _))), mem_ inb_S8x544x512_S1x536x512_4_0_0 a b d h (Nat.zero_le _) (by omega)⟩
  · exact ⟨copy_ m c t 5 inb_S8x544x512_S1x536x512_5_0_0, .tail _ (.tail _ (.head _)), mem_ inb_S8x544x512_S1x536x512_5_0_0 a b d h (Nat.zero_le _) (by omega)⟩
  · exact ⟨copy_ m c t 6 inb_S8x544x512_S1x536x512_6_0_0, .tail _ (.head _), mem_ inb_S8x544x512_S1x536x512_6_0_0 a b d h (Nat.zero_le _) (by omega)⟩
  · exact ⟨copy_ m c t 7 inb_S8x544x512_S1x536x512_7_0_0, .head _, mem_ inb_S8x544x512_S1x536x512_7_0_0 a b d h (Nat.zero_le _) (by omega)⟩

/-- A grid point's run. -/
abbrev run_ (t : Fin cfg0.N) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

def G1 (t : Fin cfg0.N) : S512x512.Idx → Elt Ideal .f32 := fun y => (args m c).a (at_ t (y 0)) (y 1)

theorem G1_emb (t : Fin cfg0.N) (b : ℕ) (inb : ∀ a, (![b, 0] : Fin 2 → ℕ) a + (![32, 512] : Fin 2 → ℕ) a ≤ S512x512.size a) (i : Fin 32) (k : Fin 512) :
    G1 m c t ((Rect.unit (s := S512x512) ![b, 0] ![32, 512] inb).emb (ix2 i k))
      = onto (fun j => cw m c (Fin.ofNat 31 j) k * A0 m c t (b + 2 + j + i.val) k) (cb m c k) 31 := by
  have i0 : b + 32 ≤ 512 := inb 0
  rw [← row_eq m c t b i (by omega) k]
  show (args m c).a (at_ t _) _ = _
  congr 1
  · refine congrArg (at_ t) (Fin.ext ?_)
    show b + 1 * i.val = b + i.val
    omega
  · refine Fin.ext ?_
    show 0 + 1 * k.val = k.val
    omega

theorem a1_pieces (t : Fin cfg0.N) : View.PiecesOf (G1 m c t) (run_ m c t).2.1 := by
  unfold run_
  frame_open
  frame_out
  try simp only [read_unread_whole]
  simp (disch := decide) only [k0_pay4, k0_pay5, k0_pay6, k0_pay7, k0_pay8, k0_pay9, k0_pay10, k0_pay11, k0_pay12, cast_cast_, ld1, ld2, ld3, ld4, ld5, ld6, ld7, ldT]
  refine ⟨?_, ?_, ?_, ?_, ?_, ?_, ?_, ?_, ?_, ?_, ?_, ?_, ?_, ?_, ?_, ?_, trivial⟩
  all_goals
    intro y
    obtain ⟨i, k, rfl⟩ : ∃ (i : Fin 32) (k : Fin 512), y = ix2 i k := ⟨y 0, y 1, by idx_vars y⟩
    refine Eq.trans ?_ (G1_emb m c t _ (by decide) i k).symm
    open_payloads
    pointwise
    simp only [blk6, blk7, RD_at, onto, Nat.reduceAdd]
    rfl

/-- The convolved rows, written in sixteen pieces. -/
theorem a1_canon (t : Fin cfg0.N) : View.canon (run_ m c t).2.1 = G1 m c t := by
  funext y
  have h := View.canon_append_of_piecesOf (G1 m c t) [] _ (a1_pieces m c t) y (cover0_A_15 c _ _ _ _ _ _ _ _ _ _ _ _ _ _ _ _ _ _ _ _ _ _ _ _ _ _ _ _ _ _ _ _ _ _ _ _ _ _ _ _ _ _ _ _ _ _ _ _ _ _)
  rwa [List.append_nil] at h

end Cert.MixFwdIdeal.Formula

end
-- ==== Proof.MixFwdKernel.lean ====
/- The two results of `mix_fwd`'s program, as formulas over the argument arrays. -/
module

public import proofs.«01_k».proof.Proof.MixFwdConv

@[expose] public section

set_option maxRecDepth 16384

noncomputable section

namespace Cert.MixFwdIdeal.Formula

open Cert.MixFwdIdeal Cert.MixFwdIdeal.Gen Idealize.ShloMosaic Idealize.ShloMosaic.TcCoe Idealize.SL.Sem Cert.RowsMath Cert.LayerNorm
open Idealize.ShloMosaic.StableHlo Cert.Pieces Cert.MixFwdMath
open Cert.RowsIdeal.Formula (col0 col1 col2 col3 grp_col lane_col)

variable (m : (ℓ : Loc nD τ sig) → Buf (Elt Ideal) ℓ) (c : Dev nD)

theorem G1_at (t : Fin cfg0.N) (r k : Fin 512) : G1 m c t (ix2 r k) = (args m c).a (at_ t r) k := rfl

/-- The convolved rows as the kernel loads them back. -/
theorem a1_load (t : Fin cfg0.N) {sp : Space} (v : View sig .tc sp S512x512 .f32) (L : List (View.Piece (Elt Ideal) S512x512 .f32))
    (hL : L = (run_ m c t).2.1) (inb) : v.readCov L (Rect.unit (s := S512x512) ![0, 0] ![512, 512] inb).toLoadRect = G1 m c t := by
  funext y
  obtain ⟨r, k, rfl⟩ : ∃ (r k : Fin 512), y = ix2 r k := ⟨y 0, y 1, by idx_vars y⟩
  refine (load_whole v inb L r k).trans ?_
  rw [hL, a1_canon]

/-- The two halves over a grid point's block. -/
def G0 (t : Fin cfg0.N) : S512x1024.Idx → Elt Ideal .bf16 := fun y => beside (swish (args m c)) (gate (args m c)) (at_ t (y 0)) (y 1)

theorem G0_left (t : Fin cfg0.N) (inb) (r k : Fin 512) :
    G0 m c t ((Rect.unit (s := S512x1024) ![0, 0] ![512, 512] inb).emb (ix2 r k)) = swish (args m c) (at_ t r) k := by
  show beside _ _ (at_ t ⟨0 + 1 * r.val, _⟩) ⟨0 + 1 * k.val, _⟩ = _
  have h : 0 + 1 * k.val < 512 := by omega
  refine (dif_pos h).trans ?_
  congr 1
  · exact congrArg (at_ t) (Fin.ext (by show 0 + 1 * r.val = r.val; omega))
  · exact Fin.ext (by show 0 + 1 * k.val = k.val; omega)

theorem G0_right (t : Fin cfg0.N) (n g : Fin 4) (b o : ℕ) (hb : b = n.val * 128) (ho : o = 512 + g.val * 128) (inb) (a d : Fin 128) :
    G0 m c t ((Rect.unit (s := S512x1024) ![b, o] ![128, 128] inb).emb (ix2 a d))
      = (args m c).u (at_ t (col n a)) g d * ((∑ s : Fin 128, (args m c).ws g a s * v1 (args m c) (at_ t (col n s)) g d) + (args m c).sb g a) := by
  subst hb ho
  rw [← v2_at]
  show beside _ _ (at_ t ⟨n.val * 128 + 1 * a.val, _⟩) ⟨512 + g.val * 128 + 1 * d.val, _⟩ = _
  have h : ¬ 512 + g.val * 128 + 1 * d.val < 512 := by omega
  refine (dif_neg h).trans ?_
  have e : (⟨512 + g.val * 128 + 1 * d.val - 512, by omega⟩ : Fin 512) = col g d :=
    Fin.ext (by show 512 + g.val * 128 + 1 * d.val - 512 = g.val * 128 + d.val; omega)
  have e' : (⟨n.val * 128 + 1 * a.val, by omega⟩ : Fin 512) = col n a := Fin.ext (by show n.val * 128 + 1 * a.val = n.val * 128 + a.val; omega)
  show gate (args m c) (at_ t ⟨n.val * 128 + 1 * a.val, _⟩) ⟨512 + g.val * 128 + 1 * d.val - 512, _⟩ = _
  rw [e, e', gate, grp_col, lane_col]

theorem G0_at (t : Fin cfg0.N) (b o : ℕ) (hn : b / 128 < 4) (hg : (o - 512) / 128 < 4) (hb : b = b / 128 * 128) (ho : o = 512 + (o - 512) / 128 * 128)
    (inb : ∀ a, (![b, o] : Fin 2 → ℕ) a + (![128, 128] : Fin 2 → ℕ) a ≤ S512x1024.size a) (a d : Fin 128) :
    G0 m c t ((Rect.unit (s := S512x1024) ![b, o] ![128, 128] inb).emb (ix2 a d))
      = (args m c).u (at_ t (col ⟨b / 128, hn⟩ a)) ⟨(o - 512) / 128, hg⟩ d
        * ((∑ s : Fin 128, (args m c).ws ⟨(o - 512) / 128, hg⟩ a s * v1 (args m c) (at_ t (col ⟨b / 128, hn⟩ s)) ⟨(o - 512) / 128, hg⟩ d)
          + (args m c).sb ⟨(o - 512) / 128, hg⟩ a) :=
  G0_right m c t ⟨b / 128, hn⟩ ⟨(o - 512) / 128, hg⟩ b o hb ho inb a d

theorem cat_pieces (t : Fin cfg0.N) : View.PiecesOf (G0 m c t) (run_ m c t).1 := by
  unfold run_
  frame_open
  rw [a1_load m c t _ _ ?h]
  case h => rfl
  frame_out
  try simp only [read_unread_whole]
  refine ⟨?_, ?_, ?_, ?_, ?_, ?_, ?_, ?_, ?_, ?_, ?_, ?_, ?_, ?_, ?_, ?_, ?_, trivial⟩
  rotate_left 16
  · intro y
    obtain ⟨r, k, rfl⟩ : ∃ (r k : Fin 512), y = ix2 r k := ⟨y 0, y 1, by idx_vars y⟩
    refine Eq.trans ?_ (G0_left m c t (by decide) r k).symm
    open_payloads
    pointwise
    simp only [G1_at, blk8, blk9]
    rfl
  all_goals
    intro y
    obtain ⟨a, d, rfl⟩ : ∃ (a d : Fin 128), y = ix2 a d := ⟨y 0, y 1, by idx_vars y⟩
    refine Eq.trans ?_ (G0_at m c t _ _ (by decide) (by decide) (by decide) (by decide) (by decide) a d).symm
    open_payloads
    pointwise
    simp only [col0, col1, col2, col3, blk4, blk5, blk10, blk11, blk12, blk13]
    rfl

/-- The grid point's block of the two halves, written in seventeen pieces. -/
theorem cat_canon (t : Fin cfg0.N) : View.canon (run_ m c t).1 = G0 m c t := by
  funext y
  have h := View.canon_append_of_piecesOf (G0 m c t) [] _ (cat_pieces m c t) y (cover0_A_14 c _ _ _ _ _ _ _ _ _ _ _ _ _ _ _ _ _ _ _ _ _ _ _ _ _ _ _ _ _ _ _ _ _ _ _ _ _ _ _ _ _ _ _ _ _ _ _ _ _ _)
  rwa [List.append_nil] at h

theorem out14 (t : Fin cfg0.N) : (outsAt0 m c t).1 = G0 m c t := by
  rw [outsAt0]
  dsimp only
  rw [out0_A_14, View.read_writes_junk_eq_canon]
  exact cat_canon m c t

theorem out15 (t : Fin cfg0.N) : (outsAt0 m c t).2 = G1 m c t := by
  rw [outsAt0]
  dsimp only
  rw [out0_A_15, View.read_writes_junk_eq_canon]
  exact a1_canon m c t

/-- The two results as the pipeline leaves them. -/
theorem final14 : (dats m 0 c).arrAt 14 cfg0.N = (fun p => beside (swish (args m c)) (gate (args m c)) (p 0) (p 1) : FVec Ideal S8192x1024 .bf16) := by
  refine (dats m 0 c).arrAt_eq_of_covers 14 _ (by decide +kernel) fun t hf y => ?_
  blk_simp
  have e : ((View.whole main_v13_0).slice (win0_14.rect t)).emb y = ix2 (at_ t (y 0)) (y 1) := by
    blk_ext [idx t]
    rfl
  rw [after0_14, out14, e]
  rfl

theorem final15 : (dats m 0 c).arrAt 15 cfg0.N = (fun p => (args m c).a (p 0) (p 1) : FVec Ideal S8192x512 .f32) := by
  refine (dats m 0 c).arrAt_eq_of_covers 15 _ (by decide +kernel) fun t hf y => ?_
  blk_simp
  have e : ((View.whole main_v13_1).slice (win0_15.rect t)).emb y = ix2 (at_ t (y 0)) (y 1) := by
    blk_ext [idx t]
    rfl
  rw [after0_15, out15, e]
  rfl

end Cert.MixFwdIdeal.Formula

end
-- ==== Proof.MixFwdRef.lean ====
/- The two results of the reference of `mix_fwd`, as formulas over the argument arrays. -/
module

public import proofs.«01_k».proof.Proof.Gen.MixFwdRefIdeal.Run
public import proofs.«01_k».proof.Proof.MixFwdMath
public import Idealize.ShloMosaic.Lib.Tactic.CleanTypes

@[expose] public section

set_option maxRecDepth 16384

noncomputable section

namespace Cert.MixFwdRefIdeal.Formula

open Cert.MixFwdRefIdeal Cert.MixFwdRefIdeal.Gen Idealize.ShloMosaic Idealize.ShloMosaic.TcCoe Idealize.SL.Sem Cert.RowsMath Cert.LayerNorm Cert.MixFwdMath
open Idealize.ShloMosaic.StableHlo

variable (m : (ℓ : Loc nD τ sig) → Buf (Elt Ideal) ℓ) (c : Dev nD)

abbrev Z : FVec Ideal S8192x2048 .f32 := m ((c.tc : Thread nD τ).loc main_arg0)
abbrev CW : FVec Ideal S31x512 .f32 := m ((c.tc : Thread nD τ).loc main_arg1)
abbrev CB : FVec Ideal S512 .f32 := m ((c.tc : Thread nD τ).loc main_arg2)
abbrev LAG : FVec Ideal S512 .f32 := m ((c.tc : Thread nD τ).loc main_arg3)
abbrev LAB : FVec Ideal S512 .f32 := m ((c.tc : Thread nD τ).loc main_arg4)
abbrev LVG : FVec Ideal S4x128 .f32 := m ((c.tc : Thread nD τ).loc main_arg5)
abbrev LVB : FVec Ideal S4x128 .f32 := m ((c.tc : Thread nD τ).loc main_arg6)
abbrev WS : FVec Ideal S4x128x128 .f32 := m ((c.tc : Thread nD τ).loc main_arg7)
abbrev SB : FVec Ideal S4x128 .f32 := m ((c.tc : Thread nD τ).loc main_arg8)

def z (i : Fin 8192) (j : Fin 2048) : EReal := Z m c (ix2 i j)
def cw (j : Fin 31) (k : Fin 512) : EReal := CW m c (ix2 j k)
def cb (k : Fin 512) : EReal := CB m c (ix1 k)

/-- The arrays as the formulas take them; the cotangents play no part. -/
def args : Args where
  a := ConvRows.rows (z m c) (cw m c) (cb m c)
  u i g d := z m c i ⟨1024 + (g.val * 128 + d.val), by omega⟩
  v i g d := z m c i ⟨1536 + (g.val * 128 + d.val), by omega⟩
  lag k := LAG m c (ix1 k)
  lab k := LAB m c (ix1 k)
  lvg g d := LVG m c (ix2 g d)
  lvb g d := LVB m c (ix2 g d)
  ws g t s := if s.val ≤ t.val then WS m c (ix3 g t s) else 0
  sb g t := SB m c (ix2 g t)
  da _ _ := 0
  db _ _ _ := 0

theorem r11 (s : Fin 2) (p : Fin 4126) (k : Fin 512) :
    (Value.res_main_v11 (launchContents m c) : FVec Ideal S2x4126x512 .f32) (ix3 s p k) = ConvRows.padded (z m c) s p k := by
  unfold Value.res_main_v11
  clean_types
  pointwise
  refine dite_congr rfl (fun _ => rfl) fun h => ?_
  rw [dif_pos p.isLt]
  rfl

theorem r89 (s : Fin 2) (t : Fin 4096) (k : Fin 512) :
    (Value.res_main_v89 (launchContents m c) : FVec Ideal S2x4096x512 .f32) (ix3 s t k) = ConvRows.taps (ConvRows.tap (z m c) (cw m c) s t k) 11 := by
  unfold Value.res_main_v89
  clean_types
  pointwise
  simp only [r11]
  simp only [ConvRows.taps, ConvRows.tap, zero_add]
  rfl

theorem r166 (s : Fin 2) (t : Fin 4096) (k : Fin 512) :
    (Value.res_main_v166 (launchContents m c) : FVec Ideal S2x4096x512 .f32) (ix3 s t k) = ConvRows.taps (ConvRows.tap (z m c) (cw m c) s t k) 22 := by
  unfold Value.res_main_v166
  clean_types
  pointwise
  simp only [r11, r89]
  simp only [ConvRows.taps, ConvRows.tap, zero_add]
  rfl

/-- The convolved rows. -/
theorem r233 (i : Fin 8192) (k : Fin 512) :
    (Value.res_main_v233 (launchContents m c) : FVec Ideal S8192x512 .f32) (ix2 i k) = (args m c).a i k := by
  show _ = ConvRows.rows (z m c) (cw m c) (cb m c) i k
  unfold Value.res_main_v233
  clean_types
  pointwise
  simp only [r11, r166]
  unfold ConvRows.rows ConvRows.conv
  simp only [ConvRows.taps, ConvRows.tap, zero_add]
  rfl

theorem r239 (i : Fin 8192) (k : Fin 512) :
    (Value.res_main_v239 (launchContents m c) : FVec Ideal S8192x512 .f32) (ix2 i k) = cen L ((args m c).a i) k := by
  unfold Value.res_main_v239
  clean_types
  pointwise
  simp only [r233]
  rfl

theorem r255 (i : Fin 8192) (k : Fin 512) :
    (Value.res_main_v255 (launchContents m c) : FVec Ideal S8192x512 .f32) (ix2 i k) = y (args m c) i k := by
  unfold Value.res_main_v255
  clean_types
  pointwise
  simp only [r239]
  rfl

theorem r259 (i : Fin 8192) (g : Fin 4) (d : Fin 128) :
    (Value.res_main_v259 (launchContents m c) : FVec Ideal S8192x4x128 .f32) (ix3 i g d) = (args m c).v i g d := by
  unfold Value.res_main_v259
  clean_types
  pointwise
  rfl

theorem r265 (i : Fin 8192) (g : Fin 4) (d : Fin 128) :
    (Value.res_main_v265 (launchContents m c) : FVec Ideal S8192x4x128 .f32) (ix3 i g d) = cen L' ((args m c).v i g) d := by
  unfold Value.res_main_v265
  clean_types
  pointwise
  simp only [r259]
  rfl

/-- The normalised rows of the spatial half, in chunks. -/
def vV : FVec Ideal S64x128x4x128 .f32 :=
  shapeCast _ (addf (mulf (mulf (Value.res_main_v265 (launchContents m c)) (broadcastInDim S8192x4x128 ![0, 1, 2] bcast_S8192x4x1_S8192x4x128_0_1_2 (Host.rsqrt (addf (Host.divf (broadcastInDim S8192x4x1 ![0, 1] bcast_S8192x4_S8192x4x1_0_1 (Host.reduceAdd (mulf (Value.res_main_v265 (launchContents m c)) (Value.res_main_v265 (launchContents m c))) (constant S_ .f32 0x00000000#32) reducesTo_S8192x4x128_S8192x4_d2 h_S_)) (broadcastInDim S8192x4x1 ![] bcast_S_S8192x4x1 (constant S_ .f32 0x43000000#32))) (broadcastInDim S8192x4x1 ![] bcast_S_S8192x4x1 (constant S_ .f32 0x358637BD#32)))))) (broadcastInDim S8192x4x128 ![0, 1, 2] bcast_S1x4x128_S8192x4x128_0_1_2 (broadcastInDim S1x4x128 ![1, 2] bcast_S4x128_S1x4x128_1_2 (LVG m c)))) (broadcastInDim S8192x4x128 ![0, 1, 2] bcast_S1x4x128_S8192x4x128_0_1_2 (broadcastInDim S1x4x128 ![1, 2] bcast_S4x128_S1x4x128_1_2 (LVB m c)))) shapeCasts_S8192x4x128_S64x128x4x128

theorem v_at (n : Fin 64) (t : Fin 128) (g : Fin 4) (d : Fin 128) : vV m c (ix4 n t g d) = v1 (args m c) (chunk n t) g d := by
  unfold vV
  clean_types
  pointwise
  simp only [r265]
  rfl

/-- The masked mixing matrices. -/
def vW : FVec Ideal S4x128x128 .f32 :=
  select (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (WS m c) (broadcastInDim S4x128x128 ![] bcast_S_S4x128x128 (id (constant S_ .f32 0x00000000#32)))

/-- The lower triangle as the host lines compare it. -/
theorem mask (t s : Fin 128) :
    IntOp.cmpi CmpIPredicate.sge (IntOp.addi (BitVec.ofNat 32 t.val) 0#32) (BitVec.ofNat 32 s.val) = if s.val ≤ t.val then 1#1 else 0#1 := by
  revert t s
  decide +kernel

theorem w_at (g : Fin 4) (t s : Fin 128) : vW m c (ix3 g t s) = (args m c).ws g t s := by
  unfold vW
  clean_types
  pointwise
  rw [mask]
  have e : (args m c).ws g t s = if s.val ≤ t.val then WS m c (ix3 g t s) else 0 := rfl
  rw [e]
  by_cases h : s.val ≤ t.val
  · rw [if_pos h, if_pos h]
    rfl
  · rw [if_neg h, if_neg h]
    exact Cert.Gate.bits_zero

/-- The mixed rows. -/
def vM : FVec Ideal S8192x512 .f32 :=
  shapeCast _ (addf (transpose S64x128x4x128 [1, 3, 0, 2] (Host.dotGeneral dot_S64x128x4x128_S4x128x128_S4x64x128x128_1_2_03_1_2_0 none (vV m c) (vW m c)) transposes_S4x64x128x128_S64x128x4x128_1_3_0_2) (broadcastInDim S64x128x4x128 ![0, 1, 2, 3] bcast_S1x128x4x1_S64x128x4x128_0_1_2_3 (broadcastInDim S1x128x4x1 ![1, 2, 3] bcast_S128x4x1_S1x128x4x1_1_2_3 (broadcastInDim S128x4x1 ![0, 1] bcast_S128x4_S128x4x1_0_1 (transpose S128x4 [1, 0] (SB m c) transposes_S4x128_S128x4_1_0))))) shapeCasts_S64x128x4x128_S8192x512

theorem m_at (i : Fin 8192) (k : Fin 512) : vM m c (ix2 i k) = v2 (args m c) i (grp k) (lane k) := by
  unfold vM
  clean_types
  pointwise
  simp only [v_at, w_at]
  exact congrArg (· + _) (Finset.sum_congr rfl fun _ _ => mul_comm _ _)

/-- The two halves. -/
def vA : FVec Ideal S8192x512 .f32 :=
  mulf (Value.res_main_v255 (launchContents m c)) (Host.divf (broadcastInDim S8192x512 ![] bcast_S_S8192x512 (constant S_ .f32 0x3F800000#32)) (addf (broadcastInDim S8192x512 ![] bcast_S_S8192x512 (constant S_ .f32 0x3F800000#32)) (Host.exp (Host.negf (Value.res_main_v255 (launchContents m c))))))

def vB : FVec Ideal S8192x512 .f32 := mulf (extractStridedSlice S8192x512 ![0, 1024] (Z m c) slices_S8192x2048_S8192x512_0_1024) (vM m c)

theorem a_at (i : Fin 8192) (k : Fin 512) : vA m c (ix2 i k) = swishRef (args m c) i k := by
  unfold vA
  clean_types
  pointwise
  simp only [r255]
  rfl

theorem b_at (i : Fin 8192) (k : Fin 512) : vB m c (ix2 i k) = gate (args m c) i k := by
  unfold vB
  clean_types
  pointwise
  rw [m_at]
  refine congrArg (· * _) (congrArg (fun l => Z m c (ix2 i l)) (Fin.ext ?_))
  show 1024 + k.val = 1024 + (k.val / 128 * 128 + k.val % 128)
  omega

/-- The reference's run, with its results at these formulas. -/
theorem run (ρ : Dev nD → PrngReg) :
    θ_run defs (onTc (τ := τ) (main (F := Ideal))) ⟨m, fun _ => 0, ρ⟩ fun r => ∀ c : Dev nD,
      r.2.mem ((c.tc : Thread nD τ).loc main_v297)
          = (fun p => beside (swish (args m c)) (gate (args m c)) (p 0) (p 1) : FVec Ideal S8192x1024 .bf16)
      ∧ r.2.mem ((c.tc : Thread nD τ).loc main_v233) = (fun p => (args m c).a (p 0) (p 1) : FVec Ideal S8192x512 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (Value.run m ρ)
  obtain ⟨h0, h1, hk⟩ := h c
  refine ⟨h0.trans ?_, h1.trans ?_, hk⟩
  · change truncf .bf16 (concatenate S8192x1024 1 [⟨S8192x512, vA m c⟩, ⟨S8192x512, vB m c⟩] concatenates_S8192x512_S8192x512_S8192x1024_d1) bitsLt_bf16_f32 = _
    funext p
    idx_vars p
    pointwise
    unfold beside
    rw [← swishRef_eq]
    refine dite_congr rfl (fun h => a_at m c p0 _) fun h => b_at m c p0 _
  · funext p
    idx_vars p
    exact r233 m c p0 p1

end Cert.MixFwdRefIdeal.Formula

end
-- ==== Proof.MixFwd.lean ====
/- The claims about `mix_fwd`: the frames of its programs, and that its two results are the reference's. -/
module

public import proofs.«01_k».proof.Defs
public import proofs.«01_k».proof.Proof.Gen.MixFwd
public import proofs.«01_k».proof.Proof.Gen.MixFwd.Frame
public import proofs.«01_k».proof.Proof.MixFwdKernel
public import proofs.«01_k».proof.Proof.MixFwdRef
public import Idealize.ShloMosaic.Lib.Quiescent

@[expose] public section

set_option maxRecDepth 16384

noncomputable section

namespace Cert.MixFwdClaims

open Idealize.ShloMosaic Idealize.ShloMosaic.TcCoe Idealize.SL.Sem Cert.MixFwdMath

theorem frame : Cert.quiescent_MixFwd := fun m ρ _ => Cert.MixFwd.Gen.frame m ρ

theorem frameIdeal : Cert.quiescent_MixFwdIdeal := fun m ρ _ => Cert.MixFwdIdeal.Gen.frame m ρ

theorem frameRef : Cert.quiescent_MixFwdRefIdeal := fun m ρ _ =>
  (θ_run _ _ _).mono (fun r h => ⟨fun c => (h c).2.2, sem_eq_zero_of_no_sems rfl _⟩) (Cert.MixFwdRefIdeal.Formula.run m ρ)

theorem algebraic : Cert.algebraic_MixFwdIdeal_MixFwdRefIdeal := by
  intro m g m' g' _ hagree
  refine ⟨fun c p => beside (swish (Cert.MixFwdIdeal.Formula.args m c)) (gate (Cert.MixFwdIdeal.Formula.args m c)) (p 0) (p 1),
    fun c p => (Cert.MixFwdIdeal.Formula.args m c).a (p 0) (p 1), ?_, ?_⟩
  · exact (θ_run _ _ _).mono (fun r h c => ⟨(h c).1.trans (Cert.MixFwdIdeal.Formula.final14 m c),
      (h c).2.1.trans (Cert.MixFwdIdeal.Formula.final15 m c),
      (h c).2.2⟩) (Cert.MixFwdIdeal.Value.run_blocks m g)
  · refine (θ_run _ _ _).mono (fun r h c => ?_) (Cert.MixFwdRefIdeal.Formula.run m' g')
    have ha : Cert.MixFwdRefIdeal.Formula.args m' c = Cert.MixFwdIdeal.Formula.args m c := by
      obtain ⟨a0, a1, a2, a3, a4, a5, a6, a7, a8⟩ := hagree c
      have ez : Cert.MixFwdRefIdeal.Formula.z m' c = Cert.MixFwdIdeal.Formula.z m c := by
        funext _ _; simp only [Cert.MixFwdRefIdeal.Formula.z, a0]; rfl
      have ew : Cert.MixFwdRefIdeal.Formula.cw m' c = Cert.MixFwdIdeal.Formula.cw m c := by
        funext _ _; simp only [Cert.MixFwdRefIdeal.Formula.cw, a1]; rfl
      have eb : Cert.MixFwdRefIdeal.Formula.cb m' c = Cert.MixFwdIdeal.Formula.cb m c := by
        funext _; simp only [Cert.MixFwdRefIdeal.Formula.cb, a2]; rfl
      simp only [Cert.MixFwdRefIdeal.Formula.args, ez, ew, eb, a3, a4, a5, a6, a7, a8]
      rfl
    obtain ⟨h0, h1, hk⟩ := h c
    rw [ha] at h0 h1
    exact ⟨h0, h1, hk⟩

end Cert.MixFwdClaims

end
-- ==== Proof.ConvBwdMath.lean ====
/- The cotangent of the convolution's gated input: every row gathers the thirty-one rows from itself on, within its own sequence, and the
   gate shares it between its two halves. -/
module

public import proofs.«01_k».proof.Proof.ConvRows

@[expose] public section

noncomputable section

namespace Cert.ConvBwd

open Idealize.ShloMosaic Cert.ConvRows

variable (z : Fin 8192 → Fin 2048 → EReal) (w : Fin 31 → Fin 512 → EReal) (d : Fin 8192 → Fin 512 → EReal)

/-- Row `q` of a sequence's cotangents, zeros behind them. -/
def row (s : Fin 2) (q : ℕ) (k : Fin 512) : EReal := if h : q < 4096 then d ⟨s.val * 4096 + q, by omega⟩ k else 0

/-- The product at tap `j`. -/
def tap (s : Fin 2) (t : ℕ) (k : Fin 512) (j : ℕ) : EReal := w (Fin.ofNat 31 j) k * row d s (t + (30 - j)) k

/-- The gated row's cotangent. -/
def da0 (i : Fin 8192) (k : Fin 512) : EReal := taps (tap w d ⟨i.val / 4096, by omega⟩ (i.val % 4096) k) 31

/-- The gate of a column. -/
def sg (i : Fin 8192) (k : Fin 512) : EReal := Gate.sig (z i ⟨512 + k.val, by omega⟩)

/-- The cotangent of the row's left half and of its right half. -/
def left (i : Fin 8192) (k : Fin 512) : EReal := da0 w d i k * sg z i k

def right (i : Fin 8192) (k : Fin 512) : EReal :=
  da0 w d i k * z i ⟨k.val, by omega⟩ * sg z i k * (Ideal.ofBits .f32 0x3F800000#32 - sg z i k)

/-- Both halves side by side. -/
def dz (i : Fin 8192) (k : Fin 1024) : EReal :=
  if h : k.val < 512 then left z w d i ⟨k.val, h⟩ else right z w d i ⟨k.val - 512, by omega⟩

/-- The bias's cotangent. -/
def db (k : Fin 512) : EReal := ∑ i : Fin 8192, d (Fin.ofNat 8192 i.val) k

theorem taps_eq_sum (f : ℕ → EReal) : ∀ n, taps f n = ∑ j ∈ Finset.range n, f j
  | 0 => by rw [taps, Finset.range_zero, Finset.sum_empty]
  | n + 1 => by rw [taps, taps_eq_sum f n, Finset.sum_range_succ]

/-- The taps summed from the last to the first. -/
theorem taps_back (f : ℕ → EReal) : taps (fun j => f (30 - j)) 31 = taps f 31 := by
  rw [taps_eq_sum, taps_eq_sum]
  exact Finset.sum_range_reflect f 31

/-- A sum over blocks of rows is the sum over the rows. -/
theorem sum_split (a b : ℕ) (f : ℕ → EReal) : ∑ s : Fin a, ∑ t : Fin b, f (s.val * b + t.val) = ∑ i : Fin (a * b), f i.val := by
  rw [← Fintype.sum_prod_type' (f := fun (s : Fin a) (t : Fin b) => f (s.val * b + t.val))]
  refine Fintype.sum_equiv finProdFinEquiv _ _ fun q => congrArg f ?_
  show q.1.val * b + q.2.val = q.2.val + b * q.1.val
  rw [Nat.mul_comm, Nat.add_comm]

/-- The term as the shifted rows give it. -/
theorem row_mul (s : Fin 2) (q : ℕ) (k : Fin 512) (x : EReal) :
    (if h : q < 4096 then d ⟨s.val * 4096 + q, by omega⟩ k * x else 0) = x * row d s q k := by
  rw [row]
  split
  · exact mul_comm _ _
  · exact (mul_zero x).symm

end Cert.ConvBwd

end
-- ==== Proof.ConvDw.lean ====
/- The cotangent of the convolution's weights: every tap sums the products of the rows' cotangents and the gated rows it meets. -/
module

public import proofs.«01_k».proof.Proof.ConvBwdMath

@[expose] public section

noncomputable section

namespace Cert.ConvBwd

open Idealize.ShloMosaic Cert.ConvRows

variable (z : Fin 8192 → Fin 2048 → EReal) (d : Fin 8192 → Fin 512 → EReal)

/-- The product of row `i`'s cotangent and the gated row that tap `j` meets there. -/
def meet (j : ℕ) (k : Fin 512) (i : ℕ) : EReal :=
  padded z ⟨i / 4096 % 2, by omega⟩ (j + i % 4096) k * d (Fin.ofNat 8192 i) k

/-- The weights' cotangent. -/
def dw (j : Fin 31) (k : Fin 512) : EReal := ∑ i : Fin 8192, meet z d j.val k i.val

end Cert.ConvBwd

end
-- ==== Proof.ConvBlocks.lean ====
/- The blocks a grid point of the convolution's backward part reads, entry by entry over the argument arrays. -/
module

public import proofs.«01_k».proof.Proof.Gen.ConvIdeal.Frame.Runs
public import Idealize.ShloMosaic.Lib.Pipeline.ValueKit
public import proofs.«01_k».proof.Proof.MixFwdMath
public import proofs.«01_k».proof.Proof.ConvBwdMath

@[expose] public section

set_option maxRecDepth 16384

noncomputable section

namespace Cert.ConvIdeal.Formula

open Cert.ConvIdeal Cert.ConvIdeal.Gen Idealize.ShloMosaic Idealize.ShloMosaic.TcCoe Idealize.SL.Sem Cert.ConvBwd
open Idealize.ShloMosaic.StableHlo

variable (m : (ℓ : Loc nD τ sig) → Buf (Elt Ideal) ℓ) (c : Dev nD)

abbrev Z : FVec Ideal S8192x2048 .f32 := m ((c : Thread nD τ).loc main_arg0)
abbrev CW : FVec Ideal S31x512 .f32 := m ((c : Thread nD τ).loc main_arg1)
abbrev DA : FVec Ideal S8192x512 .f32 := m ((c : Thread nD τ).loc main_arg2)

def z (i : Fin 8192) (j : Fin 2048) : EReal := Z m c (ix2 i j)
def cw (j : Fin 31) (k : Fin 512) : EReal := CW m c (ix2 j k)
def da (i : Fin 8192) (k : Fin 512) : EReal := DA m c (ix2 i k)

theorem idx : ∀ t : Fin cfg0.N, win0_0.index t = ![t.val, 0] ∧ win0_1.index t = ![min ((t.val + 1) * 16) 255, 0] ∧ win0_2.index t = ![t.val, 0]
    ∧ win0_3.index t = ![t.val, 1] ∧ win0_6.index t = ![0, 0] ∧ win0_7.index t = ![t.val, 0] ∧ win0_9.index t = ![0, 0] :=
  (by decide +kernel : ∀ t : Fin grid0.N, _)

/-- A sequence's last grid point, as the kernel tests for it. -/
theorem last : ∀ t : Fin cfg0.N, IntOp.cmpi CmpIPredicate.eq (BitVec.ofNat 32 (grid0.coords t 1).val) 7#32 = if t.val % 8 = 7 then 1#1 else 0#1 :=
  (by decide +kernel : ∀ t : Fin grid0.N, _)

theorem lt16 (t : Fin cfg0.N) : t.val < 16 := lt_of_lt_of_eq t.isLt N_0

/-- Row `r` of grid point `t`'s block. -/
def at_ (t : Fin cfg0.N) (r : Fin 512) : Fin 8192 := ⟨t.val * 512 + r.val, by have h := lt16 t; omega⟩

/-- Row `r` of the 32 rows behind it. -/
def behind (t : Fin cfg0.N) (r : Fin 32) : Fin 8192 := ⟨min ((t.val + 1) * 16) 255 * 32 + r.val, by omega⟩

theorem at_val (t : Fin cfg0.N) (r : Fin 512) : (at_ t r).val = t.val * 512 + r.val := rfl

theorem behind_val (t : Fin cfg0.N) (r : Fin 32) : (behind t r).val = min ((t.val + 1) * 16) 255 * 32 + r.val := rfl

theorem blk0 (t : Fin cfg0.N) (r k : Fin 512) : (iblk m c 0 t : Vec Ideal S512x512 .f32) (ix2 r k) = da m c (at_ t r) k := by
  show _ = V m c main_arg2 _
  blk_ext! [iblk, idx t, at_val]

theorem blk1 (t : Fin cfg0.N) (r : Fin 32) (k : Fin 512) : (iblk m c 1 t : Vec Ideal S32x512 .f32) (ix2 r k) = da m c (behind t r) k := by
  show _ = V m c main_arg2 _
  blk_ext! [iblk, idx t, behind_val]

theorem blk2 (t : Fin cfg0.N) (r k : Fin 512) : (iblk m c 2 t : Vec Ideal S512x512 .f32) (ix2 r k) = z m c (at_ t r) ⟨k.val, by omega⟩ := by
  show _ = V m c main_arg0 _
  blk_ext! [iblk, idx t, at_val]

theorem blk3 (t : Fin cfg0.N) (r k : Fin 512) : (iblk m c 3 t : Vec Ideal S512x512 .f32) (ix2 r k) = z m c (at_ t r) ⟨512 + k.val, by omega⟩ := by
  show _ = V m c main_arg0 _
  blk_ext! [iblk, idx t, at_val]

theorem blk6 (t : Fin cfg0.N) (j : Fin 31) (k : Fin 512) : (iblk m c 6 t : Vec Ideal S31x512 .f32) (ix2 j k) = cw m c j k := by
  show _ = V m c main_arg1 _
  blk_ext! [iblk, idx t]

/-- Row `p` of the cotangents a grid point lays out: its own rows, then thirty-two of those behind. -/
def D0 (t : Fin cfg0.N) (p : ℕ) (k : Fin 512) : EReal := row (da m c) ⟨t.val / 8, by have h := lt16 t; omega⟩ (t.val % 8 * 512 + p) k

/-- The gated row's cotangent as the kernel sums it. -/
theorem row_eq (t : Fin cfg0.N) (b : ℕ) (i : Fin 32) (hb : b + i.val < 512) (k : Fin 512) :
    da0 (cw m c) (da m c) (at_ t ⟨b + i.val, hb⟩) k
      = MixFwdMath.onto (fun j => cw m c (Fin.ofNat 31 j) k * D0 m c t (b + (30 - j) + i.val) k) (Ideal.ofBits .f32 0x00000000#32) 31 := by
  rw [MixFwdMath.onto_eq, Gate.bits_zero, add_zero, da0]
  refine congrArg (fun f => ConvRows.taps f 31) (funext fun j => ?_)
  show _ * row _ _ _ _ = _ * row _ _ _ _
  have e : (⟨(at_ t ⟨b + i.val, hb⟩).val / 4096, by omega⟩ : Fin 2) = ⟨t.val / 8, by have h := lt16 t; omega⟩ :=
    Fin.ext (by show (t.val * 512 + (b + i.val)) / 4096 = t.val / 8; omega)
  refine congrArg (cw m c (Fin.ofNat 31 j) k * ·) ?_
  refine (congrArg (fun s => row (da m c) s _ k) e).trans (congrArg (fun p => row (da m c) _ p k) ?_)
  show (t.val * 512 + (b + i.val)) % 4096 + (30 - j) = _
  omega

/-- The grid point's own rows. -/
theorem own (t : Fin cfg0.N) (p k : Fin 512) : k0_pay48 (F := Ideal) (iblk m c 0 t) (ix3 0 p k) = D0 m c t p.val k := by
  have h := lt16 t
  rw [D0, row, dif_pos (by omega)]
  have e : (⟨t.val / 8 * 4096 + (t.val % 8 * 512 + p.val), by omega⟩ : Fin 8192) = at_ t p :=
    Fin.ext (by show t.val / 8 * 4096 + (t.val % 8 * 512 + p.val) = t.val * 512 + p.val; omega)
  rw [e]
  open_payloads
  pointwise
  simp only [blk0]

/-- The rows behind them. -/
theorem next (t : Fin cfg0.N) (p : Fin 32) (k : Fin 512) :
    k0_pay49 (F := Ideal) (BitVec.ofNat 32 (grid0.coords t 1).val) (iblk m c 1 t) (ix3 0 p k) = D0 m c t (512 + p.val) k := by
  have h := lt16 t
  have e2 : k0_pay49 (F := Ideal) (BitVec.ofNat 32 (grid0.coords t 1).val) (iblk m c 1 t) (ix3 0 p k)
      = Scalar.select (IntOp.cmpi CmpIPredicate.eq (BitVec.ofNat 32 (grid0.coords t 1).val) 7#32) (Ideal.ofBits .f32 0x00000000#32)
        (da m c (behind t p) k) := by
    open_payloads
    pointwise
    simp only [blk1]
    rfl
  rw [e2, last, D0, row]
  by_cases h0 : t.val % 8 = 7
  · rw [if_pos h0, dif_neg (by omega)]
    exact Gate.bits_zero
  · rw [if_neg h0, dif_pos (by omega)]
    have e : (⟨t.val / 8 * 4096 + (t.val % 8 * 512 + (512 + p.val)), by omega⟩ : Fin 8192) = behind t p :=
      Fin.ext (by show t.val / 8 * 4096 + (t.val % 8 * 512 + (512 + p.val)) = min ((t.val + 1) * 16) 255 * 32 + p.val; omega)
    rw [e]
    rfl

end Cert.ConvIdeal.Formula

end
-- ==== Proof.ConvCopies.lean ====
/- The gated rows' cotangents as the convolution's backward kernel gathers them: eight copies of the rows, each moved up by one row more, and
   thirty-one products of a copy's rows and a row of the weights. -/
module

public import proofs.«01_k».proof.Proof.ConvBlocks
public import proofs.«01_k».proof.Proof.Pieces

@[expose] public section

set_option maxRecDepth 16384

noncomputable section

namespace Cert.ConvIdeal.Formula

open Cert.ConvIdeal Cert.ConvIdeal.Gen Idealize.ShloMosaic Idealize.ShloMosaic.TcCoe Idealize.SL.Sem Cert.ConvBwd
open Idealize.ShloMosaic.StableHlo Cert.Pieces Cert.MixFwdMath

variable (m : (ℓ : Loc nD τ sig) → Buf (Elt Ideal) ℓ) (c : Dev nD)

/-- `n` rows from row `p` on. -/
def RD (t : Fin cfg0.N) (n p : ℕ) : Vec Ideal ⟨3, ![1, n, 512]⟩ .f32 := fun y => D0 m c t (p + (y 1).val) (y 2)

theorem RD_at (t : Fin cfg0.N) (n p : ℕ) (a : Fin 1) (i : Fin n) (k : Fin 512) : RD m c t n p (ix3 a i k) = D0 m c t (p + i.val) k := rfl

theorem cast_cast_ (x : FVec Ideal S1x536x512 .f32) (h h') : shapeCast S1x536x512 (shapeCast S536x512 x h) h' = x := by
  funext y
  idx_vars y
  pointwise

abbrev own_ (t : Fin cfg0.N) : View.Piece (Elt Ideal) S8x544x512 .f32 :=
  ⟨Rect.unit ![0, 0, 0] ![1, 512, 512] inb_S8x544x512_S1x512x512_0_0_0, k0_pay48 (iblk m c 0 t)⟩
abbrev next_ (t : Fin cfg0.N) : View.Piece (Elt Ideal) S8x544x512 .f32 :=
  ⟨Rect.unit ![0, 512, 0] ![1, 32, 512] inb_S8x544x512_S1x32x512_0_512_0, k0_pay49 (BitVec.ofNat 32 (grid0.coords t 1).val) (iblk m c 1 t)⟩

/-- The eight copies: row `q` of copy `s` is row `s + q`. -/
def G (t : Fin cfg0.N) : S8x544x512.Idx → Elt Ideal .f32 := fun y => D0 m c t ((y 0).val + (y 1).val) (y 2)

theorem own_G (t : Fin cfg0.N) : ∀ y, (own_ m c t).2 y = G m c t ((own_ m c t).1.emb y) := by
  intro y
  idx_vars y
  obtain rfl : y0 = 0 := by omega
  refine (own m c t y1 y2).trans ?_
  show D0 m c t _ _ = D0 m c t _ _
  congr 1
  · show y1.val = (0 + 1 * 0) + (0 + 1 * y1.val)
    omega
  · exact Fin.ext (by show y2.val = 0 + 1 * y2.val; omega)

theorem next_G (t : Fin cfg0.N) : ∀ y, (next_ m c t).2 y = G m c t ((next_ m c t).1.emb y) := by
  intro y
  idx_vars y
  obtain rfl : y0 = 0 := by omega
  refine (next m c t y1 y2).trans ?_
  show D0 m c t _ _ = D0 m c t _ _
  congr 1
  · show 512 + y1.val = (0 + 1 * 0) + (512 + 1 * y1.val)
    omega
  · exact Fin.ext (by show y2.val = 0 + 1 * y2.val; omega)

abbrev copy_ (t : Fin cfg0.N) (s : ℕ) (inb : ∀ a, (![s, 0, 0] : Fin 3 → ℕ) a + (![1, 536, 512] : Fin 3 → ℕ) a ≤ S8x544x512.size a) : View.Piece (Elt Ideal) S8x544x512 .f32 :=
  ⟨Rect.unit ![s, 0, 0] ![1, 536, 512] inb, RD m c t 536 s⟩

theorem copy_G (t : Fin cfg0.N) (s : ℕ) (inb) : ∀ y, (copy_ m c t s inb).2 y = G m c t ((copy_ m c t s inb).1.emb y) := by
  intro y
  idx_vars y
  obtain rfl : y0 = 0 := by omega
  show D0 m c t _ _ = D0 m c t _ _
  congr 1
  · show s + y1.val = (s + 1 * 0) + (0 + 1 * y1.val)
    omega
  · exact Fin.ext (by show y2.val = 0 + 1 * y2.val; omega)

/-- A load from the copies. -/
theorem load_G (t : Fin cfg0.N) (L : List (View.Piece (Elt Ideal) S8x544x512 .f32)) (s q n : ℕ)
    (inb : ∀ a, (![s, q, 0] : Fin 3 → ℕ) a + (![1, n, 512] : Fin 3 → ℕ) a ≤ S8x544x512.size a) (hL : View.PiecesOf (G m c t) L)
    (hc : ∀ (a : Fin 8) (b : Fin 544) (d : Fin 512), a.val = s → q ≤ b.val → b.val < q + n → ∃ P ∈ L, ix3 a b d ∈ P.1.set) :
    (View.whole cc0_scratch1).readCov L (Rect.unit (s := S8x544x512) ![s, q, 0] ![1, n, 512] inb).toLoadRect = RD m c t n (s + q) := by
  funext y
  rw [View.readCov_eq_canon']
  have i0 : s + 1 ≤ 8 := inb 0
  have i1 : q + n ≤ 544 := inb 1
  have h0 : (y 0).val < 1 := (y 0).isLt
  have h1 : (y 1).val < n := (y 1).isLt
  have h2 : (y 2).val < 512 := (y 2).isLt
  have e : (Rect.unit (s := S8x544x512) ![s, q, 0] ![1, n, 512] inb).toLoadRect.idx y
      = ix3 (⟨s, by omega⟩ : Fin 8) (⟨q + (y 1).val, by omega⟩ : Fin 544) (⟨(y 2).val, h2⟩ : Fin 512) := by
    funext a
    refine Fin.ext ?_
    fin_cases a
    · show s + 1 * (y 0).val = s
      omega
    · show q + 1 * (y 1).val = q + (y 1).val
      omega
    · show 0 + 1 * (y 2).val = (y 2).val
      omega
  show View.canon L ((Rect.unit (s := S8x544x512) ![s, q, 0] ![1, n, 512] inb).toLoadRect.idx y) = _
  rw [e]
  have hg := View.canon_append_of_piecesOf (G m c t) [] L hL (ix3 (⟨s, by omega⟩ : Fin 8) (⟨q + (y 1).val, by omega⟩ : Fin 544) (⟨(y 2).val, h2⟩ : Fin 512))
    (hc _ _ _ rfl (Nat.le_add_right _ _) (Nat.add_lt_add_left h1 q))
  rw [List.append_nil] at hg
  refine hg.trans ?_
  show D0 m c t (s + (q + (y 1).val)) _ = D0 m c t (s + q + (y 1).val) _
  rw [Nat.add_assoc]
  rfl

theorem mem_ {s q n : ℕ} (inb : ∀ a, (![s, q, 0] : Fin 3 → ℕ) a + (![1, n, 512] : Fin 3 → ℕ) a ≤ S8x544x512.size a) (a : Fin 8) (b : Fin 544)
    (d : Fin 512) (ha : a.val = s) (h1 : q ≤ b.val) (h2 : b.val < q + n) : (ix3 a b d : S8x544x512.Idx) ∈ (Rect.unit ![s, q, 0] ![1, n, 512] inb).set := by
  rw [Rect.mem_set_unit]
  intro x
  fin_cases x
  · show s ≤ a.val ∧ a.val < s + 1
    omega
  · exact ⟨h1, h2⟩
  · show 0 ≤ d.val ∧ d.val < 0 + 512
    omega

/-- The grid point's rows as they are laid out first. -/
abbrev base_ (t : Fin cfg0.N) : List (View.Piece (Elt Ideal) S8x544x512 .f32) := [next_ m c t, own_ m c t]

theorem base_G (t : Fin cfg0.N) : View.PiecesOf (G m c t) (base_ m c t) := ⟨next_G m c t, own_G m c t, trivial⟩

theorem base_mem (t : Fin cfg0.N) (a : Fin 8) (b : Fin 544) (d : Fin 512) (ha : a.val = 0) : ∃ P ∈ base_ m c t, ix3 a b d ∈ P.1.set := by
  by_cases h : b.val < 512
  · exact ⟨_, .tail _ (.head _), mem_ inb_S8x544x512_S1x512x512_0_0_0 a b d ha (Nat.zero_le _) (by omega)⟩
  · exact ⟨_, .head _, mem_ inb_S8x544x512_S1x32x512_0_512_0 a b d ha (by omega) (by omega)⟩

/-- A moved copy laid out on top of others. -/
theorem more_G (t : Fin cfg0.N) (s : ℕ) (inb) {L : List (View.Piece (Elt Ideal) S8x544x512 .f32)} (h : View.PiecesOf (G m c t) L) :
    View.PiecesOf (G m c t) (copy_ m c t s inb :: L) := ⟨copy_G m c t s inb, h⟩

theorem more_mem (P : View.Piece (Elt Ideal) S8x544x512 .f32) {L : List (View.Piece (Elt Ideal) S8x544x512 .f32)} {i : S8x544x512.Idx}
    (h : ∃ P ∈ L, i ∈ P.1.set) : ∃ Q ∈ P :: L, i ∈ Q.1.set := by
  obtain ⟨Q, hQ, hi⟩ := h
  exact ⟨Q, .tail _ hQ, hi⟩

abbrev L1 (t : Fin cfg0.N) := copy_ m c t 1 inb_S8x544x512_S1x536x512_1_0_0 :: base_ m c t
abbrev L2 (t : Fin cfg0.N) := copy_ m c t 2 inb_S8x544x512_S1x536x512_2_0_0 :: L1 m c t
abbrev L3 (t : Fin cfg0.N) := copy_ m c t 3 inb_S8x544x512_S1x536x512_3_0_0 :: L2 m c t
abbrev L4 (t : Fin cfg0.N) := copy_ m c t 4 inb_S8x544x512_S1x536x512_4_0_0 :: L3 m c t
abbrev L5 (t : Fin cfg0.N) := copy_ m c t 5 inb_S8x544x512_S1x536x512_5_0_0 :: L4 m c t
abbrev L6 (t : Fin cfg0.N) := copy_ m c t 6 inb_S8x544x512_S1x536x512_6_0_0 :: L5 m c t
abbrev L7 (t : Fin cfg0.N) := copy_ m c t 7 inb_S8x544x512_S1x536x512_7_0_0 :: L6 m c t

theorem L1_G (t : Fin cfg0.N) : View.PiecesOf (G m c t) (L1 m c t) := more_G m c t 1 _ (base_G m c t)
theorem L2_G (t : Fin cfg0.N) : View.PiecesOf (G m c t) (L2 m c t) := more_G m c t 2 _ (L1_G m c t)
theorem L3_G (t : Fin cfg0.N) : View.PiecesOf (G m c t) (L3 m c t) := more_G m c t 3 _ (L2_G m c t)
theorem L4_G (t : Fin cfg0.N) : View.PiecesOf (G m c t) (L4 m c t) := more_G m c t 4 _ (L3_G m c t)
theorem L5_G (t : Fin cfg0.N) : View.PiecesOf (G m c t) (L5 m c t) := more_G m c t 5 _ (L4_G m c t)
theorem L6_G (t : Fin cfg0.N) : View.PiecesOf (G m c t) (L6 m c t) := more_G m c t 6 _ (L5_G m c t)
theorem L7_G (t : Fin cfg0.N) : View.PiecesOf (G m c t) (L7 m c t) := more_G m c t 7 _ (L6_G m c t)

/-! The loads that make the copies, and those of the taps. -/

theorem ld1 (t : Fin cfg0.N) (inb) : (View.whole cc0_scratch1).readCov (base_ m c t)
    (Rect.unit (s := S8x544x512) ![0, 1, 0] ![1, 536, 512] inb).toLoadRect = RD m c t 536 1 :=
  load_G m c t _ 0 1 536 inb (base_G m c t) fun a b d ha _ _ => base_mem m c t a b d ha

theorem ld2 (t : Fin cfg0.N) (inb) : (View.whole cc0_scratch1).readCov (L1 m c t)
    (Rect.unit (s := S8x544x512) ![0, 2, 0] ![1, 536, 512] inb).toLoadRect = RD m c t 536 2 :=
  load_G m c t _ 0 2 536 inb (L1_G m c t) fun a b d ha _ _ => more_mem _ (base_mem m c t a b d ha)

theorem ld3 (t : Fin cfg0.N) (inb) : (View.whole cc0_scratch1).readCov (L2 m c t)
    (Rect.unit (s := S8x544x512) ![0, 3, 0] ![1, 536, 512] inb).toLoadRect = RD m c t 536 3 :=
  load_G m c t _ 0 3 536 inb (L2_G m c t) fun a b d ha _ _ => more_mem _ (more_mem _ (base_mem m c t a b d ha))

theorem ld4 (t : Fin cfg0.N) (inb) : (View.whole cc0_scratch1).readCov (L3 m c t)
    (Rect.unit (s := S8x544x512) ![0, 4, 0] ![1, 536, 512] inb).toLoadRect = RD m c t 536 4 :=
  load_G m c t _ 0 4 536 inb (L3_G m c t) fun a b d ha _ _ => more_mem _ (more_mem _ (more_mem _ (base_mem m c t a b d ha)))

theorem ld5 (t : Fin cfg0.N) (inb) : (View.whole cc0_scratch1).readCov (L4 m c t)
    (Rect.unit (s := S8x544x512) ![0, 5, 0] ![1, 536, 512] inb).toLoadRect = RD m c t 536 5 :=
  load_G m c t _ 0 5 536 inb (L4_G m c t) fun a b d ha _ _ => more_mem _ (more_mem _ (more_mem _ (more_mem _ (base_mem m c t a b d ha))))

theorem ld6 (t : Fin cfg0.N) (inb) : (View.whole cc0_scratch1).readCov (L5 m c t)
    (Rect.unit (s := S8x544x512) ![0, 6, 0] ![1, 536, 512] inb).toLoadRect = RD m c t 536 6 :=
  load_G m c t _ 0 6 536 inb (L5_G m c t) fun a b d ha _ _ =>
    more_mem _ (more_mem _ (more_mem _ (more_mem _ (more_mem _ (base_mem m c t a b d ha)))))

theorem base_mem6 (t : Fin cfg0.N) (a : Fin 8) (b : Fin 544) (d : Fin 512) (ha : a.val = 0) : ∃ P ∈ L6 m c t, ix3 a b d ∈ P.1.set :=
  more_mem _ (more_mem _ (more_mem _ (more_mem _ (more_mem _ (more_mem _ (base_mem m c t a b d ha))))))

theorem ld7 (t : Fin cfg0.N) (inb) : (View.whole cc0_scratch1).readCov (L6 m c t)
    (Rect.unit (s := S8x544x512) ![0, 7, 0] ![1, 536, 512] inb).toLoadRect = RD m c t 536 7 :=
  load_G m c t _ 0 7 536 inb (L6_G m c t) fun a b d ha _ _ => base_mem6 m c t a b d ha

/-- A tap's rows, from the copy that holds them at a multiple of eight. -/
theorem ldT (t : Fin cfg0.N) (s q : ℕ) (inb) (hq : q ≤ 504 ∨ s = 0) : (View.whole cc0_scratch1).readCov (L7 m c t)
    (Rect.unit (s := S8x544x512) ![s, q, 0] ![1, 32, 512] inb).toLoadRect = RD m c t 32 (s + q) := by
  refine load_G m c t _ s q 32 inb (L7_G m c t) fun a b d ha h1 h2 => ?_
  obtain h | h | h | h | h | h | h | h : a.val = 0 ∨ a.val = 1 ∨ a.val = 2 ∨ a.val = 3 ∨ a.val = 4 ∨ a.val = 5 ∨ a.val = 6 ∨ a.val = 7 := by omega
  · exact more_mem _ (base_mem6 m c t a b d h)
  · exact ⟨copy_ m c t 1 inb_S8x544x512_S1x536x512_1_0_0, .tail _ (.tail _ (.tail _ (.tail _ (.tail _ (.tail _ (.head _)))))), mem_ inb_S8x544x512_S1x536x512_1_0_0 a b d h (Nat.zero_le _) (by omega)⟩
  · exact ⟨copy_ m c t 2 inb_S8x544x512_S1x536x512_2_0_0, .tail _ (.tail _ (.tail _ (.tail _ (.tail _ (.head _))))), mem_ inb_S8x544x512_S1x536x512_2_0_0 a b d h (Nat.zero_le _) (by omega)⟩
  · exact ⟨copy_ m c t 3 inb_S8x544x512_S1x536x512_3_0_0, .tail _ (.tail _ (.tail _ (.tail _ (.head _)))), mem_ inb_S8x544x512_S1x536x512_3_0_0 a b d h (Nat.zero_le _) (by omega)⟩
  · exact ⟨copy_ m c t 4 inb_S8x544x512_S1x536x512_4_0_0, .tail _ (.tail _ (.tail _ (.head _))), mem_ inb_S8x544x512_S1x536x512_4_0_0 a b d h (Nat.zero_le _) (by omega)⟩
  · exact ⟨copy_ m c t 5 inb_S8x544x512_S1x536x512_5_0_0, .tail _ (.tail _ (.head _)), mem_ inb_S8x544x512_S1x536x512_5_0_0 a b d h (Nat.zero_le _) (by omega)⟩
  · exact ⟨copy_ m c t 6 inb_S8x544x512_S1x536x512_6_0_0, .tail _ (.head _), mem_ inb_S8x544x512_S1x536x512_6_0_0 a b d h (Nat.zero_le _) (by omega)⟩
  · exact ⟨copy_ m c t 7 inb_S8x544x512_S1x536x512_7_0_0, .head _, mem_ inb_S8x544x512_S1x536x512_7_0_0 a b d h (Nat.zero_le _) (by omega)⟩

end Cert.ConvIdeal.Formula

end
-- ==== Proof.ConvHalves.lean ====
/- What a grid point of the convolution's backward part is to leave: the gated rows' cotangents, and the two halves made of them. -/
module

public import proofs.«01_k».proof.Proof.ConvCopies

@[expose] public section

set_option maxRecDepth 16384

noncomputable section

namespace Cert.ConvIdeal.Formula

open Cert.ConvIdeal Cert.ConvIdeal.Gen Idealize.ShloMosaic Idealize.ShloMosaic.TcCoe Idealize.SL.Sem Cert.ConvBwd
open Idealize.ShloMosaic.StableHlo Cert.Pieces Cert.MixFwdMath

variable (m : (ℓ : Loc nD τ sig) → Buf (Elt Ideal) ℓ) (c : Dev nD)

def G1 (t : Fin cfg0.N) : S512x512.Idx → Elt Ideal .f32 := fun y => da0 (cw m c) (da m c) (at_ t (y 0)) (y 1)

theorem G1_emb (t : Fin cfg0.N) (b : ℕ) (inb : ∀ a, (![b, 0] : Fin 2 → ℕ) a + (![32, 512] : Fin 2 → ℕ) a ≤ S512x512.size a) (i : Fin 32) (k : Fin 512) :
    G1 m c t ((Rect.unit (s := S512x512) ![b, 0] ![32, 512] inb).emb (ix2 i k))
      = onto (fun j => cw m c (Fin.ofNat 31 j) k * D0 m c t (b + (30 - j) + i.val) k) (Ideal.ofBits .f32 0x00000000#32) 31 := by
  have i0 : b + 32 ≤ 512 := inb 0
  rw [← row_eq m c t b i (by omega) k]
  show da0 (cw m c) (da m c) (at_ t _) _ = _
  congr 1
  · refine congrArg (at_ t) (Fin.ext ?_)
    show b + 1 * i.val = b + i.val
    omega
  · refine Fin.ext ?_
    show 0 + 1 * k.val = k.val
    omega

theorem G1_at (t : Fin cfg0.N) (r k : Fin 512) : G1 m c t (ix2 r k) = da0 (cw m c) (da m c) (at_ t r) k := rfl

/-- The gated rows' cotangents as the kernel loads them back. -/
theorem da_load (t : Fin cfg0.N) {sp : Space} (v : View sig .tc sp S512x512 .f32) (L : List (View.Piece (Elt Ideal) S512x512 .f32))
    (hL : View.canon L = G1 m c t) (inb) : v.readCov L (Rect.unit (s := S512x512) ![0, 0] ![512, 512] inb).toLoadRect = G1 m c t := by
  funext y
  obtain ⟨r, k, rfl⟩ : ∃ (r k : Fin 512), y = ix2 r k := ⟨y 0, y 1, by idx_vars y⟩
  refine (load_whole v inb L r k).trans ?_
  rw [hL]

/-- The two halves over a grid point's block. -/
def Gz (t : Fin cfg0.N) : S512x1024.Idx → Elt Ideal .bf16 := fun y => dz (z m c) (cw m c) (da m c) (at_ t (y 0)) (y 1)

theorem Gz_left (t : Fin cfg0.N) (inb) (r k : Fin 512) :
    Gz m c t ((Rect.unit (s := S512x1024) ![0, 0] ![512, 512] inb).emb (ix2 r k)) = left (z m c) (cw m c) (da m c) (at_ t r) k := by
  show dz _ _ _ (at_ t ⟨0 + 1 * r.val, _⟩) ⟨0 + 1 * k.val, _⟩ = _
  have h : 0 + 1 * k.val < 512 := by omega
  refine (dif_pos h).trans ?_
  congr 1
  · exact congrArg (at_ t) (Fin.ext (by show 0 + 1 * r.val = r.val; omega))
  · exact Fin.ext (by show 0 + 1 * k.val = k.val; omega)

theorem Gz_right (t : Fin cfg0.N) (inb) (r k : Fin 512) :
    Gz m c t ((Rect.unit (s := S512x1024) ![0, 512] ![512, 512] inb).emb (ix2 r k)) = right (z m c) (cw m c) (da m c) (at_ t r) k := by
  show dz _ _ _ (at_ t ⟨0 + 1 * r.val, _⟩) ⟨512 + 1 * k.val, _⟩ = _
  have h : ¬ 512 + 1 * k.val < 512 := by omega
  refine (dif_neg h).trans ?_
  congr 1
  · exact congrArg (at_ t) (Fin.ext (by show 0 + 1 * r.val = r.val; omega))
  · exact Fin.ext (by show 512 + 1 * k.val - 512 = k.val; omega)

/-- What a grid point adds to the bias's cotangent. -/
def term (t : Fin cfg0.N) (k : Fin 512) : EReal := ∑ r : Fin 512, da m c (at_ t r) k

end Cert.ConvIdeal.Formula

end
-- ==== Proof.ConvRunA.lean ====
/- The convolution's backward part at its first grid point: the gated rows' cotangents in sixteen pieces, and the two halves made of them. -/
module

public import proofs.«01_k».proof.Proof.ConvHalves
public import proofs.«01_k».proof.Proof.Gen.ConvIdeal.Frame

@[expose] public section

set_option maxRecDepth 16384

noncomputable section

namespace Cert.ConvIdeal.Formula

open Cert.ConvIdeal Cert.ConvIdeal.Gen Idealize.ShloMosaic Idealize.ShloMosaic.TcCoe Idealize.SL.Sem Cert.ConvBwd
open Idealize.ShloMosaic.StableHlo Cert.Pieces Cert.MixFwdMath

variable (m : (ℓ : Loc nD τ sig) → Buf (Elt Ideal) ℓ) (c : Dev nD)

abbrev runA (t : Fin cfg0.N) (h0 : cond0_0 (grid0.coords t)) (h1 : ¬cond0_1 (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) (iblk m c 4 t) (iblk m c 5 t) (iblk m c 6 t)

theorem da0_pieces_A (t : Fin cfg0.N) (h0) (h1) : View.PiecesOf (G1 m c t) (runA m c t h0 h1).2.2.2.2.2.2.1 := by
  unfold runA
  frame_open
  frame_out
  try simp only [read_unread_whole]
  simp (disch := decide) only [k0_pay50, k0_pay51, k0_pay52, k0_pay53, k0_pay54, k0_pay55, k0_pay56, cast_cast_, ld1, ld2, ld3, ld4, ld5, ld6, ld7, ldT]
  refine ⟨?_, ?_, ?_, ?_, ?_, ?_, ?_, ?_, ?_, ?_, ?_, ?_, ?_, ?_, ?_, ?_, trivial⟩
  all_goals
    intro y
    obtain ⟨i, k, rfl⟩ : ∃ (i : Fin 32) (k : Fin 512), y = ix2 i k := ⟨y 0, y 1, by idx_vars y⟩
    refine Eq.trans ?_ (G1_emb m c t _ (by decide) i k).symm
    open_payloads
    pointwise
    simp only [blk6, RD_at, onto, zero_add, Nat.reduceAdd, Nat.reduceSub]
    rfl

theorem da0_canon_A (t : Fin cfg0.N) (h0) (h1) : View.canon (runA m c t h0 h1).2.2.2.2.2.2.1 = G1 m c t := by
  funext y
  have h := View.canon_append_of_piecesOf (G1 m c t) [] _ (da0_pieces_A m c t h0 h1) y
    (View.cover_of_tiledL (runA m c t h0 h1).2.2.2.2.2.2.1 S32x512.size (by sl_kernel_rfl) y)
  rwa [List.append_nil] at h

theorem dz_pieces_A (t : Fin cfg0.N) (h0) (h1) : View.PiecesOf (Gz m c t) (runA m c t h0 h1).1 := by
  unfold runA
  frame_open
  rw [da_load m c t _ _ ?h]
  case h => exact da0_canon_A m c t h0 h1
  frame_out
  try simp only [read_unread_whole]
  refine ⟨fun y => ?_, fun y => ?_, trivial⟩
  · obtain ⟨r, k, rfl⟩ : ∃ (r k : Fin 512), y = ix2 r k := ⟨y 0, y 1, by idx_vars y⟩
    refine Eq.trans ?_ (Gz_right m c t (by decide) r k).symm
    open_payloads
    pointwise
    simp only [G1_at, blk2, blk3]
    rw [right, Gate.bits_one]
    rfl
  · obtain ⟨r, k, rfl⟩ : ∃ (r k : Fin 512), y = ix2 r k := ⟨y 0, y 1, by idx_vars y⟩
    refine Eq.trans ?_ (Gz_left m c t (by decide) r k).symm
    open_payloads
    pointwise
    simp only [G1_at, blk2, blk3]
    rfl

theorem dzA (t : Fin cfg0.N) (h0 : t.val % 16 = 0) (h1 : ¬t.val % 16 = 15) : (outsAt0 m c t.val t.isLt).1 = Gz m c t := by
  rw [outsAt0_A m c t h0 h1]
  dsimp only
  rw [out0_A_7, View.read_writes_junk_eq_canon]
  funext y
  have h := View.canon_append_of_piecesOf (Gz m c t) [] _ (dz_pieces_A m c t ((hcond0_0 t).mpr h0) (fun h => h1 ((hcond0_1 t).mp h))) y
    (cover0_A_7 c _ _ _ _ _ _ _ _ _ _ _ _ _ _ _ _ _ _ _ _ _ _ _ _ _ _ _ _ _ _ _ _ _ _ _ _ _ _ y)
  rwa [List.append_nil] at h

theorem dbA (t : Fin cfg0.N) (h0 : t.val % 16 = 0) (h1 : ¬t.val % 16 = 15) (k : Fin 512) :
    (outsAt0 m c t.val t.isLt).2.2.1 (ix2 0 k) = 0 + term m c t k := by
  rw [term, outsAt0_A m c t h0 h1]
  frame_out
  open_payloads
  pointwise
  simp only [blk0]

end Cert.ConvIdeal.Formula

end
-- ==== Proof.ConvCopies8.lean ====
/- Eight copies of rows, each moved up by one row more: what a load from them reads, for any rows. -/
module

public import proofs.«01_k».proof.Proof.ConvCopies

@[expose] public section

set_option maxRecDepth 16384

noncomputable section

namespace Cert.ConvIdeal.Eight

open Cert.ConvIdeal Cert.ConvIdeal.Gen Idealize.ShloMosaic Idealize.ShloMosaic.TcCoe Idealize.SL.Sem
open Idealize.ShloMosaic.StableHlo Cert.Pieces

abbrev Ps := List (View.Piece (Elt Ideal) S8x544x512 .f32)

variable (D : ℕ → Fin 512 → EReal)

/-- `n` rows from row `p` on. -/
def RD (n p : ℕ) : Vec Ideal ⟨3, ![1, n, 512]⟩ .f32 := fun y => D (p + (y 1).val) (y 2)

/-- Row `q` of copy `s` is row `s + q`. -/
def G : S8x544x512.Idx → Elt Ideal .f32 := fun y => D ((y 0).val + (y 1).val) (y 2)

/-- Pieces that hold the copies' rows and the whole of copy 0. -/
def Holds (L : Ps) : Prop := View.PiecesOf (G D) L ∧ ∀ (a : Fin 8) (b : Fin 544) (d : Fin 512), a.val = 0 → ∃ P ∈ L, ix3 a b d ∈ P.1.set

theorem load (v : View sig .tc .vmem S8x544x512 .f32) (L : Ps) (s q n : ℕ)
    (inb : ∀ a, (![s, q, 0] : Fin 3 → ℕ) a + (![1, n, 512] : Fin 3 → ℕ) a ≤ S8x544x512.size a) (hL : View.PiecesOf (G D) L)
    (hc : ∀ (a : Fin 8) (b : Fin 544) (d : Fin 512), a.val = s → q ≤ b.val → b.val < q + n → ∃ P ∈ L, ix3 a b d ∈ P.1.set) :
    v.readCov L (Rect.unit (s := S8x544x512) ![s, q, 0] ![1, n, 512] inb).toLoadRect = RD D n (s + q) := by
  funext y
  rw [View.readCov_eq_canon']
  have i0 : s + 1 ≤ 8 := inb 0
  have i1 : q + n ≤ 544 := inb 1
  have h0 : (y 0).val < 1 := (y 0).isLt
  have h1 : (y 1).val < n := (y 1).isLt
  have h2 : (y 2).val < 512 := (y 2).isLt
  have e : (Rect.unit (s := S8x544x512) ![s, q, 0] ![1, n, 512] inb).toLoadRect.idx y
      = ix3 (⟨s, by omega⟩ : Fin 8) (⟨q + (y 1).val, by omega⟩ : Fin 544) (⟨(y 2).val, h2⟩ : Fin 512) := by
    funext a
    refine Fin.ext ?_
    fin_cases a
    · show s + 1 * (y 0).val = s
      omega
    · show q + 1 * (y 1).val = q + (y 1).val
      omega
    · show 0 + 1 * (y 2).val = (y 2).val
      omega
  show View.canon L ((Rect.unit (s := S8x544x512) ![s, q, 0] ![1, n, 512] inb).toLoadRect.idx y) = _
  rw [e]
  have hg := View.canon_append_of_piecesOf (G D) [] L hL (ix3 (⟨s, by omega⟩ : Fin 8) (⟨q + (y 1).val, by omega⟩ : Fin 544) (⟨(y 2).val, h2⟩ : Fin 512))
    (hc _ _ _ rfl (Nat.le_add_right _ _) (Nat.add_lt_add_left h1 q))
  rw [List.append_nil] at hg
  refine hg.trans ?_
  show D (s + (q + (y 1).val)) _ = D (s + q + (y 1).val) _
  rw [Nat.add_assoc]
  rfl

/-- A load of copy 0. -/
theorem load0 (v : View sig .tc .vmem S8x544x512 .f32) {L : Ps} (h : Holds D L) (q n : ℕ) (inb) :
    v.readCov L (Rect.unit (s := S8x544x512) ![0, q, 0] ![1, n, 512] inb).toLoadRect = RD D n (0 + q) :=
  load D v L 0 q n inb h.1 fun a b d ha _ _ => h.2 a b d ha

/-- A piece whose payload is a copy of moved rows. -/
theorem Holds.cons {L : Ps} (h : Holds D L) (s : ℕ) (inb : ∀ a, (![s, 0, 0] : Fin 3 → ℕ) a + (![1, 536, 512] : Fin 3 → ℕ) a ≤ S8x544x512.size a)
    (v : View sig .tc .vmem S8x544x512 .f32) (inb') (h1 h2) :
    Holds D ((⟨Rect.unit ![s, 0, 0] ![1, 536, 512] inb,
      shapeCast S1x536x512 (shapeCast S536x512 (v.readCov L (Rect.unit (s := S8x544x512) ![0, s, 0] ![1, 536, 512] inb').toLoadRect) h1) h2⟩ : View.Piece (Elt Ideal) S8x544x512 .f32) :: L) := by
  refine ⟨⟨fun y => ?_, h.1⟩, fun a b d ha => Formula.more_mem _ (h.2 a b d ha)⟩
  dsimp only
  rw [Formula.cast_cast_, load0 D v h]
  idx_vars y
  obtain rfl : y0 = 0 := by omega
  show D _ _ = D _ _
  congr 1
  · show 0 + s + y1.val = (s + 1 * 0) + (0 + 1 * y1.val)
    omega
  · exact Fin.ext (by show y2.val = 0 + 1 * y2.val; omega)

/-- A load of thirty-two rows from pieces of which the first seven are the moved copies. -/
theorem loadT (v : View sig .tc .vmem S8x544x512 .f32) {B : Ps} (w1 w2 w3 w4 w5 w6 w7 : Vec Ideal S1x536x512 .f32)
    (h : Holds D (⟨Rect.unit ![7, 0, 0] ![1, 536, 512] inb_S8x544x512_S1x536x512_7_0_0, w7⟩
      :: ⟨Rect.unit ![6, 0, 0] ![1, 536, 512] inb_S8x544x512_S1x536x512_6_0_0, w6⟩ :: ⟨Rect.unit ![5, 0, 0] ![1, 536, 512] inb_S8x544x512_S1x536x512_5_0_0, w5⟩
      :: ⟨Rect.unit ![4, 0, 0] ![1, 536, 512] inb_S8x544x512_S1x536x512_4_0_0, w4⟩ :: ⟨Rect.unit ![3, 0, 0] ![1, 536, 512] inb_S8x544x512_S1x536x512_3_0_0, w3⟩
      :: ⟨Rect.unit ![2, 0, 0] ![1, 536, 512] inb_S8x544x512_S1x536x512_2_0_0, w2⟩ :: ⟨Rect.unit ![1, 0, 0] ![1, 536, 512] inb_S8x544x512_S1x536x512_1_0_0, w1⟩ :: B))
    (s q : ℕ) (inb) (hq : q ≤ 504 ∨ s = 0) :
    v.readCov (⟨Rect.unit ![7, 0, 0] ![1, 536, 512] inb_S8x544x512_S1x536x512_7_0_0, w7⟩
      :: ⟨Rect.unit ![6, 0, 0] ![1, 536, 512] inb_S8x544x512_S1x536x512_6_0_0, w6⟩ :: ⟨Rect.unit ![5, 0, 0] ![1, 536, 512] inb_S8x544x512_S1x536x512_5_0_0, w5⟩
      :: ⟨Rect.unit ![4, 0, 0] ![1, 536, 512] inb_S8x544x512_S1x536x512_4_0_0, w4⟩ :: ⟨Rect.unit ![3, 0, 0] ![1, 536, 512] inb_S8x544x512_S1x536x512_3_0_0, w3⟩
      :: ⟨Rect.unit ![2, 0, 0] ![1, 536, 512] inb_S8x544x512_S1x536x512_2_0_0, w2⟩ :: ⟨Rect.unit ![1, 0, 0] ![1, 536, 512] inb_S8x544x512_S1x536x512_1_0_0, w1⟩ :: B)
      (Rect.unit (s := S8x544x512) ![s, q, 0] ![1, 32, 512] inb).toLoadRect = RD D 32 (s + q) := by
  refine load D v _ s q 32 inb h.1 fun a b d ha h1 h2 => ?_
  obtain h' | h' | h' | h' | h' | h' | h' | h' : a.val = 0 ∨ a.val = 1 ∨ a.val = 2 ∨ a.val = 3 ∨ a.val = 4 ∨ a.val = 5 ∨ a.val = 6 ∨ a.val = 7 := by omega
  · exact h.2 a b d h'
  · exact ⟨_, .tail _ (.tail _ (.tail _ (.tail _ (.tail _ (.tail _ (.head _)))))), Formula.mem_ inb_S8x544x512_S1x536x512_1_0_0 a b d h' (Nat.zero_le _) (by omega)⟩
  · exact ⟨_, .tail _ (.tail _ (.tail _ (.tail _ (.tail _ (.head _))))), Formula.mem_ inb_S8x544x512_S1x536x512_2_0_0 a b d h' (Nat.zero_le _) (by omega)⟩
  · exact ⟨_, .tail _ (.tail _ (.tail _ (.tail _ (.head _)))), Formula.mem_ inb_S8x544x512_S1x536x512_3_0_0 a b d h' (Nat.zero_le _) (by omega)⟩
  · exact ⟨_, .tail _ (.tail _ (.tail _ (.head _))), Formula.mem_ inb_S8x544x512_S1x536x512_4_0_0 a b d h' (Nat.zero_le _) (by omega)⟩
  · exact ⟨_, .tail _ (.tail _ (.head _)), Formula.mem_ inb_S8x544x512_S1x536x512_5_0_0 a b d h' (Nat.zero_le _) (by omega)⟩
  · exact ⟨_, .tail _ (.head _), Formula.mem_ inb_S8x544x512_S1x536x512_6_0_0 a b d h' (Nat.zero_le _) (by omega)⟩
  · exact ⟨_, .head _, Formula.mem_ inb_S8x544x512_S1x536x512_7_0_0 a b d h' (Nat.zero_le _) (by omega)⟩

/-! The sums that a grid point adds up over stretches of thirty-two rows, in eight groups. -/

/-- A store's payload: the products of two stretches of rows, four groups of eight added up, on top of what was there. -/
def acc (cur ld : Vec Ideal S1x32x512 .f32) (old : Vec Ideal S1x8x512 .f32) : FVec Ideal S1x8x512 .f32 :=
  let p : FVec Ideal S32x512 .f32 := mulf (shapeCast S32x512 cur shapeCasts_S1x32x512_S32x512) (shapeCast S32x512 ld shapeCasts_S1x32x512_S32x512)
  shapeCast S1x8x512 (addf (shapeCast S8x512 old shapeCasts_S1x8x512_S8x512)
    (addf (addf (addf (extractStridedSlice S8x512 ![0, 0] p slices_S32x512_o0_0_S8x512) (extractStridedSlice S8x512 ![8, 0] p slices_S32x512_o8_0_S8x512))
      (extractStridedSlice S8x512 ![16, 0] p slices_S32x512_o16_0_S8x512)) (extractStridedSlice S8x512 ![24, 0] p slices_S32x512_o24_0_S8x512)))
    shapeCasts_S8x512_S1x8x512

variable (X : ℕ → Fin 512 → EReal)

/-- What store `n` of a grid point adds. -/
def part (n : ℕ) (a : Fin 8) (q : Fin 512) : EReal :=
  D (n / 31 * 32 + a.val) q * X (n / 31 * 32 + 2 + n % 31 + a.val) q + D (n / 31 * 32 + (8 + a.val)) q * X (n / 31 * 32 + 2 + n % 31 + (8 + a.val)) q
    + D (n / 31 * 32 + (16 + a.val)) q * X (n / 31 * 32 + 2 + n % 31 + (16 + a.val)) q
    + D (n / 31 * 32 + (24 + a.val)) q * X (n / 31 * 32 + 2 + n % 31 + (24 + a.val)) q

theorem acc_at (b p : ℕ) (old : Vec Ideal S1x8x512 .f32) (n : ℕ) (hb : b = n / 31 * 32) (hp : p = n / 31 * 32 + 2 + n % 31) (a : Fin 8) (q : Fin 512) :
    acc (RD D 32 b) (RD X 32 p) old (ix3 0 a q) = old (ix3 0 a q) + part D X n a q := by
  subst hb hp
  unfold acc
  pointwise
  rfl

/-- After `n` stores every slot holds what it held and what its own stores added. -/
def After (base : Fin 31 → Fin 8 → Fin 512 → EReal) (n : ℕ) (L : List (View.Piece (Elt Ideal) S31x8x512 .f32)) : Prop :=
  ∀ j a q, View.canon L (ix3 j a q) = base j a q + ∑ i ∈ Finset.range n, if j.val = i % 31 then part D X i a q else 0

theorem After.step {base : Fin 31 → Fin 8 → Fin 512 → EReal} (n : ℕ) {L : List (View.Piece (Elt Ideal) S31x8x512 .f32)}
    (v : View sig .tc .vmem S31x8x512 .f32) (k : ℕ) (hk : k = n % 31)
    (inb : ∀ a, (![k, 0, 0] : Fin 3 → ℕ) a + (![1, 8, 512] : Fin 3 → ℕ) a ≤ S31x8x512.size a) (cur ld : Vec Ideal S1x32x512 .f32)
    (w : Vec Ideal S1x8x512 .f32) (hw : w = acc cur ld (v.readCov L (Rect.unit (s := S31x8x512) ![k, 0, 0] ![1, 8, 512] inb).toLoadRect))
    (b p : ℕ) (hb : b = n / 31 * 32) (hp : p = n / 31 * 32 + 2 + n % 31) (hc : cur = RD D 32 b) (hl : ld = RD X 32 p) (h : After D X base n L) :
    After D X base (n + 1) ((⟨Rect.unit ![k, 0, 0] ![1, 8, 512] inb, w⟩ : View.Piece (Elt Ideal) S31x8x512 .f32) :: L) := by
  intro j a q
  subst hw hc hl
  rw [Finset.sum_range_succ, ← add_assoc, ← h j a q]
  by_cases hj : j.val = k
  · rw [if_pos (hj.trans hk)]
    refine (Cert.Pieces.hit3 inb _ L j a q 0 a q (by show j.val = k + 0; omega) (Nat.zero_add _).symm (Nat.zero_add _).symm).trans ?_
    rw [acc_at D X b p _ n hb hp, View.readCov_eq_canon']
    refine congrArg (· + _) ?_
    show View.canon L _ = View.canon L _
    congr 1
    funext x
    refine Fin.ext ?_
    fin_cases x
    · show k + 1 * 0 = j.val
      omega
    · show 0 + 1 * a.val = a.val
      omega
    · show 0 + 1 * q.val = q.val
      omega
  · rw [if_neg (fun e => hj (e.trans hk.symm)), add_zero]
    exact Cert.Pieces.skip3 inb _ L j a q (by omega)

/-- The row that store `n`'s second stretch begins with. -/
def from_ (n : ℕ) : ℕ := n / 31 * 32 + 2 + n % 31

theorem inD (n : ℕ) (hn : n < 496) : ∀ a, (![0, n / 31 * 32, 0] : Fin 3 → ℕ) a + (![1, 32, 512] : Fin 3 → ℕ) a ≤ S8x544x512.size a := by
  intro a
  fin_cases a
  · show 0 + 1 ≤ 8
    omega
  · show n / 31 * 32 + 32 ≤ 544
    omega
  · show 0 + 512 ≤ 512
    omega

theorem inX (n : ℕ) (hn : n < 496) : ∀ a, (![from_ n % 8, from_ n - from_ n % 8, 0] : Fin 3 → ℕ) a + (![1, 32, 512] : Fin 3 → ℕ) a ≤ S8x544x512.size a := by
  have h : from_ n ≤ 512 := by
    unfold from_
    omega
  intro a
  fin_cases a
  · show from_ n % 8 + 1 ≤ 8
    omega
  · show from_ n - from_ n % 8 + 32 ≤ 544
    omega
  · show 0 + 512 ≤ 512
    omega

/-- A store whose two stretches are loads from the copies. -/
theorem After.next {base : Fin 31 → Fin 8 → Fin 512 → EReal} (n : ℕ) (hn : n < 496) {L : List (View.Piece (Elt Ideal) S31x8x512 .f32)}
    (v : View sig .tc .vmem S31x8x512 .f32) {vD vX : View sig .tc .vmem S8x544x512 .f32} {LD LX : Ps}
    (cD : ∀ s q inb, (q ≤ 504 ∨ s = 0) → vD.readCov LD (Rect.unit (s := S8x544x512) ![s, q, 0] ![1, 32, 512] inb).toLoadRect = RD D 32 (s + q))
    (cX : ∀ s q inb, (q ≤ 504 ∨ s = 0) → vX.readCov LX (Rect.unit (s := S8x544x512) ![s, q, 0] ![1, 32, 512] inb).toLoadRect = RD X 32 (s + q))
    (k : ℕ) (hk : k = n % 31) (inb : ∀ a, (![k, 0, 0] : Fin 3 → ℕ) a + (![1, 8, 512] : Fin 3 → ℕ) a ≤ S31x8x512.size a) (w : Vec Ideal S1x8x512 .f32)
    (hw : w = acc (vD.readCov LD (Rect.unit (s := S8x544x512) ![0, n / 31 * 32, 0] ![1, 32, 512] (inD n hn)).toLoadRect)
      (vX.readCov LX (Rect.unit (s := S8x544x512) ![from_ n % 8, from_ n - from_ n % 8, 0] ![1, 32, 512] (inX n hn)).toLoadRect)
      (v.readCov L (Rect.unit (s := S31x8x512) ![k, 0, 0] ![1, 8, 512] inb).toLoadRect)) (h : After D X base n L) :
    After D X base (n + 1) ((⟨Rect.unit ![k, 0, 0] ![1, 8, 512] inb, w⟩ : View.Piece (Elt Ideal) S31x8x512 .f32) :: L) := by
  have h' : from_ n ≤ 512 := by
    unfold from_
    omega
  exact After.step D X n v k hk inb _ _ w hw _ _ (Nat.zero_add _) (by rw [← from_]; omega) (cD _ _ _ (.inr rfl)) (cX _ _ _ (by omega)) h

/-- After the first `n` stores of a grid point that adds to what the one before left: the slots stored so far. -/
def Begun (x : Vec Ideal S31x8x512 .f32) (n : ℕ) (L : List (View.Piece (Elt Ideal) S31x8x512 .f32)) : Prop :=
  ∀ (j : Fin 31) a q, j.val < n → View.canon L (ix3 j a q) = x (ix3 j a q) + part D X j.val a q

theorem Begun.next {x : Vec Ideal S31x8x512 .f32} (n : ℕ) (hn : n < 31) {L : List (View.Piece (Elt Ideal) S31x8x512 .f32)}
    (M : Memref sig .tc .vmem S31x8x512 .f32) (hM : M.IsWhole) {vD vX : View sig .tc .vmem S8x544x512 .f32} {LD LX : Ps}
    (cD : ∀ s q inb, (q ≤ 504 ∨ s = 0) → vD.readCov LD (Rect.unit (s := S8x544x512) ![s, q, 0] ![1, 32, 512] inb).toLoadRect = RD D 32 (s + q))
    (cX : ∀ s q inb, (q ≤ 504 ∨ s = 0) → vX.readCov LX (Rect.unit (s := S8x544x512) ![s, q, 0] ![1, 32, 512] inb).toLoadRect = RD X 32 (s + q))
    (k : ℕ) (hk : k = n) (inb : ∀ a, (![k, 0, 0] : Fin 3 → ℕ) a + (![1, 8, 512] : Fin 3 → ℕ) a ≤ S31x8x512.size a) (w : Vec Ideal S1x8x512 .f32)
    (hw : w = acc (vD.readCov LD (Rect.unit (s := S8x544x512) ![0, n / 31 * 32, 0] ![1, 32, 512] (inD n (by omega))).toLoadRect)
      (vX.readCov LX (Rect.unit (s := S8x544x512) ![from_ n % 8, from_ n - from_ n % 8, 0] ![1, 32, 512] (inX n (by omega))).toLoadRect)
      (View.readAt (Elt Ideal) M.view (Rect.unit (s := S31x8x512) ![k, 0, 0] ![1, 8, 512] inb).toLoadRect (hM.unread x))) (h : Begun D X x n L) :
    Begun D X x (n + 1) ((⟨Rect.unit ![k, 0, 0] ![1, 8, 512] inb, w⟩ : View.Piece (Elt Ideal) S31x8x512 .f32) :: L) := by
  have h' : from_ n ≤ 512 := by
    unfold from_
    omega
  intro j a q hj
  subst hk hw
  by_cases e : j.val = k
  · refine (Cert.Pieces.hit3 inb _ L j a q 0 a q (by show j.val = k + 0; omega) (Nat.zero_add _).symm (Nat.zero_add _).symm).trans ?_
    rw [cD _ _ _ (.inr rfl), cX _ _ _ (by omega), acc_at D X _ _ _ k (Nat.zero_add _) (by rw [← from_]; omega), e]
    refine congrArg (· + _) ?_
    refine (congrFun (hM.read_unread x) _).trans ?_
    congr 1
    funext y
    refine Fin.ext ?_
    fin_cases y
    · show k + 1 * 0 = j.val
      omega
    · show 0 + 1 * a.val = a.val
      omega
    · show 0 + 1 * q.val = q.val
      omega
  · exact (Cert.Pieces.skip3 inb _ L j a q (by omega)).trans (h j a q (by omega))

theorem Begun.after {x : Vec Ideal S31x8x512 .f32} {L : List (View.Piece (Elt Ideal) S31x8x512 .f32)} (h : Begun D X x 31 L) :
    After D X (fun j a q => x (ix3 j a q)) 31 L := by
  intro j a q
  rw [h j a q j.isLt, Finset.sum_range fun i => if j.val = i % 31 then part D X i a q else 0]
  refine congrArg (_ + ·) ?_
  rw [Finset.sum_eq_single j (fun y _ hy => if_neg fun e => hy (Fin.ext (by omega))) (fun h => absurd (Finset.mem_univ _) h)]
  exact (if_pos (by omega)).symm

/-- Slots that hold zeros. -/
theorem After.zeros (inb) (w : Vec Ideal S31x8x512 .f32) (hw : ∀ y, w y = 0) :
    After D X (fun _ _ _ => 0) 0 [(⟨Rect.unit (s := S31x8x512) ![0, 0, 0] ![31, 8, 512] inb, w⟩ : View.Piece (Elt Ideal) S31x8x512 .f32)] := by
  intro j a q
  refine (Cert.Pieces.hit3 inb _ [] j a q j a q (Nat.zero_add _).symm (Nat.zero_add _).symm (Nat.zero_add _).symm).trans ?_
  rw [hw, Finset.sum_range_zero, add_zero]

/-- A slot's eight rows added up. -/
def row (x : Vec Ideal S1x8x512 .f32) : FVec Ideal S1x512 .f32 :=
  shapeCast S1x512 (multiReduction .add [0] S512 (shapeCast S8x512 x shapeCasts_S1x8x512_S8x512) 0x00000000#32 reduces_S8x512_S512 (.inl rfl) rfl : FVec Ideal S512 .f32) shapeCasts_S512_S1x512

theorem row_at (x : Vec Ideal S1x8x512 .f32) (q : Fin 512) : row x (ix2 0 q) = ∑ a : Fin 8, x (ix3 0 a q) := by
  unfold row
  pointwise

/-- The rows of the result. -/
def Sums (L : List (View.Piece (Elt Ideal) S31x8x512 .f32)) : S31x512.Idx → Elt Ideal .f32 :=
  fun y => (∑ a : Fin 8, View.canon L (ix3 (y 0) a (y 1)) : EReal)

theorem Sums.cons (L : List (View.Piece (Elt Ideal) S31x8x512 .f32)) {R : List (View.Piece (Elt Ideal) S31x512 .f32)} (k : ℕ)
    (inb : ∀ a, (![k, 0] : Fin 2 → ℕ) a + (![1, 512] : Fin 2 → ℕ) a ≤ S31x512.size a)
    (inb' : ∀ a, (![k, 0, 0] : Fin 3 → ℕ) a + (![1, 8, 512] : Fin 3 → ℕ) a ≤ S31x8x512.size a)
    (v : View sig .tc .vmem S31x8x512 .f32) (w : Vec Ideal S1x512 .f32)
    (hw : w = row (v.readCov L (Rect.unit (s := S31x8x512) ![k, 0, 0] ![1, 8, 512] inb').toLoadRect)) (h : View.PiecesOf (Sums L) R) :
    View.PiecesOf (Sums L) ((⟨Rect.unit ![k, 0] ![1, 512] inb, w⟩ : View.Piece (Elt Ideal) S31x512 .f32) :: R) := by
  refine ⟨fun y => ?_, h⟩
  subst hw
  idx_vars y
  obtain rfl : y0 = 0 := Subsingleton.elim _ _
  refine (row_at _ y1).trans (Finset.sum_congr rfl fun a _ => ?_)
  rw [View.readCov_eq_canon']
  show View.canon L _ = View.canon L _
  congr 1
  funext x
  refine Fin.ext ?_
  fin_cases x
  · rfl
  · show 0 + 1 * a.val = a.val
    omega
  · rfl

end Cert.ConvIdeal.Eight

end
-- ==== Proof.ConvLeft.lean ====
/- The gated rows that a grid point of the convolution's backward part lays out, and what it adds to the weights' cotangent. -/
module

public import proofs.«01_k».proof.Proof.ConvCopies8
public import proofs.«01_k».proof.Proof.ConvHalves

@[expose] public section

set_option maxRecDepth 16384

noncomputable section

namespace Cert.ConvIdeal.Formula

open Cert.ConvIdeal Cert.ConvIdeal.Gen Idealize.ShloMosaic Idealize.ShloMosaic.TcCoe Idealize.SL.Sem Cert.ConvBwd
open Idealize.ShloMosaic.StableHlo

variable (m : (ℓ : Loc nD τ sig) → Buf (Elt Ideal) ℓ) (c : Dev nD)

theorem idx' : ∀ t : Fin cfg0.N, win0_4.index t = ![t.val * 16 - 1, 0] ∧ win0_5.index t = ![t.val * 16 - 1, 1] ∧ win0_8.index t = ![0, 0] :=
  (by decide +kernel : ∀ t : Fin grid0.N, _)

/-- A sequence's first grid point, as the kernel tests for it. -/
theorem first : ∀ t : Fin cfg0.N, IntOp.cmpi CmpIPredicate.eq (BitVec.ofNat 32 (grid0.coords t 1).val) 0#32 = if t.val % 8 = 0 then 1#1 else 0#1 :=
  (by decide +kernel : ∀ t : Fin grid0.N, _)

/-- Row `r` of the 32 rows before a grid point's block. -/
def before_ (t : Fin cfg0.N) (r : Fin 32) : Fin 8192 := ⟨(t.val * 16 - 1) * 32 + r.val, by have h := lt16 t; omega⟩

theorem before_val (t : Fin cfg0.N) (r : Fin 32) : (before_ t r).val = (t.val * 16 - 1) * 32 + r.val := rfl

theorem blk4 (t : Fin cfg0.N) (r : Fin 32) (k : Fin 512) :
    (iblk m c 4 t : Vec Ideal S32x512 .f32) (ix2 r k) = z m c (before_ t r) ⟨k.val, by omega⟩ := by
  show _ = V m c main_arg0 _
  blk_ext! [iblk, idx' t, before_val]

theorem blk5 (t : Fin cfg0.N) (r : Fin 32) (k : Fin 512) :
    (iblk m c 5 t : Vec Ideal S32x512 .f32) (ix2 r k) = z m c (before_ t r) ⟨512 + k.val, by omega⟩ := by
  show _ = V m c main_arg0 _
  blk_ext! [iblk, idx' t, before_val]

/-- Row `p` of the gated rows a grid point lays out: thirty-two rows of what came before, then its own. -/
def A0 (t : Fin cfg0.N) (p : ℕ) (k : Fin 512) : EReal :=
  ConvRows.padded (z m c) ⟨t.val / 8, by have h := lt16 t; omega⟩ (t.val % 8 * 512 + p - 2) k

theorem glu_eq (i : Fin 8192) (k : Fin 512) :
    ConvRows.glu (z m c) i k = z m c i ⟨k.val, by omega⟩ * Gate.sig (z m c i ⟨512 + k.val, by omega⟩) := by
  rw [Gate.sig_eq, Gate.bits_one, ConvRows.glu]

theorem left_own (t : Fin cfg0.N) (p k : Fin 512) :
    k0_pay40 (F := Ideal) (iblk m c 2 t) (k0_pay38 (iblk m c 3 t)) k0_pay39 (ix3 0 p k) = A0 m c t (32 + p.val) k := by
  have h := lt16 t
  rw [A0, ConvRows.padded_of _ (by omega), dif_neg (by omega), glu_eq]
  have e : (⟨t.val / 8 * 4096 + (t.val % 8 * 512 + (32 + p.val) - 2 - 30), by omega⟩ : Fin 8192) = at_ t p :=
    Fin.ext (by show t.val / 8 * 4096 + (t.val % 8 * 512 + (32 + p.val) - 2 - 30) = t.val * 512 + p.val; omega)
  rw [e]
  open_payloads
  pointwise
  simp only [blk2, blk3]
  rfl

theorem left_prior (t : Fin cfg0.N) (p : Fin 32) (k : Fin 512) :
    k0_pay37 (F := Ideal) (grid0.coords t) (iblk m c 4 t) (iblk m c 5 t) (ix3 0 p k) = A0 m c t p.val k := by
  have h := lt16 t
  have e2 : k0_pay37 (F := Ideal) (grid0.coords t) (iblk m c 4 t) (iblk m c 5 t) (ix3 0 p k)
      = Scalar.select (IntOp.cmpi CmpIPredicate.eq (BitVec.ofNat 32 (grid0.coords t 1).val) 0#32) (Ideal.ofBits .f32 0x00000000#32)
        (z m c (before_ t p) ⟨k.val, by omega⟩ * Gate.sig (z m c (before_ t p) ⟨512 + k.val, by omega⟩)) := by
    open_payloads
    pointwise
    simp only [blk4, blk5]
    rfl
  rw [e2, first, A0, ConvRows.padded_of _ (by omega)]
  by_cases h0 : t.val % 8 = 0
  · rw [if_pos h0, dif_pos (by omega)]
    exact Gate.bits_zero
  · rw [if_neg h0, dif_neg (by omega), glu_eq]
    have e : (⟨t.val / 8 * 4096 + (t.val % 8 * 512 + p.val - 2 - 30), by omega⟩ : Fin 8192) = before_ t p :=
      Fin.ext (by show t.val / 8 * 4096 + (t.val % 8 * 512 + p.val - 2 - 30) = (t.val * 16 - 1) * 32 + p.val; omega)
    rw [e]
    rfl

/-- The grid point's gated rows as they are laid out first. -/
theorem left_base (t : Fin cfg0.N) : Eight.Holds (A0 m c t)
    [⟨Rect.unit ![0, 32, 0] ![1, 512, 512] inb_S8x544x512_S1x512x512_0_32_0, k0_pay40 (iblk m c 2 t) (k0_pay38 (iblk m c 3 t)) k0_pay39⟩,
      ⟨Rect.unit ![0, 0, 0] ![1, 32, 512] inb_S8x544x512_S1x32x512_0_0_0, k0_pay37 (grid0.coords t) (iblk m c 4 t) (iblk m c 5 t)⟩] := by
  refine ⟨⟨fun y => ?_, fun y => ?_, trivial⟩, fun a b d ha => ?_⟩
  · idx_vars y
    obtain rfl : y0 = 0 := by omega
    refine (left_own m c t y1 y2).trans ?_
    show A0 m c t _ _ = A0 m c t _ _
    congr 1
    · show 32 + y1.val = (0 + 1 * 0) + (32 + 1 * y1.val)
      omega
    · exact Fin.ext (by show y2.val = 0 + 1 * y2.val; omega)
  · idx_vars y
    obtain rfl : y0 = 0 := by omega
    refine (left_prior m c t y1 y2).trans ?_
    show A0 m c t _ _ = A0 m c t _ _
    congr 1
    · show y1.val = (0 + 1 * 0) + (0 + 1 * y1.val)
      omega
    · exact Fin.ext (by show y2.val = 0 + 1 * y2.val; omega)
  · by_cases h : b.val < 32
    · exact ⟨_, .tail _ (.head _), mem_ inb_S8x544x512_S1x32x512_0_0_0 a b d ha (Nat.zero_le _) (by omega)⟩
    · exact ⟨_, .head _, mem_ inb_S8x544x512_S1x512x512_0_32_0 a b d ha (by omega) (by omega)⟩

/-- The cotangents' rows likewise. -/
theorem right_base (t : Fin cfg0.N) : Eight.Holds (D0 m c t) (base_ m c t) := ⟨base_G m c t, fun a b d ha => base_mem m c t a b d ha⟩

/-- What a grid point adds to the weights' cotangent. -/
def wterm (t : Fin cfg0.N) (j : Fin 31) (k : Fin 512) : EReal := ∑ r : Fin 512, D0 m c t r.val k * A0 m c t (r.val + 2 + j.val) k

/-- The stores of a grid point, summed over a slot's eight rows. -/
theorem parts_sum (t : Fin cfg0.N) (j : Fin 31) (q : Fin 512) :
    ∑ a : Fin 8, ∑ i ∈ Finset.range 496, (if j.val = i % 31 then Eight.part (D0 m c t) (A0 m c t) i a q else 0) = wterm m c t j q := by
  have e1 : ∀ a : Fin 8, ∑ i ∈ Finset.range 496, (if j.val = i % 31 then Eight.part (D0 m c t) (A0 m c t) i a q else 0)
      = ∑ b : Fin 16, Eight.part (D0 m c t) (A0 m c t) (b.val * 31 + j.val) a q := fun a => by
    rw [Finset.sum_range fun i => if j.val = i % 31 then Eight.part (D0 m c t) (A0 m c t) i a q else 0]
    rw [← sum_split 16 31 fun i => if j.val = i % 31 then Eight.part (D0 m c t) (A0 m c t) i a q else 0]
    refine Finset.sum_congr rfl fun b _ => ?_
    rw [Finset.sum_eq_single j (fun x _ hx => if_neg fun e => hx (Fin.ext (by omega))) (fun h => absurd (Finset.mem_univ _) h)]
    exact if_pos (by omega)
  rw [Finset.sum_congr rfl fun a _ => e1 a, Finset.sum_comm, wterm]
  have e2 := sum_split 16 32 fun r => D0 m c t r q * A0 m c t (r + 2 + j.val) q
  refine Eq.trans (Finset.sum_congr rfl fun b _ => ?_) e2
  have e3 := sum_split 4 8 fun r => D0 m c t (b.val * 32 + r) q * A0 m c t (b.val * 32 + r + 2 + j.val) q
  refine Eq.trans ?_ e3
  rw [Finset.sum_comm]
  refine Finset.sum_congr rfl fun a _ => ?_
  rw [Fin.sum_univ_four, Eight.part]
  have d1 : (b.val * 31 + j.val) / 31 = b.val := by omega
  have d2 : (b.val * 31 + j.val) % 31 = j.val := by omega
  rw [d1, d2]
  have x : ∀ n : ℕ, b.val * 32 + 2 + j.val + n = b.val * 32 + n + 2 + j.val := fun n => by omega
  simp only [x]
  show _ = _ * A0 m c t (b.val * 32 + (0 * 8 + a.val) + 2 + j.val) q + _ + _ + _
  rw [Nat.zero_mul, Nat.zero_add]
  show D0 m c t _ q * _ + _ + _ + _ = D0 m c t (b.val * 32 + (0 * 8 + a.val)) q * _ + _ + _ + _
  rw [Nat.zero_mul, Nat.zero_add]
  rfl

end Cert.ConvIdeal.Formula

end
-- ==== Proof.ConvDwA.lean ====
/- What the convolution's backward part adds to the weights' cotangent at its first grid point. -/
module

public import proofs.«01_k».proof.Proof.ConvRunA
public import proofs.«01_k».proof.Proof.ConvLeft

@[expose] public section

set_option maxRecDepth 1000000

noncomputable section

namespace Cert.ConvIdeal.Formula

open Cert.ConvIdeal Cert.ConvIdeal.Gen Idealize.ShloMosaic Idealize.ShloMosaic.TcCoe Idealize.SL.Sem Cert.ConvBwd
open Idealize.ShloMosaic.StableHlo Cert.Pieces

variable (m : (ℓ : Loc nD τ sig) → Buf (Elt Ideal) ℓ) (c : Dev nD)

theorem rows_A (t : Fin cfg0.N) (h0) (h1) : Eight.Holds (A0 m c t) (runA m c t h0 h1).2.2.2.2.1 := by
  unfold runA
  frame_open
  frame_out
  try simp only [read_unread_whole]
  iterate 7 refine Eight.Holds.cons _ ?_ _ _ _ _ _ _
  exact left_base m c t

theorem cots_A (t : Fin cfg0.N) (h0) (h1) : Eight.Holds (D0 m c t) (runA m c t h0 h1).2.2.2.2.2.1 := by
  unfold runA
  frame_open
  frame_out
  try simp only [read_unread_whole]
  iterate 7 refine Eight.Holds.cons _ ?_ _ _ _ _ _ _
  exact right_base m c t

set_option maxHeartbeats 0 in
theorem adds_A (t : Fin cfg0.N) (h0) (h1) : Eight.Holds (A0 m c t) (runA m c t h0 h1).2.2.2.2.1 → Eight.Holds (D0 m c t) (runA m c t h0 h1).2.2.2.2.2.1 →
    Eight.After (D0 m c t) (A0 m c t) (fun _ _ _ => 0) 496 (runA m c t h0 h1).2.2.2.1 := by
  unfold runA
  frame_open
  intro hA hD
  have cD := fun s q inb hq => Eight.loadT (D0 m c t) scM0_1.view _ _ _ _ _ _ _ hD s q inb hq
  have cA := fun s q inb hq => Eight.loadT (A0 m c t) scM0_0.view _ _ _ _ _ _ _ hA s q inb hq
  clear hA hD
  iterate 496 refine Eight.After.next _ _ _ (by decide) scM0_3.view cD cA _ rfl _ _ rfl ?_
  refine Eight.After.zeros _ _ _ _ fun y => ?_
  open_payloads
  exact Gate.bits_zero

theorem addA (t : Fin cfg0.N) (h0 : t.val % 16 = 0) (h1 : ¬t.val % 16 = 15) (j : Fin 31) (a : Fin 8) (q : Fin 512) :
    (outsAt0 m c t.val t.isLt).2.2.2 (ix3 j a q)
      = 0 + ∑ i ∈ Finset.range 496, if j.val = i % 31 then Eight.part (D0 m c t) (A0 m c t) i a q else 0 := by
  rw [outsAt0_A m c t h0 h1]
  dsimp only
  rw [sout0_A_3, View.read_writes_junk_eq_canon]
  exact adds_A m c t _ _ (rows_A m c t _ _) (cots_A m c t _ _) j a q

end Cert.ConvIdeal.Formula

end
-- ==== Proof.ConvRunB.lean ====
/- The convolution's backward part at its middle grid points: the gated rows' cotangents in sixteen pieces, and the two halves made of them. -/
module

public import proofs.«01_k».proof.Proof.ConvHalves
public import proofs.«01_k».proof.Proof.Gen.ConvIdeal.Frame

@[expose] public section

set_option maxRecDepth 16384

noncomputable section

namespace Cert.ConvIdeal.Formula

open Cert.ConvIdeal Cert.ConvIdeal.Gen Idealize.ShloMosaic Idealize.ShloMosaic.TcCoe Idealize.SL.Sem Cert.ConvBwd
open Idealize.ShloMosaic.StableHlo Cert.Pieces Cert.MixFwdMath

variable (m : (ℓ : Loc nD τ sig) → Buf (Elt Ideal) ℓ) (c : Dev nD)

abbrev runB (t : Fin cfg0.N) (h0 : ¬cond0_0 (grid0.coords t)) (h1 : ¬cond0_1 (grid0.coords t)) (x9 : Vec Ideal S1x512 .f32) (x3 : Vec Ideal S31x8x512 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) (iblk m c 4 t) (iblk m c 5 t) (iblk m c 6 t) x9 x3

theorem da0_pieces_B (t : Fin cfg0.N) (h0) (h1) (x9 : Vec Ideal S1x512 .f32) (x3 : Vec Ideal S31x8x512 .f32) : View.PiecesOf (G1 m c t) (runB m c t h0 h1 x9 x3).2.2.2.2.2.2.1 := by
  unfold runB
  frame_open
  frame_out
  try simp only [read_unread_whole]
  simp (disch := decide) only [k0_pay50, k0_pay51, k0_pay52, k0_pay53, k0_pay54, k0_pay55, k0_pay56, cast_cast_, ld1, ld2, ld3, ld4, ld5, ld6, ld7, ldT]
  refine ⟨?_, ?_, ?_, ?_, ?_, ?_, ?_, ?_, ?_, ?_, ?_, ?_, ?_, ?_, ?_, ?_, trivial⟩
  all_goals
    intro y
    obtain ⟨i, k, rfl⟩ : ∃ (i : Fin 32) (k : Fin 512), y = ix2 i k := ⟨y 0, y 1, by idx_vars y⟩
    refine Eq.trans ?_ (G1_emb m c t _ (by decide) i k).symm
    open_payloads
    pointwise
    simp only [blk6, RD_at, onto, zero_add, Nat.reduceAdd, Nat.reduceSub]
    rfl

theorem da0_canon_B (t : Fin cfg0.N) (h0) (h1) (x9 : Vec Ideal S1x512 .f32) (x3 : Vec Ideal S31x8x512 .f32) : View.canon (runB m c t h0 h1 x9 x3).2.2.2.2.2.2.1 = G1 m c t := by
  funext y
  have h := View.canon_append_of_piecesOf (G1 m c t) [] _ (da0_pieces_B m c t h0 h1 x9 x3) y
    (View.cover_of_tiledL (runB m c t h0 h1 x9 x3).2.2.2.2.2.2.1 S32x512.size (by sl_kernel_rfl) y)
  rwa [List.append_nil] at h

theorem dz_pieces_B (t : Fin cfg0.N) (h0) (h1) (x9 : Vec Ideal S1x512 .f32) (x3 : Vec Ideal S31x8x512 .f32) : View.PiecesOf (Gz m c t) (runB m c t h0 h1 x9 x3).1 := by
  unfold runB
  frame_open
  rw [da_load m c t _ _ ?h]
  case h => exact da0_canon_B m c t h0 h1 x9 x3
  frame_out
  try simp only [read_unread_whole]
  refine ⟨fun y => ?_, fun y => ?_, trivial⟩
  · obtain ⟨r, k, rfl⟩ : ∃ (r k : Fin 512), y = ix2 r k := ⟨y 0, y 1, by idx_vars y⟩
    refine Eq.trans ?_ (Gz_right m c t (by decide) r k).symm
    open_payloads
    pointwise
    simp only [G1_at, blk2, blk3]
    rw [right, Gate.bits_one]
    rfl
  · obtain ⟨r, k, rfl⟩ : ∃ (r k : Fin 512), y = ix2 r k := ⟨y 0, y 1, by idx_vars y⟩
    refine Eq.trans ?_ (Gz_left m c t (by decide) r k).symm
    open_payloads
    pointwise
    simp only [G1_at, blk2, blk3]
    rfl

theorem dzB (t : Fin cfg0.N) (h0 : ¬t.val % 16 = 0) (h1 : ¬t.val % 16 = 15) : (outsAt0 m c t.val t.isLt).1 = Gz m c t := by
  rw [outsAt0_B m c t h0 h1]
  dsimp only
  rw [out0_B_7, View.read_writes_junk_eq_canon]
  funext y
  have h := View.canon_append_of_piecesOf (Gz m c t) [] _ (dz_pieces_B m c t (fun h => h0 ((hcond0_0 t).mp h)) (fun h => h1 ((hcond0_1 t).mp h)) (outsAt0 m c (t.val - 1) (by omega)).2.2.1 (outsAt0 m c (t.val - 1) (by omega)).2.2.2) y
    (cover0_B_7 c _ _ _ _ _ _ _ _ _ _ _ _ _ _ _ _ _ _ _ _ _ _ _ _ _ _ _ _ _ _ _ _ _ _ _ _ _ _ _ _ y)
  rwa [List.append_nil] at h

theorem dbB (t : Fin cfg0.N) (h0 : ¬t.val % 16 = 0) (h1 : ¬t.val % 16 = 15) (k : Fin 512) :
    (outsAt0 m c t.val t.isLt).2.2.1 (ix2 0 k) = (outsAt0 m c (t.val - 1) (by omega)).2.2.1 (ix2 0 k) + term m c t k := by
  rw [term, outsAt0_B m c t h0 h1]
  frame_out
  open_payloads
  pointwise
  simp only [blk0]

end Cert.ConvIdeal.Formula

end
-- ==== Proof.ConvDwB.lean ====
/- What the convolution's backward part adds to the weights' cotangent at its middle grid points. -/
module

public import proofs.«01_k».proof.Proof.ConvRunB
public import proofs.«01_k».proof.Proof.ConvLeft

@[expose] public section

set_option maxRecDepth 1000000

noncomputable section

namespace Cert.ConvIdeal.Formula

open Cert.ConvIdeal Cert.ConvIdeal.Gen Idealize.ShloMosaic Idealize.ShloMosaic.TcCoe Idealize.SL.Sem Cert.ConvBwd
open Idealize.ShloMosaic.StableHlo Cert.Pieces

variable (m : (ℓ : Loc nD τ sig) → Buf (Elt Ideal) ℓ) (c : Dev nD)

theorem rows_B (t : Fin cfg0.N) (h0) (h1) (x9 : Vec Ideal S1x512 .f32) (x3 : Vec Ideal S31x8x512 .f32) : Eight.Holds (A0 m c t) (runB m c t h0 h1 x9 x3).2.2.2.2.1 := by
  unfold runB
  frame_open
  frame_out
  try simp only [read_unread_whole]
  iterate 7 refine Eight.Holds.cons _ ?_ _ _ _ _ _ _
  exact left_base m c t

theorem cots_B (t : Fin cfg0.N) (h0) (h1) (x9 : Vec Ideal S1x512 .f32) (x3 : Vec Ideal S31x8x512 .f32) : Eight.Holds (D0 m c t) (runB m c t h0 h1 x9 x3).2.2.2.2.2.1 := by
  unfold runB
  frame_open
  frame_out
  try simp only [read_unread_whole]
  iterate 7 refine Eight.Holds.cons _ ?_ _ _ _ _ _ _
  exact right_base m c t

set_option maxHeartbeats 0 in
theorem adds_B (t : Fin cfg0.N) (h0) (h1) (x9 : Vec Ideal S1x512 .f32) (x3 : Vec Ideal S31x8x512 .f32) : Eight.Holds (A0 m c t) (runB m c t h0 h1 x9 x3).2.2.2.2.1 → Eight.Holds (D0 m c t) (runB m c t h0 h1 x9 x3).2.2.2.2.2.1 →
    Eight.After (D0 m c t) (A0 m c t) (fun j a q => x3 (ix3 j a q)) 496 (runB m c t h0 h1 x9 x3).2.2.2.1 := by
  unfold runB
  frame_open
  intro hA hD
  have cD := fun s q inb hq => Eight.loadT (D0 m c t) scM0_1.view _ _ _ _ _ _ _ hD s q inb hq
  have cA := fun s q inb hq => Eight.loadT (A0 m c t) scM0_0.view _ _ _ _ _ _ _ hA s q inb hq
  clear hA hD
  iterate 465 refine Eight.After.next _ _ _ (by decide) scM0_3.view cD cA _ rfl _ _ rfl ?_
  refine Eight.Begun.after _ _ ?_
  iterate 31 refine Eight.Begun.next _ _ _ (by decide) scM0_3 (Memref.isWhole_whole _) cD cA _ rfl _ _ rfl ?_
  intro j a q h
  exact absurd h (Nat.not_lt_zero _)

theorem addB (t : Fin cfg0.N) (h0 : ¬t.val % 16 = 0) (h1 : ¬t.val % 16 = 15) (j : Fin 31) (a : Fin 8) (q : Fin 512) :
    (outsAt0 m c t.val t.isLt).2.2.2 (ix3 j a q) = (outsAt0 m c (t.val - 1) (by omega)).2.2.2 (ix3 j a q)
      + ∑ i ∈ Finset.range 496, if j.val = i % 31 then Eight.part (D0 m c t) (A0 m c t) i a q else 0 := by
  rw [outsAt0_B m c t h0 h1]
  dsimp only
  rw [sout0_B_3, View.read_writes_junk_eq_canon]
  exact adds_B m c t _ _ _ _ (rows_B m c t _ _ _ _) (cots_B m c t _ _ _ _) j a q

end Cert.ConvIdeal.Formula

end
-- ==== Proof.ConvRunC.lean ====
/- The convolution's backward part at its last grid point: the gated rows' cotangents in sixteen pieces, and the two halves made of them. -/
module

public import proofs.«01_k».proof.Proof.ConvHalves
public import proofs.«01_k».proof.Proof.Gen.ConvIdeal.Frame

@[expose] public section

set_option maxRecDepth 16384

noncomputable section

namespace Cert.ConvIdeal.Formula

open Cert.ConvIdeal Cert.ConvIdeal.Gen Idealize.ShloMosaic Idealize.ShloMosaic.TcCoe Idealize.SL.Sem Cert.ConvBwd
open Idealize.ShloMosaic.StableHlo Cert.Pieces Cert.MixFwdMath

variable (m : (ℓ : Loc nD τ sig) → Buf (Elt Ideal) ℓ) (c : Dev nD)

abbrev runC (t : Fin cfg0.N) (h0 : ¬cond0_0 (grid0.coords t)) (h1 : cond0_1 (grid0.coords t)) (x9 : Vec Ideal S1x512 .f32) (x3 : Vec Ideal S31x8x512 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    scM0_0 (Memref.isWhole_whole _) scM0_1 (Memref.isWhole_whole _) scM0_2 (Memref.isWhole_whole _) scM0_3 (Memref.isWhole_whole _) h0 h1 (iblk m c 0 t) (iblk m c 1 t) (iblk m c 2 t) (iblk m c 3 t) (iblk m c 4 t) (iblk m c 5 t) (iblk m c 6 t) x9 x3

theorem da0_pieces_C (t : Fin cfg0.N) (h0) (h1) (x9 : Vec Ideal S1x512 .f32) (x3 : Vec Ideal S31x8x512 .f32) : View.PiecesOf (G1 m c t) (runC m c t h0 h1 x9 x3).2.2.2.2.2.2.1 := by
  unfold runC
  frame_open
  frame_out
  try simp only [read_unread_whole]
  simp (disch := decide) only [k0_pay50, k0_pay51, k0_pay52, k0_pay53, k0_pay54, k0_pay55, k0_pay56, cast_cast_, ld1, ld2, ld3, ld4, ld5, ld6, ld7, ldT]
  refine ⟨?_, ?_, ?_, ?_, ?_, ?_, ?_, ?_, ?_, ?_, ?_, ?_, ?_, ?_, ?_, ?_, trivial⟩
  all_goals
    intro y
    obtain ⟨i, k, rfl⟩ : ∃ (i : Fin 32) (k : Fin 512), y = ix2 i k := ⟨y 0, y 1, by idx_vars y⟩
    refine Eq.trans ?_ (G1_emb m c t _ (by decide) i k).symm
    open_payloads
    pointwise
    simp only [blk6, RD_at, onto, zero_add, Nat.reduceAdd, Nat.reduceSub]
    rfl

theorem da0_canon_C (t : Fin cfg0.N) (h0) (h1) (x9 : Vec Ideal S1x512 .f32) (x3 : Vec Ideal S31x8x512 .f32) : View.canon (runC m c t h0 h1 x9 x3).2.2.2.2.2.2.1 = G1 m c t := by
  funext y
  have h := View.canon_append_of_piecesOf (G1 m c t) [] _ (da0_pieces_C m c t h0 h1 x9 x3) y
    (View.cover_of_tiledL (runC m c t h0 h1 x9 x3).2.2.2.2.2.2.1 S32x512.size (by sl_kernel_rfl) y)
  rwa [List.append_nil] at h

theorem dz_pieces_C (t : Fin cfg0.N) (h0) (h1) (x9 : Vec Ideal S1x512 .f32) (x3 : Vec Ideal S31x8x512 .f32) : View.PiecesOf (Gz m c t) (runC m c t h0 h1 x9 x3).1 := by
  unfold runC
  frame_open
  rw [da_load m c t _ _ ?h]
  case h => exact da0_canon_C m c t h0 h1 x9 x3
  frame_out
  try simp only [read_unread_whole]
  refine ⟨fun y => ?_, fun y => ?_, trivial⟩
  · obtain ⟨r, k, rfl⟩ : ∃ (r k : Fin 512), y = ix2 r k := ⟨y 0, y 1, by idx_vars y⟩
    refine Eq.trans ?_ (Gz_right m c t (by decide) r k).symm
    open_payloads
    pointwise
    simp only [G1_at, blk2, blk3]
    rw [right, Gate.bits_one]
    rfl
  · obtain ⟨r, k, rfl⟩ : ∃ (r k : Fin 512), y = ix2 r k := ⟨y 0, y 1, by idx_vars y⟩
    refine Eq.trans ?_ (Gz_left m c t (by decide) r k).symm
    open_payloads
    pointwise
    simp only [G1_at, blk2, blk3]
    rfl

theorem dzC (t : Fin cfg0.N) (h0 : ¬t.val % 16 = 0) (h1 : t.val % 16 = 15) : (outsAt0 m c t.val t.isLt).1 = Gz m c t := by
  rw [outsAt0_C m c t h0 h1]
  dsimp only
  rw [out0_C_7, View.read_writes_junk_eq_canon]
  funext y
  have h := View.canon_append_of_piecesOf (Gz m c t) [] _ (dz_pieces_C m c t (fun h => h0 ((hcond0_0 t).mp h)) ((hcond0_1 t).mpr h1) (outsAt0 m c (t.val - 1) (by omega)).2.2.1 (outsAt0 m c (t.val - 1) (by omega)).2.2.2) y
    (cover0_C_7 c _ _ _ _ _ _ _ _ _ _ _ _ _ _ _ _ _ _ _ _ _ _ _ _ _ _ _ _ _ _ _ _ _ _ _ _ _ _ _ _ y)
  rwa [List.append_nil] at h

theorem dbC (t : Fin cfg0.N) (h0 : ¬t.val % 16 = 0) (h1 : t.val % 16 = 15) (k : Fin 512) :
    (outsAt0 m c t.val t.isLt).2.2.1 (ix2 0 k) = (outsAt0 m c (t.val - 1) (by omega)).2.2.1 (ix2 0 k) + term m c t k := by
  rw [term, outsAt0_C m c t h0 h1]
  frame_out
  open_payloads
  pointwise
  simp only [blk0]

end Cert.ConvIdeal.Formula

end
-- ==== Proof.ConvDwC.lean ====
/- What the convolution's backward part adds to the weights' cotangent at its last grid point. -/
module

public import proofs.«01_k».proof.Proof.ConvRunC
public import proofs.«01_k».proof.Proof.ConvLeft

@[expose] public section

set_option maxRecDepth 1000000

noncomputable section

namespace Cert.ConvIdeal.Formula

open Cert.ConvIdeal Cert.ConvIdeal.Gen Idealize.ShloMosaic Idealize.ShloMosaic.TcCoe Idealize.SL.Sem Cert.ConvBwd
open Idealize.ShloMosaic.StableHlo Cert.Pieces

variable (m : (ℓ : Loc nD τ sig) → Buf (Elt Ideal) ℓ) (c : Dev nD)

theorem rows_C (t : Fin cfg0.N) (h0) (h1) (x9 : Vec Ideal S1x512 .f32) (x3 : Vec Ideal S31x8x512 .f32) : Eight.Holds (A0 m c t) (runC m c t h0 h1 x9 x3).2.2.2.2.1 := by
  unfold runC
  frame_open
  frame_out
  try simp only [read_unread_whole]
  iterate 7 refine Eight.Holds.cons _ ?_ _ _ _ _ _ _
  exact left_base m c t

theorem cots_C (t : Fin cfg0.N) (h0) (h1) (x9 : Vec Ideal S1x512 .f32) (x3 : Vec Ideal S31x8x512 .f32) : Eight.Holds (D0 m c t) (runC m c t h0 h1 x9 x3).2.2.2.2.2.1 := by
  unfold runC
  frame_open
  frame_out
  try simp only [read_unread_whole]
  iterate 7 refine Eight.Holds.cons _ ?_ _ _ _ _ _ _
  exact right_base m c t

set_option maxHeartbeats 0 in
theorem adds_C (t : Fin cfg0.N) (h0) (h1) (x9 : Vec Ideal S1x512 .f32) (x3 : Vec Ideal S31x8x512 .f32) : Eight.Holds (A0 m c t) (runC m c t h0 h1 x9 x3).2.2.2.2.1 → Eight.Holds (D0 m c t) (runC m c t h0 h1 x9 x3).2.2.2.2.2.1 →
    Eight.After (D0 m c t) (A0 m c t) (fun j a q => x3 (ix3 j a q)) 496 (runC m c t h0 h1 x9 x3).2.2.2.1 := by
  unfold runC
  frame_open
  intro hA hD
  have cD := fun s q inb hq => Eight.loadT (D0 m c t) scM0_1.view _ _ _ _ _ _ _ hD s q inb hq
  have cA := fun s q inb hq => Eight.loadT (A0 m c t) scM0_0.view _ _ _ _ _ _ _ hA s q inb hq
  clear hA hD
  iterate 465 refine Eight.After.next _ _ _ (by decide) scM0_3.view cD cA _ rfl _ _ rfl ?_
  refine Eight.Begun.after _ _ ?_
  iterate 31 refine Eight.Begun.next _ _ _ (by decide) scM0_3 (Memref.isWhole_whole _) cD cA _ rfl _ _ rfl ?_
  intro j a q h
  exact absurd h (Nat.not_lt_zero _)

theorem sums_C (t : Fin cfg0.N) (h0) (h1) (x9 : Vec Ideal S1x512 .f32) (x3 : Vec Ideal S31x8x512 .f32) :
    View.PiecesOf (Eight.Sums (runC m c t h0 h1 x9 x3).2.2.2.1) (runC m c t h0 h1 x9 x3).2.1 := by
  unfold runC
  frame_open
  iterate 31 refine Eight.Sums.cons _ _ _ (by decide) scM0_3.view _ rfl ?_
  trivial

theorem addC (t : Fin cfg0.N) (h0 : ¬t.val % 16 = 0) (h1 : t.val % 16 = 15) (j : Fin 31) (a : Fin 8) (q : Fin 512) :
    (outsAt0 m c t.val t.isLt).2.2.2 (ix3 j a q) = (outsAt0 m c (t.val - 1) (by omega)).2.2.2 (ix3 j a q)
      + ∑ i ∈ Finset.range 496, if j.val = i % 31 then Eight.part (D0 m c t) (A0 m c t) i a q else 0 := by
  rw [outsAt0_C m c t h0 h1]
  dsimp only
  rw [sout0_C_3, View.read_writes_junk_eq_canon]
  exact adds_C m c t _ _ _ _ (rows_C m c t _ _ _ _) (cots_C m c t _ _ _ _) j a q

theorem rowsC (t : Fin cfg0.N) (h0 : ¬t.val % 16 = 0) (h1 : t.val % 16 = 15) (j : Fin 31) (q : Fin 512) :
    (outsAt0 m c t.val t.isLt).2.1 (ix2 j q) = ∑ a : Fin 8, (outsAt0 m c t.val t.isLt).2.2.2 (ix3 j a q) := by
  rw [outsAt0_C m c t h0 h1]
  dsimp only
  rw [out0_C_8, sout0_C_3, View.read_writes_junk_eq_canon, View.read_writes_junk_eq_canon]
  have h := View.canon_append_of_piecesOf _ [] _ (sums_C m c t (fun h => h0 ((hcond0_0 t).mp h)) ((hcond0_1 t).mpr h1)
    (outsAt0 m c (t.val - 1) (by omega)).2.2.1 (outsAt0 m c (t.val - 1) (by omega)).2.2.2) (ix2 j q)
    (cover0_C_8 c _ _ _ _ _ _ _ _ _ _ _ _ _ _ _ _ _ _ _ _ _ _ _ _ _ _ _ _ _ _ _ _ _ _ _ _ _ _ _ _ (ix2 j q))
  rwa [List.append_nil] at h

end Cert.ConvIdeal.Formula

end
-- ==== Proof.ConvKernel.lean ====
/- The cotangents of the convolution's gated input, of its bias and of its weights, as the kernel's program leaves them. -/
module

public import proofs.«01_k».proof.Proof.ConvDw
public import proofs.«01_k».proof.Proof.ConvDwA
public import proofs.«01_k».proof.Proof.ConvDwB
public import proofs.«01_k».proof.Proof.ConvDwC

@[expose] public section

set_option maxRecDepth 16384

noncomputable section

namespace Cert.ConvIdeal.Formula

open Cert.ConvIdeal Cert.ConvIdeal.Gen Idealize.ShloMosaic Idealize.ShloMosaic.TcCoe Idealize.SL.Sem Cert.ConvBwd
open Idealize.ShloMosaic.StableHlo

variable (m : (ℓ : Loc nD τ sig) → Buf (Elt Ideal) ℓ) (c : Dev nD)

theorem out7 (t : Fin cfg0.N) : (outsAt0 m c t.val t.isLt).1 = Gz m c t := by
  by_cases h0 : t.val % 16 = 0
  · exact dzA m c t h0 (by omega)
  · by_cases h1 : t.val % 16 = 15
    · exact dzC m c t h0 h1
    · exact dzB m c t h0 h1

theorem final7 : (dats m 0 c).arrAt 7 cfg0.N = (fun p => dz (z m c) (cw m c) (da m c) (p 0) (p 1) : FVec Ideal S8192x1024 .bf16) := by
  refine (dats m 0 c).arrAt_eq_of_covers 7 _ (by decide +kernel) fun t hf y => ?_
  blk_simp
  have e : ((View.whole main_v0_0).slice (win0_7.rect t)).emb y = ix2 (at_ t (y 0)) (y 1) := by
    blk_ext [idx t]
    rfl
  rw [after0_7, out7, e]
  rfl

theorem final9 : (dats m 0 c).arrAt 9 cfg0.N = (fun p => db (da m c) (p 1) : FVec Ideal S1x512 .f32) := by
  refine (dats m 0 c).arrAt_eq_of_after_last 9 t0_15 (by decide +kernel) _ fun y => ?_
  blk_simp
  rw [after0_9, Pipeline.eq_sum_fin_of_reset_step_apply_last (fun n h => (outsAt0 m c n h).2.2.1) 16 (fun _ => 0)
    (fun t y => term m c t (y 1))
    (fun t h y => by
      idx_vars y
      obtain rfl : y0 = 0 := Subsingleton.elim _ _
      exact dbA m c t h (by omega) _)
    (fun t h y => by
      idx_vars y
      obtain rfl : y0 = 0 := Subsingleton.elim _ _
      by_cases h1 : t.val % 16 = 15
      · exact dbC m c t h h1 _
      · exact dbB m c t h h1 _)
    (le_of_eq N_0) t0_15 rfl y, zero_add]
  show (_ : EReal) = _
  refine (Fin.sum_mul_add_fin 16 512 (fun i : Fin 8192 => da m c i (y 1)) rfl).trans ?_
  exact Finset.sum_congr rfl fun i _ => congrArg (fun i => da m c i (y 1)) (Fin.ext (Nat.mod_eq_of_lt i.isLt).symm)

theorem wterm_eq (t : Fin cfg0.N) (j : Fin 31) (k : Fin 512) : wterm m c t j k = ∑ r : Fin 512, meet (z m c) (da m c) j.val k (t.val * 512 + r.val) := by
  have h := lt16 t
  refine Finset.sum_congr rfl fun r _ => ?_
  have e1 : (⟨(t.val * 512 + r.val) / 4096 % 2, by omega⟩ : Fin 2) = ⟨t.val / 8, by omega⟩ :=
    Fin.ext (by show (t.val * 512 + r.val) / 4096 % 2 = t.val / 8; omega)
  have e2 : j.val + (t.val * 512 + r.val) % 4096 = t.val % 8 * 512 + (r.val + 2 + j.val) - 2 := by omega
  rw [meet, e1, e2, mul_comm, A0]
  refine congrArg (_ * ·) ?_
  rw [D0, row, dif_pos (by omega)]
  exact congrArg (fun i => da m c i k) (Fin.ext (by show t.val / 8 * 4096 + (t.val % 8 * 512 + r.val) = (t.val * 512 + r.val) % 8192; omega))

/-- The eight sums of a slot after the last grid point. -/
theorem slots (j : Fin 31) (a : Fin 8) (q : Fin 512) : (outsAt0 m c t0_15.val t0_15.isLt).2.2.2 (ix3 j a q)
    = ∑ t : Fin 16, ∑ i ∈ Finset.range 496, if j.val = i % 31 then Eight.part (D0 m c ⟨t.val, t.isLt.trans_eq N_0.symm⟩) (A0 m c ⟨t.val, t.isLt.trans_eq N_0.symm⟩) i a q else 0 := by
  rw [Pipeline.eq_sum_fin_of_reset_step_apply_last (fun n h => (outsAt0 m c n h).2.2.2) 16 (fun _ => 0)
    (fun t y => ∑ i ∈ Finset.range 496, if (y 0).val = i % 31 then Eight.part (D0 m c t) (A0 m c t) i (y 1) (y 2) else 0)
    (fun t h y => by
      idx_vars y
      exact addA m c t h (by omega) _ _ _)
    (fun t h y => by
      idx_vars y
      by_cases h1 : t.val % 16 = 15
      · exact addC m c t h h1 _ _ _
      · exact addB m c t h h1 _ _ _)
    (le_of_eq N_0) t0_15 rfl (ix3 j a q), zero_add]
  rfl

theorem final8 : (dats m 0 c).arrAt 8 cfg0.N = (fun p => dw (z m c) (da m c) (p 0) (p 1) : FVec Ideal S31x512 .f32) := by
  refine (dats m 0 c).arrAt_eq_of_after_last 8 t0_15 (by decide +kernel) _ fun y => ?_
  obtain ⟨j, k, rfl⟩ : ∃ (j : Fin 31) (k : Fin 512), y = ix2 j k := ⟨y 0, y 1, by idx_vars y⟩
  blk_simp
  rw [after0_8, rowsC m c t0_15 (by decide) (by decide), Finset.sum_congr rfl fun a _ => slots m c j a k, Finset.sum_comm]
  rw [Finset.sum_congr rfl fun t _ => (parts_sum m c _ j k).trans (wterm_eq m c _ j k)]
  exact sum_split 16 512 fun i => meet (z m c) (da m c) j.val k i

variable (ρ : Dev nD → PrngReg)

/-- The program's run with its three results named and the arguments unchanged. -/
theorem run : θ_run defs (onTc (τ := τ) (main (F := Ideal))) ⟨m, fun _ => 0, ρ⟩ fun r => ∀ c : Dev nD,
      r.2.mem ((c : Thread nD τ).loc main_v0_0) = (fun p => dz (z m c) (cw m c) (da m c) (p 0) (p 1) : FVec Ideal S8192x1024 .bf16)
      ∧ r.2.mem ((c : Thread nD τ).loc main_v0_2) = (fun p => db (da m c) (p 1) : FVec Ideal S1x512 .f32)
      ∧ r.2.mem ((c : Thread nD τ).loc main_v0_1) = (fun p => dw (z m c) (da m c) (p 0) (p 1) : FVec Ideal S31x512 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 7).trans (final7 m c), ((h c).1 9).trans (final9 m c), ((h c).1 8).trans (final8 m c),
      ((h c).1 2).trans (((dats m 0 c).arrAt_in 2 rfl _).trans ((A_eq m c 2).trans (V_main_arg0 m c))),
      ((h c).1 6).trans (((dats m 0 c).arrAt_in 6 rfl _).trans ((A_eq m c 6).trans (V_main_arg1 m c))),
      ((h c).1 0).trans (((dats m 0 c).arrAt_in 0 rfl _).trans ((A_eq m c 0).trans (V_main_arg2 m c)))⟩)
    (run_main m ρ)

end Cert.ConvIdeal.Formula

end
-- ==== Proof.ConvRef.lean ====
/- The input's and the bias's cotangents in the reference of the convolution's backward part, as formulas over the argument arrays. -/
module

public import proofs.«01_k».proof.Proof.Gen.ConvRefIdeal.Run
public import proofs.«01_k».proof.Proof.ConvBwdMath
public import Idealize.ShloMosaic.Lib.KernelVsHost
public import Idealize.ShloMosaic.Lib.Tactic.CleanTypes

@[expose] public section

set_option maxRecDepth 16384

noncomputable section

namespace Cert.ConvRefIdeal.Formula

open Cert.ConvRefIdeal Cert.ConvRefIdeal.Gen Idealize.ShloMosaic Idealize.ShloMosaic.TcCoe Idealize.SL.Sem Cert.ConvBwd
open Idealize.ShloMosaic.StableHlo

variable (m : (ℓ : Loc nD τ sig) → Buf (Elt Ideal) ℓ) (c : Dev nD)

abbrev Z : FVec Ideal S8192x2048 .f32 := m ((c.tc : Thread nD τ).loc main_arg0)
abbrev CW : FVec Ideal S31x512 .f32 := m ((c.tc : Thread nD τ).loc main_arg1)
abbrev DA : FVec Ideal S8192x512 .f32 := m ((c.tc : Thread nD τ).loc main_arg2)

def z (i : Fin 8192) (j : Fin 2048) : EReal := Z m c (ix2 i j)
def cw (j : Fin 31) (k : Fin 512) : EReal := CW m c (ix2 j k)
def da (i : Fin 8192) (k : Fin 512) : EReal := DA m c (ix2 i k)

theorem r8 (i : Fin 8192) (k : Fin 512) :
    (Value.res_main_v8 (launchContents m c) : FVec Ideal S8192x512 .f32) (ix2 i k) = sg (z m c) i k := by
  unfold Value.res_main_v8
  clean_types
  pointwise
  rw [sg, Gate.sig_eq, Gate.bits_one]
  rfl

theorem r239 (s : Fin 2) (t : Fin 4096) (k : Fin 512) :
    (Value.res_main_v239 (launchContents m c) : FVec Ideal S2x4096x512 .f32) (ix3 s t k) = da m c ⟨s.val * 4096 + t.val, by omega⟩ k := by
  unfold Value.res_main_v239
  clean_types
  pointwise
  rfl

/-- Rows moved down by `lo`, zeros around them, at a row that the slice keeps. -/
theorem pad_row (lo hi : ℕ) (hlo : lo ≤ 30) (x : FVec Ideal S2x4096x512 .f32) (v : FVec Ideal S_ .f32) (hv : ∀ i, v i = 0)
    (h : S2x4096x512.Pads ![0, lo, 0] ![0, hi, 0] ![0, 0, 0] S2x4126x512) (hu : 0 < S_.numel) (s : Fin 2) (t : ℕ) (ht : 30 + t < 4126) (k : Fin 512) :
    pad S2x4126x512 ![0, lo, 0] ![0, hi, 0] ![0, 0, 0] x v h hu (ix3 s ⟨30 + t, ht⟩ k)
      = if hq : t + (30 - lo) < 4096 then x (ix3 s ⟨t + (30 - lo), hq⟩ k) else 0 := by
  by_cases hq : t + (30 - lo) < 4096
  · rw [dif_pos hq]
    refine pad_apply_of_inside _ _ _ _ _ _ _ _ (ix3 s ⟨t + (30 - lo), hq⟩ k) fun a => ?_
    fin_cases a
    · show s.val = 0 + s.val * (0 + 1)
      omega
    · show 30 + t = lo + (t + (30 - lo)) * (0 + 1)
      omega
    · show k.val = 0 + k.val * (0 + 1)
      omega
  · rw [dif_neg hq]
    refine (pad_apply_of_not_inside _ _ _ _ _ _ _ _ (1 : Fin 3) ?_).trans (hv _)
    rintro ⟨-, -, h3⟩
    change (30 + t - lo) / (0 + 1) < 4096 at h3
    rw [Nat.zero_add, Nat.div_one] at h3
    omega

theorem zero_at (i : S_.Idx) : (constant S_ .f32 0x00000000#32 : FVec Ideal S_ .f32) i = 0 := Gate.bits_zero

/-- A tap's product, moved to its row. -/
theorem pad_tap (lo hi : ℕ) (hlo : lo ≤ 30) (x : FVec Ideal S2x4096x512 .f32) (j : ℕ) (hj : j = lo) (v : FVec Ideal S_ .f32) (hv : ∀ i, v i = 0)
    (h : S2x4096x512.Pads ![0, lo, 0] ![0, hi, 0] ![0, 0, 0] S2x4126x512) (hu : 0 < S_.numel) (s : Fin 2) (t : ℕ) (ht : 30 + t < 4126) (k : Fin 512)
    (hx : ∀ q, x (ix3 s q k) = da m c ⟨s.val * 4096 + q.val, by omega⟩ k * cw m c (Fin.ofNat 31 lo) k) :
    pad S2x4126x512 ![0, lo, 0] ![0, hi, 0] ![0, 0, 0] x v h hu (ix3 s ⟨30 + t, ht⟩ k) = tap (cw m c) (da m c) s t k j := by
  subst hj
  rw [pad_row _ _ hlo x v hv, tap, ← row_mul]
  simp only [hx]

theorem r416 (s : Fin 2) (t : ℕ) (ht : 30 + t < 4126) (k : Fin 512) :
    (Value.res_main_v416 (launchContents m c) : FVec Ideal S2x4126x512 .f32) (ix3 s ⟨30 + t, ht⟩ k)
      = ConvRows.taps (fun j => tap (cw m c) (da m c) s t k (30 - j)) 16 := by
  unfold Value.res_main_v416
  clean_types
  simp only [ConvRows.taps, zero_add, Nat.reduceSub, Nat.sub_zero]
  iterate 15 refine congrArg₂ (· + ·) ?_ ?_
  all_goals
    refine pad_tap m c _ _ (by decide) _ _ rfl _ zero_at _ _ s t ht k fun q => ?_
    pointwise
    rw [r239]
    refine congrArg (_ * ·) ?_
    simp only [Value.res_main_v126, Value.res_main_v133, Value.res_main_v140, Value.res_main_v147, Value.res_main_v154, Value.res_main_v161, Value.res_main_v168, Value.res_main_v175, Value.res_main_v182, Value.res_main_v189, Value.res_main_v196, Value.res_main_v203, Value.res_main_v210, Value.res_main_v217, Value.res_main_v224, Value.res_main_v231]
    clean_types
    pointwise
    rfl

theorem r581 (s : Fin 2) (t : ℕ) (ht : 30 + t < 4126) (k : Fin 512) :
    (Value.res_main_v581 (launchContents m c) : FVec Ideal S2x4126x512 .f32) (ix3 s ⟨30 + t, ht⟩ k)
      = ConvRows.taps (fun j => tap (cw m c) (da m c) s t k (30 - j)) 31 := by
  unfold Value.res_main_v581
  clean_types
  iterate 15 refine congrArg₂ (· + ·) ?_ ?_
  · exact r416 m c s t ht k
  all_goals
    refine pad_tap m c _ _ (by decide) _ _ rfl _ zero_at _ _ s t ht k fun q => ?_
    pointwise
    rw [r239]
    refine congrArg (_ * ·) ?_
    simp only [Value.res_main_v21, Value.res_main_v28, Value.res_main_v35, Value.res_main_v42, Value.res_main_v49, Value.res_main_v56, Value.res_main_v63, Value.res_main_v70, Value.res_main_v77, Value.res_main_v84, Value.res_main_v91, Value.res_main_v98, Value.res_main_v105, Value.res_main_v112, Value.res_main_v119]
    clean_types
    pointwise
    rfl

theorem r584 (i : Fin 8192) (k : Fin 512) :
    (Value.res_main_v584 (launchContents m c) : FVec Ideal S8192x512 .f32) (ix2 i k) = da0 (cw m c) (da m c) i k := by
  unfold Value.res_main_v584
  clean_types
  pointwise
  refine (r581 m c ⟨i.val / 4096, by omega⟩ (i.val % 4096) (by omega) k).trans ?_
  exact taps_back _

abbrev res376 : FVec Ideal S8192x1024 .bf16 :=
  truncf .bf16 (extractStridedSlice S8192x1024 ![0, 0] (addf (pad S8192x2048 ![0, 512] ![0, 1024] ![0, 0] (mulf (mulf (Value.res_main_v1 (launchContents m c)) (Value.res_main_v584 (launchContents m c))) (mulf (Value.res_main_v8 (launchContents m c)) (subf (broadcastInDim S8192x512 ![] bcast_S_S8192x512 (constant S_ .f32 0x3F800000#32)) (Value.res_main_v8 (launchContents m c))))) (constant S_ .f32 0x00000000#32) pads_S8192x512_S8192x2048_000_51210240 h_S_) (pad S8192x2048 ![0, 0] ![0, 1536] ![0, 0] (mulf (Value.res_main_v584 (launchContents m c)) (Value.res_main_v8 (launchContents m c))) (constant S_ .f32 0x00000000#32) pads_S8192x512_S8192x2048_000_015360 h_S_)) slices_S8192x2048_S8192x1024_0_0) bitsLt_bf16_f32

theorem r376 (i : Fin 8192) (k : Fin 1024) : res376 m c (ix2 i k) = dz (z m c) (cw m c) (da m c) i k := by
  unfold res376
  pointwise
  by_cases h : k.val < 512
  · rw [dz, dif_pos h, dif_neg (fun q => absurd (q (1 : Fin 2)).1 (show ¬512 ≤ k.val by omega)), zero_add, dif_pos, r584, r8]
    · rfl
    · rintro ⟨a, ha⟩
      change a < 2 at ha
      interval_cases a
      · show 0 ≤ i.val ∧ (i.val - 0) % (0 + 1) = 0 ∧ (i.val - 0) / (0 + 1) < 8192
        omega
      · show 0 ≤ k.val ∧ (k.val - 0) % (0 + 1) = 0 ∧ (k.val - 0) / (0 + 1) < 512
        omega
  · rw [dz, dif_neg h, dif_pos, dif_neg (fun q => absurd (q (1 : Fin 2)).2.2 (show ¬(k.val - 0) / (0 + 1) < 512 by omega)), add_zero]
    · simp only [r584, r8]
      have e : (Value.res_main_v1 (launchContents m c) : FVec Ideal S8192x512 .f32) (ix2 i ⟨k.val - 512, by omega⟩)
          = z m c i ⟨k.val - 512, by omega⟩ := by
        unfold Value.res_main_v1
        clean_types
        pointwise
        rfl
      rw [right, Gate.bits_one, mul_assoc (da0 _ _ _ _ * _), mul_comm (da0 _ _ _ _), ← e]
    · rintro ⟨a, ha⟩
      change a < 2 at ha
      interval_cases a
      · show 0 ≤ i.val ∧ (i.val - 0) % (0 + 1) = 0 ∧ (i.val - 0) / (0 + 1) < 8192
        omega
      · show 512 ≤ k.val ∧ (k.val - 512) % (0 + 1) = 0 ∧ (k.val - 512) / (0 + 1) < 512
        omega

abbrev res377 : FVec Ideal S1x512 .f32 :=
  shapeCast _ (Host.reduceAdd (shapeCast _ (Host.reduceAdd (Value.res_main_v239 (launchContents m c)) (constant S_ .f32 0x00000000#32) reducesTo_S2x4096x512_S512_d0_1 h_S_) shapeCasts_S512_S1x1x512) (constant S_ .f32 0x00000000#32) reducesTo_S1x1x512_S512_d0_1 h_S_) shapeCasts_S512_S1x512

/-- A sum over the first two of three axes. -/
theorem red01 {n0 n1 n2 : Nat} (h : (⟨3, ![n0, n1, n2]⟩ : Shape).ReducesTo [0, 1] ⟨1, ![n2]⟩)
    (x : (⟨3, ![n0, n1, n2]⟩ : Shape).Idx → EReal) (init : EReal) (k : Fin n2) :
    Ideal.hostReduceAdd h x init (ix1 k) = init + ∑ a : Fin n0, ∑ b : Fin n1, x (ix3 a b k) := by
  unfold Ideal.hostReduceAdd
  refine congrArg (init + ·) ?_
  rw [← Fintype.sum_prod_type' (f := fun a b => x (ix3 a b k))]
  refine Finset.sum_bij' (fun i _ => (i 0, i 1)) (fun q _ => ix3 q.1 q.2 k) (fun _ _ => Finset.mem_univ _) (fun q _ => ?_)
    (fun i hi => ?_) (fun _ _ => rfl) (fun i hi => ?_)
  · refine Finset.mem_filter.mpr ⟨Finset.mem_univ _, ?_⟩
    funext b
    fin_cases b; rfl
  · have e0 : i 2 = k := congrFun (Finset.mem_filter.mp hi).2 0
    subst e0
    funext b
    fin_cases b <;> rfl
  · have e0 : i 2 = k := congrFun (Finset.mem_filter.mp hi).2 0
    subst e0
    refine congrArg x ?_
    funext b
    fin_cases b <;> rfl

theorem r377 (k : Fin 512) : res377 m c (ix2 0 k) = db (da m c) k := by
  unfold res377
  pointwise
  rw [red01, zero_add, Fin.sum_univ_one, Fin.sum_univ_one]
  pointwise
  rw [red01, zero_add]
  simp only [r239]
  refine (Finset.sum_congr rfl fun s _ => Finset.sum_congr rfl fun t _ => ?_).trans (sum_split 2 4096 fun i => da m c (Fin.ofNat 8192 i) k)
  refine congrArg (fun i => da m c i k) (Fin.ext (Eq.symm (Nat.mod_eq_of_lt ?_)))
  omega

end Cert.ConvRefIdeal.Formula

end
-- ==== Proof.ConvRefW.lean ====
/- The weights' cotangent in the reference of the convolution's backward part. -/
module

public import proofs.«01_k».proof.Proof.ConvRef
public import proofs.«01_k».proof.Proof.ConvDw

@[expose] public section

set_option maxRecDepth 16384

noncomputable section

namespace Cert.ConvRefIdeal.Formula

open Cert.ConvRefIdeal Cert.ConvRefIdeal.Gen Idealize.ShloMosaic Idealize.ShloMosaic.TcCoe Idealize.SL.Sem Cert.ConvBwd
open Idealize.ShloMosaic.StableHlo

variable (m : (ℓ : Loc nD τ sig) → Buf (Elt Ideal) ℓ) (c : Dev nD)

theorem r15 (s : Fin 2) (p : Fin 4126) (k : Fin 512) :
    (Value.res_main_v15 (launchContents m c) : FVec Ideal S2x4126x512 .f32) (ix3 s p k) = ConvRows.padded (z m c) s p k := by
  unfold Value.res_main_v15 Value.res_main_v1 Value.res_main_v8
  clean_types
  pointwise
  refine dite_congr rfl (fun _ => rfl) fun h => ?_
  rw [dif_pos p.isLt]
  rfl

/-- The rows that a tap meets. -/
theorem met (lo : ℕ) (h : S2x4126x512.Slices ![0, lo, 0] S2x4096x512) (hlo : lo ≤ 30) (s : Fin 2) (t : Fin 4096) (k : Fin 512) :
    extractStridedSlice S2x4096x512 ![0, lo, 0] (Value.res_main_v15 (launchContents m c) : FVec Ideal S2x4126x512 .f32) h (ix3 s t k)
      = ConvRows.padded (z m c) s (lo + t.val) k := by
  refine Eq.trans ?_ (r15 m c s ⟨lo + t.val, by omega⟩ k)
  pointwise

/-- A tap's sum. -/
theorem tap_sum (lo : ℕ) (hlo : lo ≤ 30) (h : S2x4126x512.Slices ![0, lo, 0] S2x4096x512) (k : Fin 512) :
    (Host.reduceAdd (shapeCast S1x1x512 (Host.reduceAdd (mulf (extractStridedSlice S2x4096x512 ![0, lo, 0] (Value.res_main_v15 (launchContents m c) : FVec Ideal S2x4126x512 .f32) h)
      (Value.res_main_v239 (launchContents m c) : FVec Ideal S2x4096x512 .f32)) (constant S_ .f32 0x00000000#32) reducesTo_S2x4096x512_S512_d0_1 h_S_) shapeCasts_S512_S1x1x512)
      (constant S_ .f32 0x00000000#32) reducesTo_S1x1x512_S512_d0_1 h_S_ : FVec Ideal S512 .f32) (ix1 k) = ∑ i : Fin 8192, meet (z m c) (da m c) lo k i.val := by
  pointwise
  rw [red01, zero_add, Fin.sum_univ_one, Fin.sum_univ_one]
  pointwise
  rw [red01, zero_add]
  refine (Finset.sum_congr rfl fun s _ => Finset.sum_congr rfl fun t _ => ?_).trans (sum_split 2 4096 fun i => meet (z m c) (da m c) lo k i)
  pointwise
  rw [r15, r239, meet]
  have e1 : (⟨(s.val * 4096 + t.val) / 4096 % 2, by omega⟩ : Fin 2) = s := Fin.ext (by show (s.val * 4096 + t.val) / 4096 % 2 = s.val; omega)
  have e2 : (s.val * 4096 + t.val) % 4096 = t.val := by omega
  have e3 : (Fin.ofNat 8192 (s.val * 4096 + t.val)) = (⟨s.val * 4096 + t.val, by omega⟩ : Fin 8192) := Fin.ext (Nat.mod_eq_of_lt (by omega))
  rw [e1, e2, e3]

/-- A row moved to its place, zeros around it. -/
theorem pad_w (lo hi : ℕ) (x : FVec Ideal S1x512 .f32) (v : FVec Ideal S_ .f32) (hv : ∀ i, v i = 0)
    (h : S1x512.Pads ![lo, 0] ![hi, 0] ![0, 0] S31x512) (hu : 0 < S_.numel) (j : Fin 31) (k : Fin 512) :
    pad S31x512 ![lo, 0] ![hi, 0] ![0, 0] x v h hu (ix2 j k) = if j.val = lo then x (ix2 0 k) else 0 := by
  by_cases hq : j.val = lo
  · rw [if_pos hq]
    refine pad_apply_of_inside _ _ _ _ _ _ _ _ (ix2 0 k) fun a => ?_
    fin_cases a
    · show j.val = lo + 0 * (0 + 1)
      omega
    · show k.val = 0 + k.val * (0 + 1)
      omega
  · rw [if_neg hq]
    refine (pad_apply_of_not_inside _ _ _ _ _ _ _ _ (0 : Fin 2) ?_).trans (hv _)
    rintro ⟨h1, -, h3⟩
    change lo ≤ j.val at h1
    change (j.val - lo) / (0 + 1) < 1 at h3
    rw [Nat.zero_add, Nat.div_one] at h3
    omega

theorem as_row (x : FVec Ideal S512 .f32) (k : Fin 512) : broadcastInDim S1x512 ![1] bcast_S512_S1x512_1 x (ix2 0 k) = x (ix1 k) := by pointwise

/-- Tap `lo`'s row among the thirty-one. -/
def place (j : Fin 31) (k : Fin 512) (lo : ℕ) : EReal := if j.val = lo then ∑ i : Fin 8192, meet (z m c) (da m c) lo k i.val else 0

theorem pad_sum (lo hi : ℕ) (hlo : lo ≤ 30) (h : S1x512.Pads ![lo, 0] ![hi, 0] ![0, 0] S31x512) (h' : S2x4126x512.Slices ![0, lo, 0] S2x4096x512)
    (j : Fin 31) (k : Fin 512) :
    pad S31x512 ![lo, 0] ![hi, 0] ![0, 0] (broadcastInDim S1x512 ![1] bcast_S512_S1x512_1
      (Host.reduceAdd (shapeCast S1x1x512 (Host.reduceAdd (mulf (extractStridedSlice S2x4096x512 ![0, lo, 0] (Value.res_main_v15 (launchContents m c) : FVec Ideal S2x4126x512 .f32) h')
      (Value.res_main_v239 (launchContents m c) : FVec Ideal S2x4096x512 .f32)) (constant S_ .f32 0x00000000#32) reducesTo_S2x4096x512_S512_d0_1 h_S_) shapeCasts_S512_S1x1x512)
      (constant S_ .f32 0x00000000#32) reducesTo_S1x1x512_S512_d0_1 h_S_ : FVec Ideal S512 .f32)) (constant S_ .f32 0x00000000#32) h h_S_ (ix2 j k)
      = place m c j k lo := by
  rw [pad_w _ _ _ _ zero_at, place, ← tap_sum m c lo hlo h' k, as_row]

theorem r348 (j : Fin 31) (k : Fin 512) :
    (Value.res_main_v348 (launchContents m c) : FVec Ideal S31x512 .f32) (ix2 j k) = ConvRows.taps (fun l => place m c j k (30 - l)) 10 := by
  unfold Value.res_main_v348
  clean_types
  simp only [ConvRows.taps, zero_add, Nat.reduceSub, Nat.sub_zero]
  iterate 9 refine congrArg₂ (· + ·) ?_ ?_
  all_goals exact pad_sum m c _ _ (by decide) _ _ j k

theorem r458 (j : Fin 31) (k : Fin 512) :
    (Value.res_main_v458 (launchContents m c) : FVec Ideal S31x512 .f32) (ix2 j k) = ConvRows.taps (fun l => place m c j k (30 - l)) 20 := by
  unfold Value.res_main_v458
  clean_types
  iterate 10 refine congrArg₂ (· + ·) ?_ ?_
  · exact r348 m c j k
  all_goals exact pad_sum m c _ _ (by decide) _ _ j k

theorem r568 (j : Fin 31) (k : Fin 512) :
    (Value.res_main_v568 (launchContents m c) : FVec Ideal S31x512 .f32) (ix2 j k) = ConvRows.taps (fun l => place m c j k (30 - l)) 30 := by
  unfold Value.res_main_v568
  clean_types
  iterate 10 refine congrArg₂ (· + ·) ?_ ?_
  · exact r458 m c j k
  all_goals exact pad_sum m c _ _ (by decide) _ _ j k

abbrev res579 : FVec Ideal S31x512 .f32 :=
  addf (Value.res_main_v568 (launchContents m c)) (pad S31x512 ![0, 0] ![30, 0] ![0, 0] (broadcastInDim S1x512 ![1] bcast_S512_S1x512_1 (Host.reduceAdd (shapeCast _ (Host.reduceAdd (mulf (Value.res_main_v18 (launchContents m c)) (Value.res_main_v239 (launchContents m c))) (constant S_ .f32 0x00000000#32) reducesTo_S2x4096x512_S512_d0_1 h_S_) shapeCasts_S512_S1x1x512) (constant S_ .f32 0x00000000#32) reducesTo_S1x1x512_S512_d0_1 h_S_)) (constant S_ .f32 0x00000000#32) pads_S1x512_S31x512_0300_000 h_S_)

theorem r579 (j : Fin 31) (k : Fin 512) : res579 m c (ix2 j k) = dw (z m c) (da m c) j k := by
  have e : res579 m c (ix2 j k) = ConvRows.taps (fun l => place m c j k (30 - l)) 31 := by
    unfold res579
    refine congrArg₂ (· + ·) (r568 m c j k) ?_
    exact pad_sum m c _ _ (by decide) _ _ j k
  rw [e, taps_back, taps_eq_sum, dw, Finset.sum_range]
  refine (Finset.sum_eq_single j (fun x _ hx => if_neg fun h => hx (Fin.ext h.symm)) (fun h => absurd (Finset.mem_univ _) h)).trans ?_
  exact if_pos rfl

end Cert.ConvRefIdeal.Formula

end
-- ==== Proof.Conv.lean ====
/- The claims about `mix_bwd_conv`: the frames of its programs, and that the cotangents of its input, its bias and its weights are the reference's. -/
module

public import proofs.«01_k».proof.Defs
public import proofs.«01_k».proof.Proof.Gen.Conv
public import proofs.«01_k».proof.Proof.Gen.Conv.Frame
public import proofs.«01_k».proof.Proof.ConvKernel
public import proofs.«01_k».proof.Proof.ConvRefW
public import Idealize.ShloMosaic.Lib.Quiescent

@[expose] public section

set_option maxRecDepth 16384

noncomputable section

namespace Cert.ConvClaims

open Idealize.ShloMosaic Idealize.ShloMosaic.TcCoe Idealize.SL.Sem Cert.ConvBwd

theorem frame : Cert.quiescent_Conv := fun m ρ _ => Cert.Conv.Gen.frame m ρ

theorem frameIdeal : Cert.quiescent_ConvIdeal := fun m ρ _ => Cert.ConvIdeal.Gen.frame m ρ

theorem frameRef : Cert.quiescent_ConvRefIdeal := fun m ρ _ =>
  (θ_run _ _ _).mono (fun r h => ⟨fun c => (h c).2.2.2, sem_eq_zero_of_no_sems rfl _⟩) (Cert.ConvRefIdeal.Value.run m ρ)

theorem algebraic : Cert.algebraic_ConvIdeal_ConvRefIdeal := by
  intro m g m' g' _ hagree
  refine ⟨fun c p => dz (Cert.ConvIdeal.Formula.z m c) (Cert.ConvIdeal.Formula.cw m c) (Cert.ConvIdeal.Formula.da m c) (p 0) (p 1),
    fun c p => db (Cert.ConvIdeal.Formula.da m c) (p 1),
    fun c p => dw (Cert.ConvIdeal.Formula.z m c) (Cert.ConvIdeal.Formula.da m c) (p 0) (p 1), Cert.ConvIdeal.Formula.run m g, ?_⟩
  refine (θ_run _ _ _).mono (fun r h c => ?_) (Cert.ConvRefIdeal.Value.run m' g')
  obtain ⟨a0, a1, a2⟩ := hagree c
  have ez : Cert.ConvRefIdeal.Formula.z m' c = Cert.ConvIdeal.Formula.z m c := by
    funext _ _; simp only [Cert.ConvRefIdeal.Formula.z, a0]; rfl
  have ew : Cert.ConvRefIdeal.Formula.cw m' c = Cert.ConvIdeal.Formula.cw m c := by
    funext _ _; simp only [Cert.ConvRefIdeal.Formula.cw, a1]; rfl
  have ed : Cert.ConvRefIdeal.Formula.da m' c = Cert.ConvIdeal.Formula.da m c := by
    funext _ _; simp only [Cert.ConvRefIdeal.Formula.da, a2]; rfl
  obtain ⟨h0, h1, h2, hk⟩ := h c
  refine ⟨h0.trans ?_, h1.trans ?_, h2.trans ?_, hk⟩
  · funext p
    obtain ⟨i, k, rfl⟩ : ∃ (i : Fin 8192) (k : Fin 1024), p = ix2 i k := ⟨p 0, p 1, by idx_vars p⟩
    exact (Cert.ConvRefIdeal.Formula.r376 m' c i k).trans (by rw [ez, ew, ed]; rfl)
  · funext p
    obtain ⟨o, k, rfl⟩ : ∃ (o : Fin 1) (k : Fin 512), p = ix2 o k := ⟨p 0, p 1, by idx_vars p⟩
    obtain rfl : o = 0 := Subsingleton.elim _ _
    exact (Cert.ConvRefIdeal.Formula.r377 m' c k).trans (by rw [ed]; rfl)
  · funext p
    obtain ⟨j, k, rfl⟩ : ∃ (j : Fin 31) (k : Fin 512), p = ix2 j k := ⟨p 0, p 1, by idx_vars p⟩
    exact (Cert.ConvRefIdeal.Formula.r579 m' c j k).trans (by rw [ez, ed]; rfl)

end Cert.ConvClaims

end
-- ==== Proof.MmTn.lean ====
/- The claims about `mm_tn`: the frames of its programs, and that its product is the reference's. -/
module

public import proofs.«01_k».proof.Defs
public import proofs.«01_k».proof.Proof.Gen.MmTn
public import proofs.«01_k».proof.Proof.Gen.MmTn.Frame
public import proofs.«01_k».proof.Proof.Gen.MmTnIdeal.Value
public import proofs.«01_k».proof.Proof.Gen.MmTnRefIdeal.Run
public import Idealize.ShloMosaic.Lib.Pipeline.ValueKit
public import Idealize.ShloMosaic.Lib.Claim
public import Idealize.ShloMosaic.Lib.Quiescent

@[expose] public section

set_option maxRecDepth 16384

noncomputable section

namespace Cert.MmTnIdeal.Formula

open Cert.MmTnIdeal Cert.MmTnIdeal.Gen Idealize.ShloMosaic Idealize.ShloMosaic.TcCoe Idealize.SL.Sem

variable (m : (ℓ : Loc nD τ sig) → Buf (Elt Ideal) ℓ) (c : Dev nD)

def a (i : Fin 8192) (f : Fin 2816) : EReal := (m ((c : Thread nD τ).loc main_arg0) : FVec Ideal S8192x2816 .bf16) (ix2 i f)
def b (i : Fin 8192) (k : Fin 1024) : EReal := (m ((c : Thread nD τ).loc main_arg1) : FVec Ideal S8192x1024 .bf16) (ix2 i k)

/-- The product of the transposed matrix. -/
def z (f : Fin 2816) (k : Fin 1024) : EReal := ∑ i : Fin 8192, a m c i f * b m c i k

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- Row `r` of the arguments in grid point `t`'s block. -/
def at_ (t : Fin cfg0.N) (r : Fin 2048) : Fin 8192 := ⟨t.val % 4 * 2048 + r.val, by omega⟩

/-- Row `r` of the product in grid point `t`'s block. -/
def col (t : Fin cfg0.N) (r : Fin 1408) : Fin 2816 :=
  ⟨t.val / 4 * 1408 + r.val, by have h : t.val < 8 := lt_of_lt_of_eq t.isLt N_0; omega⟩

theorem at_val (t : Fin cfg0.N) (r : Fin 2048) : (at_ t r).val = t.val % 4 * 2048 + r.val := rfl
theorem col_val (t : Fin cfg0.N) (r : Fin 1408) : (col t r).val = t.val / 4 * 1408 + r.val := rfl

theorem read0 (t : Fin cfg0.N) (y : Fin 2048) (f : Fin 1408) : (iblk m c 0 t : Vec Ideal S2048x1408 .bf16) (ix2 y f) = a m c (at_ t y) (col t f) := by
  unfold a; blk_ext! [iblk, V, idx t, at_val, col_val]

theorem read1 (t : Fin cfg0.N) (y : Fin 2048) (k : Fin 1024) : (iblk m c 1 t : Vec Ideal S2048x1024 .bf16) (ix2 y k) = b m c (at_ t y) k := by
  unfold b; blk_ext! [iblk, V, idx t, at_val]

/-- What one grid point adds. -/
def term (t : Fin cfg0.N) (p : S1408x1024.Idx) : EReal := ∑ r : Fin 2048, a m c (at_ t r) (col t (p 0)) * b m c (at_ t r) (p 1)

theorem step (t : Fin cfg0.N) (v : FVec Ideal S1408x1024 .f32) (p : S1408x1024.Idx) : k0_pay2 v (iblk m c 0 t) (iblk m c 1 t) p = v p + term m c t p := by
  idx_vars p
  unfold k0_pay2 term
  pointwise
  simp only [read0, read1]

theorem run_val (t : Fin cfg0.N) (hr : t.val % 4 = 3) (p : S1408x1024.Idx) :
    outsAt0 m c t.val t.isLt p = ∑ s : Fin 4, term m c ⟨4 * (t.val / 4) + s.val, Pipeline.run_point_lt_of_flush t hr s⟩ p := by
  rw [Pipeline.eq_sum_fin_of_reset_step_apply_of_flush (fun n h => outsAt0 m c n h) 4 (fun _ => (0 : EReal)) (term m c)
    (fun t h p => by
      rw [outsAt0_A m c t h, Value.out_A_2_eq, step]
      unfold k0_pay1; pointwise)
    (fun t h p => by
      rw [outsAt0_B m c t h, Value.out_B_2_eq, step])
    t hr p, zero_add]

theorem final2 : (dats m 0 c).arrAt 2 cfg0.N = (fun p => z m c (p 0) (p 1) : FVec Ideal S2816x1024 .f32) := by
  refine (dats m 0 c).arrAt_eq_of_covers 2 _ (by decide +kernel) fun t hf y => ?_
  blk_simp
  have e : ((View.whole main_v0).slice (win0_2.rect t)).emb y = ix2 (col t (y 0)) (y 1) := by
    blk_ext [idx t]; rfl
  have hr : t.val % 4 = 3 := (flush0_2 t).mp hf
  rw [after0_2, e, run_val m c t hr]
  refine Fin.sum_mul_add_congr (f := fun i : Fin 8192 => a m c i (col t (y 0)) * b m c i (y 1)) (fun s k hl => ?_) rfl
  have hs := s.isLt
  have e1 : at_ ⟨4 * (t.val / 4) + s.val, Pipeline.run_point_lt_of_flush t hr s⟩ k = ⟨s.val * 2048 + k.val, hl⟩ :=
    Fin.ext (by rw [at_val]; show (4 * (t.val / 4) + s.val) % 4 * 2048 + k.val = s.val * 2048 + k.val; omega)
  have e2 : col ⟨4 * (t.val / 4) + s.val, Pipeline.run_point_lt_of_flush t hr s⟩ (y 0) = col t (y 0) :=
    Fin.ext (by show (4 * (t.val / 4) + s.val) / 4 * 1408 + (y 0).val = t.val / 4 * 1408 + (y 0).val; omega)
  rw [e1, e2]

end Cert.MmTnIdeal.Formula

namespace Cert.MmTnClaims

open Idealize.ShloMosaic Idealize.ShloMosaic.TcCoe Idealize.SL.Sem

theorem frame : Cert.quiescent_MmTn := fun m ρ _ => Cert.MmTn.Gen.frame m ρ

theorem frameIdeal : Cert.quiescent_MmTnIdeal := fun m ρ _ => Cert.MmTnIdeal.Gen.frame m ρ

theorem frameRef : Cert.quiescent_MmTnRefIdeal := fun m ρ _ =>
  (θ_run _ _ _).mono (fun r h => ⟨fun c => (h c).2, sem_eq_zero_of_no_sems rfl _⟩) (Cert.MmTnRefIdeal.Value.run m ρ)

theorem algebraic : Cert.algebraic_MmTnIdeal_MmTnRefIdeal := by
  intro m g m' g' _ hagree
  refine ⟨fun c p => Cert.MmTnIdeal.Formula.z m c (p 0) (p 1), ?_, ?_⟩
  · exact (θ_run _ _ _).mono (fun r h c => ⟨(h c).1.trans (Cert.MmTnIdeal.Formula.final2 m c), (h c).2⟩) (Cert.MmTnIdeal.Value.run_blocks m g)
  · refine (θ_run _ _ _).mono (fun r h c => ⟨(h c).1.trans ?_, (h c).2⟩) (Cert.MmTnRefIdeal.Value.run m' g')
    obtain ⟨a0, a1⟩ := hagree c
    rw [a0, a1]
    funext p
    idx_vars p
    pointwise
    rfl

end Cert.MmTnClaims

end
-- ==== Proof.MmNt.lean ====
/- The claims about `mm_nt` without a norm: the frames of its programs, and that its product is the reference's. -/
module

public import proofs.«01_k».proof.Defs
public import proofs.«01_k».proof.Proof.Gen.MmNt
public import proofs.«01_k».proof.Proof.Gen.MmNt.Frame
public import proofs.«01_k».proof.Proof.Gen.MmNtIdeal.Value
public import proofs.«01_k».proof.Proof.Gen.MmNtRefIdeal.Run
public import Idealize.ShloMosaic.Lib.Pipeline.ValueKit
public import Idealize.ShloMosaic.Lib.Claim
public import Idealize.ShloMosaic.Lib.Quiescent

@[expose] public section

set_option maxRecDepth 16384

noncomputable section

namespace Cert.MmNtIdeal.Formula

open Cert.MmNtIdeal Cert.MmNtIdeal.Gen Idealize.ShloMosaic Idealize.ShloMosaic.TcCoe Idealize.SL.Sem

variable (m : (ℓ : Loc nD τ sig) → Buf (Elt Ideal) ℓ) (c : Dev nD)

def g (i : Fin 8192) (k : Fin 1024) : EReal := (m ((c : Thread nD τ).loc main_arg0) : FVec Ideal S8192x1024 .f32) (ix2 i k)
def w (l : Fin 1024) (k : Fin 1024) : EReal := (m ((c : Thread nD τ).loc main_arg1) : FVec Ideal S1024x1024 .f32) (ix2 l k)

/-- The product with the transposed matrix. -/
def z (i : Fin 8192) (l : Fin 1024) : EReal := ∑ k : Fin 1024, g m c i k * w m c l k

theorem idx : ∀ t : Fin cfg0.N, win0_0.index t = ![t.val, 0] ∧ win0_1.index t = ![0, 0] ∧ win0_2.index t = ![t.val, 0] :=
  (by decide +kernel : ∀ t : Fin grid0.N, _)

/-- Row `r` of grid point `t`'s block. -/
def at_ (t : Fin cfg0.N) (r : Fin 512) : Fin 8192 :=
  ⟨t.val * 512 + r.val, by have h : t.val < 16 := lt_of_lt_of_eq t.isLt N_0; omega⟩

theorem at_val (t : Fin cfg0.N) (r : Fin 512) : (at_ t r).val = t.val * 512 + r.val := rfl

theorem read0 (t : Fin cfg0.N) (y : Fin 512) (k : Fin 1024) : (iblk m c 0 t : Vec Ideal S512x1024 .f32) (ix2 y k) = g m c (at_ t y) k := by
  unfold g; blk_ext! [iblk, V, idx t, at_val]

theorem read1 (t : Fin cfg0.N) (l k : Fin 1024) : (iblk m c 1 t : Vec Ideal S1024x1024 .bf16) (ix2 l k) = w m c l k := by
  unfold w; blk_ext! [iblk, V, idx t, at_val]

theorem point2 (t : Fin cfg0.N) (y : S512x1024.Idx) : k0_pay2 (k0_pay1 (iblk m c 0 t)) (iblk m c 1 t) y = z m c (at_ t (y 0)) (y 1) := by
  idx_vars y
  unfold k0_pay2 k0_pay1
  pointwise
  simp only [read0, read1]
  rfl

theorem final2 : (dats m 0 c).arrAt 2 cfg0.N = (fun p => z m c (p 0) (p 1) : FVec Ideal S8192x1024 .f32) := by
  refine (dats m 0 c).arrAt_eq_of_covers 2 _ (by decide +kernel) fun t hf y => ?_
  blk_simp
  have e : ((View.whole main_v1).slice (win0_2.rect t)).emb y = ix2 (at_ t (y 0)) (y 1) := by
    blk_ext [idx t]; rfl
  rw [after0_2, outsAt0]
  frame_out
  rw [e]
  exact point2 m c t y

end Cert.MmNtIdeal.Formula

namespace Cert.MmNtClaims

open Idealize.ShloMosaic Idealize.ShloMosaic.TcCoe Idealize.SL.Sem

theorem frame : Cert.quiescent_MmNt := fun m ρ _ => Cert.MmNt.Gen.frame m ρ

theorem frameIdeal : Cert.quiescent_MmNtIdeal := fun m ρ _ => Cert.MmNtIdeal.Gen.frame m ρ

theorem frameRef : Cert.quiescent_MmNtRefIdeal := fun m ρ _ =>
  (θ_run _ _ _).mono (fun r h => ⟨fun c => (h c).2, sem_eq_zero_of_no_sems rfl _⟩) (Cert.MmNtRefIdeal.Value.run m ρ)

theorem algebraic : Cert.algebraic_MmNtIdeal_MmNtRefIdeal := by
  intro m g m' g' _ hagree
  refine ⟨fun c p => Cert.MmNtIdeal.Formula.z m c (p 0) (p 1), ?_, ?_⟩
  · exact (θ_run _ _ _).mono (fun r h c => ⟨(h c).1.trans (Cert.MmNtIdeal.Formula.final2 m c), (h c).2⟩) (Cert.MmNtIdeal.Value.run_blocks m g)
  · refine (θ_run _ _ _).mono (fun r h c => ⟨(h c).1.trans ?_, (h c).2⟩) (Cert.MmNtRefIdeal.Value.run m' g')
    obtain ⟨a0, a1⟩ := hagree c
    rw [a0, a1]
    funext p
    idx_vars p
    pointwise
    rfl

end Cert.MmNtClaims

end
-- ==== Proof.Parts.lean ====
/- The claims about `adamw_parts`: the frames of its programs, and that its four results are the reference's. -/
module

public import proofs.«01_k».proof.Defs
public import proofs.«01_k».proof.Proof.Gen.Parts
public import proofs.«01_k».proof.Proof.Gen.Parts.Frame
public import proofs.«01_k».proof.Proof.Gen.PartsIdeal.Value
public import proofs.«01_k».proof.Proof.Gen.PartsRefIdeal.Run
public import Idealize.ShloMosaic.Lib.Pipeline.ValueKit
public import Idealize.ShloMosaic.Lib.Claim
public import Idealize.ShloMosaic.Lib.Quiescent

@[expose] public section

set_option maxRecDepth 16384

noncomputable section

namespace Cert.PartsIdeal.Formula

open Cert.PartsIdeal Cert.PartsIdeal.Gen Idealize.ShloMosaic Idealize.ShloMosaic.TcCoe Idealize.SL.Sem

variable (m : (ℓ : Loc nD τ sig) → Buf (Elt Ideal) ℓ) (c : Dev nD)

/-! The argument arrays, by their coordinates: the two layers' parts, then the weights and the two moments. -/

def p (l : Fin 2) (s : Fin 8) (r : Fin 352) (k : Fin 1024) : EReal :=
  if l = 0 then (m ((c : Thread nD τ).loc main_arg0) : FVec Ideal S8x352x1024 .f32) (ix3 s r k)
  else (m ((c : Thread nD τ).loc main_arg1) : FVec Ideal S8x352x1024 .f32) (ix3 s r k)
def w (l : Fin 2) (r : Fin 352) (k : Fin 1024) : EReal := (m ((c : Thread nD τ).loc main_arg2) : FVec Ideal S2x352x1024 .f32) (ix3 l r k)
def mo (l : Fin 2) (r : Fin 352) (k : Fin 1024) : EReal := (m ((c : Thread nD τ).loc main_arg3) : FVec Ideal S2x352x1024 .f32) (ix3 l r k)
def ve (l : Fin 2) (r : Fin 352) (k : Fin 1024) : EReal := (m ((c : Thread nD τ).loc main_arg4) : FVec Ideal S2x352x1024 .f32) (ix3 l r k)

/-- The gradient: the sum of a layer's parts. -/
def g (l : Fin 2) (r : Fin 352) (k : Fin 1024) : EReal := ∑ s : Fin 8, p m c l s r k

/-- The two moments' update and the step. -/
def nm (l : Fin 2) (r : Fin 352) (k : Fin 1024) : EReal :=
  Ideal.ofBits .f32 0x3F666666#32 * mo m c l r k + Ideal.ofBits .f32 0x3DCCCCCD#32 * g m c l r k
def nv (l : Fin 2) (r : Fin 352) (k : Fin 1024) : EReal :=
  Ideal.ofBits .f32 0x3F7FBE77#32 * ve m c l r k + Ideal.ofBits .f32 0x3A83126F#32 * (g m c l r k * g m c l r k)
def d (l : Fin 2) (r : Fin 352) (k : Fin 1024) : EReal :=
  Ideal.ofBits .f32 0xBA83126F#32 * (Ideal.div (Ideal.div (nm m c l r k) (Ideal.ofBits .f32 0x3F26BD02#32))
    (Ideal.sqrt (Ideal.div (nv m c l r k) (Ideal.ofBits .f32 0x3C231ACC#32)) + Ideal.ofBits .f32 0x322BCC77#32)
    + Ideal.ofBits .f32 0x3C23D70A#32 * w m c l r k)

theorem idx : ∀ t : Fin cfg0.N, win0_0.index t = ![0, if t.val < 2 then t.val else 1, 0] ∧ win0_1.index t = ![0, if t.val < 2 then 0 else t.val - 2, 0]
    ∧ win0_2.index t = ![t.val / 2, t.val % 2, 0] ∧ win0_3.index t = ![t.val / 2, t.val % 2, 0] ∧ win0_4.index t = ![t.val / 2, t.val % 2, 0]
    ∧ win0_5.index t = ![t.val / 2, t.val % 2, 0] ∧ win0_6.index t = ![t.val / 2, t.val % 2, 0] ∧ win0_7.index t = ![t.val / 2, t.val % 2, 0]
    ∧ win0_8.index t = ![t.val / 2, t.val % 2, 0] :=
  (by decide +kernel : ∀ t : Fin grid0.N, _)

/-- Grid point `t`'s layer, and row `r` of its block. -/
def lay (t : Fin cfg0.N) : Fin 2 := ⟨t.val / 2, by have h : t.val < 4 := lt_of_lt_of_eq t.isLt N_0; omega⟩
def at_ (t : Fin cfg0.N) (r : Fin 176) : Fin 352 := ⟨t.val % 2 * 176 + r.val, by omega⟩

theorem lay_val (t : Fin cfg0.N) : (lay t).val = t.val / 2 := rfl
theorem at_val (t : Fin cfg0.N) (r : Fin 176) : (at_ t r).val = t.val % 2 * 176 + r.val := rfl

theorem read0 (t : Fin cfg0.N) (h : t.val < 2) (s : Fin 8) (y : Fin 176) (k : Fin 1024) :
    (iblk m c 0 t : Vec Ideal S8x176x1024 .f32) (ix3 s y k) = p m c (lay t) s (at_ t y) k := by
  rw [p, if_pos (Fin.ext (by rw [lay_val]; show t.val / 2 = 0; omega))]
  have e : t.val % 2 = t.val := by omega
  blk_ext! [iblk, V, idx t, at_val, h, e]
  rw [if_pos trivial]

theorem read1 (t : Fin cfg0.N) (h : ¬t.val < 2) (s : Fin 8) (y : Fin 176) (k : Fin 1024) :
    (iblk m c 1 t : Vec Ideal S8x176x1024 .f32) (ix3 s y k) = p m c (lay t) s (at_ t y) k := by
  have hN : t.val < 4 := lt_of_lt_of_eq t.isLt N_0
  rw [p, if_neg (fun e => by have := congrArg Fin.val e; rw [lay_val] at this; change t.val / 2 = 0 at this; omega)]
  have e : t.val % 2 = t.val - 2 := by omega
  blk_ext! [iblk, V, idx t, at_val, h, e]
  rw [if_neg not_false]

theorem read2 (t : Fin cfg0.N) (y : Fin 176) (k : Fin 1024) :
    (iblk m c 2 t : Vec Ideal S1x176x1024 .f32) (ix3 0 y k) = w m c (lay t) (at_ t y) k := by
  unfold w; blk_ext! [iblk, V, idx t, at_val, lay_val]

theorem read3 (t : Fin cfg0.N) (y : Fin 176) (k : Fin 1024) :
    (iblk m c 3 t : Vec Ideal S1x176x1024 .f32) (ix3 0 y k) = mo m c (lay t) (at_ t y) k := by
  unfold mo; blk_ext! [iblk, V, idx t, at_val, lay_val]

theorem read4 (t : Fin cfg0.N) (y : Fin 176) (k : Fin 1024) :
    (iblk m c 4 t : Vec Ideal S1x176x1024 .f32) (ix3 0 y k) = ve m c (lay t) (at_ t y) k := by
  unfold ve; blk_ext! [iblk, V, idx t, at_val, lay_val]

theorem gA (t : Fin cfg0.N) (h0 : t.val < 2) (h1 : ¬2 ≤ t.val) (y : Fin 176) (k : Fin 1024) :
    (outsAt0 m c t.val t.isLt).1 (ix3 0 y k) = g m c (lay t) (at_ t y) k := by
  rw [outsAt0_A m c t h0 h1, g, Fin.sum_univ_eight]
  frame_out
  open_payloads
  pointwise
  simp only [read0 m c t h0]

theorem gB (t : Fin cfg0.N) (h0 : ¬t.val < 2) (h1 : 2 ≤ t.val) (y : Fin 176) (k : Fin 1024) :
    (outsAt0 m c t.val t.isLt).1 (ix3 0 y k) = g m c (lay t) (at_ t y) k := by
  rw [outsAt0_B m c t h0 h1, g, Fin.sum_univ_eight]
  frame_out
  open_payloads
  pointwise
  simp only [read1 m c t h0]

theorem dA (t : Fin cfg0.N) (h0 : t.val < 2) (h1 : ¬2 ≤ t.val) (y : Fin 176) (k : Fin 1024) :
    (outsAt0 m c t.val t.isLt).2.1 (ix3 0 y k) = d m c (lay t) (at_ t y) k := by
  rw [outsAt0_A m c t h0 h1, d, nm, nv, g, Fin.sum_univ_eight]
  frame_out
  open_payloads
  pointwise
  simp only [read0 m c t h0, read2, read3, read4]

theorem dB (t : Fin cfg0.N) (h0 : ¬t.val < 2) (h1 : 2 ≤ t.val) (y : Fin 176) (k : Fin 1024) :
    (outsAt0 m c t.val t.isLt).2.1 (ix3 0 y k) = d m c (lay t) (at_ t y) k := by
  rw [outsAt0_B m c t h0 h1, d, nm, nv, g, Fin.sum_univ_eight]
  frame_out
  open_payloads
  pointwise
  simp only [read1 m c t h0, read2, read3, read4]

theorem mA (t : Fin cfg0.N) (h0 : t.val < 2) (h1 : ¬2 ≤ t.val) (y : Fin 176) (k : Fin 1024) :
    (outsAt0 m c t.val t.isLt).2.2.1 (ix3 0 y k) = nm m c (lay t) (at_ t y) k := by
  rw [outsAt0_A m c t h0 h1, nm, g, Fin.sum_univ_eight]
  frame_out
  open_payloads
  pointwise
  simp only [read0 m c t h0, read3]

theorem mB (t : Fin cfg0.N) (h0 : ¬t.val < 2) (h1 : 2 ≤ t.val) (y : Fin 176) (k : Fin 1024) :
    (outsAt0 m c t.val t.isLt).2.2.1 (ix3 0 y k) = nm m c (lay t) (at_ t y) k := by
  rw [outsAt0_B m c t h0 h1, nm, g, Fin.sum_univ_eight]
  frame_out
  open_payloads
  pointwise
  simp only [read1 m c t h0, read3]

theorem vA (t : Fin cfg0.N) (h0 : t.val < 2) (h1 : ¬2 ≤ t.val) (y : Fin 176) (k : Fin 1024) :
    (outsAt0 m c t.val t.isLt).2.2.2 (ix3 0 y k) = nv m c (lay t) (at_ t y) k := by
  rw [outsAt0_A m c t h0 h1, nv, g, Fin.sum_univ_eight]
  frame_out
  open_payloads
  pointwise
  simp only [read0 m c t h0, read4]

theorem vB (t : Fin cfg0.N) (h0 : ¬t.val < 2) (h1 : 2 ≤ t.val) (y : Fin 176) (k : Fin 1024) :
    (outsAt0 m c t.val t.isLt).2.2.2 (ix3 0 y k) = nv m c (lay t) (at_ t y) k := by
  rw [outsAt0_B m c t h0 h1, nv, g, Fin.sum_univ_eight]
  frame_out
  open_payloads
  pointwise
  simp only [read1 m c t h0, read4]

theorem final5 : (dats m 0 c).arrAt 5 cfg0.N = (fun q => g m c (q 0) (q 1) (q 2) : FVec Ideal S2x352x1024 .f32) := by
  refine (dats m 0 c).arrAt_eq_of_covers 5 _ (by decide +kernel) fun t hf y => ?_
  blk_simp
  have e : ((View.whole main_v0_0).slice (win0_5.rect t)).emb y = ix3 (lay t) (at_ t (y 1)) (y 2) := by
    blk_ext [idx t] <;> rfl
  rw [after0_5, e]
  idx_vars y
  obtain rfl : y0 = 0 := Subsingleton.elim _ _
  by_cases h0 : t.val < 2
  · exact gA m c t h0 (by omega) _ _
  · exact gB m c t h0 (by omega) _ _

theorem final6 : (dats m 0 c).arrAt 6 cfg0.N = (fun q => d m c (q 0) (q 1) (q 2) : FVec Ideal S2x352x1024 .f32) := by
  refine (dats m 0 c).arrAt_eq_of_covers 6 _ (by decide +kernel) fun t hf y => ?_
  blk_simp
  have e : ((View.whole main_v0_1).slice (win0_6.rect t)).emb y = ix3 (lay t) (at_ t (y 1)) (y 2) := by
    blk_ext [idx t] <;> rfl
  rw [after0_6, e]
  idx_vars y
  obtain rfl : y0 = 0 := Subsingleton.elim _ _
  by_cases h0 : t.val < 2
  · exact dA m c t h0 (by omega) _ _
  · exact dB m c t h0 (by omega) _ _

theorem final7 : (dats m 0 c).arrAt 7 cfg0.N = (fun q => nm m c (q 0) (q 1) (q 2) : FVec Ideal S2x352x1024 .f32) := by
  refine (dats m 0 c).arrAt_eq_of_covers 7 _ (by decide +kernel) fun t hf y => ?_
  blk_simp
  have e : ((View.whole main_v0_2).slice (win0_7.rect t)).emb y = ix3 (lay t) (at_ t (y 1)) (y 2) := by
    blk_ext [idx t] <;> rfl
  rw [after0_7, e]
  idx_vars y
  obtain rfl : y0 = 0 := Subsingleton.elim _ _
  by_cases h0 : t.val < 2
  · exact mA m c t h0 (by omega) _ _
  · exact mB m c t h0 (by omega) _ _

theorem final8 : (dats m 0 c).arrAt 8 cfg0.N = (fun q => nv m c (q 0) (q 1) (q 2) : FVec Ideal S2x352x1024 .f32) := by
  refine (dats m 0 c).arrAt_eq_of_covers 8 _ (by decide +kernel) fun t hf y => ?_
  blk_simp
  have e : ((View.whole main_v0_3).slice (win0_8.rect t)).emb y = ix3 (lay t) (at_ t (y 1)) (y 2) := by
    blk_ext [idx t] <;> rfl
  rw [after0_8, e]
  idx_vars y
  obtain rfl : y0 = 0 := Subsingleton.elim _ _
  by_cases h0 : t.val < 2
  · exact vA m c t h0 (by omega) _ _
  · exact vB m c t h0 (by omega) _ _

end Cert.PartsIdeal.Formula

namespace Cert.PartsClaims

open Idealize.ShloMosaic Idealize.ShloMosaic.TcCoe Idealize.SL.Sem

theorem frame : Cert.quiescent_Parts := fun m ρ _ => Cert.Parts.Gen.frame m ρ

theorem frameIdeal : Cert.quiescent_PartsIdeal := fun m ρ _ => Cert.PartsIdeal.Gen.frame m ρ

theorem frameRef : Cert.quiescent_PartsRefIdeal := fun m ρ _ =>
  (θ_run _ _ _).mono (fun r h => ⟨fun c => (h c).2.2.2.2, sem_eq_zero_of_no_sems rfl _⟩) (Cert.PartsRefIdeal.Value.run m ρ)

open Cert.PartsRefIdeal Cert.PartsRefIdeal.Gen in
/-- The reference's gradient: the layers' sums, stacked. -/
def stack (p0 p1 : FVec Ideal S8x352x1024 .f32) : FVec Ideal S2x352x1024 .f32 :=
  concatenate S2x352x1024 0 [⟨S1x352x1024, (broadcastInDim S1x352x1024 ![1, 2] bcast_S352x1024_S1x352x1024_1_2 (Host.reduceAdd p0 (constant S_ .f32 0x00000000#32) reducesTo_S8x352x1024_S352x1024_d0 h_S_))⟩, ⟨S1x352x1024, (broadcastInDim S1x352x1024 ![1, 2] bcast_S352x1024_S1x352x1024_1_2 (Host.reduceAdd p1 (constant S_ .f32 0x00000000#32) reducesTo_S8x352x1024_S352x1024_d0 h_S_))⟩] concatenates_S1x352x1024_S1x352x1024_S2x352x1024_d0

open Cert.PartsIdeal in
theorem stack_eq (m : (ℓ : Loc nD τ sig) → Buf (Elt Ideal) ℓ) (c : Dev nD) :
    stack (m ((c : Thread nD τ).loc main_arg0)) (m ((c : Thread nD τ).loc main_arg1)) = fun q => Formula.g m c (q 0) (q 1) (q 2) := by
  funext q
  unfold stack Formula.g Formula.p
  idx_vars q
  pointwise
  fin_cases q0
  · rfl
  · rfl

theorem algebraic : Cert.algebraic_PartsIdeal_PartsRefIdeal := by
  intro m g m' g' _ hagree
  refine ⟨fun c q => Cert.PartsIdeal.Formula.g m c (q 0) (q 1) (q 2), fun c q => Cert.PartsIdeal.Formula.d m c (q 0) (q 1) (q 2),
    fun c q => Cert.PartsIdeal.Formula.nm m c (q 0) (q 1) (q 2), fun c q => Cert.PartsIdeal.Formula.nv m c (q 0) (q 1) (q 2), ?_, ?_⟩
  · exact (θ_run _ _ _).mono (fun r h c => ⟨(h c).1.trans (Cert.PartsIdeal.Formula.final5 m c), (h c).2.1.trans (Cert.PartsIdeal.Formula.final6 m c),
      (h c).2.2.1.trans (Cert.PartsIdeal.Formula.final7 m c), (h c).2.2.2.1.trans (Cert.PartsIdeal.Formula.final8 m c), (h c).2.2.2.2⟩)
      (Cert.PartsIdeal.Value.run_blocks m g)
  · refine (θ_run _ _ _).mono (fun r h c => ?_) (Cert.PartsRefIdeal.Value.run m' g')
    obtain ⟨h0, h1, h2, h3, hk⟩ := h c
    obtain ⟨a0, a1, a2, a3, a4⟩ := hagree c
    have es := stack_eq m c
    unfold stack at es
    rw [a0, a1] at h0 h1 h2 h3
    rw [es] at h0 h1 h2 h3
    refine ⟨h0, h1.trans ?_, h2.trans ?_, h3.trans ?_, hk⟩
    · rw [a2, a3, a4]
      funext q
      idx_vars q
      pointwise
      rfl
    · rw [a3]
      funext q
      idx_vars q
      pointwise
      rfl
    · rw [a4]
      funext q
      idx_vars q
      pointwise
      rfl

end Cert.PartsClaims

end
-- ==== Proof.Adamw.lean ====
/- The claims about `adamw`: the frames of its programs, and that its three results are the reference's. -/
module

public import proofs.«01_k».proof.Defs
public import proofs.«01_k».proof.Proof.Gen.Adamw
public import proofs.«01_k».proof.Proof.Gen.Adamw.Frame
public import proofs.«01_k».proof.Proof.Gen.AdamwIdeal.Value
public import proofs.«01_k».proof.Proof.Gen.AdamwRefIdeal.Run
public import Idealize.ShloMosaic.Lib.Pipeline.ValueKit
public import Idealize.ShloMosaic.Lib.Claim
public import Idealize.ShloMosaic.Lib.Quiescent

@[expose] public section

set_option maxRecDepth 16384

noncomputable section

namespace Cert.AdamwClaims

open Idealize.ShloMosaic Idealize.ShloMosaic.TcCoe Idealize.SL.Sem

theorem frame : Cert.quiescent_Adamw := fun m ρ _ => Cert.Adamw.Gen.frame m ρ

theorem frameIdeal : Cert.quiescent_AdamwIdeal := fun m ρ _ => Cert.AdamwIdeal.Gen.frame m ρ

theorem frameRef : Cert.quiescent_AdamwRefIdeal := fun m ρ _ =>
  (θ_run _ _ _).mono (fun r h => ⟨fun c => (h c).2.2.2, sem_eq_zero_of_no_sems rfl _⟩) (Cert.AdamwRefIdeal.Value.run m ρ)

theorem algebraic : Cert.algebraic_AdamwIdeal_AdamwRefIdeal := by
  intro m g m' g' _ hagree
  refine ⟨_, _, _, Cert.AdamwIdeal.Value.run m g, ?_⟩
  refine (θ_run _ _ _).mono (fun r h c => ?_) (Cert.AdamwRefIdeal.Value.run m' g')
  obtain ⟨a0, a1, a2, a3⟩ := hagree c
  refine ⟨(h c).1.trans ?_, (h c).2.1.trans ?_, (h c).2.2.1.trans ?_, (h c).2.2.2⟩
  · rw [a0, a1, a2, a3]; rfl
  · rw [a1, a2]; rfl
  · rw [a1, a3]; rfl

end Cert.AdamwClaims

end
-- ==== Proof.Sum.lean ====
/- The claims about `sum_blocks`: the frames of its programs, and that its result is the reference's. -/
module

public import proofs.«01_k».proof.Defs
public import proofs.«01_k».proof.Proof.Gen.Sum
public import proofs.«01_k».proof.Proof.Gen.Sum.Frame
public import proofs.«01_k».proof.Proof.Gen.SumIdeal.Value
public import proofs.«01_k».proof.Proof.Gen.SumRefIdeal.Run
public import Idealize.ShloMosaic.Lib.Pipeline.ValueKit
public import Idealize.ShloMosaic.Lib.Claim
public import Idealize.ShloMosaic.Lib.Quiescent

@[expose] public section

set_option maxRecDepth 16384

noncomputable section

namespace Cert.SumClaims

open Idealize.ShloMosaic Idealize.ShloMosaic.TcCoe Idealize.SL.Sem

theorem frame : Cert.quiescent_Sum := fun m ρ _ => Cert.Sum.Gen.frame m ρ

theorem frameIdeal : Cert.quiescent_SumIdeal := fun m ρ _ => Cert.SumIdeal.Gen.frame m ρ

theorem frameRef : Cert.quiescent_SumRefIdeal := fun m ρ _ =>
  (θ_run _ _ _).mono (fun r h => ⟨fun c => (h c).2, sem_eq_zero_of_no_sems rfl _⟩) (Cert.SumRefIdeal.Value.run m ρ)

theorem algebraic : Cert.algebraic_SumIdeal_SumRefIdeal := by
  intro m g m' g' _ hagree
  refine ⟨fun c => Cert.SumIdeal.Value.G1 (m ((c.tc : Thread _ _).loc Cert.SumIdeal.main_arg0)), Cert.SumIdeal.Value.run m g, ?_⟩
  refine (θ_run _ _ _).mono (fun r h c => ⟨(h c).1.trans ?_, (h c).2⟩) (Cert.SumRefIdeal.Value.run m' g')
  rw [hagree c]
  funext p
  idx_vars p
  pointwise
  rw [Fin.sum_univ_eight]
  unfold Cert.SumIdeal.Value.G1 Cert.SumIdeal.Gen.k0_pay1
  pointwise

end Cert.SumClaims

end
-- ==== Proof.lean ====
/- The claims of `proofs.«01_k».proof.Defs`, put together from the modules of the calls. -/
module

public import proofs.«01_k».proof.Defs
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInRefIdeal
public import proofs.«01_k».proof.Proof.Gen.MixInIdeal.Value
public import proofs.«01_k».proof.Proof.Gen.MixInRefIdeal.Run
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvIdeal.Value
public import proofs.«01_k».proof.Proof.Gen.QkvRefIdeal.Run
public import proofs.«01_k».proof.Proof.Gen.Rows
public import proofs.«01_k».proof.Proof.Gen.Rows.Skeleton
public import proofs.«01_k».proof.Proof.Gen.Rows.Launch
public import proofs.«01_k».proof.Proof.Gen.Rows.Points
public import proofs.«01_k».proof.Proof.Gen.Rows.Frame
public import proofs.«01_k».proof.Proof.Gen.RowsIdeal
public import proofs.«01_k».proof.Proof.Gen.RowsIdeal.Skeleton
public import proofs.«01_k».proof.Proof.Gen.RowsIdeal.Launch
public import proofs.«01_k».proof.Proof.Gen.RowsIdeal.Points
public import proofs.«01_k».proof.Proof.Gen.RowsIdeal.Frame
public import proofs.«01_k».proof.Proof.Gen.RowsRefIdeal
public import proofs.«01_k».proof.Proof.Gen.RowsIdeal.Value
public import proofs.«01_k».proof.Proof.Gen.RowsRefIdeal.Run
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.LossIdeal.Value
public import proofs.«01_k».proof.Proof.Gen.LossRefIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdRefIdeal
public import proofs.«01_k».proof.Proof.Gen.FfnFwdIdeal.Value
public import proofs.«01_k».proof.Proof.Gen.FfnFwdRefIdeal.Run
public import proofs.«01_k».proof.Proof.Gen.ProjFwd
public import proofs.«01_k».proof.Proof.Gen.ProjFwd.Skeleton
public import proofs.«01_k».proof.Proof.Gen.ProjFwd.Launch
public import proofs.«01_k».proof.Proof.Gen.ProjFwd.Points
public import proofs.«01_k».proof.Proof.Gen.ProjFwd.Frame
public import proofs.«01_k».proof.Proof.Gen.ProjFwdIdeal
public import proofs.«01_k».proof.Proof.Gen.ProjFwdIdeal.Skeleton
public import proofs.«01_k».proof.Proof.Gen.ProjFwdIdeal.Launch
public import proofs.«01_k».proof.Proof.Gen.ProjFwdIdeal.Points
public import proofs.«01_k».proof.Proof.Gen.ProjFwdIdeal.Frame
public import proofs.«01_k».proof.Proof.Gen.ProjFwdRefIdeal
public import proofs.«01_k».proof.Proof.Gen.ProjFwdIdeal.Value
public import proofs.«01_k».proof.Proof.Gen.ProjFwdRefIdeal.Run
public import proofs.«01_k».proof.Proof.Gen.NormProj
public import proofs.«01_k».proof.Proof.Gen.NormProj.Skeleton
public import proofs.«01_k».proof.Proof.Gen.NormProj.Launch
public import proofs.«01_k».proof.Proof.Gen.NormProj.Points
public import proofs.«01_k».proof.Proof.Gen.NormProj.Frame
public import proofs.«01_k».proof.Proof.Gen.NormProjIdeal
public import proofs.«01_k».proof.Proof.Gen.NormProjIdeal.Skeleton
public import proofs.«01_k».proof.Proof.Gen.NormProjIdeal.Launch
public import proofs.«01_k».proof.Proof.Gen.NormProjIdeal.Points
public import proofs.«01_k».proof.Proof.Gen.NormProjIdeal.Frame
public import proofs.«01_k».proof.Proof.Gen.NormProjRefIdeal
public import proofs.«01_k».proof.Proof.Gen.NormProjIdeal.Value
public import proofs.«01_k».proof.Proof.Gen.NormProjRefIdeal.Run
public import proofs.«01_k».proof.Proof.Gen.MixFwd
public import proofs.«01_k».proof.Proof.Gen.MixFwd.Skeleton
public import proofs.«01_k».proof.Proof.Gen.MixFwd.Launch
public import proofs.«01_k».proof.Proof.Gen.MixFwd.Points
public import proofs.«01_k».proof.Proof.Gen.MixFwd.Frame
public import proofs.«01_k».proof.Proof.Gen.MixFwdIdeal
public import proofs.«01_k».proof.Proof.Gen.MixFwdIdeal.Skeleton
public import proofs.«01_k».proof.Proof.Gen.MixFwdIdeal.Launch
public import proofs.«01_k».proof.Proof.Gen.MixFwdIdeal.Points
public import proofs.«01_k».proof.Proof.Gen.MixFwdIdeal.Frame
public import proofs.«01_k».proof.Proof.Gen.MixFwdRefIdeal
public import proofs.«01_k».proof.Proof.Gen.MixFwdIdeal.Value
public import proofs.«01_k».proof.Proof.Gen.MixFwdRefIdeal.Run
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvRefIdeal.Run
public import proofs.«01_k».proof.Proof.Gen.MmTn
public import proofs.«01_k».proof.Proof.Gen.MmTn.Skeleton
public import proofs.«01_k».proof.Proof.Gen.MmTn.Launch
public import proofs.«01_k».proof.Proof.Gen.MmTn.Points
public import proofs.«01_k».proof.Proof.Gen.MmTn.Frame
public import proofs.«01_k».proof.Proof.Gen.MmTnIdeal
public import proofs.«01_k».proof.Proof.Gen.MmTnIdeal.Skeleton
public import proofs.«01_k».proof.Proof.Gen.MmTnIdeal.Launch
public import proofs.«01_k».proof.Proof.Gen.MmTnIdeal.Points
public import proofs.«01_k».proof.Proof.Gen.MmTnIdeal.Frame
public import proofs.«01_k».proof.Proof.Gen.MmTnRefIdeal
public import proofs.«01_k».proof.Proof.Gen.MmTnIdeal.Value
public import proofs.«01_k».proof.Proof.Gen.MmTnRefIdeal.Run
public import proofs.«01_k».proof.Proof.Gen.MmNt
public import proofs.«01_k».proof.Proof.Gen.MmNt.Skeleton
public import proofs.«01_k».proof.Proof.Gen.MmNt.Launch
public import proofs.«01_k».proof.Proof.Gen.MmNt.Points
public import proofs.«01_k».proof.Proof.Gen.MmNt.Frame
public import proofs.«01_k».proof.Proof.Gen.MmNtIdeal
public import proofs.«01_k».proof.Proof.Gen.MmNtIdeal.Skeleton
public import proofs.«01_k».proof.Proof.Gen.MmNtIdeal.Launch
public import proofs.«01_k».proof.Proof.Gen.MmNtIdeal.Points
public import proofs.«01_k».proof.Proof.Gen.MmNtIdeal.Frame
public import proofs.«01_k».proof.Proof.Gen.MmNtRefIdeal
public import proofs.«01_k».proof.Proof.Gen.MmNtIdeal.Value
public import proofs.«01_k».proof.Proof.Gen.MmNtRefIdeal.Run
public import proofs.«01_k».proof.Proof.Gen.Parts
public import proofs.«01_k».proof.Proof.Gen.Parts.Skeleton
public import proofs.«01_k».proof.Proof.Gen.Parts.Launch
public import proofs.«01_k».proof.Proof.Gen.Parts.Points
public import proofs.«01_k».proof.Proof.Gen.Parts.Frame
public import proofs.«01_k».proof.Proof.Gen.PartsIdeal
public import proofs.«01_k».proof.Proof.Gen.PartsIdeal.Skeleton
public import proofs.«01_k».proof.Proof.Gen.PartsIdeal.Launch
public import proofs.«01_k».proof.Proof.Gen.PartsIdeal.Points
public import proofs.«01_k».proof.Proof.Gen.PartsIdeal.Frame
public import proofs.«01_k».proof.Proof.Gen.PartsRefIdeal
public import proofs.«01_k».proof.Proof.Gen.PartsIdeal.Value
public import proofs.«01_k».proof.Proof.Gen.PartsRefIdeal.Run
public import proofs.«01_k».proof.Proof.Gen.Adamw
public import proofs.«01_k».proof.Proof.Gen.Adamw.Skeleton
public import proofs.«01_k».proof.Proof.Gen.Adamw.Launch
public import proofs.«01_k».proof.Proof.Gen.Adamw.Points
public import proofs.«01_k».proof.Proof.Gen.Adamw.Frame
public import proofs.«01_k».proof.Proof.Gen.AdamwIdeal
public import proofs.«01_k».proof.Proof.Gen.AdamwIdeal.Skeleton
public import proofs.«01_k».proof.Proof.Gen.AdamwIdeal.Launch
public import proofs.«01_k».proof.Proof.Gen.AdamwIdeal.Points
public import proofs.«01_k».proof.Proof.Gen.AdamwIdeal.Frame
public import proofs.«01_k».proof.Proof.Gen.AdamwRefIdeal
public import proofs.«01_k».proof.Proof.Gen.AdamwIdeal.Value
public import proofs.«01_k».proof.Proof.Gen.AdamwRefIdeal.Run
public import proofs.«01_k».proof.Proof.Gen.Sum
public import proofs.«01_k».proof.Proof.Gen.Sum.Skeleton
public import proofs.«01_k».proof.Proof.Gen.Sum.Launch
public import proofs.«01_k».proof.Proof.Gen.Sum.Points
public import proofs.«01_k».proof.Proof.Gen.Sum.Frame
public import proofs.«01_k».proof.Proof.Gen.SumIdeal
public import proofs.«01_k».proof.Proof.Gen.SumIdeal.Skeleton
public import proofs.«01_k».proof.Proof.Gen.SumIdeal.Launch
public import proofs.«01_k».proof.Proof.Gen.SumIdeal.Points
public import proofs.«01_k».proof.Proof.Gen.SumIdeal.Frame
public import proofs.«01_k».proof.Proof.Gen.SumRefIdeal
public import proofs.«01_k».proof.Proof.Gen.SumIdeal.Value
public import proofs.«01_k».proof.Proof.Gen.SumRefIdeal.Run
public import proofs.«01_k».proof.Proof.MixIn
public import proofs.«01_k».proof.Proof.Qkv
public import proofs.«01_k».proof.Proof.Rows
public import proofs.«01_k».proof.Proof.Loss
public import proofs.«01_k».proof.Proof.Ffn
public import proofs.«01_k».proof.Proof.FfnFwd
public import proofs.«01_k».proof.Proof.ProjFwd
public import proofs.«01_k».proof.Proof.NormProj
public import proofs.«01_k».proof.Proof.MixFwd
public import proofs.«01_k».proof.Proof.Conv
public import proofs.«01_k».proof.Proof.MmTn
public import proofs.«01_k».proof.Proof.MmNt
public import proofs.«01_k».proof.Proof.Parts
public import proofs.«01_k».proof.Proof.Adamw
public import proofs.«01_k».proof.Proof.Sum
public import Idealize.ShloMosaic.Adequacy
public import Idealize.ShloMosaic.Init

@[expose] public section

noncomputable section

namespace Cert.Proof

open Idealize.ShloMosaic Idealize.SL.Sem Cert.MixIn

theorem claim : Cert.Claim :=
  ⟨Cert.MixIn.Gen.facts, Cert.MixInIdeal.Gen.facts, Cert.MixInRefIdeal.Gen.facts,
    Cert.Qkv.Gen.facts, Cert.QkvIdeal.Gen.facts, Cert.QkvRefIdeal.Gen.facts,
    Cert.Rows.Gen.facts, Cert.RowsIdeal.Gen.facts, Cert.RowsRefIdeal.Gen.facts,
    Cert.Loss.Gen.facts, Cert.LossIdeal.Gen.facts, Cert.LossRefIdeal.Gen.facts,
    Cert.Ffn.Gen.facts, Cert.FfnIdeal.Gen.facts, Cert.FfnRefIdeal.Gen.facts,
    Cert.FfnFwd.Gen.facts, Cert.FfnFwdIdeal.Gen.facts, Cert.FfnFwdRefIdeal.Gen.facts,
    Cert.ProjFwd.Gen.facts, Cert.ProjFwdIdeal.Gen.facts, Cert.ProjFwdRefIdeal.Gen.facts,
    Cert.NormProj.Gen.facts, Cert.NormProjIdeal.Gen.facts, Cert.NormProjRefIdeal.Gen.facts,
    Cert.MixFwd.Gen.facts, Cert.MixFwdIdeal.Gen.facts, Cert.MixFwdRefIdeal.Gen.facts,
    Cert.Conv.Gen.facts, Cert.ConvIdeal.Gen.facts, Cert.ConvRefIdeal.Gen.facts,
    Cert.MmTn.Gen.facts, Cert.MmTnIdeal.Gen.facts, Cert.MmTnRefIdeal.Gen.facts,
    Cert.MmNt.Gen.facts, Cert.MmNtIdeal.Gen.facts, Cert.MmNtRefIdeal.Gen.facts,
    Cert.Parts.Gen.facts, Cert.PartsIdeal.Gen.facts, Cert.PartsRefIdeal.Gen.facts,
    Cert.Adamw.Gen.facts, Cert.AdamwIdeal.Gen.facts, Cert.AdamwRefIdeal.Gen.facts,
    Cert.Sum.Gen.facts, Cert.SumIdeal.Gen.facts, Cert.SumRefIdeal.Gen.facts,
    Cert.MixInClaims.preFacts, Cert.QkvClaims.preFacts, Cert.RowsClaims.preFacts,
    Cert.LossClaims.preFacts, Cert.FfnClaims.preFacts,
    Cert.MixInClaims.frame, Cert.MixInClaims.frameIdeal, Cert.MixInClaims.frameIdealPre, Cert.MixInClaims.frameRef, Cert.MixInClaims.frameRefPre,
    Cert.QkvClaims.frame, Cert.QkvClaims.frameIdeal, Cert.QkvClaims.frameIdealPre, Cert.QkvClaims.frameRef, Cert.QkvClaims.frameRefPre,
    Cert.RowsClaims.frame, Cert.RowsClaims.frameIdeal, Cert.RowsClaims.frameIdealPre, Cert.RowsClaims.frameRef, Cert.RowsClaims.frameRefPre,
    Cert.LossClaims.frame, Cert.LossClaims.frameIdeal, Cert.LossClaims.frameIdealPre, Cert.LossClaims.frameRef, Cert.LossClaims.frameRefPre,
    Cert.FfnClaims.frame, Cert.FfnClaims.frameIdeal, Cert.FfnClaims.frameIdealPre, Cert.FfnClaims.frameRef, Cert.FfnClaims.frameRefPre,
    Cert.FfnFwdClaims.frame, Cert.FfnFwdClaims.frameIdeal, Cert.FfnFwdClaims.frameRef,
    Cert.ProjFwdClaims.frame, Cert.ProjFwdClaims.frameIdeal, Cert.ProjFwdClaims.frameRef,
    Cert.NormProjClaims.frame, Cert.NormProjClaims.frameIdeal, Cert.NormProjClaims.frameRef,
    Cert.MixFwdClaims.frame, Cert.MixFwdClaims.frameIdeal, Cert.MixFwdClaims.frameRef,
    Cert.ConvClaims.frame, Cert.ConvClaims.frameIdeal, Cert.ConvClaims.frameRef,
    Cert.MmTnClaims.frame, Cert.MmTnClaims.frameIdeal, Cert.MmTnClaims.frameRef,
    Cert.MmNtClaims.frame, Cert.MmNtClaims.frameIdeal, Cert.MmNtClaims.frameRef,
    Cert.PartsClaims.frame, Cert.PartsClaims.frameIdeal, Cert.PartsClaims.frameRef,
    Cert.AdamwClaims.frame, Cert.AdamwClaims.frameIdeal, Cert.AdamwClaims.frameRef,
    Cert.SumClaims.frame, Cert.SumClaims.frameIdeal, Cert.SumClaims.frameRef,
    trivial, Cert.MixInClaims.algebraic,
    trivial, Cert.QkvClaims.algebraic,
    trivial, Cert.RowsClaims.algebraic,
    trivial, Cert.LossClaims.algebraic,
    trivial, Cert.FfnClaims.algebraic,
    trivial, Cert.FfnFwdClaims.algebraic,
    trivial, Cert.ProjFwdClaims.algebraic,
    trivial, Cert.NormProjClaims.algebraic,
    trivial, Cert.MixFwdClaims.algebraic,
    trivial, Cert.ConvClaims.algebraic,
    trivial, Cert.MmTnClaims.algebraic,
    trivial, Cert.MmNtClaims.algebraic,
    trivial, Cert.PartsClaims.algebraic,
    trivial, Cert.AdamwClaims.algebraic,
    trivial, Cert.SumClaims.algebraic⟩

end Cert.Proof

end
